-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_conv_finite [hPre_conv_finite : Cert.Pre_conv_finite.Facts] (m : (ℓ : Loc Cert.ConvIdeal.nD Cert.ConvIdeal.τ Cert.ConvIdeal.sig) → Buf (Elt Ideal) ℓ) : Prop :=
  ∀ c : Dev Cert.ConvIdeal.nD,
    (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))) = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_conv_finite [hPre_conv_finite : Cert.Pre_conv_finite.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_GluDw (m : (ℓ : Loc Cert.GluDw.nD Cert.GluDw.τ Cert.GluDw.sig) → Buf (Elt Bits) ℓ) : Prop :=
  True

def Pre_GluDwIdeal (m : (ℓ : Loc Cert.GluDwIdeal.nD Cert.GluDwIdeal.τ Cert.GluDwIdeal.sig) → Buf (Elt Ideal) ℓ) : Prop :=
  True

def Pre_GluDwRefIdeal (m : (ℓ : Loc Cert.GluDwRefIdeal.nD Cert.GluDwRefIdeal.τ Cert.GluDwRefIdeal.sig) → Buf (Elt Ideal) ℓ) : Prop :=
  True

def Pre_Q (m : (ℓ : Loc Cert.Q.nD Cert.Q.τ Cert.Q.sig) → Buf (Elt Bits) ℓ) : Prop :=
  True

def Pre_QIdeal (m : (ℓ : Loc Cert.QIdeal.nD Cert.QIdeal.τ Cert.QIdeal.sig) → Buf (Elt Ideal) ℓ) : Prop :=
  True

def Pre_QRefIdeal (m : (ℓ : Loc Cert.QRefIdeal.nD Cert.QRefIdeal.τ Cert.QRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_QDw (m : (ℓ : Loc Cert.QDw.nD Cert.QDw.τ Cert.QDw.sig) → Buf (Elt Bits) ℓ) : Prop :=
  True

def Pre_QDwIdeal (m : (ℓ : Loc Cert.QDwIdeal.nD Cert.QDwIdeal.τ Cert.QDwIdeal.sig) → Buf (Elt Ideal) ℓ) : Prop :=
  True

def Pre_QDwRefIdeal (m : (ℓ : Loc Cert.QDwRefIdeal.nD Cert.QDwRefIdeal.τ Cert.QDwRefIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwRefIdeal (m : (ℓ : Loc Cert.KvDwRefIdeal.nD Cert.KvDwRefIdeal.τ Cert.KvDwRefIdeal.sig) → Buf (Elt Ideal) ℓ) : Prop :=
  True

def Pre_QDx (m : (ℓ : Loc Cert.QDx.nD Cert.QDx.τ Cert.QDx.sig) → Buf (Elt Bits) ℓ) : Prop :=
  True

def Pre_QDxIdeal (m : (ℓ : Loc Cert.QDxIdeal.nD Cert.QDxIdeal.τ Cert.QDxIdeal.sig) → Buf (Elt Ideal) ℓ) : Prop :=
  True

def Pre_QDxRefIdeal (m : (ℓ : Loc Cert.QDxRefIdeal.nD Cert.QDxRefIdeal.τ Cert.QDxRefIdeal.sig) → Buf (Elt Ideal) ℓ) : Prop :=
  True

def Pre_KvDx (m : (ℓ : Loc Cert.KvDx.nD Cert.KvDx.τ Cert.KvDx.sig) → Buf (Elt Bits) ℓ) : Prop :=
  True

def Pre_KvDxIdeal (m : (ℓ : Loc Cert.KvDxIdeal.nD Cert.KvDxIdeal.τ Cert.KvDxIdeal.sig) → Buf (Elt Ideal) ℓ) : Prop :=
  True

def Pre_KvDxRefIdeal (m : (ℓ : Loc Cert.KvDxRefIdeal.nD Cert.KvDxRefIdeal.τ Cert.KvDxRefIdeal.sig) → Buf (Elt Ideal) ℓ) : Prop :=
  True

def Pre_AdWin (m : (ℓ : Loc Cert.AdWin.nD Cert.AdWin.τ Cert.AdWin.sig) → Buf (Elt Bits) ℓ) : Prop :=
  True

def Pre_AdWinIdeal (m : (ℓ : Loc Cert.AdWinIdeal.nD Cert.AdWinIdeal.τ Cert.AdWinIdeal.sig) → Buf (Elt Ideal) ℓ) : Prop :=
  True

def Pre_AdWinRefIdeal (m : (ℓ : Loc Cert.AdWinRefIdeal.nD Cert.AdWinRefIdeal.τ Cert.AdWinRefIdeal.sig) → Buf (Elt Ideal) ℓ) : Prop :=
  True

def Pre_AdWglu (m : (ℓ : Loc Cert.AdWglu.nD Cert.AdWglu.τ Cert.AdWglu.sig) → Buf (Elt Bits) ℓ) : Prop :=
  True

def Pre_AdWgluIdeal (m : (ℓ : Loc Cert.AdWgluIdeal.nD Cert.AdWgluIdeal.τ Cert.AdWgluIdeal.sig) → Buf (Elt Ideal) ℓ) : Prop :=
  True

def Pre_AdWgluRefIdeal (m : (ℓ : Loc Cert.AdWgluRefIdeal.nD Cert.AdWgluRefIdeal.τ Cert.AdWgluRefIdeal.sig) → Buf (Elt Ideal) ℓ) : Prop :=
  True

def Pre_AdWuq (m : (ℓ : Loc Cert.AdWuq.nD Cert.AdWuq.τ Cert.AdWuq.sig) → Buf (Elt Bits) ℓ) : Prop :=
  True

def Pre_AdWuqIdeal (m : (ℓ : Loc Cert.AdWuqIdeal.nD Cert.AdWuqIdeal.τ Cert.AdWuqIdeal.sig) → Buf (Elt Ideal) ℓ) : Prop :=
  True

def Pre_AdWuqRefIdeal (m : (ℓ : Loc Cert.AdWuqRefIdeal.nD Cert.AdWuqRefIdeal.τ Cert.AdWuqRefIdeal.sig) → Buf (Elt Ideal) ℓ) : Prop :=
  True

def Pre_AdWukv (m : (ℓ : Loc Cert.AdWukv.nD Cert.AdWukv.τ Cert.AdWukv.sig) → Buf (Elt Bits) ℓ) : Prop :=
  True

def Pre_AdWukvIdeal (m : (ℓ : Loc Cert.AdWukvIdeal.nD Cert.AdWukvIdeal.τ Cert.AdWukvIdeal.sig) → Buf (Elt Ideal) ℓ) : Prop :=
  True

def Pre_AdWukvRefIdeal (m : (ℓ : Loc Cert.AdWukvRefIdeal.nD Cert.AdWukvRefIdeal.τ Cert.AdWukvRefIdeal.sig) → Buf (Elt Ideal) ℓ) : Prop :=
  True

def Pre_AdWout (m : (ℓ : Loc Cert.AdWout.nD Cert.AdWout.τ Cert.AdWout.sig) → Buf (Elt Bits) ℓ) : Prop :=
  True

def Pre_AdWoutIdeal (m : (ℓ : Loc Cert.AdWoutIdeal.nD Cert.AdWoutIdeal.τ Cert.AdWoutIdeal.sig) → Buf (Elt Ideal) ℓ) : Prop :=
  True

def Pre_AdWoutRefIdeal (m : (ℓ : Loc Cert.AdWoutRefIdeal.nD Cert.AdWoutRefIdeal.τ Cert.AdWoutRefIdeal.sig) → Buf (Elt Ideal) ℓ) : Prop :=
  True

def Pre_AdWup (m : (ℓ : Loc Cert.AdWup.nD Cert.AdWup.τ Cert.AdWup.sig) → Buf (Elt Bits) ℓ) : Prop :=
  True

def Pre_AdWupIdeal (m : (ℓ : Loc Cert.AdWupIdeal.nD Cert.AdWupIdeal.τ Cert.AdWupIdeal.sig) → Buf (Elt Ideal) ℓ) : Prop :=
  True

def Pre_AdWupRefIdeal (m : (ℓ : Loc Cert.AdWupRefIdeal.nD Cert.AdWupRefIdeal.τ Cert.AdWupRefIdeal.sig) → Buf (Elt Ideal) ℓ) : Prop :=
  True

def Pre_AdWdown (m : (ℓ : Loc Cert.AdWdown.nD Cert.AdWdown.τ Cert.AdWdown.sig) → Buf (Elt Bits) ℓ) : Prop :=
  True

def Pre_AdWdownIdeal (m : (ℓ : Loc Cert.AdWdownIdeal.nD Cert.AdWdownIdeal.τ Cert.AdWdownIdeal.sig) → Buf (Elt Ideal) ℓ) : Prop :=
  True

def Pre_AdWdownRefIdeal (m : (ℓ : Loc Cert.AdWdownRefIdeal.nD Cert.AdWdownRefIdeal.τ Cert.AdWdownRefIdeal.sig) → Buf (Elt Ideal) ℓ) : Prop :=
  True

def Pre_AdConvw (m : (ℓ : Loc Cert.AdConvw.nD Cert.AdConvw.τ Cert.AdConvw.sig) → Buf (Elt Bits) ℓ) : Prop :=
  True

def Pre_AdConvwIdeal (m : (ℓ : Loc Cert.AdConvwIdeal.nD Cert.AdConvwIdeal.τ Cert.AdConvwIdeal.sig) → Buf (Elt Ideal) ℓ) : Prop :=
  True

def Pre_AdConvwRefIdeal (m : (ℓ : Loc Cert.AdConvwRefIdeal.nD Cert.AdConvwRefIdeal.τ Cert.AdConvwRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvIdeal_pre_conv_finite [hConvIdeal : Cert.ConvIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_conv_finite m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_ConvRefIdeal_pre_conv_finite [hConvRefIdeal : Cert.ConvRefIdeal.Facts] [hPre_conv_finite : Cert.Pre_conv_finite.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_conv_finite m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_GluDw [hGluDw : Cert.GluDw.Facts] : Prop :=
  ∀ (m : (ℓ : Loc Cert.GluDw.nD Cert.GluDw.τ Cert.GluDw.sig) → Buf (Elt Bits) ℓ) (g : Dev Cert.GluDw.nD → PrngReg), Pre_GluDw m →
    θ_run (Cert.GluDw.defs (F := Bits)) (onTc (τ := Cert.GluDw.τ) (Cert.GluDw.main (F := Bits))) ⟨m, fun _ => 0, g⟩ (fun r => (∀ c : Dev Cert.GluDw.nD,
      r.2.mem ((c.tc : Thread Cert.GluDw.nD Cert.GluDw.τ).loc Cert.GluDw.main_arg0) = m ((c.tc : Thread Cert.GluDw.nD Cert.GluDw.τ).loc Cert.GluDw.main_arg0)
      ∧ r.2.mem ((c.tc : Thread Cert.GluDw.nD Cert.GluDw.τ).loc Cert.GluDw.main_arg1) = m ((c.tc : Thread Cert.GluDw.nD Cert.GluDw.τ).loc Cert.GluDw.main_arg1))
      ∧ r.2.sem = fun _ => 0)

def quiescent_GluDwIdeal [hGluDwIdeal : Cert.GluDwIdeal.Facts] : Prop :=
  ∀ (m : (ℓ : Loc Cert.GluDwIdeal.nD Cert.GluDwIdeal.τ Cert.GluDwIdeal.sig) → Buf (Elt Ideal) ℓ) (g : Dev Cert.GluDwIdeal.nD → PrngReg), Pre_GluDwIdeal m →
    θ_run (Cert.GluDwIdeal.defs (F := Ideal)) (onTc (τ := Cert.GluDwIdeal.τ) (Cert.GluDwIdeal.main (F := Ideal))) ⟨m, fun _ => 0, g⟩ (fun r => (∀ c : Dev Cert.GluDwIdeal.nD,
      r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
      ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ r.2.sem = fun _ => 0)

def quiescent_GluDwRefIdeal [hGluDwRefIdeal : Cert.GluDwRefIdeal.Facts] : Prop :=
  ∀ (m : (ℓ : Loc Cert.GluDwRefIdeal.nD Cert.GluDwRefIdeal.τ Cert.GluDwRefIdeal.sig) → Buf (Elt Ideal) ℓ) (g : Dev Cert.GluDwRefIdeal.nD → PrngReg), Pre_GluDwRefIdeal m →
    θ_run (Cert.GluDwRefIdeal.defs (F := Ideal)) (onTc (τ := Cert.GluDwRefIdeal.τ) (Cert.GluDwRefIdeal.main (F := Ideal))) ⟨m, fun _ => 0, g⟩ (fun r => (∀ c : Dev Cert.GluDwRefIdeal.nD,
      r.2.mem ((c.tc : Thread Cert.GluDwRefIdeal.nD Cert.GluDwRefIdeal.τ).loc Cert.GluDwRefIdeal.main_arg0) = m ((c.tc : Thread Cert.GluDwRefIdeal.nD Cert.GluDwRefIdeal.τ).loc Cert.GluDwRefIdeal.main_arg0)
      ∧ r.2.mem ((c.tc : Thread Cert.GluDwRefIdeal.nD Cert.GluDwRefIdeal.τ).loc Cert.GluDwRefIdeal.main_arg1) = m ((c.tc : Thread Cert.GluDwRefIdeal.nD Cert.GluDwRefIdeal.τ).loc Cert.GluDwRefIdeal.main_arg1))
      ∧ r.2.sem = fun _ => 0)

def quiescent_Q [hQ : Cert.Q.Facts] : Prop :=
  ∀ (m : (ℓ : Loc Cert.Q.nD Cert.Q.τ Cert.Q.sig) → Buf (Elt Bits) ℓ) (g : Dev Cert.Q.nD → PrngReg), Pre_Q m →
    θ_run (Cert.Q.defs (F := Bits)) (onTc (τ := Cert.Q.τ) (Cert.Q.main (F := Bits))) ⟨m, fun _ => 0, g⟩ (fun r => (∀ c : Dev Cert.Q.nD,
      r.2.mem ((c.tc : Thread Cert.Q.nD Cert.Q.τ).loc Cert.Q.main_arg0) = m ((c.tc : Thread Cert.Q.nD Cert.Q.τ).loc Cert.Q.main_arg0)
      ∧ r.2.mem ((c.tc : Thread Cert.Q.nD Cert.Q.τ).loc Cert.Q.main_arg1) = m ((c.tc : Thread Cert.Q.nD Cert.Q.τ).loc Cert.Q.main_arg1))
      ∧ r.2.sem = fun _ => 0)

def quiescent_QIdeal [hQIdeal : Cert.QIdeal.Facts] : Prop :=
  ∀ (m : (ℓ : Loc Cert.QIdeal.nD Cert.QIdeal.τ Cert.QIdeal.sig) → Buf (Elt Ideal) ℓ) (g : Dev Cert.QIdeal.nD → PrngReg), Pre_QIdeal m →
    θ_run (Cert.QIdeal.defs (F := Ideal)) (onTc (τ := Cert.QIdeal.τ) (Cert.QIdeal.main (F := Ideal))) ⟨m, fun _ => 0, g⟩ (fun r => (∀ c : Dev Cert.QIdeal.nD,
      r.2.mem ((c.tc : Thread Cert.QIdeal.nD Cert.QIdeal.τ).loc Cert.QIdeal.main_arg0) = m ((c.tc : Thread Cert.QIdeal.nD Cert.QIdeal.τ).loc Cert.QIdeal.main_arg0)
      ∧ r.2.mem ((c.tc : Thread Cert.QIdeal.nD Cert.QIdeal.τ).loc Cert.QIdeal.main_arg1) = m ((c.tc : Thread Cert.QIdeal.nD Cert.QIdeal.τ).loc Cert.QIdeal.main_arg1))
      ∧ r.2.sem = fun _ => 0)

def quiescent_QRefIdeal [hQRefIdeal : Cert.QRefIdeal.Facts] : Prop :=
  ∀ (m : (ℓ : Loc Cert.QRefIdeal.nD Cert.QRefIdeal.τ Cert.QRefIdeal.sig) → Buf (Elt Ideal) ℓ) (g : Dev Cert.QRefIdeal.nD → PrngReg), Pre_QRefIdeal m →
    θ_run (Cert.QRefIdeal.defs (F := Ideal)) (onTc (τ := Cert.QRefIdeal.τ) (Cert.QRefIdeal.main (F := Ideal))) ⟨m, fun _ => 0, g⟩ (fun r => (∀ c : Dev Cert.QRefIdeal.nD,
      r.2.mem ((c.tc : Thread Cert.QRefIdeal.nD Cert.QRefIdeal.τ).loc Cert.QRefIdeal.main_arg0) = m ((c.tc : Thread Cert.QRefIdeal.nD Cert.QRefIdeal.τ).loc Cert.QRefIdeal.main_arg0)
      ∧ r.2.mem ((c.tc : Thread Cert.QRefIdeal.nD Cert.QRefIdeal.τ).loc Cert.QRefIdeal.main_arg1) = m ((c.tc : Thread Cert.QRefIdeal.nD Cert.QRefIdeal.τ).loc Cert.QRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_QDw [hQDw : Cert.QDw.Facts] : Prop :=
  ∀ (m : (ℓ : Loc Cert.QDw.nD Cert.QDw.τ Cert.QDw.sig) → Buf (Elt Bits) ℓ) (g : Dev Cert.QDw.nD → PrngReg), Pre_QDw m →
    θ_run (Cert.QDw.defs (F := Bits)) (onTc (τ := Cert.QDw.τ) (Cert.QDw.main (F := Bits))) ⟨m, fun _ => 0, g⟩ (fun r => (∀ c : Dev Cert.QDw.nD,
      r.2.mem ((c.tc : Thread Cert.QDw.nD Cert.QDw.τ).loc Cert.QDw.main_arg0) = m ((c.tc : Thread Cert.QDw.nD Cert.QDw.τ).loc Cert.QDw.main_arg0)
      ∧ r.2.mem ((c.tc : Thread Cert.QDw.nD Cert.QDw.τ).loc Cert.QDw.main_arg1) = m ((c.tc : Thread Cert.QDw.nD Cert.QDw.τ).loc Cert.QDw.main_arg1))
      ∧ r.2.sem = fun _ => 0)

def quiescent_QDwIdeal [hQDwIdeal : Cert.QDwIdeal.Facts] : Prop :=
  ∀ (m : (ℓ : Loc Cert.QDwIdeal.nD Cert.QDwIdeal.τ Cert.QDwIdeal.sig) → Buf (Elt Ideal) ℓ) (g : Dev Cert.QDwIdeal.nD → PrngReg), Pre_QDwIdeal m →
    θ_run (Cert.QDwIdeal.defs (F := Ideal)) (onTc (τ := Cert.QDwIdeal.τ) (Cert.QDwIdeal.main (F := Ideal))) ⟨m, fun _ => 0, g⟩ (fun r => (∀ c : Dev Cert.QDwIdeal.nD,
      r.2.mem ((c.tc : Thread Cert.QDwIdeal.nD Cert.QDwIdeal.τ).loc Cert.QDwIdeal.main_arg0) = m ((c.tc : Thread Cert.QDwIdeal.nD Cert.QDwIdeal.τ).loc Cert.QDwIdeal.main_arg0)
      ∧ r.2.mem ((c.tc : Thread Cert.QDwIdeal.nD Cert.QDwIdeal.τ).loc Cert.QDwIdeal.main_arg1) = m ((c.tc : Thread Cert.QDwIdeal.nD Cert.QDwIdeal.τ).loc Cert.QDwIdeal.main_arg1))
      ∧ r.2.sem = fun _ => 0)

def quiescent_QDwRefIdeal [hQDwRefIdeal : Cert.QDwRefIdeal.Facts] : Prop :=
  ∀ (m : (ℓ : Loc Cert.QDwRefIdeal.nD Cert.QDwRefIdeal.τ Cert.QDwRefIdeal.sig) → Buf (Elt Ideal) ℓ) (g : Dev Cert.QDwRefIdeal.nD → PrngReg), Pre_QDwRefIdeal m →
    θ_run (Cert.QDwRefIdeal.defs (F := Ideal)) (onTc (τ := Cert.QDwRefIdeal.τ) (Cert.QDwRefIdeal.main (F := Ideal))) ⟨m, fun _ => 0, g⟩ (fun r => (∀ c : Dev Cert.QDwRefIdeal.nD,
      r.2.mem ((c.tc : Thread Cert.QDwRefIdeal.nD Cert.QDwRefIdeal.τ).loc Cert.QDwRefIdeal.main_arg0) = m ((c.tc : Thread Cert.QDwRefIdeal.nD Cert.QDwRefIdeal.τ).loc Cert.QDwRefIdeal.main_arg0)
      ∧ r.2.mem ((c.tc : Thread Cert.QDwRefIdeal.nD Cert.QDwRefIdeal.τ).loc Cert.QDwRefIdeal.main_arg1) = m ((c.tc : Thread Cert.QDwRefIdeal.nD Cert.QDwRefIdeal.τ).loc Cert.QDwRefIdeal.main_arg1))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ r.2.sem = fun _ => 0)

def quiescent_KvDwRefIdeal [hKvDwRefIdeal : Cert.KvDwRefIdeal.Facts] : Prop :=
  ∀ (m : (ℓ : Loc Cert.KvDwRefIdeal.nD Cert.KvDwRefIdeal.τ Cert.KvDwRefIdeal.sig) → Buf (Elt Ideal) ℓ) (g : Dev Cert.KvDwRefIdeal.nD → PrngReg), Pre_KvDwRefIdeal m →
    θ_run (Cert.KvDwRefIdeal.defs (F := Ideal)) (onTc (τ := Cert.KvDwRefIdeal.τ) (Cert.KvDwRefIdeal.main (F := Ideal))) ⟨m, fun _ => 0, g⟩ (fun r => (∀ c : Dev Cert.KvDwRefIdeal.nD,
      r.2.mem ((c.tc : Thread Cert.KvDwRefIdeal.nD Cert.KvDwRefIdeal.τ).loc Cert.KvDwRefIdeal.main_arg0) = m ((c.tc : Thread Cert.KvDwRefIdeal.nD Cert.KvDwRefIdeal.τ).loc Cert.KvDwRefIdeal.main_arg0)
      ∧ r.2.mem ((c.tc : Thread Cert.KvDwRefIdeal.nD Cert.KvDwRefIdeal.τ).loc Cert.KvDwRefIdeal.main_arg1) = m ((c.tc : Thread Cert.KvDwRefIdeal.nD Cert.KvDwRefIdeal.τ).loc Cert.KvDwRefIdeal.main_arg1))
      ∧ r.2.sem = fun _ => 0)

def quiescent_QDx [hQDx : Cert.QDx.Facts] : Prop :=
  ∀ (m : (ℓ : Loc Cert.QDx.nD Cert.QDx.τ Cert.QDx.sig) → Buf (Elt Bits) ℓ) (g : Dev Cert.QDx.nD → PrngReg), Pre_QDx m →
    θ_run (Cert.QDx.defs (F := Bits)) (onTc (τ := Cert.QDx.τ) (Cert.QDx.main (F := Bits))) ⟨m, fun _ => 0, g⟩ (fun r => (∀ c : Dev Cert.QDx.nD,
      r.2.mem ((c.tc : Thread Cert.QDx.nD Cert.QDx.τ).loc Cert.QDx.main_arg0) = m ((c.tc : Thread Cert.QDx.nD Cert.QDx.τ).loc Cert.QDx.main_arg0)
      ∧ r.2.mem ((c.tc : Thread Cert.QDx.nD Cert.QDx.τ).loc Cert.QDx.main_arg1) = m ((c.tc : Thread Cert.QDx.nD Cert.QDx.τ).loc Cert.QDx.main_arg1))
      ∧ r.2.sem = fun _ => 0)

def quiescent_QDxIdeal [hQDxIdeal : Cert.QDxIdeal.Facts] : Prop :=
  ∀ (m : (ℓ : Loc Cert.QDxIdeal.nD Cert.QDxIdeal.τ Cert.QDxIdeal.sig) → Buf (Elt Ideal) ℓ) (g : Dev Cert.QDxIdeal.nD → PrngReg), Pre_QDxIdeal m →
    θ_run (Cert.QDxIdeal.defs (F := Ideal)) (onTc (τ := Cert.QDxIdeal.τ) (Cert.QDxIdeal.main (F := Ideal))) ⟨m, fun _ => 0, g⟩ (fun r => (∀ c : Dev Cert.QDxIdeal.nD,
      r.2.mem ((c.tc : Thread Cert.QDxIdeal.nD Cert.QDxIdeal.τ).loc Cert.QDxIdeal.main_arg0) = m ((c.tc : Thread Cert.QDxIdeal.nD Cert.QDxIdeal.τ).loc Cert.QDxIdeal.main_arg0)
      ∧ r.2.mem ((c.tc : Thread Cert.QDxIdeal.nD Cert.QDxIdeal.τ).loc Cert.QDxIdeal.main_arg1) = m ((c.tc : Thread Cert.QDxIdeal.nD Cert.QDxIdeal.τ).loc Cert.QDxIdeal.main_arg1))
      ∧ r.2.sem = fun _ => 0)

def quiescent_QDxRefIdeal [hQDxRefIdeal : Cert.QDxRefIdeal.Facts] : Prop :=
  ∀ (m : (ℓ : Loc Cert.QDxRefIdeal.nD Cert.QDxRefIdeal.τ Cert.QDxRefIdeal.sig) → Buf (Elt Ideal) ℓ) (g : Dev Cert.QDxRefIdeal.nD → PrngReg), Pre_QDxRefIdeal m →
    θ_run (Cert.QDxRefIdeal.defs (F := Ideal)) (onTc (τ := Cert.QDxRefIdeal.τ) (Cert.QDxRefIdeal.main (F := Ideal))) ⟨m, fun _ => 0, g⟩ (fun r => (∀ c : Dev Cert.QDxRefIdeal.nD,
      r.2.mem ((c.tc : Thread Cert.QDxRefIdeal.nD Cert.QDxRefIdeal.τ).loc Cert.QDxRefIdeal.main_arg0) = m ((c.tc : Thread Cert.QDxRefIdeal.nD Cert.QDxRefIdeal.τ).loc Cert.QDxRefIdeal.main_arg0)
      ∧ r.2.mem ((c.tc : Thread Cert.QDxRefIdeal.nD Cert.QDxRefIdeal.τ).loc Cert.QDxRefIdeal.main_arg1) = m ((c.tc : Thread Cert.QDxRefIdeal.nD Cert.QDxRefIdeal.τ).loc Cert.QDxRefIdeal.main_arg1))
      ∧ r.2.sem = fun _ => 0)

def quiescent_KvDx [hKvDx : Cert.KvDx.Facts] : Prop :=
  ∀ (m : (ℓ : Loc Cert.KvDx.nD Cert.KvDx.τ Cert.KvDx.sig) → Buf (Elt Bits) ℓ) (g : Dev Cert.KvDx.nD → PrngReg), Pre_KvDx m →
    θ_run (Cert.KvDx.defs (F := Bits)) (onTc (τ := Cert.KvDx.τ) (Cert.KvDx.main (F := Bits))) ⟨m, fun _ => 0, g⟩ (fun r => (∀ c : Dev Cert.KvDx.nD,
      r.2.mem ((c.tc : Thread Cert.KvDx.nD Cert.KvDx.τ).loc Cert.KvDx.main_arg0) = m ((c.tc : Thread Cert.KvDx.nD Cert.KvDx.τ).loc Cert.KvDx.main_arg0)
      ∧ r.2.mem ((c.tc : Thread Cert.KvDx.nD Cert.KvDx.τ).loc Cert.KvDx.main_arg1) = m ((c.tc : Thread Cert.KvDx.nD Cert.KvDx.τ).loc Cert.KvDx.main_arg1))
      ∧ r.2.sem = fun _ => 0)

def quiescent_KvDxIdeal [hKvDxIdeal : Cert.KvDxIdeal.Facts] : Prop :=
  ∀ (m : (ℓ : Loc Cert.KvDxIdeal.nD Cert.KvDxIdeal.τ Cert.KvDxIdeal.sig) → Buf (Elt Ideal) ℓ) (g : Dev Cert.KvDxIdeal.nD → PrngReg), Pre_KvDxIdeal m →
    θ_run (Cert.KvDxIdeal.defs (F := Ideal)) (onTc (τ := Cert.KvDxIdeal.τ) (Cert.KvDxIdeal.main (F := Ideal))) ⟨m, fun _ => 0, g⟩ (fun r => (∀ c : Dev Cert.KvDxIdeal.nD,
      r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
      ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ r.2.sem = fun _ => 0)

def quiescent_KvDxRefIdeal [hKvDxRefIdeal : Cert.KvDxRefIdeal.Facts] : Prop :=
  ∀ (m : (ℓ : Loc Cert.KvDxRefIdeal.nD Cert.KvDxRefIdeal.τ Cert.KvDxRefIdeal.sig) → Buf (Elt Ideal) ℓ) (g : Dev Cert.KvDxRefIdeal.nD → PrngReg), Pre_KvDxRefIdeal m →
    θ_run (Cert.KvDxRefIdeal.defs (F := Ideal)) (onTc (τ := Cert.KvDxRefIdeal.τ) (Cert.KvDxRefIdeal.main (F := Ideal))) ⟨m, fun _ => 0, g⟩ (fun r => (∀ c : Dev Cert.KvDxRefIdeal.nD,
      r.2.mem ((c.tc : Thread Cert.KvDxRefIdeal.nD Cert.KvDxRefIdeal.τ).loc Cert.KvDxRefIdeal.main_arg0) = m ((c.tc : Thread Cert.KvDxRefIdeal.nD Cert.KvDxRefIdeal.τ).loc Cert.KvDxRefIdeal.main_arg0)
      ∧ r.2.mem ((c.tc : Thread Cert.KvDxRefIdeal.nD Cert.KvDxRefIdeal.τ).loc Cert.KvDxRefIdeal.main_arg1) = m ((c.tc : Thread Cert.KvDxRefIdeal.nD Cert.KvDxRefIdeal.τ).loc Cert.KvDxRefIdeal.main_arg1))
      ∧ r.2.sem = fun _ => 0)

def quiescent_AdWin [hAdWin : Cert.AdWin.Facts] : Prop :=
  ∀ (m : (ℓ : Loc Cert.AdWin.nD Cert.AdWin.τ Cert.AdWin.sig) → Buf (Elt Bits) ℓ) (g : Dev Cert.AdWin.nD → PrngReg), Pre_AdWin m →
    θ_run (Cert.AdWin.defs (F := Bits)) (onTc (τ := Cert.AdWin.τ) (Cert.AdWin.main (F := Bits))) ⟨m, fun _ => 0, g⟩ (fun r => (∀ c : Dev Cert.AdWin.nD,
      r.2.mem ((c.tc : Thread Cert.AdWin.nD Cert.AdWin.τ).loc Cert.AdWin.main_arg0) = m ((c.tc : Thread Cert.AdWin.nD Cert.AdWin.τ).loc Cert.AdWin.main_arg0)
      ∧ r.2.mem ((c.tc : Thread Cert.AdWin.nD Cert.AdWin.τ).loc Cert.AdWin.main_arg1) = m ((c.tc : Thread Cert.AdWin.nD Cert.AdWin.τ).loc Cert.AdWin.main_arg1)
      ∧ r.2.mem ((c.tc : Thread Cert.AdWin.nD Cert.AdWin.τ).loc Cert.AdWin.main_arg2) = m ((c.tc : Thread Cert.AdWin.nD Cert.AdWin.τ).loc Cert.AdWin.main_arg2)
      ∧ r.2.mem ((c.tc : Thread Cert.AdWin.nD Cert.AdWin.τ).loc Cert.AdWin.main_arg3) = m ((c.tc : Thread Cert.AdWin.nD Cert.AdWin.τ).loc Cert.AdWin.main_arg3))
      ∧ r.2.sem = fun _ => 0)

def quiescent_AdWinIdeal [hAdWinIdeal : Cert.AdWinIdeal.Facts] : Prop :=
  ∀ (m : (ℓ : Loc Cert.AdWinIdeal.nD Cert.AdWinIdeal.τ Cert.AdWinIdeal.sig) → Buf (Elt Ideal) ℓ) (g : Dev Cert.AdWinIdeal.nD → PrngReg), Pre_AdWinIdeal m →
    θ_run (Cert.AdWinIdeal.defs (F := Ideal)) (onTc (τ := Cert.AdWinIdeal.τ) (Cert.AdWinIdeal.main (F := Ideal))) ⟨m, fun _ => 0, g⟩ (fun r => (∀ c : Dev Cert.AdWinIdeal.nD,
      r.2.mem ((c.tc : Thread Cert.AdWinIdeal.nD Cert.AdWinIdeal.τ).loc Cert.AdWinIdeal.main_arg0) = m ((c.tc : Thread Cert.AdWinIdeal.nD Cert.AdWinIdeal.τ).loc Cert.AdWinIdeal.main_arg0)
      ∧ r.2.mem ((c.tc : Thread Cert.AdWinIdeal.nD Cert.AdWinIdeal.τ).loc Cert.AdWinIdeal.main_arg1) = m ((c.tc : Thread Cert.AdWinIdeal.nD Cert.AdWinIdeal.τ).loc Cert.AdWinIdeal.main_arg1)
      ∧ r.2.mem ((c.tc : Thread Cert.AdWinIdeal.nD Cert.AdWinIdeal.τ).loc Cert.AdWinIdeal.main_arg2) = m ((c.tc : Thread Cert.AdWinIdeal.nD Cert.AdWinIdeal.τ).loc Cert.AdWinIdeal.main_arg2)
      ∧ r.2.mem ((c.tc : Thread Cert.AdWinIdeal.nD Cert.AdWinIdeal.τ).loc Cert.AdWinIdeal.main_arg3) = m ((c.tc : Thread Cert.AdWinIdeal.nD Cert.AdWinIdeal.τ).loc Cert.AdWinIdeal.main_arg3))
      ∧ r.2.sem = fun _ => 0)

def quiescent_AdWinRefIdeal [hAdWinRefIdeal : Cert.AdWinRefIdeal.Facts] : Prop :=
  ∀ (m : (ℓ : Loc Cert.AdWinRefIdeal.nD Cert.AdWinRefIdeal.τ Cert.AdWinRefIdeal.sig) → Buf (Elt Ideal) ℓ) (g : Dev Cert.AdWinRefIdeal.nD → PrngReg), Pre_AdWinRefIdeal m →
    θ_run (Cert.AdWinRefIdeal.defs (F := Ideal)) (onTc (τ := Cert.AdWinRefIdeal.τ) (Cert.AdWinRefIdeal.main (F := Ideal))) ⟨m, fun _ => 0, g⟩ (fun r => (∀ c : Dev Cert.AdWinRefIdeal.nD,
      r.2.mem ((c.tc : Thread Cert.AdWinRefIdeal.nD Cert.AdWinRefIdeal.τ).loc Cert.AdWinRefIdeal.main_arg0) = m ((c.tc : Thread Cert.AdWinRefIdeal.nD Cert.AdWinRefIdeal.τ).loc Cert.AdWinRefIdeal.main_arg0)
      ∧ r.2.mem ((c.tc : Thread Cert.AdWinRefIdeal.nD Cert.AdWinRefIdeal.τ).loc Cert.AdWinRefIdeal.main_arg1) = m ((c.tc : Thread Cert.AdWinRefIdeal.nD Cert.AdWinRefIdeal.τ).loc Cert.AdWinRefIdeal.main_arg1)
      ∧ r.2.mem ((c.tc : Thread Cert.AdWinRefIdeal.nD Cert.AdWinRefIdeal.τ).loc Cert.AdWinRefIdeal.main_arg2) = m ((c.tc : Thread Cert.AdWinRefIdeal.nD Cert.AdWinRefIdeal.τ).loc Cert.AdWinRefIdeal.main_arg2)
      ∧ r.2.mem ((c.tc : Thread Cert.AdWinRefIdeal.nD Cert.AdWinRefIdeal.τ).loc Cert.AdWinRefIdeal.main_arg3) = m ((c.tc : Thread Cert.AdWinRefIdeal.nD Cert.AdWinRefIdeal.τ).loc Cert.AdWinRefIdeal.main_arg3))
      ∧ r.2.sem = fun _ => 0)

def quiescent_AdWglu [hAdWglu : Cert.AdWglu.Facts] : Prop :=
  ∀ (m : (ℓ : Loc Cert.AdWglu.nD Cert.AdWglu.τ Cert.AdWglu.sig) → Buf (Elt Bits) ℓ) (g : Dev Cert.AdWglu.nD → PrngReg), Pre_AdWglu m →
    θ_run (Cert.AdWglu.defs (F := Bits)) (onTc (τ := Cert.AdWglu.τ) (Cert.AdWglu.main (F := Bits))) ⟨m, fun _ => 0, g⟩ (fun r => (∀ c : Dev Cert.AdWglu.nD,
      r.2.mem ((c.tc : Thread Cert.AdWglu.nD Cert.AdWglu.τ).loc Cert.AdWglu.main_arg0) = m ((c.tc : Thread Cert.AdWglu.nD Cert.AdWglu.τ).loc Cert.AdWglu.main_arg0)
      ∧ r.2.mem ((c.tc : Thread Cert.AdWglu.nD Cert.AdWglu.τ).loc Cert.AdWglu.main_arg1) = m ((c.tc : Thread Cert.AdWglu.nD Cert.AdWglu.τ).loc Cert.AdWglu.main_arg1)
      ∧ r.2.mem ((c.tc : Thread Cert.AdWglu.nD Cert.AdWglu.τ).loc Cert.AdWglu.main_arg2) = m ((c.tc : Thread Cert.AdWglu.nD Cert.AdWglu.τ).loc Cert.AdWglu.main_arg2)
      ∧ r.2.mem ((c.tc : Thread Cert.AdWglu.nD Cert.AdWglu.τ).loc Cert.AdWglu.main_arg3) = m ((c.tc : Thread Cert.AdWglu.nD Cert.AdWglu.τ).loc Cert.AdWglu.main_arg3))
      ∧ r.2.sem = fun _ => 0)

def quiescent_AdWgluIdeal [hAdWgluIdeal : Cert.AdWgluIdeal.Facts] : Prop :=
  ∀ (m : (ℓ : Loc Cert.AdWgluIdeal.nD Cert.AdWgluIdeal.τ Cert.AdWgluIdeal.sig) → Buf (Elt Ideal) ℓ) (g : Dev Cert.AdWgluIdeal.nD → PrngReg), Pre_AdWgluIdeal m →
    θ_run (Cert.AdWgluIdeal.defs (F := Ideal)) (onTc (τ := Cert.AdWgluIdeal.τ) (Cert.AdWgluIdeal.main (F := Ideal))) ⟨m, fun _ => 0, g⟩ (fun r => (∀ c : Dev Cert.AdWgluIdeal.nD,
      r.2.mem ((c.tc : Thread Cert.AdWgluIdeal.nD Cert.AdWgluIdeal.τ).loc Cert.AdWgluIdeal.main_arg0) = m ((c.tc : Thread Cert.AdWgluIdeal.nD Cert.AdWgluIdeal.τ).loc Cert.AdWgluIdeal.main_arg0)
      ∧ r.2.mem ((c.tc : Thread Cert.AdWgluIdeal.nD Cert.AdWgluIdeal.τ).loc Cert.AdWgluIdeal.main_arg1) = m ((c.tc : Thread Cert.AdWgluIdeal.nD Cert.AdWgluIdeal.τ).loc Cert.AdWgluIdeal.main_arg1)
      ∧ r.2.mem ((c.tc : Thread Cert.AdWgluIdeal.nD Cert.AdWgluIdeal.τ).loc Cert.AdWgluIdeal.main_arg2) = m ((c.tc : Thread Cert.AdWgluIdeal.nD Cert.AdWgluIdeal.τ).loc Cert.AdWgluIdeal.main_arg2)
      ∧ r.2.mem ((c.tc : Thread Cert.AdWgluIdeal.nD Cert.AdWgluIdeal.τ).loc Cert.AdWgluIdeal.main_arg3) = m ((c.tc : Thread Cert.AdWgluIdeal.nD Cert.AdWgluIdeal.τ).loc Cert.AdWgluIdeal.main_arg3))
      ∧ r.2.sem = fun _ => 0)

def quiescent_AdWgluRefIdeal [hAdWgluRefIdeal : Cert.AdWgluRefIdeal.Facts] : Prop :=
  ∀ (m : (ℓ : Loc Cert.AdWgluRefIdeal.nD Cert.AdWgluRefIdeal.τ Cert.AdWgluRefIdeal.sig) → Buf (Elt Ideal) ℓ) (g : Dev Cert.AdWgluRefIdeal.nD → PrngReg), Pre_AdWgluRefIdeal m →
    θ_run (Cert.AdWgluRefIdeal.defs (F := Ideal)) (onTc (τ := Cert.AdWgluRefIdeal.τ) (Cert.AdWgluRefIdeal.main (F := Ideal))) ⟨m, fun _ => 0, g⟩ (fun r => (∀ c : Dev Cert.AdWgluRefIdeal.nD,
      r.2.mem ((c.tc : Thread Cert.AdWgluRefIdeal.nD Cert.AdWgluRefIdeal.τ).loc Cert.AdWgluRefIdeal.main_arg0) = m ((c.tc : Thread Cert.AdWgluRefIdeal.nD Cert.AdWgluRefIdeal.τ).loc Cert.AdWgluRefIdeal.main_arg0)
      ∧ r.2.mem ((c.tc : Thread Cert.AdWgluRefIdeal.nD Cert.AdWgluRefIdeal.τ).loc Cert.AdWgluRefIdeal.main_arg1) = m ((c.tc : Thread Cert.AdWgluRefIdeal.nD Cert.AdWgluRefIdeal.τ).loc Cert.AdWgluRefIdeal.main_arg1)
      ∧ r.2.mem ((c.tc : Thread Cert.AdWgluRefIdeal.nD Cert.AdWgluRefIdeal.τ).loc Cert.AdWgluRefIdeal.main_arg2) = m ((c.tc : Thread Cert.AdWgluRefIdeal.nD Cert.AdWgluRefIdeal.τ).loc Cert.AdWgluRefIdeal.main_arg2)
      ∧ r.2.mem ((c.tc : Thread Cert.AdWgluRefIdeal.nD Cert.AdWgluRefIdeal.τ).loc Cert.AdWgluRefIdeal.main_arg3) = m ((c.tc : Thread Cert.AdWgluRefIdeal.nD Cert.AdWgluRefIdeal.τ).loc Cert.AdWgluRefIdeal.main_arg3))
      ∧ r.2.sem = fun _ => 0)

def quiescent_AdWuq [hAdWuq : Cert.AdWuq.Facts] : Prop :=
  ∀ (m : (ℓ : Loc Cert.AdWuq.nD Cert.AdWuq.τ Cert.AdWuq.sig) → Buf (Elt Bits) ℓ) (g : Dev Cert.AdWuq.nD → PrngReg), Pre_AdWuq m →
    θ_run (Cert.AdWuq.defs (F := Bits)) (onTc (τ := Cert.AdWuq.τ) (Cert.AdWuq.main (F := Bits))) ⟨m, fun _ => 0, g⟩ (fun r => (∀ c : Dev Cert.AdWuq.nD,
      r.2.mem ((c.tc : Thread Cert.AdWuq.nD Cert.AdWuq.τ).loc Cert.AdWuq.main_arg0) = m ((c.tc : Thread Cert.AdWuq.nD Cert.AdWuq.τ).loc Cert.AdWuq.main_arg0)
      ∧ r.2.mem ((c.tc : Thread Cert.AdWuq.nD Cert.AdWuq.τ).loc Cert.AdWuq.main_arg1) = m ((c.tc : Thread Cert.AdWuq.nD Cert.AdWuq.τ).loc Cert.AdWuq.main_arg1)
      ∧ r.2.mem ((c.tc : Thread Cert.AdWuq.nD Cert.AdWuq.τ).loc Cert.AdWuq.main_arg2) = m ((c.tc : Thread Cert.AdWuq.nD Cert.AdWuq.τ).loc Cert.AdWuq.main_arg2)
      ∧ r.2.mem ((c.tc : Thread Cert.AdWuq.nD Cert.AdWuq.τ).loc Cert.AdWuq.main_arg3) = m ((c.tc : Thread Cert.AdWuq.nD Cert.AdWuq.τ).loc Cert.AdWuq.main_arg3))
      ∧ r.2.sem = fun _ => 0)

def quiescent_AdWuqIdeal [hAdWuqIdeal : Cert.AdWuqIdeal.Facts] : Prop :=
  ∀ (m : (ℓ : Loc Cert.AdWuqIdeal.nD Cert.AdWuqIdeal.τ Cert.AdWuqIdeal.sig) → Buf (Elt Ideal) ℓ) (g : Dev Cert.AdWuqIdeal.nD → PrngReg), Pre_AdWuqIdeal m →
    θ_run (Cert.AdWuqIdeal.defs (F := Ideal)) (onTc (τ := Cert.AdWuqIdeal.τ) (Cert.AdWuqIdeal.main (F := Ideal))) ⟨m, fun _ => 0, g⟩ (fun r => (∀ c : Dev Cert.AdWuqIdeal.nD,
      r.2.mem ((c.tc : Thread Cert.AdWuqIdeal.nD Cert.AdWuqIdeal.τ).loc Cert.AdWuqIdeal.main_arg0) = m ((c.tc : Thread Cert.AdWuqIdeal.nD Cert.AdWuqIdeal.τ).loc Cert.AdWuqIdeal.main_arg0)
      ∧ r.2.mem ((c.tc : Thread Cert.AdWuqIdeal.nD Cert.AdWuqIdeal.τ).loc Cert.AdWuqIdeal.main_arg1) = m ((c.tc : Thread Cert.AdWuqIdeal.nD Cert.AdWuqIdeal.τ).loc Cert.AdWuqIdeal.main_arg1)
      ∧ r.2.mem ((c.tc : Thread Cert.AdWuqIdeal.nD Cert.AdWuqIdeal.τ).loc Cert.AdWuqIdeal.main_arg2) = m ((c.tc : Thread Cert.AdWuqIdeal.nD Cert.AdWuqIdeal.τ).loc Cert.AdWuqIdeal.main_arg2)
      ∧ r.2.mem ((c.tc : Thread Cert.AdWuqIdeal.nD Cert.AdWuqIdeal.τ).loc Cert.AdWuqIdeal.main_arg3) = m ((c.tc : Thread Cert.AdWuqIdeal.nD Cert.AdWuqIdeal.τ).loc Cert.AdWuqIdeal.main_arg3))
      ∧ r.2.sem = fun _ => 0)

def quiescent_AdWuqRefIdeal [hAdWuqRefIdeal : Cert.AdWuqRefIdeal.Facts] : Prop :=
  ∀ (m : (ℓ : Loc Cert.AdWuqRefIdeal.nD Cert.AdWuqRefIdeal.τ Cert.AdWuqRefIdeal.sig) → Buf (Elt Ideal) ℓ) (g : Dev Cert.AdWuqRefIdeal.nD → PrngReg), Pre_AdWuqRefIdeal m →
    θ_run (Cert.AdWuqRefIdeal.defs (F := Ideal)) (onTc (τ := Cert.AdWuqRefIdeal.τ) (Cert.AdWuqRefIdeal.main (F := Ideal))) ⟨m, fun _ => 0, g⟩ (fun r => (∀ c : Dev Cert.AdWuqRefIdeal.nD,
      r.2.mem ((c.tc : Thread Cert.AdWuqRefIdeal.nD Cert.AdWuqRefIdeal.τ).loc Cert.AdWuqRefIdeal.main_arg0) = m ((c.tc : Thread Cert.AdWuqRefIdeal.nD Cert.AdWuqRefIdeal.τ).loc Cert.AdWuqRefIdeal.main_arg0)
      ∧ r.2.mem ((c.tc : Thread Cert.AdWuqRefIdeal.nD Cert.AdWuqRefIdeal.τ).loc Cert.AdWuqRefIdeal.main_arg1) = m ((c.tc : Thread Cert.AdWuqRefIdeal.nD Cert.AdWuqRefIdeal.τ).loc Cert.AdWuqRefIdeal.main_arg1)
      ∧ r.2.mem ((c.tc : Thread Cert.AdWuqRefIdeal.nD Cert.AdWuqRefIdeal.τ).loc Cert.AdWuqRefIdeal.main_arg2) = m ((c.tc : Thread Cert.AdWuqRefIdeal.nD Cert.AdWuqRefIdeal.τ).loc Cert.AdWuqRefIdeal.main_arg2)
      ∧ r.2.mem ((c.tc : Thread Cert.AdWuqRefIdeal.nD Cert.AdWuqRefIdeal.τ).loc Cert.AdWuqRefIdeal.main_arg3) = m ((c.tc : Thread Cert.AdWuqRefIdeal.nD Cert.AdWuqRefIdeal.τ).loc Cert.AdWuqRefIdeal.main_arg3))
      ∧ r.2.sem = fun _ => 0)

def quiescent_AdWukv [hAdWukv : Cert.AdWukv.Facts] : Prop :=
  ∀ (m : (ℓ : Loc Cert.AdWukv.nD Cert.AdWukv.τ Cert.AdWukv.sig) → Buf (Elt Bits) ℓ) (g : Dev Cert.AdWukv.nD → PrngReg), Pre_AdWukv m →
    θ_run (Cert.AdWukv.defs (F := Bits)) (onTc (τ := Cert.AdWukv.τ) (Cert.AdWukv.main (F := Bits))) ⟨m, fun _ => 0, g⟩ (fun r => (∀ c : Dev Cert.AdWukv.nD,
      r.2.mem ((c.tc : Thread Cert.AdWukv.nD Cert.AdWukv.τ).loc Cert.AdWukv.main_arg0) = m ((c.tc : Thread Cert.AdWukv.nD Cert.AdWukv.τ).loc Cert.AdWukv.main_arg0)
      ∧ r.2.mem ((c.tc : Thread Cert.AdWukv.nD Cert.AdWukv.τ).loc Cert.AdWukv.main_arg1) = m ((c.tc : Thread Cert.AdWukv.nD Cert.AdWukv.τ).loc Cert.AdWukv.main_arg1)
      ∧ r.2.mem ((c.tc : Thread Cert.AdWukv.nD Cert.AdWukv.τ).loc Cert.AdWukv.main_arg2) = m ((c.tc : Thread Cert.AdWukv.nD Cert.AdWukv.τ).loc Cert.AdWukv.main_arg2)
      ∧ r.2.mem ((c.tc : Thread Cert.AdWukv.nD Cert.AdWukv.τ).loc Cert.AdWukv.main_arg3) = m ((c.tc : Thread Cert.AdWukv.nD Cert.AdWukv.τ).loc Cert.AdWukv.main_arg3))
      ∧ r.2.sem = fun _ => 0)

def quiescent_AdWukvIdeal [hAdWukvIdeal : Cert.AdWukvIdeal.Facts] : Prop :=
  ∀ (m : (ℓ : Loc Cert.AdWukvIdeal.nD Cert.AdWukvIdeal.τ Cert.AdWukvIdeal.sig) → Buf (Elt Ideal) ℓ) (g : Dev Cert.AdWukvIdeal.nD → PrngReg), Pre_AdWukvIdeal m →
    θ_run (Cert.AdWukvIdeal.defs (F := Ideal)) (onTc (τ := Cert.AdWukvIdeal.τ) (Cert.AdWukvIdeal.main (F := Ideal))) ⟨m, fun _ => 0, g⟩ (fun r => (∀ c : Dev Cert.AdWukvIdeal.nD,
      r.2.mem ((c.tc : Thread Cert.AdWukvIdeal.nD Cert.AdWukvIdeal.τ).loc Cert.AdWukvIdeal.main_arg0) = m ((c.tc : Thread Cert.AdWukvIdeal.nD Cert.AdWukvIdeal.τ).loc Cert.AdWukvIdeal.main_arg0)
      ∧ r.2.mem ((c.tc : Thread Cert.AdWukvIdeal.nD Cert.AdWukvIdeal.τ).loc Cert.AdWukvIdeal.main_arg1) = m ((c.tc : Thread Cert.AdWukvIdeal.nD Cert.AdWukvIdeal.τ).loc Cert.AdWukvIdeal.main_arg1)
      ∧ r.2.mem ((c.tc : Thread Cert.AdWukvIdeal.nD Cert.AdWukvIdeal.τ).loc Cert.AdWukvIdeal.main_arg2) = m ((c.tc : Thread Cert.AdWukvIdeal.nD Cert.AdWukvIdeal.τ).loc Cert.AdWukvIdeal.main_arg2)
      ∧ r.2.mem ((c.tc : Thread Cert.AdWukvIdeal.nD Cert.AdWukvIdeal.τ).loc Cert.AdWukvIdeal.main_arg3) = m ((c.tc : Thread Cert.AdWukvIdeal.nD Cert.AdWukvIdeal.τ).loc Cert.AdWukvIdeal.main_arg3))
      ∧ r.2.sem = fun _ => 0)

def quiescent_AdWukvRefIdeal [hAdWukvRefIdeal : Cert.AdWukvRefIdeal.Facts] : Prop :=
  ∀ (m : (ℓ : Loc Cert.AdWukvRefIdeal.nD Cert.AdWukvRefIdeal.τ Cert.AdWukvRefIdeal.sig) → Buf (Elt Ideal) ℓ) (g : Dev Cert.AdWukvRefIdeal.nD → PrngReg), Pre_AdWukvRefIdeal m →
    θ_run (Cert.AdWukvRefIdeal.defs (F := Ideal)) (onTc (τ := Cert.AdWukvRefIdeal.τ) (Cert.AdWukvRefIdeal.main (F := Ideal))) ⟨m, fun _ => 0, g⟩ (fun r => (∀ c : Dev Cert.AdWukvRefIdeal.nD,
      r.2.mem ((c.tc : Thread Cert.AdWukvRefIdeal.nD Cert.AdWukvRefIdeal.τ).loc Cert.AdWukvRefIdeal.main_arg0) = m ((c.tc : Thread Cert.AdWukvRefIdeal.nD Cert.AdWukvRefIdeal.τ).loc Cert.AdWukvRefIdeal.main_arg0)
      ∧ r.2.mem ((c.tc : Thread Cert.AdWukvRefIdeal.nD Cert.AdWukvRefIdeal.τ).loc Cert.AdWukvRefIdeal.main_arg1) = m ((c.tc : Thread Cert.AdWukvRefIdeal.nD Cert.AdWukvRefIdeal.τ).loc Cert.AdWukvRefIdeal.main_arg1)
      ∧ r.2.mem ((c.tc : Thread Cert.AdWukvRefIdeal.nD Cert.AdWukvRefIdeal.τ).loc Cert.AdWukvRefIdeal.main_arg2) = m ((c.tc : Thread Cert.AdWukvRefIdeal.nD Cert.AdWukvRefIdeal.τ).loc Cert.AdWukvRefIdeal.main_arg2)
      ∧ r.2.mem ((c.tc : Thread Cert.AdWukvRefIdeal.nD Cert.AdWukvRefIdeal.τ).loc Cert.AdWukvRefIdeal.main_arg3) = m ((c.tc : Thread Cert.AdWukvRefIdeal.nD Cert.AdWukvRefIdeal.τ).loc Cert.AdWukvRefIdeal.main_arg3))
      ∧ r.2.sem = fun _ => 0)

def quiescent_AdWout [hAdWout : Cert.AdWout.Facts] : Prop :=
  ∀ (m : (ℓ : Loc Cert.AdWout.nD Cert.AdWout.τ Cert.AdWout.sig) → Buf (Elt Bits) ℓ) (g : Dev Cert.AdWout.nD → PrngReg), Pre_AdWout m →
    θ_run (Cert.AdWout.defs (F := Bits)) (onTc (τ := Cert.AdWout.τ) (Cert.AdWout.main (F := Bits))) ⟨m, fun _ => 0, g⟩ (fun r => (∀ c : Dev Cert.AdWout.nD,
      r.2.mem ((c.tc : Thread Cert.AdWout.nD Cert.AdWout.τ).loc Cert.AdWout.main_arg0) = m ((c.tc : Thread Cert.AdWout.nD Cert.AdWout.τ).loc Cert.AdWout.main_arg0)
      ∧ r.2.mem ((c.tc : Thread Cert.AdWout.nD Cert.AdWout.τ).loc Cert.AdWout.main_arg1) = m ((c.tc : Thread Cert.AdWout.nD Cert.AdWout.τ).loc Cert.AdWout.main_arg1)
      ∧ r.2.mem ((c.tc : Thread Cert.AdWout.nD Cert.AdWout.τ).loc Cert.AdWout.main_arg2) = m ((c.tc : Thread Cert.AdWout.nD Cert.AdWout.τ).loc Cert.AdWout.main_arg2)
      ∧ r.2.mem ((c.tc : Thread Cert.AdWout.nD Cert.AdWout.τ).loc Cert.AdWout.main_arg3) = m ((c.tc : Thread Cert.AdWout.nD Cert.AdWout.τ).loc Cert.AdWout.main_arg3))
      ∧ r.2.sem = fun _ => 0)

def quiescent_AdWoutIdeal [hAdWoutIdeal : Cert.AdWoutIdeal.Facts] : Prop :=
  ∀ (m : (ℓ : Loc Cert.AdWoutIdeal.nD Cert.AdWoutIdeal.τ Cert.AdWoutIdeal.sig) → Buf (Elt Ideal) ℓ) (g : Dev Cert.AdWoutIdeal.nD → PrngReg), Pre_AdWoutIdeal m →
    θ_run (Cert.AdWoutIdeal.defs (F := Ideal)) (onTc (τ := Cert.AdWoutIdeal.τ) (Cert.AdWoutIdeal.main (F := Ideal))) ⟨m, fun _ => 0, g⟩ (fun r => (∀ c : Dev Cert.AdWoutIdeal.nD,
      r.2.mem ((c.tc : Thread Cert.AdWoutIdeal.nD Cert.AdWoutIdeal.τ).loc Cert.AdWoutIdeal.main_arg0) = m ((c.tc : Thread Cert.AdWoutIdeal.nD Cert.AdWoutIdeal.τ).loc Cert.AdWoutIdeal.main_arg0)
      ∧ r.2.mem ((c.tc : Thread Cert.AdWoutIdeal.nD Cert.AdWoutIdeal.τ).loc Cert.AdWoutIdeal.main_arg1) = m ((c.tc : Thread Cert.AdWoutIdeal.nD Cert.AdWoutIdeal.τ).loc Cert.AdWoutIdeal.main_arg1)
      ∧ r.2.mem ((c.tc : Thread Cert.AdWoutIdeal.nD Cert.AdWoutIdeal.τ).loc Cert.AdWoutIdeal.main_arg2) = m ((c.tc : Thread Cert.AdWoutIdeal.nD Cert.AdWoutIdeal.τ).loc Cert.AdWoutIdeal.main_arg2)
      ∧ r.2.mem ((c.tc : Thread Cert.AdWoutIdeal.nD Cert.AdWoutIdeal.τ).loc Cert.AdWoutIdeal.main_arg3) = m ((c.tc : Thread Cert.AdWoutIdeal.nD Cert.AdWoutIdeal.τ).loc Cert.AdWoutIdeal.main_arg3))
      ∧ r.2.sem = fun _ => 0)

def quiescent_AdWoutRefIdeal [hAdWoutRefIdeal : Cert.AdWoutRefIdeal.Facts] : Prop :=
  ∀ (m : (ℓ : Loc Cert.AdWoutRefIdeal.nD Cert.AdWoutRefIdeal.τ Cert.AdWoutRefIdeal.sig) → Buf (Elt Ideal) ℓ) (g : Dev Cert.AdWoutRefIdeal.nD → PrngReg), Pre_AdWoutRefIdeal m →
    θ_run (Cert.AdWoutRefIdeal.defs (F := Ideal)) (onTc (τ := Cert.AdWoutRefIdeal.τ) (Cert.AdWoutRefIdeal.main (F := Ideal))) ⟨m, fun _ => 0, g⟩ (fun r => (∀ c : Dev Cert.AdWoutRefIdeal.nD,
      r.2.mem ((c.tc : Thread Cert.AdWoutRefIdeal.nD Cert.AdWoutRefIdeal.τ).loc Cert.AdWoutRefIdeal.main_arg0) = m ((c.tc : Thread Cert.AdWoutRefIdeal.nD Cert.AdWoutRefIdeal.τ).loc Cert.AdWoutRefIdeal.main_arg0)
      ∧ r.2.mem ((c.tc : Thread Cert.AdWoutRefIdeal.nD Cert.AdWoutRefIdeal.τ).loc Cert.AdWoutRefIdeal.main_arg1) = m ((c.tc : Thread Cert.AdWoutRefIdeal.nD Cert.AdWoutRefIdeal.τ).loc Cert.AdWoutRefIdeal.main_arg1)
      ∧ r.2.mem ((c.tc : Thread Cert.AdWoutRefIdeal.nD Cert.AdWoutRefIdeal.τ).loc Cert.AdWoutRefIdeal.main_arg2) = m ((c.tc : Thread Cert.AdWoutRefIdeal.nD Cert.AdWoutRefIdeal.τ).loc Cert.AdWoutRefIdeal.main_arg2)
      ∧ r.2.mem ((c.tc : Thread Cert.AdWoutRefIdeal.nD Cert.AdWoutRefIdeal.τ).loc Cert.AdWoutRefIdeal.main_arg3) = m ((c.tc : Thread Cert.AdWoutRefIdeal.nD Cert.AdWoutRefIdeal.τ).loc Cert.AdWoutRefIdeal.main_arg3))
      ∧ r.2.sem = fun _ => 0)

def quiescent_AdWup [hAdWup : Cert.AdWup.Facts] : Prop :=
  ∀ (m : (ℓ : Loc Cert.AdWup.nD Cert.AdWup.τ Cert.AdWup.sig) → Buf (Elt Bits) ℓ) (g : Dev Cert.AdWup.nD → PrngReg), Pre_AdWup m →
    θ_run (Cert.AdWup.defs (F := Bits)) (onTc (τ := Cert.AdWup.τ) (Cert.AdWup.main (F := Bits))) ⟨m, fun _ => 0, g⟩ (fun r => (∀ c : Dev Cert.AdWup.nD,
      r.2.mem ((c.tc : Thread Cert.AdWup.nD Cert.AdWup.τ).loc Cert.AdWup.main_arg0) = m ((c.tc : Thread Cert.AdWup.nD Cert.AdWup.τ).loc Cert.AdWup.main_arg0)
      ∧ r.2.mem ((c.tc : Thread Cert.AdWup.nD Cert.AdWup.τ).loc Cert.AdWup.main_arg1) = m ((c.tc : Thread Cert.AdWup.nD Cert.AdWup.τ).loc Cert.AdWup.main_arg1)
      ∧ r.2.mem ((c.tc : Thread Cert.AdWup.nD Cert.AdWup.τ).loc Cert.AdWup.main_arg2) = m ((c.tc : Thread Cert.AdWup.nD Cert.AdWup.τ).loc Cert.AdWup.main_arg2)
      ∧ r.2.mem ((c.tc : Thread Cert.AdWup.nD Cert.AdWup.τ).loc Cert.AdWup.main_arg3) = m ((c.tc : Thread Cert.AdWup.nD Cert.AdWup.τ).loc Cert.AdWup.main_arg3))
      ∧ r.2.sem = fun _ => 0)

def quiescent_AdWupIdeal [hAdWupIdeal : Cert.AdWupIdeal.Facts] : Prop :=
  ∀ (m : (ℓ : Loc Cert.AdWupIdeal.nD Cert.AdWupIdeal.τ Cert.AdWupIdeal.sig) → Buf (Elt Ideal) ℓ) (g : Dev Cert.AdWupIdeal.nD → PrngReg), Pre_AdWupIdeal m →
    θ_run (Cert.AdWupIdeal.defs (F := Ideal)) (onTc (τ := Cert.AdWupIdeal.τ) (Cert.AdWupIdeal.main (F := Ideal))) ⟨m, fun _ => 0, g⟩ (fun r => (∀ c : Dev Cert.AdWupIdeal.nD,
      r.2.mem ((c.tc : Thread Cert.AdWupIdeal.nD Cert.AdWupIdeal.τ).loc Cert.AdWupIdeal.main_arg0) = m ((c.tc : Thread Cert.AdWupIdeal.nD Cert.AdWupIdeal.τ).loc Cert.AdWupIdeal.main_arg0)
      ∧ r.2.mem ((c.tc : Thread Cert.AdWupIdeal.nD Cert.AdWupIdeal.τ).loc Cert.AdWupIdeal.main_arg1) = m ((c.tc : Thread Cert.AdWupIdeal.nD Cert.AdWupIdeal.τ).loc Cert.AdWupIdeal.main_arg1)
      ∧ r.2.mem ((c.tc : Thread Cert.AdWupIdeal.nD Cert.AdWupIdeal.τ).loc Cert.AdWupIdeal.main_arg2) = m ((c.tc : Thread Cert.AdWupIdeal.nD Cert.AdWupIdeal.τ).loc Cert.AdWupIdeal.main_arg2)
      ∧ r.2.mem ((c.tc : Thread Cert.AdWupIdeal.nD Cert.AdWupIdeal.τ).loc Cert.AdWupIdeal.main_arg3) = m ((c.tc : Thread Cert.AdWupIdeal.nD Cert.AdWupIdeal.τ).loc Cert.AdWupIdeal.main_arg3))
      ∧ r.2.sem = fun _ => 0)

def quiescent_AdWupRefIdeal [hAdWupRefIdeal : Cert.AdWupRefIdeal.Facts] : Prop :=
  ∀ (m : (ℓ : Loc Cert.AdWupRefIdeal.nD Cert.AdWupRefIdeal.τ Cert.AdWupRefIdeal.sig) → Buf (Elt Ideal) ℓ) (g : Dev Cert.AdWupRefIdeal.nD → PrngReg), Pre_AdWupRefIdeal m →
    θ_run (Cert.AdWupRefIdeal.defs (F := Ideal)) (onTc (τ := Cert.AdWupRefIdeal.τ) (Cert.AdWupRefIdeal.main (F := Ideal))) ⟨m, fun _ => 0, g⟩ (fun r => (∀ c : Dev Cert.AdWupRefIdeal.nD,
      r.2.mem ((c.tc : Thread Cert.AdWupRefIdeal.nD Cert.AdWupRefIdeal.τ).loc Cert.AdWupRefIdeal.main_arg0) = m ((c.tc : Thread Cert.AdWupRefIdeal.nD Cert.AdWupRefIdeal.τ).loc Cert.AdWupRefIdeal.main_arg0)
      ∧ r.2.mem ((c.tc : Thread Cert.AdWupRefIdeal.nD Cert.AdWupRefIdeal.τ).loc Cert.AdWupRefIdeal.main_arg1) = m ((c.tc : Thread Cert.AdWupRefIdeal.nD Cert.AdWupRefIdeal.τ).loc Cert.AdWupRefIdeal.main_arg1)
      ∧ r.2.mem ((c.tc : Thread Cert.AdWupRefIdeal.nD Cert.AdWupRefIdeal.τ).loc Cert.AdWupRefIdeal.main_arg2) = m ((c.tc : Thread Cert.AdWupRefIdeal.nD Cert.AdWupRefIdeal.τ).loc Cert.AdWupRefIdeal.main_arg2)
      ∧ r.2.mem ((c.tc : Thread Cert.AdWupRefIdeal.nD Cert.AdWupRefIdeal.τ).loc Cert.AdWupRefIdeal.main_arg3) = m ((c.tc : Thread Cert.AdWupRefIdeal.nD Cert.AdWupRefIdeal.τ).loc Cert.AdWupRefIdeal.main_arg3))
      ∧ r.2.sem = fun _ => 0)

def quiescent_AdWdown [hAdWdown : Cert.AdWdown.Facts] : Prop :=
  ∀ (m : (ℓ : Loc Cert.AdWdown.nD Cert.AdWdown.τ Cert.AdWdown.sig) → Buf (Elt Bits) ℓ) (g : Dev Cert.AdWdown.nD → PrngReg), Pre_AdWdown m →
    θ_run (Cert.AdWdown.defs (F := Bits)) (onTc (τ := Cert.AdWdown.τ) (Cert.AdWdown.main (F := Bits))) ⟨m, fun _ => 0, g⟩ (fun r => (∀ c : Dev Cert.AdWdown.nD,
      r.2.mem ((c.tc : Thread Cert.AdWdown.nD Cert.AdWdown.τ).loc Cert.AdWdown.main_arg0) = m ((c.tc : Thread Cert.AdWdown.nD Cert.AdWdown.τ).loc Cert.AdWdown.main_arg0)
      ∧ r.2.mem ((c.tc : Thread Cert.AdWdown.nD Cert.AdWdown.τ).loc Cert.AdWdown.main_arg1) = m ((c.tc : Thread Cert.AdWdown.nD Cert.AdWdown.τ).loc Cert.AdWdown.main_arg1)
      ∧ r.2.mem ((c.tc : Thread Cert.AdWdown.nD Cert.AdWdown.τ).loc Cert.AdWdown.main_arg2) = m ((c.tc : Thread Cert.AdWdown.nD Cert.AdWdown.τ).loc Cert.AdWdown.main_arg2)
      ∧ r.2.mem ((c.tc : Thread Cert.AdWdown.nD Cert.AdWdown.τ).loc Cert.AdWdown.main_arg3) = m ((c.tc : Thread Cert.AdWdown.nD Cert.AdWdown.τ).loc Cert.AdWdown.main_arg3))
      ∧ r.2.sem = fun _ => 0)

def quiescent_AdWdownIdeal [hAdWdownIdeal : Cert.AdWdownIdeal.Facts] : Prop :=
  ∀ (m : (ℓ : Loc Cert.AdWdownIdeal.nD Cert.AdWdownIdeal.τ Cert.AdWdownIdeal.sig) → Buf (Elt Ideal) ℓ) (g : Dev Cert.AdWdownIdeal.nD → PrngReg), Pre_AdWdownIdeal m →
    θ_run (Cert.AdWdownIdeal.defs (F := Ideal)) (onTc (τ := Cert.AdWdownIdeal.τ) (Cert.AdWdownIdeal.main (F := Ideal))) ⟨m, fun _ => 0, g⟩ (fun r => (∀ c : Dev Cert.AdWdownIdeal.nD,
      r.2.mem ((c.tc : Thread Cert.AdWdownIdeal.nD Cert.AdWdownIdeal.τ).loc Cert.AdWdownIdeal.main_arg0) = m ((c.tc : Thread Cert.AdWdownIdeal.nD Cert.AdWdownIdeal.τ).loc Cert.AdWdownIdeal.main_arg0)
      ∧ r.2.mem ((c.tc : Thread Cert.AdWdownIdeal.nD Cert.AdWdownIdeal.τ).loc Cert.AdWdownIdeal.main_arg1) = m ((c.tc : Thread Cert.AdWdownIdeal.nD Cert.AdWdownIdeal.τ).loc Cert.AdWdownIdeal.main_arg1)
      ∧ r.2.mem ((c.tc : Thread Cert.AdWdownIdeal.nD Cert.AdWdownIdeal.τ).loc Cert.AdWdownIdeal.main_arg2) = m ((c.tc : Thread Cert.AdWdownIdeal.nD Cert.AdWdownIdeal.τ).loc Cert.AdWdownIdeal.main_arg2)
      ∧ r.2.mem ((c.tc : Thread Cert.AdWdownIdeal.nD Cert.AdWdownIdeal.τ).loc Cert.AdWdownIdeal.main_arg3) = m ((c.tc : Thread Cert.AdWdownIdeal.nD Cert.AdWdownIdeal.τ).loc Cert.AdWdownIdeal.main_arg3))
      ∧ r.2.sem = fun _ => 0)

def quiescent_AdWdownRefIdeal [hAdWdownRefIdeal : Cert.AdWdownRefIdeal.Facts] : Prop :=
  ∀ (m : (ℓ : Loc Cert.AdWdownRefIdeal.nD Cert.AdWdownRefIdeal.τ Cert.AdWdownRefIdeal.sig) → Buf (Elt Ideal) ℓ) (g : Dev Cert.AdWdownRefIdeal.nD → PrngReg), Pre_AdWdownRefIdeal m →
    θ_run (Cert.AdWdownRefIdeal.defs (F := Ideal)) (onTc (τ := Cert.AdWdownRefIdeal.τ) (Cert.AdWdownRefIdeal.main (F := Ideal))) ⟨m, fun _ => 0, g⟩ (fun r => (∀ c : Dev Cert.AdWdownRefIdeal.nD,
      r.2.mem ((c.tc : Thread Cert.AdWdownRefIdeal.nD Cert.AdWdownRefIdeal.τ).loc Cert.AdWdownRefIdeal.main_arg0) = m ((c.tc : Thread Cert.AdWdownRefIdeal.nD Cert.AdWdownRefIdeal.τ).loc Cert.AdWdownRefIdeal.main_arg0)
      ∧ r.2.mem ((c.tc : Thread Cert.AdWdownRefIdeal.nD Cert.AdWdownRefIdeal.τ).loc Cert.AdWdownRefIdeal.main_arg1) = m ((c.tc : Thread Cert.AdWdownRefIdeal.nD Cert.AdWdownRefIdeal.τ).loc Cert.AdWdownRefIdeal.main_arg1)
      ∧ r.2.mem ((c.tc : Thread Cert.AdWdownRefIdeal.nD Cert.AdWdownRefIdeal.τ).loc Cert.AdWdownRefIdeal.main_arg2) = m ((c.tc : Thread Cert.AdWdownRefIdeal.nD Cert.AdWdownRefIdeal.τ).loc Cert.AdWdownRefIdeal.main_arg2)
      ∧ r.2.mem ((c.tc : Thread Cert.AdWdownRefIdeal.nD Cert.AdWdownRefIdeal.τ).loc Cert.AdWdownRefIdeal.main_arg3) = m ((c.tc : Thread Cert.AdWdownRefIdeal.nD Cert.AdWdownRefIdeal.τ).loc Cert.AdWdownRefIdeal.main_arg3))
      ∧ r.2.sem = fun _ => 0)

def quiescent_AdConvw [hAdConvw : Cert.AdConvw.Facts] : Prop :=
  ∀ (m : (ℓ : Loc Cert.AdConvw.nD Cert.AdConvw.τ Cert.AdConvw.sig) → Buf (Elt Bits) ℓ) (g : Dev Cert.AdConvw.nD → PrngReg), Pre_AdConvw m →
    θ_run (Cert.AdConvw.defs (F := Bits)) (onTc (τ := Cert.AdConvw.τ) (Cert.AdConvw.main (F := Bits))) ⟨m, fun _ => 0, g⟩ (fun r => (∀ c : Dev Cert.AdConvw.nD,
      r.2.mem ((c.tc : Thread Cert.AdConvw.nD Cert.AdConvw.τ).loc Cert.AdConvw.main_arg0) = m ((c.tc : Thread Cert.AdConvw.nD Cert.AdConvw.τ).loc Cert.AdConvw.main_arg0)
      ∧ r.2.mem ((c.tc : Thread Cert.AdConvw.nD Cert.AdConvw.τ).loc Cert.AdConvw.main_arg1) = m ((c.tc : Thread Cert.AdConvw.nD Cert.AdConvw.τ).loc Cert.AdConvw.main_arg1)
      ∧ r.2.mem ((c.tc : Thread Cert.AdConvw.nD Cert.AdConvw.τ).loc Cert.AdConvw.main_arg2) = m ((c.tc : Thread Cert.AdConvw.nD Cert.AdConvw.τ).loc Cert.AdConvw.main_arg2)
      ∧ r.2.mem ((c.tc : Thread Cert.AdConvw.nD Cert.AdConvw.τ).loc Cert.AdConvw.main_arg3) = m ((c.tc : Thread Cert.AdConvw.nD Cert.AdConvw.τ).loc Cert.AdConvw.main_arg3))
      ∧ r.2.sem = fun _ => 0)

def quiescent_AdConvwIdeal [hAdConvwIdeal : Cert.AdConvwIdeal.Facts] : Prop :=
  ∀ (m : (ℓ : Loc Cert.AdConvwIdeal.nD Cert.AdConvwIdeal.τ Cert.AdConvwIdeal.sig) → Buf (Elt Ideal) ℓ) (g : Dev Cert.AdConvwIdeal.nD → PrngReg), Pre_AdConvwIdeal m →
    θ_run (Cert.AdConvwIdeal.defs (F := Ideal)) (onTc (τ := Cert.AdConvwIdeal.τ) (Cert.AdConvwIdeal.main (F := Ideal))) ⟨m, fun _ => 0, g⟩ (fun r => (∀ c : Dev Cert.AdConvwIdeal.nD,
      r.2.mem ((c.tc : Thread Cert.AdConvwIdeal.nD Cert.AdConvwIdeal.τ).loc Cert.AdConvwIdeal.main_arg0) = m ((c.tc : Thread Cert.AdConvwIdeal.nD Cert.AdConvwIdeal.τ).loc Cert.AdConvwIdeal.main_arg0)
      ∧ r.2.mem ((c.tc : Thread Cert.AdConvwIdeal.nD Cert.AdConvwIdeal.τ).loc Cert.AdConvwIdeal.main_arg1) = m ((c.tc : Thread Cert.AdConvwIdeal.nD Cert.AdConvwIdeal.τ).loc Cert.AdConvwIdeal.main_arg1)
      ∧ r.2.mem ((c.tc : Thread Cert.AdConvwIdeal.nD Cert.AdConvwIdeal.τ).loc Cert.AdConvwIdeal.main_arg2) = m ((c.tc : Thread Cert.AdConvwIdeal.nD Cert.AdConvwIdeal.τ).loc Cert.AdConvwIdeal.main_arg2)
      ∧ r.2.mem ((c.tc : Thread Cert.AdConvwIdeal.nD Cert.AdConvwIdeal.τ).loc Cert.AdConvwIdeal.main_arg3) = m ((c.tc : Thread Cert.AdConvwIdeal.nD Cert.AdConvwIdeal.τ).loc Cert.AdConvwIdeal.main_arg3))
      ∧ r.2.sem = fun _ => 0)

def quiescent_AdConvwRefIdeal [hAdConvwRefIdeal : Cert.AdConvwRefIdeal.Facts] : Prop :=
  ∀ (m : (ℓ : Loc Cert.AdConvwRefIdeal.nD Cert.AdConvwRefIdeal.τ Cert.AdConvwRefIdeal.sig) → Buf (Elt Ideal) ℓ) (g : Dev Cert.AdConvwRefIdeal.nD → PrngReg), Pre_AdConvwRefIdeal m →
    θ_run (Cert.AdConvwRefIdeal.defs (F := Ideal)) (onTc (τ := Cert.AdConvwRefIdeal.τ) (Cert.AdConvwRefIdeal.main (F := Ideal))) ⟨m, fun _ => 0, g⟩ (fun r => (∀ c : Dev Cert.AdConvwRefIdeal.nD,
      r.2.mem ((c.tc : Thread Cert.AdConvwRefIdeal.nD Cert.AdConvwRefIdeal.τ).loc Cert.AdConvwRefIdeal.main_arg0) = m ((c.tc : Thread Cert.AdConvwRefIdeal.nD Cert.AdConvwRefIdeal.τ).loc Cert.AdConvwRefIdeal.main_arg0)
      ∧ r.2.mem ((c.tc : Thread Cert.AdConvwRefIdeal.nD Cert.AdConvwRefIdeal.τ).loc Cert.AdConvwRefIdeal.main_arg1) = m ((c.tc : Thread Cert.AdConvwRefIdeal.nD Cert.AdConvwRefIdeal.τ).loc Cert.AdConvwRefIdeal.main_arg1)
      ∧ r.2.mem ((c.tc : Thread Cert.AdConvwRefIdeal.nD Cert.AdConvwRefIdeal.τ).loc Cert.AdConvwRefIdeal.main_arg2) = m ((c.tc : Thread Cert.AdConvwRefIdeal.nD Cert.AdConvwRefIdeal.τ).loc Cert.AdConvwRefIdeal.main_arg2)
      ∧ r.2.mem ((c.tc : Thread Cert.AdConvwRefIdeal.nD Cert.AdConvwRefIdeal.τ).loc Cert.AdConvwRefIdeal.main_arg3) = m ((c.tc : Thread Cert.AdConvwRefIdeal.nD Cert.AdConvwRefIdeal.τ).loc Cert.AdConvwRefIdeal.main_arg3))
      ∧ r.2.sem = fun _ => 0)

def preserves_Conv_ConvIdeal : Prop :=
  True

def algebraic_ConvIdeal_ConvRefIdeal_pre_conv_finite [hConvIdeal : Cert.ConvIdeal.Facts] [hConvRefIdeal : Cert.ConvRefIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal_conv_finite m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v5_0)) (v1 : (c : Dev Cert.ConvIdeal.nD) → Buf (Elt Ideal) ((c.tc : Thread Cert.ConvIdeal.nD Cert.ConvIdeal.τ).loc Cert.ConvIdeal.main_v5_1)) (v2 : (c : Dev Cert.ConvIdeal.nD) → Buf (Elt Ideal) ((c.tc : Thread Cert.ConvIdeal.nD Cert.ConvIdeal.τ).loc Cert.ConvIdeal.main_v5_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v5_0) = v0 c
          ∧ r.2.mem ((c.tc : Thread Cert.ConvIdeal.nD Cert.ConvIdeal.τ).loc Cert.ConvIdeal.main_v5_1) = v1 c
          ∧ r.2.mem ((c.tc : Thread Cert.ConvIdeal.nD Cert.ConvIdeal.τ).loc Cert.ConvIdeal.main_v5_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v72) = v0 c
          ∧ r.2.mem ((c.tc : Thread Cert.ConvRefIdeal.nD Cert.ConvRefIdeal.τ).loc Cert.ConvRefIdeal.main_v74) = v1 c
          ∧ r.2.mem ((c.tc : Thread Cert.ConvRefIdeal.nD Cert.ConvRefIdeal.τ).loc Cert.ConvRefIdeal.main_v76) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v29_0)) (v1 : (c : Dev Cert.AttnIdeal.nD) → Buf (Elt Ideal) ((c.tc : Thread Cert.AttnIdeal.nD Cert.AttnIdeal.τ).loc Cert.AttnIdeal.main_v29_1)) (v2 : (c : Dev Cert.AttnIdeal.nD) → Buf (Elt Ideal) ((c.tc : Thread Cert.AttnIdeal.nD Cert.AttnIdeal.τ).loc Cert.AttnIdeal.main_v29_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v29_0) = v0 c
          ∧ r.2.mem ((c.tc : Thread Cert.AttnIdeal.nD Cert.AttnIdeal.τ).loc Cert.AttnIdeal.main_v29_1) = v1 c
          ∧ r.2.mem ((c.tc : Thread Cert.AttnIdeal.nD Cert.AttnIdeal.τ).loc Cert.AttnIdeal.main_v29_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v133) = v0 c
          ∧ r.2.mem ((c.tc : Thread Cert.AttnRefIdeal.nD Cert.AttnRefIdeal.τ).loc Cert.AttnRefIdeal.main_v134) = v1 c
          ∧ r.2.mem ((c.tc : Thread Cert.AttnRefIdeal.nD Cert.AttnRefIdeal.τ).loc Cert.AttnRefIdeal.main_v136) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v4)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v4) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v6) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v6)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v6) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v2) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v2)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v2) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v2) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v2)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v2) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v4) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v4)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v4) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v3)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v3) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v5) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_GluDw_GluDwIdeal : Prop :=
  True

def algebraic_GluDwIdeal_GluDwRefIdeal [hGluDwIdeal : Cert.GluDwIdeal.Facts] [hGluDwRefIdeal : Cert.GluDwRefIdeal.Facts] : Prop :=
  ∀ (m : (ℓ : Loc Cert.GluDwIdeal.nD Cert.GluDwIdeal.τ Cert.GluDwIdeal.sig) → Buf (Elt Ideal) ℓ) (g : Dev Cert.GluDwIdeal.nD → PrngReg)
    (m' : (ℓ : Loc Cert.GluDwRefIdeal.nD Cert.GluDwRefIdeal.τ Cert.GluDwRefIdeal.sig) → Buf (Elt Ideal) ℓ) (g' : Dev Cert.GluDwRefIdeal.nD → PrngReg), Pre_GluDwIdeal m →
    (∀ c : Dev Cert.GluDwIdeal.nD,
      m' ((c.tc : Thread Cert.GluDwRefIdeal.nD Cert.GluDwRefIdeal.τ).loc Cert.GluDwRefIdeal.main_arg0) = m ((c.tc : Thread Cert.GluDwIdeal.nD Cert.GluDwIdeal.τ).loc Cert.GluDwIdeal.main_arg0)
      ∧ m' ((c.tc : Thread Cert.GluDwRefIdeal.nD Cert.GluDwRefIdeal.τ).loc Cert.GluDwRefIdeal.main_arg1) = m ((c.tc : Thread Cert.GluDwIdeal.nD Cert.GluDwIdeal.τ).loc Cert.GluDwIdeal.main_arg1)) →
    ∃ (v0 : (c : Dev Cert.GluDwIdeal.nD) → Buf (Elt Ideal) ((c.tc : Thread Cert.GluDwIdeal.nD Cert.GluDwIdeal.τ).loc Cert.GluDwIdeal.main_v2)),
      θ_run (Cert.GluDwIdeal.defs (F := Ideal)) (onTc (τ := Cert.GluDwIdeal.τ) (Cert.GluDwIdeal.main (F := Ideal))) ⟨m, fun _ => 0, g⟩ (fun r => ∀ c : Dev Cert.GluDwIdeal.nD,
          r.2.mem ((c.tc : Thread Cert.GluDwIdeal.nD Cert.GluDwIdeal.τ).loc Cert.GluDwIdeal.main_v2) = v0 c
          ∧ r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
          ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ θ_run (Cert.GluDwRefIdeal.defs (F := Ideal)) (onTc (τ := Cert.GluDwRefIdeal.τ) (Cert.GluDwRefIdeal.main (F := Ideal))) ⟨m', fun _ => 0, g'⟩ (fun r => ∀ c : Dev Cert.GluDwRefIdeal.nD,
          r.2.mem ((c.tc : Thread Cert.GluDwRefIdeal.nD Cert.GluDwRefIdeal.τ).loc Cert.GluDwRefIdeal.main_v4) = v0 c
          ∧ r.2.mem ((c.tc : Thread Cert.GluDwRefIdeal.nD Cert.GluDwRefIdeal.τ).loc Cert.GluDwRefIdeal.main_arg0) = m' ((c.tc : Thread Cert.GluDwRefIdeal.nD Cert.GluDwRefIdeal.τ).loc Cert.GluDwRefIdeal.main_arg0)
          ∧ r.2.mem ((c.tc : Thread Cert.GluDwRefIdeal.nD Cert.GluDwRefIdeal.τ).loc Cert.GluDwRefIdeal.main_arg1) = m' ((c.tc : Thread Cert.GluDwRefIdeal.nD Cert.GluDwRefIdeal.τ).loc Cert.GluDwRefIdeal.main_arg1))

def preserves_Q_QIdeal : Prop :=
  True

def algebraic_QIdeal_QRefIdeal [hQIdeal : Cert.QIdeal.Facts] [hQRefIdeal : Cert.QRefIdeal.Facts] : Prop :=
  ∀ (m : (ℓ : Loc Cert.QIdeal.nD Cert.QIdeal.τ Cert.QIdeal.sig) → Buf (Elt Ideal) ℓ) (g : Dev Cert.QIdeal.nD → PrngReg)
    (m' : (ℓ : Loc Cert.QRefIdeal.nD Cert.QRefIdeal.τ Cert.QRefIdeal.sig) → Buf (Elt Ideal) ℓ) (g' : Dev Cert.QRefIdeal.nD → PrngReg), Pre_QIdeal m →
    (∀ c : Dev Cert.QIdeal.nD,
      m' ((c.tc : Thread Cert.QRefIdeal.nD Cert.QRefIdeal.τ).loc Cert.QRefIdeal.main_arg0) = m ((c.tc : Thread Cert.QIdeal.nD Cert.QIdeal.τ).loc Cert.QIdeal.main_arg0)
      ∧ m' ((c.tc : Thread Cert.QRefIdeal.nD Cert.QRefIdeal.τ).loc Cert.QRefIdeal.main_arg1) = m ((c.tc : Thread Cert.QIdeal.nD Cert.QIdeal.τ).loc Cert.QIdeal.main_arg1)) →
    ∃ (v0 : (c : Dev Cert.QIdeal.nD) → Buf (Elt Ideal) ((c.tc : Thread Cert.QIdeal.nD Cert.QIdeal.τ).loc Cert.QIdeal.main_v5)),
      θ_run (Cert.QIdeal.defs (F := Ideal)) (onTc (τ := Cert.QIdeal.τ) (Cert.QIdeal.main (F := Ideal))) ⟨m, fun _ => 0, g⟩ (fun r => ∀ c : Dev Cert.QIdeal.nD,
          r.2.mem ((c.tc : Thread Cert.QIdeal.nD Cert.QIdeal.τ).loc Cert.QIdeal.main_v5) = v0 c
          ∧ r.2.mem ((c.tc : Thread Cert.QIdeal.nD Cert.QIdeal.τ).loc Cert.QIdeal.main_arg0) = m ((c.tc : Thread Cert.QIdeal.nD Cert.QIdeal.τ).loc Cert.QIdeal.main_arg0)
          ∧ r.2.mem ((c.tc : Thread Cert.QIdeal.nD Cert.QIdeal.τ).loc Cert.QIdeal.main_arg1) = m ((c.tc : Thread Cert.QIdeal.nD Cert.QIdeal.τ).loc Cert.QIdeal.main_arg1))
      ∧ θ_run (Cert.QRefIdeal.defs (F := Ideal)) (onTc (τ := Cert.QRefIdeal.τ) (Cert.QRefIdeal.main (F := Ideal))) ⟨m', fun _ => 0, g'⟩ (fun r => ∀ c : Dev Cert.QRefIdeal.nD,
          r.2.mem ((c.tc : Thread Cert.QRefIdeal.nD Cert.QRefIdeal.τ).loc Cert.QRefIdeal.main_v3) = v0 c
          ∧ r.2.mem ((c.tc : Thread Cert.QRefIdeal.nD Cert.QRefIdeal.τ).loc Cert.QRefIdeal.main_arg0) = m' ((c.tc : Thread Cert.QRefIdeal.nD Cert.QRefIdeal.τ).loc Cert.QRefIdeal.main_arg0)
          ∧ r.2.mem ((c.tc : Thread Cert.QRefIdeal.nD Cert.QRefIdeal.τ).loc Cert.QRefIdeal.main_arg1) = m' ((c.tc : Thread Cert.QRefIdeal.nD Cert.QRefIdeal.τ).loc Cert.QRefIdeal.main_arg1))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v5)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v5) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v4) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_QDw_QDwIdeal : Prop :=
  True

def algebraic_QDwIdeal_QDwRefIdeal [hQDwIdeal : Cert.QDwIdeal.Facts] [hQDwRefIdeal : Cert.QDwRefIdeal.Facts] : Prop :=
  ∀ (m : (ℓ : Loc Cert.QDwIdeal.nD Cert.QDwIdeal.τ Cert.QDwIdeal.sig) → Buf (Elt Ideal) ℓ) (g : Dev Cert.QDwIdeal.nD → PrngReg)
    (m' : (ℓ : Loc Cert.QDwRefIdeal.nD Cert.QDwRefIdeal.τ Cert.QDwRefIdeal.sig) → Buf (Elt Ideal) ℓ) (g' : Dev Cert.QDwRefIdeal.nD → PrngReg), Pre_QDwIdeal m →
    (∀ c : Dev Cert.QDwIdeal.nD,
      m' ((c.tc : Thread Cert.QDwRefIdeal.nD Cert.QDwRefIdeal.τ).loc Cert.QDwRefIdeal.main_arg0) = m ((c.tc : Thread Cert.QDwIdeal.nD Cert.QDwIdeal.τ).loc Cert.QDwIdeal.main_arg0)
      ∧ m' ((c.tc : Thread Cert.QDwRefIdeal.nD Cert.QDwRefIdeal.τ).loc Cert.QDwRefIdeal.main_arg1) = m ((c.tc : Thread Cert.QDwIdeal.nD Cert.QDwIdeal.τ).loc Cert.QDwIdeal.main_arg1)) →
    ∃ (v0 : (c : Dev Cert.QDwIdeal.nD) → Buf (Elt Ideal) ((c.tc : Thread Cert.QDwIdeal.nD Cert.QDwIdeal.τ).loc Cert.QDwIdeal.main_v5)),
      θ_run (Cert.QDwIdeal.defs (F := Ideal)) (onTc (τ := Cert.QDwIdeal.τ) (Cert.QDwIdeal.main (F := Ideal))) ⟨m, fun _ => 0, g⟩ (fun r => ∀ c : Dev Cert.QDwIdeal.nD,
          r.2.mem ((c.tc : Thread Cert.QDwIdeal.nD Cert.QDwIdeal.τ).loc Cert.QDwIdeal.main_v5) = v0 c
          ∧ r.2.mem ((c.tc : Thread Cert.QDwIdeal.nD Cert.QDwIdeal.τ).loc Cert.QDwIdeal.main_arg0) = m ((c.tc : Thread Cert.QDwIdeal.nD Cert.QDwIdeal.τ).loc Cert.QDwIdeal.main_arg0)
          ∧ r.2.mem ((c.tc : Thread Cert.QDwIdeal.nD Cert.QDwIdeal.τ).loc Cert.QDwIdeal.main_arg1) = m ((c.tc : Thread Cert.QDwIdeal.nD Cert.QDwIdeal.τ).loc Cert.QDwIdeal.main_arg1))
      ∧ θ_run (Cert.QDwRefIdeal.defs (F := Ideal)) (onTc (τ := Cert.QDwRefIdeal.τ) (Cert.QDwRefIdeal.main (F := Ideal))) ⟨m', fun _ => 0, g'⟩ (fun r => ∀ c : Dev Cert.QDwRefIdeal.nD,
          r.2.mem ((c.tc : Thread Cert.QDwRefIdeal.nD Cert.QDwRefIdeal.τ).loc Cert.QDwRefIdeal.main_v7) = v0 c
          ∧ r.2.mem ((c.tc : Thread Cert.QDwRefIdeal.nD Cert.QDwRefIdeal.τ).loc Cert.QDwRefIdeal.main_arg0) = m' ((c.tc : Thread Cert.QDwRefIdeal.nD Cert.QDwRefIdeal.τ).loc Cert.QDwRefIdeal.main_arg0)
          ∧ r.2.mem ((c.tc : Thread Cert.QDwRefIdeal.nD Cert.QDwRefIdeal.τ).loc Cert.QDwRefIdeal.main_arg1) = m' ((c.tc : Thread Cert.QDwRefIdeal.nD Cert.QDwRefIdeal.τ).loc Cert.QDwRefIdeal.main_arg1))

def preserves_KvDw_KvDwIdeal : Prop :=
  True

def algebraic_KvDwIdeal_KvDwRefIdeal [hKvDwIdeal : Cert.KvDwIdeal.Facts] [hKvDwRefIdeal : Cert.KvDwRefIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwRefIdeal.nD Cert.KvDwRefIdeal.τ Cert.KvDwRefIdeal.sig) → Buf (Elt Ideal) ℓ) (g' : Dev Cert.KvDwRefIdeal.nD → PrngReg), Pre_KvDwIdeal m →
    (∀ c : Dev Cert.KvDwIdeal.nD,
      m' ((c.tc : Thread Cert.KvDwRefIdeal.nD Cert.KvDwRefIdeal.τ).loc Cert.KvDwRefIdeal.main_arg0) = m ((c.tc : Thread Cert.KvDwIdeal.nD Cert.KvDwIdeal.τ).loc Cert.KvDwIdeal.main_arg0)
      ∧ m' ((c.tc : Thread Cert.KvDwRefIdeal.nD Cert.KvDwRefIdeal.τ).loc Cert.KvDwRefIdeal.main_arg1) = m ((c.tc : Thread Cert.KvDwIdeal.nD Cert.KvDwIdeal.τ).loc Cert.KvDwIdeal.main_arg1)) →
    ∃ (v0 : (c : Dev Cert.KvDwIdeal.nD) → Buf (Elt Ideal) ((c.tc : Thread Cert.KvDwIdeal.nD Cert.KvDwIdeal.τ).loc Cert.KvDwIdeal.main_v4)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v4) = v0 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ θ_run (Cert.KvDwRefIdeal.defs (F := Ideal)) (onTc (τ := Cert.KvDwRefIdeal.τ) (Cert.KvDwRefIdeal.main (F := Ideal))) ⟨m', fun _ => 0, g'⟩ (fun r => ∀ c : Dev Cert.KvDwRefIdeal.nD,
          r.2.mem ((c.tc : Thread Cert.KvDwRefIdeal.nD Cert.KvDwRefIdeal.τ).loc Cert.KvDwRefIdeal.main_v7) = v0 c
          ∧ r.2.mem ((c.tc : Thread Cert.KvDwRefIdeal.nD Cert.KvDwRefIdeal.τ).loc Cert.KvDwRefIdeal.main_arg0) = m' ((c.tc : Thread Cert.KvDwRefIdeal.nD Cert.KvDwRefIdeal.τ).loc Cert.KvDwRefIdeal.main_arg0)
          ∧ r.2.mem ((c.tc : Thread Cert.KvDwRefIdeal.nD Cert.KvDwRefIdeal.τ).loc Cert.KvDwRefIdeal.main_arg1) = m' ((c.tc : Thread Cert.KvDwRefIdeal.nD Cert.KvDwRefIdeal.τ).loc Cert.KvDwRefIdeal.main_arg1))

def preserves_QDx_QDxIdeal : Prop :=
  True

def algebraic_QDxIdeal_QDxRefIdeal [hQDxIdeal : Cert.QDxIdeal.Facts] [hQDxRefIdeal : Cert.QDxRefIdeal.Facts] : Prop :=
  ∀ (m : (ℓ : Loc Cert.QDxIdeal.nD Cert.QDxIdeal.τ Cert.QDxIdeal.sig) → Buf (Elt Ideal) ℓ) (g : Dev Cert.QDxIdeal.nD → PrngReg)
    (m' : (ℓ : Loc Cert.QDxRefIdeal.nD Cert.QDxRefIdeal.τ Cert.QDxRefIdeal.sig) → Buf (Elt Ideal) ℓ) (g' : Dev Cert.QDxRefIdeal.nD → PrngReg), Pre_QDxIdeal m →
    (∀ c : Dev Cert.QDxIdeal.nD,
      m' ((c.tc : Thread Cert.QDxRefIdeal.nD Cert.QDxRefIdeal.τ).loc Cert.QDxRefIdeal.main_arg0) = m ((c.tc : Thread Cert.QDxIdeal.nD Cert.QDxIdeal.τ).loc Cert.QDxIdeal.main_arg0)
      ∧ m' ((c.tc : Thread Cert.QDxRefIdeal.nD Cert.QDxRefIdeal.τ).loc Cert.QDxRefIdeal.main_arg1) = m ((c.tc : Thread Cert.QDxIdeal.nD Cert.QDxIdeal.τ).loc Cert.QDxIdeal.main_arg1)) →
    ∃ (v0 : (c : Dev Cert.QDxIdeal.nD) → Buf (Elt Ideal) ((c.tc : Thread Cert.QDxIdeal.nD Cert.QDxIdeal.τ).loc Cert.QDxIdeal.main_v8)),
      θ_run (Cert.QDxIdeal.defs (F := Ideal)) (onTc (τ := Cert.QDxIdeal.τ) (Cert.QDxIdeal.main (F := Ideal))) ⟨m, fun _ => 0, g⟩ (fun r => ∀ c : Dev Cert.QDxIdeal.nD,
          r.2.mem ((c.tc : Thread Cert.QDxIdeal.nD Cert.QDxIdeal.τ).loc Cert.QDxIdeal.main_v8) = v0 c
          ∧ r.2.mem ((c.tc : Thread Cert.QDxIdeal.nD Cert.QDxIdeal.τ).loc Cert.QDxIdeal.main_arg0) = m ((c.tc : Thread Cert.QDxIdeal.nD Cert.QDxIdeal.τ).loc Cert.QDxIdeal.main_arg0)
          ∧ r.2.mem ((c.tc : Thread Cert.QDxIdeal.nD Cert.QDxIdeal.τ).loc Cert.QDxIdeal.main_arg1) = m ((c.tc : Thread Cert.QDxIdeal.nD Cert.QDxIdeal.τ).loc Cert.QDxIdeal.main_arg1))
      ∧ θ_run (Cert.QDxRefIdeal.defs (F := Ideal)) (onTc (τ := Cert.QDxRefIdeal.τ) (Cert.QDxRefIdeal.main (F := Ideal))) ⟨m', fun _ => 0, g'⟩ (fun r => ∀ c : Dev Cert.QDxRefIdeal.nD,
          r.2.mem ((c.tc : Thread Cert.QDxRefIdeal.nD Cert.QDxRefIdeal.τ).loc Cert.QDxRefIdeal.main_v2) = v0 c
          ∧ r.2.mem ((c.tc : Thread Cert.QDxRefIdeal.nD Cert.QDxRefIdeal.τ).loc Cert.QDxRefIdeal.main_arg0) = m' ((c.tc : Thread Cert.QDxRefIdeal.nD Cert.QDxRefIdeal.τ).loc Cert.QDxRefIdeal.main_arg0)
          ∧ r.2.mem ((c.tc : Thread Cert.QDxRefIdeal.nD Cert.QDxRefIdeal.τ).loc Cert.QDxRefIdeal.main_arg1) = m' ((c.tc : Thread Cert.QDxRefIdeal.nD Cert.QDxRefIdeal.τ).loc Cert.QDxRefIdeal.main_arg1))

def preserves_KvDx_KvDxIdeal : Prop :=
  True

def algebraic_KvDxIdeal_KvDxRefIdeal [hKvDxIdeal : Cert.KvDxIdeal.Facts] [hKvDxRefIdeal : Cert.KvDxRefIdeal.Facts] : Prop :=
  ∀ (m : (ℓ : Loc Cert.KvDxIdeal.nD Cert.KvDxIdeal.τ Cert.KvDxIdeal.sig) → Buf (Elt Ideal) ℓ) (g : Dev Cert.KvDxIdeal.nD → PrngReg)
    (m' : (ℓ : Loc Cert.KvDxRefIdeal.nD Cert.KvDxRefIdeal.τ Cert.KvDxRefIdeal.sig) → Buf (Elt Ideal) ℓ) (g' : Dev Cert.KvDxRefIdeal.nD → PrngReg), Pre_KvDxIdeal m →
    (∀ c : Dev Cert.KvDxIdeal.nD,
      m' ((c.tc : Thread Cert.KvDxRefIdeal.nD Cert.KvDxRefIdeal.τ).loc Cert.KvDxRefIdeal.main_arg0) = m ((c.tc : Thread Cert.KvDxIdeal.nD Cert.KvDxIdeal.τ).loc Cert.KvDxIdeal.main_arg0)
      ∧ m' ((c.tc : Thread Cert.KvDxRefIdeal.nD Cert.KvDxRefIdeal.τ).loc Cert.KvDxRefIdeal.main_arg1) = m ((c.tc : Thread Cert.KvDxIdeal.nD Cert.KvDxIdeal.τ).loc Cert.KvDxIdeal.main_arg1)) →
    ∃ (v0 : (c : Dev Cert.KvDxIdeal.nD) → Buf (Elt Ideal) ((c.tc : Thread Cert.KvDxIdeal.nD Cert.KvDxIdeal.τ).loc Cert.KvDxIdeal.main_v7)),
      θ_run (Cert.KvDxIdeal.defs (F := Ideal)) (onTc (τ := Cert.KvDxIdeal.τ) (Cert.KvDxIdeal.main (F := Ideal))) ⟨m, fun _ => 0, g⟩ (fun r => ∀ c : Dev Cert.KvDxIdeal.nD,
          r.2.mem ((c.tc : Thread Cert.KvDxIdeal.nD Cert.KvDxIdeal.τ).loc Cert.KvDxIdeal.main_v7) = v0 c
          ∧ r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
          ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ θ_run (Cert.KvDxRefIdeal.defs (F := Ideal)) (onTc (τ := Cert.KvDxRefIdeal.τ) (Cert.KvDxRefIdeal.main (F := Ideal))) ⟨m', fun _ => 0, g'⟩ (fun r => ∀ c : Dev Cert.KvDxRefIdeal.nD,
          r.2.mem ((c.tc : Thread Cert.KvDxRefIdeal.nD Cert.KvDxRefIdeal.τ).loc Cert.KvDxRefIdeal.main_v2) = v0 c
          ∧ r.2.mem ((c.tc : Thread Cert.KvDxRefIdeal.nD Cert.KvDxRefIdeal.τ).loc Cert.KvDxRefIdeal.main_arg0) = m' ((c.tc : Thread Cert.KvDxRefIdeal.nD Cert.KvDxRefIdeal.τ).loc Cert.KvDxRefIdeal.main_arg0)
          ∧ r.2.mem ((c.tc : Thread Cert.KvDxRefIdeal.nD Cert.KvDxRefIdeal.τ).loc Cert.KvDxRefIdeal.main_arg1) = m' ((c.tc : Thread Cert.KvDxRefIdeal.nD Cert.KvDxRefIdeal.τ).loc Cert.KvDxRefIdeal.main_arg1))

def preserves_AdWin_AdWinIdeal : Prop :=
  True

def algebraic_AdWinIdeal_AdWinRefIdeal [hAdWinIdeal : Cert.AdWinIdeal.Facts] [hAdWinRefIdeal : Cert.AdWinRefIdeal.Facts] : Prop :=
  ∀ (m : (ℓ : Loc Cert.AdWinIdeal.nD Cert.AdWinIdeal.τ Cert.AdWinIdeal.sig) → Buf (Elt Ideal) ℓ) (g : Dev Cert.AdWinIdeal.nD → PrngReg)
    (m' : (ℓ : Loc Cert.AdWinRefIdeal.nD Cert.AdWinRefIdeal.τ Cert.AdWinRefIdeal.sig) → Buf (Elt Ideal) ℓ) (g' : Dev Cert.AdWinRefIdeal.nD → PrngReg), Pre_AdWinIdeal m →
    (∀ c : Dev Cert.AdWinIdeal.nD,
      m' ((c.tc : Thread Cert.AdWinRefIdeal.nD Cert.AdWinRefIdeal.τ).loc Cert.AdWinRefIdeal.main_arg0) = m ((c.tc : Thread Cert.AdWinIdeal.nD Cert.AdWinIdeal.τ).loc Cert.AdWinIdeal.main_arg0)
      ∧ m' ((c.tc : Thread Cert.AdWinRefIdeal.nD Cert.AdWinRefIdeal.τ).loc Cert.AdWinRefIdeal.main_arg1) = m ((c.tc : Thread Cert.AdWinIdeal.nD Cert.AdWinIdeal.τ).loc Cert.AdWinIdeal.main_arg1)
      ∧ m' ((c.tc : Thread Cert.AdWinRefIdeal.nD Cert.AdWinRefIdeal.τ).loc Cert.AdWinRefIdeal.main_arg2) = m ((c.tc : Thread Cert.AdWinIdeal.nD Cert.AdWinIdeal.τ).loc Cert.AdWinIdeal.main_arg2)
      ∧ m' ((c.tc : Thread Cert.AdWinRefIdeal.nD Cert.AdWinRefIdeal.τ).loc Cert.AdWinRefIdeal.main_arg3) = m ((c.tc : Thread Cert.AdWinIdeal.nD Cert.AdWinIdeal.τ).loc Cert.AdWinIdeal.main_arg3)) →
    ∃ (v0 : (c : Dev Cert.AdWinIdeal.nD) → Buf (Elt Ideal) ((c.tc : Thread Cert.AdWinIdeal.nD Cert.AdWinIdeal.τ).loc Cert.AdWinIdeal.main_v4_0)) (v1 : (c : Dev Cert.AdWinIdeal.nD) → Buf (Elt Ideal) ((c.tc : Thread Cert.AdWinIdeal.nD Cert.AdWinIdeal.τ).loc Cert.AdWinIdeal.main_v4_1)) (v2 : (c : Dev Cert.AdWinIdeal.nD) → Buf (Elt Ideal) ((c.tc : Thread Cert.AdWinIdeal.nD Cert.AdWinIdeal.τ).loc Cert.AdWinIdeal.main_v4_2)) (v3 : (c : Dev Cert.AdWinIdeal.nD) → Buf (Elt Ideal) ((c.tc : Thread Cert.AdWinIdeal.nD Cert.AdWinIdeal.τ).loc Cert.AdWinIdeal.main_v4_3)),
      θ_run (Cert.AdWinIdeal.defs (F := Ideal)) (onTc (τ := Cert.AdWinIdeal.τ) (Cert.AdWinIdeal.main (F := Ideal))) ⟨m, fun _ => 0, g⟩ (fun r => ∀ c : Dev Cert.AdWinIdeal.nD,
          r.2.mem ((c.tc : Thread Cert.AdWinIdeal.nD Cert.AdWinIdeal.τ).loc Cert.AdWinIdeal.main_v4_0) = v0 c
          ∧ r.2.mem ((c.tc : Thread Cert.AdWinIdeal.nD Cert.AdWinIdeal.τ).loc Cert.AdWinIdeal.main_v4_1) = v1 c
          ∧ r.2.mem ((c.tc : Thread Cert.AdWinIdeal.nD Cert.AdWinIdeal.τ).loc Cert.AdWinIdeal.main_v4_2) = v2 c
          ∧ r.2.mem ((c.tc : Thread Cert.AdWinIdeal.nD Cert.AdWinIdeal.τ).loc Cert.AdWinIdeal.main_v4_3) = v3 c
          ∧ r.2.mem ((c.tc : Thread Cert.AdWinIdeal.nD Cert.AdWinIdeal.τ).loc Cert.AdWinIdeal.main_arg0) = m ((c.tc : Thread Cert.AdWinIdeal.nD Cert.AdWinIdeal.τ).loc Cert.AdWinIdeal.main_arg0)
          ∧ r.2.mem ((c.tc : Thread Cert.AdWinIdeal.nD Cert.AdWinIdeal.τ).loc Cert.AdWinIdeal.main_arg1) = m ((c.tc : Thread Cert.AdWinIdeal.nD Cert.AdWinIdeal.τ).loc Cert.AdWinIdeal.main_arg1)
          ∧ r.2.mem ((c.tc : Thread Cert.AdWinIdeal.nD Cert.AdWinIdeal.τ).loc Cert.AdWinIdeal.main_arg2) = m ((c.tc : Thread Cert.AdWinIdeal.nD Cert.AdWinIdeal.τ).loc Cert.AdWinIdeal.main_arg2)
          ∧ r.2.mem ((c.tc : Thread Cert.AdWinIdeal.nD Cert.AdWinIdeal.τ).loc Cert.AdWinIdeal.main_arg3) = m ((c.tc : Thread Cert.AdWinIdeal.nD Cert.AdWinIdeal.τ).loc Cert.AdWinIdeal.main_arg3))
      ∧ θ_run (Cert.AdWinRefIdeal.defs (F := Ideal)) (onTc (τ := Cert.AdWinRefIdeal.τ) (Cert.AdWinRefIdeal.main (F := Ideal))) ⟨m', fun _ => 0, g'⟩ (fun r => ∀ c : Dev Cert.AdWinRefIdeal.nD,
          r.2.mem ((c.tc : Thread Cert.AdWinRefIdeal.nD Cert.AdWinRefIdeal.τ).loc Cert.AdWinRefIdeal.main_v26) = v0 c
          ∧ r.2.mem ((c.tc : Thread Cert.AdWinRefIdeal.nD Cert.AdWinRefIdeal.τ).loc Cert.AdWinRefIdeal.main_v27) = v1 c
          ∧ r.2.mem ((c.tc : Thread Cert.AdWinRefIdeal.nD Cert.AdWinRefIdeal.τ).loc Cert.AdWinRefIdeal.main_v28) = v2 c
          ∧ r.2.mem ((c.tc : Thread Cert.AdWinRefIdeal.nD Cert.AdWinRefIdeal.τ).loc Cert.AdWinRefIdeal.main_v29) = v3 c
          ∧ r.2.mem ((c.tc : Thread Cert.AdWinRefIdeal.nD Cert.AdWinRefIdeal.τ).loc Cert.AdWinRefIdeal.main_arg0) = m' ((c.tc : Thread Cert.AdWinRefIdeal.nD Cert.AdWinRefIdeal.τ).loc Cert.AdWinRefIdeal.main_arg0)
          ∧ r.2.mem ((c.tc : Thread Cert.AdWinRefIdeal.nD Cert.AdWinRefIdeal.τ).loc Cert.AdWinRefIdeal.main_arg1) = m' ((c.tc : Thread Cert.AdWinRefIdeal.nD Cert.AdWinRefIdeal.τ).loc Cert.AdWinRefIdeal.main_arg1)
          ∧ r.2.mem ((c.tc : Thread Cert.AdWinRefIdeal.nD Cert.AdWinRefIdeal.τ).loc Cert.AdWinRefIdeal.main_arg2) = m' ((c.tc : Thread Cert.AdWinRefIdeal.nD Cert.AdWinRefIdeal.τ).loc Cert.AdWinRefIdeal.main_arg2)
          ∧ r.2.mem ((c.tc : Thread Cert.AdWinRefIdeal.nD Cert.AdWinRefIdeal.τ).loc Cert.AdWinRefIdeal.main_arg3) = m' ((c.tc : Thread Cert.AdWinRefIdeal.nD Cert.AdWinRefIdeal.τ).loc Cert.AdWinRefIdeal.main_arg3))

def preserves_AdWglu_AdWgluIdeal : Prop :=
  True

def algebraic_AdWgluIdeal_AdWgluRefIdeal [hAdWgluIdeal : Cert.AdWgluIdeal.Facts] [hAdWgluRefIdeal : Cert.AdWgluRefIdeal.Facts] : Prop :=
  ∀ (m : (ℓ : Loc Cert.AdWgluIdeal.nD Cert.AdWgluIdeal.τ Cert.AdWgluIdeal.sig) → Buf (Elt Ideal) ℓ) (g : Dev Cert.AdWgluIdeal.nD → PrngReg)
    (m' : (ℓ : Loc Cert.AdWgluRefIdeal.nD Cert.AdWgluRefIdeal.τ Cert.AdWgluRefIdeal.sig) → Buf (Elt Ideal) ℓ) (g' : Dev Cert.AdWgluRefIdeal.nD → PrngReg), Pre_AdWgluIdeal m →
    (∀ c : Dev Cert.AdWgluIdeal.nD,
      m' ((c.tc : Thread Cert.AdWgluRefIdeal.nD Cert.AdWgluRefIdeal.τ).loc Cert.AdWgluRefIdeal.main_arg0) = m ((c.tc : Thread Cert.AdWgluIdeal.nD Cert.AdWgluIdeal.τ).loc Cert.AdWgluIdeal.main_arg0)
      ∧ m' ((c.tc : Thread Cert.AdWgluRefIdeal.nD Cert.AdWgluRefIdeal.τ).loc Cert.AdWgluRefIdeal.main_arg1) = m ((c.tc : Thread Cert.AdWgluIdeal.nD Cert.AdWgluIdeal.τ).loc Cert.AdWgluIdeal.main_arg1)
      ∧ m' ((c.tc : Thread Cert.AdWgluRefIdeal.nD Cert.AdWgluRefIdeal.τ).loc Cert.AdWgluRefIdeal.main_arg2) = m ((c.tc : Thread Cert.AdWgluIdeal.nD Cert.AdWgluIdeal.τ).loc Cert.AdWgluIdeal.main_arg2)
      ∧ m' ((c.tc : Thread Cert.AdWgluRefIdeal.nD Cert.AdWgluRefIdeal.τ).loc Cert.AdWgluRefIdeal.main_arg3) = m ((c.tc : Thread Cert.AdWgluIdeal.nD Cert.AdWgluIdeal.τ).loc Cert.AdWgluIdeal.main_arg3)) →
    ∃ (v0 : (c : Dev Cert.AdWgluIdeal.nD) → Buf (Elt Ideal) ((c.tc : Thread Cert.AdWgluIdeal.nD Cert.AdWgluIdeal.τ).loc Cert.AdWgluIdeal.main_v0_0)) (v1 : (c : Dev Cert.AdWgluIdeal.nD) → Buf (Elt Ideal) ((c.tc : Thread Cert.AdWgluIdeal.nD Cert.AdWgluIdeal.τ).loc Cert.AdWgluIdeal.main_v0_1)) (v2 : (c : Dev Cert.AdWgluIdeal.nD) → Buf (Elt Ideal) ((c.tc : Thread Cert.AdWgluIdeal.nD Cert.AdWgluIdeal.τ).loc Cert.AdWgluIdeal.main_v0_2)) (v3 : (c : Dev Cert.AdWgluIdeal.nD) → Buf (Elt Ideal) ((c.tc : Thread Cert.AdWgluIdeal.nD Cert.AdWgluIdeal.τ).loc Cert.AdWgluIdeal.main_v0_3)),
      θ_run (Cert.AdWgluIdeal.defs (F := Ideal)) (onTc (τ := Cert.AdWgluIdeal.τ) (Cert.AdWgluIdeal.main (F := Ideal))) ⟨m, fun _ => 0, g⟩ (fun r => ∀ c : Dev Cert.AdWgluIdeal.nD,
          r.2.mem ((c.tc : Thread Cert.AdWgluIdeal.nD Cert.AdWgluIdeal.τ).loc Cert.AdWgluIdeal.main_v0_0) = v0 c
          ∧ r.2.mem ((c.tc : Thread Cert.AdWgluIdeal.nD Cert.AdWgluIdeal.τ).loc Cert.AdWgluIdeal.main_v0_1) = v1 c
          ∧ r.2.mem ((c.tc : Thread Cert.AdWgluIdeal.nD Cert.AdWgluIdeal.τ).loc Cert.AdWgluIdeal.main_v0_2) = v2 c
          ∧ r.2.mem ((c.tc : Thread Cert.AdWgluIdeal.nD Cert.AdWgluIdeal.τ).loc Cert.AdWgluIdeal.main_v0_3) = v3 c
          ∧ r.2.mem ((c.tc : Thread Cert.AdWgluIdeal.nD Cert.AdWgluIdeal.τ).loc Cert.AdWgluIdeal.main_arg0) = m ((c.tc : Thread Cert.AdWgluIdeal.nD Cert.AdWgluIdeal.τ).loc Cert.AdWgluIdeal.main_arg0)
          ∧ r.2.mem ((c.tc : Thread Cert.AdWgluIdeal.nD Cert.AdWgluIdeal.τ).loc Cert.AdWgluIdeal.main_arg1) = m ((c.tc : Thread Cert.AdWgluIdeal.nD Cert.AdWgluIdeal.τ).loc Cert.AdWgluIdeal.main_arg1)
          ∧ r.2.mem ((c.tc : Thread Cert.AdWgluIdeal.nD Cert.AdWgluIdeal.τ).loc Cert.AdWgluIdeal.main_arg2) = m ((c.tc : Thread Cert.AdWgluIdeal.nD Cert.AdWgluIdeal.τ).loc Cert.AdWgluIdeal.main_arg2)
          ∧ r.2.mem ((c.tc : Thread Cert.AdWgluIdeal.nD Cert.AdWgluIdeal.τ).loc Cert.AdWgluIdeal.main_arg3) = m ((c.tc : Thread Cert.AdWgluIdeal.nD Cert.AdWgluIdeal.τ).loc Cert.AdWgluIdeal.main_arg3))
      ∧ θ_run (Cert.AdWgluRefIdeal.defs (F := Ideal)) (onTc (τ := Cert.AdWgluRefIdeal.τ) (Cert.AdWgluRefIdeal.main (F := Ideal))) ⟨m', fun _ => 0, g'⟩ (fun r => ∀ c : Dev Cert.AdWgluRefIdeal.nD,
          r.2.mem ((c.tc : Thread Cert.AdWgluRefIdeal.nD Cert.AdWgluRefIdeal.τ).loc Cert.AdWgluRefIdeal.main_v1) = v0 c
          ∧ r.2.mem ((c.tc : Thread Cert.AdWgluRefIdeal.nD Cert.AdWgluRefIdeal.τ).loc Cert.AdWgluRefIdeal.main_v25) = v1 c
          ∧ r.2.mem ((c.tc : Thread Cert.AdWgluRefIdeal.nD Cert.AdWgluRefIdeal.τ).loc Cert.AdWgluRefIdeal.main_v6) = v2 c
          ∧ r.2.mem ((c.tc : Thread Cert.AdWgluRefIdeal.nD Cert.AdWgluRefIdeal.τ).loc Cert.AdWgluRefIdeal.main_v12) = v3 c
          ∧ r.2.mem ((c.tc : Thread Cert.AdWgluRefIdeal.nD Cert.AdWgluRefIdeal.τ).loc Cert.AdWgluRefIdeal.main_arg0) = m' ((c.tc : Thread Cert.AdWgluRefIdeal.nD Cert.AdWgluRefIdeal.τ).loc Cert.AdWgluRefIdeal.main_arg0)
          ∧ r.2.mem ((c.tc : Thread Cert.AdWgluRefIdeal.nD Cert.AdWgluRefIdeal.τ).loc Cert.AdWgluRefIdeal.main_arg1) = m' ((c.tc : Thread Cert.AdWgluRefIdeal.nD Cert.AdWgluRefIdeal.τ).loc Cert.AdWgluRefIdeal.main_arg1)
          ∧ r.2.mem ((c.tc : Thread Cert.AdWgluRefIdeal.nD Cert.AdWgluRefIdeal.τ).loc Cert.AdWgluRefIdeal.main_arg2) = m' ((c.tc : Thread Cert.AdWgluRefIdeal.nD Cert.AdWgluRefIdeal.τ).loc Cert.AdWgluRefIdeal.main_arg2)
          ∧ r.2.mem ((c.tc : Thread Cert.AdWgluRefIdeal.nD Cert.AdWgluRefIdeal.τ).loc Cert.AdWgluRefIdeal.main_arg3) = m' ((c.tc : Thread Cert.AdWgluRefIdeal.nD Cert.AdWgluRefIdeal.τ).loc Cert.AdWgluRefIdeal.main_arg3))

def preserves_AdWuq_AdWuqIdeal : Prop :=
  True

def algebraic_AdWuqIdeal_AdWuqRefIdeal [hAdWuqIdeal : Cert.AdWuqIdeal.Facts] [hAdWuqRefIdeal : Cert.AdWuqRefIdeal.Facts] : Prop :=
  ∀ (m : (ℓ : Loc Cert.AdWuqIdeal.nD Cert.AdWuqIdeal.τ Cert.AdWuqIdeal.sig) → Buf (Elt Ideal) ℓ) (g : Dev Cert.AdWuqIdeal.nD → PrngReg)
    (m' : (ℓ : Loc Cert.AdWuqRefIdeal.nD Cert.AdWuqRefIdeal.τ Cert.AdWuqRefIdeal.sig) → Buf (Elt Ideal) ℓ) (g' : Dev Cert.AdWuqRefIdeal.nD → PrngReg), Pre_AdWuqIdeal m →
    (∀ c : Dev Cert.AdWuqIdeal.nD,
      m' ((c.tc : Thread Cert.AdWuqRefIdeal.nD Cert.AdWuqRefIdeal.τ).loc Cert.AdWuqRefIdeal.main_arg0) = m ((c.tc : Thread Cert.AdWuqIdeal.nD Cert.AdWuqIdeal.τ).loc Cert.AdWuqIdeal.main_arg0)
      ∧ m' ((c.tc : Thread Cert.AdWuqRefIdeal.nD Cert.AdWuqRefIdeal.τ).loc Cert.AdWuqRefIdeal.main_arg1) = m ((c.tc : Thread Cert.AdWuqIdeal.nD Cert.AdWuqIdeal.τ).loc Cert.AdWuqIdeal.main_arg1)
      ∧ m' ((c.tc : Thread Cert.AdWuqRefIdeal.nD Cert.AdWuqRefIdeal.τ).loc Cert.AdWuqRefIdeal.main_arg2) = m ((c.tc : Thread Cert.AdWuqIdeal.nD Cert.AdWuqIdeal.τ).loc Cert.AdWuqIdeal.main_arg2)
      ∧ m' ((c.tc : Thread Cert.AdWuqRefIdeal.nD Cert.AdWuqRefIdeal.τ).loc Cert.AdWuqRefIdeal.main_arg3) = m ((c.tc : Thread Cert.AdWuqIdeal.nD Cert.AdWuqIdeal.τ).loc Cert.AdWuqIdeal.main_arg3)) →
    ∃ (v0 : (c : Dev Cert.AdWuqIdeal.nD) → Buf (Elt Ideal) ((c.tc : Thread Cert.AdWuqIdeal.nD Cert.AdWuqIdeal.τ).loc Cert.AdWuqIdeal.main_v4_0)) (v1 : (c : Dev Cert.AdWuqIdeal.nD) → Buf (Elt Ideal) ((c.tc : Thread Cert.AdWuqIdeal.nD Cert.AdWuqIdeal.τ).loc Cert.AdWuqIdeal.main_v4_1)) (v2 : (c : Dev Cert.AdWuqIdeal.nD) → Buf (Elt Ideal) ((c.tc : Thread Cert.AdWuqIdeal.nD Cert.AdWuqIdeal.τ).loc Cert.AdWuqIdeal.main_v4_2)) (v3 : (c : Dev Cert.AdWuqIdeal.nD) → Buf (Elt Ideal) ((c.tc : Thread Cert.AdWuqIdeal.nD Cert.AdWuqIdeal.τ).loc Cert.AdWuqIdeal.main_v4_3)),
      θ_run (Cert.AdWuqIdeal.defs (F := Ideal)) (onTc (τ := Cert.AdWuqIdeal.τ) (Cert.AdWuqIdeal.main (F := Ideal))) ⟨m, fun _ => 0, g⟩ (fun r => ∀ c : Dev Cert.AdWuqIdeal.nD,
          r.2.mem ((c.tc : Thread Cert.AdWuqIdeal.nD Cert.AdWuqIdeal.τ).loc Cert.AdWuqIdeal.main_v4_0) = v0 c
          ∧ r.2.mem ((c.tc : Thread Cert.AdWuqIdeal.nD Cert.AdWuqIdeal.τ).loc Cert.AdWuqIdeal.main_v4_1) = v1 c
          ∧ r.2.mem ((c.tc : Thread Cert.AdWuqIdeal.nD Cert.AdWuqIdeal.τ).loc Cert.AdWuqIdeal.main_v4_2) = v2 c
          ∧ r.2.mem ((c.tc : Thread Cert.AdWuqIdeal.nD Cert.AdWuqIdeal.τ).loc Cert.AdWuqIdeal.main_v4_3) = v3 c
          ∧ r.2.mem ((c.tc : Thread Cert.AdWuqIdeal.nD Cert.AdWuqIdeal.τ).loc Cert.AdWuqIdeal.main_arg0) = m ((c.tc : Thread Cert.AdWuqIdeal.nD Cert.AdWuqIdeal.τ).loc Cert.AdWuqIdeal.main_arg0)
          ∧ r.2.mem ((c.tc : Thread Cert.AdWuqIdeal.nD Cert.AdWuqIdeal.τ).loc Cert.AdWuqIdeal.main_arg1) = m ((c.tc : Thread Cert.AdWuqIdeal.nD Cert.AdWuqIdeal.τ).loc Cert.AdWuqIdeal.main_arg1)
          ∧ r.2.mem ((c.tc : Thread Cert.AdWuqIdeal.nD Cert.AdWuqIdeal.τ).loc Cert.AdWuqIdeal.main_arg2) = m ((c.tc : Thread Cert.AdWuqIdeal.nD Cert.AdWuqIdeal.τ).loc Cert.AdWuqIdeal.main_arg2)
          ∧ r.2.mem ((c.tc : Thread Cert.AdWuqIdeal.nD Cert.AdWuqIdeal.τ).loc Cert.AdWuqIdeal.main_arg3) = m ((c.tc : Thread Cert.AdWuqIdeal.nD Cert.AdWuqIdeal.τ).loc Cert.AdWuqIdeal.main_arg3))
      ∧ θ_run (Cert.AdWuqRefIdeal.defs (F := Ideal)) (onTc (τ := Cert.AdWuqRefIdeal.τ) (Cert.AdWuqRefIdeal.main (F := Ideal))) ⟨m', fun _ => 0, g'⟩ (fun r => ∀ c : Dev Cert.AdWuqRefIdeal.nD,
          r.2.mem ((c.tc : Thread Cert.AdWuqRefIdeal.nD Cert.AdWuqRefIdeal.τ).loc Cert.AdWuqRefIdeal.main_v26) = v0 c
          ∧ r.2.mem ((c.tc : Thread Cert.AdWuqRefIdeal.nD Cert.AdWuqRefIdeal.τ).loc Cert.AdWuqRefIdeal.main_v27) = v1 c
          ∧ r.2.mem ((c.tc : Thread Cert.AdWuqRefIdeal.nD Cert.AdWuqRefIdeal.τ).loc Cert.AdWuqRefIdeal.main_v28) = v2 c
          ∧ r.2.mem ((c.tc : Thread Cert.AdWuqRefIdeal.nD Cert.AdWuqRefIdeal.τ).loc Cert.AdWuqRefIdeal.main_v29) = v3 c
          ∧ r.2.mem ((c.tc : Thread Cert.AdWuqRefIdeal.nD Cert.AdWuqRefIdeal.τ).loc Cert.AdWuqRefIdeal.main_arg0) = m' ((c.tc : Thread Cert.AdWuqRefIdeal.nD Cert.AdWuqRefIdeal.τ).loc Cert.AdWuqRefIdeal.main_arg0)
          ∧ r.2.mem ((c.tc : Thread Cert.AdWuqRefIdeal.nD Cert.AdWuqRefIdeal.τ).loc Cert.AdWuqRefIdeal.main_arg1) = m' ((c.tc : Thread Cert.AdWuqRefIdeal.nD Cert.AdWuqRefIdeal.τ).loc Cert.AdWuqRefIdeal.main_arg1)
          ∧ r.2.mem ((c.tc : Thread Cert.AdWuqRefIdeal.nD Cert.AdWuqRefIdeal.τ).loc Cert.AdWuqRefIdeal.main_arg2) = m' ((c.tc : Thread Cert.AdWuqRefIdeal.nD Cert.AdWuqRefIdeal.τ).loc Cert.AdWuqRefIdeal.main_arg2)
          ∧ r.2.mem ((c.tc : Thread Cert.AdWuqRefIdeal.nD Cert.AdWuqRefIdeal.τ).loc Cert.AdWuqRefIdeal.main_arg3) = m' ((c.tc : Thread Cert.AdWuqRefIdeal.nD Cert.AdWuqRefIdeal.τ).loc Cert.AdWuqRefIdeal.main_arg3))

def preserves_AdWukv_AdWukvIdeal : Prop :=
  True

def algebraic_AdWukvIdeal_AdWukvRefIdeal [hAdWukvIdeal : Cert.AdWukvIdeal.Facts] [hAdWukvRefIdeal : Cert.AdWukvRefIdeal.Facts] : Prop :=
  ∀ (m : (ℓ : Loc Cert.AdWukvIdeal.nD Cert.AdWukvIdeal.τ Cert.AdWukvIdeal.sig) → Buf (Elt Ideal) ℓ) (g : Dev Cert.AdWukvIdeal.nD → PrngReg)
    (m' : (ℓ : Loc Cert.AdWukvRefIdeal.nD Cert.AdWukvRefIdeal.τ Cert.AdWukvRefIdeal.sig) → Buf (Elt Ideal) ℓ) (g' : Dev Cert.AdWukvRefIdeal.nD → PrngReg), Pre_AdWukvIdeal m →
    (∀ c : Dev Cert.AdWukvIdeal.nD,
      m' ((c.tc : Thread Cert.AdWukvRefIdeal.nD Cert.AdWukvRefIdeal.τ).loc Cert.AdWukvRefIdeal.main_arg0) = m ((c.tc : Thread Cert.AdWukvIdeal.nD Cert.AdWukvIdeal.τ).loc Cert.AdWukvIdeal.main_arg0)
      ∧ m' ((c.tc : Thread Cert.AdWukvRefIdeal.nD Cert.AdWukvRefIdeal.τ).loc Cert.AdWukvRefIdeal.main_arg1) = m ((c.tc : Thread Cert.AdWukvIdeal.nD Cert.AdWukvIdeal.τ).loc Cert.AdWukvIdeal.main_arg1)
      ∧ m' ((c.tc : Thread Cert.AdWukvRefIdeal.nD Cert.AdWukvRefIdeal.τ).loc Cert.AdWukvRefIdeal.main_arg2) = m ((c.tc : Thread Cert.AdWukvIdeal.nD Cert.AdWukvIdeal.τ).loc Cert.AdWukvIdeal.main_arg2)
      ∧ m' ((c.tc : Thread Cert.AdWukvRefIdeal.nD Cert.AdWukvRefIdeal.τ).loc Cert.AdWukvRefIdeal.main_arg3) = m ((c.tc : Thread Cert.AdWukvIdeal.nD Cert.AdWukvIdeal.τ).loc Cert.AdWukvIdeal.main_arg3)) →
    ∃ (v0 : (c : Dev Cert.AdWukvIdeal.nD) → Buf (Elt Ideal) ((c.tc : Thread Cert.AdWukvIdeal.nD Cert.AdWukvIdeal.τ).loc Cert.AdWukvIdeal.main_v0_0)) (v1 : (c : Dev Cert.AdWukvIdeal.nD) → Buf (Elt Ideal) ((c.tc : Thread Cert.AdWukvIdeal.nD Cert.AdWukvIdeal.τ).loc Cert.AdWukvIdeal.main_v0_1)) (v2 : (c : Dev Cert.AdWukvIdeal.nD) → Buf (Elt Ideal) ((c.tc : Thread Cert.AdWukvIdeal.nD Cert.AdWukvIdeal.τ).loc Cert.AdWukvIdeal.main_v0_2)) (v3 : (c : Dev Cert.AdWukvIdeal.nD) → Buf (Elt Ideal) ((c.tc : Thread Cert.AdWukvIdeal.nD Cert.AdWukvIdeal.τ).loc Cert.AdWukvIdeal.main_v0_3)),
      θ_run (Cert.AdWukvIdeal.defs (F := Ideal)) (onTc (τ := Cert.AdWukvIdeal.τ) (Cert.AdWukvIdeal.main (F := Ideal))) ⟨m, fun _ => 0, g⟩ (fun r => ∀ c : Dev Cert.AdWukvIdeal.nD,
          r.2.mem ((c.tc : Thread Cert.AdWukvIdeal.nD Cert.AdWukvIdeal.τ).loc Cert.AdWukvIdeal.main_v0_0) = v0 c
          ∧ r.2.mem ((c.tc : Thread Cert.AdWukvIdeal.nD Cert.AdWukvIdeal.τ).loc Cert.AdWukvIdeal.main_v0_1) = v1 c
          ∧ r.2.mem ((c.tc : Thread Cert.AdWukvIdeal.nD Cert.AdWukvIdeal.τ).loc Cert.AdWukvIdeal.main_v0_2) = v2 c
          ∧ r.2.mem ((c.tc : Thread Cert.AdWukvIdeal.nD Cert.AdWukvIdeal.τ).loc Cert.AdWukvIdeal.main_v0_3) = v3 c
          ∧ r.2.mem ((c.tc : Thread Cert.AdWukvIdeal.nD Cert.AdWukvIdeal.τ).loc Cert.AdWukvIdeal.main_arg0) = m ((c.tc : Thread Cert.AdWukvIdeal.nD Cert.AdWukvIdeal.τ).loc Cert.AdWukvIdeal.main_arg0)
          ∧ r.2.mem ((c.tc : Thread Cert.AdWukvIdeal.nD Cert.AdWukvIdeal.τ).loc Cert.AdWukvIdeal.main_arg1) = m ((c.tc : Thread Cert.AdWukvIdeal.nD Cert.AdWukvIdeal.τ).loc Cert.AdWukvIdeal.main_arg1)
          ∧ r.2.mem ((c.tc : Thread Cert.AdWukvIdeal.nD Cert.AdWukvIdeal.τ).loc Cert.AdWukvIdeal.main_arg2) = m ((c.tc : Thread Cert.AdWukvIdeal.nD Cert.AdWukvIdeal.τ).loc Cert.AdWukvIdeal.main_arg2)
          ∧ r.2.mem ((c.tc : Thread Cert.AdWukvIdeal.nD Cert.AdWukvIdeal.τ).loc Cert.AdWukvIdeal.main_arg3) = m ((c.tc : Thread Cert.AdWukvIdeal.nD Cert.AdWukvIdeal.τ).loc Cert.AdWukvIdeal.main_arg3))
      ∧ θ_run (Cert.AdWukvRefIdeal.defs (F := Ideal)) (onTc (τ := Cert.AdWukvRefIdeal.τ) (Cert.AdWukvRefIdeal.main (F := Ideal))) ⟨m', fun _ => 0, g'⟩ (fun r => ∀ c : Dev Cert.AdWukvRefIdeal.nD,
          r.2.mem ((c.tc : Thread Cert.AdWukvRefIdeal.nD Cert.AdWukvRefIdeal.τ).loc Cert.AdWukvRefIdeal.main_v1) = v0 c
          ∧ r.2.mem ((c.tc : Thread Cert.AdWukvRefIdeal.nD Cert.AdWukvRefIdeal.τ).loc Cert.AdWukvRefIdeal.main_v25) = v1 c
          ∧ r.2.mem ((c.tc : Thread Cert.AdWukvRefIdeal.nD Cert.AdWukvRefIdeal.τ).loc Cert.AdWukvRefIdeal.main_v6) = v2 c
          ∧ r.2.mem ((c.tc : Thread Cert.AdWukvRefIdeal.nD Cert.AdWukvRefIdeal.τ).loc Cert.AdWukvRefIdeal.main_v12) = v3 c
          ∧ r.2.mem ((c.tc : Thread Cert.AdWukvRefIdeal.nD Cert.AdWukvRefIdeal.τ).loc Cert.AdWukvRefIdeal.main_arg0) = m' ((c.tc : Thread Cert.AdWukvRefIdeal.nD Cert.AdWukvRefIdeal.τ).loc Cert.AdWukvRefIdeal.main_arg0)
          ∧ r.2.mem ((c.tc : Thread Cert.AdWukvRefIdeal.nD Cert.AdWukvRefIdeal.τ).loc Cert.AdWukvRefIdeal.main_arg1) = m' ((c.tc : Thread Cert.AdWukvRefIdeal.nD Cert.AdWukvRefIdeal.τ).loc Cert.AdWukvRefIdeal.main_arg1)
          ∧ r.2.mem ((c.tc : Thread Cert.AdWukvRefIdeal.nD Cert.AdWukvRefIdeal.τ).loc Cert.AdWukvRefIdeal.main_arg2) = m' ((c.tc : Thread Cert.AdWukvRefIdeal.nD Cert.AdWukvRefIdeal.τ).loc Cert.AdWukvRefIdeal.main_arg2)
          ∧ r.2.mem ((c.tc : Thread Cert.AdWukvRefIdeal.nD Cert.AdWukvRefIdeal.τ).loc Cert.AdWukvRefIdeal.main_arg3) = m' ((c.tc : Thread Cert.AdWukvRefIdeal.nD Cert.AdWukvRefIdeal.τ).loc Cert.AdWukvRefIdeal.main_arg3))

def preserves_AdWout_AdWoutIdeal : Prop :=
  True

def algebraic_AdWoutIdeal_AdWoutRefIdeal [hAdWoutIdeal : Cert.AdWoutIdeal.Facts] [hAdWoutRefIdeal : Cert.AdWoutRefIdeal.Facts] : Prop :=
  ∀ (m : (ℓ : Loc Cert.AdWoutIdeal.nD Cert.AdWoutIdeal.τ Cert.AdWoutIdeal.sig) → Buf (Elt Ideal) ℓ) (g : Dev Cert.AdWoutIdeal.nD → PrngReg)
    (m' : (ℓ : Loc Cert.AdWoutRefIdeal.nD Cert.AdWoutRefIdeal.τ Cert.AdWoutRefIdeal.sig) → Buf (Elt Ideal) ℓ) (g' : Dev Cert.AdWoutRefIdeal.nD → PrngReg), Pre_AdWoutIdeal m →
    (∀ c : Dev Cert.AdWoutIdeal.nD,
      m' ((c.tc : Thread Cert.AdWoutRefIdeal.nD Cert.AdWoutRefIdeal.τ).loc Cert.AdWoutRefIdeal.main_arg0) = m ((c.tc : Thread Cert.AdWoutIdeal.nD Cert.AdWoutIdeal.τ).loc Cert.AdWoutIdeal.main_arg0)
      ∧ m' ((c.tc : Thread Cert.AdWoutRefIdeal.nD Cert.AdWoutRefIdeal.τ).loc Cert.AdWoutRefIdeal.main_arg1) = m ((c.tc : Thread Cert.AdWoutIdeal.nD Cert.AdWoutIdeal.τ).loc Cert.AdWoutIdeal.main_arg1)
      ∧ m' ((c.tc : Thread Cert.AdWoutRefIdeal.nD Cert.AdWoutRefIdeal.τ).loc Cert.AdWoutRefIdeal.main_arg2) = m ((c.tc : Thread Cert.AdWoutIdeal.nD Cert.AdWoutIdeal.τ).loc Cert.AdWoutIdeal.main_arg2)
      ∧ m' ((c.tc : Thread Cert.AdWoutRefIdeal.nD Cert.AdWoutRefIdeal.τ).loc Cert.AdWoutRefIdeal.main_arg3) = m ((c.tc : Thread Cert.AdWoutIdeal.nD Cert.AdWoutIdeal.τ).loc Cert.AdWoutIdeal.main_arg3)) →
    ∃ (v0 : (c : Dev Cert.AdWoutIdeal.nD) → Buf (Elt Ideal) ((c.tc : Thread Cert.AdWoutIdeal.nD Cert.AdWoutIdeal.τ).loc Cert.AdWoutIdeal.main_v0_0)) (v1 : (c : Dev Cert.AdWoutIdeal.nD) → Buf (Elt Ideal) ((c.tc : Thread Cert.AdWoutIdeal.nD Cert.AdWoutIdeal.τ).loc Cert.AdWoutIdeal.main_v0_1)) (v2 : (c : Dev Cert.AdWoutIdeal.nD) → Buf (Elt Ideal) ((c.tc : Thread Cert.AdWoutIdeal.nD Cert.AdWoutIdeal.τ).loc Cert.AdWoutIdeal.main_v0_2)) (v3 : (c : Dev Cert.AdWoutIdeal.nD) → Buf (Elt Ideal) ((c.tc : Thread Cert.AdWoutIdeal.nD Cert.AdWoutIdeal.τ).loc Cert.AdWoutIdeal.main_v0_3)),
      θ_run (Cert.AdWoutIdeal.defs (F := Ideal)) (onTc (τ := Cert.AdWoutIdeal.τ) (Cert.AdWoutIdeal.main (F := Ideal))) ⟨m, fun _ => 0, g⟩ (fun r => ∀ c : Dev Cert.AdWoutIdeal.nD,
          r.2.mem ((c.tc : Thread Cert.AdWoutIdeal.nD Cert.AdWoutIdeal.τ).loc Cert.AdWoutIdeal.main_v0_0) = v0 c
          ∧ r.2.mem ((c.tc : Thread Cert.AdWoutIdeal.nD Cert.AdWoutIdeal.τ).loc Cert.AdWoutIdeal.main_v0_1) = v1 c
          ∧ r.2.mem ((c.tc : Thread Cert.AdWoutIdeal.nD Cert.AdWoutIdeal.τ).loc Cert.AdWoutIdeal.main_v0_2) = v2 c
          ∧ r.2.mem ((c.tc : Thread Cert.AdWoutIdeal.nD Cert.AdWoutIdeal.τ).loc Cert.AdWoutIdeal.main_v0_3) = v3 c
          ∧ r.2.mem ((c.tc : Thread Cert.AdWoutIdeal.nD Cert.AdWoutIdeal.τ).loc Cert.AdWoutIdeal.main_arg0) = m ((c.tc : Thread Cert.AdWoutIdeal.nD Cert.AdWoutIdeal.τ).loc Cert.AdWoutIdeal.main_arg0)
          ∧ r.2.mem ((c.tc : Thread Cert.AdWoutIdeal.nD Cert.AdWoutIdeal.τ).loc Cert.AdWoutIdeal.main_arg1) = m ((c.tc : Thread Cert.AdWoutIdeal.nD Cert.AdWoutIdeal.τ).loc Cert.AdWoutIdeal.main_arg1)
          ∧ r.2.mem ((c.tc : Thread Cert.AdWoutIdeal.nD Cert.AdWoutIdeal.τ).loc Cert.AdWoutIdeal.main_arg2) = m ((c.tc : Thread Cert.AdWoutIdeal.nD Cert.AdWoutIdeal.τ).loc Cert.AdWoutIdeal.main_arg2)
          ∧ r.2.mem ((c.tc : Thread Cert.AdWoutIdeal.nD Cert.AdWoutIdeal.τ).loc Cert.AdWoutIdeal.main_arg3) = m ((c.tc : Thread Cert.AdWoutIdeal.nD Cert.AdWoutIdeal.τ).loc Cert.AdWoutIdeal.main_arg3))
      ∧ θ_run (Cert.AdWoutRefIdeal.defs (F := Ideal)) (onTc (τ := Cert.AdWoutRefIdeal.τ) (Cert.AdWoutRefIdeal.main (F := Ideal))) ⟨m', fun _ => 0, g'⟩ (fun r => ∀ c : Dev Cert.AdWoutRefIdeal.nD,
          r.2.mem ((c.tc : Thread Cert.AdWoutRefIdeal.nD Cert.AdWoutRefIdeal.τ).loc Cert.AdWoutRefIdeal.main_v1) = v0 c
          ∧ r.2.mem ((c.tc : Thread Cert.AdWoutRefIdeal.nD Cert.AdWoutRefIdeal.τ).loc Cert.AdWoutRefIdeal.main_v25) = v1 c
          ∧ r.2.mem ((c.tc : Thread Cert.AdWoutRefIdeal.nD Cert.AdWoutRefIdeal.τ).loc Cert.AdWoutRefIdeal.main_v6) = v2 c
          ∧ r.2.mem ((c.tc : Thread Cert.AdWoutRefIdeal.nD Cert.AdWoutRefIdeal.τ).loc Cert.AdWoutRefIdeal.main_v12) = v3 c
          ∧ r.2.mem ((c.tc : Thread Cert.AdWoutRefIdeal.nD Cert.AdWoutRefIdeal.τ).loc Cert.AdWoutRefIdeal.main_arg0) = m' ((c.tc : Thread Cert.AdWoutRefIdeal.nD Cert.AdWoutRefIdeal.τ).loc Cert.AdWoutRefIdeal.main_arg0)
          ∧ r.2.mem ((c.tc : Thread Cert.AdWoutRefIdeal.nD Cert.AdWoutRefIdeal.τ).loc Cert.AdWoutRefIdeal.main_arg1) = m' ((c.tc : Thread Cert.AdWoutRefIdeal.nD Cert.AdWoutRefIdeal.τ).loc Cert.AdWoutRefIdeal.main_arg1)
          ∧ r.2.mem ((c.tc : Thread Cert.AdWoutRefIdeal.nD Cert.AdWoutRefIdeal.τ).loc Cert.AdWoutRefIdeal.main_arg2) = m' ((c.tc : Thread Cert.AdWoutRefIdeal.nD Cert.AdWoutRefIdeal.τ).loc Cert.AdWoutRefIdeal.main_arg2)
          ∧ r.2.mem ((c.tc : Thread Cert.AdWoutRefIdeal.nD Cert.AdWoutRefIdeal.τ).loc Cert.AdWoutRefIdeal.main_arg3) = m' ((c.tc : Thread Cert.AdWoutRefIdeal.nD Cert.AdWoutRefIdeal.τ).loc Cert.AdWoutRefIdeal.main_arg3))

def preserves_AdWup_AdWupIdeal : Prop :=
  True

def algebraic_AdWupIdeal_AdWupRefIdeal [hAdWupIdeal : Cert.AdWupIdeal.Facts] [hAdWupRefIdeal : Cert.AdWupRefIdeal.Facts] : Prop :=
  ∀ (m : (ℓ : Loc Cert.AdWupIdeal.nD Cert.AdWupIdeal.τ Cert.AdWupIdeal.sig) → Buf (Elt Ideal) ℓ) (g : Dev Cert.AdWupIdeal.nD → PrngReg)
    (m' : (ℓ : Loc Cert.AdWupRefIdeal.nD Cert.AdWupRefIdeal.τ Cert.AdWupRefIdeal.sig) → Buf (Elt Ideal) ℓ) (g' : Dev Cert.AdWupRefIdeal.nD → PrngReg), Pre_AdWupIdeal m →
    (∀ c : Dev Cert.AdWupIdeal.nD,
      m' ((c.tc : Thread Cert.AdWupRefIdeal.nD Cert.AdWupRefIdeal.τ).loc Cert.AdWupRefIdeal.main_arg0) = m ((c.tc : Thread Cert.AdWupIdeal.nD Cert.AdWupIdeal.τ).loc Cert.AdWupIdeal.main_arg0)
      ∧ m' ((c.tc : Thread Cert.AdWupRefIdeal.nD Cert.AdWupRefIdeal.τ).loc Cert.AdWupRefIdeal.main_arg1) = m ((c.tc : Thread Cert.AdWupIdeal.nD Cert.AdWupIdeal.τ).loc Cert.AdWupIdeal.main_arg1)
      ∧ m' ((c.tc : Thread Cert.AdWupRefIdeal.nD Cert.AdWupRefIdeal.τ).loc Cert.AdWupRefIdeal.main_arg2) = m ((c.tc : Thread Cert.AdWupIdeal.nD Cert.AdWupIdeal.τ).loc Cert.AdWupIdeal.main_arg2)
      ∧ m' ((c.tc : Thread Cert.AdWupRefIdeal.nD Cert.AdWupRefIdeal.τ).loc Cert.AdWupRefIdeal.main_arg3) = m ((c.tc : Thread Cert.AdWupIdeal.nD Cert.AdWupIdeal.τ).loc Cert.AdWupIdeal.main_arg3)) →
    ∃ (v0 : (c : Dev Cert.AdWupIdeal.nD) → Buf (Elt Ideal) ((c.tc : Thread Cert.AdWupIdeal.nD Cert.AdWupIdeal.τ).loc Cert.AdWupIdeal.main_v0_0)) (v1 : (c : Dev Cert.AdWupIdeal.nD) → Buf (Elt Ideal) ((c.tc : Thread Cert.AdWupIdeal.nD Cert.AdWupIdeal.τ).loc Cert.AdWupIdeal.main_v0_1)) (v2 : (c : Dev Cert.AdWupIdeal.nD) → Buf (Elt Ideal) ((c.tc : Thread Cert.AdWupIdeal.nD Cert.AdWupIdeal.τ).loc Cert.AdWupIdeal.main_v0_2)) (v3 : (c : Dev Cert.AdWupIdeal.nD) → Buf (Elt Ideal) ((c.tc : Thread Cert.AdWupIdeal.nD Cert.AdWupIdeal.τ).loc Cert.AdWupIdeal.main_v0_3)),
      θ_run (Cert.AdWupIdeal.defs (F := Ideal)) (onTc (τ := Cert.AdWupIdeal.τ) (Cert.AdWupIdeal.main (F := Ideal))) ⟨m, fun _ => 0, g⟩ (fun r => ∀ c : Dev Cert.AdWupIdeal.nD,
          r.2.mem ((c.tc : Thread Cert.AdWupIdeal.nD Cert.AdWupIdeal.τ).loc Cert.AdWupIdeal.main_v0_0) = v0 c
          ∧ r.2.mem ((c.tc : Thread Cert.AdWupIdeal.nD Cert.AdWupIdeal.τ).loc Cert.AdWupIdeal.main_v0_1) = v1 c
          ∧ r.2.mem ((c.tc : Thread Cert.AdWupIdeal.nD Cert.AdWupIdeal.τ).loc Cert.AdWupIdeal.main_v0_2) = v2 c
          ∧ r.2.mem ((c.tc : Thread Cert.AdWupIdeal.nD Cert.AdWupIdeal.τ).loc Cert.AdWupIdeal.main_v0_3) = v3 c
          ∧ r.2.mem ((c.tc : Thread Cert.AdWupIdeal.nD Cert.AdWupIdeal.τ).loc Cert.AdWupIdeal.main_arg0) = m ((c.tc : Thread Cert.AdWupIdeal.nD Cert.AdWupIdeal.τ).loc Cert.AdWupIdeal.main_arg0)
          ∧ r.2.mem ((c.tc : Thread Cert.AdWupIdeal.nD Cert.AdWupIdeal.τ).loc Cert.AdWupIdeal.main_arg1) = m ((c.tc : Thread Cert.AdWupIdeal.nD Cert.AdWupIdeal.τ).loc Cert.AdWupIdeal.main_arg1)
          ∧ r.2.mem ((c.tc : Thread Cert.AdWupIdeal.nD Cert.AdWupIdeal.τ).loc Cert.AdWupIdeal.main_arg2) = m ((c.tc : Thread Cert.AdWupIdeal.nD Cert.AdWupIdeal.τ).loc Cert.AdWupIdeal.main_arg2)
          ∧ r.2.mem ((c.tc : Thread Cert.AdWupIdeal.nD Cert.AdWupIdeal.τ).loc Cert.AdWupIdeal.main_arg3) = m ((c.tc : Thread Cert.AdWupIdeal.nD Cert.AdWupIdeal.τ).loc Cert.AdWupIdeal.main_arg3))
      ∧ θ_run (Cert.AdWupRefIdeal.defs (F := Ideal)) (onTc (τ := Cert.AdWupRefIdeal.τ) (Cert.AdWupRefIdeal.main (F := Ideal))) ⟨m', fun _ => 0, g'⟩ (fun r => ∀ c : Dev Cert.AdWupRefIdeal.nD,
          r.2.mem ((c.tc : Thread Cert.AdWupRefIdeal.nD Cert.AdWupRefIdeal.τ).loc Cert.AdWupRefIdeal.main_v1) = v0 c
          ∧ r.2.mem ((c.tc : Thread Cert.AdWupRefIdeal.nD Cert.AdWupRefIdeal.τ).loc Cert.AdWupRefIdeal.main_v25) = v1 c
          ∧ r.2.mem ((c.tc : Thread Cert.AdWupRefIdeal.nD Cert.AdWupRefIdeal.τ).loc Cert.AdWupRefIdeal.main_v6) = v2 c
          ∧ r.2.mem ((c.tc : Thread Cert.AdWupRefIdeal.nD Cert.AdWupRefIdeal.τ).loc Cert.AdWupRefIdeal.main_v12) = v3 c
          ∧ r.2.mem ((c.tc : Thread Cert.AdWupRefIdeal.nD Cert.AdWupRefIdeal.τ).loc Cert.AdWupRefIdeal.main_arg0) = m' ((c.tc : Thread Cert.AdWupRefIdeal.nD Cert.AdWupRefIdeal.τ).loc Cert.AdWupRefIdeal.main_arg0)
          ∧ r.2.mem ((c.tc : Thread Cert.AdWupRefIdeal.nD Cert.AdWupRefIdeal.τ).loc Cert.AdWupRefIdeal.main_arg1) = m' ((c.tc : Thread Cert.AdWupRefIdeal.nD Cert.AdWupRefIdeal.τ).loc Cert.AdWupRefIdeal.main_arg1)
          ∧ r.2.mem ((c.tc : Thread Cert.AdWupRefIdeal.nD Cert.AdWupRefIdeal.τ).loc Cert.AdWupRefIdeal.main_arg2) = m' ((c.tc : Thread Cert.AdWupRefIdeal.nD Cert.AdWupRefIdeal.τ).loc Cert.AdWupRefIdeal.main_arg2)
          ∧ r.2.mem ((c.tc : Thread Cert.AdWupRefIdeal.nD Cert.AdWupRefIdeal.τ).loc Cert.AdWupRefIdeal.main_arg3) = m' ((c.tc : Thread Cert.AdWupRefIdeal.nD Cert.AdWupRefIdeal.τ).loc Cert.AdWupRefIdeal.main_arg3))

def preserves_AdWdown_AdWdownIdeal : Prop :=
  True

def algebraic_AdWdownIdeal_AdWdownRefIdeal [hAdWdownIdeal : Cert.AdWdownIdeal.Facts] [hAdWdownRefIdeal : Cert.AdWdownRefIdeal.Facts] : Prop :=
  ∀ (m : (ℓ : Loc Cert.AdWdownIdeal.nD Cert.AdWdownIdeal.τ Cert.AdWdownIdeal.sig) → Buf (Elt Ideal) ℓ) (g : Dev Cert.AdWdownIdeal.nD → PrngReg)
    (m' : (ℓ : Loc Cert.AdWdownRefIdeal.nD Cert.AdWdownRefIdeal.τ Cert.AdWdownRefIdeal.sig) → Buf (Elt Ideal) ℓ) (g' : Dev Cert.AdWdownRefIdeal.nD → PrngReg), Pre_AdWdownIdeal m →
    (∀ c : Dev Cert.AdWdownIdeal.nD,
      m' ((c.tc : Thread Cert.AdWdownRefIdeal.nD Cert.AdWdownRefIdeal.τ).loc Cert.AdWdownRefIdeal.main_arg0) = m ((c.tc : Thread Cert.AdWdownIdeal.nD Cert.AdWdownIdeal.τ).loc Cert.AdWdownIdeal.main_arg0)
      ∧ m' ((c.tc : Thread Cert.AdWdownRefIdeal.nD Cert.AdWdownRefIdeal.τ).loc Cert.AdWdownRefIdeal.main_arg1) = m ((c.tc : Thread Cert.AdWdownIdeal.nD Cert.AdWdownIdeal.τ).loc Cert.AdWdownIdeal.main_arg1)
      ∧ m' ((c.tc : Thread Cert.AdWdownRefIdeal.nD Cert.AdWdownRefIdeal.τ).loc Cert.AdWdownRefIdeal.main_arg2) = m ((c.tc : Thread Cert.AdWdownIdeal.nD Cert.AdWdownIdeal.τ).loc Cert.AdWdownIdeal.main_arg2)
      ∧ m' ((c.tc : Thread Cert.AdWdownRefIdeal.nD Cert.AdWdownRefIdeal.τ).loc Cert.AdWdownRefIdeal.main_arg3) = m ((c.tc : Thread Cert.AdWdownIdeal.nD Cert.AdWdownIdeal.τ).loc Cert.AdWdownIdeal.main_arg3)) →
    ∃ (v0 : (c : Dev Cert.AdWdownIdeal.nD) → Buf (Elt Ideal) ((c.tc : Thread Cert.AdWdownIdeal.nD Cert.AdWdownIdeal.τ).loc Cert.AdWdownIdeal.main_v0_0)) (v1 : (c : Dev Cert.AdWdownIdeal.nD) → Buf (Elt Ideal) ((c.tc : Thread Cert.AdWdownIdeal.nD Cert.AdWdownIdeal.τ).loc Cert.AdWdownIdeal.main_v0_1)) (v2 : (c : Dev Cert.AdWdownIdeal.nD) → Buf (Elt Ideal) ((c.tc : Thread Cert.AdWdownIdeal.nD Cert.AdWdownIdeal.τ).loc Cert.AdWdownIdeal.main_v0_2)) (v3 : (c : Dev Cert.AdWdownIdeal.nD) → Buf (Elt Ideal) ((c.tc : Thread Cert.AdWdownIdeal.nD Cert.AdWdownIdeal.τ).loc Cert.AdWdownIdeal.main_v0_3)),
      θ_run (Cert.AdWdownIdeal.defs (F := Ideal)) (onTc (τ := Cert.AdWdownIdeal.τ) (Cert.AdWdownIdeal.main (F := Ideal))) ⟨m, fun _ => 0, g⟩ (fun r => ∀ c : Dev Cert.AdWdownIdeal.nD,
          r.2.mem ((c.tc : Thread Cert.AdWdownIdeal.nD Cert.AdWdownIdeal.τ).loc Cert.AdWdownIdeal.main_v0_0) = v0 c
          ∧ r.2.mem ((c.tc : Thread Cert.AdWdownIdeal.nD Cert.AdWdownIdeal.τ).loc Cert.AdWdownIdeal.main_v0_1) = v1 c
          ∧ r.2.mem ((c.tc : Thread Cert.AdWdownIdeal.nD Cert.AdWdownIdeal.τ).loc Cert.AdWdownIdeal.main_v0_2) = v2 c
          ∧ r.2.mem ((c.tc : Thread Cert.AdWdownIdeal.nD Cert.AdWdownIdeal.τ).loc Cert.AdWdownIdeal.main_v0_3) = v3 c
          ∧ r.2.mem ((c.tc : Thread Cert.AdWdownIdeal.nD Cert.AdWdownIdeal.τ).loc Cert.AdWdownIdeal.main_arg0) = m ((c.tc : Thread Cert.AdWdownIdeal.nD Cert.AdWdownIdeal.τ).loc Cert.AdWdownIdeal.main_arg0)
          ∧ r.2.mem ((c.tc : Thread Cert.AdWdownIdeal.nD Cert.AdWdownIdeal.τ).loc Cert.AdWdownIdeal.main_arg1) = m ((c.tc : Thread Cert.AdWdownIdeal.nD Cert.AdWdownIdeal.τ).loc Cert.AdWdownIdeal.main_arg1)
          ∧ r.2.mem ((c.tc : Thread Cert.AdWdownIdeal.nD Cert.AdWdownIdeal.τ).loc Cert.AdWdownIdeal.main_arg2) = m ((c.tc : Thread Cert.AdWdownIdeal.nD Cert.AdWdownIdeal.τ).loc Cert.AdWdownIdeal.main_arg2)
          ∧ r.2.mem ((c.tc : Thread Cert.AdWdownIdeal.nD Cert.AdWdownIdeal.τ).loc Cert.AdWdownIdeal.main_arg3) = m ((c.tc : Thread Cert.AdWdownIdeal.nD Cert.AdWdownIdeal.τ).loc Cert.AdWdownIdeal.main_arg3))
      ∧ θ_run (Cert.AdWdownRefIdeal.defs (F := Ideal)) (onTc (τ := Cert.AdWdownRefIdeal.τ) (Cert.AdWdownRefIdeal.main (F := Ideal))) ⟨m', fun _ => 0, g'⟩ (fun r => ∀ c : Dev Cert.AdWdownRefIdeal.nD,
          r.2.mem ((c.tc : Thread Cert.AdWdownRefIdeal.nD Cert.AdWdownRefIdeal.τ).loc Cert.AdWdownRefIdeal.main_v1) = v0 c
          ∧ r.2.mem ((c.tc : Thread Cert.AdWdownRefIdeal.nD Cert.AdWdownRefIdeal.τ).loc Cert.AdWdownRefIdeal.main_v25) = v1 c
          ∧ r.2.mem ((c.tc : Thread Cert.AdWdownRefIdeal.nD Cert.AdWdownRefIdeal.τ).loc Cert.AdWdownRefIdeal.main_v6) = v2 c
          ∧ r.2.mem ((c.tc : Thread Cert.AdWdownRefIdeal.nD Cert.AdWdownRefIdeal.τ).loc Cert.AdWdownRefIdeal.main_v12) = v3 c
          ∧ r.2.mem ((c.tc : Thread Cert.AdWdownRefIdeal.nD Cert.AdWdownRefIdeal.τ).loc Cert.AdWdownRefIdeal.main_arg0) = m' ((c.tc : Thread Cert.AdWdownRefIdeal.nD Cert.AdWdownRefIdeal.τ).loc Cert.AdWdownRefIdeal.main_arg0)
          ∧ r.2.mem ((c.tc : Thread Cert.AdWdownRefIdeal.nD Cert.AdWdownRefIdeal.τ).loc Cert.AdWdownRefIdeal.main_arg1) = m' ((c.tc : Thread Cert.AdWdownRefIdeal.nD Cert.AdWdownRefIdeal.τ).loc Cert.AdWdownRefIdeal.main_arg1)
          ∧ r.2.mem ((c.tc : Thread Cert.AdWdownRefIdeal.nD Cert.AdWdownRefIdeal.τ).loc Cert.AdWdownRefIdeal.main_arg2) = m' ((c.tc : Thread Cert.AdWdownRefIdeal.nD Cert.AdWdownRefIdeal.τ).loc Cert.AdWdownRefIdeal.main_arg2)
          ∧ r.2.mem ((c.tc : Thread Cert.AdWdownRefIdeal.nD Cert.AdWdownRefIdeal.τ).loc Cert.AdWdownRefIdeal.main_arg3) = m' ((c.tc : Thread Cert.AdWdownRefIdeal.nD Cert.AdWdownRefIdeal.τ).loc Cert.AdWdownRefIdeal.main_arg3))

def preserves_AdConvw_AdConvwIdeal : Prop :=
  True

def algebraic_AdConvwIdeal_AdConvwRefIdeal [hAdConvwIdeal : Cert.AdConvwIdeal.Facts] [hAdConvwRefIdeal : Cert.AdConvwRefIdeal.Facts] : Prop :=
  ∀ (m : (ℓ : Loc Cert.AdConvwIdeal.nD Cert.AdConvwIdeal.τ Cert.AdConvwIdeal.sig) → Buf (Elt Ideal) ℓ) (g : Dev Cert.AdConvwIdeal.nD → PrngReg)
    (m' : (ℓ : Loc Cert.AdConvwRefIdeal.nD Cert.AdConvwRefIdeal.τ Cert.AdConvwRefIdeal.sig) → Buf (Elt Ideal) ℓ) (g' : Dev Cert.AdConvwRefIdeal.nD → PrngReg), Pre_AdConvwIdeal m →
    (∀ c : Dev Cert.AdConvwIdeal.nD,
      m' ((c.tc : Thread Cert.AdConvwRefIdeal.nD Cert.AdConvwRefIdeal.τ).loc Cert.AdConvwRefIdeal.main_arg0) = m ((c.tc : Thread Cert.AdConvwIdeal.nD Cert.AdConvwIdeal.τ).loc Cert.AdConvwIdeal.main_arg0)
      ∧ m' ((c.tc : Thread Cert.AdConvwRefIdeal.nD Cert.AdConvwRefIdeal.τ).loc Cert.AdConvwRefIdeal.main_arg1) = m ((c.tc : Thread Cert.AdConvwIdeal.nD Cert.AdConvwIdeal.τ).loc Cert.AdConvwIdeal.main_arg1)
      ∧ m' ((c.tc : Thread Cert.AdConvwRefIdeal.nD Cert.AdConvwRefIdeal.τ).loc Cert.AdConvwRefIdeal.main_arg2) = m ((c.tc : Thread Cert.AdConvwIdeal.nD Cert.AdConvwIdeal.τ).loc Cert.AdConvwIdeal.main_arg2)
      ∧ m' ((c.tc : Thread Cert.AdConvwRefIdeal.nD Cert.AdConvwRefIdeal.τ).loc Cert.AdConvwRefIdeal.main_arg3) = m ((c.tc : Thread Cert.AdConvwIdeal.nD Cert.AdConvwIdeal.τ).loc Cert.AdConvwIdeal.main_arg3)) →
    ∃ (v0 : (c : Dev Cert.AdConvwIdeal.nD) → Buf (Elt Ideal) ((c.tc : Thread Cert.AdConvwIdeal.nD Cert.AdConvwIdeal.τ).loc Cert.AdConvwIdeal.main_v0_0)) (v1 : (c : Dev Cert.AdConvwIdeal.nD) → Buf (Elt Ideal) ((c.tc : Thread Cert.AdConvwIdeal.nD Cert.AdConvwIdeal.τ).loc Cert.AdConvwIdeal.main_v0_1)) (v2 : (c : Dev Cert.AdConvwIdeal.nD) → Buf (Elt Ideal) ((c.tc : Thread Cert.AdConvwIdeal.nD Cert.AdConvwIdeal.τ).loc Cert.AdConvwIdeal.main_v0_2)) (v3 : (c : Dev Cert.AdConvwIdeal.nD) → Buf (Elt Ideal) ((c.tc : Thread Cert.AdConvwIdeal.nD Cert.AdConvwIdeal.τ).loc Cert.AdConvwIdeal.main_v0_3)),
      θ_run (Cert.AdConvwIdeal.defs (F := Ideal)) (onTc (τ := Cert.AdConvwIdeal.τ) (Cert.AdConvwIdeal.main (F := Ideal))) ⟨m, fun _ => 0, g⟩ (fun r => ∀ c : Dev Cert.AdConvwIdeal.nD,
          r.2.mem ((c.tc : Thread Cert.AdConvwIdeal.nD Cert.AdConvwIdeal.τ).loc Cert.AdConvwIdeal.main_v0_0) = v0 c
          ∧ r.2.mem ((c.tc : Thread Cert.AdConvwIdeal.nD Cert.AdConvwIdeal.τ).loc Cert.AdConvwIdeal.main_v0_1) = v1 c
          ∧ r.2.mem ((c.tc : Thread Cert.AdConvwIdeal.nD Cert.AdConvwIdeal.τ).loc Cert.AdConvwIdeal.main_v0_2) = v2 c
          ∧ r.2.mem ((c.tc : Thread Cert.AdConvwIdeal.nD Cert.AdConvwIdeal.τ).loc Cert.AdConvwIdeal.main_v0_3) = v3 c
          ∧ r.2.mem ((c.tc : Thread Cert.AdConvwIdeal.nD Cert.AdConvwIdeal.τ).loc Cert.AdConvwIdeal.main_arg0) = m ((c.tc : Thread Cert.AdConvwIdeal.nD Cert.AdConvwIdeal.τ).loc Cert.AdConvwIdeal.main_arg0)
          ∧ r.2.mem ((c.tc : Thread Cert.AdConvwIdeal.nD Cert.AdConvwIdeal.τ).loc Cert.AdConvwIdeal.main_arg1) = m ((c.tc : Thread Cert.AdConvwIdeal.nD Cert.AdConvwIdeal.τ).loc Cert.AdConvwIdeal.main_arg1)
          ∧ r.2.mem ((c.tc : Thread Cert.AdConvwIdeal.nD Cert.AdConvwIdeal.τ).loc Cert.AdConvwIdeal.main_arg2) = m ((c.tc : Thread Cert.AdConvwIdeal.nD Cert.AdConvwIdeal.τ).loc Cert.AdConvwIdeal.main_arg2)
          ∧ r.2.mem ((c.tc : Thread Cert.AdConvwIdeal.nD Cert.AdConvwIdeal.τ).loc Cert.AdConvwIdeal.main_arg3) = m ((c.tc : Thread Cert.AdConvwIdeal.nD Cert.AdConvwIdeal.τ).loc Cert.AdConvwIdeal.main_arg3))
      ∧ θ_run (Cert.AdConvwRefIdeal.defs (F := Ideal)) (onTc (τ := Cert.AdConvwRefIdeal.τ) (Cert.AdConvwRefIdeal.main (F := Ideal))) ⟨m', fun _ => 0, g'⟩ (fun r => ∀ c : Dev Cert.AdConvwRefIdeal.nD,
          r.2.mem ((c.tc : Thread Cert.AdConvwRefIdeal.nD Cert.AdConvwRefIdeal.τ).loc Cert.AdConvwRefIdeal.main_v0) = v0 c
          ∧ r.2.mem ((c.tc : Thread Cert.AdConvwRefIdeal.nD Cert.AdConvwRefIdeal.τ).loc Cert.AdConvwRefIdeal.main_v24) = v1 c
          ∧ r.2.mem ((c.tc : Thread Cert.AdConvwRefIdeal.nD Cert.AdConvwRefIdeal.τ).loc Cert.AdConvwRefIdeal.main_v5) = v2 c
          ∧ r.2.mem ((c.tc : Thread Cert.AdConvwRefIdeal.nD Cert.AdConvwRefIdeal.τ).loc Cert.AdConvwRefIdeal.main_v11) = v3 c
          ∧ r.2.mem ((c.tc : Thread Cert.AdConvwRefIdeal.nD Cert.AdConvwRefIdeal.τ).loc Cert.AdConvwRefIdeal.main_arg0) = m' ((c.tc : Thread Cert.AdConvwRefIdeal.nD Cert.AdConvwRefIdeal.τ).loc Cert.AdConvwRefIdeal.main_arg0)
          ∧ r.2.mem ((c.tc : Thread Cert.AdConvwRefIdeal.nD Cert.AdConvwRefIdeal.τ).loc Cert.AdConvwRefIdeal.main_arg1) = m' ((c.tc : Thread Cert.AdConvwRefIdeal.nD Cert.AdConvwRefIdeal.τ).loc Cert.AdConvwRefIdeal.main_arg1)
          ∧ r.2.mem ((c.tc : Thread Cert.AdConvwRefIdeal.nD Cert.AdConvwRefIdeal.τ).loc Cert.AdConvwRefIdeal.main_arg2) = m' ((c.tc : Thread Cert.AdConvwRefIdeal.nD Cert.AdConvwRefIdeal.τ).loc Cert.AdConvwRefIdeal.main_arg2)
          ∧ r.2.mem ((c.tc : Thread Cert.AdConvwRefIdeal.nD Cert.AdConvwRefIdeal.τ).loc Cert.AdConvwRefIdeal.main_arg3) = m' ((c.tc : Thread Cert.AdConvwRefIdeal.nD Cert.AdConvwRefIdeal.τ).loc Cert.AdConvwRefIdeal.main_arg3))

def Claim : Prop :=
  ∃ (hConv : Cert.Conv.Facts) (hConvIdeal : Cert.ConvIdeal.Facts) (hConvRefIdeal : Cert.ConvRefIdeal.Facts) (hAttn : Cert.Attn.Facts) (hAttnIdeal : Cert.AttnIdeal.Facts) (hAttnRefIdeal : Cert.AttnRefIdeal.Facts) (hUpDw : Cert.UpDw.Facts) (hUpDwIdeal : Cert.UpDwIdeal.Facts) (hUpDwRefIdeal : Cert.UpDwRefIdeal.Facts) (hUpDx : Cert.UpDx.Facts) (hUpDxIdeal : Cert.UpDxIdeal.Facts) (hUpDxRefIdeal : Cert.UpDxRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hOutDw : Cert.OutDw.Facts) (hOutDwIdeal : Cert.OutDwIdeal.Facts) (hOutDwRefIdeal : Cert.OutDwRefIdeal.Facts) (hProjDw : Cert.ProjDw.Facts) (hProjDwIdeal : Cert.ProjDwIdeal.Facts) (hProjDwRefIdeal : Cert.ProjDwRefIdeal.Facts) (hGluDw : Cert.GluDw.Facts) (hGluDwIdeal : Cert.GluDwIdeal.Facts) (hGluDwRefIdeal : Cert.GluDwRefIdeal.Facts) (hQ : Cert.Q.Facts) (hQIdeal : Cert.QIdeal.Facts) (hQRefIdeal : Cert.QRefIdeal.Facts) (hKv : Cert.Kv.Facts) (hKvIdeal : Cert.KvIdeal.Facts) (hKvRefIdeal : Cert.KvRefIdeal.Facts) (hQDw : Cert.QDw.Facts) (hQDwIdeal : Cert.QDwIdeal.Facts) (hQDwRefIdeal : Cert.QDwRefIdeal.Facts) (hKvDw : Cert.KvDw.Facts) (hKvDwIdeal : Cert.KvDwIdeal.Facts) (hKvDwRefIdeal : Cert.KvDwRefIdeal.Facts) (hQDx : Cert.QDx.Facts) (hQDxIdeal : Cert.QDxIdeal.Facts) (hQDxRefIdeal : Cert.QDxRefIdeal.Facts) (hKvDx : Cert.KvDx.Facts) (hKvDxIdeal : Cert.KvDxIdeal.Facts) (hKvDxRefIdeal : Cert.KvDxRefIdeal.Facts) (hAdWin : Cert.AdWin.Facts) (hAdWinIdeal : Cert.AdWinIdeal.Facts) (hAdWinRefIdeal : Cert.AdWinRefIdeal.Facts) (hAdWglu : Cert.AdWglu.Facts) (hAdWgluIdeal : Cert.AdWgluIdeal.Facts) (hAdWgluRefIdeal : Cert.AdWgluRefIdeal.Facts) (hAdWuq : Cert.AdWuq.Facts) (hAdWuqIdeal : Cert.AdWuqIdeal.Facts) (hAdWuqRefIdeal : Cert.AdWuqRefIdeal.Facts) (hAdWukv : Cert.AdWukv.Facts) (hAdWukvIdeal : Cert.AdWukvIdeal.Facts) (hAdWukvRefIdeal : Cert.AdWukvRefIdeal.Facts) (hAdWout : Cert.AdWout.Facts) (hAdWoutIdeal : Cert.AdWoutIdeal.Facts) (hAdWoutRefIdeal : Cert.AdWoutRefIdeal.Facts) (hAdWup : Cert.AdWup.Facts) (hAdWupIdeal : Cert.AdWupIdeal.Facts) (hAdWupRefIdeal : Cert.AdWupRefIdeal.Facts) (hAdWdown : Cert.AdWdown.Facts) (hAdWdownIdeal : Cert.AdWdownIdeal.Facts) (hAdWdownRefIdeal : Cert.AdWdownRefIdeal.Facts) (hAdConvw : Cert.AdConvw.Facts) (hAdConvwIdeal : Cert.AdConvwIdeal.Facts) (hAdConvwRefIdeal : Cert.AdConvwRefIdeal.Facts) (hPre_conv_finite : Cert.Pre_conv_finite.Facts) (hPre_attn_finite : Cert.Pre_attn_finite.Facts),
    quiescent_Conv (hConv := hConv)
    ∧ quiescent_ConvIdeal (hConvIdeal := hConvIdeal)
    ∧ quiescent_ConvIdeal_pre_conv_finite (hConvIdeal := hConvIdeal) (hPre_conv_finite := hPre_conv_finite)
    ∧ quiescent_ConvRefIdeal (hConvRefIdeal := hConvRefIdeal)
    ∧ quiescent_ConvRefIdeal_pre_conv_finite (hConvRefIdeal := hConvRefIdeal) (hPre_conv_finite := hPre_conv_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_GluDw (hGluDw := hGluDw)
    ∧ quiescent_GluDwIdeal (hGluDwIdeal := hGluDwIdeal)
    ∧ quiescent_GluDwRefIdeal (hGluDwRefIdeal := hGluDwRefIdeal)
    ∧ quiescent_Q (hQ := hQ)
    ∧ quiescent_QIdeal (hQIdeal := hQIdeal)
    ∧ quiescent_QRefIdeal (hQRefIdeal := hQRefIdeal)
    ∧ quiescent_Kv (hKv := hKv)
    ∧ quiescent_KvIdeal (hKvIdeal := hKvIdeal)
    ∧ quiescent_KvRefIdeal (hKvRefIdeal := hKvRefIdeal)
    ∧ quiescent_QDw (hQDw := hQDw)
    ∧ quiescent_QDwIdeal (hQDwIdeal := hQDwIdeal)
    ∧ quiescent_QDwRefIdeal (hQDwRefIdeal := hQDwRefIdeal)
    ∧ quiescent_KvDw (hKvDw := hKvDw)
    ∧ quiescent_KvDwIdeal (hKvDwIdeal := hKvDwIdeal)
    ∧ quiescent_KvDwRefIdeal (hKvDwRefIdeal := hKvDwRefIdeal)
    ∧ quiescent_QDx (hQDx := hQDx)
    ∧ quiescent_QDxIdeal (hQDxIdeal := hQDxIdeal)
    ∧ quiescent_QDxRefIdeal (hQDxRefIdeal := hQDxRefIdeal)
    ∧ quiescent_KvDx (hKvDx := hKvDx)
    ∧ quiescent_KvDxIdeal (hKvDxIdeal := hKvDxIdeal)
    ∧ quiescent_KvDxRefIdeal (hKvDxRefIdeal := hKvDxRefIdeal)
    ∧ quiescent_AdWin (hAdWin := hAdWin)
    ∧ quiescent_AdWinIdeal (hAdWinIdeal := hAdWinIdeal)
    ∧ quiescent_AdWinRefIdeal (hAdWinRefIdeal := hAdWinRefIdeal)
    ∧ quiescent_AdWglu (hAdWglu := hAdWglu)
    ∧ quiescent_AdWgluIdeal (hAdWgluIdeal := hAdWgluIdeal)
    ∧ quiescent_AdWgluRefIdeal (hAdWgluRefIdeal := hAdWgluRefIdeal)
    ∧ quiescent_AdWuq (hAdWuq := hAdWuq)
    ∧ quiescent_AdWuqIdeal (hAdWuqIdeal := hAdWuqIdeal)
    ∧ quiescent_AdWuqRefIdeal (hAdWuqRefIdeal := hAdWuqRefIdeal)
    ∧ quiescent_AdWukv (hAdWukv := hAdWukv)
    ∧ quiescent_AdWukvIdeal (hAdWukvIdeal := hAdWukvIdeal)
    ∧ quiescent_AdWukvRefIdeal (hAdWukvRefIdeal := hAdWukvRefIdeal)
    ∧ quiescent_AdWout (hAdWout := hAdWout)
    ∧ quiescent_AdWoutIdeal (hAdWoutIdeal := hAdWoutIdeal)
    ∧ quiescent_AdWoutRefIdeal (hAdWoutRefIdeal := hAdWoutRefIdeal)
    ∧ quiescent_AdWup (hAdWup := hAdWup)
    ∧ quiescent_AdWupIdeal (hAdWupIdeal := hAdWupIdeal)
    ∧ quiescent_AdWupRefIdeal (hAdWupRefIdeal := hAdWupRefIdeal)
    ∧ quiescent_AdWdown (hAdWdown := hAdWdown)
    ∧ quiescent_AdWdownIdeal (hAdWdownIdeal := hAdWdownIdeal)
    ∧ quiescent_AdWdownRefIdeal (hAdWdownRefIdeal := hAdWdownRefIdeal)
    ∧ quiescent_AdConvw (hAdConvw := hAdConvw)
    ∧ quiescent_AdConvwIdeal (hAdConvwIdeal := hAdConvwIdeal)
    ∧ quiescent_AdConvwRefIdeal (hAdConvwRefIdeal := hAdConvwRefIdeal)
    ∧ preserves_Conv_ConvIdeal
    ∧ algebraic_ConvIdeal_ConvRefIdeal_pre_conv_finite (hConvIdeal := hConvIdeal) (hConvRefIdeal := hConvRefIdeal) (hPre_conv_finite := hPre_conv_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_UpDw_UpDwIdeal
    ∧ algebraic_UpDwIdeal_UpDwRefIdeal (hUpDwIdeal := hUpDwIdeal) (hUpDwRefIdeal := hUpDwRefIdeal)
    ∧ preserves_UpDx_UpDxIdeal
    ∧ algebraic_UpDxIdeal_UpDxRefIdeal (hUpDxIdeal := hUpDxIdeal) (hUpDxRefIdeal := hUpDxRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_OutDw_OutDwIdeal
    ∧ algebraic_OutDwIdeal_OutDwRefIdeal (hOutDwIdeal := hOutDwIdeal) (hOutDwRefIdeal := hOutDwRefIdeal)
    ∧ preserves_ProjDw_ProjDwIdeal
    ∧ algebraic_ProjDwIdeal_ProjDwRefIdeal (hProjDwIdeal := hProjDwIdeal) (hProjDwRefIdeal := hProjDwRefIdeal)
    ∧ preserves_GluDw_GluDwIdeal
    ∧ algebraic_GluDwIdeal_GluDwRefIdeal (hGluDwIdeal := hGluDwIdeal) (hGluDwRefIdeal := hGluDwRefIdeal)
    ∧ preserves_Q_QIdeal
    ∧ algebraic_QIdeal_QRefIdeal (hQIdeal := hQIdeal) (hQRefIdeal := hQRefIdeal)
    ∧ preserves_Kv_KvIdeal
    ∧ algebraic_KvIdeal_KvRefIdeal (hKvIdeal := hKvIdeal) (hKvRefIdeal := hKvRefIdeal)
    ∧ preserves_QDw_QDwIdeal
    ∧ algebraic_QDwIdeal_QDwRefIdeal (hQDwIdeal := hQDwIdeal) (hQDwRefIdeal := hQDwRefIdeal)
    ∧ preserves_KvDw_KvDwIdeal
    ∧ algebraic_KvDwIdeal_KvDwRefIdeal (hKvDwIdeal := hKvDwIdeal) (hKvDwRefIdeal := hKvDwRefIdeal)
    ∧ preserves_QDx_QDxIdeal
    ∧ algebraic_QDxIdeal_QDxRefIdeal (hQDxIdeal := hQDxIdeal) (hQDxRefIdeal := hQDxRefIdeal)
    ∧ preserves_KvDx_KvDxIdeal
    ∧ algebraic_KvDxIdeal_KvDxRefIdeal (hKvDxIdeal := hKvDxIdeal) (hKvDxRefIdeal := hKvDxRefIdeal)
    ∧ preserves_AdWin_AdWinIdeal
    ∧ algebraic_AdWinIdeal_AdWinRefIdeal (hAdWinIdeal := hAdWinIdeal) (hAdWinRefIdeal := hAdWinRefIdeal)
    ∧ preserves_AdWglu_AdWgluIdeal
    ∧ algebraic_AdWgluIdeal_AdWgluRefIdeal (hAdWgluIdeal := hAdWgluIdeal) (hAdWgluRefIdeal := hAdWgluRefIdeal)
    ∧ preserves_AdWuq_AdWuqIdeal
    ∧ algebraic_AdWuqIdeal_AdWuqRefIdeal (hAdWuqIdeal := hAdWuqIdeal) (hAdWuqRefIdeal := hAdWuqRefIdeal)
    ∧ preserves_AdWukv_AdWukvIdeal
    ∧ algebraic_AdWukvIdeal_AdWukvRefIdeal (hAdWukvIdeal := hAdWukvIdeal) (hAdWukvRefIdeal := hAdWukvRefIdeal)
    ∧ preserves_AdWout_AdWoutIdeal
    ∧ algebraic_AdWoutIdeal_AdWoutRefIdeal (hAdWoutIdeal := hAdWoutIdeal) (hAdWoutRefIdeal := hAdWoutRefIdeal)
    ∧ preserves_AdWup_AdWupIdeal
    ∧ algebraic_AdWupIdeal_AdWupRefIdeal (hAdWupIdeal := hAdWupIdeal) (hAdWupRefIdeal := hAdWupRefIdeal)
    ∧ preserves_AdWdown_AdWdownIdeal
    ∧ algebraic_AdWdownIdeal_AdWdownRefIdeal (hAdWdownIdeal := hAdWdownIdeal) (hAdWdownRefIdeal := hAdWdownRefIdeal)
    ∧ preserves_AdConvw_AdConvwIdeal
    ∧ algebraic_AdConvwIdeal_AdConvwRefIdeal (hAdConvwIdeal := hAdConvwIdeal) (hAdConvwRefIdeal := hAdConvwRefIdeal)
-- ==== Pre_attn_finite.lean ====
abbrev S2048x8x192 : Shape := ⟨3, ![2048, 8, 192]⟩
abbrev S2048x8x256 : Shape := ⟨3, ![2048, 8, 256]⟩
abbrev S2048x64 : Shape := ⟨2, ![2048, 64]⟩
abbrev S2048 : Shape := ⟨1, ![2048]⟩
abbrev S2048x1024 : Shape := ⟨2, ![2048, 1024]⟩
abbrev S_ : Shape := ⟨0, ![]⟩

class Facts : Prop where
  bcast_S_S2048x8x192 : S_.BroadcastsInDim S2048x8x192 (![] : Fin 0 → Fin S2048x8x192.rank)
  reducesTo_S2048x8x192_S_d0_1_2 : S2048x8x192.ReducesTo [0, 1, 2] S_
  h_S_ : 0 < S_.numel
  bcast_S_S2048x8x256 : S_.BroadcastsInDim S2048x8x256 (![] : Fin 0 → Fin S2048x8x256.rank)
  reducesTo_S2048x8x256_S_d0_1_2 : S2048x8x256.ReducesTo [0, 1, 2] S_
  bcast_S_S2048x64 : S_.BroadcastsInDim S2048x64 (![] : Fin 0 → Fin S2048x64.rank)
  reducesTo_S2048x64_S_d0_1 : S2048x64.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  main_v18

def fn {F : FTy → Type} [FloatOps F] (main_arg0 : FVec F S2048x8x192 .f32) (main_arg1 : FVec F S2048x8x256 .f32) (main_arg2 : FVec F S2048x64 .f32) (main_arg3 : IVec S2048 32) (main_arg4 : FVec F S2048x1024 .f32) : IVec S_ 1 :=
  let main_v0 : FVec F S2048x8x192 .f32 := Host.absf main_arg0
  let main_cst : FVec F S_ .f32 := constant S_ .f32 0x7F800000#32
  let main_v1 : FVec F S2048x8x192 .f32 := broadcastInDim S2048x8x192 ![] bcast_S_S2048x8x192 main_cst
  let main_v2 : IVec S2048x8x192 1 := cmpf .olt main_v0 main_v1
  let main_c : IVec S_ 1 := constantI S_ 1 1#1
  let main_v3 : IVec S_ 1 := (fun x v => Host.reduce IntOp.andi x v reducesTo_S2048x8x192_S_d0_1_2 h_S_) main_v2 main_c
  let main_v4 : FVec F S2048x8x256 .f32 := Host.absf main_arg1
  let main_cst_0 : FVec F S_ .f32 := constant S_ .f32 0x7F800000#32
  let main_v5 : FVec F S2048x8x256 .f32 := broadcastInDim S2048x8x256 ![] bcast_S_S2048x8x256 main_cst_0
  let main_v6 : IVec S2048x8x256 1 := cmpf .olt main_v4 main_v5
  let main_c_1 : IVec S_ 1 := constantI S_ 1 1#1
  let main_v7 : IVec S_ 1 := (fun x v => Host.reduce IntOp.andi x v reducesTo_S2048x8x256_S_d0_1_2 h_S_) main_v6 main_c_1
  let main_v8 : IVec S_ 1 := andi main_v3 main_v7
  let main_v9 : FVec F S2048x64 .f32 := Host.absf main_arg2
  let main_cst_2 : FVec F S_ .f32 := constant S_ .f32 0x7F800000#32
  let main_v10 : FVec F S2048x64 .f32 := broadcastInDim S2048x64 ![] bcast_S_S2048x64 main_cst_2
  let main_v11 : IVec S2048x64 1 := cmpf .olt main_v9 main_v10
  let main_c_3 : IVec S_ 1 := constantI S_ 1 1#1
  let main_v12 : IVec S_ 1 := (fun x v => Host.reduce IntOp.andi x v reducesTo_S2048x64_S_d0_1 h_S_) main_v11 main_c_3
  let main_v13 : IVec S_ 1 := andi main_v8 main_v12
  let main_v14 : FVec F S2048x1024 .f32 := Host.absf main_arg4
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_v13 main_v16
-- ==== Pre_conv_finite.lean ====
abbrev S2048x11264 : Shape := ⟨2, ![2048, 11264]⟩
abbrev S3x11264 : Shape := ⟨2, ![3, 11264]⟩
abbrev S11264 : Shape := ⟨1, ![11264]⟩
abbrev S2048x5632 : Shape := ⟨2, ![2048, 5632]⟩
abbrev S_ : Shape := ⟨0, ![]⟩

class Facts : Prop where
  bcast_S_S2048x11264 : S_.BroadcastsInDim S2048x11264 (![] : Fin 0 → Fin S2048x11264.rank)
  reducesTo_S2048x11264_S_d0_1 : S2048x11264.ReducesTo [0, 1] S_
  h_S_ : 0 < S_.numel
  bcast_S_S3x11264 : S_.BroadcastsInDim S3x11264 (![] : Fin 0 → Fin S3x11264.rank)
  reducesTo_S3x11264_S_d0_1 : S3x11264.ReducesTo [0, 1] S_
  bcast_S_S11264 : S_.BroadcastsInDim S11264 (![] : Fin 0 → Fin S11264.rank)
  reducesTo_S11264_S_d0 : S11264.ReducesTo [0] S_
  bcast_S_S2048x5632 : S_.BroadcastsInDim S2048x5632 (![] : Fin 0 → Fin S2048x5632.rank)
  reducesTo_S2048x5632_S_d0_1 : S2048x5632.ReducesTo [0, 1] S_

variable [Facts]

def fn_part1 {F : FTy → Type} [FloatOps F] (main_v13 : IVec S_ 1) (main_v16 : IVec S2048x5632 1) : IVec S_ 1 :=
  let main_c_5 : IVec S_ 1 := constantI S_ 1 1#1
  let main_v17 : IVec S_ 1 := (fun x v => Host.reduce IntOp.andi x v reducesTo_S2048x5632_S_d0_1 h_S_) main_v16 main_c_5
  let main_v18 : IVec S_ 1 := andi main_v13 main_v17
  main_v18

def fn {F : FTy → Type} [FloatOps F] (main_arg0 : FVec F S2048x11264 .f32) (main_arg1 : FVec F S3x11264 .f32) (main_arg2 : FVec F S11264 .f32) (main_arg3 : FVec F S2048x5632 .f32) : IVec S_ 1 :=
  let main_v0 : FVec F S2048x11264 .f32 := Host.absf main_arg0
  let main_cst : FVec F S_ .f32 := constant S_ .f32 0x7F800000#32
  let main_v1 : FVec F S2048x11264 .f32 := broadcastInDim S2048x11264 ![] bcast_S_S2048x11264 main_cst
  let main_v2 : IVec S2048x11264 1 := cmpf .olt main_v0 main_v1
  let main_c : IVec S_ 1 := constantI S_ 1 1#1
  let main_v3 : IVec S_ 1 := (fun x v => Host.reduce IntOp.andi x v reducesTo_S2048x11264_S_d0_1 h_S_) main_v2 main_c
  let main_v4 : FVec F S3x11264 .f32 := Host.absf main_arg1
  let main_cst_0 : FVec F S_ .f32 := constant S_ .f32 0x7F800000#32
  let main_v5 : FVec F S3x11264 .f32 := broadcastInDim S3x11264 ![] bcast_S_S3x11264 main_cst_0
  let main_v6 : IVec S3x11264 1 := cmpf .olt main_v4 main_v5
  let main_c_1 : IVec S_ 1 := constantI S_ 1 1#1
  let main_v7 : IVec S_ 1 := (fun x v => Host.reduce IntOp.andi x v reducesTo_S3x11264_S_d0_1 h_S_) main_v6 main_c_1
  let main_v8 : IVec S_ 1 := andi main_v3 main_v7
  let main_v9 : FVec F S11264 .f32 := Host.absf main_arg2
  let main_cst_2 : FVec F S_ .f32 := constant S_ .f32 0x7F800000#32
  let main_v10 : FVec F S11264 .f32 := broadcastInDim S11264 ![] bcast_S_S11264 main_cst_2
  let main_v11 : IVec S11264 1 := cmpf .olt main_v9 main_v10
  let main_c_3 : IVec S_ 1 := constantI S_ 1 1#1
  let main_v12 : IVec S_ 1 := (fun x v => Host.reduce IntOp.andi x v reducesTo_S11264_S_d0 h_S_) main_v11 main_c_3
  let main_v13 : IVec S_ 1 := andi main_v8 main_v12
  let main_v14 : FVec F S2048x5632 .f32 := Host.absf main_arg3
  let main_cst_4 : FVec F S_ .f32 := constant S_ .f32 0x7F800000#32
  let main_v15 : FVec F S2048x5632 .f32 := broadcastInDim S2048x5632 ![] bcast_S_S2048x5632 main_cst_4
  let main_v16 : IVec S2048x5632 1 := cmpf .olt main_v14 main_v15
  fn_part1 (F := F) main_v13 main_v16
-- ==== Conv.lean ====
abbrev S2048x11264 : Shape := ⟨2, ![2048, 11264]⟩
abbrev S3x11264 : Shape := ⟨2, ![3, 11264]⟩
abbrev S11264 : Shape := ⟨1, ![11264]⟩
abbrev S2048x5632 : Shape := ⟨2, ![2048, 5632]⟩
abbrev S2048x2x4x1408 : Shape := ⟨4, ![2048, 2, 4, 1408]⟩
abbrev S4x2x2048x1408 : Shape := ⟨4, ![4, 2, 2048, 1408]⟩
abbrev S3x8x1408 : Shape := ⟨3, ![3, 8, 1408]⟩
abbrev S8x3x1408 : Shape := ⟨3, ![8, 3, 1408]⟩
abbrev S8x1x1408 : Shape := ⟨3, ![8, 1, 1408]⟩
abbrev S4x2x3x1408 : Shape := ⟨4, ![4, 2, 3, 1408]⟩
abbrev S4x2x1x1408 : Shape := ⟨4, ![4, 2, 1, 1408]⟩
abbrev S1x2x2048x128 : Shape := ⟨4, ![1, 2, 2048, 128]⟩
abbrev S1x3x128 : Shape := ⟨3, ![1, 3, 128]⟩
abbrev S1x1x128 : Shape := ⟨3, ![1, 1, 128]⟩
abbrev S2048x128 : Shape := ⟨2, ![2048, 128]⟩
abbrev S1x2x3x128 : Shape := ⟨4, ![1, 2, 3, 128]⟩
abbrev S1x2x1x128 : Shape := ⟨4, ![1, 2, 1, 128]⟩
abbrev S1x1x2048x128 : Shape := ⟨4, ![1, 1, 2048, 128]⟩
abbrev S3x128 : Shape := ⟨2, ![3, 128]⟩
abbrev S1x128 : Shape := ⟨2, ![1, 128]⟩
abbrev S8x128 : Shape := ⟨2, ![8, 128]⟩
abbrev S2040x128 : Shape := ⟨2, ![2040, 128]⟩
abbrev S128 : Shape := ⟨1, ![128]⟩
abbrev S1x1x1x128 : Shape := ⟨4, ![1, 1, 1, 128]⟩

abbrev nBuf : Space → Nat
  | .hbm => 12
  | .vmem => 18
  | .smem => 0
  | _ => 0

abbrev bufTy : (tb : Table) → Fin (tcTables nBuf tb) → BufTy
  | .hbm, ⟨0, _⟩ => ⟨S2048x11264, .f32⟩
  | .hbm, ⟨1, _⟩ => ⟨S3x11264, .f32⟩
  | .hbm, ⟨2, _⟩ => ⟨S11264, .f32⟩
  | .hbm, ⟨3, _⟩ => ⟨S2048x5632, .f32⟩
  | .hbm, ⟨4, _⟩ => ⟨S2048x2x4x1408, .f32⟩
  | .hbm, ⟨5, _⟩ => ⟨S4x2x2048x1408, .f32⟩
  | .hbm, ⟨6, _⟩ => ⟨S3x8x1408, .f32⟩
  | .hbm, ⟨7, _⟩ => ⟨S8x3x1408, .f32⟩
  | .hbm, ⟨8, _⟩ => ⟨S8x1x1408, .f32⟩
  | .hbm, ⟨9, _⟩ => ⟨S4x2x2048x1408, .bf16⟩
  | .hbm, ⟨10, _⟩ => ⟨S4x2x3x1408, .f32⟩
  | .hbm, ⟨11, _⟩ => ⟨S4x2x1x1408, .f32⟩
  | .local _ .vmem, ⟨0, _⟩ => ⟨S1x2x2048x128, .f32⟩
  | .local _ .vmem, ⟨1, _⟩ => ⟨S1x2x2048x128, .f32⟩
  | .local _ .vmem, ⟨2, _⟩ => ⟨S1x3x128, .f32⟩
  | .local _ .vmem, ⟨3, _⟩ => ⟨S1x3x128, .f32⟩
  | .local _ .vmem, ⟨4, _⟩ => ⟨S1x3x128, .f32⟩
  | .local _ .vmem, ⟨5, _⟩ => ⟨S1x3x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S2048x128, .f32⟩
  | .local _ .vmem, ⟨11, _⟩ => ⟨S2048x128, .f32⟩
  | .local _ .vmem, ⟨12, _⟩ => ⟨S1x2x2048x128, .bf16⟩
  | .local _ .vmem, ⟨13, _⟩ => ⟨S1x2x2048x128, .bf16⟩
  | .local _ .vmem, ⟨14, _⟩ => ⟨S1x2x3x128, .f32⟩
  | .local _ .vmem, ⟨15, _⟩ => ⟨S1x2x3x128, .f32⟩
  | .local _ .vmem, ⟨16, _⟩ => ⟨S1x2x1x128, .f32⟩
  | .local _ .vmem, ⟨17, _⟩ => ⟨S1x2x1x128, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 11], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![v0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![v0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x2x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x3x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ConvRefIdeal.lean ====
abbrev S2048x11264 : Shape := ⟨2, ![2048, 11264]⟩
abbrev S3x11264 : Shape := ⟨2, ![3, 11264]⟩
abbrev S11264 : Shape := ⟨1, ![11264]⟩
abbrev S2048x5632 : Shape := ⟨2, ![2048, 5632]⟩
abbrev S_ : Shape := ⟨0, ![]⟩
abbrev S2x11264 : Shape := ⟨2, ![2, 11264]⟩
abbrev S2050x11264 : Shape := ⟨2, ![2050, 11264]⟩
abbrev S1x11264 : Shape := ⟨2, ![1, 11264]⟩
abbrev S2048x2x4x1408 : Shape := ⟨4, ![2048, 2, 4, 1408]⟩
abbrev S4x2x2048x1408 : Shape := ⟨4, ![4, 2, 2048, 1408]⟩
abbrev S3x2x4x1408 : Shape := ⟨4, ![3, 2, 4, 1408]⟩
abbrev S4x2x3x1408 : Shape := ⟨4, ![4, 2, 3, 1408]⟩
abbrev S1x2x4x1408 : Shape := ⟨4, ![1, 2, 4, 1408]⟩
abbrev S4x2x1x1408 : Shape := ⟨4, ![4, 2, 1, 1408]⟩

abbrev nBuf : Space → Nat
  | .hbm => 112
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S3x11264, .f32⟩
  | .hbm, ⟨2, _⟩ => ⟨S11264, .f32⟩
  | .hbm, ⟨3, _⟩ => ⟨S2048x5632, .f32⟩
  | .hbm, ⟨4, _⟩ => ⟨S_, .f32⟩
  | .hbm, ⟨5, _⟩ => ⟨S2x11264, .f32⟩
  | .hbm, ⟨6, _⟩ => ⟨S2050x11264, .f32⟩
  | .hbm, ⟨7, _⟩ => ⟨S_, .f32⟩
  | .hbm, ⟨8, _⟩ => ⟨S2x11264, .f32⟩
  | .hbm, ⟨9, _⟩ => ⟨S1x11264, .f32⟩
  | .hbm, ⟨10, _⟩ => ⟨S11264, .f32⟩
  | .hbm, ⟨11, _⟩ => ⟨S2048x11264, .f32⟩
  | .hbm, ⟨12, _⟩ => ⟨S1x11264, .f32⟩
  | .hbm, ⟨13, _⟩ => ⟨S2048x11264, .f32⟩
  | .hbm, ⟨14, _⟩ => ⟨S2048x11264, .f32⟩
  | .hbm, ⟨15, _⟩ => ⟨S1x11264, .f32⟩
  | .hbm, ⟨16, _⟩ => ⟨S11264, .f32⟩
  | .hbm, ⟨17, _⟩ => ⟨S2048x11264, .f32⟩
  | .hbm, ⟨18, _⟩ => ⟨S1x11264, .f32⟩
  | .hbm, ⟨19, _⟩ => ⟨S2048x11264, .f32⟩
  | .hbm, ⟨20, _⟩ => ⟨S2048x11264, .f32⟩
  | .hbm, ⟨21, _⟩ => ⟨S2048x11264, .f32⟩
  | .hbm, ⟨22, _⟩ => ⟨S1x11264, .f32⟩
  | .hbm, ⟨23, _⟩ => ⟨S11264, .f32⟩
  | .hbm, ⟨24, _⟩ => ⟨S2048x11264, .f32⟩
  | .hbm, ⟨25, _⟩ => ⟨S1x11264, .f32⟩
  | .hbm, ⟨26, _⟩ => ⟨S2048x11264, .f32⟩
  | .hbm, ⟨27, _⟩ => ⟨S2048x11264, .f32⟩
  | .hbm, ⟨28, _⟩ => ⟨S2048x11264, .f32⟩
  | .hbm, ⟨29, _⟩ => ⟨S1x11264, .f32⟩
  | .hbm, ⟨30, _⟩ => ⟨S2048x11264, .f32⟩
  | .hbm, ⟨31, _⟩ => ⟨S2048x11264, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S2048x5632, .f32⟩
  | .hbm, ⟨36, _⟩ => ⟨S_, .f32⟩
  | .hbm, ⟨37, _⟩ => ⟨S2048x5632, .f32⟩
  | .hbm, ⟨38, _⟩ => ⟨S2048x5632, .f32⟩
  | .hbm, ⟨39, _⟩ => ⟨S_, .f32⟩
  | .hbm, ⟨40, _⟩ => ⟨S2048x5632, .f32⟩
  | .hbm, ⟨41, _⟩ => ⟨S2048x5632, .f32⟩
  | .hbm, ⟨42, _⟩ => ⟨S_, .f32⟩
  | .hbm, ⟨43, _⟩ => ⟨S2048x5632, .f32⟩
  | .hbm, ⟨44, _⟩ => ⟨S2048x5632, .f32⟩
  | .hbm, ⟨45, _⟩ => ⟨S2048x5632, .f32⟩
  | .hbm, ⟨46, _⟩ => ⟨S2048x5632, .f32⟩
  | .hbm, ⟨47, _⟩ => ⟨S2048x5632, .f32⟩
  | .hbm, ⟨48, _⟩ => ⟨S2048x5632, .f32⟩
  | .hbm, ⟨49, _⟩ => ⟨S2048x5632, .f32⟩
  | .hbm, ⟨50, _⟩ => ⟨S2048x5632, .f32⟩
  | .hbm, ⟨51, _⟩ => ⟨S2048x5632, .f32⟩
  | .hbm, ⟨52, _⟩ => ⟨S2048x5632, .f32⟩
  | .hbm, ⟨53, _⟩ => ⟨S2048x5632, .f32⟩
  | .hbm, ⟨54, _⟩ => ⟨S2048x11264, .f32⟩
  | .hbm, ⟨55, _⟩ => ⟨S_, .f32⟩
  | .hbm, ⟨56, _⟩ => ⟨S11264, .f32⟩
  | .hbm, ⟨57, _⟩ => ⟨S1x11264, .f32⟩
  | .hbm, ⟨58, _⟩ => ⟨S_, .f32⟩
  | .hbm, ⟨59, _⟩ => ⟨S11264, .f32⟩
  | .hbm, ⟨60, _⟩ => ⟨S2048x11264, .f32⟩
  | .hbm, ⟨61, _⟩ => ⟨S2048x11264, .f32⟩
  | .hbm, ⟨62, _⟩ => ⟨S2048x11264, .f32⟩
  | .hbm, ⟨63, _⟩ => ⟨S_, .f32⟩
  | .hbm, ⟨64, _⟩ => ⟨S11264, .f32⟩
  | .hbm, ⟨65, _⟩ => ⟨S1x11264, .f32⟩
  | .hbm, ⟨66, _⟩ => ⟨S_, .f32⟩
  | .hbm, ⟨67, _⟩ => ⟨S11264, .f32⟩
  | .hbm, ⟨68, _⟩ => ⟨S_, .f32⟩
  | .hbm, ⟨69, _⟩ => ⟨S2050x11264, .f32⟩
  | .hbm, ⟨70, _⟩ => ⟨S1x11264, .f32⟩
  | .hbm, ⟨71, _⟩ => ⟨S_, .f32⟩
  | .hbm, ⟨72, _⟩ => ⟨S3x11264, .f32⟩
  | .hbm, ⟨73, _⟩ => ⟨S2048x11264, .f32⟩
  | .hbm, ⟨74, _⟩ => ⟨S2048x11264, .f32⟩
  | .hbm, ⟨75, _⟩ => ⟨S2048x11264, .f32⟩
  | .hbm, ⟨76, _⟩ => ⟨S_, .f32⟩
  | .hbm, ⟨77, _⟩ => ⟨S11264, .f32⟩
  | .hbm, ⟨78, _⟩ => ⟨S1x11264, .f32⟩
  | .hbm, ⟨79, _⟩ => ⟨S_, .f32⟩
  | .hbm, ⟨80, _⟩ => ⟨S11264, .f32⟩
  | .hbm, ⟨81, _⟩ => ⟨S_, .f32⟩
  | .hbm, ⟨82, _⟩ => ⟨S2050x11264, .f32⟩
  | .hbm, ⟨83, _⟩ => ⟨S2050x11264, .f32⟩
  | .hbm, ⟨84, _⟩ => ⟨S1x11264, .f32⟩
  | .hbm, ⟨85, _⟩ => ⟨S_, .f32⟩
  | .hbm, ⟨86, _⟩ => ⟨S3x11264, .f32⟩
  | .hbm, ⟨87, _⟩ => ⟨S3x11264, .f32⟩
  | .hbm, ⟨88, _⟩ => ⟨S2048x11264, .f32⟩
  | .hbm, ⟨89, _⟩ => ⟨S2048x11264, .f32⟩
  | .hbm, ⟨90, _⟩ => ⟨S2048x11264, .f32⟩
  | .hbm, ⟨91, _⟩ => ⟨S_, .f32⟩
  | .hbm, ⟨92, _⟩ => ⟨S11264, .f32⟩
  | .hbm, ⟨93, _⟩ => ⟨S1x11264, .f32⟩
  | .hbm, ⟨94, _⟩ => ⟨S_, .f32⟩
  | .hbm, ⟨95, _⟩ => ⟨S11264, .f32⟩
  | .hbm, ⟨96, _⟩ => ⟨S_, .f32⟩
  | .hbm, ⟨97, _⟩ => ⟨S2050x11264, .f32⟩
  | .hbm, ⟨98, _⟩ => ⟨S2050x11264, .f32⟩
  | .hbm, ⟨99, _⟩ => ⟨S1x11264, .f32⟩
  | .hbm, ⟨100, _⟩ => ⟨S_, .f32⟩
  | .hbm, ⟨101, _⟩ => ⟨S3x11264, .f32⟩
  | .hbm, ⟨102, _⟩ => ⟨S3x11264, .f32⟩
  | .hbm, ⟨103, _⟩ => ⟨S2x11264, .f32⟩
  | .hbm, ⟨104, _⟩ => ⟨S2048x11264, .f32⟩
  | .hbm, ⟨105, _⟩ => ⟨S2048x2x4x1408, .f32⟩
  | .hbm, ⟨106, _⟩ => ⟨S4x2x2048x1408, .f32⟩
  | .hbm, ⟨107, _⟩ => ⟨S4x2x2048x1408, .bf16⟩
  | .hbm, ⟨108, _⟩ => ⟨S3x2x4x1408, .f32⟩
  | .hbm, ⟨109, _⟩ => ⟨S4x2x3x1408, .f32⟩
  | .hbm, ⟨110, _⟩ => ⟨S1x2x4x1408, .f32⟩
  | .hbm, ⟨111, _⟩ => ⟨S4x2x1x1408, .f32⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v28_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v28_1 : Ref sig .tc := ⟨.hbm, 45, rfl⟩
abbrev main_v28_0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v32 : Ref sig .tc := ⟨.hbm, 53, rfl⟩
abbrev main_v33 : Ref sig .tc := ⟨.hbm, 54, rfl⟩
abbrev main_cst_1 : Ref sig .tc := ⟨.hbm, 55, rfl⟩
abbrev main_v34 : Ref sig .tc := ⟨.hbm, 56, rfl⟩
abbrev main_v35 : Ref sig .tc := ⟨.hbm, 57, rfl⟩
abbrev main_cst_2 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_cst_5 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_cst_9 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_cst_13 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_14 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩

abbrev nD : Nat := 1
abbrev τ : Topo := Topo.v7x

variable {F : FTy → Type} [FloatOps F]
-- ==== Attn.lean ====
abbrev S2048x8x192 : Shape := ⟨3, ![2048, 8, 192]⟩
abbrev S2048x8x256 : Shape := ⟨3, ![2048, 8, 256]⟩
abbrev S2048x64 : Shape := ⟨2, ![2048, 64]⟩
abbrev S2048 : Shape := ⟨1, ![2048]⟩
abbrev S2048x1024 : Shape := ⟨2, ![2048, 1024]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S8x2048x192 : Shape := ⟨3, ![8, 2048, 192]⟩
abbrev S8x2048x256 : Shape := ⟨3, ![8, 2048, 256]⟩
abbrev S8x2048x128 : Shape := ⟨3, ![8, 2048, 128]⟩
abbrev S1x2048x256 : Shape := ⟨3, ![1, 2048, 256]⟩
abbrev S1x2048x128 : Shape := ⟨3, ![1, 2048, 128]⟩
abbrev S2048x256 : Shape := ⟨2, ![2048, 256]⟩
abbrev S512x128 : Shape := ⟨2, ![512, 128]⟩
abbrev S1x512x128 : Shape := ⟨3, ![1, 512, 128]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S1x1024x128 : Shape := ⟨3, ![1, 1024, 128]⟩
abbrev S1024x128 : Shape := ⟨2, ![1024, 128]⟩
abbrev S512x1024 : Shape := ⟨2, ![512, 1024]⟩
abbrev S1536x256 : Shape := ⟨2, ![1536, 256]⟩
abbrev S1x1536x128 : Shape := ⟨3, ![1, 1536, 128]⟩
abbrev S1536x128 : Shape := ⟨2, ![1536, 128]⟩
abbrev S512x1536 : Shape := ⟨2, ![512, 1536]⟩
abbrev S512x2048 : Shape := ⟨2, ![512, 2048]⟩

abbrev nBuf : Space → Nat
  | .hbm => 46
  | .vmem => 18
  | .smem => 0
  | _ => 0

abbrev bufTy : (tb : Table) → Fin (tcTables nBuf tb) → BufTy
  | .hbm, ⟨0, _⟩ => ⟨S2048x8x192, .f32⟩
  | .hbm, ⟨1, _⟩ => ⟨S2048x8x256, .f32⟩
  | .hbm, ⟨2, _⟩ => ⟨S2048x64, .f32⟩
  | .hbm, ⟨3, _⟩ => ⟨S2048, .i32⟩
  | .hbm, ⟨4, _⟩ => ⟨S2048x1024, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S2048, .f32⟩
  | .hbm, ⟨20, _⟩ => ⟨S2048x1, .f32⟩
  | .hbm, ⟨21, _⟩ => ⟨S1x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S_, .f32⟩
  | .hbm, ⟨28, _⟩ => ⟨S2048x32, .f32⟩
  | .hbm, ⟨29, _⟩ => ⟨S2048x128, .f32⟩
  | .hbm, ⟨30, _⟩ => ⟨S2048x32, .f32⟩
  | .hbm, ⟨31, _⟩ => ⟨S2048x128, .f32⟩
  | .hbm, ⟨32, _⟩ => ⟨S2048x128, .f32⟩
  | .hbm, ⟨33, _⟩ => ⟨S8x2048x192, .f32⟩
  | .hbm, ⟨34, _⟩ => ⟨S_, .i32⟩
  | .hbm, ⟨35, _⟩ => ⟨S_, .f32⟩
  | .hbm, ⟨36, _⟩ => ⟨S8x2048x256, .f32⟩
  | .hbm, ⟨37, _⟩ => ⟨S8x2048x256, .f32⟩
  | .hbm, ⟨38, _⟩ => ⟨S8x2048x256, .bf16⟩
  | .hbm, ⟨39, _⟩ => ⟨S_, .i32⟩
  | .hbm, ⟨40, _⟩ => ⟨S_, .f32⟩
  | .hbm, ⟨41, _⟩ => ⟨S2048x128, .f32⟩
  | .hbm, ⟨42, _⟩ => ⟨S2048x128, .bf16⟩
  | .hbm, ⟨43, _⟩ => ⟨S8x2048x256, .bf16⟩
  | .hbm, ⟨44, _⟩ => ⟨S8x2048x256, .f32⟩
  | .hbm, ⟨45, _⟩ => ⟨S8x2048x128, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S2048x128, .bf16⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S1x2048x256, .bf16⟩
  | .local _ .vmem, ⟨13, _⟩ => ⟨S1x2048x256, .bf16⟩
  | .local _ .vmem, ⟨14, _⟩ => ⟨S1x2048x256, .f32⟩
  | .local _ .vmem, ⟨15, _⟩ => ⟨S1x2048x256, .f32⟩
  | .local _ .vmem, ⟨16, _⟩ => ⟨S1x2048x128, .f32⟩
  | .local _ .vmem, ⟨17, _⟩ => ⟨S1x2048x128, .f32⟩
  | _, _ => ⟨S2048x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_call0_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_call1_v0 : Ref sig .tc := ⟨.hbm, 40, rfl⟩
abbrev main_v27 : Ref sig .tc := ⟨.hbm, 41, rfl⟩
abbrev main_v28 : Ref sig .tc := ⟨.hbm, 42, rfl⟩
abbrev main_v29_0 : Ref sig .tc := ⟨.hbm, 43, rfl⟩
abbrev main_v29_1 : Ref sig .tc := ⟨.hbm, 44, rfl⟩
abbrev main_v29_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AttnRefIdeal.lean ====
abbrev S2048x8x192 : Shape := ⟨3, ![2048, 8, 192]⟩
abbrev S2048x8x256 : Shape := ⟨3, ![2048, 8, 256]⟩
abbrev S2048x64 : Shape := ⟨2, ![2048, 64]⟩
abbrev S2048 : Shape := ⟨1, ![2048]⟩
abbrev S2048x1024 : Shape := ⟨2, ![2048, 1024]⟩
abbrev S2048x1x64 : Shape := ⟨3, ![2048, 1, 64]⟩
abbrev S2048x8x64 : Shape := ⟨3, ![2048, 8, 64]⟩
abbrev S2048x8x128 : Shape := ⟨3, ![2048, 8, 128]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S2048x8x32 : Shape := ⟨3, ![2048, 8, 32]⟩
abbrev S8x2048x2048 : Shape := ⟨3, ![8, 2048, 2048]⟩
abbrev S1x2048 : Shape := ⟨2, ![1, 2048]⟩
abbrev S2048x2048 : Shape := ⟨2, ![2048, 2048]⟩
abbrev S8x2048 : Shape := ⟨2, ![8, 2048]⟩
abbrev S8x2048x1 : Shape := ⟨3, ![8, 2048, 1]⟩
abbrev S8x128x2048 : Shape := ⟨3, ![8, 128, 2048]⟩
abbrev S8x2048x64 : Shape := ⟨3, ![8, 2048, 64]⟩
abbrev S8x2048x128 : Shape := ⟨3, ![8, 2048, 128]⟩
abbrev S8x2048x192 : Shape := ⟨3, ![8, 2048, 192]⟩
abbrev S8x2048x256 : Shape := ⟨3, ![8, 2048, 256]⟩

abbrev nBuf : Space → Nat
  | .hbm => 176
  | .vmem => 0
  | .smem => 0
  | _ => 0

abbrev hbmTy0_0 (i : Nat) : BufTy := match i % 128 with
  | 0 => ⟨S2048x8x192, .f32⟩
  | 1 => ⟨S2048x8x256, .f32⟩
  | 2 => ⟨S2048x64, .f32⟩
  | 3 => ⟨S2048, .i32⟩
  | 4 => ⟨S2048x1024, .f32⟩
  | 5 => ⟨S2048x1x64, .f32⟩
  | 6 => ⟨S2048x8x64, .f32⟩
  | 7 => ⟨S2048x8x128, .f32⟩
  | 8 => ⟨S2048x8x64, .f32⟩
  | 9 => ⟨S2048x8x128, .f32⟩
  | 10 => ⟨S2048x8x128, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S2048, .f32⟩
  | 26 => ⟨S2048x1, .f32⟩
  | 27 => ⟨S1x32, .f32⟩
  | 28 => ⟨S2048x32, .f32⟩
  | 29 => ⟨S2048x32, .f32⟩
  | 30 => ⟨S2048x32, .f32⟩
  | 31 => ⟨S2048x32, .f32⟩
  | 32 => ⟨S2048x32, .f32⟩
  | 33 => ⟨S2048x1x32, .f32⟩
  | 34 => ⟨S2048x1x32, .f32⟩
  | 35 => ⟨S2048x8x32, .f32⟩
  | 36 => ⟨S2048x8x32, .f32⟩
  | 37 => ⟨S2048x8x32, .f32⟩
  | 38 => ⟨S2048x8x32, .f32⟩
  | 39 => ⟨S2048x8x32, .f32⟩
  | 40 => ⟨S2048x8x32, .f32⟩
  | 41 => ⟨S2048x8x32, .f32⟩
  | 42 => ⟨S2048x8x32, .f32⟩
  | 43 => ⟨S2048x8x32, .f32⟩
  | 44 => ⟨S2048x8x32, .f32⟩
  | 45 => ⟨S2048x8x32, .f32⟩
  | 46 => ⟨S2048x8x32, .f32⟩
  | 47 => ⟨S2048x8x64, .f32⟩
  | 48 => ⟨S8x2048x2048, .f32⟩
  | 49 => ⟨S8x2048x2048, .f32⟩
  | 50 => ⟨S8x2048x2048, .f32⟩
  | 51 => ⟨S_, .f32⟩
  | 52 => ⟨S8x2048x2048, .f32⟩
  | 53 => ⟨S8x2048x2048, .f32⟩
  | 54 => ⟨S2048, .i32⟩
  | 55 => ⟨S1x2048, .i32⟩
  | 56 => ⟨S2048, .i32⟩
  | 57 => ⟨S2048x1, .i32⟩
  | 58 => ⟨S2048x2048, .i32⟩
  | 59 => ⟨S2048x2048, .i32⟩
  | 60 => ⟨S2048x2048, .i1⟩
  | 61 => ⟨S_, .f32⟩
  | 62 => ⟨S_, .f32⟩
  | 63 => ⟨S8x2048x2048, .i1⟩
  | 64 => ⟨S8x2048x2048, .f32⟩
  | 65 => ⟨S8x2048x2048, .f32⟩
  | 66 => ⟨S_, .f32⟩
  | 67 => ⟨S8x2048x2048, .f32⟩
  | 68 => ⟨S_, .f32⟩
  | 69 => ⟨S8x2048, .f32⟩
  | 70 => ⟨S8x2048x1, .f32⟩
  | 71 => ⟨S8x2048x2048, .f32⟩
  | 72 => ⟨S8x2048x2048, .i1⟩
  | 73 => ⟨S8x2048x2048, .f32⟩
  | 74 => ⟨S_, .f32⟩
  | 75 => ⟨S8x2048, .f32⟩
  | 76 => ⟨S_, .f32⟩
  | 77 => ⟨S8x2048, .f32⟩
  | 78 => ⟨S8x2048, .f32⟩
  | 79 => ⟨S_, .f32⟩
  | 80 => ⟨S8x2048, .f32⟩
  | 81 => ⟨S8x2048, .i1⟩
  | 82 => ⟨S_, .f32⟩
  | 83 => ⟨S8x2048, .f32⟩
  | 84 => ⟨S8x2048, .i1⟩
  | 85 => ⟨S_, .f32⟩
  | 86 => ⟨S8x2048, .f32⟩
  | 87 => ⟨S_, .f32⟩
  | 88 => ⟨S8x2048, .f32⟩
  | 89 => ⟨S_, .f32⟩
  | 90 => ⟨S8x2048, .f32⟩
  | 91 => ⟨S8x2048, .f32⟩
  | 92 => ⟨S8x2048, .f32⟩
  | 93 => ⟨S8x2048x1, .f32⟩
  | 94 => ⟨S8x2048x2048, .f32⟩
  | 95 => ⟨S8x2048x2048, .f32⟩
  | 96 => ⟨S8x2048x2048, .f32⟩
  | 97 => ⟨S_, .f32⟩
  | 98 => ⟨S8x2048, .f32⟩
  | 99 => ⟨S8x2048x1, .f32⟩
  | 100 => ⟨S8x2048x2048, .f32⟩
  | 101 => ⟨S8x2048x2048, .f32⟩
  | 102 => ⟨S8x2048x1, .f32⟩
  | 103 => ⟨S_, .f32⟩
  | 104 => ⟨S8x2048x1, .f32⟩
  | 105 => ⟨S8x2048x1, .f32⟩
  | 106 => ⟨S8x128x2048, .f32⟩
  | 107 => ⟨S2048x8x128, .f32⟩
  | 108 => ⟨S2048x1024, .f32⟩
  | 109 => ⟨S2048x8x128, .f32⟩
  | 110 => ⟨S8x128x2048, .f32⟩
  | 111 => ⟨S8x2048x2048, .f32⟩
  | 112 => ⟨S8x128x2048, .f32⟩
  | 113 => ⟨S2048x8x128, .f32⟩
  | 114 => ⟨S8x2048x2048, .f32⟩
  | 115 => ⟨S8x2048x2048, .f32⟩
  | 116 => ⟨S8x2048x2048, .f32⟩
  | 117 => ⟨S_, .f32⟩
  | 118 => ⟨S8x2048, .f32⟩
  | 119 => ⟨S8x2048x1, .f32⟩
  | 120 => ⟨S8x2048x1, .f32⟩
  | 121 => ⟨S8x2048x2048, .f32⟩
  | 122 => ⟨S8x2048x2048, .f32⟩
  | 123 => ⟨S_, .f32⟩
  | 124 => ⟨S8x2048, .f32⟩
  | 125 => ⟨S8x2048x2048, .f32⟩
  | 126 => ⟨S8x2048x2048, .f32⟩
  | 127 => ⟨S8x2048x2048, .f32⟩
  | _ => ⟨S2048x8x192, .f32⟩

abbrev hbmTy0_1 (i : Nat) : BufTy := match i % 128 with
  | 0 => ⟨S_, .f32⟩
  | 1 => ⟨S8x2048x2048, .f32⟩
  | 2 => ⟨S8x2048x2048, .f32⟩
  | 3 => ⟨S_, .f32⟩
  | 4 => ⟨S8x2048x2048, .f32⟩
  | 5 => ⟨S8x2048x2048, .f32⟩
  | 6 => ⟨S8x2048x64, .f32⟩
  | 7 => ⟨S2048x8x64, .f32⟩
  | 8 => ⟨S8x2048x64, .f32⟩
  | 9 => ⟨S2048x8x64, .f32⟩
  | 10 => ⟨S8x2048x128, .f32⟩
  | 11 => ⟨S2048x8x128, .f32⟩
  | 12 => ⟨S8x2048x128, .f32⟩
  | 13 => ⟨S2048x8x128, .f32⟩
  | 14 => ⟨S2048x8x32, .f32⟩
  | 15 => ⟨S2048x8x32, .f32⟩
  | 16 => ⟨S2048x8x32, .f32⟩
  | 17 => ⟨S2048x8x32, .f32⟩
  | 18 => ⟨S2048x8x32, .f32⟩
  | 19 => ⟨S2048x8x32, .f32⟩
  | 20 => ⟨S2048x8x32, .f32⟩
  | 21 => ⟨S2048x8x32, .f32⟩
  | 22 => ⟨S2048x8x32, .f32⟩
  | 23 => ⟨S2048x8x32, .f32⟩
  | 24 => ⟨S2048x8x32, .f32⟩
  | 25 => ⟨S2048x8x32, .f32⟩
  | 26 => ⟨S2048x8x32, .f32⟩
  | 27 => ⟨S2048x8x64, .f32⟩
  | 28 => ⟨S_, .f32⟩
  | 29 => ⟨S2048x8x256, .f32⟩
  | 30 => ⟨S_, .f32⟩
  | 31 => ⟨S2048x8x256, .f32⟩
  | 32 => ⟨S2048x8x256, .f32⟩
  | 33 => ⟨S_, .f32⟩
  | 34 => ⟨S2048x8x192, .f32⟩
  | 35 => ⟨S_, .f32⟩
  | 36 => ⟨S2048x8x192, .f32⟩
  | 37 => ⟨S2048x8x192, .f32⟩
  | 38 => ⟨S8x2048x192, .f32⟩
  | 39 => ⟨S_, .i32⟩
  | 40 => ⟨S_, .f32⟩
  | 41 => ⟨S8x2048x256, .f32⟩
  | 42 => ⟨S8x2048x256, .bf16⟩
  | 43 => ⟨S8x2048x256, .f32⟩
  | 44 => ⟨S8x2048x64, .f32⟩
  | 45 => ⟨S_, .i32⟩
  | 46 => ⟨S_, .f32⟩
  | 47 => ⟨S8x2048x128, .f32⟩
  | _ => ⟨S2048x8x192, .f32⟩

abbrev hbmTy (i : Nat) : BufTy := match i / 128 with
  | 0 => hbmTy0_0 i
  | 1 => hbmTy0_1 i
  | _ => ⟨S2048x8x192, .f32⟩

abbrev bufTy : (tb : Table) → Fin (tcTables nBuf tb) → BufTy
  | .hbm, ⟨i, _⟩ => hbmTy i
  | _, _ => ⟨S2048x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_3 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_4 : Ref sig .tc := ⟨.hbm, 61, rfl⟩
abbrev main_call0_v0 : Ref sig .tc := ⟨.hbm, 62, rfl⟩
abbrev main_v51_1 : Ref sig .tc := ⟨.hbm, 63, rfl⟩
abbrev main_call0_v2 : Ref sig .tc := ⟨.hbm, 64, rfl⟩
abbrev main_v51_0 : Ref sig .tc := ⟨.hbm, 65, rfl⟩
abbrev main_call0_cst : Ref sig .tc := ⟨.hbm, 66, rfl⟩
abbrev main_v51_2 : Ref sig .tc := ⟨.hbm, 67, rfl⟩
abbrev main_cst_5 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_6 : Ref sig .tc := ⟨.hbm, 74, rfl⟩
abbrev main_v57 : Ref sig .tc := ⟨.hbm, 75, rfl⟩
abbrev main_cst_7 : Ref sig .tc := ⟨.hbm, 76, rfl⟩
abbrev main_v58 : Ref sig .tc := ⟨.hbm, 77, rfl⟩
abbrev main_v59 : Ref sig .tc := ⟨.hbm, 78, rfl⟩
abbrev main_cst_8 : Ref sig .tc := ⟨.hbm, 79, rfl⟩
abbrev main_v60 : Ref sig .tc := ⟨.hbm, 80, rfl⟩
abbrev main_v61 : Ref sig .tc := ⟨.hbm, 81, rfl⟩
abbrev main_cst_9 : Ref sig .tc := ⟨.hbm, 82, rfl⟩
abbrev main_v62 : Ref sig .tc := ⟨.hbm, 83, rfl⟩
abbrev main_v63 : Ref sig .tc := ⟨.hbm, 84, rfl⟩
abbrev main_cst_10 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_13 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_14 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_15 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_16 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_call1_cst : Ref sig .tc := ⟨.hbm, 128, rfl⟩
abbrev main_call1_v0 : Ref sig .tc := ⟨.hbm, 129, rfl⟩
abbrev main_v100 : Ref sig .tc := ⟨.hbm, 130, rfl⟩
abbrev main_cst_17 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_cst_18 : Ref sig .tc := ⟨.hbm, 156, rfl⟩
abbrev main_v125 : Ref sig .tc := ⟨.hbm, 157, rfl⟩
abbrev main_cst_19 : Ref sig .tc := ⟨.hbm, 158, rfl⟩
abbrev main_v126 : Ref sig .tc := ⟨.hbm, 159, rfl⟩
abbrev main_v127 : Ref sig .tc := ⟨.hbm, 160, rfl⟩
abbrev main_cst_20 : Ref sig .tc := ⟨.hbm, 161, rfl⟩
abbrev main_v128 : Ref sig .tc := ⟨.hbm, 162, rfl⟩
abbrev main_cst_21 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_c : Ref sig .tc := ⟨.hbm, 167, rfl⟩
abbrev main_call2_v0 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_c_22 : Ref sig .tc := ⟨.hbm, 173, rfl⟩
abbrev main_call3_v0 : Ref sig .tc := ⟨.hbm, 174, rfl⟩
abbrev main_v136 : Ref sig .tc := ⟨.hbm, 175, rfl⟩

abbrev nD : Nat := 1
abbrev τ : Topo := Topo.v7x

variable {F : FTy → Type} [FloatOps F]
-- ==== UpDw.lean ====
abbrev S2048x2048 : Shape := ⟨2, ![2048, 2048]⟩
abbrev S2048x11264 : Shape := ⟨2, ![2048, 11264]⟩
abbrev S2048x2x4x1408 : Shape := ⟨4, ![2048, 2, 4, 1408]⟩
abbrev S4x2x2048x1408 : Shape := ⟨4, ![4, 2, 2048, 1408]⟩
abbrev S8x2048x1408 : Shape := ⟨3, ![8, 2048, 1408]⟩
abbrev S2048x1024 : Shape := ⟨2, ![2048, 1024]⟩
abbrev S1x1x2048x1408 : Shape := ⟨4, ![1, 1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 7
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x2048, .bf16⟩
  | .hbm, ⟨3, _⟩ => ⟨S2048x2x4x1408, .f32⟩
  | .hbm, ⟨4, _⟩ => ⟨S4x2x2048x1408, .f32⟩
  | .hbm, ⟨5, _⟩ => ⟨S4x2x2048x1408, .bf16⟩
  | .hbm, ⟨6, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1x1024x1408, .bf16⟩
  | .local _ .vmem, ⟨5, _⟩ => ⟨S1x1024x1408, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, arg2.toNat, c0_i32_10.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S2048x2048 : Shape := ⟨2, ![2048, 2048]⟩
abbrev S2048x11264 : Shape := ⟨2, ![2048, 11264]⟩
abbrev S_ : Shape := ⟨0, ![]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S_, .f32⟩
  | .hbm, ⟨3, _⟩ => ⟨S2048x11264, .f32⟩
  | .hbm, ⟨4, _⟩ => ⟨S2048x11264, .f32⟩
  | .hbm, ⟨5, _⟩ => ⟨S11264x2048, .f32⟩
  | .hbm, ⟨6, _⟩ => ⟨S2048x11264, .f32⟩
  | .hbm, ⟨7, _⟩ => ⟨S2048x8x1408, .f32⟩
  | .hbm, ⟨8, _⟩ => ⟨S8x2048x1408, .f32⟩
  | .hbm, ⟨9, _⟩ => ⟨S8x2048x1408, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDx.lean ====
abbrev S2048x11264 : Shape := ⟨2, ![2048, 11264]⟩
abbrev S2048x2x4x1408 : Shape := ⟨4, ![2048, 2, 4, 1408]⟩
abbrev S4x2x2048x1408 : Shape := ⟨4, ![4, 2, 2048, 1408]⟩
abbrev S2048x8x1408 : Shape := ⟨3, ![2048, 8, 1408]⟩
abbrev S8x2048x1408 : Shape := ⟨3, ![8, 2048, 1408]⟩
abbrev S2048x2048 : Shape := ⟨2, ![2048, 2048]⟩
abbrev S1x1x1024x1408 : Shape := ⟨4, ![1, 1, 1024, 1408]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 9
  | .vmem => 7
  | .smem => 0
  | _ => 0

abbrev bufTy : (tb : Table) → Fin (tcTables nBuf tb) → BufTy
  | .hbm, ⟨0, _⟩ => ⟨S2048x11264, .f32⟩
  | .hbm, ⟨1, _⟩ => ⟨S2048x11264, .f32⟩
  | .hbm, ⟨2, _⟩ => ⟨S2048x2x4x1408, .f32⟩
  | .hbm, ⟨3, _⟩ => ⟨S4x2x2048x1408, .f32⟩
  | .hbm, ⟨4, _⟩ => ⟨S4x2x2048x1408, .bf16⟩
  | .hbm, ⟨5, _⟩ => ⟨S2048x8x1408, .f32⟩
  | .hbm, ⟨6, _⟩ => ⟨S8x2048x1408, .f32⟩
  | .hbm, ⟨7, _⟩ => ⟨S8x2048x1408, .bf16⟩
  | .hbm, ⟨8, _⟩ => ⟨S2048x2048, .f32⟩
  | .local _ .vmem, ⟨0, _⟩ => ⟨S1x1x1024x1408, .bf16⟩
  | .local _ .vmem, ⟨1, _⟩ => ⟨S1x1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_9 : BitVec 32 := 0#32
  let v13 : BitVec 1 := Scalar.cmpi .ne v12 c0_i32_9
  v13

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg2 c4_i32_3
  let c0_i32_4 : BitVec 32 := 0#32
  let v11 : BitVec 1 := Scalar.cmpi .sgt arg2 c0_i32_4
  let v12 : BitVec 32 := Scalar.extui v11
  let c0_i32_5 : BitVec 32 := 0#32
  let v13 : BitVec 1 := Scalar.cmpi .slt arg2 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg2 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, arg0.toNat, c0_i32_10.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S2048x11264 : Shape := ⟨2, ![2048, 11264]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S2048x11264, .f32⟩
  | .hbm, ⟨2, _⟩ => ⟨S_, .f32⟩
  | .hbm, ⟨3, _⟩ => ⟨S2048x2048, .f32⟩
  | .hbm, ⟨4, _⟩ => ⟨S2048x11264, .f32⟩
  | .hbm, ⟨5, _⟩ => ⟨S2048x2048, .f32⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DownDx.lean ====
abbrev S2048x2048 : Shape := ⟨2, ![2048, 2048]⟩
abbrev S5632x2048 : Shape := ⟨2, ![5632, 2048]⟩
abbrev S2048x5632 : Shape := ⟨2, ![2048, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S5632x2048, .f32⟩
  | .hbm, ⟨2, _⟩ => ⟨S2048x2048, .bf16⟩
  | .hbm, ⟨3, _⟩ => ⟨S5632x2048, .bf16⟩
  | .hbm, ⟨4, _⟩ => ⟨S2048x5632, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S2048x2048 : Shape := ⟨2, ![2048, 2048]⟩
abbrev S5632x2048 : Shape := ⟨2, ![5632, 2048]⟩
abbrev S_ : Shape := ⟨0, ![]⟩
abbrev S2048x5632 : Shape := ⟨2, ![2048, 5632]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S5632x2048, .f32⟩
  | .hbm, ⟨2, _⟩ => ⟨S_, .f32⟩
  | .hbm, ⟨3, _⟩ => ⟨S2048x5632, .f32⟩
  | .hbm, ⟨4, _⟩ => ⟨S2048x2048, .f32⟩
  | .hbm, ⟨5, _⟩ => ⟨S2048x5632, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DownDw.lean ====
abbrev S2048x5632 : Shape := ⟨2, ![2048, 5632]⟩
abbrev S2048x2048 : Shape := ⟨2, ![2048, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S2048x5632, .bf16⟩
  | .hbm, ⟨3, _⟩ => ⟨S2048x2048, .bf16⟩
  | .hbm, ⟨4, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S_, .f32⟩
  | .hbm, ⟨3, _⟩ => ⟨S5632x2048, .f32⟩
  | .hbm, ⟨4, _⟩ => ⟨S2048x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Up.lean ====
abbrev S2048x2048 : Shape := ⟨2, ![2048, 2048]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S4x2x2048x1408 : Shape := ⟨4, ![4, 2, 2048, 1408]⟩
abbrev S1024x2048 : Shape := ⟨2, ![1024, 2048]⟩
abbrev S1x2048x1408 : Shape := ⟨3, ![1, 2048, 1408]⟩
abbrev S1x1x1024x1408 : Shape := ⟨4, ![1, 1, 1024, 1408]⟩
abbrev S2048x1408 : Shape := ⟨2, ![2048, 1408]⟩
abbrev S1024x1408 : Shape := ⟨2, ![1024, 1408]⟩

abbrev nBuf : Space → Nat
  | .hbm => 7
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x2048, .bf16⟩
  | .hbm, ⟨3, _⟩ => ⟨S2048x8x1408, .f32⟩
  | .hbm, ⟨4, _⟩ => ⟨S8x2048x1408, .f32⟩
  | .hbm, ⟨5, _⟩ => ⟨S8x2048x1408, .bf16⟩
  | .hbm, ⟨6, _⟩ => ⟨S4x2x2048x1408, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1x1024x1408, .f32⟩
  | .local _ .vmem, ⟨5, _⟩ => ⟨S1x1x1024x1408, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, arg1.toNat, c0_i32_10.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S2048x2048 : Shape := ⟨2, ![2048, 2048]⟩
abbrev S2048x11264 : Shape := ⟨2, ![2048, 11264]⟩
abbrev S2048x2x4x1408 : Shape := ⟨4, ![2048, 2, 4, 1408]⟩
abbrev S4x2x2048x1408 : Shape := ⟨4, ![4, 2, 2048, 1408]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x11264, .f32⟩
  | .hbm, ⟨3, _⟩ => ⟨S2048x2x4x1408, .f32⟩
  | .hbm, ⟨4, _⟩ => ⟨S4x2x2048x1408, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Down.lean ====
abbrev S2048x5632 : Shape := ⟨2, ![2048, 5632]⟩
abbrev S5632x2048 : Shape := ⟨2, ![5632, 2048]⟩
abbrev S2048x2048 : Shape := ⟨2, ![2048, 2048]⟩
abbrev S512x5632 : Shape := ⟨2, ![512, 5632]⟩
abbrev S5632x512 : Shape := ⟨2, ![5632, 512]⟩
abbrev S512x512 : Shape := ⟨2, ![512, 512]⟩

abbrev nBuf : Space → Nat
  | .hbm => 6
  | .vmem => 8
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x5632, .bf16⟩
  | .hbm, ⟨4, _⟩ => ⟨S5632x2048, .bf16⟩
  | .hbm, ⟨5, _⟩ => ⟨S2048x2048, .f32⟩
  | .local _ .vmem, ⟨0, _⟩ => ⟨S512x5632, .bf16⟩
  | .local _ .vmem, ⟨1, _⟩ => ⟨S512x5632, .bf16⟩
  | .local _ .vmem, ⟨2, _⟩ => ⟨S5632x512, .bf16⟩
  | .local _ .vmem, ⟨3, _⟩ => ⟨S5632x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== OutDw.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjDw.lean ====
abbrev S2048x2048 : Shape := ⟨2, ![2048, 2048]⟩
abbrev S2048x1856 : Shape := ⟨2, ![2048, 1856]⟩
abbrev S_ : Shape := ⟨0, ![]⟩
abbrev S2048x1920 : Shape := ⟨2, ![2048, 1920]⟩
abbrev S2048x1024 : Shape := ⟨2, ![2048, 1024]⟩
abbrev S2048x640 : Shape := ⟨2, ![2048, 640]⟩
abbrev S1024x640 : Shape := ⟨2, ![1024, 640]⟩

abbrev nBuf : Space → Nat
  | .hbm => 8
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x1856, .f32⟩
  | .hbm, ⟨2, _⟩ => ⟨S2048x2048, .bf16⟩
  | .hbm, ⟨3, _⟩ => ⟨S_, .i32⟩
  | .hbm, ⟨4, _⟩ => ⟨S_, .f32⟩
  | .hbm, ⟨5, _⟩ => ⟨S2048x1920, .f32⟩
  | .hbm, ⟨6, _⟩ => ⟨S2048x1920, .bf16⟩
  | .hbm, ⟨7, _⟩ => ⟨S2048x1920, .bf16⟩
  | .local _ .vmem, ⟨0, _⟩ => ⟨S2048x1024, .bf16⟩
  | .local _ .vmem, ⟨1, _⟩ => ⟨S2048x1024, .bf16⟩
  | .local _ .vmem, ⟨2, _⟩ => ⟨S2048x640, .bf16⟩
  | .local _ .vmem, ⟨3, _⟩ => ⟨S2048x640, .bf16⟩
  | .local _ .vmem, ⟨4, _⟩ => ⟨S1024x640, .bf16⟩
  | .local _ .vmem, ⟨5, _⟩ => ⟨S1024x640, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDwRefIdeal.lean ====
abbrev S2048x2048 : Shape := ⟨2, ![2048, 2048]⟩
abbrev S2048x1856 : Shape := ⟨2, ![2048, 1856]⟩
abbrev S_ : Shape := ⟨0, ![]⟩
abbrev S1856x2048 : Shape := ⟨2, ![1856, 2048]⟩
abbrev S2048x1920 : Shape := ⟨2, ![2048, 1920]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1856, .f32⟩
  | .hbm, ⟨2, _⟩ => ⟨S_, .f32⟩
  | .hbm, ⟨3, _⟩ => ⟨S2048x1856, .f32⟩
  | .hbm, ⟨4, _⟩ => ⟨S2048x1856, .f32⟩
  | .hbm, ⟨5, _⟩ => ⟨S1856x2048, .f32⟩
  | .hbm, ⟨6, _⟩ => ⟨S2048x1856, .f32⟩
  | .hbm, ⟨7, _⟩ => ⟨S_, .i32⟩
  | .hbm, ⟨8, _⟩ => ⟨S_, .f32⟩
  | .hbm, ⟨9, _⟩ => ⟨S2048x1920, .f32⟩
  | .hbm, ⟨10, _⟩ => ⟨S2048x1920, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== GluDw.lean ====
abbrev S2048x1024 : Shape := ⟨2, ![2048, 1024]⟩
abbrev S1024x1024 : Shape := ⟨2, ![1024, 1024]⟩

abbrev nBuf : Space → Nat
  | .hbm => 5
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S2048x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GluDwRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Q.lean ====
abbrev S2048x512 : Shape := ⟨2, ![2048, 512]⟩
abbrev S512x1536 : Shape := ⟨2, ![512, 1536]⟩
abbrev S512x8x192 : Shape := ⟨3, ![512, 8, 192]⟩
abbrev S8x512x192 : Shape := ⟨3, ![8, 512, 192]⟩
abbrev S_ : Shape := ⟨0, ![]⟩
abbrev S8x512x256 : Shape := ⟨3, ![8, 512, 256]⟩
abbrev S8x2048x256 : Shape := ⟨3, ![8, 2048, 256]⟩
abbrev S1x512x256 : Shape := ⟨3, ![1, 512, 256]⟩
abbrev S1x2048x256 : Shape := ⟨3, ![1, 2048, 256]⟩
abbrev S512x256 : Shape := ⟨2, ![512, 256]⟩
abbrev S2048x256 : Shape := ⟨2, ![2048, 256]⟩

abbrev nBuf : Space → Nat
  | .hbm => 10
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S512x1536, .f32⟩
  | .hbm, ⟨2, _⟩ => ⟨S2048x512, .bf16⟩
  | .hbm, ⟨3, _⟩ => ⟨S512x8x192, .f32⟩
  | .hbm, ⟨4, _⟩ => ⟨S8x512x192, .f32⟩
  | .hbm, ⟨5, _⟩ => ⟨S_, .i32⟩
  | .hbm, ⟨6, _⟩ => ⟨S_, .f32⟩
  | .hbm, ⟨7, _⟩ => ⟨S8x512x256, .f32⟩
  | .hbm, ⟨8, _⟩ => ⟨S8x512x256, .bf16⟩
  | .hbm, ⟨9, _⟩ => ⟨S8x2048x256, .f32⟩
  | .local _ .vmem, ⟨0, _⟩ => ⟨S2048x512, .bf16⟩
  | .local _ .vmem, ⟨1, _⟩ => ⟨S1x512x256, .bf16⟩
  | .local _ .vmem, ⟨2, _⟩ => ⟨S1x512x256, .bf16⟩
  | .local _ .vmem, ⟨3, _⟩ => ⟨S1x2048x256, .f32⟩
  | .local _ .vmem, ⟨4, _⟩ => ⟨S1x2048x256, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QRefIdeal.lean ====
abbrev S2048x512 : Shape := ⟨2, ![2048, 512]⟩
abbrev S512x1536 : Shape := ⟨2, ![512, 1536]⟩
abbrev S2048x1536 : Shape := ⟨2, ![2048, 1536]⟩
abbrev S2048x8x192 : Shape := ⟨3, ![2048, 8, 192]⟩
abbrev S8x2048x192 : Shape := ⟨3, ![8, 2048, 192]⟩
abbrev S_ : Shape := ⟨0, ![]⟩
abbrev S8x2048x256 : Shape := ⟨3, ![8, 2048, 256]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x1536, .f32⟩
  | .hbm, ⟨2, _⟩ => ⟨S2048x1536, .f32⟩
  | .hbm, ⟨3, _⟩ => ⟨S2048x8x192, .f32⟩
  | .hbm, ⟨4, _⟩ => ⟨S8x2048x192, .f32⟩
  | .hbm, ⟨5, _⟩ => ⟨S_, .i32⟩
  | .hbm, ⟨6, _⟩ => ⟨S_, .f32⟩
  | .hbm, ⟨7, _⟩ => ⟨S8x2048x256, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kv.lean ====
abbrev S2048x256 : Shape := ⟨2, ![2048, 256]⟩
abbrev S256x2048 : Shape := ⟨2, ![256, 2048]⟩
abbrev S256x8x256 : Shape := ⟨3, ![256, 8, 256]⟩
abbrev S8x256x256 : Shape := ⟨3, ![8, 256, 256]⟩
abbrev S_ : Shape := ⟨0, ![]⟩
abbrev S8x2048x256 : Shape := ⟨3, ![8, 2048, 256]⟩
abbrev S1x256x256 : Shape := ⟨3, ![1, 256, 256]⟩
abbrev S1x2048x256 : Shape := ⟨3, ![1, 2048, 256]⟩
abbrev S256x256 : Shape := ⟨2, ![256, 256]⟩

abbrev nBuf : Space → Nat
  | .hbm => 10
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S256x2048, .f32⟩
  | .hbm, ⟨2, _⟩ => ⟨S2048x256, .bf16⟩
  | .hbm, ⟨3, _⟩ => ⟨S256x8x256, .f32⟩
  | .hbm, ⟨4, _⟩ => ⟨S8x256x256, .f32⟩
  | .hbm, ⟨5, _⟩ => ⟨S_, .i32⟩
  | .hbm, ⟨6, _⟩ => ⟨S_, .f32⟩
  | .hbm, ⟨7, _⟩ => ⟨S8x256x256, .f32⟩
  | .hbm, ⟨8, _⟩ => ⟨S8x256x256, .bf16⟩
  | .hbm, ⟨9, _⟩ => ⟨S8x2048x256, .bf16⟩
  | .local _ .vmem, ⟨0, _⟩ => ⟨S2048x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x2048x256, .bf16⟩
  | .local _ .vmem, ⟨4, _⟩ => ⟨S1x2048x256, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvRefIdeal.lean ====
abbrev S2048x256 : Shape := ⟨2, ![2048, 256]⟩
abbrev S256x2048 : Shape := ⟨2, ![256, 2048]⟩
abbrev S2048x2048 : Shape := ⟨2, ![2048, 2048]⟩
abbrev S2048x8x256 : Shape := ⟨3, ![2048, 8, 256]⟩
abbrev S8x2048x256 : Shape := ⟨3, ![8, 2048, 256]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x2048, .f32⟩
  | .hbm, ⟨2, _⟩ => ⟨S2048x2048, .f32⟩
  | .hbm, ⟨3, _⟩ => ⟨S2048x8x256, .f32⟩
  | .hbm, ⟨4, _⟩ => ⟨S8x2048x256, .f32⟩
  | .hbm, ⟨5, _⟩ => ⟨S_, .i32⟩
  | .hbm, ⟨6, _⟩ => ⟨S_, .f32⟩
  | .hbm, ⟨7, _⟩ => ⟨S8x2048x256, .f32⟩
  | .hbm, ⟨8, _⟩ => ⟨S8x2048x256, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== QDw.lean ====
abbrev S2048x512 : Shape := ⟨2, ![2048, 512]⟩
abbrev S2048x1536 : Shape := ⟨2, ![2048, 1536]⟩
abbrev S2048x8x192 : Shape := ⟨3, ![2048, 8, 192]⟩
abbrev S8x2048x192 : Shape := ⟨3, ![8, 2048, 192]⟩
abbrev S_ : Shape := ⟨0, ![]⟩
abbrev S8x2048x256 : Shape := ⟨3, ![8, 2048, 256]⟩
abbrev S8x512x256 : Shape := ⟨3, ![8, 512, 256]⟩
abbrev S1x2048x256 : Shape := ⟨3, ![1, 2048, 256]⟩
abbrev S1x512x256 : Shape := ⟨3, ![1, 512, 256]⟩
abbrev S2048x256 : Shape := ⟨2, ![2048, 256]⟩
abbrev S512x256 : Shape := ⟨2, ![512, 256]⟩

abbrev nBuf : Space → Nat
  | .hbm => 10
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S2048x1536, .f32⟩
  | .hbm, ⟨2, _⟩ => ⟨S2048x512, .bf16⟩
  | .hbm, ⟨3, _⟩ => ⟨S2048x8x192, .f32⟩
  | .hbm, ⟨4, _⟩ => ⟨S8x2048x192, .f32⟩
  | .hbm, ⟨5, _⟩ => ⟨S_, .i32⟩
  | .hbm, ⟨6, _⟩ => ⟨S_, .f32⟩
  | .hbm, ⟨7, _⟩ => ⟨S8x2048x256, .f32⟩
  | .hbm, ⟨8, _⟩ => ⟨S8x2048x256, .bf16⟩
  | .hbm, ⟨9, _⟩ => ⟨S8x512x256, .bf16⟩
  | .local _ .vmem, ⟨0, _⟩ => ⟨S2048x512, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x512x256, .bf16⟩
  | .local _ .vmem, ⟨4, _⟩ => ⟨S1x512x256, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== QDwRefIdeal.lean ====
abbrev S2048x512 : Shape := ⟨2, ![2048, 512]⟩
abbrev S2048x1536 : Shape := ⟨2, ![2048, 1536]⟩
abbrev S_ : Shape := ⟨0, ![]⟩
abbrev S512x1536 : Shape := ⟨2, ![512, 1536]⟩
abbrev S1536x512 : Shape := ⟨2, ![1536, 512]⟩
abbrev S512x8x192 : Shape := ⟨3, ![512, 8, 192]⟩
abbrev S8x512x192 : Shape := ⟨3, ![8, 512, 192]⟩
abbrev S8x512x256 : Shape := ⟨3, ![8, 512, 256]⟩

abbrev nBuf : Space → Nat
  | .hbm => 13
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x1536, .f32⟩
  | .hbm, ⟨2, _⟩ => ⟨S_, .f32⟩
  | .hbm, ⟨3, _⟩ => ⟨S512x1536, .f32⟩
  | .hbm, ⟨4, _⟩ => ⟨S2048x1536, .f32⟩
  | .hbm, ⟨5, _⟩ => ⟨S1536x512, .f32⟩
  | .hbm, ⟨6, _⟩ => ⟨S512x1536, .f32⟩
  | .hbm, ⟨7, _⟩ => ⟨S512x8x192, .f32⟩
  | .hbm, ⟨8, _⟩ => ⟨S8x512x192, .f32⟩
  | .hbm, ⟨9, _⟩ => ⟨S_, .i32⟩
  | .hbm, ⟨10, _⟩ => ⟨S_, .f32⟩
  | .hbm, ⟨11, _⟩ => ⟨S8x512x256, .f32⟩
  | .hbm, ⟨12, _⟩ => ⟨S8x512x256, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== KvDw.lean ====
abbrev S2048x256 : Shape := ⟨2, ![2048, 256]⟩
abbrev S2048x2048 : Shape := ⟨2, ![2048, 2048]⟩
abbrev S2048x8x256 : Shape := ⟨3, ![2048, 8, 256]⟩
abbrev S8x2048x256 : Shape := ⟨3, ![8, 2048, 256]⟩
abbrev S_ : Shape := ⟨0, ![]⟩
abbrev S8x256x256 : Shape := ⟨3, ![8, 256, 256]⟩
abbrev S1x2048x256 : Shape := ⟨3, ![1, 2048, 256]⟩
abbrev S1x256x256 : Shape := ⟨3, ![1, 256, 256]⟩
abbrev S256x256 : Shape := ⟨2, ![256, 256]⟩

abbrev nBuf : Space → Nat
  | .hbm => 9
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S2048x2048, .f32⟩
  | .hbm, ⟨2, _⟩ => ⟨S2048x256, .bf16⟩
  | .hbm, ⟨3, _⟩ => ⟨S2048x8x256, .f32⟩
  | .hbm, ⟨4, _⟩ => ⟨S8x2048x256, .f32⟩
  | .hbm, ⟨5, _⟩ => ⟨S_, .i32⟩
  | .hbm, ⟨6, _⟩ => ⟨S_, .f32⟩
  | .hbm, ⟨7, _⟩ => ⟨S8x2048x256, .f32⟩
  | .hbm, ⟨8, _⟩ => ⟨S8x256x256, .bf16⟩
  | .local _ .vmem, ⟨0, _⟩ => ⟨S2048x256, .bf16⟩
  | .local _ .vmem, ⟨1, _⟩ => ⟨S1x2048x256, .f32⟩
  | .local _ .vmem, ⟨2, _⟩ => ⟨S1x2048x256, .f32⟩
  | .local _ .vmem, ⟨3, _⟩ => ⟨S1x256x256, .bf16⟩
  | .local _ .vmem, ⟨4, _⟩ => ⟨S1x256x256, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== KvDwRefIdeal.lean ====
abbrev S2048x256 : Shape := ⟨2, ![2048, 256]⟩
abbrev S2048x2048 : Shape := ⟨2, ![2048, 2048]⟩
abbrev S_ : Shape := ⟨0, ![]⟩
abbrev S256x2048 : Shape := ⟨2, ![256, 2048]⟩
abbrev S256x8x256 : Shape := ⟨3, ![256, 8, 256]⟩
abbrev S8x256x256 : Shape := ⟨3, ![8, 256, 256]⟩

abbrev nBuf : Space → Nat
  | .hbm => 13
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x2048, .f32⟩
  | .hbm, ⟨2, _⟩ => ⟨S_, .f32⟩
  | .hbm, ⟨3, _⟩ => ⟨S256x2048, .f32⟩
  | .hbm, ⟨4, _⟩ => ⟨S2048x2048, .f32⟩
  | .hbm, ⟨5, _⟩ => ⟨S2048x256, .f32⟩
  | .hbm, ⟨6, _⟩ => ⟨S256x2048, .f32⟩
  | .hbm, ⟨7, _⟩ => ⟨S256x8x256, .f32⟩
  | .hbm, ⟨8, _⟩ => ⟨S8x256x256, .f32⟩
  | .hbm, ⟨9, _⟩ => ⟨S_, .i32⟩
  | .hbm, ⟨10, _⟩ => ⟨S_, .f32⟩
  | .hbm, ⟨11, _⟩ => ⟨S8x256x256, .f32⟩
  | .hbm, ⟨12, _⟩ => ⟨S8x256x256, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== QDx.lean ====
abbrev S2048x1536 : Shape := ⟨2, ![2048, 1536]⟩
abbrev S512x1536 : Shape := ⟨2, ![512, 1536]⟩
abbrev S2048x8x192 : Shape := ⟨3, ![2048, 8, 192]⟩
abbrev S8x2048x192 : Shape := ⟨3, ![8, 2048, 192]⟩
abbrev S_ : Shape := ⟨0, ![]⟩
abbrev S8x2048x256 : Shape := ⟨3, ![8, 2048, 256]⟩
abbrev S512x8x192 : Shape := ⟨3, ![512, 8, 192]⟩
abbrev S8x512x192 : Shape := ⟨3, ![8, 512, 192]⟩
abbrev S8x512x256 : Shape := ⟨3, ![8, 512, 256]⟩
abbrev S2048x512 : Shape := ⟨2, ![2048, 512]⟩
abbrev S1x2048x256 : Shape := ⟨3, ![1, 2048, 256]⟩
abbrev S1x512x256 : Shape := ⟨3, ![1, 512, 256]⟩
abbrev S2048x256 : Shape := ⟨2, ![2048, 256]⟩
abbrev S512x256 : Shape := ⟨2, ![512, 256]⟩

abbrev nBuf : Space → Nat
  | .hbm => 15
  | .vmem => 6
  | .smem => 0
  | _ => 0

abbrev bufTy : (tb : Table) → Fin (tcTables nBuf tb) → BufTy
  | .hbm, ⟨0, _⟩ => ⟨S2048x1536, .f32⟩
  | .hbm, ⟨1, _⟩ => ⟨S512x1536, .f32⟩
  | .hbm, ⟨2, _⟩ => ⟨S2048x8x192, .f32⟩
  | .hbm, ⟨3, _⟩ => ⟨S8x2048x192, .f32⟩
  | .hbm, ⟨4, _⟩ => ⟨S_, .i32⟩
  | .hbm, ⟨5, _⟩ => ⟨S_, .f32⟩
  | .hbm, ⟨6, _⟩ => ⟨S8x2048x256, .f32⟩
  | .hbm, ⟨7, _⟩ => ⟨S8x2048x256, .bf16⟩
  | .hbm, ⟨8, _⟩ => ⟨S512x8x192, .f32⟩
  | .hbm, ⟨9, _⟩ => ⟨S8x512x192, .f32⟩
  | .hbm, ⟨10, _⟩ => ⟨S_, .i32⟩
  | .hbm, ⟨11, _⟩ => ⟨S_, .f32⟩
  | .hbm, ⟨12, _⟩ => ⟨S8x512x256, .f32⟩
  | .hbm, ⟨13, _⟩ => ⟨S8x512x256, .bf16⟩
  | .hbm, ⟨14, _⟩ => ⟨S2048x512, .f32⟩
  | .local _ .vmem, ⟨0, _⟩ => ⟨S1x2048x256, .bf16⟩
  | .local _ .vmem, ⟨1, _⟩ => ⟨S1x2048x256, .bf16⟩
  | .local _ .vmem, ⟨2, _⟩ => ⟨S1x512x256, .bf16⟩
  | .local _ .vmem, ⟨3, _⟩ => ⟨S1x512x256, .bf16⟩
  | .local _ .vmem, ⟨4, _⟩ => ⟨S2048x512, .f32⟩
  | .local _ .vmem, ⟨5, _⟩ => ⟨S2048x512, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== QDxRefIdeal.lean ====
abbrev S2048x1536 : Shape := ⟨2, ![2048, 1536]⟩
abbrev S512x1536 : Shape := ⟨2, ![512, 1536]⟩
abbrev S_ : Shape := ⟨0, ![]⟩
abbrev S2048x512 : Shape := ⟨2, ![2048, 512]⟩

abbrev nBuf : Space → Nat
  | .hbm => 6
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S512x1536, .f32⟩
  | .hbm, ⟨2, _⟩ => ⟨S_, .f32⟩
  | .hbm, ⟨3, _⟩ => ⟨S2048x512, .f32⟩
  | .hbm, ⟨4, _⟩ => ⟨S2048x1536, .f32⟩
  | .hbm, ⟨5, _⟩ => ⟨S2048x512, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KvDx.lean ====
abbrev S2048x2048 : Shape := ⟨2, ![2048, 2048]⟩
abbrev S256x2048 : Shape := ⟨2, ![256, 2048]⟩
abbrev S2048x8x256 : Shape := ⟨3, ![2048, 8, 256]⟩
abbrev S8x2048x256 : Shape := ⟨3, ![8, 2048, 256]⟩
abbrev S_ : Shape := ⟨0, ![]⟩
abbrev S256x8x256 : Shape := ⟨3, ![256, 8, 256]⟩
abbrev S8x256x256 : Shape := ⟨3, ![8, 256, 256]⟩
abbrev S2048x256 : Shape := ⟨2, ![2048, 256]⟩
abbrev S1x2048x256 : Shape := ⟨3, ![1, 2048, 256]⟩
abbrev S1x256x256 : Shape := ⟨3, ![1, 256, 256]⟩
abbrev S256x256 : Shape := ⟨2, ![256, 256]⟩

abbrev nBuf : Space → Nat
  | .hbm => 14
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S2048x8x256, .f32⟩
  | .hbm, ⟨3, _⟩ => ⟨S8x2048x256, .f32⟩
  | .hbm, ⟨4, _⟩ => ⟨S_, .i32⟩
  | .hbm, ⟨5, _⟩ => ⟨S_, .f32⟩
  | .hbm, ⟨6, _⟩ => ⟨S8x2048x256, .f32⟩
  | .hbm, ⟨7, _⟩ => ⟨S256x8x256, .f32⟩
  | .hbm, ⟨8, _⟩ => ⟨S8x256x256, .f32⟩
  | .hbm, ⟨9, _⟩ => ⟨S_, .i32⟩
  | .hbm, ⟨10, _⟩ => ⟨S_, .f32⟩
  | .hbm, ⟨11, _⟩ => ⟨S8x256x256, .f32⟩
  | .hbm, ⟨12, _⟩ => ⟨S8x256x256, .bf16⟩
  | .hbm, ⟨13, _⟩ => ⟨S2048x256, .f32⟩
  | .local _ .vmem, ⟨0, _⟩ => ⟨S1x2048x256, .f32⟩
  | .local _ .vmem, ⟨1, _⟩ => ⟨S1x2048x256, .f32⟩
  | .local _ .vmem, ⟨2, _⟩ => ⟨S1x256x256, .bf16⟩
  | .local _ .vmem, ⟨3, _⟩ => ⟨S1x256x256, .bf16⟩
  | .local _ .vmem, ⟨4, _⟩ => ⟨S2048x256, .f32⟩
  | .local _ .vmem, ⟨5, _⟩ => ⟨S2048x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== KvDxRefIdeal.lean ====
abbrev S2048x2048 : Shape := ⟨2, ![2048, 2048]⟩
abbrev S256x2048 : Shape := ⟨2, ![256, 2048]⟩
abbrev S_ : Shape := ⟨0, ![]⟩
abbrev S2048x256 : Shape := ⟨2, ![2048, 256]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S_, .f32⟩
  | .hbm, ⟨3, _⟩ => ⟨S2048x256, .f32⟩
  | .hbm, ⟨4, _⟩ => ⟨S2048x2048, .f32⟩
  | .hbm, ⟨5, _⟩ => ⟨S2048x256, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AdWin.lean ====
abbrev S4x256x1856 : Shape := ⟨3, ![4, 256, 1856]⟩
abbrev S256x1856 : Shape := ⟨2, ![256, 1856]⟩
abbrev S4x1856x256 : Shape := ⟨3, ![4, 1856, 256]⟩
abbrev S1856x256 : Shape := ⟨2, ![1856, 256]⟩
abbrev S4x64x256 : Shape := ⟨3, ![4, 64, 256]⟩
abbrev S64x256 : Shape := ⟨2, ![64, 256]⟩
abbrev S1x64x256 : Shape := ⟨3, ![1, 64, 256]⟩

abbrev nBuf : Space → Nat
  | .hbm => 12
  | .vmem => 16
  | .smem => 0
  | _ => 0

abbrev bufTy : (tb : Table) → Fin (tcTables nBuf tb) → BufTy
  | .hbm, ⟨0, _⟩ => ⟨S4x256x1856, .bf16⟩
  | .hbm, ⟨1, _⟩ => ⟨S256x1856, .f32⟩
  | .hbm, ⟨2, _⟩ => ⟨S256x1856, .f32⟩
  | .hbm, ⟨3, _⟩ => ⟨S256x1856, .f32⟩
  | .hbm, ⟨4, _⟩ => ⟨S4x1856x256, .bf16⟩
  | .hbm, ⟨5, _⟩ => ⟨S1856x256, .f32⟩
  | .hbm, ⟨6, _⟩ => ⟨S1856x256, .f32⟩
  | .hbm, ⟨7, _⟩ => ⟨S1856x256, .f32⟩
  | .hbm, ⟨8, _⟩ => ⟨S1856x256, .f32⟩
  | .hbm, ⟨9, _⟩ => ⟨S1856x256, .f32⟩
  | .hbm, ⟨10, _⟩ => ⟨S1856x256, .f32⟩
  | .hbm, ⟨11, _⟩ => ⟨S1856x256, .f32⟩
  | .local _ .vmem, ⟨0, _⟩ => ⟨S4x64x256, .bf16⟩
  | .local _ .vmem, ⟨1, _⟩ => ⟨S4x64x256, .bf16⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S64x256, .f32⟩
  | .local _ .vmem, ⟨8, _⟩ => ⟨S64x256, .f32⟩
  | .local _ .vmem, ⟨9, _⟩ => ⟨S64x256, .f32⟩
  | .local _ .vmem, ⟨10, _⟩ => ⟨S64x256, .f32⟩
  | .local _ .vmem, ⟨11, _⟩ => ⟨S64x256, .f32⟩
  | .local _ .vmem, ⟨12, _⟩ => ⟨S64x256, .f32⟩
  | .local _ .vmem, ⟨13, _⟩ => ⟨S64x256, .f32⟩
  | .local _ .vmem, ⟨14, _⟩ => ⟨S64x256, .f32⟩
  | .local _ .vmem, ⟨15, _⟩ => ⟨S64x256, .f32⟩
  | _, _ => ⟨S4x256x1856, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![29], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdWinRefIdeal.lean ====
abbrev S4x256x1856 : Shape := ⟨3, ![4, 256, 1856]⟩
abbrev S256x1856 : Shape := ⟨2, ![256, 1856]⟩
abbrev S_ : Shape := ⟨0, ![]⟩
abbrev S1856x256 : Shape := ⟨2, ![1856, 256]⟩

abbrev nBuf : Space → Nat
  | .hbm => 44
  | .vmem => 0
  | .smem => 0
  | _ => 0

abbrev bufTy : (tb : Table) → Fin (tcTables nBuf tb) → BufTy
  | .hbm, ⟨0, _⟩ => ⟨S4x256x1856, .bf16⟩
  | .hbm, ⟨1, _⟩ => ⟨S256x1856, .f32⟩
  | .hbm, ⟨2, _⟩ => ⟨S256x1856, .f32⟩
  | .hbm, ⟨3, _⟩ => ⟨S256x1856, .f32⟩
  | .hbm, ⟨4, _⟩ => ⟨S4x256x1856, .f32⟩
  | .hbm, ⟨5, _⟩ => ⟨S_, .f32⟩
  | .hbm, ⟨6, _⟩ => ⟨S256x1856, .f32⟩
  | .hbm, ⟨7, _⟩ => ⟨S_, .f32⟩
  | .hbm, ⟨8, _⟩ => ⟨S256x1856, .f32⟩
  | .hbm, ⟨9, _⟩ => ⟨S256x1856, .f32⟩
  | .hbm, ⟨10, _⟩ => ⟨S_, .f32⟩
  | .hbm, ⟨11, _⟩ => ⟨S256x1856, .f32⟩
  | .hbm, ⟨12, _⟩ => ⟨S256x1856, .f32⟩
  | .hbm, ⟨13, _⟩ => ⟨S256x1856, .f32⟩
  | .hbm, ⟨14, _⟩ => ⟨S_, .f32⟩
  | .hbm, ⟨15, _⟩ => ⟨S256x1856, .f32⟩
  | .hbm, ⟨16, _⟩ => ⟨S256x1856, .f32⟩
  | .hbm, ⟨17, _⟩ => ⟨S256x1856, .f32⟩
  | .hbm, ⟨18, _⟩ => ⟨S_, .f32⟩
  | .hbm, ⟨19, _⟩ => ⟨S256x1856, .f32⟩
  | .hbm, ⟨20, _⟩ => ⟨S256x1856, .f32⟩
  | .hbm, ⟨21, _⟩ => ⟨S256x1856, .f32⟩
  | .hbm, ⟨22, _⟩ => ⟨S_, .f32⟩
  | .hbm, ⟨23, _⟩ => ⟨S256x1856, .f32⟩
  | .hbm, ⟨24, _⟩ => ⟨S256x1856, .f32⟩
  | .hbm, ⟨25, _⟩ => ⟨S_, .f32⟩
  | .hbm, ⟨26, _⟩ => ⟨S256x1856, .f32⟩
  | .hbm, ⟨27, _⟩ => ⟨S256x1856, .f32⟩
  | .hbm, ⟨28, _⟩ => ⟨S256x1856, .f32⟩
  | .hbm, ⟨29, _⟩ => ⟨S_, .f32⟩
  | .hbm, ⟨30, _⟩ => ⟨S256x1856, .f32⟩
  | .hbm, ⟨31, _⟩ => ⟨S256x1856, .f32⟩
  | .hbm, ⟨32, _⟩ => ⟨S256x1856, .f32⟩
  | .hbm, ⟨33, _⟩ => ⟨S_, .f32⟩
  | .hbm, ⟨34, _⟩ => ⟨S256x1856, .f32⟩
  | .hbm, ⟨35, _⟩ => ⟨S256x1856, .f32⟩
  | .hbm, ⟨36, _⟩ => ⟨S256x1856, .f32⟩
  | .hbm, ⟨37, _⟩ => ⟨S_, .f32⟩
  | .hbm, ⟨38, _⟩ => ⟨S256x1856, .f32⟩
  | .hbm, ⟨39, _⟩ => ⟨S256x1856, .f32⟩
  | .hbm, ⟨40, _⟩ => ⟨S1856x256, .f32⟩
  | .hbm, ⟨41, _⟩ => ⟨S1856x256, .f32⟩
  | .hbm, ⟨42, _⟩ => ⟨S1856x256, .f32⟩
  | .hbm, ⟨43, _⟩ => ⟨S1856x256, .f32⟩
  | _, _ => ⟨S4x256x1856, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== AdWglu.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdWgluRefIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdWuq.lean ====
abbrev S8x512x192 : Shape := ⟨3, ![8, 512, 192]⟩
abbrev S512x192 : Shape := ⟨2, ![512, 192]⟩
abbrev S8x192x512 : Shape := ⟨3, ![8, 192, 512]⟩
abbrev S192x512 : Shape := ⟨2, ![192, 512]⟩
abbrev S1x192x512 : Shape := ⟨3, ![1, 192, 512]⟩

abbrev nBuf : Space → Nat
  | .hbm => 12
  | .vmem => 8
  | .smem => 0
  | _ => 0

abbrev bufTy : (tb : Table) → Fin (tcTables nBuf tb) → BufTy
  | .hbm, ⟨0, _⟩ => ⟨S8x512x192, .bf16⟩
  | .hbm, ⟨1, _⟩ => ⟨S512x192, .f32⟩
  | .hbm, ⟨2, _⟩ => ⟨S512x192, .f32⟩
  | .hbm, ⟨3, _⟩ => ⟨S512x192, .f32⟩
  | .hbm, ⟨4, _⟩ => ⟨S8x192x512, .bf16⟩
  | .hbm, ⟨5, _⟩ => ⟨S192x512, .f32⟩
  | .hbm, ⟨6, _⟩ => ⟨S192x512, .f32⟩
  | .hbm, ⟨7, _⟩ => ⟨S192x512, .f32⟩
  | .hbm, ⟨8, _⟩ => ⟨S192x512, .f32⟩
  | .hbm, ⟨9, _⟩ => ⟨S192x512, .f32⟩
  | .hbm, ⟨10, _⟩ => ⟨S192x512, .f32⟩
  | .hbm, ⟨11, _⟩ => ⟨S192x512, .f32⟩
  | .local _ .vmem, ⟨0, _⟩ => ⟨S8x192x512, .bf16⟩
  | .local _ .vmem, ⟨1, _⟩ => ⟨S192x512, .f32⟩
  | .local _ .vmem, ⟨2, _⟩ => ⟨S192x512, .f32⟩
  | .local _ .vmem, ⟨3, _⟩ => ⟨S192x512, .f32⟩
  | .local _ .vmem, ⟨4, _⟩ => ⟨S192x512, .f32⟩
  | .local _ .vmem, ⟨5, _⟩ => ⟨S192x512, .f32⟩
  | .local _ .vmem, ⟨6, _⟩ => ⟨S192x512, .f32⟩
  | .local _ .vmem, ⟨7, _⟩ => ⟨S192x512, .f32⟩
  | _, _ => ⟨S8x512x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x192x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S192x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S192x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S192x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S192x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S192x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S192x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S192x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdWuqRefIdeal.lean ====
abbrev S8x512x192 : Shape := ⟨3, ![8, 512, 192]⟩
abbrev S512x192 : Shape := ⟨2, ![512, 192]⟩
abbrev S_ : Shape := ⟨0, ![]⟩
abbrev S192x512 : Shape := ⟨2, ![192, 512]⟩

abbrev nBuf : Space → Nat
  | .hbm => 44
  | .vmem => 0
  | .smem => 0
  | _ => 0

abbrev bufTy : (tb : Table) → Fin (tcTables nBuf tb) → BufTy
  | .hbm, ⟨0, _⟩ => ⟨S8x512x192, .bf16⟩
  | .hbm, ⟨1, _⟩ => ⟨S512x192, .f32⟩
  | .hbm, ⟨2, _⟩ => ⟨S512x192, .f32⟩
  | .hbm, ⟨3, _⟩ => ⟨S512x192, .f32⟩
  | .hbm, ⟨4, _⟩ => ⟨S8x512x192, .f32⟩
  | .hbm, ⟨5, _⟩ => ⟨S_, .f32⟩
  | .hbm, ⟨6, _⟩ => ⟨S512x192, .f32⟩
  | .hbm, ⟨7, _⟩ => ⟨S_, .f32⟩
  | .hbm, ⟨8, _⟩ => ⟨S512x192, .f32⟩
  | .hbm, ⟨9, _⟩ => ⟨S512x192, .f32⟩
  | .hbm, ⟨10, _⟩ => ⟨S_, .f32⟩
  | .hbm, ⟨11, _⟩ => ⟨S512x192, .f32⟩
  | .hbm, ⟨12, _⟩ => ⟨S512x192, .f32⟩
  | .hbm, ⟨13, _⟩ => ⟨S512x192, .f32⟩
  | .hbm, ⟨14, _⟩ => ⟨S_, .f32⟩
  | .hbm, ⟨15, _⟩ => ⟨S512x192, .f32⟩
  | .hbm, ⟨16, _⟩ => ⟨S512x192, .f32⟩
  | .hbm, ⟨17, _⟩ => ⟨S512x192, .f32⟩
  | .hbm, ⟨18, _⟩ => ⟨S_, .f32⟩
  | .hbm, ⟨19, _⟩ => ⟨S512x192, .f32⟩
  | .hbm, ⟨20, _⟩ => ⟨S512x192, .f32⟩
  | .hbm, ⟨21, _⟩ => ⟨S512x192, .f32⟩
  | .hbm, ⟨22, _⟩ => ⟨S_, .f32⟩
  | .hbm, ⟨23, _⟩ => ⟨S512x192, .f32⟩
  | .hbm, ⟨24, _⟩ => ⟨S512x192, .f32⟩
  | .hbm, ⟨25, _⟩ => ⟨S_, .f32⟩
  | .hbm, ⟨26, _⟩ => ⟨S512x192, .f32⟩
  | .hbm, ⟨27, _⟩ => ⟨S512x192, .f32⟩
  | .hbm, ⟨28, _⟩ => ⟨S512x192, .f32⟩
  | .hbm, ⟨29, _⟩ => ⟨S_, .f32⟩
  | .hbm, ⟨30, _⟩ => ⟨S512x192, .f32⟩
  | .hbm, ⟨31, _⟩ => ⟨S512x192, .f32⟩
  | .hbm, ⟨32, _⟩ => ⟨S512x192, .f32⟩
  | .hbm, ⟨33, _⟩ => ⟨S_, .f32⟩
  | .hbm, ⟨34, _⟩ => ⟨S512x192, .f32⟩
  | .hbm, ⟨35, _⟩ => ⟨S512x192, .f32⟩
  | .hbm, ⟨36, _⟩ => ⟨S512x192, .f32⟩
  | .hbm, ⟨37, _⟩ => ⟨S_, .f32⟩
  | .hbm, ⟨38, _⟩ => ⟨S512x192, .f32⟩
  | .hbm, ⟨39, _⟩ => ⟨S512x192, .f32⟩
  | .hbm, ⟨40, _⟩ => ⟨S192x512, .f32⟩
  | .hbm, ⟨41, _⟩ => ⟨S192x512, .f32⟩
  | .hbm, ⟨42, _⟩ => ⟨S192x512, .f32⟩
  | .hbm, ⟨43, _⟩ => ⟨S192x512, .f32⟩
  | _, _ => ⟨S8x512x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== AdWukv.lean ====
abbrev S8x256x256 : Shape := ⟨3, ![8, 256, 256]⟩
abbrev S256x256 : Shape := ⟨2, ![256, 256]⟩
abbrev S1x256x256 : Shape := ⟨3, ![1, 256, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x256x256, .bf16⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .local _ .vmem, ⟨0, _⟩ => ⟨S8x256x256, .bf16⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S8x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdWukvRefIdeal.lean ====
abbrev S8x256x256 : Shape := ⟨3, ![8, 256, 256]⟩
abbrev S256x256 : Shape := ⟨2, ![256, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x256, .bf16⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S8x256x256, .f32⟩
  | .hbm, ⟨5, _⟩ => ⟨S_, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S_, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S_, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S_, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S_, .f32⟩
  | .hbm, ⟨26, _⟩ => ⟨S256x256, .f32⟩
  | .hbm, ⟨27, _⟩ => ⟨S256x256, .f32⟩
  | .hbm, ⟨28, _⟩ => ⟨S256x256, .f32⟩
  | .hbm, ⟨29, _⟩ => ⟨S_, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S_, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S_, .f32⟩
  | .hbm, ⟨38, _⟩ => ⟨S256x256, .f32⟩
  | .hbm, ⟨39, _⟩ => ⟨S256x256, .f32⟩
  | _, _ => ⟨S8x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdWout.lean ====
abbrev S8x256x2048 : Shape := ⟨3, ![8, 256, 2048]⟩
abbrev S256x2048 : Shape := ⟨2, ![256, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdWoutRefIdeal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdWup.lean ====
abbrev S4x2048x1408 : Shape := ⟨3, ![4, 2048, 1408]⟩
abbrev S2048x1408 : Shape := ⟨2, ![2048, 1408]⟩
abbrev S4x128x1408 : Shape := ⟨3, ![4, 128, 1408]⟩
abbrev S128x1408 : Shape := ⟨2, ![128, 1408]⟩
abbrev S1x128x1408 : Shape := ⟨3, ![1, 128, 1408]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x1408, .bf16⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S4x128x1408, .bf16⟩
  | .local _ .vmem, ⟨1, _⟩ => ⟨S4x128x1408, .bf16⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | _, _ => ⟨S4x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdWupRefIdeal.lean ====
abbrev S4x2048x1408 : Shape := ⟨3, ![4, 2048, 1408]⟩
abbrev S2048x1408 : Shape := ⟨2, ![2048, 1408]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x1408, .bf16⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S4x2048x1408, .f32⟩
  | .hbm, ⟨5, _⟩ => ⟨S_, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S_, .f32⟩
  | .hbm, ⟨11, _⟩ => ⟨S2048x1408, .f32⟩
  | .hbm, ⟨12, _⟩ => ⟨S2048x1408, .f32⟩
  | .hbm, ⟨13, _⟩ => ⟨S2048x1408, .f32⟩
  | .hbm, ⟨14, _⟩ => ⟨S_, .f32⟩
  | .hbm, ⟨15, _⟩ => ⟨S2048x1408, .f32⟩
  | .hbm, ⟨16, _⟩ => ⟨S2048x1408, .f32⟩
  | .hbm, ⟨17, _⟩ => ⟨S2048x1408, .f32⟩
  | .hbm, ⟨18, _⟩ => ⟨S_, .f32⟩
  | .hbm, ⟨19, _⟩ => ⟨S2048x1408, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S_, .f32⟩
  | .hbm, ⟨26, _⟩ => ⟨S2048x1408, .f32⟩
  | .hbm, ⟨27, _⟩ => ⟨S2048x1408, .f32⟩
  | .hbm, ⟨28, _⟩ => ⟨S2048x1408, .f32⟩
  | .hbm, ⟨29, _⟩ => ⟨S_, .f32⟩
  | .hbm, ⟨30, _⟩ => ⟨S2048x1408, .f32⟩
  | .hbm, ⟨31, _⟩ => ⟨S2048x1408, .f32⟩
  | .hbm, ⟨32, _⟩ => ⟨S2048x1408, .f32⟩
  | .hbm, ⟨33, _⟩ => ⟨S_, .f32⟩
  | .hbm, ⟨34, _⟩ => ⟨S2048x1408, .f32⟩
  | .hbm, ⟨35, _⟩ => ⟨S2048x1408, .f32⟩
  | .hbm, ⟨36, _⟩ => ⟨S2048x1408, .f32⟩
  | .hbm, ⟨37, _⟩ => ⟨S_, .f32⟩
  | .hbm, ⟨38, _⟩ => ⟨S2048x1408, .f32⟩
  | .hbm, ⟨39, _⟩ => ⟨S2048x1408, .f32⟩
  | _, _ => ⟨S4x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdWdown.lean ====
abbrev S8x704x2048 : Shape := ⟨3, ![8, 704, 2048]⟩
abbrev S704x2048 : Shape := ⟨2, ![704, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdWdownRefIdeal.lean ====
abbrev S8x704x2048 : Shape := ⟨3, ![8, 704, 2048]⟩
abbrev S704x2048 : Shape := ⟨2, ![704, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S8x704x2048, .f32⟩
  | .hbm, ⟨5, _⟩ => ⟨S_, .f32⟩
  | .hbm, ⟨6, _⟩ => ⟨S704x2048, .f32⟩
  | .hbm, ⟨7, _⟩ => ⟨S_, .f32⟩
  | .hbm, ⟨8, _⟩ => ⟨S704x2048, .f32⟩
  | .hbm, ⟨9, _⟩ => ⟨S704x2048, .f32⟩
  | .hbm, ⟨10, _⟩ => ⟨S_, .f32⟩
  | .hbm, ⟨11, _⟩ => ⟨S704x2048, .f32⟩
  | .hbm, ⟨12, _⟩ => ⟨S704x2048, .f32⟩
  | .hbm, ⟨13, _⟩ => ⟨S704x2048, .f32⟩
  | .hbm, ⟨14, _⟩ => ⟨S_, .f32⟩
  | .hbm, ⟨15, _⟩ => ⟨S704x2048, .f32⟩
  | .hbm, ⟨16, _⟩ => ⟨S704x2048, .f32⟩
  | .hbm, ⟨17, _⟩ => ⟨S704x2048, .f32⟩
  | .hbm, ⟨18, _⟩ => ⟨S_, .f32⟩
  | .hbm, ⟨19, _⟩ => ⟨S704x2048, .f32⟩
  | .hbm, ⟨20, _⟩ => ⟨S704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S_, .f32⟩
  | .hbm, ⟨26, _⟩ => ⟨S704x2048, .f32⟩
  | .hbm, ⟨27, _⟩ => ⟨S704x2048, .f32⟩
  | .hbm, ⟨28, _⟩ => ⟨S704x2048, .f32⟩
  | .hbm, ⟨29, _⟩ => ⟨S_, .f32⟩
  | .hbm, ⟨30, _⟩ => ⟨S704x2048, .f32⟩
  | .hbm, ⟨31, _⟩ => ⟨S704x2048, .f32⟩
  | .hbm, ⟨32, _⟩ => ⟨S704x2048, .f32⟩
  | .hbm, ⟨33, _⟩ => ⟨S_, .f32⟩
  | .hbm, ⟨34, _⟩ => ⟨S704x2048, .f32⟩
  | .hbm, ⟨35, _⟩ => ⟨S704x2048, .f32⟩
  | .hbm, ⟨36, _⟩ => ⟨S704x2048, .f32⟩
  | .hbm, ⟨37, _⟩ => ⟨S_, .f32⟩
  | .hbm, ⟨38, _⟩ => ⟨S704x2048, .f32⟩
  | .hbm, ⟨39, _⟩ => ⟨S704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdConvw.lean ====
abbrev S8x3x1408 : Shape := ⟨3, ![8, 3, 1408]⟩
abbrev S3x1408 : Shape := ⟨2, ![3, 1408]⟩
abbrev S1x3x1408 : Shape := ⟨3, ![1, 3, 1408]⟩

abbrev nBuf : Space → Nat
  | .hbm => 8
  | .vmem => 8
  | .smem => 0
  | _ => 0

abbrev bufTy : (tb : Table) → Fin (tcTables nBuf tb) → BufTy
  | .hbm, ⟨0, _⟩ => ⟨S8x3x1408, .f32⟩
  | .hbm, ⟨1, _⟩ => ⟨S3x1408, .f32⟩
  | .hbm, ⟨2, _⟩ => ⟨S3x1408, .f32⟩
  | .hbm, ⟨3, _⟩ => ⟨S3x1408, .f32⟩
  | .hbm, ⟨4, _⟩ => ⟨S3x1408, .f32⟩
  | .hbm, ⟨5, _⟩ => ⟨S3x1408, .f32⟩
  | .hbm, ⟨6, _⟩ => ⟨S3x1408, .f32⟩
  | .hbm, ⟨7, _⟩ => ⟨S3x1408, .f32⟩
  | .local _ .vmem, ⟨0, _⟩ => ⟨S8x3x1408, .f32⟩
  | .local _ .vmem, ⟨1, _⟩ => ⟨S3x1408, .f32⟩
  | .local _ .vmem, ⟨2, _⟩ => ⟨S3x1408, .f32⟩
  | .local _ .vmem, ⟨3, _⟩ => ⟨S3x1408, .f32⟩
  | .local _ .vmem, ⟨4, _⟩ => ⟨S3x1408, .f32⟩
  | .local _ .vmem, ⟨5, _⟩ => ⟨S3x1408, .f32⟩
  | .local _ .vmem, ⟨6, _⟩ => ⟨S3x1408, .f32⟩
  | .local _ .vmem, ⟨7, _⟩ => ⟨S3x1408, .f32⟩
  | _, _ => ⟨S8x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x3x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x1408 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdConvwRefIdeal.lean ====
abbrev S8x3x1408 : Shape := ⟨3, ![8, 3, 1408]⟩
abbrev S3x1408 : Shape := ⟨2, ![3, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x3x1408, .f32⟩
  | .hbm, ⟨1, _⟩ => ⟨S3x1408, .f32⟩
  | .hbm, ⟨2, _⟩ => ⟨S3x1408, .f32⟩
  | .hbm, ⟨3, _⟩ => ⟨S3x1408, .f32⟩
  | .hbm, ⟨4, _⟩ => ⟨S_, .f32⟩
  | .hbm, ⟨5, _⟩ => ⟨S3x1408, .f32⟩
  | .hbm, ⟨6, _⟩ => ⟨S_, .f32⟩
  | .hbm, ⟨7, _⟩ => ⟨S3x1408, .f32⟩
  | .hbm, ⟨8, _⟩ => ⟨S3x1408, .f32⟩
  | .hbm, ⟨9, _⟩ => ⟨S_, .f32⟩
  | .hbm, ⟨10, _⟩ => ⟨S3x1408, .f32⟩
  | .hbm, ⟨11, _⟩ => ⟨S3x1408, .f32⟩
  | .hbm, ⟨12, _⟩ => ⟨S3x1408, .f32⟩
  | .hbm, ⟨13, _⟩ => ⟨S_, .f32⟩
  | .hbm, ⟨14, _⟩ => ⟨S3x1408, .f32⟩
  | .hbm, ⟨15, _⟩ => ⟨S3x1408, .f32⟩
  | .hbm, ⟨16, _⟩ => ⟨S3x1408, .f32⟩
  | .hbm, ⟨17, _⟩ => ⟨S_, .f32⟩
  | .hbm, ⟨18, _⟩ => ⟨S3x1408, .f32⟩
  | .hbm, ⟨19, _⟩ => ⟨S3x1408, .f32⟩
  | .hbm, ⟨20, _⟩ => ⟨S3x1408, .f32⟩
  | .hbm, ⟨21, _⟩ => ⟨S_, .f32⟩
  | .hbm, ⟨22, _⟩ => ⟨S3x1408, .f32⟩
  | .hbm, ⟨23, _⟩ => ⟨S3x1408, .f32⟩
  | .hbm, ⟨24, _⟩ => ⟨S_, .f32⟩
  | .hbm, ⟨25, _⟩ => ⟨S3x1408, .f32⟩
  | .hbm, ⟨26, _⟩ => ⟨S3x1408, .f32⟩
  | .hbm, ⟨27, _⟩ => ⟨S3x1408, .f32⟩
  | .hbm, ⟨28, _⟩ => ⟨S_, .f32⟩
  | .hbm, ⟨29, _⟩ => ⟨S3x1408, .f32⟩
  | .hbm, ⟨30, _⟩ => ⟨S3x1408, .f32⟩
  | .hbm, ⟨31, _⟩ => ⟨S3x1408, .f32⟩
  | .hbm, ⟨32, _⟩ => ⟨S_, .f32⟩
  | .hbm, ⟨33, _⟩ => ⟨S3x1408, .f32⟩
  | .hbm, ⟨34, _⟩ => ⟨S3x1408, .f32⟩
  | .hbm, ⟨35, _⟩ => ⟨S3x1408, .f32⟩
  | .hbm, ⟨36, _⟩ => ⟨S_, .f32⟩
  | .hbm, ⟨37, _⟩ => ⟨S3x1408, .f32⟩
  | .hbm, ⟨38, _⟩ => ⟨S3x1408, .f32⟩
  | _, _ => ⟨S8x3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.ConvMath.lean ====
module

public import Idealize.ShloMosaic.Lib.Pointwise

/-!
The mathematics of the convolution gate and its gradient, one column at a time: a column is a function of the 2048
rows. `dn k` moves a column `k` rows down with zeros above, `up k` is its transpose.
-/

@[expose] public section

noncomputable section

namespace ConvMath

open Idealize.ShloMosaic

/-- A column moved `k` rows down, zeros coming in at the top. -/
def dn (k : ℕ) (f : Fin 2048 → EReal) (t : Fin 2048) : EReal :=
  if k ≤ t.val then f ⟨t.val - k, by omega⟩ else 0

/-- A column moved `k` rows up, zeros coming in at the bottom. -/
def up (k : ℕ) (f : Fin 2048 → EReal) (t : Fin 2048) : EReal :=
  if h : t.val + k < 2048 then f ⟨t.val + k, h⟩ else 0

/-- The causal convolution of length three of one column. -/
def conv (w : Fin 3 → EReal) (b : EReal) (a : Fin 2048 → EReal) (t : Fin 2048) : EReal :=
  w 2 * a t + w 1 * dn 1 a t + w 0 * dn 2 a t + b

/-- The gradient of the value's column, from the gate's convolved column and the incoming gradient. -/
def dVal (g dm : Fin 2048 → EReal) (t : Fin 2048) : EReal := dm t * Ideal.div 1 (1 + Ideal.exp (-g t)) * g t

/-- The gradient of the gate's column. -/
def dGate (g v dm : Fin 2048 → EReal) (t : Fin 2048) : EReal :=
  dm t * Ideal.div 1 (1 + Ideal.exp (-g t)) * v t * (1 + g t * (1 - Ideal.div 1 (1 + Ideal.exp (-g t))))

/-- The gradient of the convolved column of half `r`: 0 the gate, 1 the value. -/
def dCol (r : Fin 2) (g v dm : Fin 2048 → EReal) (t : Fin 2048) : EReal :=
  if r = 0 then dGate g v dm t else dVal g dm t

/-- The convolution's gradient in its input column. -/
def dIn (w : Fin 3 → EReal) (d : Fin 2048 → EReal) (t : Fin 2048) : EReal :=
  w 2 * d t + w 1 * up 1 d t + w 0 * up 2 d t

/-- The column of half `r` that column `j` of the gradient meets. -/
def col (r : Fin 2) (j : Fin 5632) : Fin 11264 := ⟨r.val * 5632 + j.val, by omega⟩

section
variable (A : Fin 2048 → Fin 11264 → EReal) (W : Fin 3 → Fin 11264 → EReal) (B : Fin 11264 → EReal)
  (M : Fin 2048 → Fin 5632 → EReal)

/-- The convolved column. -/
def cv (j : Fin 11264) : Fin 2048 → EReal := conv (fun k => W k j) (B j) (fun t => A t j)
/-- The gradient of a convolved column. -/
def dOut (r : Fin 2) (j : Fin 5632) : Fin 2048 → EReal :=
  dCol r (cv A W B (col 0 j)) (cv A W B (col 1 j)) (fun t => M t j)
/-- The gradient of the input. -/
def gA (r : Fin 2) (j : Fin 5632) : Fin 2048 → EReal := dIn (fun k => W k (col r j)) (dOut A W B M r j)
/-- The gradient of the weights. -/
def gW (r : Fin 2) (j : Fin 5632) (k : Fin 3) : EReal :=
  ∑ t, dOut A W B M r j t * dn (2 - k.val) (fun t => A t (col r j)) t
/-- The gradient of the bias. -/
def gB (r : Fin 2) (j : Fin 5632) : EReal := ∑ t, dOut A W B M r j t
end

end ConvMath
-- ==== Proof.ConvPay.lean ====
module

public import proofs.«01_k».proof.Proof.ConvMath
public import proofs.«01_k».proof.Proof.Gen.ConvIdeal.Value
public import Idealize.ShloMosaic.Lib.Pipeline.ValueKit.Point

@[expose] public section

set_option maxRecDepth 16384

noncomputable section

namespace ConvPay

open Idealize.ShloMosaic Idealize.ShloMosaic.TcCoe Cert.ConvIdeal Cert.ConvIdeal.Gen ConvMath

variable [Cert.ConvIdeal.Facts]

theorem ix4_of {n0 n1 n2 n3 : ℕ} (x : (⟨4, ![n0, n1, n2, n3]⟩ : Shape).Idx) (a : Fin n0) (b : Fin n1) (c : Fin n2) (d : Fin n3)
    (h0 : (x 0 : ℕ) = a) (h1 : (x 1 : ℕ) = b) (h2 : (x 2 : ℕ) = c) (h3 : (x 3 : ℕ) = d) : x = ix4 a b c d := by
  obtain rfl : x 0 = a := Fin.ext h0
  obtain rfl : x 1 = b := Fin.ext h1
  obtain rfl : x 2 = c := Fin.ext h2
  obtain rfl : x 3 = d := Fin.ext h3
  exact eq_ix4 x

/-! ## The shifts as the kernel writes them -/

theorem sel_ge (t k : ℕ) (ht : t < 8) (hk : k < 8) (a b : EReal) :
    Scalar.select (IntOp.cmpi .sge (BitVec.ofNat 32 t) (BitVec.ofNat 32 k)) a b = if k ≤ t then a else b := by
  interval_cases t <;> interval_cases k <;> rfl

theorem sel_lt (t k : ℕ) (ht : t < 8) (hk : k < 8) (a b : EReal) :
    Scalar.select (IntOp.cmpi .slt (BitVec.ofNat 32 t) (BitVec.ofNat 32 k)) a b = if t < k then a else b := by
  interval_cases t <;> interval_cases k <;> rfl

/-- A rotation down whose first eight rows are masked. -/
theorem rot_dn (k : ℕ) (hk : 0 < k) (hk8 : k < 8) (f : Fin 2048 → EReal) (t : Fin 2048)
    (p : t.val < 8 → (t.val + 2048 - k) % 2048 < 2048) (q : ¬ t.val < 8 → (8 + (t.val - 8) + 2048 - k) % 2048 < 2048) :
    (if h : t.val < 8 then Scalar.select (IntOp.cmpi .sge (BitVec.ofNat 32 t.val) (BitVec.ofNat 32 k)) (f ⟨(t.val + 2048 - k) % 2048, p h⟩) 0
      else f ⟨(8 + (t.val - 8) + 2048 - k) % 2048, q h⟩) = dn k f t := by
  unfold dn
  split_ifs with h h1 h1
  · rw [sel_ge _ _ h hk8, if_pos h1]; congr 2; omega
  · rw [sel_ge _ _ h hk8, if_neg h1]
  · congr 2; omega
  · omega

/-- A rotation up whose last eight rows are masked. -/
theorem rot_up (k : ℕ) (hk : 0 < k) (hk8 : k < 8) (f : Fin 2048 → EReal) (t : Fin 2048)
    (p : t.val < 2040 → (t.val + 2048 - (2048 - k)) % 2048 < 2048)
    (q : ¬ t.val < 2040 → (2040 + (t.val - 2040) + 2048 - (2048 - k)) % 2048 < 2048) :
    (if h : t.val < 2040 then f ⟨(t.val + 2048 - (2048 - k)) % 2048, p h⟩
      else Scalar.select (IntOp.cmpi .slt (BitVec.ofNat 32 (t.val - 2040)) (BitVec.ofNat 32 (8 - k)))
        (f ⟨(2040 + (t.val - 2040) + 2048 - (2048 - k)) % 2048, q h⟩) 0) = up k f t := by
  unfold up
  have := t.isLt
  split_ifs with h h1 h1
  · congr 2; omega
  · omega
  · rw [sel_lt _ _ (by omega) (by omega), if_pos (by omega)]; congr 2; omega
  · rw [sel_lt _ _ (by omega) (by omega), if_neg (by omega)]

theorem pay7_apply (v : Vec Ideal S1x1x2048x128 .f32) (t : Fin 2048) (l : Fin 128) :
    k0_pay7 v (ix2 t l) = dn 1 (fun t => v (ix4 0 0 t l)) t := by
  pointwise [k0_pay7, k0_pay2]
  exact rot_dn 1 (by decide) (by decide) (fun t => v (ix4 0 0 t l)) t _ _

theorem pay8_apply (v : Vec Ideal S1x1x2048x128 .f32) (t : Fin 2048) (l : Fin 128) :
    k0_pay8 v (ix2 t l) = dn 2 (fun t => v (ix4 0 0 t l)) t := by
  pointwise [k0_pay8, k0_pay2]
  exact rot_dn 2 (by decide) (by decide) (fun t => v (ix4 0 0 t l)) t _ _

theorem pay12_apply (v : FVec Ideal S2048x128 .f32) (t : Fin 2048) (l : Fin 128) :
    k0_pay12 v (ix2 t l) = dn 1 (fun t => v (ix2 t l)) t := by
  pointwise [k0_pay12]
  exact rot_dn 1 (by decide) (by decide) (fun t => v (ix2 t l)) t _ _

theorem pay13_apply (v : FVec Ideal S2048x128 .f32) (t : Fin 2048) (l : Fin 128) :
    k0_pay13 v (ix2 t l) = dn 2 (fun t => v (ix2 t l)) t := by
  pointwise [k0_pay13]
  exact rot_dn 2 (by decide) (by decide) (fun t => v (ix2 t l)) t _ _

theorem pay26_apply (v : FVec Ideal S2048x128 .f32) (t : Fin 2048) (l : Fin 128) :
    k0_pay26 v (ix2 t l) = up 1 (fun t => v (ix2 t l)) t := by
  pointwise [k0_pay26]
  exact rot_up 1 (by decide) (by decide) (fun t => v (ix2 t l)) t _ _

theorem pay27_apply (v : FVec Ideal S2048x128 .f32) (t : Fin 2048) (l : Fin 128) :
    k0_pay27 v (ix2 t l) = up 2 (fun t => v (ix2 t l)) t := by
  pointwise [k0_pay27]
  exact rot_up 2 (by decide) (by decide) (fun t => v (ix2 t l)) t _ _

theorem pay20_apply (w : FVec Ideal S3x128 .f32) (x y : FVec Ideal S2048x128 .f32) (o : EReal) (t : Fin 2048) (l : Fin 128) :
    k0_pay20 (F := Ideal) w x y o (ix4 0 0 t l) = dIn (fun k => w (ix2 k l)) (fun t => k0_pay19 (F := Ideal) x y o (ix2 t l)) t := by
  pointwise [k0_pay20]
  unfold dIn
  congr 1
  · congr 2
    exact rot_up 1 (by decide) (by decide) (fun t => k0_pay19 (F := Ideal) x y o (ix2 t l)) t _ _
  · congr 1
    exact rot_up 2 (by decide) (by decide) (fun t => k0_pay19 (F := Ideal) x y o (ix2 t l)) t _ _

/-! ## The block's columns -/

section
variable (x0 : Vec Ideal S1x2x2048x128 .f32) (x1 x2 : Vec Ideal S1x3x128 .f32) (x3 x4 : Vec Ideal S1x1x128 .f32)
  (x5 : Vec Ideal S2048x128 .f32) (l : Fin 128)

/-- The gate's convolved column. -/
abbrev gC : Fin 2048 → EReal := conv (fun k => x1 (ix3 0 k l)) (x3 (ix3 0 0 l)) (fun t => x0 (ix4 0 0 t l))
/-- The value's convolved column. -/
abbrev vC : Fin 2048 → EReal := conv (fun k => x2 (ix3 0 k l)) (x4 (ix3 0 0 l)) (fun t => x0 (ix4 0 1 t l))

theorem pay42_apply (t : Fin 2048) :
    k0_pay42 x0 x1 x2 x3 x4 x5 (ix2 t l) = dVal (gC x0 x1 x3 l) (fun t => x5 (ix2 t l)) t := by
  pointwise [k0_pay42, k0_pay16, k0_pay15, k0_pay14, k0_pay11, k0_pay34, k0_pay37, k0_pay38, k0_pay39, k0_pay40, k0_pay41,
    k0_pay3, k0_pay6, k0_pay9, k0_pay10, k0_pay2, pay7_apply, pay8_apply]
  rfl

theorem pay45_apply (t : Fin 2048) :
    k0_pay45 x0 x1 x2 x3 x4 x5 (ix2 t l) = dGate (gC x0 x1 x3 l) (vC x0 x2 x4 l) (fun t => x5 (ix2 t l)) t := by
  pointwise [k0_pay45, k0_pay19, k0_pay43, k0_pay44, k0_pay17, k0_pay18, k0_pay15, k0_pay14, k0_pay11, k0_pay34, k0_pay35, k0_pay36, k0_pay37, k0_pay38, k0_pay39, k0_pay40, k0_pay41,
    k0_pay3, k0_pay5, k0_pay4, k0_pay6, k0_pay9, k0_pay10, k0_pay2, pay7_apply, pay8_apply, pay12_apply, pay13_apply]
  rfl

/-- The gradient of the column of half `r` (0 the gate, 1 the value). -/
abbrev dC (r : Fin 2) : Fin 2048 → EReal :=
  dCol r (gC x0 x1 x3 l) (vC x0 x2 x4 l) (fun t => x5 (ix2 t l))

theorem pay20_block (t : Fin 2048) :
    k0_pay20 (k0_pay34 x0 x1 x2 x3 x4 x5) (k0_pay43 x0 x1 x2 x3 x4 x5) (k0_pay44 x0 x1 x2 x3 x4 x5)
      (Scalar.ofBits .f32 0x3F800000#32) (ix4 0 0 t l)
      = dIn (fun k => x1 (ix3 0 k l)) (dC x0 x1 x2 x3 x4 x5 l 0) t := by
  rw [pay20_apply]
  congr 1
  · funext k
    pointwise [k0_pay34, k0_pay3]
  · funext t
    exact pay45_apply x0 x1 x2 x3 x4 x5 l t

theorem pay29_block (t : Fin 2048) :
    k0_pay29 (k0_pay36 x0 x1 x2 x3 x4 x5) (k0_pay42 x0 x1 x2 x3 x4 x5) (k0_pay26 (k0_pay42 x0 x1 x2 x3 x4 x5))
      (k0_pay27 (k0_pay42 x0 x1 x2 x3 x4 x5)) (k0_pay28 (k0_pay36 x0 x1 x2 x3 x4 x5)) (ix4 0 0 t l)
      = dIn (fun k => x2 (ix3 0 k l)) (dC x0 x1 x2 x3 x4 x5 l 1) t := by
  pointwise [k0_pay29, k0_pay28, k0_pay36, k0_pay5, pay26_apply, pay27_apply, pay42_apply]
  rfl

theorem out6_apply (r : Fin 2) (t : Fin 2048) :
    out0_6 x0 x1 x2 x3 x4 x5 (ix4 0 r t l)
      = dIn (fun k => if r = 0 then x1 (ix3 0 k l) else x2 (ix3 0 k l)) (dC x0 x1 x2 x3 x4 x5 l r) t := by
  unfold out0_6
  canon_tiles x h
  · obtain rfl : r = 1 := Fin.ext (h1.trans (by rw [Nat.lt_one_iff.mp x1_lt]; rfl))
    rw [ix4_of x 0 0 t l (Nat.lt_one_iff.mp x0_lt) (Nat.lt_one_iff.mp x1_lt) h2.symm h3.symm]
    exact pay29_block x0 x1 x2 x3 x4 x5 l t
  · obtain rfl : r = 0 := Fin.ext (h1.trans (Nat.lt_one_iff.mp x1_lt))
    rw [ix4_of x 0 0 t l (Nat.lt_one_iff.mp x0_lt) (Nat.lt_one_iff.mp x1_lt) h2.symm h3.symm]
    exact pay20_block x0 x1 x2 x3 x4 x5 l t

theorem out7_apply (r : Fin 2) (k : Fin 3) :
    out0_7 x0 x1 x2 x3 x4 x5 (ix4 0 r k l)
      = ∑ t, dC x0 x1 x2 x3 x4 x5 l r t * dn (2 - k.val) (fun t => x0 (ix4 0 r t l)) t := by
  unfold out0_7
  canon_tiles x h
  all_goals
    rw [ix4_of x 0 0 0 l (Nat.lt_one_iff.mp x0_lt) (Nat.lt_one_iff.mp x1_lt) (Nat.lt_one_iff.mp x2_lt) h3.symm]
    rw [Nat.lt_one_iff.mp x1_lt] at h1
    rw [Nat.lt_one_iff.mp x2_lt] at h2
  · obtain rfl : r = 1 := Fin.ext h1
    obtain rfl : k = 2 := Fin.ext h2
    pointwise [k0_pay32, k0_pay35, k0_pay4, pay42_apply]
    rfl
  · obtain rfl : r = 1 := Fin.ext h1
    obtain rfl : k = 1 := Fin.ext h2
    pointwise [k0_pay31, k0_pay35, k0_pay4, pay42_apply, pay12_apply]
    rfl
  · obtain rfl : r = 1 := Fin.ext h1
    obtain rfl : k = 0 := Fin.ext h2
    pointwise [k0_pay30, k0_pay35, k0_pay4, pay42_apply, pay13_apply]
    rfl
  · obtain rfl : r = 0 := Fin.ext h1
    obtain rfl : k = 2 := Fin.ext h2
    pointwise [k0_pay24, k0_pay2, pay45_apply]
    rfl
  · obtain rfl : r = 0 := Fin.ext h1
    obtain rfl : k = 1 := Fin.ext h2
    change k0_pay23 (mulf (k0_pay45 x0 x1 x2 x3 x4 x5) (k0_pay38 x0 x1 x2 x3 x4 x5)) _ = _
    pointwise [k0_pay23, k0_pay38, pay7_apply, pay45_apply]
    rfl
  · obtain rfl : r = 0 := Fin.ext h1
    obtain rfl : k = 0 := Fin.ext h2
    have e : k0_pay19 (k0_pay43 x0 x1 x2 x3 x4 x5) (k0_pay44 x0 x1 x2 x3 x4 x5) (Scalar.ofBits .f32 0x3F800000#32)
      = k0_pay45 x0 x1 x2 x3 x4 x5 := rfl
    unfold k0_pay21
    rw [e]
    pointwise [k0_pay39, pay8_apply, pay45_apply]
    rfl

theorem out8_apply (r : Fin 2) :
    out0_8 x0 x1 x2 x3 x4 x5 (ix4 0 r 0 l) = ∑ t, dC x0 x1 x2 x3 x4 x5 l r t := by
  unfold out0_8
  canon_tiles x h
  all_goals
    rw [ix4_of x 0 0 0 l (Nat.lt_one_iff.mp x0_lt) (Nat.lt_one_iff.mp x1_lt) (Nat.lt_one_iff.mp x2_lt) h3.symm]
    rw [Nat.lt_one_iff.mp x1_lt] at h1
  · obtain rfl : r = 1 := Fin.ext h1
    pointwise [k0_pay1, k0_pay33, pay42_apply]
    rfl
  · obtain rfl : r = 0 := Fin.ext h1
    pointwise [k0_pay25, pay45_apply]
    rfl

end

end ConvPay
-- ==== Proof.ConvArr.lean ====
module

public import proofs.«01_k».proof.Proof.ConvPay

@[expose] public section

set_option maxRecDepth 16384

noncomputable section

namespace ConvArr

open Idealize.ShloMosaic Idealize.ShloMosaic.TcCoe Idealize.SL.Sem Cert.ConvIdeal Cert.ConvIdeal.Gen ConvMath ConvPay
open Idealize.ShloMosaic.Pipeline (Dat)

variable (m : (ℓ : Loc nD τ sig) → Buf (Elt Ideal) ℓ)

theorem idx0 : ∀ t : Fin cfg0.N, win0_0.index t = ![(grid0.coords t 0).val, 0, 0, (grid0.coords t 1).val] :=
  (by decide +kernel : ∀ t : Fin grid0.N, _)
theorem idx1 : ∀ t : Fin cfg0.N, win0_1.index t = ![(grid0.coords t 0).val, 0, (grid0.coords t 1).val] :=
  (by decide +kernel : ∀ t : Fin grid0.N, _)
theorem idx2 : ∀ t : Fin cfg0.N, win0_2.index t = ![(grid0.coords t 0).val + 4, 0, (grid0.coords t 1).val] :=
  (by decide +kernel : ∀ t : Fin grid0.N, _)
theorem idx3 : ∀ t : Fin cfg0.N, win0_3.index t = ![(grid0.coords t 0).val, 0, (grid0.coords t 1).val] :=
  (by decide +kernel : ∀ t : Fin grid0.N, _)
theorem idx4 : ∀ t : Fin cfg0.N, win0_4.index t = ![(grid0.coords t 0).val + 4, 0, (grid0.coords t 1).val] :=
  (by decide +kernel : ∀ t : Fin grid0.N, _)
theorem idx5 : ∀ t : Fin cfg0.N, win0_5.index t = ![0, (grid0.coords t 0).val * 11 + (grid0.coords t 1).val] :=
  (by decide +kernel : ∀ t : Fin grid0.N, _)
theorem idx6 : ∀ t : Fin cfg0.N, win0_6.index t = ![(grid0.coords t 0).val, 0, 0, (grid0.coords t 1).val] :=
  (by decide +kernel : ∀ t : Fin grid0.N, _)
theorem idx7 : ∀ t : Fin cfg0.N, win0_7.index t = ![(grid0.coords t 0).val, 0, 0, (grid0.coords t 1).val] :=
  (by decide +kernel : ∀ t : Fin grid0.N, _)
theorem idx8 : ∀ t : Fin cfg0.N, win0_8.index t = ![(grid0.coords t 0).val, 0, 0, (grid0.coords t 1).val] :=
  (by decide +kernel : ∀ t : Fin grid0.N, _)

/-- The column of a lane of point `t`'s block, in one half. -/
def jj (t : Fin cfg0.N) (l : Fin 128) : Fin 5632 :=
  ⟨(grid0.coords t 0).val * 1408 + (grid0.coords t 1).val * 128 + l.val, by
    have h0 : (grid0.coords t 0).val < 4 := (grid0.coords t 0).isLt
    have h1 : (grid0.coords t 1).val < 11 := (grid0.coords t 1).isLt
    omega⟩

theorem blk0 (c : Dev nD) (t : Fin cfg0.N) (r : Fin 2) (s : Fin 2048) (l : Fin 128) :
    iblk m c 0 t (ix4 0 r s l) = m ((c : Thread nD τ).loc main_arg0) (ix2 s (col r (jj t l))) := by
  blk_ext! [iblk, V, idx0 t, jj, col]

/-- Point `t`'s first coordinate. -/
def qq (t : Fin cfg0.N) : Fin 4 := ⟨(grid0.coords t 0).val, (grid0.coords t 0).isLt⟩
/-- A lane of point `t`'s block in a result. -/
def xx (t : Fin cfg0.N) (l : Fin 128) : Fin 1408 :=
  ⟨(grid0.coords t 1).val * 128 + l.val, by
    have h1 : (grid0.coords t 1).val < 11 := (grid0.coords t 1).isLt
    omega⟩

/-- The block of the value's half at point `t`. -/
def q8 (t : Fin cfg0.N) : Fin 8 := ⟨(grid0.coords t 0).val + 4, by
  have h0 : (grid0.coords t 0).val < 4 := (grid0.coords t 0).isLt
  omega⟩
/-- The block of the gate's half at point `t`. -/
def q0 (t : Fin cfg0.N) : Fin 8 := ⟨(grid0.coords t 0).val, by
  have h0 : (grid0.coords t 0).val < 4 := (grid0.coords t 0).isLt
  omega⟩

theorem V3 (c : Dev nD) (a : Fin 8) (b : Fin 3) (x : Fin 1408) :
    V m c main_v3 (ix3 a b x) = m ((c : Thread nD τ).loc main_arg1) (ix2 b ⟨a.val * 1408 + x.val, by omega⟩) := by
  entry_read
  pointwise

theorem V4 (c : Dev nD) (a : Fin 8) (x : Fin 1408) :
    V m c main_v4 (ix3 a 0 x) = m ((c : Thread nD τ).loc main_arg2) (ix1 ⟨a.val * 1408 + x.val, by omega⟩) := by
  entry_read
  pointwise

theorem emb1 (t : Fin cfg0.N) (s : Fin 3) (l : Fin 128) :
    (win0_1.blk t).view.emb (ix3 0 s l) = ix3 (q0 t) s (xx t l) := by
  blk_ext [idx1 t, q0, xx]

theorem emb2 (t : Fin cfg0.N) (s : Fin 3) (l : Fin 128) :
    (win0_2.blk t).view.emb (ix3 0 s l) = ix3 (q8 t) s (xx t l) := by
  blk_ext [idx2 t, q8, xx]

theorem emb3 (t : Fin cfg0.N) (l : Fin 128) :
    (win0_3.blk t).view.emb (ix3 0 0 l) = ix3 (q0 t) 0 (xx t l) := by
  blk_ext [idx3 t, q0, xx]

theorem emb4 (t : Fin cfg0.N) (l : Fin 128) :
    (win0_4.blk t).view.emb (ix3 0 0 l) = ix3 (q8 t) 0 (xx t l) := by
  blk_ext [idx4 t, q8, xx]

theorem col0 (t : Fin cfg0.N) (l : Fin 128) (h : (q0 t).val * 1408 + (xx t l).val < 11264) :
    (⟨(q0 t).val * 1408 + (xx t l).val, h⟩ : Fin 11264) = col 0 (jj t l) := by
  apply Fin.ext
  show (grid0.coords t 0).val * 1408 + ((grid0.coords t 1).val * 128 + l.val)
    = 0 * 5632 + ((grid0.coords t 0).val * 1408 + (grid0.coords t 1).val * 128 + l.val)
  omega

theorem col1 (t : Fin cfg0.N) (l : Fin 128) (h : (q8 t).val * 1408 + (xx t l).val < 11264) :
    (⟨(q8 t).val * 1408 + (xx t l).val, h⟩ : Fin 11264) = col 1 (jj t l) := by
  apply Fin.ext
  show ((grid0.coords t 0).val + 4) * 1408 + ((grid0.coords t 1).val * 128 + l.val)
    = 1 * 5632 + ((grid0.coords t 0).val * 1408 + (grid0.coords t 1).val * 128 + l.val)
  omega

theorem blk1 (c : Dev nD) (t : Fin cfg0.N) (r : Fin 3) (l : Fin 128) :
    iblk m c 1 t (ix3 0 r l) = m ((c : Thread nD τ).loc main_arg1) (ix2 r (col 0 (jj t l))) := by
  show V m c main_v3 ((win0_1.blk t).view.emb (ix3 0 r l)) = _
  rw [emb1, V3, col0]

theorem blk2 (c : Dev nD) (t : Fin cfg0.N) (r : Fin 3) (l : Fin 128) :
    iblk m c 2 t (ix3 0 r l) = m ((c : Thread nD τ).loc main_arg1) (ix2 r (col 1 (jj t l))) := by
  show V m c main_v3 ((win0_2.blk t).view.emb (ix3 0 r l)) = _
  rw [emb2, V3, col1]

theorem blk3 (c : Dev nD) (t : Fin cfg0.N) (l : Fin 128) :
    iblk m c 3 t (ix3 0 0 l) = m ((c : Thread nD τ).loc main_arg2) (ix1 (col 0 (jj t l))) := by
  show V m c main_v4 ((win0_3.blk t).view.emb (ix3 0 0 l)) = _
  rw [emb3, V4, col0]

theorem blk4 (c : Dev nD) (t : Fin cfg0.N) (l : Fin 128) :
    iblk m c 4 t (ix3 0 0 l) = m ((c : Thread nD τ).loc main_arg2) (ix1 (col 1 (jj t l))) := by
  show V m c main_v4 ((win0_4.blk t).view.emb (ix3 0 0 l)) = _
  rw [emb4, V4, col1]

theorem blk5 (c : Dev nD) (t : Fin cfg0.N) (s : Fin 2048) (l : Fin 128) :
    iblk m c 5 t (ix2 s l) = m ((c : Thread nD τ).loc main_arg3) (ix2 s (jj t l)) := by
  blk_ext! [iblk, V, idx5 t, jj, col]

/-- The input by row and column. -/
abbrev aA (c : Dev nD) (t : Fin 2048) (j : Fin 11264) : EReal := m ((c : Thread nD τ).loc main_arg0) (ix2 t j)
/-- The weights. -/
abbrev aW (c : Dev nD) (t : Fin 3) (j : Fin 11264) : EReal := m ((c : Thread nD τ).loc main_arg1) (ix2 t j)
/-- The bias. -/
abbrev aB (c : Dev nD) (j : Fin 11264) : EReal := m ((c : Thread nD τ).loc main_arg2) (ix1 j)
/-- The incoming gradient. -/
abbrev aM (c : Dev nD) (t : Fin 2048) (j : Fin 5632) : EReal := m ((c : Thread nD τ).loc main_arg3) (ix2 t j)

theorem dC_blk (c : Dev nD) (t : Fin cfg0.N) (l : Fin 128) (r : Fin 2) :
    dC (iblk m c 0 t) (iblk m c 1 t) (iblk m c 2 t) (iblk m c 3 t) (iblk m c 4 t) (iblk m c 5 t) l r
      = dOut (aA m c) (aW m c) (aB m c) (aM m c) r (jj t l) := by
  unfold dC gC vC dOut cv
  simp only [blk0, blk1, blk2, blk3, blk4, blk5]

/-- The column of a lane of a result. -/
def lane (q : Fin 4) (x : Fin 1408) : Fin 5632 := ⟨q.val * 1408 + x.val, by omega⟩

/-- The gradient of the input, in the layout of the kernel's first result. -/
def G6 (A : Fin 2048 → Fin 11264 → EReal) (W : Fin 3 → Fin 11264 → EReal) (B : Fin 11264 → EReal)
    (M : Fin 2048 → Fin 5632 → EReal) (i : S4x2x2048x1408.Idx) : EReal := gA A W B M (i 1) (lane (i 0) (i 3)) (i 2)
/-- The gradient of the weights, in the layout of the kernel's second result. -/
def G7 (A : Fin 2048 → Fin 11264 → EReal) (W : Fin 3 → Fin 11264 → EReal) (B : Fin 11264 → EReal)
    (M : Fin 2048 → Fin 5632 → EReal) (i : S4x2x3x1408.Idx) : EReal := gW A W B M (i 1) (lane (i 0) (i 3)) (i 2)
/-- The gradient of the bias, in the layout of the kernel's third result. -/
def G8 (A : Fin 2048 → Fin 11264 → EReal) (W : Fin 3 → Fin 11264 → EReal) (B : Fin 11264 → EReal)
    (M : Fin 2048 → Fin 5632 → EReal) (i : S4x2x1x1408.Idx) : EReal := gB A W B M (i 1) (lane (i 0) (i 3))

theorem lane_eq (t : Fin cfg0.N) (l : Fin 128) : lane (qq t) (xx t l) = jj t l :=
  Fin.ext (Nat.add_assoc ..).symm

theorem emb6 (t : Fin cfg0.N) (r : Fin 2) (s : Fin 2048) (l : Fin 128) :
    (win0_6.blk t).view.emb (ix4 0 r s l) = ix4 (qq t) r s (xx t l) := by
  blk_ext [idx6 t, qq, xx]

theorem emb7 (t : Fin cfg0.N) (r : Fin 2) (s : Fin 3) (l : Fin 128) :
    (win0_7.blk t).view.emb (ix4 0 r s l) = ix4 (qq t) r s (xx t l) := by
  blk_ext [idx7 t, qq, xx]

theorem emb8 (t : Fin cfg0.N) (r : Fin 2) (s : Fin 1) (l : Fin 128) :
    (win0_8.blk t).view.emb (ix4 0 r s l) = ix4 (qq t) r s (xx t l) := by
  blk_ext [idx8 t, qq, xx]

theorem final6 (c : Dev nD) : (dats m 0 c).arrAt 6 cfg0.N = G6 (aA m c) (aW m c) (aB m c) (aM m c) := by
  refine (dats m 0 c).arrAt_eq_of_covers 6 _ (by decide +kernel) fun t hf y => ?_
  blk_simp
  rw [after0_6]
  obtain ⟨r, hr⟩ : ∃ r : Fin 2, r = y 1 := ⟨_, rfl⟩
  obtain ⟨s, hs⟩ : ∃ s : Fin 2048, s = y 2 := ⟨_, rfl⟩
  obtain ⟨l, hl⟩ : ∃ l : Fin 128, l = y 3 := ⟨_, rfl⟩
  have hy : y = ix4 0 r s l := ix4_of y 0 r s l (Nat.lt_one_iff.mp (y 0).isLt) (by rw [hr]) (by rw [hs]) (by rw [hl])
  rw [hy, out6_apply, dC_blk, emb6]
  show _ = gA _ _ _ _ r (lane (qq t) (xx t l)) s
  rw [lane_eq]
  unfold gA
  congr 1
  funext k
  rw [blk1, blk2]
  split_ifs with h
  · rw [h]
  · rw [show r = 1 by omega]

theorem final7 (c : Dev nD) : (dats m 0 c).arrAt 7 cfg0.N = G7 (aA m c) (aW m c) (aB m c) (aM m c) := by
  refine (dats m 0 c).arrAt_eq_of_covers 7 _ (by decide +kernel) fun t hf y => ?_
  blk_simp
  rw [after0_7]
  obtain ⟨r, hr⟩ : ∃ r : Fin 2, r = y 1 := ⟨_, rfl⟩
  obtain ⟨s, hs⟩ : ∃ s : Fin 3, s = y 2 := ⟨_, rfl⟩
  obtain ⟨l, hl⟩ : ∃ l : Fin 128, l = y 3 := ⟨_, rfl⟩
  have hy : y = ix4 0 r s l := ix4_of y 0 r s l (Nat.lt_one_iff.mp (y 0).isLt) (by rw [hr]) (by rw [hs]) (by rw [hl])
  rw [hy, out7_apply, dC_blk, emb7]
  show _ = gW _ _ _ _ r (lane (qq t) (xx t l)) s
  rw [lane_eq]
  unfold gW
  simp only [blk0]

theorem final8 (c : Dev nD) : (dats m 0 c).arrAt 8 cfg0.N = G8 (aA m c) (aW m c) (aB m c) (aM m c) := by
  refine (dats m 0 c).arrAt_eq_of_covers 8 _ (by decide +kernel) fun t hf y => ?_
  blk_simp
  rw [after0_8]
  obtain ⟨r, hr⟩ : ∃ r : Fin 2, r = y 1 := ⟨_, rfl⟩
  obtain ⟨l, hl⟩ : ∃ l : Fin 128, l = y 3 := ⟨_, rfl⟩
  have hy : y = ix4 0 r 0 l :=
    ix4_of y 0 r 0 l (Nat.lt_one_iff.mp (y 0).isLt) (by rw [hr]) (Nat.lt_one_iff.mp (y 2).isLt) (by rw [hl])
  rw [hy, out8_apply, dC_blk, emb8]
  show _ = gB _ _ _ _ r (lane (qq t) (xx t l))
  rw [lane_eq]
  rfl

end ConvArr
-- ==== Proof.Finite.lean ====
module

public import Idealize.ShloMosaic.Lib.Pointwise
public import Idealize.ShloMosaic.Lib.ReduceAll

/-!
Finite values: what the preconditions say of an array, and the reals its values are.
-/

@[expose] public section

noncomputable section

namespace Finite

open Idealize.ShloMosaic

/-- A value that is a real number. -/
def IsR (x : EReal) : Prop := ∃ r : ℝ, x = r

theorem IsR.add {x y : EReal} : IsR x → IsR y → IsR (x + y) := by
  rintro ⟨a, rfl⟩ ⟨b, rfl⟩; exact ⟨a + b, by norm_cast⟩
theorem IsR.sub {x y : EReal} : IsR x → IsR y → IsR (x - y) := by
  rintro ⟨a, rfl⟩ ⟨b, rfl⟩; exact ⟨a - b, by norm_cast⟩
theorem IsR.mul {x y : EReal} : IsR x → IsR y → IsR (x * y) := by
  rintro ⟨a, rfl⟩ ⟨b, rfl⟩; exact ⟨a * b, by norm_cast⟩
theorem IsR.neg {x : EReal} : IsR x → IsR (-x) := by
  rintro ⟨a, rfl⟩; exact ⟨-a, by norm_cast⟩
theorem IsR.zero : IsR 0 := ⟨0, by norm_cast⟩
theorem IsR.coe (r : ℝ) : IsR (r : EReal) := ⟨r, rfl⟩
theorem IsR.sum {ι : Type*} (s : Finset ι) {f : ι → EReal} (h : ∀ i ∈ s, IsR (f i)) : IsR (∑ i ∈ s, f i) := by
  classical
  induction s using Finset.induction_on with
  | empty => simpa using IsR.zero
  | insert a s ha ih =>
    rw [Finset.sum_insert ha]
    exact (h a (by simp)).add (ih fun i hi => h i (by simp [hi]))

/-- The logistic function of a real is real. -/
theorem IsR.sig {x : EReal} : IsR x → IsR (Ideal.div 1 (1 + Ideal.exp (-x))) := by
  rintro ⟨a, rfl⟩
  exact ⟨_, Ideal.logistic_coe a⟩

theorem isR_of_abs_lt_top {x : EReal} (h : max x (-x) < ⊤) : IsR x := by
  induction x using EReal.rec with
  | bot => simp at h
  | coe r => exact ⟨r, rfl⟩
  | top => simp at h

/-- "Every entry is finite", as the preconditions write it, of an array of any shape. -/
theorem all_finite {s t u z : Shape} {axes : List (Fin s.rank)} [Subsingleton t.Idx] (x : FVec Ideal s .f32) {dims : Fin z.rank → Fin s.rank}
    (hb : z.BroadcastsInDim s dims) (init : u.Idx → BitVec 1) (h : s.ReducesTo axes t) (hu : 0 < u.numel) (j : t.Idx)
    (e : Host.reduce IntOp.andi (cmpf .olt (Host.absf x) (broadcastInDim s dims hb (constant z .f32 0x7F800000#32))) init h hu j = 1#1)
    (i : s.Idx) : IsR (x i) := by
  have := Host.reduce_andi_all _ init h hu j e i
  apply isR_of_abs_lt_top
  have h2 : Ideal.cmp .olt (max (x i) (-(x i))) (Ideal.ofBits .f32 0x7F800000#32) = 1#1 := this
  have h3 : Ideal.ofBits .f32 0x7F800000#32 = ⊤ := by
    simp [Ideal.ofBits, Ideal.ieee]
  rw [h3] at h2
  unfold Ideal.cmp at h2
  by_contra hn
  simp [hn] at h2

theorem andi_left {a b : BitVec 1} (h : IntOp.andi a b = 1#1) : a = 1#1 := (IntOp.andi_eq_one.1 h).1
theorem andi_right {a b : BitVec 1} (h : IntOp.andi a b = 1#1) : b = 1#1 := (IntOp.andi_eq_one.1 h).2

end Finite
-- ==== Proof.ConvRef.lean ====
module

public import proofs.«01_k».proof.Proof.ConvMath
public import proofs.«01_k».proof.Proof.Gen.ConvRefIdeal.Read
public import proofs.«01_k».proof.Proof.Finite
public import Idealize.ShloMosaic.Lib.Pipeline.ValueKit.Point

@[expose] public section

set_option maxRecDepth 16384

noncomputable section

namespace ConvRef

open Idealize.ShloMosaic Idealize.ShloMosaic.TcCoe Cert.ConvRefIdeal Cert.ConvRefIdeal.Gen Cert.ConvRefIdeal.Read ConvMath Finite

variable (x0 : (⟨S2048x11264, .f32⟩ : BufTy).Contents (Elt Ideal)) (x1 : (⟨S3x11264, .f32⟩ : BufTy).Contents (Elt Ideal))
  (x2 : (⟨S11264, .f32⟩ : BufTy).Contents (Elt Ideal)) (x3 : (⟨S2048x5632, .f32⟩ : BufTy).Contents (Elt Ideal))

theorem v5_apply (t : Fin 2048) (j : Fin 11264) : val_main_v5 (F := Ideal) x0 (ix2 t j) = dn 2 (fun t => x0 (ix2 t j)) t := by
  pointwise [val_main_v5, val_main_v1, val_main_v0, val_main_cst]
  by_cases h : t.val < 2
  · simp [dn, h]
  · simp [dn, h, show 2 ≤ t.val by omega]

theorem v11_apply (t : Fin 2048) (j : Fin 11264) : val_main_v11 (F := Ideal) x0 (ix2 t j) = dn 1 (fun t => x0 (ix2 t j)) t := by
  pointwise [val_main_v11, val_main_v1, val_main_v0, val_main_cst]
  have e : 1 + t.val - 2 = t.val - 1 := by omega
  by_cases h : 1 + t.val < 2
  · simp [dn, h, show ¬ 1 ≤ t.val by omega]
  · simp [dn, h, e, show 1 ≤ t.val by omega]

theorem v18_apply (t : Fin 2048) (j : Fin 11264) : val_main_v18 (F := Ideal) x0 (ix2 t j) = x0 (ix2 t j) := by
  pointwise [val_main_v18, val_main_v1, val_main_v0, val_main_cst]

/-- The arguments as families of columns. -/
abbrev fA (t : Fin 2048) (j : Fin 11264) : EReal := x0 (ix2 t j)
abbrev fW (t : Fin 3) (j : Fin 11264) : EReal := x1 (ix2 t j)
abbrev fB (j : Fin 11264) : EReal := x2 (ix1 j)
abbrev fM (t : Fin 2048) (j : Fin 5632) : EReal := x3 (ix2 t j)

theorem v25_apply (t : Fin 2048) (j : Fin 11264) : val_main_v25 (F := Ideal) x0 x1 x2 (ix2 t j) = cv (fA x0) (fW x1) (fB x2) j t := by
  pointwise [val_main_v25, val_main_v24, val_main_v23, val_main_v22, val_main_v21, val_main_v20, val_main_v19, val_main_v17, val_main_v16,
    val_main_v15, val_main_v14, val_main_v13, val_main_v12, val_main_v10, val_main_v9, val_main_v8, val_main_v7, val_main_v6,
    val_main_v4, val_main_v3, v5_apply, v11_apply, v18_apply]
  show _ = x1 (ix2 2 j) * x0 (ix2 t j) + x1 (ix2 1 j) * dn 1 (fun t => x0 (ix2 t j)) t + x1 (ix2 0 j) * dn 2 (fun t => x0 (ix2 t j)) t + x2 (ix1 j)
  congr 1
  rw [add_comm, add_comm (x1 (ix2 0 j) * _), ← add_assoc]

theorem col0 (j : Fin 5632) (h : j.val < 11264) : (⟨j.val, h⟩ : Fin 11264) = col 0 j := Fin.ext (by simp [col])
theorem col1 (j : Fin 5632) (h : 5632 + j.val < 11264) : (⟨5632 + j.val, h⟩ : Fin 11264) = col 1 j := Fin.ext (by simp [col])

theorem v30_apply (t : Fin 2048) (j : Fin 5632) : val_main_v30 (F := Ideal) x0 x1 x2 x3 (ix2 t j)
    = dOut (fA x0) (fW x1) (fB x2) (fM x3) 1 j t := by
  pointwise [val_main_v30, val_main_v28_0, val_main_v28_2, val_main_call0_v4, val_main_call0_cst_0, val_main_call0_v3, val_main_call0_v2, val_main_call0_cst,
    val_main_call0_v1, val_main_call0_v0, val_main_v26, v25_apply]
  rw [col0]
  rw [show dOut (fA x0) (fW x1) (fB x2) (fM x3) 1 j t = dVal (cv (fA x0) (fW x1) (fB x2) (col 0 j)) (fun t => fM x3 t j) t by simp [dOut, dCol]]
  unfold dVal
  rw [mul_comm, mul_comm (cv _ _ _ _ _), ← mul_assoc]

/-- All the arguments are finite. -/
structure Fin4 : Prop where
  a : ∀ t j, IsR (fA x0 t j)
  w : ∀ t j, IsR (fW x1 t j)
  b : ∀ j, IsR (fB x2 j)
  m : ∀ t j, IsR (fM x3 t j)

variable {x0 x1 x2 x3}

theorem dn_isR {f : Fin 2048 → EReal} (h : ∀ t, IsR (f t)) (k : ℕ) (t : Fin 2048) : IsR (dn k f t) := by
  unfold dn
  split_ifs
  · exact h _
  · exact IsR.zero

theorem cv_isR (h : Fin4 x0 x1 x2 x3) (j : Fin 11264) (t : Fin 2048) : IsR (cv (fA x0) (fW x1) (fB x2) j t) :=
  ((((h.w _ _).mul (h.a _ _)).add ((h.w _ _).mul (dn_isR (fun t => h.a t j) 1 t))).add
    ((h.w _ _).mul (dn_isR (fun t => h.a t j) 2 t))).add (h.b j)

/-- The derivative of `x · logistic x` in its two usual forms. -/
theorem gate_eq {d v g s : EReal} (hd : IsR d) (hv : IsR v) (hg : IsR g) (hs : IsR s) :
    d * v * s + g * (d * v) * (s * (1 - s)) = d * s * v * (1 + g * (1 - s)) := by
  obtain ⟨d, rfl⟩ := hd
  obtain ⟨v, rfl⟩ := hv
  obtain ⟨g, rfl⟩ := hg
  obtain ⟨s, rfl⟩ := hs
  norm_cast
  ring

theorem v32_apply (h : Fin4 x0 x1 x2 x3) (t : Fin 2048) (j : Fin 5632) : val_main_v32 (F := Ideal) x0 x1 x2 x3 (ix2 t j)
    = dOut (fA x0) (fW x1) (fB x2) (fM x3) 0 j t := by
  pointwise [val_main_v32, val_main_call1_v0, val_main_call1_v1, val_main_call1_v2, val_main_v31, val_main_v28_1, val_main_v28_0, val_main_v28_2, val_main_call0_v4, val_main_call0_cst_0, val_main_call0_v3, val_main_call0_v2, val_main_call0_cst,
    val_main_call0_v1, val_main_call0_v0, val_main_call0_v7, val_main_call0_v6, val_main_call0_cst_1, val_main_v26, val_main_v27, v25_apply]
  rw [col0, col1]
  exact gate_eq (h.m t j) (cv_isR h _ t) (cv_isR h _ t) (cv_isR h _ t).sig

theorem v33_apply (h : Fin4 x0 x1 x2 x3) (t : Fin 2048) (r : Fin 2) (j : Fin 5632) :
    val_main_v33 (F := Ideal) x0 x1 x2 x3 (ix2 t (col r j)) = dOut (fA x0) (fW x1) (fB x2) (fM x3) r j t := by
  obtain rfl | rfl : r = 0 ∨ r = 1 := by omega
  · rw [← v32_apply h t j]
    pointwise [val_main_v33]
    have : (col 0 j).val = j.val := by simp [col]
    simp [this]
  · rw [← v30_apply]
    pointwise [val_main_v33]
    have : (col 1 j).val = 5632 + j.val := by simp [col]
    simp [this]

theorem v69_apply (h : Fin4 x0 x1 x2 x3) (t : Fin 2048) (r : Fin 2) (j : Fin 5632) :
    val_main_v69 (F := Ideal) x0 x1 x2 x3 (ix2 t (col r j)) = gA (fA x0) (fW x1) (fB x2) (fM x3) r j t := by
  pointwise [val_main_v69, val_main_v64, val_main_v63, val_main_v58, val_main_v57, val_main_v53, val_main_v52, val_main_v47, val_main_v46, val_main_v43,
    val_main_v38, val_main_v37, val_main_v12, val_main_v6, val_main_v19, val_main_cst_5, val_main_cst_9, val_main_cst_13,
    val_main_v17, val_main_v16, val_main_v10, val_main_v9, val_main_v4, val_main_v3, v33_apply h]
  show _ = _ + _ * up 1 _ _ + _ * up 2 _ _
  unfold up
  congr 1
  · congr 1
    split_ifs with h1 h2 h2
    · have e : 2 + t.val - 1 = t.val + 1 := by omega
      simp only [e]
    · omega
    · omega
    · simp
  · split_ifs with h1 h2 h2
    · have e : 2 + t.val = t.val + 2 := by omega
      simp only [e]
    · omega
    · omega
    · simp

theorem v67_apply (h : Fin4 x0 x1 x2 x3) (k : Fin 3) (r : Fin 2) (j : Fin 5632) :
    val_main_v67 (F := Ideal) x0 x1 x2 x3 (ix2 k (col r j)) = gW (fA x0) (fW x1) (fB x2) (fM x3) r j k := by
  pointwise [val_main_v67, val_main_v66, val_main_v65, val_main_v62, val_main_v61, val_main_v60, val_main_v59, val_main_v56, val_main_v55, val_main_v54, val_main_v51, val_main_v50,
   val_main_v49, val_main_v48, val_main_v45, val_main_v44, val_main_v42, val_main_v41, val_main_v40, val_main_v39, val_main_cst_3, val_main_cst_4,
    val_main_cst_6, val_main_cst_7, val_main_cst_8, val_main_cst_10, val_main_cst_11, val_main_cst_12, val_main_cst_14, v5_apply, v11_apply, v18_apply, v33_apply h]
  unfold gW
  have d0 : ∀ f, dn 0 f = f := fun f => by funext t; simp [dn]
  fin_cases k <;> simp [d0]

theorem v36_apply (h : Fin4 x0 x1 x2 x3) (r : Fin 2) (j : Fin 5632) :
    val_main_v36 (F := Ideal) x0 x1 x2 x3 (ix1 (col r j)) = gB (fA x0) (fW x1) (fB x2) (fM x3) r j := by
  pointwise [val_main_v36, val_main_v35, val_main_v34, val_main_cst_1, val_main_cst_2, v33_apply h]
  unfold gB
  simp

/-- The column of a lane of a result. -/
def lane (q : Fin 4) (x : Fin 1408) : Fin 5632 := ⟨q.val * 1408 + x.val, by omega⟩

theorem v72_apply (h : Fin4 x0 x1 x2 x3) (q : Fin 4) (r : Fin 2) (t : Fin 2048) (x : Fin 1408) :
    val_main_v72 (F := Ideal) x0 x1 x2 x3 (ix4 q r t x) = gA (fA x0) (fW x1) (fB x2) (fM x3) r (lane q x) t := by
  rw [← v69_apply h]
  pointwise [val_main_v72, val_main_v71, val_main_v70]
  congr 2
  simp [col, lane]
  omega

theorem v74_apply (h : Fin4 x0 x1 x2 x3) (q : Fin 4) (r : Fin 2) (t : Fin 3) (x : Fin 1408) :
    val_main_v74 (F := Ideal) x0 x1 x2 x3 (ix4 q r t x) = gW (fA x0) (fW x1) (fB x2) (fM x3) r (lane q x) t := by
  rw [← v67_apply h]
  pointwise [val_main_v74, val_main_v73]
  congr 2
  simp [col, lane]
  omega

theorem v76_apply (h : Fin4 x0 x1 x2 x3) (q : Fin 4) (r : Fin 2) (t : Fin 1) (x : Fin 1408) :
    val_main_v76 (F := Ideal) x0 x1 x2 x3 (ix4 q r t x) = gB (fA x0) (fW x1) (fB x2) (fM x3) r (lane q x) := by
  rw [← v36_apply h]
  pointwise [val_main_v76, val_main_v75]
  congr 2
  simp [col, lane]
  omega

end ConvRef
-- ==== Proof.ConvClaim.lean ====
module

public import proofs.«01_k».proof.Defs
public import proofs.«01_k».proof.Proof.ConvArr
public import proofs.«01_k».proof.Proof.ConvRef
public import proofs.«01_k».proof.Proof.Gen.ConvIdeal.Value
public import proofs.«01_k».proof.Proof.Gen.ConvRefIdeal.Run
public import proofs.«01_k».proof.Proof.Gen.Pre_conv_finite
public import Idealize.ShloMosaic.Lib.Claim

/-!
The convolution gate's gradient: kernel and reference end with the same three arrays.
-/

@[expose] public section

noncomputable section

namespace ConvClaim

open Idealize.ShloMosaic Idealize.ShloMosaic.TcCoe Idealize.SL.Sem ConvMath Finite ConvArr

/-- What the precondition says of the four argument arrays. -/
theorem pre_fin (x0 : (⟨Cert.ConvIdeal.S2048x11264, .f32⟩ : BufTy).Contents (Elt Ideal)) (x1 : (⟨Cert.ConvIdeal.S3x11264, .f32⟩ : BufTy).Contents (Elt Ideal))
    (x2 : (⟨Cert.ConvIdeal.S11264, .f32⟩ : BufTy).Contents (Elt Ideal)) (x3 : (⟨Cert.ConvIdeal.S2048x5632, .f32⟩ : BufTy).Contents (Elt Ideal))
    (h : ∀ i, Cert.Pre_conv_finite.fn (F := Ideal) x0 x1 x2 x3 i = 1#1) : ConvRef.Fin4 x0 x1 x2 x3 := by
  have e := h ix0
  have e1 := andi_left e
  have e2 := andi_left e1
  haveI : Subsingleton (Cert.Pre_conv_finite.S_).Idx := ⟨fun a b => funext fun i => i.elim0⟩
  exact ⟨fun t j => all_finite _ _ _ _ _ _ (andi_left e2) _, fun t j => all_finite _ _ _ _ _ _ (andi_right e2) _,
    fun j => all_finite _ _ _ _ _ _ (andi_right e1) _, fun t j => all_finite _ _ _ _ _ _ (andi_right e) _⟩

theorem frame_ref : Cert.quiescent_ConvRefIdeal := fun m g _ =>
  (θ_run Cert.ConvRefIdeal.defs _ _).mono (fun r h => ⟨fun c => (h c).2.2.2, sem_eq_zero_of_no_sems (by decide) r.2⟩)
    (Cert.ConvRefIdeal.Value.run (F := Ideal) m g)

theorem algebraic : Cert.algebraic_ConvIdeal_ConvRefIdeal_pre_conv_finite := by
  intro m g m' g' hpre hagree
  refine ⟨fun c => G6 (aA m c) (aW m c) (aB m c) (aM m c), fun c => G7 (aA m c) (aW m c) (aB m c) (aM m c),
    fun c => G8 (aA m c) (aW m c) (aB m c) (aM m c), ?_, ?_⟩
  · refine (θ_run Cert.ConvIdeal.defs _ _).mono (fun r h c => ?_) (Cert.ConvIdeal.Value.run_blocks (F := Ideal) m g)
    obtain ⟨h6, h7, h8, h⟩ := h c
    exact ⟨h6.trans (final6 m c), h7.trans (final7 m c), h8.trans (final8 m c), h⟩
  · refine (θ_run Cert.ConvRefIdeal.defs _ _).mono (fun r h c => ?_) (Cert.ConvRefIdeal.Value.run (F := Ideal) m' g')
    obtain ⟨h6, h7, h8, h⟩ := h c
    have hf := pre_fin _ _ _ _ (fun i => congrFun (hpre c) i)
    obtain ⟨e0, e1, e2, e3⟩ := hagree c
    refine ⟨h6.trans ?_, h7.trans ?_, h8.trans ?_, h⟩
    · rw [Cert.ConvRefIdeal.Read.val_main_v72_eq, e0, e1, e2, e3]
      funext i
      rw [eq_ix4 i]
      exact ConvRef.v72_apply hf _ _ _ _
    · rw [Cert.ConvRefIdeal.Read.val_main_v74_eq, e0, e1, e2, e3]
      funext i
      rw [eq_ix4 i]
      exact ConvRef.v74_apply hf _ _ _ _
    · rw [Cert.ConvRefIdeal.Read.val_main_v76_eq, e0, e1, e2, e3]
      funext i
      rw [eq_ix4 i]
      exact ConvRef.v76_apply hf _ _ _ _

end ConvClaim
-- ==== Proof.AttnMath.lean ====
module

public import proofs.«01_k».proof.Proof.Finite
public import Idealize.ShloMosaic.Lib.WordCmp

/-!
The gradient of causal softmax attention for one head over the reals, and how its terms arise from values that may be −∞.
-/

@[expose] public section

noncomputable section

namespace AttnMath

open Idealize.ShloMosaic Finite

variable (Q K : Fin 2048 → Fin 256 → ℝ) (V D : Fin 2048 → Fin 128 → ℝ) (κ : ℝ)

/-- The scaled score of query `r` and key `j`. -/
def T (r j : Fin 2048) : ℝ := (∑ l, Q r l * K j l) * κ
/-- Its exponential, zero past the diagonal. -/
def E (r j : Fin 2048) : ℝ := if j ≤ r then Real.exp (T Q K κ r j) else 0
/-- The row's sum. -/
def L (r : Fin 2048) : ℝ := ∑ j, E Q K κ r j
/-- The attention weight. -/
def P (r j : Fin 2048) : ℝ := E Q K κ r j / L Q K κ r
/-- The gradient by the weight. -/
def DP (r j : Fin 2048) : ℝ := ∑ d, D r d * V j d
/-- The gradient by the product of query and key. -/
def DS (r j : Fin 2048) : ℝ := P Q K κ r j * (DP V D r j - ∑ j', P Q K κ r j' * DP V D r j') * κ
/-- The gradient by column `l` of the query. -/
def Z (r : Fin 2048) (l : Fin 256) : ℝ := ∑ j, DS Q K V D κ r j * K j l
/-- The part of the gradient by column `l` of key `j` that queries before `b` give. -/
def Y (b : ℕ) (j : Fin 2048) (l : Fin 256) : ℝ := ∑ r : Fin 2048, if r.val < b then DS Q K V D κ r j * Q r l else 0
/-- The part of the gradient by column `d` of value `j` that queries before `b` give. -/
def U (b : ℕ) (j : Fin 2048) (d : Fin 128) : ℝ := ∑ r : Fin 2048, if r.val < b then P Q K κ r j * D r d else 0

theorem E_eq_zero {r j : Fin 2048} (h : r < j) : E Q K κ r j = 0 := if_neg (not_le.2 h)
theorem P_eq_zero {r j : Fin 2048} (h : r < j) : P Q K κ r j = 0 := by simp [P, E_eq_zero Q K κ h]
theorem DS_eq_zero {r j : Fin 2048} (h : r < j) : DS Q K V D κ r j = 0 := by simp [DS, P_eq_zero Q K κ h]
theorem E_nonneg (r j : Fin 2048) : 0 ≤ E Q K κ r j := by
  unfold E; split_ifs
  · exact (Real.exp_pos _).le
  · exact le_rfl
theorem L_pos (r : Fin 2048) : 0 < L Q K κ r :=
  Finset.sum_pos' (fun j _ => E_nonneg Q K κ r j) ⟨r, Finset.mem_univ _, by simp [E, Real.exp_pos]⟩

/-- A sum over keys that ends where its terms vanish. -/
theorem sum_upto {W : ℕ} (hW : W ≤ 2048) (f : Fin 2048 → ℝ) (h : ∀ j : Fin 2048, W ≤ j.val → f j = 0) :
    ∑ j : Fin W, f ⟨j.val, by omega⟩ = ∑ j, f j := by
  rw [← Finset.sum_subset (Finset.subset_univ (Finset.univ.map (Fin.castLEEmb hW)))]
  · rw [Finset.sum_map]; rfl
  · intro j _ hj
    apply h
    by_contra hlt
    exact hj (by simpa using ⟨⟨j.val, by omega⟩, rfl⟩)

/-- The 512 queries from `b` on, added to those before. -/
theorem sum_block (b : ℕ) (hb : b + 512 ≤ 2048) (f : Fin 2048 → ℝ) :
    (∑ r : Fin 2048, if r.val < b + 512 then f r else 0)
      = (∑ r : Fin 2048, if r.val < b then f r else 0) + ∑ p : Fin 512, f ⟨b + p.val, by omega⟩ := by
  have e : ∑ p : Fin 512, f ⟨b + p.val, by omega⟩ = ∑ r : Fin 2048, if b ≤ r.val ∧ r.val < b + 512 then f r else 0 := by
    rw [← Finset.sum_filter]
    refine Finset.sum_bij (fun p _ => (⟨b + p.val, by omega⟩ : Fin 2048)) ?_ ?_ ?_ ?_
    · intro p _; simp
    · intro p _ p' _ h; simpa [Fin.ext_iff] using h
    · intro r hr
      simp only [Finset.mem_filter, Finset.mem_univ, true_and] at hr
      exact ⟨⟨r.val - b, by omega⟩, Finset.mem_univ _, Fin.ext (by simp; omega)⟩
    · intro p _; rfl
  rw [e, ← Finset.sum_add_distrib]
  refine Finset.sum_congr rfl fun r _ => ?_
  by_cases h1 : r.val < b
  · rw [if_pos (by omega), if_pos h1, if_neg (by omega), add_zero]
  · by_cases h2 : r.val < b + 512
    · rw [if_pos h2, if_neg h1, if_pos ⟨by omega, h2⟩, zero_add]
    · rw [if_neg h2, if_neg h1, if_neg (by omega), zero_add]

theorem sum_before (b : ℕ) (hb : b + 512 ≤ 2048) (f : Fin 2048 → ℝ) (h : ∀ r : Fin 2048, r.val < b + 512 → f r = 0) :
    (∑ r : Fin 2048, if r.val < b + 512 then f r else 0) = ∑ r : Fin 2048, if r.val < b then f r else 0 := by
  rw [sum_block b hb f, add_eq_left]
  exact Finset.sum_eq_zero fun p _ => h _ (by simp)

/-- A finite sum of reals as a sum of values. -/
theorem coe_sum {ι : Type*} [Fintype ι] (f : ι → ℝ) : ((∑ i, f i : ℝ) : EReal) = ∑ i, (f i : EReal) := by
  classical
  exact map_sum (⟨⟨fun x : ℝ => (x : EReal), by norm_cast⟩, fun _ _ => by norm_cast⟩ : ℝ →+ EReal) f Finset.univ

theorem div_real {x y : ℝ} (h : y ≠ 0) : Ideal.div (x : EReal) (y : EReal) = ((x / y : ℝ) : EReal) := by
  rw [Ideal.div_coe h, ← EReal.coe_mul]; congr 1; ring

/-- The maximum from −∞ of values that are real or −∞, one of them real, is real. -/
theorem isR_max {n : ℕ} (s : Fin n → EReal) (hs : ∀ j, s j = ⊥ ∨ IsR (s j)) (j0 : Fin n) (h0 : IsR (s j0)) :
    IsR (Finset.fold max ⊥ s Finset.univ) := by
  have key : ∀ A : Finset (Fin n), (Finset.fold max ⊥ s A = ⊥ ∨ IsR (Finset.fold max ⊥ s A))
      ∧ ∀ j ∈ A, s j ≤ Finset.fold max ⊥ s A := by
    intro A
    induction A using Finset.induction_on with
    | empty => simp
    | insert a A ha ih =>
      rw [Finset.fold_insert ha]
      refine ⟨?_, ?_⟩
      · rcases max_choice (s a) (Finset.fold max ⊥ s A) with e | e <;> rw [e]
        · exact hs a
        · exact ih.1
      · intro j hj
        rcases Finset.mem_insert.1 hj with rfl | hj
        · exact le_max_left _ _
        · exact (ih.2 j hj).trans (le_max_right _ _)
  rcases (key Finset.univ).1 with h | h
  · obtain ⟨x, hx⟩ := h0
    have := (key Finset.univ).2 j0 (Finset.mem_univ _)
    rw [h, hx] at this
    simp at this
  · exact h

/-- A row of scores of which those past the diagonal are −∞: the exponential of a score less any real, -/
theorem exp_row (r j : Fin 2048) (M : ℝ) :
    Ideal.exp ((if j ≤ r then ((T Q K κ r j : ℝ) : EReal) else ⊥) - (M : EReal)) = ((E Q K κ r j / Real.exp M : ℝ) : EReal) := by
  unfold E
  split_ifs with h
  · rw [← EReal.coe_sub, Ideal.exp_coe, Real.exp_sub]
  · simp

/-- and that over its row's sum. -/
theorem div_row {W : ℕ} (hW : W ≤ 2048) (r : Fin 2048) (hr : r.val < W) (s : Fin W → EReal)
    (hs : ∀ j : Fin W, s j = if (⟨j.val, by omega⟩ : Fin 2048) ≤ r then ((T Q K κ r ⟨j.val, by omega⟩ : ℝ) : EReal) else ⊥) (j : Fin W) :
    Ideal.div (Ideal.exp (s j - Finset.fold max ⊥ s Finset.univ)) (∑ x, Ideal.exp (s x - Finset.fold max ⊥ s Finset.univ))
      = ((P Q K κ r ⟨j.val, by omega⟩ : ℝ) : EReal) := by
  have hM : IsR (Finset.fold max ⊥ s Finset.univ) := by
    refine isR_max s (fun j => ?_) ⟨r.val, hr⟩ ?_
    · rw [hs]; split_ifs
      · exact Or.inr (IsR.coe _)
      · exact Or.inl rfl
    · rw [hs, if_pos le_rfl]; exact IsR.coe _
  obtain ⟨M, hM⟩ := hM
  rw [hM]
  simp only [hs, exp_row]
  rw [← coe_sum, div_real]
  · congr 1
    rw [← Finset.sum_div, sum_upto hW (E Q K κ r) (fun x hx => E_eq_zero Q K κ (Fin.lt_def.2 (by omega)))]
    have := L_pos Q K κ r
    unfold P
    rw [div_div_div_cancel_right₀ (Real.exp_pos M).ne']
    rfl
  · rw [← Finset.sum_div, sum_upto hW (E Q K κ r) (fun x hx => E_eq_zero Q K κ (Fin.lt_def.2 (by omega)))]
    exact (div_pos (L_pos Q K κ r) (Real.exp_pos M)).ne'

/-- The same where the row is cut before its last 512 keys and its sum taken in two parts. -/
theorem div_row_cut {a W : ℕ} (hW : W = a + 512) (hW' : W ≤ 2048) (p : Fin 512) (s : Fin 2048 → EReal)
    (hs : ∀ j : Fin 2048, s j = ((T Q K κ ⟨a + p.val, by omega⟩ j : ℝ) : EReal)) (j : Fin W)
    (c : Fin W → EReal)
    (hc : c = fun x => if h : x.val < a then s ⟨x.val, by omega⟩
      else Scalar.select (IntOp.cmpi .sle (BitVec.ofNat 32 (x.val - a)) (BitVec.ofNat 32 p.val)) (s ⟨a + (x.val - a), by omega⟩) ⊥)
    (A : ℕ) (hA : A = a) (N : EReal) (hN : N = c j) :
    Ideal.div (Ideal.exp (N - Finset.fold max ⊥ c Finset.univ))
      ((∑ x : Fin A, Ideal.exp (s ⟨x.val, by omega⟩ - Finset.fold max ⊥ c Finset.univ))
        + ∑ x : Fin 512, Ideal.exp (Scalar.select (IntOp.cmpi .sle (BitVec.ofNat 32 x.val) (BitVec.ofNat 32 p.val)) (s ⟨a + x.val, by omega⟩) ⊥
            - Finset.fold max ⊥ c Finset.univ))
      = ((P Q K κ ⟨a + p.val, by omega⟩ ⟨j.val, by omega⟩ : ℝ) : EReal) := by
  subst hW hA hN
  have sel : ∀ x : ℕ, x < 512 → ∀ u : EReal,
      Scalar.select (IntOp.cmpi .sle (BitVec.ofNat 32 x) (BitVec.ofNat 32 p.val)) u ⊥ = if x ≤ p.val then u else ⊥ := by
    intro x hx u
    rw [WordCmp.cmpi_sle_ofNat (by omega) (by omega), WordCmp.select_ofBool]
    simp
  have e : ∀ x : Fin (A + 512), c x = if (⟨x.val, by omega⟩ : Fin 2048) ≤ ⟨A + p.val, by omega⟩
      then ((T Q K κ ⟨A + p.val, by omega⟩ ⟨x.val, by omega⟩ : ℝ) : EReal) else ⊥ := by
    intro x
    rw [hc]
    dsimp only
    split_ifs with h1 h2 h2
    · rw [hs]
    · exact absurd (Fin.le_def.2 (by simp; omega)) h2
    · rw [sel _ (by omega), if_pos (by have := Fin.le_def.1 h2; simp at this; omega), hs]
      congr 3; omega
    · rw [sel _ (by omega), if_neg (by intro h; exact h2 (Fin.le_def.2 (by simp; omega)))]
  rw [← div_row Q K κ hW' ⟨A + p.val, by omega⟩ (by simp) c e j]
  congr 1
  rw [Fin.sum_univ_add]
  congr 1
  · refine Finset.sum_congr rfl fun x _ => ?_
    congr 2
    rw [hc]; simp
  · refine Finset.sum_congr rfl fun x _ => ?_
    congr 2
    rw [hc]; simp

/-- The gradient by a score, from the weights and the gradients by them. -/
theorem ds_row {W : ℕ} (hW : W ≤ 2048) (r : Fin 2048) (hr : r.val < W) (w dp : Fin W → EReal)
    (hw : ∀ j : Fin W, w j = ((P Q K κ r ⟨j.val, by omega⟩ : ℝ) : EReal)) (hdp : ∀ j : Fin W, dp j = ((DP V D r ⟨j.val, by omega⟩ : ℝ) : EReal)) (j : Fin W) :
    w j * (dp j - ∑ x, w x * dp x) * (κ : EReal) = ((DS Q K V D κ r ⟨j.val, by omega⟩ : ℝ) : EReal) := by
  simp only [hw, hdp, ← EReal.coe_mul]
  rw [← coe_sum, ← EReal.coe_sub, ← EReal.coe_mul, ← EReal.coe_mul]
  congr 1
  unfold DS
  rw [sum_upto hW (fun x => P Q K κ r x * DP V D r x) (fun x hx => by simp [P_eq_zero Q K κ (Fin.lt_def.2 (show r.val < x.val by omega))])]

end AttnMath
-- ==== Proof.AttnPay.lean ====
module

public import proofs.«01_k».proof.Proof.AttnMath
public import proofs.«01_k».proof.Proof.Gen.AttnIdeal.Value
public import Idealize.ShloMosaic.Lib.Pipeline.ValueKit.Point

/-!
What the attention kernel computes from one block of 512 queries: its terms, read off real arrays.
-/

@[expose] public section

set_option maxRecDepth 16384
set_option maxHeartbeats 1000000

noncomputable section

namespace AttnPay

open Idealize.ShloMosaic Idealize.ShloMosaic.TcCoe Finite AttnMath Cert.AttnIdeal Cert.AttnIdeal.Gen

/-- The scale of the scores. -/
def kappa : ℝ := (Ideal.ofBits FTy.f32 1033096506#32).toReal

theorem ofBits_kappa : Ideal.ofBits FTy.f32 1033096506#32 = (kappa : EReal) := by
  refine (EReal.coe_toReal ?_ ?_).symm <;> simp [Ideal.ofBits, Ideal.ieee] <;>
    rw [← EReal.coe_mul] <;> first | exact EReal.coe_ne_top _ | exact EReal.coe_ne_bot _

theorem ofBits_bot : Ideal.ofBits FTy.f32 4286578688#32 = ⊥ := by simp [Ideal.ofBits, Ideal.ieee]

variable (X : Fin 2048 → Fin 256 → ℝ) (C A B : Fin 2048 → Fin 128 → ℝ) (K : Fin 2048 → Fin 256 → ℝ) (V D : Fin 2048 → Fin 128 → ℝ)

/-- The query with its last 128 columns turned. -/
def Qr (r : Fin 2048) (l : Fin 256) : ℝ :=
  if h : l.val < 128 then X r l else X r l * C r ⟨l.val - 128, by omega⟩
    + X r ⟨128 + (l.val - 128 + 128 - 96) % 128, by omega⟩ * A r ⟨l.val - 128, by omega⟩
    + X r ⟨128 + (l.val - 128 + 128 - 32) % 128, by omega⟩ * B r ⟨l.val - 128, by omega⟩

/-- Turned back: column `l` of the last 128 of `G`. -/
def turn (G : Fin 2048 → Fin 256 → ℝ) (r : Fin 2048) (l : Fin 128) : ℝ :=
  G r ⟨128 + l.val, by omega⟩ * C r l
    + G r ⟨128 + (l.val + 128 - 32) % 128, by omega⟩ * A r ⟨(l.val + 128 - 32) % 128, by omega⟩
    + G r ⟨128 + (l.val + 128 - 96) % 128, by omega⟩ * B r ⟨(l.val + 128 - 96) % 128, by omega⟩

/-- Query `p` of the block that starts at `o`. -/
abbrev row (o : ℕ) (ho : o + 512 ≤ 2048) (p : Fin 512) : Fin 2048 := ⟨o + p.val, by omega⟩
/-- One of the first `W` keys. -/
abbrev key (W : ℕ) (hW : W ≤ 2048) (j : Fin W) : Fin 2048 := ⟨j.val, by omega⟩
/-- A column of the first 128. -/
abbrev lo (l : Fin 128) : Fin 256 := ⟨l.val, by omega⟩
/-- A column of the last 128. -/
abbrev hi (l : Fin 128) : Fin 256 := ⟨128 + l.val, by omega⟩

theorem le0 : 0 + 512 ≤ 2048 := by norm_num
theorem le1 : 512 + 512 ≤ 2048 := by norm_num
theorem le2 : 1024 + 512 ≤ 2048 := by norm_num
theorem le3 : 1536 + 512 ≤ 2048 := by norm_num
theorem w0 : 512 ≤ 2048 := by norm_num
theorem w1 : 1024 ≤ 2048 := by norm_num
theorem w2 : 1536 ≤ 2048 := by norm_num

namespace B0

variable (v12 : FVec Ideal S2048x256 .bf16) (c a b vd : Vec Ideal S512x128 .f32) (xn xp : Vec Ideal S1x512x128 .f32) (vv : Vec Ideal S1x512x128 .bf16)
  (hK : ∀ j l, v12 (ix2 j l) = ((K j l : ℝ) : EReal))
  (hc : ∀ p l, c (ix2 p l) = ((C (row 0 le0 p) l : ℝ) : EReal)) (ha : ∀ p l, a (ix2 p l) = ((A (row 0 le0 p) l : ℝ) : EReal))
  (hb : ∀ p l, b (ix2 p l) = ((B (row 0 le0 p) l : ℝ) : EReal)) (hd : ∀ p l, vd (ix2 p l) = ((D (row 0 le0 p) l : ℝ) : EReal))
  (hn : ∀ (p : Fin 512) (l : Fin 128), xn (ix3 0 p l) = ((X (row 0 le0 p) (lo l) : ℝ) : EReal))
  (hp : ∀ (p : Fin 512) (l : Fin 128), xp (ix3 0 p l) = ((X (row 0 le0 p) (hi l) : ℝ) : EReal))
  (hv : ∀ (j : Fin 512) l, vv (ix3 0 j l) = ((V (key 512 w0 j) l : ℝ) : EReal))

include hc ha hb hn hp in
theorem q (p : Fin 512) (l : Fin 256) : k0_pay12 (k0_pay8 xn) (k0_pay10 c a xp) (k0_pay11 b xp) (ix2 p l) = ((Qr X C A B (row 0 le0 p) l : ℝ) : EReal) := by
  pointwise [k0_pay12, k0_pay8, k0_pay10, k0_pay11, k0_pay9, k0_pay5, k0_pay6, k0_pay7]
  simp only [hc, ha, hb, hn, hp, lo, hi, ← EReal.coe_mul, ← EReal.coe_add]
  unfold Qr
  by_cases h : l.val < 128
  · simp only [dif_pos h]
  · have e : (⟨128 + (l.val - 128), by omega⟩ : Fin 256) = l := Fin.ext (by simp only []; omega)
    simp only [dif_neg h, e, if_true, dite_true]

include hK hc ha hb hn hp in
theorem w (p : Fin 512) (j : Fin 512) : k0_pay14 v12 (k0_pay8 xn) (k0_pay10 c a xp) (k0_pay11 b xp) (ix2 p j) = ((P (Qr X C A B) K kappa (row 0 le0 p) ⟨j.val, by omega⟩ : ℝ) : EReal) := by
  have hs : ∀ j : Fin 2048, (∑ x, k0_pay12 (k0_pay8 xn) (k0_pay10 c a xp) (k0_pay11 b xp) (ix2 p x) * v12 (ix2 j x)) * Ideal.ofBits FTy.f32 1033096506#32
      = ((T (Qr X C A B) K kappa (row 0 le0 p) j : ℝ) : EReal) := by
    intro j
    rw [ofBits_kappa]
    simp only [q X C A B c a b xn xp hc ha hb hn hp, hK, ← EReal.coe_mul]
    rw [← coe_sum, ← EReal.coe_mul]
    rfl
  pointwise [k0_pay14, k0_pay13]
  have e := div_row (Qr X C A B) K kappa (W := 512) (by norm_num) (row 0 le0 p) (by show 0 + p.val < 512; omega) (fun j : Fin 512 => Scalar.select (IntOp.cmpi .sle (BitVec.ofNat 32 j.val) (BitVec.ofNat 32 p.val))
    ((∑ x, k0_pay12 (k0_pay8 xn) (k0_pay10 c a xp) (k0_pay11 b xp) (ix2 p x) * v12 (ix2 (⟨j.val, by omega⟩ : Fin 2048) x)) * Ideal.ofBits FTy.f32 1033096506#32) ⊥) (fun j => by
      rw [hs, WordCmp.cmpi_sle_ofNat (by omega) (by omega), WordCmp.select_ofBool]
      have hle : (⟨j.val, by omega⟩ : Fin 2048) ≤ (row 0 le0 p) ↔ j.val ≤ p.val := by show j.val ≤ 0 + p.val ↔ _; rw [Nat.zero_add]
      simp only [hle, decide_eq_true_eq]) j
  exact e

include hK hc ha hb hn hp hd hv in
theorem s (p : Fin 512) (j : Fin 512) : k0_pay16 v12 (k0_pay8 xn) (k0_pay10 c a xp) (k0_pay11 b xp) vv vd (ix2 p j) = ((DS (Qr X C A B) K V D kappa (row 0 le0 p) ⟨j.val, by omega⟩ : ℝ) : EReal) := by
  have hdp : ∀ j : Fin 512, (∑ x, vd (ix2 p x) * vv (ix3 0 j x)) = ((DP V D (row 0 le0 p) ⟨j.val, by omega⟩ : ℝ) : EReal) := by
    intro j
    simp only [hd, hv, ← EReal.coe_mul]
    rw [← coe_sum]
    rfl
  pointwise [k0_pay16, k0_pay15]
  rw [ofBits_kappa]
  have e := ds_row (Qr X C A B) K V D kappa (W := 512) (by norm_num) (row 0 le0 p) (by show 0 + p.val < 512; omega) (fun j => k0_pay14 v12 (k0_pay8 xn) (k0_pay10 c a xp) (k0_pay11 b xp) (ix2 p j))
    (fun j => ∑ x, vd (ix2 p x) * vv (ix3 0 j x)) (w X C A B K v12 c a b xn xp hK hc ha hb hn hp p) hdp j
  exact e

include hK hc ha hb hn hp hd hv in
theorem z (p : Fin 512) (l : Fin 256) : k0_pay18 v12 (k0_pay8 xn) (k0_pay10 c a xp) (k0_pay11 b xp) vv vd (ix2 p l) = ((Z (Qr X C A B) K V D kappa (row 0 le0 p) l : ℝ) : EReal) := by
  pointwise [k0_pay18, k0_pay13]
  simp only [s X C A B K V D v12 c a b vd xn xp vv hK hc ha hb hd hn hp hv, hK, ← EReal.coe_mul]
  rw [← coe_sum]
  have e := sum_upto (W := 512) (by norm_num) (fun j => DS (Qr X C A B) K V D kappa (row 0 le0 p) j * K j l)
    (fun j hj => by simp only [DS_eq_zero (Qr X C A B) K V D kappa (r := (row 0 le0 p)) (j := j) (Fin.lt_def.2 (show 0 + p.val < j.val by omega)), zero_mul])
  exact congrArg _ e

include hK hc ha hb hn hp hd hv in
theorem dqn (p : Fin 512) (l : Fin 128) : k0_pay19 v12 (k0_pay8 xn) (k0_pay10 c a xp) (k0_pay11 b xp) vv vd (ix3 0 p l) = ((Z (Qr X C A B) K V D kappa (row 0 le0 p) ⟨l.val, by omega⟩ : ℝ) : EReal) := by
  pointwise [k0_pay19]
  exact z X C A B K V D v12 c a b vd xn xp vv hK hc ha hb hd hn hp hv p _

include hK hc ha hb hn hp hd hv in
theorem dqr (p : Fin 512) (l : Fin 128) : k0_pay20 (k0_pay5 c) (k0_pay6 a) (k0_pay7 b) (k0_pay18 v12 (k0_pay8 xn) (k0_pay10 c a xp) (k0_pay11 b xp) vv vd) (ix3 0 p l) = ((turn C A B (Z (Qr X C A B) K V D kappa) (row 0 le0 p) l : ℝ) : EReal) := by
  have hz := z X C A B K V D v12 c a b vd xn xp vv hK hc ha hb hd hn hp hv p
  pointwise [k0_pay20, k0_pay5, k0_pay6, k0_pay7]
  simp only [hz, hc, ha, hb, ← EReal.coe_mul, ← EReal.coe_add]
  rfl

variable (old : Vec Ideal S1x512x128 .f32)

include hK hc ha hb hn hp hd hv in
theorem dkl (j : Fin 512) (l : Fin 128) : k0_pay22 (k0_pay12 (k0_pay8 xn) (k0_pay10 c a xp) (k0_pay11 b xp)) (k0_pay16 v12 (k0_pay8 xn) (k0_pay10 c a xp) (k0_pay11 b xp) vv vd) old (ix3 0 j l) = old (ix3 0 j l)
    + ((∑ p : Fin 512, DS (Qr X C A B) K V D kappa (row 0 le0 p) ⟨j.val, by omega⟩ * Qr X C A B (row 0 le0 p) ⟨l.val, by omega⟩ : ℝ) : EReal) := by
  pointwise [k0_pay22, k0_pay21]
  simp only [s X C A B K V D v12 c a b vd xn xp vv hK hc ha hb hd hn hp hv, q X C A B c a b xn xp hc ha hb hn hp, ← EReal.coe_mul]
  rw [← coe_sum]

include hK hc ha hb hn hp hd in
theorem dv (j : Fin 512) (l : Fin 128) : k0_pay23 (k0_pay15 vd) (k0_pay17 v12 (k0_pay8 xn) (k0_pay10 c a xp) (k0_pay11 b xp)) old (ix3 0 j l) = old (ix3 0 j l)
    + ((∑ p : Fin 512, P (Qr X C A B) K kappa (row 0 le0 p) ⟨j.val, by omega⟩ * D (row 0 le0 p) l : ℝ) : EReal) := by
  pointwise [k0_pay23, k0_pay15, k0_pay17]
  simp only [w X C A B K v12 c a b xn xp hK hc ha hb hn hp, hd, ← EReal.coe_mul]
  rw [← coe_sum]

include hK hc ha hb hn hp hd hv in
theorem dkr (j : Fin 512) (l : Fin 128) : k0_pay25 (k0_pay24 (k0_pay12 (k0_pay8 xn) (k0_pay10 c a xp) (k0_pay11 b xp)) (k0_pay16 v12 (k0_pay8 xn) (k0_pay10 c a xp) (k0_pay11 b xp) vv vd) old) (ix3 0 j l) = old (ix3 0 j l)
    + ((∑ p : Fin 512, DS (Qr X C A B) K V D kappa (row 0 le0 p) ⟨j.val, by omega⟩ * Qr X C A B (row 0 le0 p) ⟨128 + l.val, by omega⟩ : ℝ) : EReal) := by
  pointwise [k0_pay25, k0_pay24, k0_pay21]
  simp only [s X C A B K V D v12 c a b vd xn xp vv hK hc ha hb hd hn hp hv, q X C A B c a b xn xp hc ha hb hn hp, ← EReal.coe_mul]
  rw [← coe_sum]

end B0

namespace B1

variable (v12 : FVec Ideal S2048x256 .bf16) (c a b vd : Vec Ideal S512x128 .f32) (xn xp : Vec Ideal S1x512x128 .f32) (vv : Vec Ideal S1x1024x128 .bf16)
  (hK : ∀ j l, v12 (ix2 j l) = ((K j l : ℝ) : EReal))
  (hc : ∀ p l, c (ix2 p l) = ((C (row 512 le1 p) l : ℝ) : EReal)) (ha : ∀ p l, a (ix2 p l) = ((A (row 512 le1 p) l : ℝ) : EReal))
  (hb : ∀ p l, b (ix2 p l) = ((B (row 512 le1 p) l : ℝ) : EReal)) (hd : ∀ p l, vd (ix2 p l) = ((D (row 512 le1 p) l : ℝ) : EReal))
  (hn : ∀ (p : Fin 512) (l : Fin 128), xn (ix3 0 p l) = ((X (row 512 le1 p) (lo l) : ℝ) : EReal))
  (hp : ∀ (p : Fin 512) (l : Fin 128), xp (ix3 0 p l) = ((X (row 512 le1 p) (hi l) : ℝ) : EReal))
  (hv : ∀ (j : Fin 1024) l, vv (ix3 0 j l) = ((V (key 1024 w1 j) l : ℝ) : EReal))

include hc ha hb hn hp in
theorem q (p : Fin 512) (l : Fin 256) : k0_pay29 c a b xn xp (ix2 p l) = ((Qr X C A B (row 512 le1 p) l : ℝ) : EReal) := by
  pointwise [k0_pay29, k0_pay26, k0_pay27, k0_pay28]
  simp only [hc, ha, hb, hn, hp, lo, hi, ← EReal.coe_mul, ← EReal.coe_add]
  unfold Qr
  by_cases h : l.val < 128
  · simp only [dif_pos h]
  · have e : (⟨128 + (l.val - 128), by omega⟩ : Fin 256) = l := Fin.ext (by simp only []; omega)
    simp only [dif_neg h, e, if_true, dite_true]

include hK hc ha hb hn hp in
theorem w (p : Fin 512) (j : Fin 1024) : k0_pay34 (k0_pay32 v12 c a b xn xp) (k0_pay33 v12 c a b xn xp) (ix2 p j) = ((P (Qr X C A B) K kappa (row 512 le1 p) ⟨j.val, by omega⟩ : ℝ) : EReal) := by
  have hs : ∀ j : Fin 2048, (∑ x, k0_pay29 c a b xn xp (ix2 p x) * v12 (ix2 j x)) * Ideal.ofBits FTy.f32 1033096506#32
      = ((T (Qr X C A B) K kappa (row 512 le1 p) j : ℝ) : EReal) := by
    intro j
    rw [ofBits_kappa]
    simp only [q X C A B c a b xn xp hc ha hb hn hp, hK, ← EReal.coe_mul]
    rw [← coe_sum, ← EReal.coe_mul]
    rfl
  pointwise [k0_pay34, k0_pay33, k0_pay32, k0_pay30]
  have e := div_row_cut (Qr X C A B) K kappa (a := 512) (W := 1024) rfl (by norm_num) p (fun j => (∑ x, k0_pay29 c a b xn xp (ix2 p x) * v12 (ix2 j x)) * Ideal.ofBits FTy.f32 1033096506#32) hs j _ rfl
    512 rfl _ rfl
  exact e

include hK hc ha hb hn hp hd hv in
theorem s (p : Fin 512) (j : Fin 1024) : k0_pay36 (k0_pay31 vv) (k0_pay32 v12 c a b xn xp) (k0_pay33 v12 c a b xn xp) vd (ix2 p j) = ((DS (Qr X C A B) K V D kappa (row 512 le1 p) ⟨j.val, by omega⟩ : ℝ) : EReal) := by
  have hdp : ∀ j : Fin 1024, (∑ x, vd (ix2 p x) * vv (ix3 0 j x)) = ((DP V D (row 512 le1 p) ⟨j.val, by omega⟩ : ℝ) : EReal) := by
    intro j
    simp only [hd, hv, ← EReal.coe_mul]
    rw [← coe_sum]
    rfl
  pointwise [k0_pay36, k0_pay35, k0_pay31]
  rw [ofBits_kappa]
  have e := ds_row (Qr X C A B) K V D kappa (W := 1024) (by norm_num) (row 512 le1 p) (by show 512 + p.val < 1024; omega) (fun j => k0_pay34 (k0_pay32 v12 c a b xn xp) (k0_pay33 v12 c a b xn xp) (ix2 p j))
    (fun j => ∑ x, vd (ix2 p x) * vv (ix3 0 j x)) (w X C A B K v12 c a b xn xp hK hc ha hb hn hp p) hdp j
  exact e

include hK hc ha hb hn hp hd hv in
theorem z (p : Fin 512) (l : Fin 256) : k0_pay38 (k0_pay30 v12) (k0_pay31 vv) (k0_pay32 v12 c a b xn xp) (k0_pay33 v12 c a b xn xp) vd (ix2 p l) = ((Z (Qr X C A B) K V D kappa (row 512 le1 p) l : ℝ) : EReal) := by
  pointwise [k0_pay38, k0_pay30]
  simp only [s X C A B K V D v12 c a b vd xn xp vv hK hc ha hb hd hn hp hv, hK, ← EReal.coe_mul]
  rw [← coe_sum]
  have e := sum_upto (W := 1024) (by norm_num) (fun j => DS (Qr X C A B) K V D kappa (row 512 le1 p) j * K j l)
    (fun j hj => by simp only [DS_eq_zero (Qr X C A B) K V D kappa (r := (row 512 le1 p)) (j := j) (Fin.lt_def.2 (show 512 + p.val < j.val by omega)), zero_mul])
  exact congrArg _ e

include hK hc ha hb hn hp hd hv in
theorem dqn (p : Fin 512) (l : Fin 128) : k0_pay39 (k0_pay30 v12) (k0_pay31 vv) (k0_pay32 v12 c a b xn xp) (k0_pay33 v12 c a b xn xp) vd (ix3 0 p l) = ((Z (Qr X C A B) K V D kappa (row 512 le1 p) ⟨l.val, by omega⟩ : ℝ) : EReal) := by
  pointwise [k0_pay39]
  exact z X C A B K V D v12 c a b vd xn xp vv hK hc ha hb hd hn hp hv p _

include hK hc ha hb hn hp hd hv in
theorem dqr (p : Fin 512) (l : Fin 128) : k0_pay40 (k0_pay26 c) (k0_pay27 a) (k0_pay28 b) (k0_pay30 v12) (k0_pay31 vv) (k0_pay32 v12 c a b xn xp) (k0_pay33 v12 c a b xn xp) vd (ix3 0 p l) = ((turn C A B (Z (Qr X C A B) K V D kappa) (row 512 le1 p) l : ℝ) : EReal) := by
  have hz := z X C A B K V D v12 c a b vd xn xp vv hK hc ha hb hd hn hp hv p
  pointwise [k0_pay40, k0_pay26, k0_pay27, k0_pay28]
  simp only [hz, hc, ha, hb, ← EReal.coe_mul, ← EReal.coe_add]
  rfl

variable (old : Vec Ideal S1x1024x128 .f32)

include hK hc ha hb hn hp hd hv in
theorem dkl (j : Fin 1024) (l : Fin 128) : k0_pay42 (k0_pay41 (k0_pay29 c a b xn xp) (k0_pay31 vv) (k0_pay32 v12 c a b xn xp) (k0_pay33 v12 c a b xn xp) vd) old (ix3 0 j l) = old (ix3 0 j l)
    + ((∑ p : Fin 512, DS (Qr X C A B) K V D kappa (row 512 le1 p) ⟨j.val, by omega⟩ * Qr X C A B (row 512 le1 p) ⟨l.val, by omega⟩ : ℝ) : EReal) := by
  pointwise [k0_pay42, k0_pay41]
  simp only [s X C A B K V D v12 c a b vd xn xp vv hK hc ha hb hd hn hp hv, q X C A B c a b xn xp hc ha hb hn hp, ← EReal.coe_mul]
  rw [← coe_sum]

include hK hc ha hb hn hp hd in
theorem dv (j : Fin 1024) (l : Fin 128) : k0_pay43 (k0_pay35 vd) (k0_pay37 (k0_pay32 v12 c a b xn xp) (k0_pay33 v12 c a b xn xp)) old (ix3 0 j l) = old (ix3 0 j l)
    + ((∑ p : Fin 512, P (Qr X C A B) K kappa (row 512 le1 p) ⟨j.val, by omega⟩ * D (row 512 le1 p) l : ℝ) : EReal) := by
  pointwise [k0_pay43, k0_pay35, k0_pay37]
  simp only [w X C A B K v12 c a b xn xp hK hc ha hb hn hp, hd, ← EReal.coe_mul]
  rw [← coe_sum]

include hK hc ha hb hn hp hd hv in
theorem dkr (j : Fin 1024) (l : Fin 128) : k0_pay44 (k0_pay41 (k0_pay29 c a b xn xp) (k0_pay31 vv) (k0_pay32 v12 c a b xn xp) (k0_pay33 v12 c a b xn xp) vd) old (ix3 0 j l) = old (ix3 0 j l)
    + ((∑ p : Fin 512, DS (Qr X C A B) K V D kappa (row 512 le1 p) ⟨j.val, by omega⟩ * Qr X C A B (row 512 le1 p) ⟨128 + l.val, by omega⟩ : ℝ) : EReal) := by
  pointwise [k0_pay44, k0_pay41]
  simp only [s X C A B K V D v12 c a b vd xn xp vv hK hc ha hb hd hn hp hv, q X C A B c a b xn xp hc ha hb hn hp, ← EReal.coe_mul]
  rw [← coe_sum]

end B1

namespace B2

variable (v12 : FVec Ideal S2048x256 .bf16) (c a b vd : Vec Ideal S512x128 .f32) (xn xp : Vec Ideal S1x512x128 .f32) (vv : Vec Ideal S1x1536x128 .bf16)
  (hK : ∀ j l, v12 (ix2 j l) = ((K j l : ℝ) : EReal))
  (hc : ∀ p l, c (ix2 p l) = ((C (row 1024 le2 p) l : ℝ) : EReal)) (ha : ∀ p l, a (ix2 p l) = ((A (row 1024 le2 p) l : ℝ) : EReal))
  (hb : ∀ p l, b (ix2 p l) = ((B (row 1024 le2 p) l : ℝ) : EReal)) (hd : ∀ p l, vd (ix2 p l) = ((D (row 1024 le2 p) l : ℝ) : EReal))
  (hn : ∀ (p : Fin 512) (l : Fin 128), xn (ix3 0 p l) = ((X (row 1024 le2 p) (lo l) : ℝ) : EReal))
  (hp : ∀ (p : Fin 512) (l : Fin 128), xp (ix3 0 p l) = ((X (row 1024 le2 p) (hi l) : ℝ) : EReal))
  (hv : ∀ (j : Fin 1536) l, vv (ix3 0 j l) = ((V (key 1536 w2 j) l : ℝ) : EReal))

include hc ha hb hn hp in
theorem q (p : Fin 512) (l : Fin 256) : k0_pay49 (k0_pay45 c) (k0_pay46 a) (k0_pay47 b) (k0_pay48 xn) xp (ix2 p l) = ((Qr X C A B (row 1024 le2 p) l : ℝ) : EReal) := by
  pointwise [k0_pay49, k0_pay45, k0_pay46, k0_pay47, k0_pay48]
  simp only [hc, ha, hb, hn, hp, lo, hi, ← EReal.coe_mul, ← EReal.coe_add]
  unfold Qr
  by_cases h : l.val < 128
  · simp only [dif_pos h]
  · have e : (⟨128 + (l.val - 128), by omega⟩ : Fin 256) = l := Fin.ext (by simp only []; omega)
    simp only [dif_neg h, e, if_true, dite_true]

include hK hc ha hb hn hp in
theorem w (p : Fin 512) (j : Fin 1536) : k0_pay51 v12 (k0_pay45 c) (k0_pay46 a) (k0_pay47 b) (k0_pay48 xn) xp (ix2 p j) = ((P (Qr X C A B) K kappa (row 1024 le2 p) ⟨j.val, by omega⟩ : ℝ) : EReal) := by
  have hs : ∀ j : Fin 2048, (∑ x, k0_pay49 (k0_pay45 c) (k0_pay46 a) (k0_pay47 b) (k0_pay48 xn) xp (ix2 p x) * v12 (ix2 j x)) * Ideal.ofBits FTy.f32 1033096506#32
      = ((T (Qr X C A B) K kappa (row 1024 le2 p) j : ℝ) : EReal) := by
    intro j
    rw [ofBits_kappa]
    simp only [q X C A B c a b xn xp hc ha hb hn hp, hK, ← EReal.coe_mul]
    rw [← coe_sum, ← EReal.coe_mul]
    rfl
  pointwise [k0_pay51, k0_pay50]
  have e := div_row_cut (Qr X C A B) K kappa (a := 1024) (W := 1536) rfl (by norm_num) p (fun j => (∑ x, k0_pay49 (k0_pay45 c) (k0_pay46 a) (k0_pay47 b) (k0_pay48 xn) xp (ix2 p x) * v12 (ix2 j x)) * Ideal.ofBits FTy.f32 1033096506#32) hs j _ rfl
    1024 rfl _ rfl
  exact e

include hK hc ha hb hn hp hd hv in
theorem s (p : Fin 512) (j : Fin 1536) : k0_pay55 (k0_pay53 v12 (k0_pay45 c) (k0_pay46 a) (k0_pay47 b) (k0_pay48 xn) xp vv vd) k0_pay54 (ix2 p j) = ((DS (Qr X C A B) K V D kappa (row 1024 le2 p) ⟨j.val, by omega⟩ : ℝ) : EReal) := by
  have hdp : ∀ j : Fin 1536, (∑ x, vd (ix2 p x) * vv (ix3 0 j x)) = ((DP V D (row 1024 le2 p) ⟨j.val, by omega⟩ : ℝ) : EReal) := by
    intro j
    simp only [hd, hv, ← EReal.coe_mul]
    rw [← coe_sum]
    rfl
  pointwise [k0_pay55, k0_pay54, k0_pay53, k0_pay52]
  rw [ofBits_kappa]
  have e := ds_row (Qr X C A B) K V D kappa (W := 1536) (by norm_num) (row 1024 le2 p) (by show 1024 + p.val < 1536; omega) (fun j => k0_pay51 v12 (k0_pay45 c) (k0_pay46 a) (k0_pay47 b) (k0_pay48 xn) xp (ix2 p j))
    (fun j => ∑ x, vd (ix2 p x) * vv (ix3 0 j x)) (w X C A B K v12 c a b xn xp hK hc ha hb hn hp p) hdp j
  exact e

include hK hc ha hb hn hp hd hv in
theorem z (p : Fin 512) (l : Fin 256) : k0_pay56 (k0_pay50 v12) (k0_pay53 v12 (k0_pay45 c) (k0_pay46 a) (k0_pay47 b) (k0_pay48 xn) xp vv vd) k0_pay54 (ix2 p l) = ((Z (Qr X C A B) K V D kappa (row 1024 le2 p) l : ℝ) : EReal) := by
  pointwise [k0_pay56, k0_pay50]
  simp only [s X C A B K V D v12 c a b vd xn xp vv hK hc ha hb hd hn hp hv, hK, ← EReal.coe_mul]
  rw [← coe_sum]
  have e := sum_upto (W := 1536) (by norm_num) (fun j => DS (Qr X C A B) K V D kappa (row 1024 le2 p) j * K j l)
    (fun j hj => by simp only [DS_eq_zero (Qr X C A B) K V D kappa (r := (row 1024 le2 p)) (j := j) (Fin.lt_def.2 (show 1024 + p.val < j.val by omega)), zero_mul])
  exact congrArg _ e

include hK hc ha hb hn hp hd hv in
theorem dqn (p : Fin 512) (l : Fin 128) : k0_pay57 (k0_pay50 v12) (k0_pay53 v12 (k0_pay45 c) (k0_pay46 a) (k0_pay47 b) (k0_pay48 xn) xp vv vd) k0_pay54 (ix3 0 p l) = ((Z (Qr X C A B) K V D kappa (row 1024 le2 p) ⟨l.val, by omega⟩ : ℝ) : EReal) := by
  pointwise [k0_pay57]
  exact z X C A B K V D v12 c a b vd xn xp vv hK hc ha hb hd hn hp hv p _

include hK hc ha hb hn hp hd hv in
theorem dqr (p : Fin 512) (l : Fin 128) : k0_pay58 (k0_pay45 c) (k0_pay46 a) (k0_pay47 b) (k0_pay50 v12) (k0_pay53 v12 (k0_pay45 c) (k0_pay46 a) (k0_pay47 b) (k0_pay48 xn) xp vv vd) k0_pay54 (ix3 0 p l) = ((turn C A B (Z (Qr X C A B) K V D kappa) (row 1024 le2 p) l : ℝ) : EReal) := by
  have hz := z X C A B K V D v12 c a b vd xn xp vv hK hc ha hb hd hn hp hv p
  generalize k0_pay53 v12 (k0_pay45 c) (k0_pay46 a) (k0_pay47 b) (k0_pay48 xn) xp vv vd = g at hz ⊢
  pointwise [k0_pay58, k0_pay45, k0_pay46, k0_pay47]
  simp only [hz, hc, ha, hb, ← EReal.coe_mul, ← EReal.coe_add]
  rfl

variable (old : Vec Ideal S1x1536x128 .f32)

include hK hc ha hb hn hp hd hv in
theorem dkl (j : Fin 1536) (l : Fin 128) : k0_pay60 (k0_pay49 (k0_pay45 c) (k0_pay46 a) (k0_pay47 b) (k0_pay48 xn) xp) (k0_pay53 v12 (k0_pay45 c) (k0_pay46 a) (k0_pay47 b) (k0_pay48 xn) xp vv vd) k0_pay54 old (ix3 0 j l) = old (ix3 0 j l)
    + ((∑ p : Fin 512, DS (Qr X C A B) K V D kappa (row 1024 le2 p) ⟨j.val, by omega⟩ * Qr X C A B (row 1024 le2 p) ⟨l.val, by omega⟩ : ℝ) : EReal) := by
  pointwise [k0_pay60, k0_pay59]
  simp only [s X C A B K V D v12 c a b vd xn xp vv hK hc ha hb hd hn hp hv, q X C A B c a b xn xp hc ha hb hn hp, ← EReal.coe_mul]
  rw [← coe_sum]

include hK hc ha hb hn hp hd in
theorem dv (j : Fin 1536) (l : Fin 128) : k0_pay62 (k0_pay61 (k0_pay51 v12 (k0_pay45 c) (k0_pay46 a) (k0_pay47 b) (k0_pay48 xn) xp) (k0_pay52 vd) old) (ix3 0 j l) = old (ix3 0 j l)
    + ((∑ p : Fin 512, P (Qr X C A B) K kappa (row 1024 le2 p) ⟨j.val, by omega⟩ * D (row 1024 le2 p) l : ℝ) : EReal) := by
  pointwise [k0_pay62, k0_pay61, k0_pay52]
  simp only [w X C A B K v12 c a b xn xp hK hc ha hb hn hp, hd, ← EReal.coe_mul]
  rw [← coe_sum]

include hK hc ha hb hn hp hd hv in
theorem dkr (j : Fin 1536) (l : Fin 128) : k0_pay63 (k0_pay59 (k0_pay49 (k0_pay45 c) (k0_pay46 a) (k0_pay47 b) (k0_pay48 xn) xp) (k0_pay53 v12 (k0_pay45 c) (k0_pay46 a) (k0_pay47 b) (k0_pay48 xn) xp vv vd) k0_pay54) old (ix3 0 j l) = old (ix3 0 j l)
    + ((∑ p : Fin 512, DS (Qr X C A B) K V D kappa (row 1024 le2 p) ⟨j.val, by omega⟩ * Qr X C A B (row 1024 le2 p) ⟨128 + l.val, by omega⟩ : ℝ) : EReal) := by
  pointwise [k0_pay63, k0_pay59]
  simp only [s X C A B K V D v12 c a b vd xn xp vv hK hc ha hb hd hn hp hv, q X C A B c a b xn xp hc ha hb hn hp, ← EReal.coe_mul]
  rw [← coe_sum]

end B2

namespace B3

variable (v12 : FVec Ideal S2048x256 .bf16) (c a b vd : Vec Ideal S512x128 .f32) (xn xp : Vec Ideal S1x512x128 .f32) (vv : Vec Ideal S1x2048x128 .bf16)
  (hK : ∀ j l, v12 (ix2 j l) = ((K j l : ℝ) : EReal))
  (hc : ∀ p l, c (ix2 p l) = ((C (row 1536 le3 p) l : ℝ) : EReal)) (ha : ∀ p l, a (ix2 p l) = ((A (row 1536 le3 p) l : ℝ) : EReal))
  (hb : ∀ p l, b (ix2 p l) = ((B (row 1536 le3 p) l : ℝ) : EReal)) (hd : ∀ p l, vd (ix2 p l) = ((D (row 1536 le3 p) l : ℝ) : EReal))
  (hn : ∀ (p : Fin 512) (l : Fin 128), xn (ix3 0 p l) = ((X (row 1536 le3 p) (lo l) : ℝ) : EReal))
  (hp : ∀ (p : Fin 512) (l : Fin 128), xp (ix3 0 p l) = ((X (row 1536 le3 p) (hi l) : ℝ) : EReal))
  (hv : ∀ (j : Fin 2048) l, vv (ix3 0 j l) = ((V j l : ℝ) : EReal))

include hc ha hb hn hp in
theorem q (p : Fin 512) (l : Fin 256) : k0_pay67 c a b xn xp (ix2 p l) = ((Qr X C A B (row 1536 le3 p) l : ℝ) : EReal) := by
  pointwise [k0_pay67, k0_pay64, k0_pay65, k0_pay66]
  simp only [hc, ha, hb, hn, hp, lo, hi, ← EReal.coe_mul, ← EReal.coe_add]
  unfold Qr
  by_cases h : l.val < 128
  · simp only [dif_pos h]
  · have e : (⟨128 + (l.val - 128), by omega⟩ : Fin 256) = l := Fin.ext (by simp only []; omega)
    simp only [dif_neg h, e, if_true, dite_true]

include hK hc ha hb hn hp in
theorem w (p : Fin 512) (j : Fin 2048) : k0_pay71 (k0_pay69 v12 c a b xn xp) k0_pay70 (ix2 p j) = ((P (Qr X C A B) K kappa (row 1536 le3 p) j : ℝ) : EReal) := by
  have hs : ∀ j : Fin 2048, (∑ x, k0_pay67 c a b xn xp (ix2 p x) * v12 (ix2 j x)) * Ideal.ofBits FTy.f32 1033096506#32
      = ((T (Qr X C A B) K kappa (row 1536 le3 p) j : ℝ) : EReal) := by
    intro j
    rw [ofBits_kappa]
    simp only [q X C A B c a b xn xp hc ha hb hn hp, hK, ← EReal.coe_mul]
    rw [← coe_sum, ← EReal.coe_mul]
    rfl
  pointwise [k0_pay71, k0_pay70, k0_pay69]
  have e := div_row_cut (Qr X C A B) K kappa (a := 1536) (W := 2048) rfl (by norm_num) p (fun j => (∑ x, k0_pay67 c a b xn xp (ix2 p x) * v12 (ix2 j x)) * Ideal.ofBits FTy.f32 1033096506#32) hs j _ rfl
    1536 rfl _ rfl
  exact e

include hK hc ha hb hn hp hd hv in
theorem s (p : Fin 512) (j : Fin 2048) : k0_pay73 (k0_pay68 vv) (k0_pay69 v12 c a b xn xp) k0_pay70 vd (ix2 p j) = ((DS (Qr X C A B) K V D kappa (row 1536 le3 p) j : ℝ) : EReal) := by
  have hdp : ∀ j : Fin 2048, (∑ x, vd (ix2 p x) * vv (ix3 0 j x)) = ((DP V D (row 1536 le3 p) j : ℝ) : EReal) := by
    intro j
    simp only [hd, hv, ← EReal.coe_mul]
    rw [← coe_sum]
    rfl
  pointwise [k0_pay73, k0_pay72, k0_pay68]
  rw [ofBits_kappa]
  have e := ds_row (Qr X C A B) K V D kappa (W := 2048) (by norm_num) (row 1536 le3 p) (by show 1536 + p.val < 2048; omega) (fun j => k0_pay71 (k0_pay69 v12 c a b xn xp) k0_pay70 (ix2 p j))
    (fun j => ∑ x, vd (ix2 p x) * vv (ix3 0 j x)) (w X C A B K v12 c a b xn xp hK hc ha hb hn hp p) hdp j
  exact e

include hK hc ha hb hn hp hd hv in
theorem z (p : Fin 512) (l : Fin 256) : k0_pay75 v12 (k0_pay68 vv) (k0_pay69 v12 c a b xn xp) k0_pay70 vd (ix2 p l) = ((Z (Qr X C A B) K V D kappa (row 1536 le3 p) l : ℝ) : EReal) := by
  pointwise [k0_pay75]
  simp only [s X C A B K V D v12 c a b vd xn xp vv hK hc ha hb hd hn hp hv, hK, ← EReal.coe_mul]
  rw [← coe_sum]
  have e := sum_upto (W := 2048) (by norm_num) (fun j => DS (Qr X C A B) K V D kappa (row 1536 le3 p) j * K j l)
    (fun j hj => by simp only [DS_eq_zero (Qr X C A B) K V D kappa (r := (row 1536 le3 p)) (j := j) (Fin.lt_def.2 (show 1536 + p.val < j.val by omega)), zero_mul])
  exact congrArg _ e

include hK hc ha hb hn hp hd hv in
theorem dqn (p : Fin 512) (l : Fin 128) : k0_pay76 v12 (k0_pay68 vv) (k0_pay69 v12 c a b xn xp) k0_pay70 vd (ix3 0 p l) = ((Z (Qr X C A B) K V D kappa (row 1536 le3 p) ⟨l.val, by omega⟩ : ℝ) : EReal) := by
  pointwise [k0_pay76]
  exact z X C A B K V D v12 c a b vd xn xp vv hK hc ha hb hd hn hp hv p _

include hK hc ha hb hn hp hd hv in
theorem dqr (p : Fin 512) (l : Fin 128) : k0_pay78 (k0_pay77 v12 (k0_pay64 c) (k0_pay65 a) (k0_pay66 b) (k0_pay68 vv) (k0_pay69 v12 c a b xn xp) k0_pay70 vd) (ix3 0 p l) = ((turn C A B (Z (Qr X C A B) K V D kappa) (row 1536 le3 p) l : ℝ) : EReal) := by
  have hz := z X C A B K V D v12 c a b vd xn xp vv hK hc ha hb hd hn hp hv p
  pointwise [k0_pay78, k0_pay77, k0_pay64, k0_pay65, k0_pay66]
  simp only [hz, hc, ha, hb, ← EReal.coe_mul, ← EReal.coe_add]
  rfl

variable (old : Vec Ideal S1x2048x128 .f32)

include hK hc ha hb hn hp hd hv in
theorem dkl (j : Fin 2048) (l : Fin 128) : k0_pay80 (k0_pay67 c a b xn xp) (k0_pay73 (k0_pay68 vv) (k0_pay69 v12 c a b xn xp) k0_pay70 vd) old (ix3 0 j l) = old (ix3 0 j l)
    + ((∑ p : Fin 512, DS (Qr X C A B) K V D kappa (row 1536 le3 p) j * Qr X C A B (row 1536 le3 p) ⟨l.val, by omega⟩ : ℝ) : EReal) := by
  pointwise [k0_pay80, k0_pay79]
  simp only [s X C A B K V D v12 c a b vd xn xp vv hK hc ha hb hd hn hp hv, q X C A B c a b xn xp hc ha hb hn hp, ← EReal.coe_mul]
  rw [← coe_sum]

include hK hc ha hb hn hp hd in
theorem dv (j : Fin 2048) (l : Fin 128) : k0_pay81 (k0_pay72 vd) (k0_pay74 (k0_pay69 v12 c a b xn xp) k0_pay70) old (ix3 0 j l) = old (ix3 0 j l)
    + ((∑ p : Fin 512, P (Qr X C A B) K kappa (row 1536 le3 p) j * D (row 1536 le3 p) l : ℝ) : EReal) := by
  pointwise [k0_pay81, k0_pay72, k0_pay74]
  simp only [w X C A B K v12 c a b xn xp hK hc ha hb hn hp, hd, ← EReal.coe_mul]
  rw [← coe_sum]

include hK hc ha hb hn hp hd hv in
theorem dkr (j : Fin 2048) (l : Fin 128) : k0_pay1 (k0_pay82 (k0_pay67 c a b xn xp) (k0_pay73 (k0_pay68 vv) (k0_pay69 v12 c a b xn xp) k0_pay70 vd) old) (ix3 0 j l) = old (ix3 0 j l)
    + ((∑ p : Fin 512, DS (Qr X C A B) K V D kappa (row 1536 le3 p) j * Qr X C A B (row 1536 le3 p) ⟨128 + l.val, by omega⟩ : ℝ) : EReal) := by
  pointwise [k0_pay1, k0_pay82, k0_pay79]
  simp only [s X C A B K V D v12 c a b vd xn xp vv hK hc ha hb hd hn hp hv, q X C A B c a b xn xp hc ha hb hn hp, ← EReal.coe_mul]
  rw [← coe_sum]

end B3

end AttnPay
-- ==== Proof.AttnOut.lean ====
module

public import proofs.«01_k».proof.Proof.AttnPay

/-!
What the attention kernel leaves in its three result blocks at one head.
-/

@[expose] public section

set_option maxRecDepth 16384
set_option maxHeartbeats 1000000

noncomputable section

namespace AttnOut

open Idealize.ShloMosaic Idealize.ShloMosaic.TcCoe Idealize.SL.Sem Finite AttnMath AttnPay Cert.AttnIdeal Cert.AttnIdeal.Gen
open Idealize.ShloMosaic.Pipeline (Dat)

/-- The pieces cover the whole array and leave `G` in it. -/
def Holds {s : Shape} (L : List (View.Piece (Elt Ideal) s .f32)) (G : s.Idx → EReal) : Prop :=
  View.canon L = G ∧ ∀ y, ∃ p ∈ L, y ∈ p.1.set

/-- A real array as an array. -/
def lift {n : ℕ} (f : Fin 2048 → Fin n → ℝ) : (⟨3, ![1, 2048, n]⟩ : Shape).Idx → EReal := fun y => ((f (y 1) (y 2) : ℝ) : EReal)

theorem agree {s : Shape} {e : EltTy} {G : s.Idx → Elt Ideal e} {r : Rect s} {w : r.shape.Idx → Elt Ideal e} {L : List (View.Piece (Elt Ideal) s e)} {y : s.Idx}
    (hw : ∀ x, w x = G (r.emb x)) (hL : y ∉ r.set → View.canon L y = G y) :
    View.canon ((⟨r, w⟩ : View.Piece (Elt Ideal) s e) :: L) y = G y := by
  by_cases h : y ∈ r.set
  · rw [← Rect.map_emb_univ] at h
    obtain ⟨x, -, rfl⟩ := Finset.mem_map.1 h
    exact (View.canon_cons_emb r w L x).trans (hw x)
  · rw [View.canon_cons_of_not_mem _ _ h]; exact hL h

theorem box_emb {n W o : ℕ} (inb) (j : Fin W) (l : Fin 128) (hj : j.val < 2048) (hl : o + l.val < n) :
    (Rect.unit (s := ⟨3, ![1, 2048, n]⟩) ![0, 0, o] ![1, W, 128] inb).emb (ix3 0 j l) = ix3 0 ⟨j.val, hj⟩ ⟨o + l.val, hl⟩ := by
  funext i
  apply Fin.ext
  rw [ValueKit.rect_emb_unit_val]
  fin_cases i <;> simp

theorem fill {n : ℕ} (inb) (w : (⟨3, ![1, 2048, n]⟩ : Shape).Idx → EReal) (f : Fin 2048 → Fin n → ℝ) (hw : ∀ j l, w (ix3 0 j l) = ((f j l : ℝ) : EReal)) :
    Holds [(⟨Rect.unit (s := ⟨3, ![1, 2048, n]⟩) ![0, 0, 0] ![1, 2048, n] inb, w⟩ : View.Piece (Elt Ideal) ⟨3, ![1, 2048, n]⟩ .f32)] (lift f) := by
  have hm : ∀ y, y ∈ (Rect.unit (s := ⟨3, ![1, 2048, n]⟩) ![0, 0, 0] ![1, 2048, n] inb).set := by
    intro y
    rw [Rect.mem_set_unit]
    intro a
    have := (y a).isLt
    fin_cases a <;> exact ⟨Nat.zero_le _, by simpa using this⟩
  refine ⟨funext fun y => ?_, fun y => ⟨_, List.mem_cons_self, hm y⟩⟩
  refine agree (fun x => ?_) (fun h => absurd (hm y) h)
  obtain ⟨i, j, l, rfl⟩ : ∃ i j l, x = ix3 i j l := ⟨x 0, x 1, x 2, eq_ix3 x⟩
  obtain rfl : i = 0 := Subsingleton.elim _ _
  have e : (Rect.unit (s := ⟨3, ![1, 2048, n]⟩) ![0, 0, 0] ![1, 2048, n] inb).emb (ix3 0 j l) = ix3 0 j l := by
    funext i
    apply Fin.ext
    rw [ValueKit.rect_emb_unit_val]
    fin_cases i <;> simp
  rw [e, hw]; rfl

/-- Adding `inc` into the first `W` rows of 128 columns. -/
theorem add {n : ℕ} (f g : Fin 2048 → Fin n → ℝ) {L : List (View.Piece (Elt Ideal) ⟨3, ![1, 2048, n]⟩ .f32)} (h : Holds L (lift f))
    {κ : Kind} {sp : Space} (v : View sig κ sp ⟨3, ![1, 2048, n]⟩ .f32) (W o : ℕ) (hW : W ≤ 2048) (ho : o + 128 ≤ n) (inb)
    (w : (⟨3, ![1, W, 128]⟩ : Shape).Idx → EReal) (inc : Fin W → Fin 128 → ℝ)
    (hw : ∀ (j : Fin W) (l : Fin 128), w (ix3 0 j l)
      = v.readCov L (Rect.unit (s := ⟨3, ![1, 2048, n]⟩) ![0, 0, o] ![1, W, 128] inb).toLoadRect (ix3 0 j l) + ((inc j l : ℝ) : EReal))
    (hin : ∀ (j : Fin W) (l : Fin 128), g ⟨j.val, by omega⟩ ⟨o + l.val, by omega⟩ = f ⟨j.val, by omega⟩ ⟨o + l.val, by omega⟩ + inc j l)
    (hout : ∀ (j : Fin 2048) (l : Fin n), ¬(j.val < W ∧ o ≤ l.val ∧ l.val < o + 128) → g j l = f j l) :
    Holds ((⟨Rect.unit (s := ⟨3, ![1, 2048, n]⟩) ![0, 0, o] ![1, W, 128] inb, w⟩ : View.Piece (Elt Ideal) ⟨3, ![1, 2048, n]⟩ .f32) :: L) (lift g) := by
  refine ⟨funext fun y => agree (fun x => ?_) (fun hy => ?_), fun y => ?_⟩
  · obtain ⟨i, j, l, rfl⟩ : ∃ i j l, x = ix3 i j l := ⟨x 0, x 1, x 2, eq_ix3 x⟩
    obtain rfl : i = 0 := Subsingleton.elim _ _
    rw [box_emb inb j l (by omega) (by omega)]
    refine (hw j l).trans ?_
    rw [View.readCov_eq_canon_ld v L _ h.2, h.1]
    have e : View.ld (Val := Elt Ideal) (e' := .f32) (lift f) (Rect.unit (s := ⟨3, ![1, 2048, n]⟩) ![0, 0, o] ![1, W, 128] inb) (ix3 0 j l)
        = lift f (ix3 0 ⟨j.val, by omega⟩ ⟨o + l.val, by omega⟩) := congrArg (lift f) (box_emb inb j l (by omega) (by omega))
    refine (congrArg (· + ((inc j l : ℝ) : EReal)) e).trans ?_
    exact (EReal.coe_add _ _).symm.trans (congrArg (fun x : ℝ => (x : EReal)) (hin j l).symm)
  · obtain ⟨i, j, l, rfl⟩ : ∃ i j l, y = ix3 i j l := ⟨y 0, y 1, y 2, eq_ix3 y⟩
    rw [h.1]
    show ((f j l : ℝ) : EReal) = ((g j l : ℝ) : EReal)
    rw [hout]
    rintro ⟨h1, h2, h3⟩
    refine hy (Rect.mem_set_unit.2 fun a => ?_)
    fin_cases a
    · exact ⟨Nat.zero_le _, by simpa using i.isLt⟩
    · exact ⟨Nat.zero_le _, by simpa using h1⟩
    · exact ⟨h2, h3⟩
  · obtain ⟨p, hp, hy⟩ := h.2 y
    exact ⟨p, List.mem_cons_of_mem _ hp, hy⟩

theorem rows2 (f : (⟨2, ![2048, 128]⟩ : Shape).Idx → EReal) (g : Fin 2048 → Fin 128 → ℝ) (hf : ∀ r l, f (ix2 r l) = ((g r l : ℝ) : EReal))
    (o : ℕ) (ho : o + 512 ≤ 2048) (inb) (p : Fin 512) (l : Fin 128) :
    f ((Rect.unit (s := ⟨2, ![2048, 128]⟩) ![o, 0] ![512, 128] inb).emb (ix2 p l)) = ((g (row o ho p) l : ℝ) : EReal) := by
  rw [← hf]
  refine congrArg f (funext fun i => Fin.ext ?_)
  refine (ValueKit.rect_emb_unit_val _ _ inb _ i).trans ?_
  fin_cases i <;> simp

theorem rows3 {n : ℕ} (f : (⟨3, ![1, 2048, n]⟩ : Shape).Idx → EReal) (g : Fin 2048 → Fin n → ℝ) (hf : ∀ r l, f (ix3 0 r l) = ((g r l : ℝ) : EReal))
    (o c H : ℕ) (ho : o + H ≤ 2048) (hc : c + 128 ≤ n) (inb) (p : Fin H) (l : Fin 128) :
    f ((Rect.unit (s := ⟨3, ![1, 2048, n]⟩) ![0, o, c] ![1, H, 128] inb).emb (ix3 0 p l)) = ((g ⟨o + p.val, by omega⟩ ⟨c + l.val, by omega⟩ : ℝ) : EReal) := by
  rw [← hf]
  refine congrArg f (funext fun i => Fin.ext ?_)
  refine (ValueKit.rect_emb_unit_val _ _ inb _ i).trans ?_
  fin_cases i <;> simp

variable (X : Fin 2048 → Fin 256 → ℝ) (C A B : Fin 2048 → Fin 128 → ℝ) (kn kp : Fin 2048 → Fin 128 → ℝ) (V D : Fin 2048 → Fin 128 → ℝ)

/-- The keys: the head's own columns, then the shared ones. -/
def Kc (r : Fin 2048) (l : Fin 256) : ℝ := if h : l.val < 128 then kn r ⟨l.val, h⟩ else kp r ⟨l.val - 128, by omega⟩

/-- The gradients of the keys and values after the queries below `b` and below `b'`. -/
def kv (Q K : Fin 2048 → Fin 256 → ℝ) (V D : Fin 2048 → Fin 128 → ℝ) (b b' : ℕ) (j : Fin 2048) (l : Fin 256) : ℝ :=
  if h : l.val < 128 then Y Q K V D kappa b j l else U Q K D kappa b' j ⟨l.val - 128, by omega⟩

/-- The gradient of the shared keys after the queries below `b`. -/
def kr (Q K : Fin 2048 → Fin 256 → ℝ) (V D : Fin 2048 → Fin 128 → ℝ) (b : ℕ) (j : Fin 2048) (l : Fin 128) : ℝ :=
  Y Q K V D kappa b j ⟨128 + l.val, by omega⟩

/-- The gradient of the queries. -/
def dq (Q K : Fin 2048 → Fin 256 → ℝ) (V D C A B : Fin 2048 → Fin 128 → ℝ) (r : Fin 2048) (l : Fin 256) : ℝ :=
  if h : l.val < 128 then Z Q K V D kappa r l else turn C A B (Z Q K V D kappa) r ⟨l.val - 128, by omega⟩

section Steps
variable (Q K : Fin 2048 → Fin 256 → ℝ) (V D : Fin 2048 → Fin 128 → ℝ)

theorem Y_step (b : ℕ) (hb : b + 512 ≤ 2048) (j : Fin 2048) (l : Fin 256) :
    Y Q K V D kappa (b + 512) j l = Y Q K V D kappa b j l + ∑ p : Fin 512, DS Q K V D kappa (row b hb p) j * Q (row b hb p) l :=
  sum_block b hb (fun r => DS Q K V D kappa r j * Q r l)

theorem U_step (b : ℕ) (hb : b + 512 ≤ 2048) (j : Fin 2048) (l : Fin 128) :
    U Q K D kappa (b + 512) j l = U Q K D kappa b j l + ∑ p : Fin 512, P Q K kappa (row b hb p) j * D (row b hb p) l :=
  sum_block b hb (fun r => P Q K kappa r j * D r l)

theorem Y_skip (b : ℕ) (hb : b + 512 ≤ 2048) (j : Fin 2048) (hj : b + 512 ≤ j.val) (l : Fin 256) :
    Y Q K V D kappa (b + 512) j l = Y Q K V D kappa b j l := by
  rw [Y_step Q K V D b hb, Finset.sum_eq_zero, add_zero]
  intro p _
  rw [DS_eq_zero Q K V D kappa (r := row b hb p) (j := j) (Fin.lt_def.2 (show b + p.val < j.val by omega)), zero_mul]

theorem U_skip (b : ℕ) (hb : b + 512 ≤ 2048) (j : Fin 2048) (hj : b + 512 ≤ j.val) (l : Fin 128) :
    U Q K D kappa (b + 512) j l = U Q K D kappa b j l := by
  rw [U_step Q K D b hb, Finset.sum_eq_zero, add_zero]
  intro p _
  rw [P_eq_zero Q K kappa (r := row b hb p) (j := j) (Fin.lt_def.2 (show b + p.val < j.val by omega)), zero_mul]

theorem left {L : List (View.Piece (Elt Ideal) S1x2048x256 .f32)} (b W : ℕ) (hW : W = b + 512) (hb : b + 512 ≤ 2048) (h : Holds L (lift (kv Q K V D b b)))
    {κ : Kind} {sp : Space} (v : View sig κ sp S1x2048x256 .f32) (inb) (w : (⟨3, ![1, W, 128]⟩ : Shape).Idx → EReal)
    (hw : ∀ (j : Fin W) (l : Fin 128), w (ix3 0 j l)
      = v.readCov L (Rect.unit (s := S1x2048x256) ![0, 0, 0] ![1, W, 128] inb).toLoadRect (ix3 0 j l)
        + ((∑ p : Fin 512, DS Q K V D kappa (row b hb p) ⟨j.val, by omega⟩ * Q (row b hb p) ⟨l.val, by omega⟩ : ℝ) : EReal)) :
    Holds ((⟨Rect.unit (s := S1x2048x256) ![0, 0, 0] ![1, W, 128] inb, w⟩ : View.Piece (Elt Ideal) S1x2048x256 .f32) :: L) (lift (kv Q K V D W b)) := by
  subst hW
  refine add (n := 256) (kv Q K V D b b) (kv Q K V D (b + 512) b) h v (b + 512) 0 hb (by norm_num) inb w _ hw (fun j l => ?_) (fun j l hn => ?_)
  · have hl : (0 : ℕ) + l.val < 128 := by omega
    simp only [kv, hl, dite_true]
    rw [Y_step Q K V D b hb]
    simp only [Nat.zero_add]
  · unfold kv
    by_cases hl : l.val < 128
    · rw [dif_pos hl, dif_pos hl, Y_skip Q K V D b hb j (by omega)]
    · rw [dif_neg hl, dif_neg hl]

theorem right {L : List (View.Piece (Elt Ideal) S1x2048x256 .f32)} (b W : ℕ) (hW : W = b + 512) (hb : b + 512 ≤ 2048) (h : Holds L (lift (kv Q K V D W b)))
    {κ : Kind} {sp : Space} (v : View sig κ sp S1x2048x256 .f32) (inb) (w : (⟨3, ![1, W, 128]⟩ : Shape).Idx → EReal)
    (hw : ∀ (j : Fin W) (l : Fin 128), w (ix3 0 j l)
      = v.readCov L (Rect.unit (s := S1x2048x256) ![0, 0, 128] ![1, W, 128] inb).toLoadRect (ix3 0 j l)
        + ((∑ p : Fin 512, P Q K kappa (row b hb p) ⟨j.val, by omega⟩ * D (row b hb p) l : ℝ) : EReal)) :
    Holds ((⟨Rect.unit (s := S1x2048x256) ![0, 0, 128] ![1, W, 128] inb, w⟩ : View.Piece (Elt Ideal) S1x2048x256 .f32) :: L) (lift (kv Q K V D W W)) := by
  subst hW
  refine add (n := 256) (kv Q K V D (b + 512) b) (kv Q K V D (b + 512) (b + 512)) h v (b + 512) 128 hb (by norm_num) inb w _ hw (fun j l => ?_) (fun j l hn => ?_)
  · have hl : ¬ (128 + l.val < 128) := by omega
    simp only [kv, hl, dite_false]
    rw [U_step Q K D b hb]
    simp only [Nat.add_sub_cancel_left]
  · unfold kv
    by_cases hl : l.val < 128
    · rw [dif_pos hl, dif_pos hl]
    · rw [dif_neg hl, dif_neg hl, U_skip Q K D b hb j (by omega)]

theorem shared {L : List (View.Piece (Elt Ideal) S1x2048x128 .f32)} (b W : ℕ) (hW : W = b + 512) (hb : b + 512 ≤ 2048) (h : Holds L (lift (kr Q K V D b)))
    {κ : Kind} {sp : Space} (v : View sig κ sp S1x2048x128 .f32) (inb) (w : (⟨3, ![1, W, 128]⟩ : Shape).Idx → EReal)
    (hw : ∀ (j : Fin W) (l : Fin 128), w (ix3 0 j l)
      = v.readCov L (Rect.unit (s := S1x2048x128) ![0, 0, 0] ![1, W, 128] inb).toLoadRect (ix3 0 j l)
        + ((∑ p : Fin 512, DS Q K V D kappa (row b hb p) ⟨j.val, by omega⟩ * Q (row b hb p) ⟨128 + l.val, by omega⟩ : ℝ) : EReal)) :
    Holds ((⟨Rect.unit (s := S1x2048x128) ![0, 0, 0] ![1, W, 128] inb, w⟩ : View.Piece (Elt Ideal) S1x2048x128 .f32) :: L) (lift (kr Q K V D W)) := by
  subst hW
  refine add (n := 128) (kr Q K V D b) (kr Q K V D (b + 512)) h v (b + 512) 0 hb (by norm_num) inb w _ hw (fun j l => ?_) (fun j l hn => ?_)
  · unfold kr
    rw [Y_step Q K V D b hb]
    simp only [Nat.zero_add]
  · unfold kr
    rw [Y_skip Q K V D b hb j (by omega)]

end Steps

variable (m : (ℓ : Loc nD τ sig) → Buf (Elt Ideal) ℓ) (c : Dev nD) (t : Fin cfg0.N)
  (h0 : ∀ r l, iblk m c 0 t (ix3 0 r l) = ((X r l : ℝ) : EReal)) (h1 : ∀ r l, iblk m c 1 t (ix3 0 r l) = ((kn r l : ℝ) : EReal))
  (h2 : ∀ r l, iblk m c 2 t (ix3 0 r l) = ((V r l : ℝ) : EReal)) (h3 : ∀ r l, iblk m c 3 t (ix2 r l) = ((kp r l : ℝ) : EReal))
  (h4 : ∀ r l, iblk m c 4 t (ix2 r l) = ((C r l : ℝ) : EReal)) (h5 : ∀ r l, iblk m c 5 t (ix2 r l) = ((A r l : ℝ) : EReal))
  (h6 : ∀ r l, iblk m c 6 t (ix2 r l) = ((B r l : ℝ) : EReal)) (h7 : ∀ r l, iblk m c 7 t (ix2 r l) = ((D r l : ℝ) : EReal))

include h1 h3 in
theorem keys (j : Fin 2048) (l : Fin 256) : k0_pay4 (iblk m c 1 t) (iblk m c 3 t) (ix2 j l) = ((Kc kn kp j l : ℝ) : EReal) := by
  pointwise [k0_pay4]
  simp only [h1, h3]
  unfold Kc
  split_ifs <;> rfl

include h0 in
theorem n0 (p : Fin 512) (l : Fin 128) : View.ld (iblk m c 0 t) (Rect.unit ![0, 0, 0] ![1, 512, 128] inb_S1x2048x256_S1x512x128_0_0_0) (ix3 0 p l)
    = ((X (row 0 le0 p) ⟨l.val, by omega⟩ : ℝ) : EReal) := by
  refine (rows3 _ X h0 0 0 512 (by norm_num) (by norm_num) _ p l).trans ?_
  exact congrArg (fun i => ((X _ i : ℝ) : EReal)) (Fin.ext (Nat.zero_add _))

include h0 in
theorem x0 (p : Fin 512) (l : Fin 128) : View.ld (iblk m c 0 t) (Rect.unit ![0, 0, 128] ![1, 512, 128] inb_S1x2048x256_S1x512x128_0_0_128) (ix3 0 p l)
    = ((X (row 0 le0 p) ⟨128 + l.val, by omega⟩ : ℝ) : EReal) :=
  rows3 _ X h0 0 128 512 (by norm_num) (by norm_num) _ p l

include h4 in
theorem c0 (p : Fin 512) (l : Fin 128) : View.ld (iblk m c 4 t) (Rect.unit ![0, 0] ![512, 128] inb_S2048x128_S512x128_0_0) (ix2 p l)
    = ((C (row 0 le0 p) l : ℝ) : EReal) :=
  rows2 _ C h4 0 (by norm_num) _ p l

include h5 in
theorem a0 (p : Fin 512) (l : Fin 128) : View.ld (iblk m c 5 t) (Rect.unit ![0, 0] ![512, 128] inb_S2048x128_S512x128_0_0) (ix2 p l)
    = ((A (row 0 le0 p) l : ℝ) : EReal) :=
  rows2 _ A h5 0 (by norm_num) _ p l

include h6 in
theorem b0 (p : Fin 512) (l : Fin 128) : View.ld (iblk m c 6 t) (Rect.unit ![0, 0] ![512, 128] inb_S2048x128_S512x128_0_0) (ix2 p l)
    = ((B (row 0 le0 p) l : ℝ) : EReal) :=
  rows2 _ B h6 0 (by norm_num) _ p l

include h7 in
theorem d0 (p : Fin 512) (l : Fin 128) : View.ld (iblk m c 7 t) (Rect.unit ![0, 0] ![512, 128] inb_S2048x128_S512x128_0_0) (ix2 p l)
    = ((D (row 0 le0 p) l : ℝ) : EReal) :=
  rows2 _ D h7 0 (by norm_num) _ p l

include h2 in
theorem v0 (j : Fin 512) (l : Fin 128) : View.ld (iblk m c 2 t) (Rect.unit ![0, 0, 0] ![1, 512, 128] inb_S1x2048x128_S1x512x128_0_0_0) (ix3 0 j l)
    = ((V ⟨j.val, by omega⟩ l : ℝ) : EReal) := by
  refine (rows3 _ V h2 0 0 512 (by norm_num) (by norm_num) _ j l).trans ?_
  simp only [Nat.zero_add]

include h0 in
theorem n1 (p : Fin 512) (l : Fin 128) : View.ld (iblk m c 0 t) (Rect.unit ![0, 512, 0] ![1, 512, 128] inb_S1x2048x256_S1x512x128_0_512_0) (ix3 0 p l)
    = ((X (row 512 le1 p) ⟨l.val, by omega⟩ : ℝ) : EReal) := by
  refine (rows3 _ X h0 512 0 512 (by norm_num) (by norm_num) _ p l).trans ?_
  exact congrArg (fun i => ((X _ i : ℝ) : EReal)) (Fin.ext (Nat.zero_add _))

include h0 in
theorem x1 (p : Fin 512) (l : Fin 128) : View.ld (iblk m c 0 t) (Rect.unit ![0, 512, 128] ![1, 512, 128] inb_S1x2048x256_S1x512x128_0_512_128) (ix3 0 p l)
    = ((X (row 512 le1 p) ⟨128 + l.val, by omega⟩ : ℝ) : EReal) :=
  rows3 _ X h0 512 128 512 (by norm_num) (by norm_num) _ p l

include h4 in
theorem c1 (p : Fin 512) (l : Fin 128) : View.ld (iblk m c 4 t) (Rect.unit ![512, 0] ![512, 128] inb_S2048x128_S512x128_512_0) (ix2 p l)
    = ((C (row 512 le1 p) l : ℝ) : EReal) :=
  rows2 _ C h4 512 (by norm_num) _ p l

include h5 in
theorem a1 (p : Fin 512) (l : Fin 128) : View.ld (iblk m c 5 t) (Rect.unit ![512, 0] ![512, 128] inb_S2048x128_S512x128_512_0) (ix2 p l)
    = ((A (row 512 le1 p) l : ℝ) : EReal) :=
  rows2 _ A h5 512 (by norm_num) _ p l

include h6 in
theorem b1 (p : Fin 512) (l : Fin 128) : View.ld (iblk m c 6 t) (Rect.unit ![512, 0] ![512, 128] inb_S2048x128_S512x128_512_0) (ix2 p l)
    = ((B (row 512 le1 p) l : ℝ) : EReal) :=
  rows2 _ B h6 512 (by norm_num) _ p l

include h7 in
theorem d1 (p : Fin 512) (l : Fin 128) : View.ld (iblk m c 7 t) (Rect.unit ![512, 0] ![512, 128] inb_S2048x128_S512x128_512_0) (ix2 p l)
    = ((D (row 512 le1 p) l : ℝ) : EReal) :=
  rows2 _ D h7 512 (by norm_num) _ p l

include h2 in
theorem v1 (j : Fin 1024) (l : Fin 128) : View.ld (iblk m c 2 t) (Rect.unit ![0, 0, 0] ![1, 1024, 128] inb_S1x2048x128_S1x1024x128_0_0_0) (ix3 0 j l)
    = ((V ⟨j.val, by omega⟩ l : ℝ) : EReal) := by
  refine (rows3 _ V h2 0 0 1024 (by norm_num) (by norm_num) _ j l).trans ?_
  simp only [Nat.zero_add]

include h0 in
theorem n2 (p : Fin 512) (l : Fin 128) : View.ld (iblk m c 0 t) (Rect.unit ![0, 1024, 0] ![1, 512, 128] inb_S1x2048x256_S1x512x128_0_1024_0) (ix3 0 p l)
    = ((X (row 1024 le2 p) ⟨l.val, by omega⟩ : ℝ) : EReal) := by
  refine (rows3 _ X h0 1024 0 512 (by norm_num) (by norm_num) _ p l).trans ?_
  exact congrArg (fun i => ((X _ i : ℝ) : EReal)) (Fin.ext (Nat.zero_add _))

include h0 in
theorem x2 (p : Fin 512) (l : Fin 128) : View.ld (iblk m c 0 t) (Rect.unit ![0, 1024, 128] ![1, 512, 128] inb_S1x2048x256_S1x512x128_0_1024_128) (ix3 0 p l)
    = ((X (row 1024 le2 p) ⟨128 + l.val, by omega⟩ : ℝ) : EReal) :=
  rows3 _ X h0 1024 128 512 (by norm_num) (by norm_num) _ p l

include h4 in
theorem c2 (p : Fin 512) (l : Fin 128) : View.ld (iblk m c 4 t) (Rect.unit ![1024, 0] ![512, 128] inb_S2048x128_S512x128_1024_0) (ix2 p l)
    = ((C (row 1024 le2 p) l : ℝ) : EReal) :=
  rows2 _ C h4 1024 (by norm_num) _ p l

include h5 in
theorem a2 (p : Fin 512) (l : Fin 128) : View.ld (iblk m c 5 t) (Rect.unit ![1024, 0] ![512, 128] inb_S2048x128_S512x128_1024_0) (ix2 p l)
    = ((A (row 1024 le2 p) l : ℝ) : EReal) :=
  rows2 _ A h5 1024 (by norm_num) _ p l

include h6 in
theorem b2 (p : Fin 512) (l : Fin 128) : View.ld (iblk m c 6 t) (Rect.unit ![1024, 0] ![512, 128] inb_S2048x128_S512x128_1024_0) (ix2 p l)
    = ((B (row 1024 le2 p) l : ℝ) : EReal) :=
  rows2 _ B h6 1024 (by norm_num) _ p l

include h7 in
theorem d2 (p : Fin 512) (l : Fin 128) : View.ld (iblk m c 7 t) (Rect.unit ![1024, 0] ![512, 128] inb_S2048x128_S512x128_1024_0) (ix2 p l)
    = ((D (row 1024 le2 p) l : ℝ) : EReal) :=
  rows2 _ D h7 1024 (by norm_num) _ p l

include h2 in
theorem v2 (j : Fin 1536) (l : Fin 128) : View.ld (iblk m c 2 t) (Rect.unit ![0, 0, 0] ![1, 1536, 128] inb_S1x2048x128_S1x1536x128_0_0_0) (ix3 0 j l)
    = ((V ⟨j.val, by omega⟩ l : ℝ) : EReal) := by
  refine (rows3 _ V h2 0 0 1536 (by norm_num) (by norm_num) _ j l).trans ?_
  simp only [Nat.zero_add]

include h0 in
theorem n3 (p : Fin 512) (l : Fin 128) : View.ld (iblk m c 0 t) (Rect.unit ![0, 1536, 0] ![1, 512, 128] inb_S1x2048x256_S1x512x128_0_1536_0) (ix3 0 p l)
    = ((X (row 1536 le3 p) ⟨l.val, by omega⟩ : ℝ) : EReal) := by
  refine (rows3 _ X h0 1536 0 512 (by norm_num) (by norm_num) _ p l).trans ?_
  exact congrArg (fun i => ((X _ i : ℝ) : EReal)) (Fin.ext (Nat.zero_add _))

include h0 in
theorem x3 (p : Fin 512) (l : Fin 128) : View.ld (iblk m c 0 t) (Rect.unit ![0, 1536, 128] ![1, 512, 128] inb_S1x2048x256_S1x512x128_0_1536_128) (ix3 0 p l)
    = ((X (row 1536 le3 p) ⟨128 + l.val, by omega⟩ : ℝ) : EReal) :=
  rows3 _ X h0 1536 128 512 (by norm_num) (by norm_num) _ p l

include h4 in
theorem c3 (p : Fin 512) (l : Fin 128) : View.ld (iblk m c 4 t) (Rect.unit ![1536, 0] ![512, 128] inb_S2048x128_S512x128_1536_0) (ix2 p l)
    = ((C (row 1536 le3 p) l : ℝ) : EReal) :=
  rows2 _ C h4 1536 (by norm_num) _ p l

include h5 in
theorem a3 (p : Fin 512) (l : Fin 128) : View.ld (iblk m c 5 t) (Rect.unit ![1536, 0] ![512, 128] inb_S2048x128_S512x128_1536_0) (ix2 p l)
    = ((A (row 1536 le3 p) l : ℝ) : EReal) :=
  rows2 _ A h5 1536 (by norm_num) _ p l

include h6 in
theorem b3 (p : Fin 512) (l : Fin 128) : View.ld (iblk m c 6 t) (Rect.unit ![1536, 0] ![512, 128] inb_S2048x128_S512x128_1536_0) (ix2 p l)
    = ((B (row 1536 le3 p) l : ℝ) : EReal) :=
  rows2 _ B h6 1536 (by norm_num) _ p l

include h7 in
theorem d3 (p : Fin 512) (l : Fin 128) : View.ld (iblk m c 7 t) (Rect.unit ![1536, 0] ![512, 128] inb_S2048x128_S512x128_1536_0) (ix2 p l)
    = ((D (row 1536 le3 p) l : ℝ) : EReal) :=
  rows2 _ D h7 1536 (by norm_num) _ p l

theorem not_box (a o : ℕ) (inb) (i : Fin 1) (r : Fin 2048) (l : Fin 256) (h : ix3 i r l ∉ (Rect.unit (s := S1x2048x256) ![0, a, o] ![1, 512, 128] inb).set) :
    ¬(a ≤ r.val ∧ r.val < a + 512 ∧ o ≤ l.val ∧ l.val < o + 128) := by
  rintro ⟨h1, h2, h3, h4⟩
  refine h (Rect.mem_set_unit.2 fun x => ?_)
  fin_cases x
  · exact ⟨Nat.zero_le _, by simpa using i.isLt⟩
  · exact ⟨h1, h2⟩
  · exact ⟨h3, h4⟩

theorem qbox (a o : ℕ) (ha : a + 512 ≤ 2048) (ho : o + 128 ≤ 256) (inb) (j : Fin 512) (l : Fin 128) :
    (Rect.unit (s := S1x2048x256) ![0, a, o] ![1, 512, 128] inb).emb (ix3 0 j l) = ix3 0 (row a ha j) ⟨o + l.val, by omega⟩ := by
  funext i
  apply Fin.ext
  rw [ValueKit.rect_emb_unit_val]
  fin_cases i <;> simp

theorem dq_left (Q K : Fin 2048 → Fin 256 → ℝ) (V D C A B : Fin 2048 → Fin 128 → ℝ) (r : Fin 2048) (l : Fin 128) :
    dq Q K V D C A B r ⟨0 + l.val, by omega⟩ = Z Q K V D kappa r ⟨l.val, by omega⟩ := by
  simp only [dq, Nat.zero_add, l.isLt, dite_true]

theorem dq_right (Q K : Fin 2048 → Fin 256 → ℝ) (V D C A B : Fin 2048 → Fin 128 → ℝ) (r : Fin 2048) (l : Fin 128) :
    dq Q K V D C A B r ⟨128 + l.val, by omega⟩ = turn C A B (Z Q K V D kappa) r l := by
  have h : ¬ (128 + l.val < 128) := by omega
  simp only [dq, h, dite_false, Nat.add_sub_cancel_left]

end AttnOut
-- ==== Proof.AttnReal.lean ====
module

public import proofs.«01_k».proof.Proof.AttnOut
public import proofs.«01_k».proof.Proof.Gen.AttnRefIdeal.Read
public import Idealize.ShloMosaic.Lib.Pipeline.ValueKit.Point
public import Idealize.ShloMosaic.Lib.WordCmp

/-!
The real arrays of one head of the attention reference.
-/

@[expose] public section

set_option maxRecDepth 16384
set_option maxHeartbeats 1000000

noncomputable section

namespace AttnRef

open Idealize.ShloMosaic Idealize.ShloMosaic.TcCoe Finite AttnMath AttnPay AttnOut Cert.AttnRefIdeal Cert.AttnRefIdeal.Gen Cert.AttnRefIdeal.Read

variable (q : Fin 2048 → Fin 8 → Fin 192 → ℝ) (kvs : Fin 2048 → Fin 8 → Fin 256 → ℝ) (kp : Fin 2048 → Fin 64 → ℝ) (co si : Fin 2048 → Fin 32 → ℝ)
  (dt : Fin 2048 → Fin 1024 → ℝ) (h : Fin 8)

/-- The queries of a head, with 64 columns of zeros. -/
def X (r : Fin 2048) (l : Fin 256) : ℝ := if hl : l.val < 192 then q r h ⟨l.val, hl⟩ else 0
/-- The cosines, twice, then zeros. -/
def C (r : Fin 2048) (l : Fin 128) : ℝ := if h1 : l.val < 32 then co r ⟨l.val, h1⟩ else if h2 : l.val < 64 then co r ⟨l.val - 32, by omega⟩ else 0
/-- The sines' negatives, then zeros. -/
def A (r : Fin 2048) (l : Fin 128) : ℝ := if h1 : l.val < 32 then -si r ⟨l.val, h1⟩ else 0
/-- The sines, after 32 zeros. -/
def B (r : Fin 2048) (l : Fin 128) : ℝ := if l.val < 32 then 0 else if h2 : l.val < 64 then si r ⟨l.val - 32, by omega⟩ else 0
/-- The head's keys. -/
def kn (r : Fin 2048) (l : Fin 128) : ℝ := kvs r h ⟨l.val, by omega⟩
/-- The head's values. -/
def V (r : Fin 2048) (l : Fin 128) : ℝ := kvs r h ⟨128 + l.val, by omega⟩
/-- The shared keys, with 64 columns of zeros. -/
def Kp (r : Fin 2048) (l : Fin 128) : ℝ := if hl : l.val < 64 then kp r ⟨l.val, hl⟩ else 0
/-- The head's gradient. -/
def D (r : Fin 2048) (l : Fin 128) : ℝ := dt r ⟨h.val * 128 + l.val, by omega⟩
/-- The turned queries. -/
abbrev Q : Fin 2048 → Fin 256 → ℝ := Qr (X q h) (C co) (A si) (B si)
/-- The keys. -/
abbrev K : Fin 2048 → Fin 256 → ℝ := Kc (kn kvs h) (Kp kp)

theorem Q_lo (r : Fin 2048) (l : Fin 128) : Q q co si h r ⟨l.val, by omega⟩ = q r h ⟨l.val, by omega⟩ := by
  simp only [Q, Qr, l.isLt, dite_true, X, show l.val < 192 by omega]

theorem Q_hi (r : Fin 2048) (l : Fin 64) : Q q co si h r ⟨128 + l.val, by omega⟩
    = if hl : l.val < 32 then q r h ⟨128 + l.val, by omega⟩ * co r ⟨l.val, hl⟩ - q r h ⟨160 + l.val, by omega⟩ * si r ⟨l.val, hl⟩
      else q r h ⟨96 + l.val, by omega⟩ * si r ⟨l.val - 32, by omega⟩ + q r h ⟨128 + l.val, by omega⟩ * co r ⟨l.val - 32, by omega⟩ := by
  have e : 128 + l.val - 128 = l.val := by omega
  simp only [Q, Qr, show ¬ 128 + l.val < 128 by omega, dite_false, e]
  by_cases hl : l.val < 32
  · have e1 : (l.val + 128 - 96) % 128 = 32 + l.val := by omega
    have e2 : 128 + (32 + l.val) = 160 + l.val := by omega
    simp only [e1, e2, X, C, A, B, hl, dite_true, if_true, show 128 + l.val < 192 by omega, show 160 + l.val < 192 by omega]
    ring
  · have e1 : (l.val + 128 - 32) % 128 = l.val - 32 := by omega
    have e2 : 128 + (l.val - 32) = 96 + l.val := by omega
    simp only [e1, e2, X, C, A, B, hl, dite_true, dite_false, if_false, l.isLt, show 128 + l.val < 192 by omega, show 96 + l.val < 192 by omega]
    ring

theorem Q_zero (r : Fin 2048) (l : Fin 256) (hl : 192 ≤ l.val) : Q q co si h r l = 0 := by
  simp only [Q, Qr, show ¬ l.val < 128 by omega, dite_false, C, A, B, show ¬ l.val - 128 < 32 by omega, show ¬ l.val - 128 < 64 by omega, if_false]
  ring

theorem K_lo (r : Fin 2048) (l : Fin 128) : K kvs kp h r ⟨l.val, by omega⟩ = kvs r h ⟨l.val, by omega⟩ := by
  simp only [K, Kc, l.isLt, dite_true, kn]

theorem K_hi (r : Fin 2048) (l : Fin 64) : K kvs kp h r ⟨128 + l.val, by omega⟩ = kp r l := by
  simp only [K, Kc, show ¬ 128 + l.val < 128 by omega, dite_false, Kp, Nat.add_sub_cancel_left, l.isLt, dite_true]

theorem split256 (f : Fin 256 → ℝ) (hf : ∀ l : Fin 256, 192 ≤ l.val → f l = 0) :
    ∑ l, f l = (∑ l : Fin 128, f ⟨l.val, by omega⟩) + ∑ l : Fin 64, f ⟨128 + l.val, by omega⟩ := by
  rw [show (∑ l, f l) = ∑ l : Fin (128 + (64 + 64)), f l from rfl, Fin.sum_univ_add, Fin.sum_univ_add]
  rw [show (∑ l : Fin 64, f (Fin.natAdd 128 (Fin.natAdd 64 l))) = 0 from
    Finset.sum_eq_zero fun l _ => hf _ (by show 192 ≤ 128 + (64 + l.val); omega), add_zero]
  rfl

theorem le64 (l : Fin 64) : 128 + l.val < 256 := by omega

theorem turn_eq (f : Fin 2048 → Fin 256 → ℝ) (r : Fin 2048) (l : Fin 128) : turn (C co) (A si) (B si) f r l
    = if h1 : l.val < 32 then f r ⟨160 + l.val, by omega⟩ * si r ⟨l.val, h1⟩ + f r ⟨128 + l.val, by omega⟩ * co r ⟨l.val, h1⟩
      else if h2 : l.val < 64 then f r ⟨128 + l.val, by omega⟩ * co r ⟨l.val - 32, by omega⟩ + -f r ⟨96 + l.val, by omega⟩ * si r ⟨l.val - 32, by omega⟩
      else 0 := by
  by_cases h1 : l.val < 32
  · have e1 : (l.val + 128 - 32) % 128 = 96 + l.val := by omega
    have e2 : (l.val + 128 - 96) % 128 = 32 + l.val := by omega
    have e3 : 128 + (32 + l.val) = 160 + l.val := by omega
    simp only [turn, e1, e2, e3, C, A, B, h1, dite_true, show ¬ 96 + l.val < 32 by omega, show ¬ 32 + l.val < 32 by omega, if_false, dite_false,
      show 32 + l.val < 64 by omega, Nat.add_sub_cancel_left]
    ring
  · by_cases h2 : l.val < 64
    · have e1 : (l.val + 128 - 32) % 128 = l.val - 32 := by omega
      have e2 : (l.val + 128 - 96) % 128 = 32 + l.val := by omega
      have e3 : 128 + (l.val - 32) = 96 + l.val := by omega
      simp only [turn, e1, e2, e3, C, A, B, h1, h2, dite_true, show l.val - 32 < 32 by omega, show ¬ 32 + l.val < 32 by omega, if_false, dite_false,
        show ¬ 32 + l.val < 64 by omega]
      ring
    · have e1 : (l.val + 128 - 32) % 128 = l.val - 32 := by omega
      have e4 : ¬ l.val - 32 < 32 := by omega
      have e5 : ∀ n : ℕ, (if n < 32 then (0 : ℝ) else 0) = 0 := fun n => ite_self _
      have e2 : (l.val + 128 - 96) % 128 < 32 ∨ ¬ (l.val + 128 - 96) % 128 < 64 := by omega
      rcases e2 with e2 | e2
      · simp only [turn, e1, C, A, B, h1, h2, e4, e2, if_true, dite_false]
        ring
      · simp only [turn, e1, C, A, B, h1, h2, e4, e2, show ¬ (l.val + 128 - 96) % 128 < 32 by omega, if_false, dite_false]
        ring

end AttnRef
-- ==== Proof.AttnTab.lean ====
module

public import proofs.«01_k».proof.Proof.AttnReal

/-!
The reference's cosines and sines are reals.
-/

@[expose] public section

set_option maxRecDepth 16384
set_option maxHeartbeats 1000000

noncomputable section

namespace AttnRef

open Idealize.ShloMosaic Idealize.ShloMosaic.TcCoe Finite AttnMath AttnPay AttnOut Cert.AttnRefIdeal Cert.AttnRefIdeal.Gen Cert.AttnRefIdeal.Read

variable (x3 : (⟨S2048, .i32⟩ : BufTy).Contents (Elt Ideal))

theorem const_10000 : IsR (Ideal.ofBits FTy.f32 1176256512#32) := by
  refine ⟨_, (EReal.coe_toReal ?_ ?_).symm⟩ <;> simp [Ideal.ofBits, Ideal.ieee] <;>
    rw [← EReal.coe_mul] <;> first | exact EReal.coe_ne_top _ | exact EReal.coe_ne_bot _

theorem const_2 : IsR (Ideal.ofBits FTy.f32 1073741824#32) := by
  refine ⟨2, ?_⟩
  simp [Ideal.ofBits, Ideal.ieee]
  rw [← EReal.coe_mul]
  norm_num

theorem const_64 : Ideal.ofBits FTy.f32 1115684864#32 = ((64 : ℝ) : EReal) := by
  simp [Ideal.ofBits, Ideal.ieee]
  rw [← EReal.coe_mul]
  norm_num

theorem v21 (r : Fin 2048) (k : Fin 32) : IsR (val_main_v21 (F := Ideal) x3 (ix2 r k)) := by
  pointwise [val_main_v21, val_main_v20, val_main_v19, val_main_v18, val_main_v17, val_main_v16, val_main_v15, val_main_v14, val_main_v13, val_main_v12, val_main_v11, val_main_v10, val_main_v9, val_main_v8, val_main_v7, val_main_v6,
    val_main_cst, val_main_cst_0, val_main_cst_1, val_main_cst_2]
  obtain ⟨a, ea⟩ := const_10000
  obtain ⟨b, eb⟩ := const_2
  rw [ea, eb, const_64, Ideal.div_coe (by norm_num)]
  refine IsR.mul ⟨_, rfl⟩ ?_
  obtain ⟨e, he⟩ : IsR (-((b : EReal) * FloatOps.sitofp (F := Ideal) FTy.f32 (BitVec.ofNat 32 k.val)) * ((1 / 64 : ℝ) : EReal)) :=
    IsR.mul (IsR.neg (IsR.mul (IsR.coe _) ⟨_, rfl⟩)) (IsR.coe _)
  refine ⟨Real.rpow a e, ?_⟩
  exact (congrArg (Ideal.pow (a : EReal)) he).trans (Ideal.pow_coe_coe a e)

theorem v22 (r : Fin 2048) (k : Fin 32) : IsR (val_main_v22 (F := Ideal) x3 (ix2 r k)) := by
  obtain ⟨a, e⟩ := v21 x3 r k
  have : val_main_v22 (F := Ideal) x3 (ix2 r k) = Ideal.cos (val_main_v21 (F := Ideal) x3 (ix2 r k)) := rfl
  rw [this, e, Ideal.cos_coe]
  exact IsR.coe _

theorem v23 (r : Fin 2048) (k : Fin 32) : IsR (val_main_v23 (F := Ideal) x3 (ix2 r k)) := by
  obtain ⟨a, e⟩ := v21 x3 r k
  have : val_main_v23 (F := Ideal) x3 (ix2 r k) = Ideal.sin (val_main_v21 (F := Ideal) x3 (ix2 r k)) := rfl
  rw [this, e, Ideal.sin_coe]
  exact IsR.coe _

end AttnRef
-- ==== Proof.AttnArr.lean ====
module

public import proofs.«01_k».proof.Proof.AttnTab
public import Idealize.ShloMosaic.Lib.Claim

/-!
The blocks that the launch of the attention gradient reads, as the arguments' entries.
-/

@[expose] public section

set_option maxRecDepth 16384
set_option maxHeartbeats 1000000

noncomputable section

namespace AttnArr

open Idealize.ShloMosaic Idealize.ShloMosaic.TcCoe Idealize.SL.Sem Finite
open Cert.AttnIdeal Cert.AttnIdeal.Gen

variable (m : (ℓ : Loc nD τ sig) → Buf (Elt Ideal) ℓ) (c : Dev nD) (t : Fin cfg0.N)

/-- The arguments on a device. -/
abbrev A0 : (⟨3, ![2048, 8, 192]⟩ : Shape).Idx → EReal := m ((c : Thread nD τ).loc main_arg0)
abbrev A1 : (⟨3, ![2048, 8, 256]⟩ : Shape).Idx → EReal := m ((c : Thread nD τ).loc main_arg1)
abbrev A2 : (⟨2, ![2048, 64]⟩ : Shape).Idx → EReal := m ((c : Thread nD τ).loc main_arg2)
abbrev A3 : (⟨1, ![2048]⟩ : Shape).Idx → BitVec 32 := m ((c : Thread nD τ).loc main_arg3)
abbrev A4 : (⟨2, ![2048, 1024]⟩ : Shape).Idx → EReal := m ((c : Thread nD τ).loc main_arg4)

/-- What the padding is filled with. -/
theorem zero_pad : (FloatOps.sitofp (F := Ideal) FTy.f32 (0#32 : BitVec 32) : EReal) = 0 := by
  show (((0#32 : BitVec 32).toInt : ℝ) : EReal) = 0
  simp

/-- The head of a step. -/
def hd : Fin 8 := ⟨t.val, lt_of_lt_of_eq t.isLt N_0⟩

theorem idx0 : ∀ t : Fin cfg0.N, win0_0.index t = ![t.val, 0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 1] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, t.val] := (by decide +kernel : ∀ t : Fin grid0.N, _)
theorem idx8 : ∀ t : Fin cfg0.N, win0_8.index t = ![t.val, 0, 0] := (by decide +kernel : ∀ t : Fin grid0.N, _)
theorem idx9 : ∀ t : Fin cfg0.N, win0_9.index t = ![t.val, 0, 0] := (by decide +kernel : ∀ t : Fin grid0.N, _)
theorem idx10 : ∀ t : Fin cfg0.N, win0_10.index t = ![t.val, 0, 0] := (by decide +kernel : ∀ t : Fin grid0.N, _)

theorem emb0 (r : Fin 2048) (l : Fin 256) : (win0_0.blk t).view.emb (ix3 0 r l) = ix3 (hd t) r l := by blk_ext [idx0 t, hd]
theorem emb1 (r : Fin 2048) (l : Fin 128) : (win0_1.blk t).view.emb (ix3 0 r l) = ix3 (hd t) r ⟨l.val, by omega⟩ := by blk_ext [idx1 t, hd]
theorem emb2 (r : Fin 2048) (l : Fin 128) : (win0_2.blk t).view.emb (ix3 0 r l) = ix3 (hd t) r ⟨128 + l.val, by omega⟩ := by blk_ext [idx2 t, hd]
theorem emb3 (r : Fin 2048) (l : Fin 128) : (win0_3.blk t).view.emb (ix2 r l) = ix2 r l := by blk_ext [idx3 t]
theorem emb4 (r : Fin 2048) (l : Fin 128) : (win0_4.blk t).view.emb (ix2 r l) = ix2 r l := by blk_ext [idx4 t]
theorem emb5 (r : Fin 2048) (l : Fin 128) : (win0_5.blk t).view.emb (ix2 r l) = ix2 r l := by blk_ext [idx5 t]
theorem emb6 (r : Fin 2048) (l : Fin 128) : (win0_6.blk t).view.emb (ix2 r l) = ix2 r l := by blk_ext [idx6 t]
theorem emb7 (r : Fin 2048) (l : Fin 128) : (win0_7.blk t).view.emb (ix2 r l) = ix2 r ⟨(hd t).val * 128 + l.val, by have := (hd t).isLt; omega⟩ := by blk_ext [idx7 t, hd]
theorem emb8 (r : Fin 2048) (l : Fin 256) : (win0_8.blk t).view.emb (ix3 0 r l) = ix3 (hd t) r l := by blk_ext [idx8 t, hd]
theorem emb9 (r : Fin 2048) (l : Fin 256) : (win0_9.blk t).view.emb (ix3 0 r l) = ix3 (hd t) r l := by blk_ext [idx9 t, hd]
theorem emb10 (r : Fin 2048) (l : Fin 128) : (win0_10.blk t).view.emb (ix3 0 r l) = ix3 (hd t) r l := by blk_ext [idx10 t, hd]

theorem V26 (h : Fin 8) (r : Fin 2048) (l : Fin 256) : V m c main_v26 (ix3 h r l) = A1 m c (ix3 r h l) := by
  simp only [V, hostOps0, hostOps0_1, hostOps0_2, hostOps0_3, hostOps0_4, List.flatten_cons, List.flatten_nil, List.append_nil, List.cons_append, List.nil_append]
  entry_read
  pointwise

theorem V24 (h : Fin 8) (r : Fin 2048) (l : Fin 256) : V m c main_v24 (ix3 h r l) = if hl : l.val < 192 then A0 m c (ix3 r h ⟨l.val, hl⟩) else 0 := by
  simp only [V, hostOps0, hostOps0_1, hostOps0_2, hostOps0_3, hostOps0_4, List.flatten_cons, List.flatten_nil, List.append_nil, List.cons_append, List.nil_append]
  entry_read
  show (pad S8x2048x256 ![0, 0, 0] ![0, 0, 64] ![0, 0, 0] (transpose S8x2048x192 [1, 0, 2] (A0 m c) transposes_S2048x8x192_S8x2048x192_1_0_2)
    (sitofp (F := Ideal) FTy.f32 (constantI S_ 32 0#32)) pads_S8x2048x192_S8x2048x256_000_000_0640 h_S_) (ix3 h r l) = _
  pointwise
  simp only [zero_pad]

theorem V28 (r : Fin 2048) (l : Fin 128) : V m c main_v28 (ix2 r l) = if hl : l.val < 64 then A2 m c (ix2 r ⟨l.val, hl⟩) else 0 := by
  simp only [V, hostOps0, hostOps0_1, hostOps0_2, hostOps0_3, hostOps0_4, List.flatten_cons, List.flatten_nil, List.append_nil, List.cons_append, List.nil_append]
  entry_read
  show (pad S2048x128 ![0, 0] ![0, 64] ![0, 0] (A2 m c) (sitofp (F := Ideal) FTy.f32 (constantI S_ 32 0#32)) pads_S2048x64_S2048x128_000_0640 h_S_) (ix2 r l) = _
  pointwise
  simp only [zero_pad]

/-- Four blocks of 32 columns, side by side. -/
theorem cat4 (a b d e : (⟨S2048x32, .f32⟩ : BufTy).Contents (Elt Ideal)) (r : Fin 2048) (l : Fin 128) : (concatenate S2048x128 1 [⟨S2048x32, (a : (⟨S2048x32, .f32⟩ : BufTy).Contents (Elt Ideal))⟩, ⟨S2048x32, (b : (⟨S2048x32, .f32⟩ : BufTy).Contents (Elt Ideal))⟩, ⟨S2048x32, (d : (⟨S2048x32, .f32⟩ : BufTy).Contents (Elt Ideal))⟩, ⟨S2048x32, (e : (⟨S2048x32, .f32⟩ : BufTy).Contents (Elt Ideal))⟩] concatenates_S2048x32_S2048x32_S2048x32_S2048x32_S2048x128_d1 : (⟨S2048x128, .f32⟩ : BufTy).Contents (Elt Ideal)) (ix2 r l)
    = if h1 : l.val < 32 then a (ix2 r ⟨l.val, h1⟩) else if h2 : l.val - 32 < 32 then b (ix2 r ⟨l.val - 32, h2⟩)
      else if h3 : l.val - 32 - 32 < 32 then d (ix2 r ⟨l.val - 32 - 32, h3⟩) else e (ix2 r ⟨l.val - 32 - 32 - 32, by omega⟩) := by
  pointwise

/-- 32 columns of zeros. -/
abbrev zz : (⟨S2048x32, .f32⟩ : BufTy).Contents (Elt Ideal) := broadcastInDim S2048x32 ![] bcast_S_S2048x32 (constant (F := Ideal) S_ .f32 0x00000000#32)

theorem zz_apply (i : S2048x32.Idx) : zz i = (0 : EReal) := by
  show Ideal.ofBits .f32 0#32 = 0
  simp [Ideal.ofBits, Ideal.ieee]

end AttnArr
-- ==== Proof.AttnCat.lean ====
module

public import proofs.«01_k».proof.Proof.AttnArr

/-!
The three tables of the rotation that the launch of the attention gradient reads.
-/

@[expose] public section

set_option maxRecDepth 16384
set_option maxHeartbeats 1000000

noncomputable section

namespace AttnArr

open Idealize.ShloMosaic Idealize.ShloMosaic.TcCoe Idealize.SL.Sem Finite
open Cert.AttnIdeal Cert.AttnIdeal.Gen

variable (m : (ℓ : Loc nD τ sig) → Buf (Elt Ideal) ℓ) (c : Dev nD) (t : Fin cfg0.N)

/-- The host's operations before the launch. -/
abbrev ops : List (HloOp τ sig (Elt Ideal)) := [hostOps0, hostOps0_1, hostOps0_2, hostOps0_3, hostOps0_4].flatten

/-- The contents after the first operations. -/
def W (n : Nat) : Valuation τ sig (Elt Ideal) := StableHlo.after (ops.take n) (fun b => m (c, b))

theorem V_cut (n : Nat) (b : Ref sig .tc) : V m c b = StableHlo.after (ops.drop n) (W m c n) b := by
  rw [W, ← StableHlo.after_append, List.take_append_drop]

theorem W24_16 : W m c 24 main_v16 = Cert.AttnRefIdeal.Read.val_main_v22 (F := Ideal) (A3 m c) := by
  simp only [W, ops, hostOps0, List.flatten_cons, List.flatten_nil, List.append_nil, List.cons_append, List.nil_append, List.take_succ_cons, List.take_zero]
  entry_read
  rfl

theorem W24_18 : W m c 24 main_v18 = zz := by
  simp only [W, ops, hostOps0, List.flatten_cons, List.flatten_nil, List.append_nil, List.cons_append, List.nil_append, List.take_succ_cons, List.take_zero]
  entry_read
  rfl

theorem V19 : V m c main_v19 = (concatenate S2048x128 1 [⟨S2048x32, (Cert.AttnRefIdeal.Read.val_main_v22 (F := Ideal) (A3 m c) : (⟨S2048x32, .f32⟩ : BufTy).Contents (Elt Ideal))⟩, ⟨S2048x32, (Cert.AttnRefIdeal.Read.val_main_v22 (F := Ideal) (A3 m c) : (⟨S2048x32, .f32⟩ : BufTy).Contents (Elt Ideal))⟩, ⟨S2048x32, (zz : (⟨S2048x32, .f32⟩ : BufTy).Contents (Elt Ideal))⟩, ⟨S2048x32, (zz : (⟨S2048x32, .f32⟩ : BufTy).Contents (Elt Ideal))⟩] concatenates_S2048x32_S2048x32_S2048x32_S2048x32_S2048x128_d1 : (⟨S2048x128, .f32⟩ : BufTy).Contents (Elt Ideal)) := by
  have e : W m c 25 = StableHlo.after ((ops.drop 24).take 1) (W m c 24) := by
    rw [W, W, ← StableHlo.after_append]; rfl
  rw [V_cut m c 25, e]
  have e2 : ∀ w : Valuation τ sig (Elt Ideal), StableHlo.after (ops.drop 25) w main_v19 = w main_v19 := fun w => by
    simp only [ops, hostOps0, hostOps0_1, hostOps0_2, hostOps0_3, hostOps0_4, List.flatten_cons, List.flatten_nil, List.append_nil, List.cons_append, List.nil_append, List.drop_succ_cons, List.drop_zero]
    entry_read
    rfl
  rw [e2, ← W24_16, ← W24_18]
  generalize W m c 24 = w
  simp only [ops, hostOps0, List.flatten_cons, List.flatten_nil, List.append_nil, List.cons_append, List.nil_append, List.drop_succ_cons, List.drop_zero, List.take_succ_cons, List.take_zero, StableHlo.after_cons, StableHlo.after_nil]
  rw [StableHlo.nary4_result]
  rfl

theorem W26_18 : W m c 26 main_v18 = zz := by
  simp only [W, ops, hostOps0, List.flatten_cons, List.flatten_nil, List.append_nil, List.cons_append, List.nil_append, List.take_succ_cons, List.take_zero]
  entry_read
  rfl

theorem W26_20 : W m c 26 main_v20 = Host.negf (F := Ideal) (φ := .f32) (Cert.AttnRefIdeal.Read.val_main_v23 (F := Ideal) (A3 m c) : (⟨S2048x32, .f32⟩ : BufTy).Contents (Elt Ideal)) := by
  simp only [W, ops, hostOps0, List.flatten_cons, List.flatten_nil, List.append_nil, List.cons_append, List.nil_append, List.take_succ_cons, List.take_zero]
  entry_read
  rfl

theorem V21 : V m c main_v21 = (concatenate S2048x128 1 [⟨S2048x32, (Host.negf (F := Ideal) (φ := .f32) (Cert.AttnRefIdeal.Read.val_main_v23 (F := Ideal) (A3 m c) : (⟨S2048x32, .f32⟩ : BufTy).Contents (Elt Ideal)) : (⟨S2048x32, .f32⟩ : BufTy).Contents (Elt Ideal))⟩, ⟨S2048x32, (zz : (⟨S2048x32, .f32⟩ : BufTy).Contents (Elt Ideal))⟩, ⟨S2048x32, (zz : (⟨S2048x32, .f32⟩ : BufTy).Contents (Elt Ideal))⟩, ⟨S2048x32, (zz : (⟨S2048x32, .f32⟩ : BufTy).Contents (Elt Ideal))⟩] concatenates_S2048x32_S2048x32_S2048x32_S2048x32_S2048x128_d1 : (⟨S2048x128, .f32⟩ : BufTy).Contents (Elt Ideal)) := by
  have e : W m c 27 = StableHlo.after ((ops.drop 26).take 1) (W m c 26) := by
    rw [W, W, ← StableHlo.after_append]; rfl
  rw [V_cut m c 27, e]
  have e2 : ∀ w : Valuation τ sig (Elt Ideal), StableHlo.after (ops.drop 27) w main_v21 = w main_v21 := fun w => by
    simp only [ops, hostOps0, hostOps0_1, hostOps0_2, hostOps0_3, hostOps0_4, List.flatten_cons, List.flatten_nil, List.append_nil, List.cons_append, List.nil_append, List.drop_succ_cons, List.drop_zero]
    entry_read
    rfl
  rw [e2, ← W26_18, ← W26_20]
  generalize W m c 26 = w
  simp only [ops, hostOps0, List.flatten_cons, List.flatten_nil, List.append_nil, List.cons_append, List.nil_append, List.drop_succ_cons, List.drop_zero, List.take_succ_cons, List.take_zero, StableHlo.after_cons, StableHlo.after_nil]
  rw [StableHlo.nary4_result]
  rfl

theorem W27_17 : W m c 27 main_v17 = Cert.AttnRefIdeal.Read.val_main_v23 (F := Ideal) (A3 m c) := by
  simp only [W, ops, hostOps0, List.flatten_cons, List.flatten_nil, List.append_nil, List.cons_append, List.nil_append, List.take_succ_cons, List.take_zero]
  entry_read
  rfl

theorem W27_18 : W m c 27 main_v18 = zz := by
  simp only [W, ops, hostOps0, List.flatten_cons, List.flatten_nil, List.append_nil, List.cons_append, List.nil_append, List.take_succ_cons, List.take_zero]
  entry_read
  rfl

theorem V22 : V m c main_v22 = (concatenate S2048x128 1 [⟨S2048x32, (zz : (⟨S2048x32, .f32⟩ : BufTy).Contents (Elt Ideal))⟩, ⟨S2048x32, (Cert.AttnRefIdeal.Read.val_main_v23 (F := Ideal) (A3 m c) : (⟨S2048x32, .f32⟩ : BufTy).Contents (Elt Ideal))⟩, ⟨S2048x32, (zz : (⟨S2048x32, .f32⟩ : BufTy).Contents (Elt Ideal))⟩, ⟨S2048x32, (zz : (⟨S2048x32, .f32⟩ : BufTy).Contents (Elt Ideal))⟩] concatenates_S2048x32_S2048x32_S2048x32_S2048x32_S2048x128_d1 : (⟨S2048x128, .f32⟩ : BufTy).Contents (Elt Ideal)) := by
  have e : W m c 28 = StableHlo.after ((ops.drop 27).take 1) (W m c 27) := by
    rw [W, W, ← StableHlo.after_append]; rfl
  rw [V_cut m c 28, e]
  have e2 : ∀ w : Valuation τ sig (Elt Ideal), StableHlo.after (ops.drop 28) w main_v22 = w main_v22 := fun w => by
    simp only [ops, hostOps0, hostOps0_1, hostOps0_2, hostOps0_3, hostOps0_4, List.flatten_cons, List.flatten_nil, List.append_nil, List.cons_append, List.nil_append, List.drop_succ_cons, List.drop_zero]
    entry_read
    rfl
  rw [e2, ← W27_17, ← W27_18]
  generalize W m c 27 = w
  simp only [ops, hostOps0, List.flatten_cons, List.flatten_nil, List.append_nil, List.cons_append, List.nil_append, List.drop_succ_cons, List.drop_zero, List.take_succ_cons, List.take_zero, StableHlo.after_cons, StableHlo.after_nil]
  rw [StableHlo.nary4_result]
  rfl

end AttnArr
-- ==== Proof.AttnScore.lean ====
module

public import proofs.«01_k».proof.Proof.AttnReal

/-!
The scores of the reference, masked, are the real ones.
-/

@[expose] public section

set_option maxRecDepth 16384
set_option maxHeartbeats 1000000

noncomputable section

namespace AttnRef

open Idealize.ShloMosaic Idealize.ShloMosaic.TcCoe Finite AttnMath AttnPay AttnOut Cert.AttnRefIdeal Cert.AttnRefIdeal.Gen Cert.AttnRefIdeal.Read

variable (q : Fin 2048 → Fin 8 → Fin 192 → ℝ) (kvs : Fin 2048 → Fin 8 → Fin 256 → ℝ) (kp : Fin 2048 → Fin 64 → ℝ) (co si : Fin 2048 → Fin 32 → ℝ)
  (dt : Fin 2048 → Fin 1024 → ℝ) (h : Fin 8)

variable (x0 : (⟨S2048x8x192, .f32⟩ : BufTy).Contents (Elt Ideal)) (x1 : (⟨S2048x8x256, .f32⟩ : BufTy).Contents (Elt Ideal))
  (x2 : (⟨S2048x64, .f32⟩ : BufTy).Contents (Elt Ideal)) (x3 : (⟨S2048, .i32⟩ : BufTy).Contents (Elt Ideal)) (x4 : (⟨S2048x1024, .f32⟩ : BufTy).Contents (Elt Ideal))
  (hq : ∀ r h l, x0 (ix3 r h l) = ((q r h l : ℝ) : EReal)) (hkv : ∀ r h l, x1 (ix3 r h l) = ((kvs r h l : ℝ) : EReal))
  (hkp : ∀ r l, x2 (ix2 r l) = ((kp r l : ℝ) : EReal)) (hdo : ∀ r l, x4 (ix2 r l) = ((dt r l : ℝ) : EReal))
  (hco : ∀ r k, val_main_v22 (F := Ideal) x3 (ix2 r k) = ((co r k : ℝ) : EReal)) (hsi : ∀ r k, val_main_v23 (F := Ideal) x3 (ix2 r k) = ((si r k : ℝ) : EReal))

include hq hco hsi in
theorem v38 (r : Fin 2048) (l : Fin 64) : val_main_v38 (F := Ideal) x0 x3 (ix3 r h l) = ((Q q co si h r ⟨128 + l.val, by omega⟩ : ℝ) : EReal) := by
  rw [Q_hi]
  pointwise [val_main_v38, val_main_v37, val_main_v36, val_main_v35, val_main_v34, val_main_v33, val_main_v32, val_main_v31, val_main_v30, val_main_v29,
    val_main_v28, val_main_v27, val_main_v26, val_main_v25, val_main_v24, val_main_v3]
  by_cases hl : l.val < 32
  · rw [dif_pos hl, dif_pos hl]
    refine (congrArg₂ (· - ·) (congrArg₂ (· * ·) (hq _ _ _) (hco _ _)) (congrArg₂ (· * ·) (hq _ _ _) (hsi _ _))).trans ?_
    have e : 128 + (32 + l.val) = 160 + l.val := by omega
    simp only [e]
    norm_cast
  · rw [dif_neg hl, dif_neg hl]
    refine (congrArg₂ (· + ·) (congrArg₂ (· * ·) (hq _ _ _) (hsi _ _)) (congrArg₂ (· * ·) (hq _ _ _) (hco _ _))).trans ?_
    have e : 128 + (l.val - 32) = 96 + l.val := by omega
    have e' : 128 + (32 + (l.val - 32)) = 128 + l.val := by omega
    simp only [e, e']
    norm_cast

include hq hco hsi hkv hkp in
theorem v43 (r j : Fin 2048) : val_main_v43 (F := Ideal) x0 x1 x2 x3 (ix3 h r j) = ((T (Q q co si h) (K kvs kp h) kappa r j : ℝ) : EReal) := by
  pointwise [val_main_v43, val_main_v42, val_main_v41, val_main_v40, val_main_v39, val_main_cst_3, val_main_v1, val_main_v0, val_main_v2, val_main_v4]
  have e1 : (∑ x : Fin 128, ((q r h ⟨x.val, by omega⟩ : ℝ) : EReal) * ((kvs j h ⟨x.val, by omega⟩ : ℝ) : EReal))
      = ((∑ x : Fin 128, Q q co si h r ⟨x.val, by omega⟩ * K kvs kp h j ⟨x.val, by omega⟩ : ℝ) : EReal) := by
    rw [coe_sum]
    refine Finset.sum_congr rfl fun x _ => ?_
    rw [Q_lo, K_lo, EReal.coe_mul]
  have e2 : (∑ x : Fin 64, ((Q q co si h r ⟨128 + x.val, by omega⟩ : ℝ) : EReal) * ((kp j x : ℝ) : EReal))
      = ((∑ x : Fin 64, Q q co si h r ⟨128 + x.val, by omega⟩ * K kvs kp h j ⟨128 + x.val, by omega⟩ : ℝ) : EReal) := by
    rw [coe_sum]
    refine Finset.sum_congr rfl fun x _ => ?_
    rw [K_hi, EReal.coe_mul]
  have s1 : (∑ x : Fin 128, x0 (ix3 r h ⟨x.val, by omega⟩) * x1 (ix3 j h ⟨x.val, by omega⟩)) = _ :=
    (Finset.sum_congr rfl fun x _ => congrArg₂ (· * ·) (hq r h ⟨x.val, by omega⟩) (hkv j h ⟨x.val, by omega⟩)).trans e1
  have s2 : (∑ x : Fin 64, val_main_v38 (F := Ideal) x0 x3 (ix3 r h x) * x2 (ix2 j x)) = _ :=
    (Finset.sum_congr rfl fun x _ => congrArg₂ (· * ·) (v38 q co si h x0 x3 hq hco hsi r x) (hkp j x)).trans e2
  refine (congrArg₂ (· * ·) (congrArg₂ (· + ·) s1 s2) ofBits_kappa).trans ?_
  rw [AttnMath.T, split256 (fun l => Q q co si h r l * K kvs kp h j l) fun l hl => by rw [Q_zero q co si h r l hl, zero_mul]]
  norm_cast

include hq hco hsi hkv hkp in
theorem v51 (r j : Fin 2048) : val_main_v51_0 (F := Ideal) x0 x1 x2 x3 (ix3 h r j)
    = if j ≤ r then ((T (Q q co si h) (K kvs kp h) kappa r j : ℝ) : EReal) else ⊥ := by
  pointwise [val_main_v51_0, val_main_v51_1, val_main_call0_v2, val_main_call0_v0, val_main_cst_4, val_main_v50, val_main_v49, val_main_v48, val_main_v47, val_main_v46, val_main_v45, val_main_v44]
  have e := v43 q kvs kp co si h x0 x1 x2 x3 hq hkv hkp hco hsi r j
  rw [WordCmp.cmpi_sle_ofNat (by omega) (by omega), WordCmp.select_ofBool]
  simp only [decide_eq_true_eq, Fin.le_def]
  split
  · exact e
  · exact ofBits_bot

end AttnRef
-- ==== Proof.AttnSoft.lean ====
module

public import proofs.«01_k».proof.Proof.AttnReal

/-!
The weights of the reference and the gradient of its scores are the real ones.
-/

@[expose] public section

set_option maxRecDepth 16384
set_option maxHeartbeats 1000000

noncomputable section

namespace AttnRef

open Idealize.ShloMosaic Idealize.ShloMosaic.TcCoe Finite AttnMath AttnPay AttnOut Cert.AttnRefIdeal Cert.AttnRefIdeal.Gen Cert.AttnRefIdeal.Read

variable (q : Fin 2048 → Fin 8 → Fin 192 → ℝ) (kvs : Fin 2048 → Fin 8 → Fin 256 → ℝ) (kp : Fin 2048 → Fin 64 → ℝ) (co si : Fin 2048 → Fin 32 → ℝ)
  (dt : Fin 2048 → Fin 1024 → ℝ) (h : Fin 8)

variable (x0 : (⟨S2048x8x192, .f32⟩ : BufTy).Contents (Elt Ideal)) (x1 : (⟨S2048x8x256, .f32⟩ : BufTy).Contents (Elt Ideal))
  (x2 : (⟨S2048x64, .f32⟩ : BufTy).Contents (Elt Ideal)) (x3 : (⟨S2048, .i32⟩ : BufTy).Contents (Elt Ideal)) (x4 : (⟨S2048x1024, .f32⟩ : BufTy).Contents (Elt Ideal))
  (hq : ∀ r h l, x0 (ix3 r h l) = ((q r h l : ℝ) : EReal)) (hkv : ∀ r h l, x1 (ix3 r h l) = ((kvs r h l : ℝ) : EReal))
  (hkp : ∀ r l, x2 (ix2 r l) = ((kp r l : ℝ) : EReal)) (hdo : ∀ r l, x4 (ix2 r l) = ((dt r l : ℝ) : EReal))
  (hco : ∀ r k, val_main_v22 (F := Ideal) x3 (ix2 r k) = ((co r k : ℝ) : EReal)) (hsi : ∀ r k, val_main_v23 (F := Ideal) x3 (ix2 r k) = ((si r k : ℝ) : EReal))

theorem max_bot (y : EReal) : FloatOps.maximumf (F := Ideal) (φ := .f32) (Ideal.ofBits FTy.f32 4286578688#32) y = y := by
  rw [ofBits_bot]
  exact max_eq_right bot_le

theorem v52 (r : Fin 2048) : val_main_v52 (F := Ideal) x0 x1 x2 x3 (ix2 h r)
    = Finset.fold max (⊥ : EReal) (fun j => val_main_v51_0 (F := Ideal) x0 x1 x2 x3 (ix3 h r j)) Finset.univ := by
  unfold val_main_v52
  generalize val_main_v51_0 (F := Ideal) x0 x1 x2 x3 = y
  have e := Host.reduce_eq_fold_single (FloatOps.maximumf (F := Ideal) (φ := .f32)) y (val_main_cst_5 (F := Ideal)) reducesTo_S8x2048x2048_S8x2048_d2 (by decide) h_S_ (ix2 h r)
  refine e.trans ?_
  have hb : val_main_cst_5 (F := Ideal) (Shape.Idx.first h_S_) = (⊥ : EReal) := ofBits_bot
  rw [hb]
  refine Finset.fold_congr fun j _ => ?_
  exact congrArg y (funext fun a => Fin.ext (by match a with | ⟨0, _⟩ => rfl | ⟨1, _⟩ => rfl | ⟨2, _⟩ => rfl))

theorem v70 (r j : Fin 2048) : val_main_v70 (F := Ideal) x0 x1 x2 x3 (ix3 h r j)
    = Finset.fold max (⊥ : EReal) (fun j => val_main_v51_0 (F := Ideal) x0 x1 x2 x3 (ix3 h r j)) Finset.univ := by
  refine Eq.trans ?_ (v52 h x0 x1 x2 x3 r)
  rw [val_main_v70_apply, val_main_v69_apply, val_main_v59_apply, val_main_v58_apply]
  have e : idx_main_v69 (idx_main_v70 (ix3 h r j)) = ix2 h r := funext fun a => Fin.ext (by match a with | ⟨0, _⟩ => rfl | ⟨1, _⟩ => rfl)
  rw [e]
  generalize val_main_v52 (F := Ideal) x0 x1 x2 x3 (ix2 h r) = y
  exact max_bot y

theorem v72e (r j : Fin 2048) : val_main_v72 (F := Ideal) x0 x1 x2 x3 (ix3 h r j)
    = Ideal.exp (val_main_v51_0 (F := Ideal) x0 x1 x2 x3 (ix3 h r j) - val_main_v70 (F := Ideal) x0 x1 x2 x3 (ix3 h r j)) := by
  pointwise [val_main_v72, val_main_v71]

theorem v73e (r : Fin 2048) : val_main_v73 (F := Ideal) x0 x1 x2 x3 (ix2 h r) = ∑ j, val_main_v72 (F := Ideal) x0 x1 x2 x3 (ix3 h r j) := by
  pointwise [val_main_v73, val_main_cst_13]

theorem v76e (r j : Fin 2048) : val_main_v76 (F := Ideal) x0 x1 x2 x3 (ix3 h r j)
    = Ideal.div (val_main_v72 (F := Ideal) x0 x1 x2 x3 (ix3 h r j)) (val_main_v73 (F := Ideal) x0 x1 x2 x3 (ix2 h r)) := by
  pointwise [val_main_v76, val_main_v75, val_main_v74]

variable (hs : ∀ r j, val_main_v51_0 (F := Ideal) x0 x1 x2 x3 (ix3 h r j)
    = if j ≤ r then ((T (Q q co si h) (K kvs kp h) kappa r j : ℝ) : EReal) else ⊥)

include hs in
/-- A row of the exponentials and its sum, up to one positive factor. -/
theorem row (r : Fin 2048) : ∃ M : ℝ, (∀ j, val_main_v72 (F := Ideal) x0 x1 x2 x3 (ix3 h r j) = ((E (Q q co si h) (K kvs kp h) kappa r j / Real.exp M : ℝ) : EReal))
    ∧ val_main_v73 (F := Ideal) x0 x1 x2 x3 (ix2 h r) = ((L (Q q co si h) (K kvs kp h) kappa r / Real.exp M : ℝ) : EReal) := by
  obtain ⟨M, hM⟩ := isR_max (fun j => val_main_v51_0 (F := Ideal) x0 x1 x2 x3 (ix3 h r j))
    (fun j => by
      show val_main_v51_0 (F := Ideal) x0 x1 x2 x3 (ix3 h r j) = ⊥ ∨ IsR (val_main_v51_0 (F := Ideal) x0 x1 x2 x3 (ix3 h r j))
      rw [hs]; split
      · exact Or.inr (IsR.coe _)
      · exact Or.inl rfl) r
    (by
      show IsR (val_main_v51_0 (F := Ideal) x0 x1 x2 x3 (ix3 h r r))
      rw [hs, if_pos le_rfl]; exact IsR.coe _)
  have h1 : ∀ j, val_main_v72 (F := Ideal) x0 x1 x2 x3 (ix3 h r j) = ((E (Q q co si h) (K kvs kp h) kappa r j / Real.exp M : ℝ) : EReal) := fun j => by
    rw [v72e, v70, hM, hs]; exact exp_row _ _ _ _ _ _
  refine ⟨M, h1, ?_⟩
  rw [v73e, L, Finset.sum_div, coe_sum]
  exact Finset.sum_congr rfl fun j _ => h1 j

include hs in
theorem v76 (r j : Fin 2048) : val_main_v76 (F := Ideal) x0 x1 x2 x3 (ix3 h r j) = ((P (Q q co si h) (K kvs kp h) kappa r j : ℝ) : EReal) := by
  obtain ⟨M, h1, h2⟩ := row q kvs kp co si h x0 x1 x2 x3 hs r
  rw [v76e, h1, h2, div_real (div_pos (L_pos _ _ _ r) (Real.exp_pos M)).ne', P]
  congr 1
  exact div_div_div_cancel_right₀ (Real.exp_pos M).ne' _ _

include hkv hdo in
theorem v85 (r j : Fin 2048) : val_main_v85 (F := Ideal) x1 x4 (ix3 h r j) = ((DP (V kvs h) (D dt h) r j : ℝ) : EReal) := by
  have e : val_main_v85 (F := Ideal) x1 x4 (ix3 h r j) = ∑ x : Fin 128, x4 (ix2 r ⟨h.val * 128 + x.val, by omega⟩) * x1 (ix3 j h ⟨128 + x.val, by omega⟩) := by
    pointwise [val_main_v85, val_main_v84, val_main_v83, val_main_v5]
  rw [e, DP, coe_sum]
  refine Finset.sum_congr rfl fun x _ => ?_
  rw [hdo, hkv, ← EReal.coe_mul]
  rfl

theorem v102e (r j : Fin 2048) : val_main_v102 (F := Ideal) x0 x1 x2 x3 x4 (ix3 h r j)
    = (if j ≤ r then (Ideal.div (val_main_v85 (F := Ideal) x1 x4 (ix3 h r j)) (val_main_v73 (F := Ideal) x0 x1 x2 x3 (ix2 h r))
        + -∑ x, val_main_v85 (F := Ideal) x1 x4 (ix3 h r x) * Ideal.div 1 (val_main_v73 (F := Ideal) x0 x1 x2 x3 (ix2 h r) * val_main_v73 (F := Ideal) x0 x1 x2 x3 (ix2 h r))
            * val_main_v72 (F := Ideal) x0 x1 x2 x3 (ix3 h r x))
        * val_main_v72 (F := Ideal) x0 x1 x2 x3 (ix3 h r j) else (0 : EReal)) * Ideal.ofBits FTy.f32 1033096506#32 := by
  pointwise [val_main_v102, val_main_v101, val_main_cst_17, val_main_v100, val_main_call1_v0, val_main_call1_cst, val_main_v99, val_main_v98, val_main_v97, val_main_v96,
    val_main_cst_16, val_main_v95, val_main_v94, val_main_v93, val_main_v92, val_main_v91, val_main_cst_15, val_main_v90, val_main_v89, val_main_v88, val_main_v79, val_main_v78, val_main_cst_14, val_main_v77, val_main_v74,
    val_main_v51_1, val_main_v50, val_main_v49, val_main_v48, val_main_v47, val_main_v46, val_main_v45, val_main_v44]
  rw [WordCmp.cmpi_sle_ofNat (by omega) (by omega), WordCmp.select_ofBool]
  simp only [decide_eq_true_eq, Fin.le_def, Fin.sum_univ_one, ite_mul, zero_mul]

include hs hkv hdo in
theorem v102 (r j : Fin 2048) : val_main_v102 (F := Ideal) x0 x1 x2 x3 x4 (ix3 h r j)
    = ((DS (Q q co si h) (K kvs kp h) (V kvs h) (D dt h) kappa r j : ℝ) : EReal) := by
  obtain ⟨M, h1, h2⟩ := row q kvs kp co si h x0 x1 x2 x3 hs r
  have h3 := v85 kvs dt h x1 x4 hkv hdo r
  have hL := (div_pos (L_pos (Q q co si h) (K kvs kp h) kappa r) (Real.exp_pos M))
  rw [v102e, ofBits_kappa, h2]
  simp only [h1, h3, ← EReal.coe_mul]
  rw [← EReal.coe_one, div_real (mul_pos hL hL).ne', div_real hL.ne']
  simp only [← EReal.coe_mul, ← coe_sum, ← EReal.coe_neg, ← EReal.coe_add]
  by_cases hj : j ≤ r
  · rw [if_pos hj, ← EReal.coe_mul]
    congr 1
    set l := L (Q q co si h) (K kvs kp h) kappa r / Real.exp M with hl
    have hP : ∀ x, P (Q q co si h) (K kvs kp h) kappa r x = E (Q q co si h) (K kvs kp h) kappa r x / Real.exp M / l := fun x =>
      (div_div_div_cancel_right₀ (Real.exp_pos M).ne' _ _).symm
    have e : (∑ x, DP (V kvs h) (D dt h) r x * (1 / (l * l)) * (E (Q q co si h) (K kvs kp h) kappa r x / Real.exp M))
        = (∑ x, P (Q q co si h) (K kvs kp h) kappa r x * DP (V kvs h) (D dt h) r x) / l := by
      rw [Finset.sum_div]
      refine Finset.sum_congr rfl fun x _ => ?_
      rw [hP]; field_simp
    rw [e, DS, hP j]
    field_simp
    ring
  · rw [if_neg hj, DS_eq_zero _ _ _ _ _ (not_le.1 hj)]
    simp

end AttnRef
-- ==== Proof.AttnGrads.lean ====
module

public import proofs.«01_k».proof.Proof.AttnReal

/-!
The gradients of the reference are the real ones.
-/

@[expose] public section

set_option maxRecDepth 16384
set_option maxHeartbeats 1000000

noncomputable section

namespace AttnRef

open Idealize.ShloMosaic Idealize.ShloMosaic.TcCoe Finite AttnMath AttnPay AttnOut Cert.AttnRefIdeal Cert.AttnRefIdeal.Gen Cert.AttnRefIdeal.Read

variable (q : Fin 2048 → Fin 8 → Fin 192 → ℝ) (kvs : Fin 2048 → Fin 8 → Fin 256 → ℝ) (kp : Fin 2048 → Fin 64 → ℝ) (co si : Fin 2048 → Fin 32 → ℝ)
  (dt : Fin 2048 → Fin 1024 → ℝ) (h : Fin 8)

variable (x0 : (⟨S2048x8x192, .f32⟩ : BufTy).Contents (Elt Ideal)) (x1 : (⟨S2048x8x256, .f32⟩ : BufTy).Contents (Elt Ideal))
  (x2 : (⟨S2048x64, .f32⟩ : BufTy).Contents (Elt Ideal)) (x3 : (⟨S2048, .i32⟩ : BufTy).Contents (Elt Ideal)) (x4 : (⟨S2048x1024, .f32⟩ : BufTy).Contents (Elt Ideal))
  (hq : ∀ r h l, x0 (ix3 r h l) = ((q r h l : ℝ) : EReal)) (hkv : ∀ r h l, x1 (ix3 r h l) = ((kvs r h l : ℝ) : EReal))
  (hkp : ∀ r l, x2 (ix2 r l) = ((kp r l : ℝ) : EReal)) (hdo : ∀ r l, x4 (ix2 r l) = ((dt r l : ℝ) : EReal))
  (hco : ∀ r k, val_main_v22 (F := Ideal) x3 (ix2 r k) = ((co r k : ℝ) : EReal)) (hsi : ∀ r k, val_main_v23 (F := Ideal) x3 (ix2 r k) = ((si r k : ℝ) : EReal))

variable (hP : ∀ r j, val_main_v76 (F := Ideal) x0 x1 x2 x3 (ix3 h r j) = ((P (Q q co si h) (K kvs kp h) kappa r j : ℝ) : EReal))
  (hS : ∀ r j, val_main_v102 (F := Ideal) x0 x1 x2 x3 x4 (ix3 h r j) = ((DS (Q q co si h) (K kvs kp h) (V kvs h) (D dt h) kappa r j : ℝ) : EReal))
  (hQ : ∀ (r : Fin 2048) (l : Fin 64), val_main_v38 (F := Ideal) x0 x3 (ix3 r h l) = ((Q q co si h r ⟨128 + l.val, le64 l⟩ : ℝ) : EReal))

theorem zero_pad : (FloatOps.sitofp (F := Ideal) FTy.f32 (0#32 : BitVec 32) : EReal) = 0 := by
  show (((0#32 : BitVec 32).toInt : ℝ) : EReal) = 0
  simp

theorem lt_all (x : Fin 2048) (f : ℝ) : (if x.val < 2048 then f else 0) = f := if_pos x.isLt

include hS hkv in
theorem zk (r : Fin 2048) (l : Fin 128) : (∑ x, val_main_v102 (F := Ideal) x0 x1 x2 x3 x4 (ix3 h r x) * x1 (ix3 x h ⟨l.val, by omega⟩))
    = ((Z (Q q co si h) (K kvs kp h) (V kvs h) (D dt h) kappa r ⟨l.val, by omega⟩ : ℝ) : EReal) := by
  rw [Z, coe_sum]
  refine Finset.sum_congr rfl fun x _ => ?_
  rw [hS, hkv, K_lo, EReal.coe_mul]

include hS hkp in
theorem zp (r : Fin 2048) (l : Fin 64) : (∑ x, val_main_v102 (F := Ideal) x0 x1 x2 x3 x4 (ix3 h r x) * x2 (ix2 x l))
    = ((Z (Q q co si h) (K kvs kp h) (V kvs h) (D dt h) kappa r ⟨128 + l.val, by omega⟩ : ℝ) : EReal) := by
  rw [Z, coe_sum]
  refine Finset.sum_congr rfl fun x _ => ?_
  rw [hS, hkp, K_hi, EReal.coe_mul]

theorem v106e (r : Fin 2048) (l : Fin 64) : val_main_v106 (F := Ideal) x0 x1 x2 x3 x4 (ix3 r h l) = ∑ x, val_main_v102 (F := Ideal) x0 x1 x2 x3 x4 (ix3 h r x) * x2 (ix2 x l) := by
  pointwise [val_main_v106, val_main_v105, val_main_v0, val_main_v1]

theorem v110e (r : Fin 2048) (l : Fin 128) : val_main_v110 (F := Ideal) x0 x1 x2 x3 x4 (ix3 r h l) = ∑ x, val_main_v102 (F := Ideal) x0 x1 x2 x3 x4 (ix3 h r x) * x1 (ix3 x h ⟨l.val, by omega⟩) := by
  pointwise [val_main_v110, val_main_v109, val_main_v4]

theorem v124e (r : Fin 2048) (l : Fin 64) : val_main_v124 (F := Ideal) x0 x1 x2 x3 x4 (ix3 r h l)
    = if h3 : l.val < 32 then val_main_v106 (F := Ideal) x0 x1 x2 x3 x4 (ix3 r h ⟨32 + l.val, by omega⟩) * val_main_v23 (F := Ideal) x3 (ix2 r ⟨l.val, h3⟩)
        + val_main_v106 (F := Ideal) x0 x1 x2 x3 x4 (ix3 r h ⟨l.val, by omega⟩) * val_main_v22 (F := Ideal) x3 (ix2 r ⟨l.val, h3⟩)
      else val_main_v106 (F := Ideal) x0 x1 x2 x3 x4 (ix3 r h ⟨32 + (l.val - 32), by omega⟩) * val_main_v22 (F := Ideal) x3 (ix2 r ⟨l.val - 32, by omega⟩)
        + -val_main_v106 (F := Ideal) x0 x1 x2 x3 x4 (ix3 r h ⟨l.val - 32, by omega⟩) * val_main_v23 (F := Ideal) x3 (ix2 r ⟨l.val - 32, by omega⟩) := by
  pointwise [val_main_v124, val_main_v123, val_main_v122, val_main_v121, val_main_v120, val_main_v119, val_main_v118, val_main_v117, val_main_v116, val_main_v115, val_main_v114, val_main_v113, val_main_v112, val_main_v111, val_main_v25, val_main_v24]

theorem v133e (r : Fin 2048) (l : Fin 256) : val_main_v133 (F := Ideal) x0 x1 x2 x3 x4 (ix3 h r l)
    = if h1 : l.val < 192 then (if h2 : 128 ≤ l.val ∧ l.val - 128 < 64 then val_main_v124 (F := Ideal) x0 x1 x2 x3 x4 (ix3 r h ⟨l.val - 128, by omega⟩) else 0)
        + (if h2 : l.val < 128 then val_main_v110 (F := Ideal) x0 x1 x2 x3 x4 (ix3 r h ⟨l.val, h2⟩) else 0)
      else FloatOps.sitofp (F := Ideal) FTy.f32 (0#32 : BitVec 32) := by
  pointwise [val_main_v133, val_main_v132, val_main_call2_v0, val_main_c, val_main_v131, val_main_v130, val_main_v129, val_main_v128, val_main_cst_20, val_main_cst_21]

include hS hkv hkp hco hsi in
theorem v133 (r : Fin 2048) (l : Fin 256) : val_main_v133 (F := Ideal) x0 x1 x2 x3 x4 (ix3 h r l)
    = ((dq (Q q co si h) (K kvs kp h) (V kvs h) (D dt h) (C co) (A si) (B si) r l : ℝ) : EReal) := by
  have ek := zk q kvs kp co si dt h x0 x1 x2 x3 x4 hkv hS r
  have ep : ∀ l : Fin 64, val_main_v106 (F := Ideal) x0 x1 x2 x3 x4 (ix3 r h l) = _ := fun l =>
    (v106e h x0 x1 x2 x3 x4 r l).trans (zp q kvs kp co si dt h x0 x1 x2 x3 x4 hkp hS r l)
  rw [v133e, dq]
  by_cases h1 : l.val < 128
  · rw [dif_pos (show l.val < 192 by omega), dif_neg (show ¬ (128 ≤ l.val ∧ l.val - 128 < 64) by omega), dif_pos h1, dif_pos h1, zero_add, v110e]
    exact ek ⟨l.val, h1⟩
  · rw [dif_neg h1, dif_neg h1, turn_eq, add_zero]
    by_cases h2 : l.val < 192
    · rw [dif_pos h2, dif_pos (show 128 ≤ l.val ∧ l.val - 128 < 64 by omega), v124e]
      by_cases h3 : l.val - 128 < 32
      · rw [dif_pos h3, dif_pos h3]
        refine (congrArg₂ (· + ·) (congrArg₂ (· * ·) (ep ⟨32 + (l.val - 128), by omega⟩) (hsi r ⟨l.val - 128, h3⟩))
          (congrArg₂ (· * ·) (ep ⟨l.val - 128, by omega⟩) (hco r ⟨l.val - 128, h3⟩))).trans ?_
        have e : 128 + (32 + (l.val - 128)) = 160 + (l.val - 128) := by omega
        simp only [e]
        rw [EReal.coe_add, EReal.coe_mul, EReal.coe_mul]
      · rw [dif_neg h3, dif_neg h3, dif_pos (show l.val - 128 < 64 by omega)]
        refine (congrArg₂ (· + ·) (congrArg₂ (· * ·) (ep ⟨32 + (l.val - 128 - 32), by omega⟩) (hco r ⟨l.val - 128 - 32, by omega⟩))
          (congrArg₂ (· * ·) (congrArg Neg.neg (ep ⟨l.val - 128 - 32, by omega⟩)) (hsi r ⟨l.val - 128 - 32, by omega⟩))).trans ?_
        have e : 128 + (32 + (l.val - 128 - 32)) = 128 + (l.val - 128) := by omega
        have e' : 128 + (l.val - 128 - 32) = 96 + (l.val - 128) := by omega
        simp only [e, e']
        rw [EReal.coe_add, EReal.coe_mul, EReal.coe_mul, EReal.coe_neg]
    · rw [dif_neg h2, dif_neg (show ¬ l.val - 128 < 32 by omega), dif_neg (show ¬ l.val - 128 < 64 by omega)]
      exact zero_pad

include hS hP hq hdo in
theorem v134 (r : Fin 2048) (l : Fin 256) : val_main_v134 (F := Ideal) x0 x1 x2 x3 x4 (ix3 h r l)
    = ((kv (Q q co si h) (K kvs kp h) (V kvs h) (D dt h) 2048 2048 r l : ℝ) : EReal) := by
  pointwise [val_main_v134, val_main_v127, val_main_v126, val_main_v125, val_main_cst_18, val_main_cst_19, val_main_v87, val_main_v86, val_main_v84, val_main_v83, val_main_v108, val_main_v107, val_main_v2]
  rw [kv]
  by_cases h1 : l.val < 128
  · rw [dif_neg (show ¬ (128 ≤ l.val ∧ l.val - 128 < 128) by omega), dif_pos h1, dif_pos h1, zero_add, Y, coe_sum]
    refine Finset.sum_congr rfl fun x _ => ?_
    rw [lt_all, EReal.coe_mul]
    refine congrArg₂ (· * ·) (hS x r) ((hq x h ⟨l.val, by omega⟩).trans ?_)
    rw [← Q_lo q co si h x ⟨l.val, h1⟩]
  · rw [dif_pos (show 128 ≤ l.val ∧ l.val - 128 < 128 by omega), dif_neg h1, dif_neg h1, add_zero, U, coe_sum]
    refine Finset.sum_congr rfl fun x _ => ?_
    rw [lt_all, EReal.coe_mul]
    exact (congrArg₂ (· * ·) (hdo x ⟨h.val * 128 + (l.val - 128), by omega⟩) (hP x r)).trans (mul_comm _ _)

include hS hQ in
theorem v136 (r : Fin 2048) (l : Fin 128) : val_main_v136 (F := Ideal) x0 x1 x2 x3 x4 (ix3 h r l)
    = ((kr (Q q co si h) (K kvs kp h) (V kvs h) (D dt h) 2048 r l : ℝ) : EReal) := by
  pointwise [val_main_v136, val_main_v135, val_main_call3_v0, val_main_c_22, val_main_v104, val_main_v103]
  rw [kr, Y]
  by_cases h1 : l.val < 64
  · rw [dif_pos h1, coe_sum]
    refine Finset.sum_congr rfl fun x _ => ?_
    rw [lt_all, EReal.coe_mul]
    exact congrArg₂ (· * ·) (hS x r) (hQ x ⟨l.val, h1⟩)
  · rw [dif_neg h1, Finset.sum_eq_zero fun x _ => by rw [lt_all, Q_zero q co si h x _ (by show 192 ≤ 128 + l.val; omega), mul_zero]]
    exact zero_pad

end AttnRef
-- ==== Proof.AttnRef.lean ====
module

public import proofs.«01_k».proof.Proof.AttnScore
public import proofs.«01_k».proof.Proof.AttnSoft
public import proofs.«01_k».proof.Proof.AttnGrads

/-!
The three results of the attention reference, head by head.
-/

@[expose] public section

set_option maxRecDepth 16384
set_option maxHeartbeats 1000000

noncomputable section

namespace AttnRef

open Idealize.ShloMosaic Idealize.ShloMosaic.TcCoe Finite AttnMath AttnPay AttnOut Cert.AttnRefIdeal Cert.AttnRefIdeal.Gen Cert.AttnRefIdeal.Read

variable (q : Fin 2048 → Fin 8 → Fin 192 → ℝ) (kvs : Fin 2048 → Fin 8 → Fin 256 → ℝ) (kp : Fin 2048 → Fin 64 → ℝ) (co si : Fin 2048 → Fin 32 → ℝ)
  (dt : Fin 2048 → Fin 1024 → ℝ) (h : Fin 8)

variable (x0 : (⟨S2048x8x192, .f32⟩ : BufTy).Contents (Elt Ideal)) (x1 : (⟨S2048x8x256, .f32⟩ : BufTy).Contents (Elt Ideal))
  (x2 : (⟨S2048x64, .f32⟩ : BufTy).Contents (Elt Ideal)) (x3 : (⟨S2048, .i32⟩ : BufTy).Contents (Elt Ideal)) (x4 : (⟨S2048x1024, .f32⟩ : BufTy).Contents (Elt Ideal))
  (hq : ∀ r h l, x0 (ix3 r h l) = ((q r h l : ℝ) : EReal)) (hkv : ∀ r h l, x1 (ix3 r h l) = ((kvs r h l : ℝ) : EReal))
  (hkp : ∀ r l, x2 (ix2 r l) = ((kp r l : ℝ) : EReal)) (hdo : ∀ r l, x4 (ix2 r l) = ((dt r l : ℝ) : EReal))
  (hco : ∀ r k, val_main_v22 (F := Ideal) x3 (ix2 r k) = ((co r k : ℝ) : EReal)) (hsi : ∀ r k, val_main_v23 (F := Ideal) x3 (ix2 r k) = ((si r k : ℝ) : EReal))

include hq hkv hkp hdo hco hsi in
theorem ref133 (r : Fin 2048) (l : Fin 256) : val_main_v133 (F := Ideal) x0 x1 x2 x3 x4 (ix3 h r l) = ((dq (Q q co si h) (K kvs kp h) (V kvs h) (D dt h) (C co) (A si) (B si) r l : ℝ) : EReal) := by
  have hs := v51 q kvs kp co si h x0 x1 x2 x3 hq hkv hkp hco hsi
  have hP := AttnRef.v76 q kvs kp co si h x0 x1 x2 x3 hs
  have hS := v102 q kvs kp co si dt h x0 x1 x2 x3 x4 hkv hdo hs
  have hQ := v38 q co si h x0 x3 hq hco hsi
  exact v133 q kvs kp co si dt h x0 x1 x2 x3 x4 hkv hkp hco hsi hS r l

include hq hkv hkp hdo hco hsi in
theorem ref134 (r : Fin 2048) (l : Fin 256) : val_main_v134 (F := Ideal) x0 x1 x2 x3 x4 (ix3 h r l) = ((kv (Q q co si h) (K kvs kp h) (V kvs h) (D dt h) 2048 2048 r l : ℝ) : EReal) := by
  have hs := v51 q kvs kp co si h x0 x1 x2 x3 hq hkv hkp hco hsi
  have hP := AttnRef.v76 q kvs kp co si h x0 x1 x2 x3 hs
  have hS := v102 q kvs kp co si dt h x0 x1 x2 x3 x4 hkv hdo hs
  have hQ := v38 q co si h x0 x3 hq hco hsi
  exact v134 q kvs kp co si dt h x0 x1 x2 x3 x4 hq hdo hP hS r l

include hq hkv hkp hdo hco hsi in
theorem ref136 (r : Fin 2048) (l : Fin 128) : val_main_v136 (F := Ideal) x0 x1 x2 x3 x4 (ix3 h r l) = ((kr (Q q co si h) (K kvs kp h) (V kvs h) (D dt h) 2048 r l : ℝ) : EReal) := by
  have hs := v51 q kvs kp co si h x0 x1 x2 x3 hq hkv hkp hco hsi
  have hP := AttnRef.v76 q kvs kp co si h x0 x1 x2 x3 hs
  have hS := v102 q kvs kp co si dt h x0 x1 x2 x3 x4 hkv hdo hs
  have hQ := v38 q co si h x0 x3 hq hco hsi
  exact v136 q kvs kp co si dt h x0 x1 x2 x3 x4 hS hQ r l

end AttnRef
-- ==== Proof.AttnW8.lean ====
module

public import proofs.«01_k».proof.Proof.AttnOut

/-!
The gradient of the queries that one head leaves.
-/

@[expose] public section

set_option maxRecDepth 16384
set_option maxHeartbeats 2000000

noncomputable section

namespace AttnW8

open Idealize.ShloMosaic Idealize.ShloMosaic.TcCoe Idealize.SL.Sem Finite AttnMath AttnPay AttnOut Cert.AttnIdeal Cert.AttnIdeal.Gen
open Idealize.ShloMosaic.Pipeline (Dat)

variable (X : Fin 2048 → Fin 256 → ℝ) (C A B : Fin 2048 → Fin 128 → ℝ) (kn kp : Fin 2048 → Fin 128 → ℝ) (V D : Fin 2048 → Fin 128 → ℝ)

variable (m : (ℓ : Loc nD τ sig) → Buf (Elt Ideal) ℓ) (c : Dev nD) (t : Fin cfg0.N)
  (h0 : ∀ r l, iblk m c 0 t (ix3 0 r l) = ((X r l : ℝ) : EReal)) (h1 : ∀ r l, iblk m c 1 t (ix3 0 r l) = ((kn r l : ℝ) : EReal))
  (h2 : ∀ r l, iblk m c 2 t (ix3 0 r l) = ((V r l : ℝ) : EReal)) (h3 : ∀ r l, iblk m c 3 t (ix2 r l) = ((kp r l : ℝ) : EReal))
  (h4 : ∀ r l, iblk m c 4 t (ix2 r l) = ((C r l : ℝ) : EReal)) (h5 : ∀ r l, iblk m c 5 t (ix2 r l) = ((A r l : ℝ) : EReal))
  (h6 : ∀ r l, iblk m c 6 t (ix2 r l) = ((B r l : ℝ) : EReal)) (h7 : ∀ r l, iblk m c 7 t (ix2 r l) = ((D r l : ℝ) : EReal))

include h0 h1 h2 h3 h4 h5 h6 h7 in
theorem w8 : (dats m 0 c).after 8 t = lift (dq (Qr X C A B) (Kc kn kp) V D C A B) := by
  rw [after0_8]
  frame_out
  funext y
  obtain ⟨i, r, l, rfl⟩ : ∃ i r l, y = ix3 i r l := ⟨y 0, y 1, y 2, eq_ix3 y⟩
  refine agree (e := .bf16) (G := lift (dq (Qr X C A B) (Kc kn kp) V D C A B)) (fun x => ?_) (fun n3128 => ?_)
  · obtain ⟨i, j, l, rfl⟩ : ∃ i j l, x = ix3 i j l := ⟨x 0, x 1, x 2, eq_ix3 x⟩
    obtain rfl : i = 0 := Subsingleton.elim _ _
    refine (AttnPay.B3.dqr X C A B (Kc kn kp) V D (k0_pay4 (iblk m c 1 t) (iblk m c 3 t)) (View.ld (iblk m c 4 t) (Rect.unit ![1536, 0] ![512, 128] inb_S2048x128_S512x128_1536_0)) (View.ld (iblk m c 5 t) (Rect.unit ![1536, 0] ![512, 128] inb_S2048x128_S512x128_1536_0)) (View.ld (iblk m c 6 t) (Rect.unit ![1536, 0] ![512, 128] inb_S2048x128_S512x128_1536_0)) (View.ld (iblk m c 7 t) (Rect.unit ![1536, 0] ![512, 128] inb_S2048x128_S512x128_1536_0)) (View.ld (iblk m c 0 t) (Rect.unit ![0, 1536, 0] ![1, 512, 128] inb_S1x2048x256_S1x512x128_0_1536_0)) (View.ld (iblk m c 0 t) (Rect.unit ![0, 1536, 128] ![1, 512, 128] inb_S1x2048x256_S1x512x128_0_1536_128)) (iblk m c 2 t)
      (keys kn kp m c t h1 h3) (c3 C m c t h4) (a3 A m c t h5) (b3 B m c t h6) (d3 D m c t h7) (n3 X m c t h0) (x3 X m c t h0) h2 j l).trans ?_
    rw [qbox 1536 128 (by norm_num) (by norm_num) _ j l]
    exact (congrArg _ (dq_right (Qr X C A B) (Kc kn kp) V D C A B _ l)).symm
  refine agree (e := .bf16) (G := lift (dq (Qr X C A B) (Kc kn kp) V D C A B)) (fun x => ?_) (fun n30 => ?_)
  · obtain ⟨i, j, l, rfl⟩ : ∃ i j l, x = ix3 i j l := ⟨x 0, x 1, x 2, eq_ix3 x⟩
    obtain rfl : i = 0 := Subsingleton.elim _ _
    refine (AttnPay.B3.dqn X C A B (Kc kn kp) V D (k0_pay4 (iblk m c 1 t) (iblk m c 3 t)) (View.ld (iblk m c 4 t) (Rect.unit ![1536, 0] ![512, 128] inb_S2048x128_S512x128_1536_0)) (View.ld (iblk m c 5 t) (Rect.unit ![1536, 0] ![512, 128] inb_S2048x128_S512x128_1536_0)) (View.ld (iblk m c 6 t) (Rect.unit ![1536, 0] ![512, 128] inb_S2048x128_S512x128_1536_0)) (View.ld (iblk m c 7 t) (Rect.unit ![1536, 0] ![512, 128] inb_S2048x128_S512x128_1536_0)) (View.ld (iblk m c 0 t) (Rect.unit ![0, 1536, 0] ![1, 512, 128] inb_S1x2048x256_S1x512x128_0_1536_0)) (View.ld (iblk m c 0 t) (Rect.unit ![0, 1536, 128] ![1, 512, 128] inb_S1x2048x256_S1x512x128_0_1536_128)) (iblk m c 2 t)
      (keys kn kp m c t h1 h3) (c3 C m c t h4) (a3 A m c t h5) (b3 B m c t h6) (d3 D m c t h7) (n3 X m c t h0) (x3 X m c t h0) h2 j l).trans ?_
    rw [qbox 1536 0 (by norm_num) (by norm_num) _ j l]
    exact (congrArg _ (dq_left (Qr X C A B) (Kc kn kp) V D C A B _ l)).symm
  refine agree (e := .bf16) (G := lift (dq (Qr X C A B) (Kc kn kp) V D C A B)) (fun x => ?_) (fun n2128 => ?_)
  · obtain ⟨i, j, l, rfl⟩ : ∃ i j l, x = ix3 i j l := ⟨x 0, x 1, x 2, eq_ix3 x⟩
    obtain rfl : i = 0 := Subsingleton.elim _ _
    refine (AttnPay.B2.dqr X C A B (Kc kn kp) V D (k0_pay4 (iblk m c 1 t) (iblk m c 3 t)) (View.ld (iblk m c 4 t) (Rect.unit ![1024, 0] ![512, 128] inb_S2048x128_S512x128_1024_0)) (View.ld (iblk m c 5 t) (Rect.unit ![1024, 0] ![512, 128] inb_S2048x128_S512x128_1024_0)) (View.ld (iblk m c 6 t) (Rect.unit ![1024, 0] ![512, 128] inb_S2048x128_S512x128_1024_0)) (View.ld (iblk m c 7 t) (Rect.unit ![1024, 0] ![512, 128] inb_S2048x128_S512x128_1024_0)) (View.ld (iblk m c 0 t) (Rect.unit ![0, 1024, 0] ![1, 512, 128] inb_S1x2048x256_S1x512x128_0_1024_0)) (View.ld (iblk m c 0 t) (Rect.unit ![0, 1024, 128] ![1, 512, 128] inb_S1x2048x256_S1x512x128_0_1024_128)) (View.ld (iblk m c 2 t) (Rect.unit ![0, 0, 0] ![1, 1536, 128] inb_S1x2048x128_S1x1536x128_0_0_0))
      (keys kn kp m c t h1 h3) (c2 C m c t h4) (a2 A m c t h5) (b2 B m c t h6) (d2 D m c t h7) (n2 X m c t h0) (x2 X m c t h0) (v2 V m c t h2) j l).trans ?_
    rw [qbox 1024 128 (by norm_num) (by norm_num) _ j l]
    exact (congrArg _ (dq_right (Qr X C A B) (Kc kn kp) V D C A B _ l)).symm
  refine agree (e := .bf16) (G := lift (dq (Qr X C A B) (Kc kn kp) V D C A B)) (fun x => ?_) (fun n20 => ?_)
  · obtain ⟨i, j, l, rfl⟩ : ∃ i j l, x = ix3 i j l := ⟨x 0, x 1, x 2, eq_ix3 x⟩
    obtain rfl : i = 0 := Subsingleton.elim _ _
    refine (AttnPay.B2.dqn X C A B (Kc kn kp) V D (k0_pay4 (iblk m c 1 t) (iblk m c 3 t)) (View.ld (iblk m c 4 t) (Rect.unit ![1024, 0] ![512, 128] inb_S2048x128_S512x128_1024_0)) (View.ld (iblk m c 5 t) (Rect.unit ![1024, 0] ![512, 128] inb_S2048x128_S512x128_1024_0)) (View.ld (iblk m c 6 t) (Rect.unit ![1024, 0] ![512, 128] inb_S2048x128_S512x128_1024_0)) (View.ld (iblk m c 7 t) (Rect.unit ![1024, 0] ![512, 128] inb_S2048x128_S512x128_1024_0)) (View.ld (iblk m c 0 t) (Rect.unit ![0, 1024, 0] ![1, 512, 128] inb_S1x2048x256_S1x512x128_0_1024_0)) (View.ld (iblk m c 0 t) (Rect.unit ![0, 1024, 128] ![1, 512, 128] inb_S1x2048x256_S1x512x128_0_1024_128)) (View.ld (iblk m c 2 t) (Rect.unit ![0, 0, 0] ![1, 1536, 128] inb_S1x2048x128_S1x1536x128_0_0_0))
      (keys kn kp m c t h1 h3) (c2 C m c t h4) (a2 A m c t h5) (b2 B m c t h6) (d2 D m c t h7) (n2 X m c t h0) (x2 X m c t h0) (v2 V m c t h2) j l).trans ?_
    rw [qbox 1024 0 (by norm_num) (by norm_num) _ j l]
    exact (congrArg _ (dq_left (Qr X C A B) (Kc kn kp) V D C A B _ l)).symm
  refine agree (e := .bf16) (G := lift (dq (Qr X C A B) (Kc kn kp) V D C A B)) (fun x => ?_) (fun n1128 => ?_)
  · obtain ⟨i, j, l, rfl⟩ : ∃ i j l, x = ix3 i j l := ⟨x 0, x 1, x 2, eq_ix3 x⟩
    obtain rfl : i = 0 := Subsingleton.elim _ _
    refine (AttnPay.B1.dqr X C A B (Kc kn kp) V D (k0_pay4 (iblk m c 1 t) (iblk m c 3 t)) (View.ld (iblk m c 4 t) (Rect.unit ![512, 0] ![512, 128] inb_S2048x128_S512x128_512_0)) (View.ld (iblk m c 5 t) (Rect.unit ![512, 0] ![512, 128] inb_S2048x128_S512x128_512_0)) (View.ld (iblk m c 6 t) (Rect.unit ![512, 0] ![512, 128] inb_S2048x128_S512x128_512_0)) (View.ld (iblk m c 7 t) (Rect.unit ![512, 0] ![512, 128] inb_S2048x128_S512x128_512_0)) (View.ld (iblk m c 0 t) (Rect.unit ![0, 512, 0] ![1, 512, 128] inb_S1x2048x256_S1x512x128_0_512_0)) (View.ld (iblk m c 0 t) (Rect.unit ![0, 512, 128] ![1, 512, 128] inb_S1x2048x256_S1x512x128_0_512_128)) (View.ld (iblk m c 2 t) (Rect.unit ![0, 0, 0] ![1, 1024, 128] inb_S1x2048x128_S1x1024x128_0_0_0))
      (keys kn kp m c t h1 h3) (c1 C m c t h4) (a1 A m c t h5) (b1 B m c t h6) (d1 D m c t h7) (n1 X m c t h0) (x1 X m c t h0) (v1 V m c t h2) j l).trans ?_
    rw [qbox 512 128 (by norm_num) (by norm_num) _ j l]
    exact (congrArg _ (dq_right (Qr X C A B) (Kc kn kp) V D C A B _ l)).symm
  refine agree (e := .bf16) (G := lift (dq (Qr X C A B) (Kc kn kp) V D C A B)) (fun x => ?_) (fun n10 => ?_)
  · obtain ⟨i, j, l, rfl⟩ : ∃ i j l, x = ix3 i j l := ⟨x 0, x 1, x 2, eq_ix3 x⟩
    obtain rfl : i = 0 := Subsingleton.elim _ _
    refine (AttnPay.B1.dqn X C A B (Kc kn kp) V D (k0_pay4 (iblk m c 1 t) (iblk m c 3 t)) (View.ld (iblk m c 4 t) (Rect.unit ![512, 0] ![512, 128] inb_S2048x128_S512x128_512_0)) (View.ld (iblk m c 5 t) (Rect.unit ![512, 0] ![512, 128] inb_S2048x128_S512x128_512_0)) (View.ld (iblk m c 6 t) (Rect.unit ![512, 0] ![512, 128] inb_S2048x128_S512x128_512_0)) (View.ld (iblk m c 7 t) (Rect.unit ![512, 0] ![512, 128] inb_S2048x128_S512x128_512_0)) (View.ld (iblk m c 0 t) (Rect.unit ![0, 512, 0] ![1, 512, 128] inb_S1x2048x256_S1x512x128_0_512_0)) (View.ld (iblk m c 0 t) (Rect.unit ![0, 512, 128] ![1, 512, 128] inb_S1x2048x256_S1x512x128_0_512_128)) (View.ld (iblk m c 2 t) (Rect.unit ![0, 0, 0] ![1, 1024, 128] inb_S1x2048x128_S1x1024x128_0_0_0))
      (keys kn kp m c t h1 h3) (c1 C m c t h4) (a1 A m c t h5) (b1 B m c t h6) (d1 D m c t h7) (n1 X m c t h0) (x1 X m c t h0) (v1 V m c t h2) j l).trans ?_
    rw [qbox 512 0 (by norm_num) (by norm_num) _ j l]
    exact (congrArg _ (dq_left (Qr X C A B) (Kc kn kp) V D C A B _ l)).symm
  refine agree (e := .bf16) (G := lift (dq (Qr X C A B) (Kc kn kp) V D C A B)) (fun x => ?_) (fun n0128 => ?_)
  · obtain ⟨i, j, l, rfl⟩ : ∃ i j l, x = ix3 i j l := ⟨x 0, x 1, x 2, eq_ix3 x⟩
    obtain rfl : i = 0 := Subsingleton.elim _ _
    refine (AttnPay.B0.dqr X C A B (Kc kn kp) V D (k0_pay4 (iblk m c 1 t) (iblk m c 3 t)) (View.ld (iblk m c 4 t) (Rect.unit ![0, 0] ![512, 128] inb_S2048x128_S512x128_0_0)) (View.ld (iblk m c 5 t) (Rect.unit ![0, 0] ![512, 128] inb_S2048x128_S512x128_0_0)) (View.ld (iblk m c 6 t) (Rect.unit ![0, 0] ![512, 128] inb_S2048x128_S512x128_0_0)) (View.ld (iblk m c 7 t) (Rect.unit ![0, 0] ![512, 128] inb_S2048x128_S512x128_0_0)) (View.ld (iblk m c 0 t) (Rect.unit ![0, 0, 0] ![1, 512, 128] inb_S1x2048x256_S1x512x128_0_0_0)) (View.ld (iblk m c 0 t) (Rect.unit ![0, 0, 128] ![1, 512, 128] inb_S1x2048x256_S1x512x128_0_0_128)) (View.ld (iblk m c 2 t) (Rect.unit ![0, 0, 0] ![1, 512, 128] inb_S1x2048x128_S1x512x128_0_0_0))
      (keys kn kp m c t h1 h3) (c0 C m c t h4) (a0 A m c t h5) (b0 B m c t h6) (d0 D m c t h7) (n0 X m c t h0) (x0 X m c t h0) (v0 V m c t h2) j l).trans ?_
    rw [qbox 0 128 (by norm_num) (by norm_num) _ j l]
    exact (congrArg _ (dq_right (Qr X C A B) (Kc kn kp) V D C A B _ l)).symm
  refine agree (e := .bf16) (G := lift (dq (Qr X C A B) (Kc kn kp) V D C A B)) (fun x => ?_) (fun n00 => ?_)
  · obtain ⟨i, j, l, rfl⟩ : ∃ i j l, x = ix3 i j l := ⟨x 0, x 1, x 2, eq_ix3 x⟩
    obtain rfl : i = 0 := Subsingleton.elim _ _
    refine (AttnPay.B0.dqn X C A B (Kc kn kp) V D (k0_pay4 (iblk m c 1 t) (iblk m c 3 t)) (View.ld (iblk m c 4 t) (Rect.unit ![0, 0] ![512, 128] inb_S2048x128_S512x128_0_0)) (View.ld (iblk m c 5 t) (Rect.unit ![0, 0] ![512, 128] inb_S2048x128_S512x128_0_0)) (View.ld (iblk m c 6 t) (Rect.unit ![0, 0] ![512, 128] inb_S2048x128_S512x128_0_0)) (View.ld (iblk m c 7 t) (Rect.unit ![0, 0] ![512, 128] inb_S2048x128_S512x128_0_0)) (View.ld (iblk m c 0 t) (Rect.unit ![0, 0, 0] ![1, 512, 128] inb_S1x2048x256_S1x512x128_0_0_0)) (View.ld (iblk m c 0 t) (Rect.unit ![0, 0, 128] ![1, 512, 128] inb_S1x2048x256_S1x512x128_0_0_128)) (View.ld (iblk m c 2 t) (Rect.unit ![0, 0, 0] ![1, 512, 128] inb_S1x2048x128_S1x512x128_0_0_0))
      (keys kn kp m c t h1 h3) (c0 C m c t h4) (a0 A m c t h5) (b0 B m c t h6) (d0 D m c t h7) (n0 X m c t h0) (x0 X m c t h0) (v0 V m c t h2) j l).trans ?_
    rw [qbox 0 0 (by norm_num) (by norm_num) _ j l]
    exact (congrArg _ (dq_left (Qr X C A B) (Kc kn kp) V D C A B _ l)).symm
  exfalso
  have q3128 := not_box 1536 128 _ i r l n3128
  have q30 := not_box 1536 0 _ i r l n30
  have q2128 := not_box 1024 128 _ i r l n2128
  have q20 := not_box 1024 0 _ i r l n20
  have q1128 := not_box 512 128 _ i r l n1128
  have q10 := not_box 512 0 _ i r l n10
  have q0128 := not_box 0 128 _ i r l n0128
  have q00 := not_box 0 0 _ i r l n00
  have hr := r.isLt
  have hl := l.isLt
  omega

end AttnW8
-- ==== Proof.AttnW9.lean ====
module

public import proofs.«01_k».proof.Proof.AttnOut

/-!
The gradients of the keys and values that one head leaves.
-/

@[expose] public section

set_option maxRecDepth 16384
set_option maxHeartbeats 2000000

noncomputable section

namespace AttnW9

open Idealize.ShloMosaic Idealize.ShloMosaic.TcCoe Idealize.SL.Sem Finite AttnMath AttnPay AttnOut Cert.AttnIdeal Cert.AttnIdeal.Gen
open Idealize.ShloMosaic.Pipeline (Dat)

variable (X : Fin 2048 → Fin 256 → ℝ) (C A B : Fin 2048 → Fin 128 → ℝ) (kn kp : Fin 2048 → Fin 128 → ℝ) (V D : Fin 2048 → Fin 128 → ℝ)

variable (m : (ℓ : Loc nD τ sig) → Buf (Elt Ideal) ℓ) (c : Dev nD) (t : Fin cfg0.N)
  (h0 : ∀ r l, iblk m c 0 t (ix3 0 r l) = ((X r l : ℝ) : EReal)) (h1 : ∀ r l, iblk m c 1 t (ix3 0 r l) = ((kn r l : ℝ) : EReal))
  (h2 : ∀ r l, iblk m c 2 t (ix3 0 r l) = ((V r l : ℝ) : EReal)) (h3 : ∀ r l, iblk m c 3 t (ix2 r l) = ((kp r l : ℝ) : EReal))
  (h4 : ∀ r l, iblk m c 4 t (ix2 r l) = ((C r l : ℝ) : EReal)) (h5 : ∀ r l, iblk m c 5 t (ix2 r l) = ((A r l : ℝ) : EReal))
  (h6 : ∀ r l, iblk m c 6 t (ix2 r l) = ((B r l : ℝ) : EReal)) (h7 : ∀ r l, iblk m c 7 t (ix2 r l) = ((D r l : ℝ) : EReal))

include h0 h1 h2 h3 h4 h5 h6 h7 in
theorem w9 : (dats m 0 c).after 9 t = lift (kv (Qr X C A B) (Kc kn kp) V D 2048 2048) := by
  rw [after0_9]
  frame_out
  have e0 := fill (n := 256) inb_S1x2048x256_S1x2048x256_0_0_0 (k0_pay2 (F := Ideal)) (kv (Qr X C A B) (Kc kn kp) V D 0 0) (fun j l => by
    pointwise [k0_pay2]
    simp [kv, Y, U])
  have l0 := left (Qr X C A B) (Kc kn kp) V D 0 512 rfl le0 e0 (ms0_9 t).view inb_S1x2048x256_S1x512x128_0_0_0 _
    (AttnPay.B0.dkl X C A B (Kc kn kp) V D (k0_pay4 (iblk m c 1 t) (iblk m c 3 t)) (View.ld (iblk m c 4 t) (Rect.unit ![0, 0] ![512, 128] inb_S2048x128_S512x128_0_0)) (View.ld (iblk m c 5 t) (Rect.unit ![0, 0] ![512, 128] inb_S2048x128_S512x128_0_0)) (View.ld (iblk m c 6 t) (Rect.unit ![0, 0] ![512, 128] inb_S2048x128_S512x128_0_0)) (View.ld (iblk m c 7 t) (Rect.unit ![0, 0] ![512, 128] inb_S2048x128_S512x128_0_0)) (View.ld (iblk m c 0 t) (Rect.unit ![0, 0, 0] ![1, 512, 128] inb_S1x2048x256_S1x512x128_0_0_0)) (View.ld (iblk m c 0 t) (Rect.unit ![0, 0, 128] ![1, 512, 128] inb_S1x2048x256_S1x512x128_0_0_128)) (View.ld (iblk m c 2 t) (Rect.unit ![0, 0, 0] ![1, 512, 128] inb_S1x2048x128_S1x512x128_0_0_0))
      (keys kn kp m c t h1 h3) (c0 C m c t h4) (a0 A m c t h5) (b0 B m c t h6) (d0 D m c t h7) (n0 X m c t h0) (x0 X m c t h0) (v0 V m c t h2) _)
  have e1 := right (Qr X C A B) (Kc kn kp) V D 0 512 rfl le0 l0 (ms0_9 t).view inb_S1x2048x256_S1x512x128_0_0_128 _
    (AttnPay.B0.dv X C A B (Kc kn kp) D (k0_pay4 (iblk m c 1 t) (iblk m c 3 t)) (View.ld (iblk m c 4 t) (Rect.unit ![0, 0] ![512, 128] inb_S2048x128_S512x128_0_0)) (View.ld (iblk m c 5 t) (Rect.unit ![0, 0] ![512, 128] inb_S2048x128_S512x128_0_0)) (View.ld (iblk m c 6 t) (Rect.unit ![0, 0] ![512, 128] inb_S2048x128_S512x128_0_0)) (View.ld (iblk m c 7 t) (Rect.unit ![0, 0] ![512, 128] inb_S2048x128_S512x128_0_0)) (View.ld (iblk m c 0 t) (Rect.unit ![0, 0, 0] ![1, 512, 128] inb_S1x2048x256_S1x512x128_0_0_0)) (View.ld (iblk m c 0 t) (Rect.unit ![0, 0, 128] ![1, 512, 128] inb_S1x2048x256_S1x512x128_0_0_128))
      (keys kn kp m c t h1 h3) (c0 C m c t h4) (a0 A m c t h5) (b0 B m c t h6) (d0 D m c t h7) (n0 X m c t h0) (x0 X m c t h0) _)
  have l1 := left (Qr X C A B) (Kc kn kp) V D 512 1024 rfl le1 e1 (ms0_9 t).view inb_S1x2048x256_S1x1024x128_0_0_0 _
    (AttnPay.B1.dkl X C A B (Kc kn kp) V D (k0_pay4 (iblk m c 1 t) (iblk m c 3 t)) (View.ld (iblk m c 4 t) (Rect.unit ![512, 0] ![512, 128] inb_S2048x128_S512x128_512_0)) (View.ld (iblk m c 5 t) (Rect.unit ![512, 0] ![512, 128] inb_S2048x128_S512x128_512_0)) (View.ld (iblk m c 6 t) (Rect.unit ![512, 0] ![512, 128] inb_S2048x128_S512x128_512_0)) (View.ld (iblk m c 7 t) (Rect.unit ![512, 0] ![512, 128] inb_S2048x128_S512x128_512_0)) (View.ld (iblk m c 0 t) (Rect.unit ![0, 512, 0] ![1, 512, 128] inb_S1x2048x256_S1x512x128_0_512_0)) (View.ld (iblk m c 0 t) (Rect.unit ![0, 512, 128] ![1, 512, 128] inb_S1x2048x256_S1x512x128_0_512_128)) (View.ld (iblk m c 2 t) (Rect.unit ![0, 0, 0] ![1, 1024, 128] inb_S1x2048x128_S1x1024x128_0_0_0))
      (keys kn kp m c t h1 h3) (c1 C m c t h4) (a1 A m c t h5) (b1 B m c t h6) (d1 D m c t h7) (n1 X m c t h0) (x1 X m c t h0) (v1 V m c t h2) _)
  have e2 := right (Qr X C A B) (Kc kn kp) V D 512 1024 rfl le1 l1 (ms0_9 t).view inb_S1x2048x256_S1x1024x128_0_0_128 _
    (AttnPay.B1.dv X C A B (Kc kn kp) D (k0_pay4 (iblk m c 1 t) (iblk m c 3 t)) (View.ld (iblk m c 4 t) (Rect.unit ![512, 0] ![512, 128] inb_S2048x128_S512x128_512_0)) (View.ld (iblk m c 5 t) (Rect.unit ![512, 0] ![512, 128] inb_S2048x128_S512x128_512_0)) (View.ld (iblk m c 6 t) (Rect.unit ![512, 0] ![512, 128] inb_S2048x128_S512x128_512_0)) (View.ld (iblk m c 7 t) (Rect.unit ![512, 0] ![512, 128] inb_S2048x128_S512x128_512_0)) (View.ld (iblk m c 0 t) (Rect.unit ![0, 512, 0] ![1, 512, 128] inb_S1x2048x256_S1x512x128_0_512_0)) (View.ld (iblk m c 0 t) (Rect.unit ![0, 512, 128] ![1, 512, 128] inb_S1x2048x256_S1x512x128_0_512_128))
      (keys kn kp m c t h1 h3) (c1 C m c t h4) (a1 A m c t h5) (b1 B m c t h6) (d1 D m c t h7) (n1 X m c t h0) (x1 X m c t h0) _)
  have l2 := left (Qr X C A B) (Kc kn kp) V D 1024 1536 rfl le2 e2 (ms0_9 t).view inb_S1x2048x256_S1x1536x128_0_0_0 _
    (AttnPay.B2.dkl X C A B (Kc kn kp) V D (k0_pay4 (iblk m c 1 t) (iblk m c 3 t)) (View.ld (iblk m c 4 t) (Rect.unit ![1024, 0] ![512, 128] inb_S2048x128_S512x128_1024_0)) (View.ld (iblk m c 5 t) (Rect.unit ![1024, 0] ![512, 128] inb_S2048x128_S512x128_1024_0)) (View.ld (iblk m c 6 t) (Rect.unit ![1024, 0] ![512, 128] inb_S2048x128_S512x128_1024_0)) (View.ld (iblk m c 7 t) (Rect.unit ![1024, 0] ![512, 128] inb_S2048x128_S512x128_1024_0)) (View.ld (iblk m c 0 t) (Rect.unit ![0, 1024, 0] ![1, 512, 128] inb_S1x2048x256_S1x512x128_0_1024_0)) (View.ld (iblk m c 0 t) (Rect.unit ![0, 1024, 128] ![1, 512, 128] inb_S1x2048x256_S1x512x128_0_1024_128)) (View.ld (iblk m c 2 t) (Rect.unit ![0, 0, 0] ![1, 1536, 128] inb_S1x2048x128_S1x1536x128_0_0_0))
      (keys kn kp m c t h1 h3) (c2 C m c t h4) (a2 A m c t h5) (b2 B m c t h6) (d2 D m c t h7) (n2 X m c t h0) (x2 X m c t h0) (v2 V m c t h2) _)
  have e3 := right (Qr X C A B) (Kc kn kp) V D 1024 1536 rfl le2 l2 (ms0_9 t).view inb_S1x2048x256_S1x1536x128_0_0_128 _
    (AttnPay.B2.dv X C A B (Kc kn kp) D (k0_pay4 (iblk m c 1 t) (iblk m c 3 t)) (View.ld (iblk m c 4 t) (Rect.unit ![1024, 0] ![512, 128] inb_S2048x128_S512x128_1024_0)) (View.ld (iblk m c 5 t) (Rect.unit ![1024, 0] ![512, 128] inb_S2048x128_S512x128_1024_0)) (View.ld (iblk m c 6 t) (Rect.unit ![1024, 0] ![512, 128] inb_S2048x128_S512x128_1024_0)) (View.ld (iblk m c 7 t) (Rect.unit ![1024, 0] ![512, 128] inb_S2048x128_S512x128_1024_0)) (View.ld (iblk m c 0 t) (Rect.unit ![0, 1024, 0] ![1, 512, 128] inb_S1x2048x256_S1x512x128_0_1024_0)) (View.ld (iblk m c 0 t) (Rect.unit ![0, 1024, 128] ![1, 512, 128] inb_S1x2048x256_S1x512x128_0_1024_128))
      (keys kn kp m c t h1 h3) (c2 C m c t h4) (a2 A m c t h5) (b2 B m c t h6) (d2 D m c t h7) (n2 X m c t h0) (x2 X m c t h0) _)
  have l3 := left (Qr X C A B) (Kc kn kp) V D 1536 2048 rfl le3 e3 (ms0_9 t).view inb_S1x2048x256_S1x2048x128_0_0_0 _
    (AttnPay.B3.dkl X C A B (Kc kn kp) V D (k0_pay4 (iblk m c 1 t) (iblk m c 3 t)) (View.ld (iblk m c 4 t) (Rect.unit ![1536, 0] ![512, 128] inb_S2048x128_S512x128_1536_0)) (View.ld (iblk m c 5 t) (Rect.unit ![1536, 0] ![512, 128] inb_S2048x128_S512x128_1536_0)) (View.ld (iblk m c 6 t) (Rect.unit ![1536, 0] ![512, 128] inb_S2048x128_S512x128_1536_0)) (View.ld (iblk m c 7 t) (Rect.unit ![1536, 0] ![512, 128] inb_S2048x128_S512x128_1536_0)) (View.ld (iblk m c 0 t) (Rect.unit ![0, 1536, 0] ![1, 512, 128] inb_S1x2048x256_S1x512x128_0_1536_0)) (View.ld (iblk m c 0 t) (Rect.unit ![0, 1536, 128] ![1, 512, 128] inb_S1x2048x256_S1x512x128_0_1536_128)) (iblk m c 2 t)
      (keys kn kp m c t h1 h3) (c3 C m c t h4) (a3 A m c t h5) (b3 B m c t h6) (d3 D m c t h7) (n3 X m c t h0) (x3 X m c t h0) h2 _)
  have e4 := right (Qr X C A B) (Kc kn kp) V D 1536 2048 rfl le3 l3 (ms0_9 t).view inb_S1x2048x256_S1x2048x128_0_0_128 _
    (AttnPay.B3.dv X C A B (Kc kn kp) D (k0_pay4 (iblk m c 1 t) (iblk m c 3 t)) (View.ld (iblk m c 4 t) (Rect.unit ![1536, 0] ![512, 128] inb_S2048x128_S512x128_1536_0)) (View.ld (iblk m c 5 t) (Rect.unit ![1536, 0] ![512, 128] inb_S2048x128_S512x128_1536_0)) (View.ld (iblk m c 6 t) (Rect.unit ![1536, 0] ![512, 128] inb_S2048x128_S512x128_1536_0)) (View.ld (iblk m c 7 t) (Rect.unit ![1536, 0] ![512, 128] inb_S2048x128_S512x128_1536_0)) (View.ld (iblk m c 0 t) (Rect.unit ![0, 1536, 0] ![1, 512, 128] inb_S1x2048x256_S1x512x128_0_1536_0)) (View.ld (iblk m c 0 t) (Rect.unit ![0, 1536, 128] ![1, 512, 128] inb_S1x2048x256_S1x512x128_0_1536_128))
      (keys kn kp m c t h1 h3) (c3 C m c t h4) (a3 A m c t h5) (b3 B m c t h6) (d3 D m c t h7) (n3 X m c t h0) (x3 X m c t h0) _)
  exact e4.1

end AttnW9
-- ==== Proof.AttnW10.lean ====
module

public import proofs.«01_k».proof.Proof.AttnOut

/-!
The gradient of the shared keys that one head leaves.
-/

@[expose] public section

set_option maxRecDepth 16384
set_option maxHeartbeats 2000000

noncomputable section

namespace AttnW10

open Idealize.ShloMosaic Idealize.ShloMosaic.TcCoe Idealize.SL.Sem Finite AttnMath AttnPay AttnOut Cert.AttnIdeal Cert.AttnIdeal.Gen
open Idealize.ShloMosaic.Pipeline (Dat)

variable (X : Fin 2048 → Fin 256 → ℝ) (C A B : Fin 2048 → Fin 128 → ℝ) (kn kp : Fin 2048 → Fin 128 → ℝ) (V D : Fin 2048 → Fin 128 → ℝ)

variable (m : (ℓ : Loc nD τ sig) → Buf (Elt Ideal) ℓ) (c : Dev nD) (t : Fin cfg0.N)
  (h0 : ∀ r l, iblk m c 0 t (ix3 0 r l) = ((X r l : ℝ) : EReal)) (h1 : ∀ r l, iblk m c 1 t (ix3 0 r l) = ((kn r l : ℝ) : EReal))
  (h2 : ∀ r l, iblk m c 2 t (ix3 0 r l) = ((V r l : ℝ) : EReal)) (h3 : ∀ r l, iblk m c 3 t (ix2 r l) = ((kp r l : ℝ) : EReal))
  (h4 : ∀ r l, iblk m c 4 t (ix2 r l) = ((C r l : ℝ) : EReal)) (h5 : ∀ r l, iblk m c 5 t (ix2 r l) = ((A r l : ℝ) : EReal))
  (h6 : ∀ r l, iblk m c 6 t (ix2 r l) = ((B r l : ℝ) : EReal)) (h7 : ∀ r l, iblk m c 7 t (ix2 r l) = ((D r l : ℝ) : EReal))

include h0 h1 h2 h3 h4 h5 h6 h7 in
theorem w10 : (dats m 0 c).after 10 t = lift (kr (Qr X C A B) (Kc kn kp) V D 2048) := by
  rw [after0_10]
  frame_out
  have e0 := fill (n := 128) inb_S1x2048x128_S1x2048x128_0_0_0 (k0_pay3 (F := Ideal)) (kr (Qr X C A B) (Kc kn kp) V D 0) (fun j l => by
    pointwise [k0_pay3]
    simp [kr, Y])
  have e1 := shared (Qr X C A B) (Kc kn kp) V D 0 512 rfl le0 e0 (ms0_10 t).view inb_S1x2048x128_S1x512x128_0_0_0 _
    (AttnPay.B0.dkr X C A B (Kc kn kp) V D (k0_pay4 (iblk m c 1 t) (iblk m c 3 t)) (View.ld (iblk m c 4 t) (Rect.unit ![0, 0] ![512, 128] inb_S2048x128_S512x128_0_0)) (View.ld (iblk m c 5 t) (Rect.unit ![0, 0] ![512, 128] inb_S2048x128_S512x128_0_0)) (View.ld (iblk m c 6 t) (Rect.unit ![0, 0] ![512, 128] inb_S2048x128_S512x128_0_0)) (View.ld (iblk m c 7 t) (Rect.unit ![0, 0] ![512, 128] inb_S2048x128_S512x128_0_0)) (View.ld (iblk m c 0 t) (Rect.unit ![0, 0, 0] ![1, 512, 128] inb_S1x2048x256_S1x512x128_0_0_0)) (View.ld (iblk m c 0 t) (Rect.unit ![0, 0, 128] ![1, 512, 128] inb_S1x2048x256_S1x512x128_0_0_128)) (View.ld (iblk m c 2 t) (Rect.unit ![0, 0, 0] ![1, 512, 128] inb_S1x2048x128_S1x512x128_0_0_0))
      (keys kn kp m c t h1 h3) (c0 C m c t h4) (a0 A m c t h5) (b0 B m c t h6) (d0 D m c t h7) (n0 X m c t h0) (x0 X m c t h0) (v0 V m c t h2) _)
  have e2 := shared (Qr X C A B) (Kc kn kp) V D 512 1024 rfl le1 e1 (ms0_10 t).view inb_S1x2048x128_S1x1024x128_0_0_0 _
    (AttnPay.B1.dkr X C A B (Kc kn kp) V D (k0_pay4 (iblk m c 1 t) (iblk m c 3 t)) (View.ld (iblk m c 4 t) (Rect.unit ![512, 0] ![512, 128] inb_S2048x128_S512x128_512_0)) (View.ld (iblk m c 5 t) (Rect.unit ![512, 0] ![512, 128] inb_S2048x128_S512x128_512_0)) (View.ld (iblk m c 6 t) (Rect.unit ![512, 0] ![512, 128] inb_S2048x128_S512x128_512_0)) (View.ld (iblk m c 7 t) (Rect.unit ![512, 0] ![512, 128] inb_S2048x128_S512x128_512_0)) (View.ld (iblk m c 0 t) (Rect.unit ![0, 512, 0] ![1, 512, 128] inb_S1x2048x256_S1x512x128_0_512_0)) (View.ld (iblk m c 0 t) (Rect.unit ![0, 512, 128] ![1, 512, 128] inb_S1x2048x256_S1x512x128_0_512_128)) (View.ld (iblk m c 2 t) (Rect.unit ![0, 0, 0] ![1, 1024, 128] inb_S1x2048x128_S1x1024x128_0_0_0))
      (keys kn kp m c t h1 h3) (c1 C m c t h4) (a1 A m c t h5) (b1 B m c t h6) (d1 D m c t h7) (n1 X m c t h0) (x1 X m c t h0) (v1 V m c t h2) _)
  have e3 := shared (Qr X C A B) (Kc kn kp) V D 1024 1536 rfl le2 e2 (ms0_10 t).view inb_S1x2048x128_S1x1536x128_0_0_0 _
    (AttnPay.B2.dkr X C A B (Kc kn kp) V D (k0_pay4 (iblk m c 1 t) (iblk m c 3 t)) (View.ld (iblk m c 4 t) (Rect.unit ![1024, 0] ![512, 128] inb_S2048x128_S512x128_1024_0)) (View.ld (iblk m c 5 t) (Rect.unit ![1024, 0] ![512, 128] inb_S2048x128_S512x128_1024_0)) (View.ld (iblk m c 6 t) (Rect.unit ![1024, 0] ![512, 128] inb_S2048x128_S512x128_1024_0)) (View.ld (iblk m c 7 t) (Rect.unit ![1024, 0] ![512, 128] inb_S2048x128_S512x128_1024_0)) (View.ld (iblk m c 0 t) (Rect.unit ![0, 1024, 0] ![1, 512, 128] inb_S1x2048x256_S1x512x128_0_1024_0)) (View.ld (iblk m c 0 t) (Rect.unit ![0, 1024, 128] ![1, 512, 128] inb_S1x2048x256_S1x512x128_0_1024_128)) (View.ld (iblk m c 2 t) (Rect.unit ![0, 0, 0] ![1, 1536, 128] inb_S1x2048x128_S1x1536x128_0_0_0))
      (keys kn kp m c t h1 h3) (c2 C m c t h4) (a2 A m c t h5) (b2 B m c t h6) (d2 D m c t h7) (n2 X m c t h0) (x2 X m c t h0) (v2 V m c t h2) _)
  have e4 := shared (Qr X C A B) (Kc kn kp) V D 1536 2048 rfl le3 e3 (ms0_10 t).view inb_S1x2048x128_S1x2048x128_0_0_0 _
    (AttnPay.B3.dkr X C A B (Kc kn kp) V D (k0_pay4 (iblk m c 1 t) (iblk m c 3 t)) (View.ld (iblk m c 4 t) (Rect.unit ![1536, 0] ![512, 128] inb_S2048x128_S512x128_1536_0)) (View.ld (iblk m c 5 t) (Rect.unit ![1536, 0] ![512, 128] inb_S2048x128_S512x128_1536_0)) (View.ld (iblk m c 6 t) (Rect.unit ![1536, 0] ![512, 128] inb_S2048x128_S512x128_1536_0)) (View.ld (iblk m c 7 t) (Rect.unit ![1536, 0] ![512, 128] inb_S2048x128_S512x128_1536_0)) (View.ld (iblk m c 0 t) (Rect.unit ![0, 1536, 0] ![1, 512, 128] inb_S1x2048x256_S1x512x128_0_1536_0)) (View.ld (iblk m c 0 t) (Rect.unit ![0, 1536, 128] ![1, 512, 128] inb_S1x2048x256_S1x512x128_0_1536_128)) (iblk m c 2 t)
      (keys kn kp m c t h1 h3) (c3 C m c t h4) (a3 A m c t h5) (b3 B m c t h6) (d3 D m c t h7) (n3 X m c t h0) (x3 X m c t h0) h2 _)
  exact (View.canon_cons_unit_lit _ _ _ (by decide)).symm.trans e4.1

end AttnW10
-- ==== Proof.AttnFin.lean ====
module

public import proofs.«01_k».proof.Proof.AttnCat
public import proofs.«01_k».proof.Proof.AttnRef
public import proofs.«01_k».proof.Proof.AttnW8
public import proofs.«01_k».proof.Proof.AttnW9
public import proofs.«01_k».proof.Proof.AttnW10

/-!
The three arrays that the attention gradient's launch leaves are the reference's.
-/

@[expose] public section

set_option maxRecDepth 16384
set_option maxHeartbeats 1000000

noncomputable section

namespace AttnArr

open Idealize.ShloMosaic Idealize.ShloMosaic.TcCoe Idealize.SL.Sem Finite AttnMath AttnPay AttnOut
open Cert.AttnIdeal Cert.AttnIdeal.Gen

variable (m : (ℓ : Loc nD τ sig) → Buf (Elt Ideal) ℓ) (c : Dev nD) (t : Fin cfg0.N)

variable (q : Fin 2048 → Fin 8 → Fin 192 → ℝ) (kvs : Fin 2048 → Fin 8 → Fin 256 → ℝ) (kp : Fin 2048 → Fin 64 → ℝ) (co si : Fin 2048 → Fin 32 → ℝ)
  (dt : Fin 2048 → Fin 1024 → ℝ)
  (hq : ∀ r h l, A0 m c (ix3 r h l) = ((q r h l : ℝ) : EReal)) (hkv : ∀ r h l, A1 m c (ix3 r h l) = ((kvs r h l : ℝ) : EReal))
  (hkp : ∀ r l, A2 m c (ix2 r l) = ((kp r l : ℝ) : EReal)) (hdo : ∀ r l, A4 m c (ix2 r l) = ((dt r l : ℝ) : EReal))
  (hco : ∀ r k, Cert.AttnRefIdeal.Read.val_main_v22 (F := Ideal) (A3 m c) (ix2 r k) = ((co r k : ℝ) : EReal))
  (hsi : ∀ r k, Cert.AttnRefIdeal.Read.val_main_v23 (F := Ideal) (A3 m c) (ix2 r k) = ((si r k : ℝ) : EReal))

include hq in
theorem b0 (r : Fin 2048) (l : Fin 256) : iblk m c 0 t (ix3 0 r l) = ((AttnRef.X q (hd t) r l : ℝ) : EReal) := by
  show V m c main_v24 ((win0_0.blk t).view.emb (ix3 0 r l)) = _
  rw [emb0, V24, AttnRef.X]
  split_ifs with hl
  · exact hq _ _ _
  · exact EReal.coe_zero.symm

include hkv in
theorem b1 (r : Fin 2048) (l : Fin 128) : iblk m c 1 t (ix3 0 r l) = ((AttnRef.kn kvs (hd t) r l : ℝ) : EReal) := by
  show V m c main_v26 ((win0_1.blk t).view.emb (ix3 0 r l)) = _
  rw [emb1, V26]
  exact hkv _ _ _

include hkv in
theorem b2 (r : Fin 2048) (l : Fin 128) : iblk m c 2 t (ix3 0 r l) = ((AttnRef.V kvs (hd t) r l : ℝ) : EReal) := by
  show V m c main_v26 ((win0_2.blk t).view.emb (ix3 0 r l)) = _
  rw [emb2, V26]
  exact hkv _ _ _

include hkp in
theorem b3 (r : Fin 2048) (l : Fin 128) : iblk m c 3 t (ix2 r l) = ((AttnRef.Kp kp r l : ℝ) : EReal) := by
  show V m c main_v28 ((win0_3.blk t).view.emb (ix2 r l)) = _
  rw [emb3, V28, AttnRef.Kp]
  split_ifs with hl
  · exact hkp _ _
  · exact EReal.coe_zero.symm

include hco in
theorem b4 (r : Fin 2048) (l : Fin 128) : iblk m c 4 t (ix2 r l) = ((AttnRef.C co r l : ℝ) : EReal) := by
  show V m c main_v19 ((win0_4.blk t).view.emb (ix2 r l)) = _
  rw [emb4, V19, cat4, AttnRef.C]
  by_cases h1 : l.val < 32
  · simp only [h1, dite_true, hco]
  · by_cases h2 : l.val < 64
    · simp only [h1, h2, show l.val - 32 < 32 by omega, dite_true, dite_false, hco]
    · simp only [h1, h2, show ¬ l.val - 32 < 32 by omega, dite_false, zz_apply, dite_eq_ite, ite_self, EReal.coe_zero]

include hsi in
theorem b5 (r : Fin 2048) (l : Fin 128) : iblk m c 5 t (ix2 r l) = ((AttnRef.A si r l : ℝ) : EReal) := by
  show V m c main_v21 ((win0_5.blk t).view.emb (ix2 r l)) = _
  rw [emb5, V21, cat4, AttnRef.A]
  by_cases h1 : l.val < 32
  · simp only [h1, dite_true, EReal.coe_neg, ← hsi]
    rfl
  · simp only [h1, dite_false, zz_apply, dite_eq_ite, ite_self, EReal.coe_zero]

include hsi in
theorem b6 (r : Fin 2048) (l : Fin 128) : iblk m c 6 t (ix2 r l) = ((AttnRef.B si r l : ℝ) : EReal) := by
  show V m c main_v22 ((win0_6.blk t).view.emb (ix2 r l)) = _
  rw [emb6, V22, cat4, AttnRef.B]
  by_cases h1 : l.val < 32
  · simp only [h1, dite_true, if_true, zz_apply, EReal.coe_zero]
  · by_cases h2 : l.val < 64
    · simp only [h1, h2, show l.val - 32 < 32 by omega, dite_true, dite_false, if_false, hsi]
    · simp only [h1, h2, show ¬ l.val - 32 < 32 by omega, dite_false, if_false, zz_apply, dite_eq_ite, ite_self, EReal.coe_zero]

include hdo in
theorem b7 (r : Fin 2048) (l : Fin 128) : iblk m c 7 t (ix2 r l) = ((AttnRef.D dt (hd t) r l : ℝ) : EReal) := by
  show V m c main_arg4 ((win0_7.blk t).view.emb (ix2 r l)) = _
  rw [emb7, V_main_arg4]
  exact hdo _ _

include hq hkv hkp hdo hco hsi in
theorem final8 : (dats m 0 c).arrAt 8 cfg0.N = Cert.AttnRefIdeal.Read.val_main_v133 (F := Ideal) (A0 m c) (A1 m c) (A2 m c) (A3 m c) (A4 m c) := by
  refine (dats m 0 c).arrAt_eq_of_covers 8 _ (by decide +kernel) fun t hf y => ?_
  blk_simp
  rw [AttnW8.w8 _ _ _ _ _ _ _ _ m c t (b0 m c t q hq) (b1 m c t kvs hkv) (b2 m c t kvs hkv) (b3 m c t kp hkp) (b4 m c t co hco) (b5 m c t si hsi) (b6 m c t si hsi) (b7 m c t dt hdo)]
  obtain ⟨i, r, l, rfl⟩ : ∃ (i : Fin 1) (r : Fin 2048) (l : Fin 256), y = ix3 i r l := ⟨y 0, y 1, y 2, eq_ix3 y⟩
  obtain rfl : i = 0 := Subsingleton.elim _ _
  rw [emb8, AttnRef.ref133 q kvs kp co si dt (hd t) (A0 m c) (A1 m c) (A2 m c) (A3 m c) (A4 m c) hq hkv hkp hdo hco hsi]
  rfl

include hq hkv hkp hdo hco hsi in
theorem final9 : (dats m 0 c).arrAt 9 cfg0.N = Cert.AttnRefIdeal.Read.val_main_v134 (F := Ideal) (A0 m c) (A1 m c) (A2 m c) (A3 m c) (A4 m c) := by
  refine (dats m 0 c).arrAt_eq_of_covers 9 _ (by decide +kernel) fun t hf y => ?_
  blk_simp
  rw [AttnW9.w9 _ _ _ _ _ _ _ _ m c t (b0 m c t q hq) (b1 m c t kvs hkv) (b2 m c t kvs hkv) (b3 m c t kp hkp) (b4 m c t co hco) (b5 m c t si hsi) (b6 m c t si hsi) (b7 m c t dt hdo)]
  obtain ⟨i, r, l, rfl⟩ : ∃ (i : Fin 1) (r : Fin 2048) (l : Fin 256), y = ix3 i r l := ⟨y 0, y 1, y 2, eq_ix3 y⟩
  obtain rfl : i = 0 := Subsingleton.elim _ _
  rw [emb9, AttnRef.ref134 q kvs kp co si dt (hd t) (A0 m c) (A1 m c) (A2 m c) (A3 m c) (A4 m c) hq hkv hkp hdo hco hsi]
  rfl

include hq hkv hkp hdo hco hsi in
theorem final10 : (dats m 0 c).arrAt 10 cfg0.N = Cert.AttnRefIdeal.Read.val_main_v136 (F := Ideal) (A0 m c) (A1 m c) (A2 m c) (A3 m c) (A4 m c) := by
  refine (dats m 0 c).arrAt_eq_of_covers 10 _ (by decide +kernel) fun t hf y => ?_
  blk_simp
  rw [AttnW10.w10 _ _ _ _ _ _ _ _ m c t (b0 m c t q hq) (b1 m c t kvs hkv) (b2 m c t kvs hkv) (b3 m c t kp hkp) (b4 m c t co hco) (b5 m c t si hsi) (b6 m c t si hsi) (b7 m c t dt hdo)]
  obtain ⟨i, r, l, rfl⟩ : ∃ (i : Fin 1) (r : Fin 2048) (l : Fin 128), y = ix3 i r l := ⟨y 0, y 1, y 2, eq_ix3 y⟩
  obtain rfl : i = 0 := Subsingleton.elim _ _
  rw [emb10, AttnRef.ref136 q kvs kp co si dt (hd t) (A0 m c) (A1 m c) (A2 m c) (A3 m c) (A4 m c) hq hkv hkp hdo hco hsi]
  rfl

end AttnArr
-- ==== Proof.AttnClaim.lean ====
module

public import proofs.«01_k».proof.Defs
public import proofs.«01_k».proof.Proof.AttnFin
public import proofs.«01_k».proof.Proof.Gen.AttnIdeal.Value
public import proofs.«01_k».proof.Proof.Gen.AttnRefIdeal.Run
public import proofs.«01_k».proof.Proof.Gen.Pre_attn_finite
public import Idealize.ShloMosaic.Lib.Claim

/-!
The attention's gradient: kernel and reference end with the same three arrays.
-/

@[expose] public section

noncomputable section

namespace AttnClaim

open Idealize.ShloMosaic Idealize.ShloMosaic.TcCoe Idealize.SL.Sem Finite AttnArr

/-- What the precondition says of the argument arrays. -/
theorem pre_fin (x0 : (⟨Cert.AttnIdeal.S2048x8x192, .f32⟩ : BufTy).Contents (Elt Ideal)) (x1 : (⟨Cert.AttnIdeal.S2048x8x256, .f32⟩ : BufTy).Contents (Elt Ideal))
    (x2 : (⟨Cert.AttnIdeal.S2048x64, .f32⟩ : BufTy).Contents (Elt Ideal)) (x3 : (⟨Cert.AttnIdeal.S2048, .i32⟩ : BufTy).Contents (Elt Ideal))
    (x4 : (⟨Cert.AttnIdeal.S2048x1024, .f32⟩ : BufTy).Contents (Elt Ideal))
    (h : ∀ i, Cert.Pre_attn_finite.fn (F := Ideal) x0 x1 x2 x3 x4 i = 1#1) :
    (∀ i, IsR (x0 i)) ∧ (∀ i, IsR (x1 i)) ∧ (∀ i, IsR (x2 i)) ∧ ∀ i, IsR (x4 i) := by
  have e := h ix0
  have e1 := andi_left e
  have e2 := andi_left e1
  haveI : Subsingleton (Cert.Pre_attn_finite.S_).Idx := ⟨fun a b => funext fun i => i.elim0⟩
  exact ⟨fun i => all_finite _ _ _ _ _ _ (andi_left e2) _, fun i => all_finite _ _ _ _ _ _ (andi_right e2) _,
    fun i => all_finite _ _ _ _ _ _ (andi_right e1) _, fun i => all_finite _ _ _ _ _ _ (andi_right e) _⟩

/-- An entry that is real is its own real part. -/
theorem toReal_of {x : EReal} (h : IsR x) : x = ((x.toReal : ℝ) : EReal) := by
  obtain ⟨a, rfl⟩ := h
  rfl

theorem frame_ref : Cert.quiescent_AttnRefIdeal := fun m g _ =>
  (θ_run Cert.AttnRefIdeal.defs _ _).mono (fun r h => ⟨fun c => (h c).2.2.2, sem_eq_zero_of_no_sems (by decide) r.2⟩)
    (Cert.AttnRefIdeal.Value.run (F := Ideal) m g)

theorem algebraic : Cert.algebraic_AttnIdeal_AttnRefIdeal_pre_attn_finite := by
  intro m g m' g' hpre hagree
  refine ⟨fun c => Cert.AttnRefIdeal.Read.val_main_v133 (F := Ideal) (A0 m c) (A1 m c) (A2 m c) (A3 m c) (A4 m c),
    fun c => Cert.AttnRefIdeal.Read.val_main_v134 (F := Ideal) (A0 m c) (A1 m c) (A2 m c) (A3 m c) (A4 m c),
    fun c => Cert.AttnRefIdeal.Read.val_main_v136 (F := Ideal) (A0 m c) (A1 m c) (A2 m c) (A3 m c) (A4 m c), ?_, ?_⟩
  · refine (θ_run Cert.AttnIdeal.defs _ _).mono (fun r h c => ?_) (Cert.AttnIdeal.Value.run_blocks (F := Ideal) m g)
    obtain ⟨h8, h9, h10, h⟩ := h c
    obtain ⟨f0, f1, f2, f4⟩ := pre_fin _ _ _ _ _ (fun i => congrFun (hpre c) i)
    have hq := fun (r : Fin 2048) (h : Fin 8) (l : Fin 192) => toReal_of (f0 (ix3 r h l))
    have hkv := fun (r : Fin 2048) (h : Fin 8) (l : Fin 256) => toReal_of (f1 (ix3 r h l))
    have hkp := fun (r : Fin 2048) (l : Fin 64) => toReal_of (f2 (ix2 r l))
    have hdo := fun (r : Fin 2048) (l : Fin 1024) => toReal_of (f4 (ix2 r l))
    have hco := fun (r : Fin 2048) (k : Fin 32) => toReal_of (AttnRef.v22 (A3 m c) r k)
    have hsi := fun (r : Fin 2048) (k : Fin 32) => toReal_of (AttnRef.v23 (A3 m c) r k)
    exact ⟨h8.trans (final8 m c _ _ _ _ _ _ hq hkv hkp hdo hco hsi), h9.trans (final9 m c _ _ _ _ _ _ hq hkv hkp hdo hco hsi),
      h10.trans (final10 m c _ _ _ _ _ _ hq hkv hkp hdo hco hsi), h⟩
  · refine (θ_run Cert.AttnRefIdeal.defs _ _).mono (fun r h c => ?_) (Cert.AttnRefIdeal.Value.run (F := Ideal) m' g')
    obtain ⟨h8, h9, h10, h⟩ := h c
    obtain ⟨e0, e1, e2, e3, e4⟩ := hagree c
    refine ⟨h8.trans ?_, h9.trans ?_, h10.trans ?_, h⟩
    · rw [Cert.AttnRefIdeal.Read.val_main_v133_eq]
      simp only [StableHlo.launchContents_devRef, e0, e1, e2, e3, e4]
    · rw [Cert.AttnRefIdeal.Read.val_main_v134_eq]
      simp only [StableHlo.launchContents_devRef, e0, e1, e2, e3, e4]
    · rw [Cert.AttnRefIdeal.Read.val_main_v136_eq]
      simp only [StableHlo.launchContents_devRef, e0, e1, e2, e3, e4]

end AttnClaim
-- ==== Proof.UpDw.lean ====
module

public import proofs.«01_k».proof.Defs
public import proofs.«01_k».proof.Proof.Gen.UpDwIdeal.Value
public import proofs.«01_k».proof.Proof.Gen.UpDwRefIdeal.Read
public import Idealize.ShloMosaic.Lib.Pipeline.ValueKit.Point
public import Idealize.ShloMosaic.Lib.Claim

/-!
The gradient of the up projection's weights: `h`ᵀ times the gradient of the product, a chunk of the columns at a time.
-/

@[expose] public section

set_option maxRecDepth 16384

noncomputable section

namespace UpDw

open Idealize.ShloMosaic Idealize.ShloMosaic.TcCoe Idealize.SL.Sem

/-- The result, in the kernel's layout. -/
def G (X : (⟨2, ![2048, 2048]⟩ : Shape).Idx → EReal) (Y : (⟨2, ![2048, 11264]⟩ : Shape).Idx → EReal) (i : (⟨3, ![8, 2048, 1408]⟩ : Shape).Idx) : EReal :=
  ∑ t : Fin 2048, X (ix2 t (i 1)) * Y (ix2 t ⟨(i 0).val * 1408 + (i 2).val, by have := (i 0).isLt; have := (i 2).isLt; simp at *; omega⟩)

section
open Cert.UpDwIdeal Cert.UpDwIdeal.Gen
variable (m : (ℓ : Loc nD τ sig) → Buf (Elt Ideal) ℓ)

/-- The arguments on a device. -/
abbrev A0 (c : Dev nD) : (⟨2, ![2048, 2048]⟩ : Shape).Idx → EReal := m ((c : Thread nD τ).loc main_arg0)
abbrev A1 (c : Dev nD) : (⟨2, ![2048, 11264]⟩ : Shape).Idx → EReal := m ((c : Thread nD τ).loc main_arg1)

theorem out (x0 : Vec Ideal S2048x1024 .bf16) (x1 : Vec Ideal S1x1x2048x1408 .bf16) (a : Fin 1) (r : Fin 1024) (l : Fin 1408) :
    out0_2 (F := Ideal) x0 x1 (ix3 a r l) = ∑ t : Fin 2048, x0 (ix2 t r) * x1 (ix4 0 0 t l) := by
  unfold out0_2
  canon_tiles x h
  pointwise [k0_pay1]
  obtain rfl : r = x 1 := Fin.ext h1
  obtain rfl : l = x 2 := Fin.ext h2
  rfl

theorem idx0 : ∀ t : Fin cfg0.N, win0_0.index t = ![0, (grid0.coords t 1).val] := (by decide +kernel : ∀ t : Fin grid0.N, _)
theorem idx1 : ∀ t : Fin cfg0.N, win0_1.index t = ![(grid0.coords t 0).val % 4, (grid0.coords t 0).val / 4, 0, 0] := (by decide +kernel : ∀ t : Fin grid0.N, _)
theorem idx2 : ∀ t : Fin cfg0.N, win0_2.index t = ![(grid0.coords t 0).val, (grid0.coords t 1).val, 0] := (by decide +kernel : ∀ t : Fin grid0.N, _)

/-- The row of the block. -/
def row (t : Fin cfg0.N) (r : Fin 1024) : Fin 2048 := ⟨(grid0.coords t 1).val * 1024 + r.val, by
  have h0 : (grid0.coords t 1).val < 2 := (grid0.coords t 1).isLt
  omega⟩
/-- The chunk of the block. -/
def chunk (t : Fin cfg0.N) : Fin 8 := grid0.coords t 0

theorem blk0 (c : Dev nD) (t : Fin cfg0.N) (s : Fin 2048) (r : Fin 1024) :
    iblk m c 0 t (ix2 s r) = A0 m c (ix2 s (row t r)) := by
  blk_ext! [iblk, V, idx0 t, row]

theorem V3 (c : Dev nD) (a : Fin 4) (b : Fin 2) (s : Fin 2048) (x : Fin 1408) :
    V m c main_v3 (ix4 a b s x) = A1 m c (ix2 s ⟨(b.val * 4 + a.val) * 1408 + x.val, by omega⟩) := by
  entry_read
  pointwise
  exact congrArg (fun k => A1 m c (ix2 s k)) (Fin.ext (by show b.val * 5632 + a.val * 1408 + x.val = (b.val * 4 + a.val) * 1408 + x.val; omega))

theorem emb1 (t : Fin cfg0.N) (s : Fin 2048) (l : Fin 1408) :
    (win0_1.blk t).view.emb (ix4 0 0 s l) = ix4 (⟨(chunk t).val % 4, by omega⟩ : Fin 4) (⟨(chunk t).val / 4, by omega⟩ : Fin 2) s l := by
  blk_ext [idx1 t, chunk]

theorem emb2 (t : Fin cfg0.N) (a : Fin 1) (s : Fin 1024) (l : Fin 1408) :
    (win0_2.blk t).view.emb (ix3 a s l) = ix3 (chunk t) (row t s) l := by
  blk_ext [idx2 t, chunk, row]

theorem blk1 (c : Dev nD) (t : Fin cfg0.N) (s : Fin 2048) (l : Fin 1408) :
    iblk m c 1 t (ix4 0 0 s l) = A1 m c (ix2 s ⟨(chunk t).val * 1408 + l.val, by omega⟩) := by
  show V m c main_v3 ((win0_1.blk t).view.emb (ix4 0 0 s l)) = _
  rw [emb1, V3]
  exact congrArg (fun k => A1 m c (ix2 s k)) (Fin.ext (by
    show ((chunk t).val / 4 * 4 + (chunk t).val % 4) * 1408 + l.val = (chunk t).val * 1408 + l.val
    omega))

theorem final (c : Dev nD) : (dats m 0 c).arrAt 2 cfg0.N
    = G (A0 m c) (A1 m c) := by
  refine (dats m 0 c).arrAt_eq_of_covers 2 _ (by decide +kernel) fun t hf y => ?_
  blk_simp
  rw [after0_2]
  obtain ⟨a, r, l, hy⟩ : ∃ (a : Fin 1) (r : Fin 1024) (l : Fin 1408), y = ix3 a r l := ⟨y 0, y 1, y 2, eq_ix3 y⟩
  rw [hy, out, emb2]
  simp only [blk0, blk1]
  rfl
end

section
open Cert.UpDwRefIdeal Cert.UpDwRefIdeal.Gen Cert.UpDwRefIdeal.Read
theorem ref (x0 : (⟨S2048x2048, .f32⟩ : BufTy).Contents (Elt Ideal)) (x1 : (⟨S2048x11264, .f32⟩ : BufTy).Contents (Elt Ideal)) :
    val_main_v6 (F := Ideal) x0 x1 = G x0 x1 := by
  funext i
  rw [eq_ix3 i]
  pointwise [val_main_v6, val_main_v5, val_main_v4, val_main_v3, val_main_v2]
  simp only [G, mul_comm]
end

theorem frame_ref : Cert.quiescent_UpDwRefIdeal := fun m g _ =>
  (θ_run Cert.UpDwRefIdeal.defs _ _).mono (fun r h => ⟨fun c => (h c).2, sem_eq_zero_of_no_sems (by decide) r.2⟩)
    (Cert.UpDwRefIdeal.Value.run (F := Ideal) m g)

theorem algebraic : Cert.algebraic_UpDwIdeal_UpDwRefIdeal := by
  intro m g m' g' _ hagree
  refine ⟨fun c => G (A0 m c) (A1 m c), ?_, ?_⟩
  · exact (θ_run Cert.UpDwIdeal.defs _ _).mono (fun r h c => ⟨(h c).1.trans (final m c), (h c).2⟩)
      (Cert.UpDwIdeal.Value.run_blocks (F := Ideal) m g)
  · refine (θ_run Cert.UpDwRefIdeal.defs _ _).mono (fun r h c => ⟨(h c).1.trans ?_, (h c).2⟩)
      (Cert.UpDwRefIdeal.Value.run (F := Ideal) m' g')
    rw [Cert.UpDwRefIdeal.Read.val_main_v6_eq, ref, (hagree c).1, (hagree c).2]
end UpDw
-- ==== Proof.UpDx.lean ====
module

public import proofs.«01_k».proof.Defs
public import proofs.«01_k».proof.Proof.Gen.UpDxIdeal.Value
public import proofs.«01_k».proof.Proof.Gen.UpDxRefIdeal.Read
public import Idealize.ShloMosaic.Lib.Pipeline.ValueKit.Point
public import Idealize.ShloMosaic.Lib.Pipeline.ValueKit.Acc
public import Idealize.ShloMosaic.Lib.Claim

/-!
The gradient of `h` through the up projection: the gradient of the product times `w`ᵀ, summed a chunk of the columns at a time.
-/

@[expose] public section

set_option maxRecDepth 16384

noncomputable section

namespace UpDx

open Idealize.ShloMosaic Idealize.ShloMosaic.TcCoe Idealize.SL.Sem Idealize.ShloMosaic.Pipeline

/-- The product. -/
def G (X : (⟨2, ![2048, 11264]⟩ : Shape).Idx → EReal) (Y : (⟨2, ![2048, 11264]⟩ : Shape).Idx → EReal)
    (i : (⟨2, ![2048, 2048]⟩ : Shape).Idx) : EReal :=
  ∑ k : Fin 11264, X (ix2 (i 0) k) * Y (ix2 (i 1) k)

section
open Cert.UpDxIdeal Cert.UpDxIdeal.Gen
variable (m : (ℓ : Loc nD τ sig) → Buf (Elt Ideal) ℓ)

/-- The arguments on a device. -/
abbrev A0 (c : Dev nD) : (⟨2, ![2048, 11264]⟩ : Shape).Idx → EReal := m ((c : Thread nD τ).loc main_arg0)
abbrev A1 (c : Dev nD) : (⟨2, ![2048, 11264]⟩ : Shape).Idx → EReal := m ((c : Thread nD τ).loc main_arg1)

/-- What one grid point adds. -/
def part (x0 : Vec Ideal S1x1x1024x1408 .bf16) (x1 : Vec Ideal S1x1024x1408 .bf16) (i : (⟨2, ![1024, 1024]⟩ : Shape).Idx) : EReal :=
  ∑ k : Fin 1408, x0 (ix4 0 0 (i 0) k) * x1 (ix3 0 (i 1) k)

theorem scA (c : Dev nD) (t : Fin cfg0.N) (h0 : t.val % 8 = 0) (i : (⟨2, ![1024, 1024]⟩ : Shape).Idx) :
    (outsAt0 m c t.val t.isLt).2 i = 0 + part (iblk m c 0 t) (iblk m c 1 t) i := by
  have hN : t.val < 32 := lt_of_lt_of_eq t.isLt N_0
  rw [outsAt0_A m c t h0 (by omega) (by omega), zero_add]
  frame_out
  rw [eq_ix2 i]
  pointwise [k0_pay2, k0_pay1]
  rfl

theorem scBC (c : Dev nD) (t : Fin cfg0.N) (h0 : ¬t.val % 8 = 0) (i : (⟨2, ![1024, 1024]⟩ : Shape).Idx) :
    (outsAt0 m c t.val t.isLt).2 i
      = (outsAt0 m c (t.val - 1) (Nat.lt_of_le_of_lt (Nat.sub_le _ _) t.isLt)).2 i + part (iblk m c 0 t) (iblk m c 1 t) i := by
  by_cases h2 : t.val % 8 = 7
  · rw [outsAt0_C m c t h0 (by omega) h2]
    frame_out
    rw [eq_ix2 i]
    pointwise [k0_pay3, k0_pay1]
    exact congrArg (· + _) (congrFun (Memref.IsWhole.read_unread _ _) i)
  · rw [outsAt0_B m c t h0 (by omega) h2]
    frame_out
    rw [eq_ix2 i]
    pointwise [k0_pay3, k0_pay1]
    exact congrArg (· + _) (congrFun (Memref.IsWhole.read_unread _ _) i)

theorem outC (c : Dev nD) (t : Fin cfg0.N) (h2 : t.val % 8 = 7) : (outsAt0 m c t.val t.isLt).1 = (outsAt0 m c t.val t.isLt).2 := by
  rw [outsAt0_C m c t (by omega) (by omega) h2]
  frame_out

theorem sum_parts (c : Dev nD) (t : Fin cfg0.N) (h2 : t.val % 8 = 7) (i : (⟨2, ![1024, 1024]⟩ : Shape).Idx) :
    (outsAt0 m c t.val t.isLt).2 i = ∑ s : Fin 8, part (iblk m c 0 ⟨8 * (t.val / 8) + s.val, run_point_lt_of_flush t h2 s⟩)
      (iblk m c 1 ⟨8 * (t.val / 8) + s.val, run_point_lt_of_flush t h2 s⟩) i :=
  (eq_sum_fin_of_reset_step_apply_of_flush (fun n h => (outsAt0 m c n h).2) 8 (fun _ => 0)
    (fun p => part (iblk m c 0 p) (iblk m c 1 p)) (scA m c) (scBC m c) t h2 i).trans (zero_add _)

theorem idx0 : ∀ t : Fin cfg0.N, win0_0.index t = ![t.val % 8 % 4, t.val % 8 / 4, t.val / 16, 0] := (by decide +kernel : ∀ t : Fin grid0.N, _)
theorem idx1 : ∀ t : Fin cfg0.N, win0_1.index t = ![t.val % 8, t.val / 8 % 2, 0] := (by decide +kernel : ∀ t : Fin grid0.N, _)
theorem idx2 : ∀ t : Fin cfg0.N, win0_2.index t = ![t.val / 16, t.val / 8 % 2] := (by decide +kernel : ∀ t : Fin grid0.N, _)

/-- The row and the column of the block's entry, and the block's chunk of the contracted columns. -/
def row (t : Fin cfg0.N) (r : Fin 1024) : Fin 2048 := ⟨t.val / 16 * 1024 + r.val, by have := lt_of_lt_of_eq t.isLt N_0; omega⟩
def col (t : Fin cfg0.N) (r : Fin 1024) : Fin 2048 := ⟨t.val / 8 % 2 * 1024 + r.val, by omega⟩
def chunk (t : Fin cfg0.N) : Fin 8 := ⟨t.val % 8, by omega⟩

theorem V2 (c : Dev nD) (a : Fin 4) (b : Fin 2) (s : Fin 2048) (x : Fin 1408) :
    V m c main_v2 (ix4 a b s x) = A0 m c (ix2 s ⟨(b.val * 4 + a.val) * 1408 + x.val, by omega⟩) := by
  entry_read
  pointwise
  exact congrArg (fun k => A0 m c (ix2 s k)) (Fin.ext (by show b.val * 5632 + a.val * 1408 + x.val = (b.val * 4 + a.val) * 1408 + x.val; omega))

theorem V5 (c : Dev nD) (a : Fin 8) (s : Fin 2048) (x : Fin 1408) :
    V m c main_v5 (ix3 a s x) = A1 m c (ix2 s ⟨a.val * 1408 + x.val, by omega⟩) := by
  entry_read
  pointwise

theorem emb0 (t : Fin cfg0.N) (s : Fin 1024) (l : Fin 1408) :
    (win0_0.blk t).view.emb (ix4 0 0 s l) = ix4 (⟨(chunk t).val % 4, by omega⟩ : Fin 4) (⟨(chunk t).val / 4, by omega⟩ : Fin 2) (row t s) l := by
  blk_ext [idx0 t, chunk, row]

theorem emb1 (t : Fin cfg0.N) (s : Fin 1024) (l : Fin 1408) : (win0_1.blk t).view.emb (ix3 0 s l) = ix3 (chunk t) (col t s) l := by
  blk_ext [idx1 t, chunk, col]

theorem emb2 (t : Fin cfg0.N) (r : Fin 1024) (l : Fin 1024) : (win0_2.blk t).view.emb (ix2 r l) = ix2 (row t r) (col t l) := by
  blk_ext [idx2 t, row, col]

theorem blk0 (c : Dev nD) (t : Fin cfg0.N) (s : Fin 1024) (l : Fin 1408) :
    iblk m c 0 t (ix4 0 0 s l) = A0 m c (ix2 (row t s) ⟨(chunk t).val * 1408 + l.val, by omega⟩) := by
  show V m c main_v2 ((win0_0.blk t).view.emb (ix4 0 0 s l)) = _
  rw [emb0, V2]
  exact congrArg (fun k => A0 m c (ix2 (row t s) k)) (Fin.ext (by
    show ((chunk t).val / 4 * 4 + (chunk t).val % 4) * 1408 + l.val = (chunk t).val * 1408 + l.val; omega))

theorem blk1 (c : Dev nD) (t : Fin cfg0.N) (s : Fin 1024) (l : Fin 1408) :
    iblk m c 1 t (ix3 0 s l) = A1 m c (ix2 (col t s) ⟨(chunk t).val * 1408 + l.val, by omega⟩) := by
  show V m c main_v5 ((win0_1.blk t).view.emb (ix3 0 s l)) = _
  rw [emb1, V5]

theorem whole (c : Dev nD) (t : Fin cfg0.N) (h2 : t.val % 8 = 7) (r l : Fin 1024) :
    ∑ s : Fin 8, part (iblk m c 0 ⟨8 * (t.val / 8) + s.val, run_point_lt_of_flush t h2 s⟩)
      (iblk m c 1 ⟨8 * (t.val / 8) + s.val, run_point_lt_of_flush t h2 s⟩) (ix2 r l) = G (A0 m c) (A1 m c) (ix2 (row t r) (col t l)) := by
  refine Fin.sum_mul_add_congr (n := 1408) fun s k hl => ?_
  refine (congrArg₂ (fun a b : EReal => a * b) (blk0 m c _ r k) (blk1 m c _ l k)).trans ?_
  have e : (chunk ⟨8 * (t.val / 8) + s.val, run_point_lt_of_flush t h2 s⟩).val = s.val := by
    show (8 * (t.val / 8) + s.val) % 8 = s.val
    omega
  have er : row ⟨8 * (t.val / 8) + s.val, run_point_lt_of_flush t h2 s⟩ r = row t r :=
    Fin.ext (by show (8 * (t.val / 8) + s.val) / 16 * 1024 + r.val = t.val / 16 * 1024 + r.val; omega)
  have ec : col ⟨8 * (t.val / 8) + s.val, run_point_lt_of_flush t h2 s⟩ l = col t l :=
    Fin.ext (by show (8 * (t.val / 8) + s.val) / 8 % 2 * 1024 + l.val = t.val / 8 % 2 * 1024 + l.val; omega)
  simp only [e, er, ec]
  rfl

theorem final (c : Dev nD) : (dats m 0 c).arrAt 2 cfg0.N = G (A0 m c) (A1 m c) := by
  refine (dats m 0 c).arrAt_eq_of_covers 2 _ (by decide +kernel) fun t hf y => ?_
  have h2 : t.val % 8 = 7 := (flush0_2 t).mp hf
  blk_simp
  rw [after0_2, outC m c t h2]
  obtain ⟨r, l, hy⟩ : ∃ (r : Fin 1024) (l : Fin 1024), y = ix2 r l := ⟨y 0, y 1, eq_ix2 y⟩
  rw [hy, emb2, sum_parts m c t h2]
  exact whole m c t h2 r l
end

section
open Cert.UpDxRefIdeal Cert.UpDxRefIdeal.Gen Cert.UpDxRefIdeal.Read
theorem ref (x0 : (⟨S2048x11264, .f32⟩ : BufTy).Contents (Elt Ideal)) (x1 : (⟨S2048x11264, .f32⟩ : BufTy).Contents (Elt Ideal)) :
    val_main_v2 (F := Ideal) x0 x1 = G x0 x1 := by
  funext i
  rw [eq_ix2 i]
  pointwise [val_main_v2, val_main_v1, val_main_v0]
  simp only [G]
end

theorem frame_ref : Cert.quiescent_UpDxRefIdeal := fun m g _ =>
  (θ_run Cert.UpDxRefIdeal.defs _ _).mono (fun r h => ⟨fun c => (h c).2, sem_eq_zero_of_no_sems (by decide) r.2⟩)
    (Cert.UpDxRefIdeal.Value.run (F := Ideal) m g)

theorem algebraic : Cert.algebraic_UpDxIdeal_UpDxRefIdeal := by
  intro m g m' g' _ hagree
  refine ⟨fun c => G (A0 m c) (A1 m c), ?_, ?_⟩
  · exact (θ_run Cert.UpDxIdeal.defs _ _).mono (fun r h c => ⟨(h c).1.trans (final m c), (h c).2⟩)
      (Cert.UpDxIdeal.Value.run_blocks (F := Ideal) m g)
  · refine (θ_run Cert.UpDxRefIdeal.defs _ _).mono (fun r h c => ⟨(h c).1.trans ?_, (h c).2⟩)
      (Cert.UpDxRefIdeal.Value.run (F := Ideal) m' g')
    rw [Cert.UpDxRefIdeal.Read.val_main_v2_eq, ref, (hagree c).1, (hagree c).2]

end UpDx
-- ==== Proof.DownDx.lean ====
module

public import proofs.«01_k».proof.Defs
public import proofs.«01_k».proof.Proof.Gen.DownDxIdeal.Value
public import proofs.«01_k».proof.Proof.Gen.DownDxRefIdeal.Read
public import Idealize.ShloMosaic.Lib.Pipeline.ValueKit.Point
public import Idealize.ShloMosaic.Lib.Claim

/-!
The gradient of the gated product `m` through the down projection: the gradient of the result times `w`ᵀ.
-/

@[expose] public section

set_option maxRecDepth 16384

noncomputable section

namespace DownDx

open Idealize.ShloMosaic Idealize.ShloMosaic.TcCoe Idealize.SL.Sem

/-- The product. -/
def G (X : (⟨2, ![2048, 2048]⟩ : Shape).Idx → EReal) (Y : (⟨2, ![5632, 2048]⟩ : Shape).Idx → EReal)
    (i : (⟨2, ![2048, 5632]⟩ : Shape).Idx) : EReal :=
  ∑ t : Fin 2048, X (ix2 (i 0) t) * Y (ix2 (i 1) t)

section
open Cert.DownDxIdeal Cert.DownDxIdeal.Gen
variable (m : (ℓ : Loc nD τ sig) → Buf (Elt Ideal) ℓ)

/-- The arguments on a device. -/
abbrev A0 (c : Dev nD) : (⟨2, ![2048, 2048]⟩ : Shape).Idx → EReal := m ((c : Thread nD τ).loc main_arg0)
abbrev A1 (c : Dev nD) : (⟨2, ![5632, 2048]⟩ : Shape).Idx → EReal := m ((c : Thread nD τ).loc main_arg1)

theorem out (x0 : Vec Ideal S1024x2048 .bf16) (x1 : Vec Ideal S1408x2048 .bf16) (r : Fin 1024) (l : Fin 1408) :
    out0_2 (F := Ideal) x0 x1 (ix2 r l) = ∑ t : Fin 2048, x0 (ix2 r t) * x1 (ix2 l t) := by
  unfold out0_2
  canon_tiles x h
  pointwise [k0_pay1]
  obtain rfl : r = x 0 := Fin.ext h0
  obtain rfl : l = x 1 := Fin.ext h1
  rfl

theorem idx0 : ∀ t : Fin cfg0.N, win0_0.index t = ![(grid0.coords t 0).val, 0] := (by decide +kernel : ∀ t : Fin grid0.N, _)
theorem idx1 : ∀ t : Fin cfg0.N, win0_1.index t = ![(grid0.coords t 1).val, 0] := (by decide +kernel : ∀ t : Fin grid0.N, _)
theorem idx2 : ∀ t : Fin cfg0.N, win0_2.index t = ![(grid0.coords t 0).val, (grid0.coords t 1).val] :=
  (by decide +kernel : ∀ t : Fin grid0.N, _)

/-- The row and the column of the block's entry. -/
def row (t : Fin cfg0.N) (r : Fin 1024) : Fin 2048 := ⟨(grid0.coords t 0).val * 1024 + r.val, by
  have h0 : (grid0.coords t 0).val < 2 := (grid0.coords t 0).isLt
  omega⟩
def col (t : Fin cfg0.N) (r : Fin 1408) : Fin 5632 := ⟨(grid0.coords t 1).val * 1408 + r.val, by
  have h0 : (grid0.coords t 1).val < 4 := (grid0.coords t 1).isLt
  omega⟩

theorem blk0 (c : Dev nD) (t : Fin cfg0.N) (s : Fin 2048) (r : Fin 1024) :
    iblk m c 0 t (ix2 r s) = A0 m c (ix2 (row t r) s) := by
  blk_ext! [iblk, V, idx0 t, row]

theorem blk1 (c : Dev nD) (t : Fin cfg0.N) (s : Fin 2048) (l : Fin 1408) :
    iblk m c 1 t (ix2 l s) = A1 m c (ix2 (col t l) s) := by
  blk_ext! [iblk, V, idx1 t, col]

theorem emb2 (t : Fin cfg0.N) (r : Fin 1024) (l : Fin 1408) : (win0_2.blk t).view.emb (ix2 r l) = ix2 (row t r) (col t l) := by
  blk_ext [idx2 t, row, col]

theorem final (c : Dev nD) : (dats m 0 c).arrAt 2 cfg0.N = G (A0 m c) (A1 m c) := by
  refine (dats m 0 c).arrAt_eq_of_covers 2 _ (by decide +kernel) fun t hf y => ?_
  blk_simp
  rw [after0_2]
  obtain ⟨r, l, hy⟩ : ∃ (r : Fin 1024) (l : Fin 1408), y = ix2 r l := ⟨y 0, y 1, eq_ix2 y⟩
  rw [hy, out, emb2]
  simp only [blk0, blk1]
  rfl
end

section
open Cert.DownDxRefIdeal Cert.DownDxRefIdeal.Gen Cert.DownDxRefIdeal.Read
theorem ref (x0 : (⟨S2048x2048, .f32⟩ : BufTy).Contents (Elt Ideal)) (x1 : (⟨S5632x2048, .f32⟩ : BufTy).Contents (Elt Ideal)) :
    val_main_v2 (F := Ideal) x0 x1 = G x0 x1 := by
  funext i
  rw [eq_ix2 i]
  pointwise [val_main_v2, val_main_v1, val_main_v0]
  simp only [G, mul_comm]
end

theorem frame_ref : Cert.quiescent_DownDxRefIdeal := fun m g _ =>
  (θ_run Cert.DownDxRefIdeal.defs _ _).mono (fun r h => ⟨fun c => (h c).2, sem_eq_zero_of_no_sems (by decide) r.2⟩)
    (Cert.DownDxRefIdeal.Value.run (F := Ideal) m g)

theorem algebraic : Cert.algebraic_DownDxIdeal_DownDxRefIdeal := by
  intro m g m' g' _ hagree
  refine ⟨fun c => G (A0 m c) (A1 m c), ?_, ?_⟩
  · exact (θ_run Cert.DownDxIdeal.defs _ _).mono (fun r h c => ⟨(h c).1.trans (final m c), (h c).2⟩)
      (Cert.DownDxIdeal.Value.run_blocks (F := Ideal) m g)
  · refine (θ_run Cert.DownDxRefIdeal.defs _ _).mono (fun r h c => ⟨(h c).1.trans ?_, (h c).2⟩)
      (Cert.DownDxRefIdeal.Value.run (F := Ideal) m' g')
    rw [Cert.DownDxRefIdeal.Read.val_main_v2_eq, ref, (hagree c).1, (hagree c).2]

end DownDx
-- ==== Proof.DownDw.lean ====
module

public import proofs.«01_k».proof.Defs
public import proofs.«01_k».proof.Proof.Gen.DownDwIdeal.Value
public import proofs.«01_k».proof.Proof.Gen.DownDwRefIdeal.Read
public import Idealize.ShloMosaic.Lib.Pipeline.ValueKit.Point
public import Idealize.ShloMosaic.Lib.Claim

/-!
The gradient of the down projection's weights: `m`ᵀ times the gradient of the result.
-/

@[expose] public section

set_option maxRecDepth 16384

noncomputable section

namespace DownDw

open Idealize.ShloMosaic Idealize.ShloMosaic.TcCoe Idealize.SL.Sem

/-- The product. -/
def G (X : (⟨2, ![2048, 5632]⟩ : Shape).Idx → EReal) (Y : (⟨2, ![2048, 2048]⟩ : Shape).Idx → EReal)
    (i : (⟨2, ![5632, 2048]⟩ : Shape).Idx) : EReal :=
  ∑ t : Fin 2048, X (ix2 t (i 0)) * Y (ix2 t (i 1))

section
open Cert.DownDwIdeal Cert.DownDwIdeal.Gen
variable (m : (ℓ : Loc nD τ sig) → Buf (Elt Ideal) ℓ)

/-- The arguments on a device. -/
abbrev A0 (c : Dev nD) : (⟨2, ![2048, 5632]⟩ : Shape).Idx → EReal := m ((c : Thread nD τ).loc main_arg0)
abbrev A1 (c : Dev nD) : (⟨2, ![2048, 2048]⟩ : Shape).Idx → EReal := m ((c : Thread nD τ).loc main_arg1)

theorem out (x0 : Vec Ideal S2048x1408 .bf16) (x1 : Vec Ideal S2048x1024 .bf16) (r : Fin 1408) (l : Fin 1024) :
    out0_2 (F := Ideal) x0 x1 (ix2 r l) = ∑ t : Fin 2048, x0 (ix2 t r) * x1 (ix2 t l) := by
  unfold out0_2
  canon_tiles x h
  pointwise [k0_pay1]
  obtain rfl : r = x 0 := Fin.ext h0
  obtain rfl : l = x 1 := Fin.ext h1
  rfl

theorem idx0 : ∀ t : Fin cfg0.N, win0_0.index t = ![0, (grid0.coords t 0).val] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![(grid0.coords t 0).val, (grid0.coords t 1).val] :=
  (by decide +kernel : ∀ t : Fin grid0.N, _)

/-- The row and the column of the block's entry. -/
def row (t : Fin cfg0.N) (r : Fin 1408) : Fin 5632 := ⟨(grid0.coords t 0).val * 1408 + r.val, by
  have h0 : (grid0.coords t 0).val < 4 := (grid0.coords t 0).isLt
  omega⟩
def col (t : Fin cfg0.N) (r : Fin 1024) : Fin 2048 := ⟨(grid0.coords t 1).val * 1024 + r.val, by
  have h0 : (grid0.coords t 1).val < 2 := (grid0.coords t 1).isLt
  omega⟩

theorem blk0 (c : Dev nD) (t : Fin cfg0.N) (s : Fin 2048) (r : Fin 1408) :
    iblk m c 0 t (ix2 s r) = A0 m c (ix2 s (row t r)) := by
  blk_ext! [iblk, V, idx0 t, row]

theorem blk1 (c : Dev nD) (t : Fin cfg0.N) (s : Fin 2048) (l : Fin 1024) :
    iblk m c 1 t (ix2 s l) = A1 m c (ix2 s (col t l)) := by
  blk_ext! [iblk, V, idx1 t, col]

theorem emb2 (t : Fin cfg0.N) (r : Fin 1408) (l : Fin 1024) : (win0_2.blk t).view.emb (ix2 r l) = ix2 (row t r) (col t l) := by
  blk_ext [idx2 t, row, col]

theorem final (c : Dev nD) : (dats m 0 c).arrAt 2 cfg0.N = G (A0 m c) (A1 m c) := by
  refine (dats m 0 c).arrAt_eq_of_covers 2 _ (by decide +kernel) fun t hf y => ?_
  blk_simp
  rw [after0_2]
  obtain ⟨r, l, hy⟩ : ∃ (r : Fin 1408) (l : Fin 1024), y = ix2 r l := ⟨y 0, y 1, eq_ix2 y⟩
  rw [hy, out, emb2]
  simp only [blk0, blk1]
  rfl
end

section
open Cert.DownDwRefIdeal Cert.DownDwRefIdeal.Gen Cert.DownDwRefIdeal.Read
theorem ref (x0 : (⟨S2048x5632, .f32⟩ : BufTy).Contents (Elt Ideal)) (x1 : (⟨S2048x2048, .f32⟩ : BufTy).Contents (Elt Ideal)) :
    val_main_v4 (F := Ideal) x0 x1 = G x0 x1 := by
  funext i
  rw [eq_ix2 i]
  pointwise [val_main_v4, val_main_v3, val_main_v2]
  simp only [G, mul_comm]
end

theorem frame_ref : Cert.quiescent_DownDwRefIdeal := fun m g _ =>
  (θ_run Cert.DownDwRefIdeal.defs _ _).mono (fun r h => ⟨fun c => (h c).2, sem_eq_zero_of_no_sems (by decide) r.2⟩)
    (Cert.DownDwRefIdeal.Value.run (F := Ideal) m g)

theorem algebraic : Cert.algebraic_DownDwIdeal_DownDwRefIdeal := by
  intro m g m' g' _ hagree
  refine ⟨fun c => G (A0 m c) (A1 m c), ?_, ?_⟩
  · exact (θ_run Cert.DownDwIdeal.defs _ _).mono (fun r h c => ⟨(h c).1.trans (final m c), (h c).2⟩)
      (Cert.DownDwIdeal.Value.run_blocks (F := Ideal) m g)
  · refine (θ_run Cert.DownDwRefIdeal.defs _ _).mono (fun r h c => ⟨(h c).1.trans ?_, (h c).2⟩)
      (Cert.DownDwRefIdeal.Value.run (F := Ideal) m' g')
    rw [Cert.DownDwRefIdeal.Read.val_main_v4_eq, ref, (hagree c).1, (hagree c).2]

end DownDw
-- ==== Proof.Up.lean ====
module

public import proofs.«01_k».proof.Defs
public import proofs.«01_k».proof.Proof.Gen.UpIdeal.Value
public import proofs.«01_k».proof.Proof.Gen.UpRefIdeal.Read
public import Idealize.ShloMosaic.Lib.Pipeline.ValueKit.Point
public import Idealize.ShloMosaic.Lib.Claim

/-!
The up projection, `h w`, a chunk of the columns at a time, the gate columns and the value columns apart.
-/

@[expose] public section

set_option maxRecDepth 16384

noncomputable section

namespace Up

open Idealize.ShloMosaic Idealize.ShloMosaic.TcCoe Idealize.SL.Sem

/-- The column of an entry of the result. -/
def colOf (a : Fin 4) (b : Fin 2) (l : Fin 1408) : Fin 11264 := ⟨(b.val * 4 + a.val) * 1408 + l.val, by omega⟩

/-- The product, in the kernel's layout. -/
def G (X : (⟨2, ![2048, 2048]⟩ : Shape).Idx → EReal) (Y : (⟨2, ![2048, 11264]⟩ : Shape).Idx → EReal)
    (i : (⟨4, ![4, 2, 2048, 1408]⟩ : Shape).Idx) : EReal :=
  ∑ t : Fin 2048, X (ix2 (i 2) t) * Y (ix2 t (colOf (i 0) (i 1) (i 3)))

section
open Cert.UpIdeal Cert.UpIdeal.Gen
variable (m : (ℓ : Loc nD τ sig) → Buf (Elt Ideal) ℓ)

/-- The arguments on a device. -/
abbrev A0 (c : Dev nD) : (⟨2, ![2048, 2048]⟩ : Shape).Idx → EReal := m ((c : Thread nD τ).loc main_arg0)
abbrev A1 (c : Dev nD) : (⟨2, ![2048, 11264]⟩ : Shape).Idx → EReal := m ((c : Thread nD τ).loc main_arg1)

theorem out (x0 : Vec Ideal S1024x2048 .bf16) (x1 : Vec Ideal S1x2048x1408 .bf16) (a b : Fin 1) (r : Fin 1024) (l : Fin 1408) :
    out0_2 (F := Ideal) x0 x1 (ix4 a b r l) = ∑ t : Fin 2048, x0 (ix2 r t) * x1 (ix3 0 t l) := by
  unfold out0_2
  canon_tiles x h
  pointwise [k0_pay1]
  obtain rfl : r = x 2 := Fin.ext h2
  obtain rfl : l = x 3 := Fin.ext h3
  rfl

theorem idx0 : ∀ t : Fin cfg0.N, win0_0.index t = ![(grid0.coords t 1).val, 0] := (by decide +kernel : ∀ t : Fin grid0.N, _)
theorem idx1 : ∀ t : Fin cfg0.N, win0_1.index t = ![(grid0.coords t 0).val, 0, 0] := (by decide +kernel : ∀ t : Fin grid0.N, _)
theorem idx2 : ∀ t : Fin cfg0.N, win0_2.index t = ![(grid0.coords t 0).val % 4, (grid0.coords t 0).val / 4, (grid0.coords t 1).val, 0] :=
  (by decide +kernel : ∀ t : Fin grid0.N, _)

/-- The row of the block's entry, and the block's chunk of the columns. -/
def row (t : Fin cfg0.N) (r : Fin 1024) : Fin 2048 := ⟨(grid0.coords t 1).val * 1024 + r.val, by
  have h0 : (grid0.coords t 1).val < 2 := (grid0.coords t 1).isLt
  omega⟩
def chunk (t : Fin cfg0.N) : Fin 8 := grid0.coords t 0

theorem blk0 (c : Dev nD) (t : Fin cfg0.N) (s : Fin 2048) (r : Fin 1024) :
    iblk m c 0 t (ix2 r s) = A0 m c (ix2 (row t r) s) := by
  blk_ext! [iblk, V, idx0 t, row]

theorem V3 (c : Dev nD) (a : Fin 8) (s : Fin 2048) (x : Fin 1408) :
    V m c main_v3 (ix3 a s x) = A1 m c (ix2 s ⟨a.val * 1408 + x.val, by omega⟩) := by
  entry_read
  pointwise

theorem emb1 (t : Fin cfg0.N) (s : Fin 2048) (l : Fin 1408) : (win0_1.blk t).view.emb (ix3 0 s l) = ix3 (chunk t) s l := by
  blk_ext [idx1 t, chunk]

theorem emb2 (t : Fin cfg0.N) (a b : Fin 1) (s : Fin 1024) (l : Fin 1408) :
    (win0_2.blk t).view.emb (ix4 a b s l) = ix4 (⟨(chunk t).val % 4, by omega⟩ : Fin 4) (⟨(chunk t).val / 4, by omega⟩ : Fin 2) (row t s) l := by
  blk_ext [idx2 t, chunk, row]

theorem col_chunk (t : Fin cfg0.N) (l : Fin 1408) :
    colOf (⟨(chunk t).val % 4, by omega⟩ : Fin 4) (⟨(chunk t).val / 4, by omega⟩ : Fin 2) l = ⟨(chunk t).val * 1408 + l.val, by omega⟩ :=
  Fin.ext (by show ((chunk t).val / 4 * 4 + (chunk t).val % 4) * 1408 + l.val = (chunk t).val * 1408 + l.val; omega)

theorem blk1 (c : Dev nD) (t : Fin cfg0.N) (s : Fin 2048) (l : Fin 1408) :
    iblk m c 1 t (ix3 0 s l) = A1 m c (ix2 s (colOf (⟨(chunk t).val % 4, by omega⟩ : Fin 4) (⟨(chunk t).val / 4, by omega⟩ : Fin 2) l)) := by
  show V m c main_v3 ((win0_1.blk t).view.emb (ix3 0 s l)) = _
  rw [emb1, V3, col_chunk]

theorem final (c : Dev nD) : (dats m 0 c).arrAt 2 cfg0.N = G (A0 m c) (A1 m c) := by
  refine (dats m 0 c).arrAt_eq_of_covers 2 _ (by decide +kernel) fun t hf y => ?_
  blk_simp
  rw [after0_2]
  obtain ⟨a, b, r, l, hy⟩ : ∃ (a b : Fin 1) (r : Fin 1024) (l : Fin 1408), y = ix4 a b r l := ⟨y 0, y 1, y 2, y 3, eq_ix4 y⟩
  rw [hy, out, emb2]
  simp only [blk0, blk1]
  rfl
end

section
open Cert.UpRefIdeal Cert.UpRefIdeal.Gen Cert.UpRefIdeal.Read
theorem ref (x0 : (⟨S2048x2048, .f32⟩ : BufTy).Contents (Elt Ideal)) (x1 : (⟨S2048x11264, .f32⟩ : BufTy).Contents (Elt Ideal)) :
    val_main_v2 (F := Ideal) x0 x1 = G x0 x1 := by
  funext i
  rw [eq_ix4 i]
  pointwise [val_main_v2, val_main_v1, val_main_v0]
  refine Finset.sum_congr rfl fun t _ => congrArg (x0 (ix2 (i 2) t) * ·) (congrArg (fun k => x1 (ix2 t k)) (Fin.ext ?_))
  show (i 1).val * 5632 + (i 0).val * 1408 + (i 3).val = ((i 1).val * 4 + (i 0).val) * 1408 + (i 3).val
  omega
end

theorem frame_ref : Cert.quiescent_UpRefIdeal := fun m g _ =>
  (θ_run Cert.UpRefIdeal.defs _ _).mono (fun r h => ⟨fun c => (h c).2, sem_eq_zero_of_no_sems (by decide) r.2⟩)
    (Cert.UpRefIdeal.Value.run (F := Ideal) m g)

theorem algebraic : Cert.algebraic_UpIdeal_UpRefIdeal := by
  intro m g m' g' _ hagree
  refine ⟨fun c => G (A0 m c) (A1 m c), ?_, ?_⟩
  · exact (θ_run Cert.UpIdeal.defs _ _).mono (fun r h c => ⟨(h c).1.trans (final m c), (h c).2⟩)
      (Cert.UpIdeal.Value.run_blocks (F := Ideal) m g)
  · refine (θ_run Cert.UpRefIdeal.defs _ _).mono (fun r h c => ⟨(h c).1.trans ?_, (h c).2⟩)
      (Cert.UpRefIdeal.Value.run (F := Ideal) m' g')
    rw [Cert.UpRefIdeal.Read.val_main_v2_eq, ref, (hagree c).1, (hagree c).2]

end Up
-- ==== Proof.Down.lean ====
module

public import proofs.«01_k».proof.Defs
public import proofs.«01_k».proof.Proof.Gen.DownIdeal.Value
public import proofs.«01_k».proof.Proof.Gen.DownRefIdeal.Read
public import Idealize.ShloMosaic.Lib.Pipeline.ValueKit.Point
public import Idealize.ShloMosaic.Lib.Claim

/-!
The down projection with its residual: `h + m w`.
-/

@[expose] public section

set_option maxRecDepth 16384

noncomputable section

namespace Down

open Idealize.ShloMosaic Idealize.ShloMosaic.TcCoe Idealize.SL.Sem

/-- The product. -/
def G (X : (⟨2, ![2048, 5632]⟩ : Shape).Idx → EReal) (Y : (⟨2, ![5632, 2048]⟩ : Shape).Idx → EReal) (Z : (⟨2, ![2048, 2048]⟩ : Shape).Idx → EReal)
    (i : (⟨2, ![2048, 2048]⟩ : Shape).Idx) : EReal :=
  ∑ t : Fin 5632, X (ix2 (i 0) t) * Y (ix2 t (i 1)) + Z (ix2 (i 0) (i 1))

section
open Cert.DownIdeal Cert.DownIdeal.Gen
variable (m : (ℓ : Loc nD τ sig) → Buf (Elt Ideal) ℓ)

/-- The arguments on a device. -/
abbrev A0 (c : Dev nD) : (⟨2, ![2048, 5632]⟩ : Shape).Idx → EReal := m ((c : Thread nD τ).loc main_arg0)
abbrev A1 (c : Dev nD) : (⟨2, ![5632, 2048]⟩ : Shape).Idx → EReal := m ((c : Thread nD τ).loc main_arg1)
abbrev A2 (c : Dev nD) : (⟨2, ![2048, 2048]⟩ : Shape).Idx → EReal := m ((c : Thread nD τ).loc main_arg2)

theorem out (x0 : Vec Ideal S512x5632 .bf16) (x1 : Vec Ideal S5632x512 .bf16) (x2 : Vec Ideal S512x512 .f32) (r : Fin 512) (l : Fin 512) :
    out0_3 (F := Ideal) x0 x1 x2 (ix2 r l) = ∑ t : Fin 5632, x0 (ix2 r t) * x1 (ix2 t l) + x2 (ix2 r l) := by
  unfold out0_3
  canon_tiles x h
  pointwise [k0_pay1]
  obtain rfl : r = x 0 := Fin.ext h0
  obtain rfl : l = x 1 := Fin.ext h1
  exact congrArg (fun k => _ + x2 k) (eq_ix2 x)

theorem idx0 : ∀ t : Fin cfg0.N, win0_0.index t = ![(grid0.coords t 0).val, 0] := (by decide +kernel : ∀ t : Fin grid0.N, _)
theorem idx1 : ∀ t : Fin cfg0.N, win0_1.index t = ![0, (grid0.coords t 1).val] := (by decide +kernel : ∀ t : Fin grid0.N, _)
theorem idx3 : ∀ t : Fin cfg0.N, win0_3.index t = ![(grid0.coords t 0).val, (grid0.coords t 1).val] :=
  (by decide +kernel : ∀ t : Fin grid0.N, _)
theorem idx2 : ∀ t : Fin cfg0.N, win0_2.index t = ![(grid0.coords t 0).val, (grid0.coords t 1).val] :=
  (by decide +kernel : ∀ t : Fin grid0.N, _)

/-- The row and the column of the block's entry. -/
def row (t : Fin cfg0.N) (r : Fin 512) : Fin 2048 := ⟨(grid0.coords t 0).val * 512 + r.val, by
  have h0 : (grid0.coords t 0).val < 4 := (grid0.coords t 0).isLt
  omega⟩
def col (t : Fin cfg0.N) (r : Fin 512) : Fin 2048 := ⟨(grid0.coords t 1).val * 512 + r.val, by
  have h0 : (grid0.coords t 1).val < 4 := (grid0.coords t 1).isLt
  omega⟩

theorem blk0 (c : Dev nD) (t : Fin cfg0.N) (s : Fin 5632) (r : Fin 512) :
    iblk m c 0 t (ix2 r s) = A0 m c (ix2 (row t r) s) := by
  blk_ext! [iblk, V, idx0 t, row]

theorem blk1 (c : Dev nD) (t : Fin cfg0.N) (s : Fin 5632) (l : Fin 512) :
    iblk m c 1 t (ix2 s l) = A1 m c (ix2 s (col t l)) := by
  blk_ext! [iblk, V, idx1 t, col]

theorem blk2 (c : Dev nD) (t : Fin cfg0.N) (r : Fin 512) (l : Fin 512) : iblk m c 2 t (ix2 r l) = A2 m c (ix2 (row t r) (col t l)) := by
  blk_ext! [iblk, V, idx2 t, row, col]

theorem emb3 (t : Fin cfg0.N) (r : Fin 512) (l : Fin 512) : (win0_3.blk t).view.emb (ix2 r l) = ix2 (row t r) (col t l) := by
  blk_ext [idx3 t, row, col]

theorem final (c : Dev nD) : (dats m 0 c).arrAt 3 cfg0.N = G (A0 m c) (A1 m c) (A2 m c) := by
  refine (dats m 0 c).arrAt_eq_of_covers 3 _ (by decide +kernel) fun t hf y => ?_
  blk_simp
  rw [after0_3]
  obtain ⟨r, l, hy⟩ : ∃ (r : Fin 512) (l : Fin 512), y = ix2 r l := ⟨y 0, y 1, eq_ix2 y⟩
  rw [hy, out, emb3]
  simp only [blk0, blk1, blk2]
  rfl
end

section
open Cert.DownRefIdeal Cert.DownRefIdeal.Gen Cert.DownRefIdeal.Read
theorem ref (x0 : (⟨S2048x5632, .f32⟩ : BufTy).Contents (Elt Ideal)) (x1 : (⟨S5632x2048, .f32⟩ : BufTy).Contents (Elt Ideal)) (x2 : (⟨S2048x2048, .f32⟩ : BufTy).Contents (Elt Ideal)) :
    val_main_v1 (F := Ideal) x0 x1 x2 = G x0 x1 x2 := by
  funext i
  rw [eq_ix2 i]
  pointwise [val_main_v1, val_main_v0]
  rw [add_comm]
  exact congrArg (fun k => _ + x2 k) (eq_ix2 i)
end

theorem frame_ref : Cert.quiescent_DownRefIdeal := fun m g _ =>
  (θ_run Cert.DownRefIdeal.defs _ _).mono (fun r h => ⟨fun c => (h c).2, sem_eq_zero_of_no_sems (by decide) r.2⟩)
    (Cert.DownRefIdeal.Value.run (F := Ideal) m g)

theorem algebraic : Cert.algebraic_DownIdeal_DownRefIdeal := by
  intro m g m' g' _ hagree
  refine ⟨fun c => G (A0 m c) (A1 m c) (A2 m c), ?_, ?_⟩
  · exact (θ_run Cert.DownIdeal.defs _ _).mono (fun r h c => ⟨(h c).1.trans (final m c), (h c).2⟩)
      (Cert.DownIdeal.Value.run_blocks (F := Ideal) m g)
  · refine (θ_run Cert.DownRefIdeal.defs _ _).mono (fun r h c => ⟨(h c).1.trans ?_, (h c).2⟩)
      (Cert.DownRefIdeal.Value.run (F := Ideal) m' g')
    rw [Cert.DownRefIdeal.Read.val_main_v1_eq, ref, (hagree c).1, (hagree c).2.1, (hagree c).2.2]

end Down
-- ==== Proof.OutDw.lean ====
module

public import proofs.«01_k».proof.Defs
public import proofs.«01_k».proof.Proof.Gen.OutDwIdeal.Value
public import proofs.«01_k».proof.Proof.Gen.OutDwRefIdeal.Read
public import Idealize.ShloMosaic.Lib.Pipeline.ValueKit.Point
public import Idealize.ShloMosaic.Lib.Claim

/-!
The gradient of the output projection's weights: `y`ᵀ times the gradient of the result.
-/

@[expose] public section

set_option maxRecDepth 16384

noncomputable section

namespace OutDw

open Idealize.ShloMosaic Idealize.ShloMosaic.TcCoe Idealize.SL.Sem

/-- The product. -/
def G (X : (⟨2, ![2048, 2048]⟩ : Shape).Idx → EReal) (Y : (⟨2, ![2048, 2048]⟩ : Shape).Idx → EReal)
    (i : (⟨2, ![2048, 2048]⟩ : Shape).Idx) : EReal :=
  ∑ t : Fin 2048, X (ix2 t (i 0)) * Y (ix2 t (i 1))

section
open Cert.OutDwIdeal Cert.OutDwIdeal.Gen
variable (m : (ℓ : Loc nD τ sig) → Buf (Elt Ideal) ℓ)

/-- The arguments on a device. -/
abbrev A0 (c : Dev nD) : (⟨2, ![2048, 2048]⟩ : Shape).Idx → EReal := m ((c : Thread nD τ).loc main_arg0)
abbrev A1 (c : Dev nD) : (⟨2, ![2048, 2048]⟩ : Shape).Idx → EReal := m ((c : Thread nD τ).loc main_arg1)

theorem out (x0 : Vec Ideal S2048x1024 .bf16) (x1 : Vec Ideal S2048x1024 .bf16) (r : Fin 1024) (l : Fin 1024) :
    out0_2 (F := Ideal) x0 x1 (ix2 r l) = ∑ t : Fin 2048, x0 (ix2 t r) * x1 (ix2 t l) := by
  unfold out0_2
  canon_tiles x h
  pointwise [k0_pay1]
  obtain rfl : r = x 0 := Fin.ext h0
  obtain rfl : l = x 1 := Fin.ext h1
  rfl

theorem idx0 : ∀ t : Fin cfg0.N, win0_0.index t = ![0, (grid0.coords t 0).val] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![(grid0.coords t 0).val, (grid0.coords t 1).val] :=
  (by decide +kernel : ∀ t : Fin grid0.N, _)

/-- The row and the column of the block's entry. -/
def row (t : Fin cfg0.N) (r : Fin 1024) : Fin 2048 := ⟨(grid0.coords t 0).val * 1024 + r.val, by
  have h0 : (grid0.coords t 0).val < 2 := (grid0.coords t 0).isLt
  omega⟩
def col (t : Fin cfg0.N) (r : Fin 1024) : Fin 2048 := ⟨(grid0.coords t 1).val * 1024 + r.val, by
  have h0 : (grid0.coords t 1).val < 2 := (grid0.coords t 1).isLt
  omega⟩

theorem blk0 (c : Dev nD) (t : Fin cfg0.N) (s : Fin 2048) (r : Fin 1024) :
    iblk m c 0 t (ix2 s r) = A0 m c (ix2 s (row t r)) := by
  blk_ext! [iblk, V, idx0 t, row]

theorem blk1 (c : Dev nD) (t : Fin cfg0.N) (s : Fin 2048) (l : Fin 1024) :
    iblk m c 1 t (ix2 s l) = A1 m c (ix2 s (col t l)) := by
  blk_ext! [iblk, V, idx1 t, col]

theorem emb2 (t : Fin cfg0.N) (r : Fin 1024) (l : Fin 1024) : (win0_2.blk t).view.emb (ix2 r l) = ix2 (row t r) (col t l) := by
  blk_ext [idx2 t, row, col]

theorem final (c : Dev nD) : (dats m 0 c).arrAt 2 cfg0.N = G (A0 m c) (A1 m c) := by
  refine (dats m 0 c).arrAt_eq_of_covers 2 _ (by decide +kernel) fun t hf y => ?_
  blk_simp
  rw [after0_2]
  obtain ⟨r, l, hy⟩ : ∃ (r : Fin 1024) (l : Fin 1024), y = ix2 r l := ⟨y 0, y 1, eq_ix2 y⟩
  rw [hy, out, emb2]
  simp only [blk0, blk1]
  rfl
end

section
open Cert.OutDwRefIdeal Cert.OutDwRefIdeal.Gen Cert.OutDwRefIdeal.Read
theorem ref (x0 : (⟨S2048x2048, .f32⟩ : BufTy).Contents (Elt Ideal)) (x1 : (⟨S2048x2048, .f32⟩ : BufTy).Contents (Elt Ideal)) :
    val_main_v4 (F := Ideal) x0 x1 = G x0 x1 := by
  funext i
  rw [eq_ix2 i]
  pointwise [val_main_v4, val_main_v3, val_main_v2]
  simp only [G, mul_comm]
end

theorem frame_ref : Cert.quiescent_OutDwRefIdeal := fun m g _ =>
  (θ_run Cert.OutDwRefIdeal.defs _ _).mono (fun r h => ⟨fun c => (h c).2, sem_eq_zero_of_no_sems (by decide) r.2⟩)
    (Cert.OutDwRefIdeal.Value.run (F := Ideal) m g)

theorem algebraic : Cert.algebraic_OutDwIdeal_OutDwRefIdeal := by
  intro m g m' g' _ hagree
  refine ⟨fun c => G (A0 m c) (A1 m c), ?_, ?_⟩
  · exact (θ_run Cert.OutDwIdeal.defs _ _).mono (fun r h c => ⟨(h c).1.trans (final m c), (h c).2⟩)
      (Cert.OutDwIdeal.Value.run_blocks (F := Ideal) m g)
  · refine (θ_run Cert.OutDwRefIdeal.defs _ _).mono (fun r h c => ⟨(h c).1.trans ?_, (h c).2⟩)
      (Cert.OutDwRefIdeal.Value.run (F := Ideal) m' g')
    rw [Cert.OutDwRefIdeal.Read.val_main_v4_eq, ref, (hagree c).1, (hagree c).2]

end OutDw
-- ==== Proof.ProjDw.lean ====
module

public import proofs.«01_k».proof.Defs
public import proofs.«01_k».proof.Proof.Gen.ProjDwIdeal.Value
public import proofs.«01_k».proof.Proof.Gen.ProjDwRefIdeal.Read
public import Idealize.ShloMosaic.Lib.Pipeline.ValueKit.Point
public import Idealize.ShloMosaic.Lib.Claim

/-!
The gradient of the input projection's weights, its columns padded with zeros: `h`ᵀ times the gradient of the result.
-/

@[expose] public section

set_option maxRecDepth 16384

noncomputable section

namespace ProjDw

open Idealize.ShloMosaic Idealize.ShloMosaic.TcCoe Idealize.SL.Sem

/-- The product. -/
def G (X : (⟨2, ![2048, 2048]⟩ : Shape).Idx → EReal) (Y : (⟨2, ![2048, 1856]⟩ : Shape).Idx → EReal)
    (i : (⟨2, ![2048, 1920]⟩ : Shape).Idx) : EReal :=
  ∑ t : Fin 2048, X (ix2 t (i 0)) * (if h : ((i 1)).val < 1856 then Y (ix2 t ⟨((i 1)).val, h⟩) else 0)

section
open Cert.ProjDwIdeal Cert.ProjDwIdeal.Gen
variable (m : (ℓ : Loc nD τ sig) → Buf (Elt Ideal) ℓ)

/-- The arguments on a device. -/
abbrev A0 (c : Dev nD) : (⟨2, ![2048, 2048]⟩ : Shape).Idx → EReal := m ((c : Thread nD τ).loc main_arg0)
abbrev A1 (c : Dev nD) : (⟨2, ![2048, 1856]⟩ : Shape).Idx → EReal := m ((c : Thread nD τ).loc main_arg1)

theorem out (x0 : Vec Ideal S2048x1024 .bf16) (x1 : Vec Ideal S2048x640 .bf16) (r : Fin 1024) (l : Fin 640) :
    out0_2 (F := Ideal) x0 x1 (ix2 r l) = ∑ t : Fin 2048, x0 (ix2 t r) * x1 (ix2 t l) := by
  unfold out0_2
  canon_tiles x h
  pointwise [k0_pay1]
  obtain rfl : r = x 0 := Fin.ext h0
  obtain rfl : l = x 1 := Fin.ext h1
  rfl

theorem idx0 : ∀ t : Fin cfg0.N, win0_0.index t = ![0, (grid0.coords t 0).val] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![(grid0.coords t 0).val, (grid0.coords t 1).val] :=
  (by decide +kernel : ∀ t : Fin grid0.N, _)

/-- The row and the column of the block's entry. -/
def row (t : Fin cfg0.N) (r : Fin 1024) : Fin 2048 := ⟨(grid0.coords t 0).val * 1024 + r.val, by
  have h0 : (grid0.coords t 0).val < 2 := (grid0.coords t 0).isLt
  omega⟩
def col (t : Fin cfg0.N) (r : Fin 640) : Fin 1920 := ⟨(grid0.coords t 1).val * 640 + r.val, by
  have h0 : (grid0.coords t 1).val < 3 := (grid0.coords t 1).isLt
  omega⟩

theorem blk0 (c : Dev nD) (t : Fin cfg0.N) (s : Fin 2048) (r : Fin 1024) :
    iblk m c 0 t (ix2 s r) = A0 m c (ix2 s (row t r)) := by
  blk_ext! [iblk, V, idx0 t, row]

/-- What the padding is filled with. -/
theorem zero_pad : (FloatOps.sitofp (F := Ideal) FTy.f32 (0#32 : BitVec 32) : EReal) = 0 := by
  show (((0#32 : BitVec 32).toInt : ℝ) : EReal) = 0
  simp

theorem V1 (c : Dev nD) (s : Fin 2048) (l : Fin 1920) :
    V m c main_v2 (ix2 s l) = if h : l.val < 1856 then A1 m c (ix2 s ⟨l.val, h⟩) else 0 := by
  simp only [V, hostOps0, hostOps0_1, hostOps0_2, List.flatten_cons, List.flatten_nil, List.append_nil, List.cons_append, List.nil_append]
  entry_read
  show (pad S2048x1920 ![0, 0] ![0, 64] ![0, 0] (A1 m c) (sitofp (F := Ideal) FTy.f32 (constantI S_ 32 0#32)) pads_S2048x1856_S2048x1920_000_0640 h_S_) (ix2 s l) = _
  pointwise
  simp only [zero_pad]

theorem emb1 (t : Fin cfg0.N) (s : Fin 2048) (l : Fin 640) : (win0_1.blk t).view.emb (ix2 s l) = ix2 s (col t l) := by
  blk_ext [idx1 t, col]

theorem blk1 (c : Dev nD) (t : Fin cfg0.N) (s : Fin 2048) (l : Fin 640) :
    iblk m c 1 t (ix2 s l) = if h : (col t l).val < 1856 then A1 m c (ix2 s ⟨(col t l).val, h⟩) else 0 := by
  show V m c main_v2 ((win0_1.blk t).view.emb (ix2 s l)) = _
  rw [emb1, V1]

theorem emb2 (t : Fin cfg0.N) (r : Fin 1024) (l : Fin 640) : (win0_2.blk t).view.emb (ix2 r l) = ix2 (row t r) (col t l) := by
  blk_ext [idx2 t, row, col]

theorem final (c : Dev nD) : (dats m 0 c).arrAt 2 cfg0.N = G (A0 m c) (A1 m c) := by
  refine (dats m 0 c).arrAt_eq_of_covers 2 _ (by decide +kernel) fun t hf y => ?_
  blk_simp
  rw [after0_2]
  obtain ⟨r, l, hy⟩ : ∃ (r : Fin 1024) (l : Fin 640), y = ix2 r l := ⟨y 0, y 1, eq_ix2 y⟩
  rw [hy, out, emb2]
  simp only [blk0, blk1]
  rfl
end

section
open Cert.ProjDwRefIdeal Cert.ProjDwRefIdeal.Gen Cert.ProjDwRefIdeal.Read
theorem ref (x0 : (⟨S2048x2048, .f32⟩ : BufTy).Contents (Elt Ideal)) (x1 : (⟨S2048x1856, .f32⟩ : BufTy).Contents (Elt Ideal)) :
    val_main_v5 (F := Ideal) x0 x1 = G x0 x1 := by
  funext i
  rw [eq_ix2 i]
  pointwise [val_main_v5, val_main_v4, val_main_v3, val_main_v2]
  by_cases h : (i 1).val < 1856
  · refine (dif_pos h).trans (Finset.sum_congr rfl fun t _ => ?_)
    have e : (if h' : (i 1).val < 1856 then x1 (ix2 t ⟨(i 1).val, h'⟩) else 0) = x1 (ix2 t ⟨(i 1).val, h⟩) := dif_pos h
    exact (mul_comm _ _).trans (congrArg (x0 (ix2 t (i 0)) * ·) e.symm)
  · refine (dif_neg h).trans (zero_pad.trans (Finset.sum_eq_zero fun t _ => ?_).symm)
    have e : (if h' : (i 1).val < 1856 then x1 (ix2 t ⟨(i 1).val, h'⟩) else 0) = 0 := dif_neg h
    exact (congrArg (x0 (ix2 t (i 0)) * ·) e).trans (mul_zero _)
end

theorem frame_ref : Cert.quiescent_ProjDwRefIdeal := fun m g _ =>
  (θ_run Cert.ProjDwRefIdeal.defs _ _).mono (fun r h => ⟨fun c => (h c).2, sem_eq_zero_of_no_sems (by decide) r.2⟩)
    (Cert.ProjDwRefIdeal.Value.run (F := Ideal) m g)

theorem algebraic : Cert.algebraic_ProjDwIdeal_ProjDwRefIdeal := by
  intro m g m' g' _ hagree
  refine ⟨fun c => G (A0 m c) (A1 m c), ?_, ?_⟩
  · exact (θ_run Cert.ProjDwIdeal.defs _ _).mono (fun r h c => ⟨(h c).1.trans (final m c), (h c).2⟩)
      (Cert.ProjDwIdeal.Value.run_blocks (F := Ideal) m g)
  · refine (θ_run Cert.ProjDwRefIdeal.defs _ _).mono (fun r h c => ⟨(h c).1.trans ?_, (h c).2⟩)
      (Cert.ProjDwRefIdeal.Value.run (F := Ideal) m' g')
    rw [Cert.ProjDwRefIdeal.Read.val_main_v5_eq, ref, (hagree c).1, (hagree c).2]

end ProjDw
-- ==== Proof.GluDw.lean ====
module

public import proofs.«01_k».proof.Defs
public import proofs.«01_k».proof.Proof.Gen.GluDwIdeal.Value
public import proofs.«01_k».proof.Proof.Gen.GluDwRefIdeal.Read
public import Idealize.ShloMosaic.Lib.Pipeline.ValueKit.Point
public import Idealize.ShloMosaic.Lib.Claim

/-!
The gradient of the recurrence's gate weights: `y`ᵀ times the gradient of the result.
-/

@[expose] public section

set_option maxRecDepth 16384

noncomputable section

namespace GluDw

open Idealize.ShloMosaic Idealize.ShloMosaic.TcCoe Idealize.SL.Sem

/-- The product. -/
def G (X : (⟨2, ![2048, 1024]⟩ : Shape).Idx → EReal) (Y : (⟨2, ![2048, 1024]⟩ : Shape).Idx → EReal)
    (i : (⟨2, ![1024, 1024]⟩ : Shape).Idx) : EReal :=
  ∑ t : Fin 2048, X (ix2 t (i 0)) * Y (ix2 t (i 1))

section
open Cert.GluDwIdeal Cert.GluDwIdeal.Gen
variable (m : (ℓ : Loc nD τ sig) → Buf (Elt Ideal) ℓ)

/-- The arguments on a device. -/
abbrev A0 (c : Dev nD) : (⟨2, ![2048, 1024]⟩ : Shape).Idx → EReal := m ((c : Thread nD τ).loc main_arg0)
abbrev A1 (c : Dev nD) : (⟨2, ![2048, 1024]⟩ : Shape).Idx → EReal := m ((c : Thread nD τ).loc main_arg1)

theorem out (x0 : Vec Ideal S2048x1024 .bf16) (x1 : Vec Ideal S2048x1024 .bf16) (r : Fin 1024) (l : Fin 1024) :
    out0_2 (F := Ideal) x0 x1 (ix2 r l) = ∑ t : Fin 2048, x0 (ix2 t r) * x1 (ix2 t l) := by
  unfold out0_2
  canon_tiles x h
  pointwise [k0_pay1]
  obtain rfl : r = x 0 := Fin.ext h0
  obtain rfl : l = x 1 := Fin.ext h1
  rfl

theorem idx0 : ∀ t : Fin cfg0.N, win0_0.index t = ![0, (grid0.coords t 0).val] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![(grid0.coords t 0).val, (grid0.coords t 1).val] :=
  (by decide +kernel : ∀ t : Fin grid0.N, _)

/-- The row and the column of the block's entry. -/
def row (t : Fin cfg0.N) (r : Fin 1024) : Fin 1024 := ⟨(grid0.coords t 0).val * 1024 + r.val, by
  have h0 : (grid0.coords t 0).val < 1 := (grid0.coords t 0).isLt
  omega⟩
def col (t : Fin cfg0.N) (r : Fin 1024) : Fin 1024 := ⟨(grid0.coords t 1).val * 1024 + r.val, by
  have h0 : (grid0.coords t 1).val < 1 := (grid0.coords t 1).isLt
  omega⟩

theorem blk0 (c : Dev nD) (t : Fin cfg0.N) (s : Fin 2048) (r : Fin 1024) :
    iblk m c 0 t (ix2 s r) = A0 m c (ix2 s (row t r)) := by
  blk_ext! [iblk, V, idx0 t, row]

theorem blk1 (c : Dev nD) (t : Fin cfg0.N) (s : Fin 2048) (l : Fin 1024) :
    iblk m c 1 t (ix2 s l) = A1 m c (ix2 s (col t l)) := by
  blk_ext! [iblk, V, idx1 t, col]

theorem emb2 (t : Fin cfg0.N) (r : Fin 1024) (l : Fin 1024) : (win0_2.blk t).view.emb (ix2 r l) = ix2 (row t r) (col t l) := by
  blk_ext [idx2 t, row, col]

theorem final (c : Dev nD) : (dats m 0 c).arrAt 2 cfg0.N = G (A0 m c) (A1 m c) := by
  refine (dats m 0 c).arrAt_eq_of_covers 2 _ (by decide +kernel) fun t hf y => ?_
  blk_simp
  rw [after0_2]
  obtain ⟨r, l, hy⟩ : ∃ (r : Fin 1024) (l : Fin 1024), y = ix2 r l := ⟨y 0, y 1, eq_ix2 y⟩
  rw [hy, out, emb2]
  simp only [blk0, blk1]
  rfl
end

section
open Cert.GluDwRefIdeal Cert.GluDwRefIdeal.Gen Cert.GluDwRefIdeal.Read
theorem ref (x0 : (⟨S2048x1024, .f32⟩ : BufTy).Contents (Elt Ideal)) (x1 : (⟨S2048x1024, .f32⟩ : BufTy).Contents (Elt Ideal)) :
    val_main_v4 (F := Ideal) x0 x1 = G x0 x1 := by
  funext i
  rw [eq_ix2 i]
  pointwise [val_main_v4, val_main_v3, val_main_v2]
  simp only [G, mul_comm]
end

theorem frame_ref : Cert.quiescent_GluDwRefIdeal := fun m g _ =>
  (θ_run Cert.GluDwRefIdeal.defs _ _).mono (fun r h => ⟨fun c => (h c).2, sem_eq_zero_of_no_sems (by decide) r.2⟩)
    (Cert.GluDwRefIdeal.Value.run (F := Ideal) m g)

theorem algebraic : Cert.algebraic_GluDwIdeal_GluDwRefIdeal := by
  intro m g m' g' _ hagree
  refine ⟨fun c => G (A0 m c) (A1 m c), ?_, ?_⟩
  · exact (θ_run Cert.GluDwIdeal.defs _ _).mono (fun r h c => ⟨(h c).1.trans (final m c), (h c).2⟩)
      (Cert.GluDwIdeal.Value.run_blocks (F := Ideal) m g)
  · refine (θ_run Cert.GluDwRefIdeal.defs _ _).mono (fun r h c => ⟨(h c).1.trans ?_, (h c).2⟩)
      (Cert.GluDwRefIdeal.Value.run (F := Ideal) m' g')
    rw [Cert.GluDwRefIdeal.Read.val_main_v4_eq, ref, (hagree c).1, (hagree c).2]

end GluDw
-- ==== Proof.Q.lean ====
module

public import proofs.«01_k».proof.Defs
public import proofs.«01_k».proof.Proof.Gen.QIdeal.Value
public import proofs.«01_k».proof.Proof.Gen.QRefIdeal.Read
public import Idealize.ShloMosaic.Lib.Pipeline.ValueKit.Point
public import Idealize.ShloMosaic.Lib.Claim

/-!
The query projection, a head at a time, each head's columns padded with zeros.
-/

@[expose] public section

set_option maxRecDepth 16384

noncomputable section

namespace Q

open Idealize.ShloMosaic Idealize.ShloMosaic.TcCoe Idealize.SL.Sem

/-- Column `l` of head `h`, zero in the padding. -/
def ofHead (Y : (⟨2, ![512, 1536]⟩ : Shape).Idx → EReal) (h : Fin 8) (t : Fin 512) (l : Fin 256) : EReal :=
  if hl : l.val < 192 then Y (ix2 t ⟨h.val * 192 + l.val, by omega⟩) else 0

/-- The product, in the kernel's layout. -/
def G (X : (⟨2, ![2048, 512]⟩ : Shape).Idx → EReal) (Y : (⟨2, ![512, 1536]⟩ : Shape).Idx → EReal)
    (i : (⟨3, ![8, 2048, 256]⟩ : Shape).Idx) : EReal :=
  ∑ t : Fin 512, X (ix2 (i 1) t) * ofHead Y (i 0) t (i 2)

section
open Cert.QIdeal Cert.QIdeal.Gen
variable (m : (ℓ : Loc nD τ sig) → Buf (Elt Ideal) ℓ)

/-- The arguments on a device. -/
abbrev A0 (c : Dev nD) : (⟨2, ![2048, 512]⟩ : Shape).Idx → EReal := m ((c : Thread nD τ).loc main_arg0)
abbrev A1 (c : Dev nD) : (⟨2, ![512, 1536]⟩ : Shape).Idx → EReal := m ((c : Thread nD τ).loc main_arg1)

theorem out (x0 : Vec Ideal S2048x512 .bf16) (x1 : Vec Ideal S1x512x256 .bf16) (a : Fin 1) (r : Fin 2048) (l : Fin 256) :
    out0_2 (F := Ideal) x0 x1 (ix3 a r l) = ∑ t : Fin 512, x0 (ix2 r t) * x1 (ix3 0 t l) := by
  unfold out0_2
  canon_tiles x h
  pointwise [k0_pay1]
  obtain rfl : r = x 1 := Fin.ext h1
  obtain rfl : l = x 2 := Fin.ext h2
  rfl

theorem idx0 : ∀ t : Fin cfg0.N, win0_0.index t = ![0, 0] := (by decide +kernel : ∀ t : Fin grid0.N, _)
theorem idx1 : ∀ t : Fin cfg0.N, win0_1.index t = ![(grid0.coords t 0).val, 0, 0] := (by decide +kernel : ∀ t : Fin grid0.N, _)
theorem idx2 : ∀ t : Fin cfg0.N, win0_2.index t = ![(grid0.coords t 0).val, 0, 0] := (by decide +kernel : ∀ t : Fin grid0.N, _)

/-- The head of the block. -/
def hd (t : Fin cfg0.N) : Fin 8 := grid0.coords t 0

theorem blk0 (c : Dev nD) (t : Fin cfg0.N) (s : Fin 512) (r : Fin 2048) :
    iblk m c 0 t (ix2 r s) = A0 m c (ix2 r s) := by
  blk_ext! [iblk, V, idx0 t]

/-- What the padding is filled with. -/
theorem zero_pad : (FloatOps.sitofp (F := Ideal) FTy.f32 (0#32 : BitVec 32) : EReal) = 0 := by
  show (((0#32 : BitVec 32).toInt : ℝ) : EReal) = 0
  simp

theorem Vh (c : Dev nD) (a : Fin 8) (s : Fin 512) (l : Fin 256) :
    V m c main_v4 (ix3 a s l) = ofHead (A1 m c) a s l := by
  simp only [V, hostOps0, hostOps0_1, hostOps0_2, List.flatten_cons, List.flatten_nil, List.append_nil, List.cons_append, List.nil_append]
  entry_read
  show (pad S8x512x256 ![0, 0, 0] ![0, 0, 64] ![0, 0, 0]
    (transpose S8x512x192 [1, 0, 2] (shapeCast S512x8x192 (A1 m c) shapeCasts_S512x1536_S512x8x192) transposes_S512x8x192_S8x512x192_1_0_2)
    (sitofp (F := Ideal) FTy.f32 (constantI S_ 32 0#32)) pads_S8x512x192_S8x512x256_000_000_0640 h_S_) (ix3 a s l) = _
  pointwise
  simp only [zero_pad, ofHead]

theorem emb1 (t : Fin cfg0.N) (s : Fin 512) (l : Fin 256) : (win0_1.blk t).view.emb (ix3 0 s l) = ix3 (hd t) s l := by
  blk_ext [idx1 t, hd]

theorem emb2 (t : Fin cfg0.N) (a : Fin 1) (s : Fin 2048) (l : Fin 256) : (win0_2.blk t).view.emb (ix3 a s l) = ix3 (hd t) s l := by
  blk_ext [idx2 t, hd]

theorem blk1 (c : Dev nD) (t : Fin cfg0.N) (s : Fin 512) (l : Fin 256) : iblk m c 1 t (ix3 0 s l) = ofHead (A1 m c) (hd t) s l := by
  show V m c main_v4 ((win0_1.blk t).view.emb (ix3 0 s l)) = _
  rw [emb1, Vh]

theorem final (c : Dev nD) : (dats m 0 c).arrAt 2 cfg0.N = G (A0 m c) (A1 m c) := by
  refine (dats m 0 c).arrAt_eq_of_covers 2 _ (by decide +kernel) fun t hf y => ?_
  blk_simp
  rw [after0_2]
  obtain ⟨a, r, l, hy⟩ : ∃ (a : Fin 1) (r : Fin 2048) (l : Fin 256), y = ix3 a r l := ⟨y 0, y 1, y 2, eq_ix3 y⟩
  rw [hy, out, emb2]
  simp only [blk0, blk1]
  rfl
end

section
open Cert.QRefIdeal Cert.QRefIdeal.Gen Cert.QRefIdeal.Read
theorem ref (x0 : (⟨S2048x512, .f32⟩ : BufTy).Contents (Elt Ideal)) (x1 : (⟨S512x1536, .f32⟩ : BufTy).Contents (Elt Ideal)) :
    val_main_v3 (F := Ideal) x0 x1 = G x0 x1 := by
  funext i
  rw [eq_ix3 i]
  pointwise [val_main_v3, val_main_v2, val_main_v1, val_main_v0]
  by_cases hl : (i 2).val < 192
  · refine (dif_pos hl).trans (Finset.sum_congr rfl fun t _ => ?_)
    have e : ofHead x1 (i 0) t (i 2) = x1 (ix2 t ⟨(i 0).val * 192 + (i 2).val, by have h0 : (i 0).val < 8 := (i 0).isLt; omega⟩) := dif_pos hl
    exact (congrArg (x0 (ix2 (i 1) t) * ·) e.symm)
  · refine (dif_neg hl).trans (zero_pad.trans (Finset.sum_eq_zero fun t _ => ?_).symm)
    have e : ofHead x1 (i 0) t (i 2) = 0 := dif_neg hl
    exact (congrArg (x0 (ix2 (i 1) t) * ·) e).trans (mul_zero _)
end

theorem frame_ref : Cert.quiescent_QRefIdeal := fun m g _ =>
  (θ_run Cert.QRefIdeal.defs _ _).mono (fun r h => ⟨fun c => (h c).2, sem_eq_zero_of_no_sems (by decide) r.2⟩)
    (Cert.QRefIdeal.Value.run (F := Ideal) m g)

theorem algebraic : Cert.algebraic_QIdeal_QRefIdeal := by
  intro m g m' g' _ hagree
  refine ⟨fun c => G (A0 m c) (A1 m c), ?_, ?_⟩
  · exact (θ_run Cert.QIdeal.defs _ _).mono (fun r h c => ⟨(h c).1.trans (final m c), (h c).2⟩)
      (Cert.QIdeal.Value.run_blocks (F := Ideal) m g)
  · refine (θ_run Cert.QRefIdeal.defs _ _).mono (fun r h c => ⟨(h c).1.trans ?_, (h c).2⟩)
      (Cert.QRefIdeal.Value.run (F := Ideal) m' g')
    rw [Cert.QRefIdeal.Read.val_main_v3_eq, ref, (hagree c).1, (hagree c).2]

end Q
-- ==== Proof.Kv.lean ====
module

public import proofs.«01_k».proof.Defs
public import proofs.«01_k».proof.Proof.Gen.KvIdeal.Value
public import proofs.«01_k».proof.Proof.Gen.KvRefIdeal.Read
public import Idealize.ShloMosaic.Lib.Pipeline.ValueKit.Point
public import Idealize.ShloMosaic.Lib.Claim

/-!
The key and value projection, a head at a time.
-/

@[expose] public section

set_option maxRecDepth 16384

noncomputable section

namespace Kv

open Idealize.ShloMosaic Idealize.ShloMosaic.TcCoe Idealize.SL.Sem

/-- Column `l` of head `h`. -/
def ofHead (Y : (⟨2, ![256, 2048]⟩ : Shape).Idx → EReal) (h : Fin 8) (t : Fin 256) (l : Fin 256) : EReal :=
  Y (ix2 t ⟨h.val * 256 + l.val, by omega⟩)

/-- The product, in the kernel's layout. -/
def G (X : (⟨2, ![2048, 256]⟩ : Shape).Idx → EReal) (Y : (⟨2, ![256, 2048]⟩ : Shape).Idx → EReal)
    (i : (⟨3, ![8, 2048, 256]⟩ : Shape).Idx) : EReal :=
  ∑ t : Fin 256, X (ix2 (i 1) t) * ofHead Y (i 0) t (i 2)

section
open Cert.KvIdeal Cert.KvIdeal.Gen
variable (m : (ℓ : Loc nD τ sig) → Buf (Elt Ideal) ℓ)

/-- The arguments on a device. -/
abbrev A0 (c : Dev nD) : (⟨2, ![2048, 256]⟩ : Shape).Idx → EReal := m ((c : Thread nD τ).loc main_arg0)
abbrev A1 (c : Dev nD) : (⟨2, ![256, 2048]⟩ : Shape).Idx → EReal := m ((c : Thread nD τ).loc main_arg1)

theorem out (x0 : Vec Ideal S2048x256 .bf16) (x1 : Vec Ideal S1x256x256 .bf16) (a : Fin 1) (r : Fin 2048) (l : Fin 256) :
    out0_2 (F := Ideal) x0 x1 (ix3 a r l) = ∑ t : Fin 256, x0 (ix2 r t) * x1 (ix3 0 t l) := by
  unfold out0_2
  canon_tiles x h
  pointwise [k0_pay1]
  obtain rfl : r = x 1 := Fin.ext h1
  obtain rfl : l = x 2 := Fin.ext h2
  rfl

theorem idx0 : ∀ t : Fin cfg0.N, win0_0.index t = ![0, 0] := (by decide +kernel : ∀ t : Fin grid0.N, _)
theorem idx1 : ∀ t : Fin cfg0.N, win0_1.index t = ![(grid0.coords t 0).val, 0, 0] := (by decide +kernel : ∀ t : Fin grid0.N, _)
theorem idx2 : ∀ t : Fin cfg0.N, win0_2.index t = ![(grid0.coords t 0).val, 0, 0] := (by decide +kernel : ∀ t : Fin grid0.N, _)

/-- The head of the block. -/
def hd (t : Fin cfg0.N) : Fin 8 := grid0.coords t 0

theorem blk0 (c : Dev nD) (t : Fin cfg0.N) (s : Fin 256) (r : Fin 2048) :
    iblk m c 0 t (ix2 r s) = A0 m c (ix2 r s) := by
  blk_ext! [iblk, V, idx0 t]

theorem Vh (c : Dev nD) (a : Fin 8) (s : Fin 256) (l : Fin 256) :
    V m c main_v4 (ix3 a s l) = ofHead (A1 m c) a s l := by
  simp only [V, hostOps0, hostOps0_1, hostOps0_2, List.flatten_cons, List.flatten_nil, List.append_nil, List.cons_append, List.nil_append]
  entry_read
  show (pad S8x256x256 ![0, 0, 0] ![0, 0, 0] ![0, 0, 0]
    (transpose S8x256x256 [1, 0, 2] (shapeCast S256x8x256 (A1 m c) shapeCasts_S256x2048_S256x8x256) transposes_S256x8x256_S8x256x256_1_0_2)
    (sitofp (F := Ideal) FTy.f32 (constantI S_ 32 0#32)) pads_S8x256x256_S8x256x256_000_000_000 h_S_) (ix3 a s l) = _
  pointwise
  rfl

theorem emb1 (t : Fin cfg0.N) (s : Fin 256) (l : Fin 256) : (win0_1.blk t).view.emb (ix3 0 s l) = ix3 (hd t) s l := by
  blk_ext [idx1 t, hd]

theorem emb2 (t : Fin cfg0.N) (a : Fin 1) (s : Fin 2048) (l : Fin 256) : (win0_2.blk t).view.emb (ix3 a s l) = ix3 (hd t) s l := by
  blk_ext [idx2 t, hd]

theorem blk1 (c : Dev nD) (t : Fin cfg0.N) (s : Fin 256) (l : Fin 256) : iblk m c 1 t (ix3 0 s l) = ofHead (A1 m c) (hd t) s l := by
  show V m c main_v4 ((win0_1.blk t).view.emb (ix3 0 s l)) = _
  rw [emb1, Vh]

theorem final (c : Dev nD) : (dats m 0 c).arrAt 2 cfg0.N = G (A0 m c) (A1 m c) := by
  refine (dats m 0 c).arrAt_eq_of_covers 2 _ (by decide +kernel) fun t hf y => ?_
  blk_simp
  rw [after0_2]
  obtain ⟨a, r, l, hy⟩ : ∃ (a : Fin 1) (r : Fin 2048) (l : Fin 256), y = ix3 a r l := ⟨y 0, y 1, y 2, eq_ix3 y⟩
  rw [hy, out, emb2]
  simp only [blk0, blk1]
  rfl
end

section
open Cert.KvRefIdeal Cert.KvRefIdeal.Gen Cert.KvRefIdeal.Read
theorem ref (x0 : (⟨S2048x256, .f32⟩ : BufTy).Contents (Elt Ideal)) (x1 : (⟨S256x2048, .f32⟩ : BufTy).Contents (Elt Ideal)) :
    val_main_v4 (F := Ideal) x0 x1 = G x0 x1 := by
  funext i
  rw [eq_ix3 i]
  pointwise [val_main_v4, val_main_v3, val_main_v2, val_main_v1, val_main_v0]
  rfl
end

theorem frame_ref : Cert.quiescent_KvRefIdeal := fun m g _ =>
  (θ_run Cert.KvRefIdeal.defs _ _).mono (fun r h => ⟨fun c => (h c).2, sem_eq_zero_of_no_sems (by decide) r.2⟩)
    (Cert.KvRefIdeal.Value.run (F := Ideal) m g)

theorem algebraic : Cert.algebraic_KvIdeal_KvRefIdeal := by
  intro m g m' g' _ hagree
  refine ⟨fun c => G (A0 m c) (A1 m c), ?_, ?_⟩
  · exact (θ_run Cert.KvIdeal.defs _ _).mono (fun r h c => ⟨(h c).1.trans (final m c), (h c).2⟩)
      (Cert.KvIdeal.Value.run_blocks (F := Ideal) m g)
  · refine (θ_run Cert.KvRefIdeal.defs _ _).mono (fun r h c => ⟨(h c).1.trans ?_, (h c).2⟩)
      (Cert.KvRefIdeal.Value.run (F := Ideal) m' g')
    rw [Cert.KvRefIdeal.Read.val_main_v4_eq, ref, (hagree c).1, (hagree c).2]

end Kv
-- ==== Proof.QDw.lean ====
module

public import proofs.«01_k».proof.Defs
public import proofs.«01_k».proof.Proof.Gen.QDwIdeal.Value
public import proofs.«01_k».proof.Proof.Gen.QDwRefIdeal.Read
public import Idealize.ShloMosaic.Lib.Pipeline.ValueKit.Point
public import Idealize.ShloMosaic.Lib.Claim

/-!
The gradient of the query projection's weights, a head at a time, each head's columns padded with zeros.
-/

@[expose] public section

set_option maxRecDepth 16384

noncomputable section

namespace QDw

open Idealize.ShloMosaic Idealize.ShloMosaic.TcCoe Idealize.SL.Sem

/-- Column `l` of head `h`, zero in the padding. -/
def ofHead (Y : (⟨2, ![2048, 1536]⟩ : Shape).Idx → EReal) (h : Fin 8) (t : Fin 2048) (l : Fin 256) : EReal :=
  if hl : l.val < 192 then Y (ix2 t ⟨h.val * 192 + l.val, by omega⟩) else 0

/-- The product, in the kernel's layout. -/
def G (X : (⟨2, ![2048, 512]⟩ : Shape).Idx → EReal) (Y : (⟨2, ![2048, 1536]⟩ : Shape).Idx → EReal)
    (i : (⟨3, ![8, 512, 256]⟩ : Shape).Idx) : EReal :=
  ∑ t : Fin 2048, X (ix2 t (i 1)) * ofHead Y (i 0) t (i 2)

section
open Cert.QDwIdeal Cert.QDwIdeal.Gen
variable (m : (ℓ : Loc nD τ sig) → Buf (Elt Ideal) ℓ)

/-- The arguments on a device. -/
abbrev A0 (c : Dev nD) : (⟨2, ![2048, 512]⟩ : Shape).Idx → EReal := m ((c : Thread nD τ).loc main_arg0)
abbrev A1 (c : Dev nD) : (⟨2, ![2048, 1536]⟩ : Shape).Idx → EReal := m ((c : Thread nD τ).loc main_arg1)

theorem out (x0 : Vec Ideal S2048x512 .bf16) (x1 : Vec Ideal S1x2048x256 .bf16) (a : Fin 1) (r : Fin 512) (l : Fin 256) :
    out0_2 (F := Ideal) x0 x1 (ix3 a r l) = ∑ t : Fin 2048, x0 (ix2 t r) * x1 (ix3 0 t l) := by
  unfold out0_2
  canon_tiles x h
  pointwise [k0_pay1]
  obtain rfl : r = x 1 := Fin.ext h1
  obtain rfl : l = x 2 := Fin.ext h2
  rfl

theorem idx0 : ∀ t : Fin cfg0.N, win0_0.index t = ![0, 0] := (by decide +kernel : ∀ t : Fin grid0.N, _)
theorem idx1 : ∀ t : Fin cfg0.N, win0_1.index t = ![(grid0.coords t 0).val, 0, 0] := (by decide +kernel : ∀ t : Fin grid0.N, _)
theorem idx2 : ∀ t : Fin cfg0.N, win0_2.index t = ![(grid0.coords t 0).val, 0, 0] := (by decide +kernel : ∀ t : Fin grid0.N, _)

/-- The head of the block. -/
def hd (t : Fin cfg0.N) : Fin 8 := grid0.coords t 0

theorem blk0 (c : Dev nD) (t : Fin cfg0.N) (s : Fin 2048) (r : Fin 512) :
    iblk m c 0 t (ix2 s r) = A0 m c (ix2 s r) := by
  blk_ext! [iblk, V, idx0 t]

/-- What the padding is filled with. -/
theorem zero_pad : (FloatOps.sitofp (F := Ideal) FTy.f32 (0#32 : BitVec 32) : EReal) = 0 := by
  show (((0#32 : BitVec 32).toInt : ℝ) : EReal) = 0
  simp

theorem Vh (c : Dev nD) (a : Fin 8) (s : Fin 2048) (l : Fin 256) :
    V m c main_v4 (ix3 a s l) = ofHead (A1 m c) a s l := by
  simp only [V, hostOps0, hostOps0_1, hostOps0_2, List.flatten_cons, List.flatten_nil, List.append_nil, List.cons_append, List.nil_append]
  entry_read
  show (pad S8x2048x256 ![0, 0, 0] ![0, 0, 64] ![0, 0, 0]
    (transpose S8x2048x192 [1, 0, 2] (shapeCast S2048x8x192 (A1 m c) shapeCasts_S2048x1536_S2048x8x192) transposes_S2048x8x192_S8x2048x192_1_0_2)
    (sitofp (F := Ideal) FTy.f32 (constantI S_ 32 0#32)) pads_S8x2048x192_S8x2048x256_000_000_0640 h_S_) (ix3 a s l) = _
  pointwise
  simp only [zero_pad, ofHead]

theorem emb1 (t : Fin cfg0.N) (s : Fin 2048) (l : Fin 256) : (win0_1.blk t).view.emb (ix3 0 s l) = ix3 (hd t) s l := by
  blk_ext [idx1 t, hd]

theorem emb2 (t : Fin cfg0.N) (a : Fin 1) (s : Fin 512) (l : Fin 256) : (win0_2.blk t).view.emb (ix3 a s l) = ix3 (hd t) s l := by
  blk_ext [idx2 t, hd]

theorem blk1 (c : Dev nD) (t : Fin cfg0.N) (s : Fin 2048) (l : Fin 256) : iblk m c 1 t (ix3 0 s l) = ofHead (A1 m c) (hd t) s l := by
  show V m c main_v4 ((win0_1.blk t).view.emb (ix3 0 s l)) = _
  rw [emb1, Vh]

theorem final (c : Dev nD) : (dats m 0 c).arrAt 2 cfg0.N = G (A0 m c) (A1 m c) := by
  refine (dats m 0 c).arrAt_eq_of_covers 2 _ (by decide +kernel) fun t hf y => ?_
  blk_simp
  rw [after0_2]
  obtain ⟨a, r, l, hy⟩ : ∃ (a : Fin 1) (r : Fin 512) (l : Fin 256), y = ix3 a r l := ⟨y 0, y 1, y 2, eq_ix3 y⟩
  rw [hy, out, emb2]
  simp only [blk0, blk1]
  rfl
end

section
open Cert.QDwRefIdeal Cert.QDwRefIdeal.Gen Cert.QDwRefIdeal.Read
theorem ref (x0 : (⟨S2048x512, .f32⟩ : BufTy).Contents (Elt Ideal)) (x1 : (⟨S2048x1536, .f32⟩ : BufTy).Contents (Elt Ideal)) :
    val_main_v7 (F := Ideal) x0 x1 = G x0 x1 := by
  funext i
  rw [eq_ix3 i]
  pointwise [val_main_v7, val_main_v6, val_main_v5, val_main_v4, val_main_v3, val_main_v2]
  by_cases hl : (i 2).val < 192
  · refine (dif_pos hl).trans (Finset.sum_congr rfl fun t _ => ?_)
    have e : ofHead x1 (i 0) t (i 2) = x1 (ix2 t ⟨(i 0).val * 192 + (i 2).val, by have h0 : (i 0).val < 8 := (i 0).isLt; omega⟩) := dif_pos hl
    exact (mul_comm _ _).trans (congrArg (x0 (ix2 t (i 1)) * ·) e.symm)
  · refine (dif_neg hl).trans (zero_pad.trans (Finset.sum_eq_zero fun t _ => ?_).symm)
    have e : ofHead x1 (i 0) t (i 2) = 0 := dif_neg hl
    exact (congrArg (x0 (ix2 t (i 1)) * ·) e).trans (mul_zero _)
end

theorem frame_ref : Cert.quiescent_QDwRefIdeal := fun m g _ =>
  (θ_run Cert.QDwRefIdeal.defs _ _).mono (fun r h => ⟨fun c => (h c).2, sem_eq_zero_of_no_sems (by decide) r.2⟩)
    (Cert.QDwRefIdeal.Value.run (F := Ideal) m g)

theorem algebraic : Cert.algebraic_QDwIdeal_QDwRefIdeal := by
  intro m g m' g' _ hagree
  refine ⟨fun c => G (A0 m c) (A1 m c), ?_, ?_⟩
  · exact (θ_run Cert.QDwIdeal.defs _ _).mono (fun r h c => ⟨(h c).1.trans (final m c), (h c).2⟩)
      (Cert.QDwIdeal.Value.run_blocks (F := Ideal) m g)
  · refine (θ_run Cert.QDwRefIdeal.defs _ _).mono (fun r h c => ⟨(h c).1.trans ?_, (h c).2⟩)
      (Cert.QDwRefIdeal.Value.run (F := Ideal) m' g')
    rw [Cert.QDwRefIdeal.Read.val_main_v7_eq, ref, (hagree c).1, (hagree c).2]

end QDw
-- ==== Proof.KvDw.lean ====
module

public import proofs.«01_k».proof.Defs
public import proofs.«01_k».proof.Proof.Gen.KvDwIdeal.Value
public import proofs.«01_k».proof.Proof.Gen.KvDwRefIdeal.Read
public import Idealize.ShloMosaic.Lib.Pipeline.ValueKit.Point
public import Idealize.ShloMosaic.Lib.Claim

/-!
The gradient of the key and value projection's weights, a head at a time.
-/

@[expose] public section

set_option maxRecDepth 16384

noncomputable section

namespace KvDw

open Idealize.ShloMosaic Idealize.ShloMosaic.TcCoe Idealize.SL.Sem

/-- Column `l` of head `h`. -/
def ofHead (Y : (⟨2, ![2048, 2048]⟩ : Shape).Idx → EReal) (h : Fin 8) (t : Fin 2048) (l : Fin 256) : EReal :=
  Y (ix2 t ⟨h.val * 256 + l.val, by omega⟩)

/-- The product, in the kernel's layout. -/
def G (X : (⟨2, ![2048, 256]⟩ : Shape).Idx → EReal) (Y : (⟨2, ![2048, 2048]⟩ : Shape).Idx → EReal)
    (i : (⟨3, ![8, 256, 256]⟩ : Shape).Idx) : EReal :=
  ∑ t : Fin 2048, X (ix2 t (i 1)) * ofHead Y (i 0) t (i 2)

section
open Cert.KvDwIdeal Cert.KvDwIdeal.Gen
variable (m : (ℓ : Loc nD τ sig) → Buf (Elt Ideal) ℓ)

/-- The arguments on a device. -/
abbrev A0 (c : Dev nD) : (⟨2, ![2048, 256]⟩ : Shape).Idx → EReal := m ((c : Thread nD τ).loc main_arg0)
abbrev A1 (c : Dev nD) : (⟨2, ![2048, 2048]⟩ : Shape).Idx → EReal := m ((c : Thread nD τ).loc main_arg1)

theorem out (x0 : Vec Ideal S2048x256 .bf16) (x1 : Vec Ideal S1x2048x256 .f32) (a : Fin 1) (r : Fin 256) (l : Fin 256) :
    out0_2 (F := Ideal) x0 x1 (ix3 a r l) = ∑ t : Fin 2048, x0 (ix2 t r) * x1 (ix3 0 t l) := by
  unfold out0_2
  canon_tiles x h
  pointwise [k0_pay1]
  obtain rfl : r = x 1 := Fin.ext h1
  obtain rfl : l = x 2 := Fin.ext h2
  rfl

theorem idx0 : ∀ t : Fin cfg0.N, win0_0.index t = ![0, 0] := (by decide +kernel : ∀ t : Fin grid0.N, _)
theorem idx1 : ∀ t : Fin cfg0.N, win0_1.index t = ![(grid0.coords t 0).val, 0, 0] := (by decide +kernel : ∀ t : Fin grid0.N, _)
theorem idx2 : ∀ t : Fin cfg0.N, win0_2.index t = ![(grid0.coords t 0).val, 0, 0] := (by decide +kernel : ∀ t : Fin grid0.N, _)

/-- The head of the block. -/
def hd (t : Fin cfg0.N) : Fin 8 := grid0.coords t 0

theorem blk0 (c : Dev nD) (t : Fin cfg0.N) (s : Fin 2048) (r : Fin 256) :
    iblk m c 0 t (ix2 s r) = A0 m c (ix2 s r) := by
  blk_ext! [iblk, V, idx0 t]

theorem Vh (c : Dev nD) (a : Fin 8) (s : Fin 2048) (l : Fin 256) :
    V m c main_v3 (ix3 a s l) = ofHead (A1 m c) a s l := by
  simp only [V, hostOps0, hostOps0_1, List.flatten_cons, List.flatten_nil, List.append_nil, List.cons_append, List.nil_append]
  entry_read
  show (pad S8x2048x256 ![0, 0, 0] ![0, 0, 0] ![0, 0, 0]
    (transpose S8x2048x256 [1, 0, 2] (shapeCast S2048x8x256 (A1 m c) shapeCasts_S2048x2048_S2048x8x256) transposes_S2048x8x256_S8x2048x256_1_0_2)
    (sitofp (F := Ideal) FTy.f32 (constantI S_ 32 0#32)) pads_S8x2048x256_S8x2048x256_000_000_000 h_S_) (ix3 a s l) = _
  pointwise
  rfl

theorem emb1 (t : Fin cfg0.N) (s : Fin 2048) (l : Fin 256) : (win0_1.blk t).view.emb (ix3 0 s l) = ix3 (hd t) s l := by
  blk_ext [idx1 t, hd]

theorem emb2 (t : Fin cfg0.N) (a : Fin 1) (s : Fin 256) (l : Fin 256) : (win0_2.blk t).view.emb (ix3 a s l) = ix3 (hd t) s l := by
  blk_ext [idx2 t, hd]

theorem blk1 (c : Dev nD) (t : Fin cfg0.N) (s : Fin 2048) (l : Fin 256) : iblk m c 1 t (ix3 0 s l) = ofHead (A1 m c) (hd t) s l := by
  show V m c main_v3 ((win0_1.blk t).view.emb (ix3 0 s l)) = _
  rw [emb1, Vh]

theorem final (c : Dev nD) : (dats m 0 c).arrAt 2 cfg0.N = G (A0 m c) (A1 m c) := by
  refine (dats m 0 c).arrAt_eq_of_covers 2 _ (by decide +kernel) fun t hf y => ?_
  blk_simp
  rw [after0_2]
  obtain ⟨a, r, l, hy⟩ : ∃ (a : Fin 1) (r : Fin 256) (l : Fin 256), y = ix3 a r l := ⟨y 0, y 1, y 2, eq_ix3 y⟩
  rw [hy, out, emb2]
  simp only [blk0, blk1]
  rfl
end

section
open Cert.KvDwRefIdeal Cert.KvDwRefIdeal.Gen Cert.KvDwRefIdeal.Read
theorem ref (x0 : (⟨S2048x256, .f32⟩ : BufTy).Contents (Elt Ideal)) (x1 : (⟨S2048x2048, .f32⟩ : BufTy).Contents (Elt Ideal)) :
    val_main_v7 (F := Ideal) x0 x1 = G x0 x1 := by
  funext i
  rw [eq_ix3 i]
  pointwise [val_main_v7, val_main_v6, val_main_v5, val_main_v4, val_main_v3, val_main_v2]
  exact Finset.sum_congr rfl fun _ _ => mul_comm _ _
end

theorem frame_ref : Cert.quiescent_KvDwRefIdeal := fun m g _ =>
  (θ_run Cert.KvDwRefIdeal.defs _ _).mono (fun r h => ⟨fun c => (h c).2, sem_eq_zero_of_no_sems (by decide) r.2⟩)
    (Cert.KvDwRefIdeal.Value.run (F := Ideal) m g)

theorem algebraic : Cert.algebraic_KvDwIdeal_KvDwRefIdeal := by
  intro m g m' g' _ hagree
  refine ⟨fun c => G (A0 m c) (A1 m c), ?_, ?_⟩
  · exact (θ_run Cert.KvDwIdeal.defs _ _).mono (fun r h c => ⟨(h c).1.trans (final m c), (h c).2⟩)
      (Cert.KvDwIdeal.Value.run_blocks (F := Ideal) m g)
  · refine (θ_run Cert.KvDwRefIdeal.defs _ _).mono (fun r h c => ⟨(h c).1.trans ?_, (h c).2⟩)
      (Cert.KvDwRefIdeal.Value.run (F := Ideal) m' g')
    rw [Cert.KvDwRefIdeal.Read.val_main_v7_eq, ref, (hagree c).1, (hagree c).2]

end KvDw
-- ==== Proof.QDx.lean ====
module

public import proofs.«01_k».proof.Defs
public import proofs.«01_k».proof.Proof.Gen.QDxIdeal.Value
public import proofs.«01_k».proof.Proof.Gen.QDxRefIdeal.Read
public import Idealize.ShloMosaic.Lib.Pipeline.ValueKit.Point
public import Idealize.ShloMosaic.Lib.Pipeline.ValueKit.Acc
public import Idealize.ShloMosaic.Lib.Claim

/-!
The gradient of the query projection's input: the gradient of the product times `w`ᵀ, summed a head at a time over padded columns.
-/

@[expose] public section

set_option maxRecDepth 16384

noncomputable section

namespace QDx

open Idealize.ShloMosaic Idealize.ShloMosaic.TcCoe Idealize.SL.Sem Idealize.ShloMosaic.Pipeline

/-- The product. -/
def G (X : (⟨2, ![2048, 1536]⟩ : Shape).Idx → EReal) (Y : (⟨2, ![512, 1536]⟩ : Shape).Idx → EReal)
    (i : (⟨2, ![2048, 512]⟩ : Shape).Idx) : EReal :=
  ∑ k : Fin 1536, X (ix2 (i 0) k) * Y (ix2 (i 1) k)

/-- Column `l` of head `h`, zero in the padding. -/
def ofHead {n : ℕ} (Y : (⟨2, ![n, 1536]⟩ : Shape).Idx → EReal) (h : Fin 8) (t : Fin n) (l : Fin 256) : EReal :=
  if hl : l.val < 192 then Y (ix2 t ⟨h.val * 192 + l.val, by omega⟩) else 0

/-- The padding adds nothing to the product of two heads. -/
theorem sum_heads {n k : ℕ} (X : (⟨2, ![n, 1536]⟩ : Shape).Idx → EReal) (Y : (⟨2, ![k, 1536]⟩ : Shape).Idx → EReal) (h : Fin 8) (r : Fin n) (t : Fin k) :
    ∑ l : Fin 256, ofHead X h r l * ofHead Y h t l
      = ∑ l : Fin 192, X (ix2 r ⟨h.val * 192 + l.val, by omega⟩) * Y (ix2 t ⟨h.val * 192 + l.val, by omega⟩) := by
  refine (Fin.sum_univ_add (a := 192) (b := 64) fun l => ofHead X h r l * ofHead Y h t l).trans ?_
  have e0 : ∑ l : Fin 64, ofHead X h r (Fin.natAdd 192 l) * ofHead Y h t (Fin.natAdd 192 l) = 0 :=
    Finset.sum_eq_zero fun l _ => by
      have e : ofHead X h r (Fin.natAdd 192 l) = 0 := dif_neg (by show ¬(192 + l.val < 192); omega)
      rw [e, zero_mul]
  rw [e0, add_zero]
  refine Finset.sum_congr rfl fun l _ => ?_
  have ex : ofHead X h r (Fin.castAdd 64 l) = X (ix2 r ⟨h.val * 192 + l.val, by omega⟩) := dif_pos l.isLt
  have ey : ofHead Y h t (Fin.castAdd 64 l) = Y (ix2 t ⟨h.val * 192 + l.val, by omega⟩) := dif_pos l.isLt
  rw [ex, ey]

section
open Cert.QDxIdeal Cert.QDxIdeal.Gen
variable (m : (ℓ : Loc nD τ sig) → Buf (Elt Ideal) ℓ)

/-- The arguments on a device. -/
abbrev A0 (c : Dev nD) : (⟨2, ![2048, 1536]⟩ : Shape).Idx → EReal := m ((c : Thread nD τ).loc main_arg0)
abbrev A1 (c : Dev nD) : (⟨2, ![512, 1536]⟩ : Shape).Idx → EReal := m ((c : Thread nD τ).loc main_arg1)

/-- What one grid point adds. -/
def part (x0 : Vec Ideal S1x2048x256 .bf16) (x1 : Vec Ideal S1x512x256 .bf16) (i : (⟨2, ![2048, 512]⟩ : Shape).Idx) : EReal :=
  ∑ k : Fin 256, x0 (ix3 0 (i 0) k) * x1 (ix3 0 (i 1) k)

theorem scA (c : Dev nD) (t : Fin cfg0.N) (h0 : t.val % 8 = 0) (i : (⟨2, ![2048, 512]⟩ : Shape).Idx) :
    (outsAt0 m c t.val t.isLt).2 i = 0 + part (iblk m c 0 t) (iblk m c 1 t) i := by
  have hN : t.val < 8 := lt_of_lt_of_eq t.isLt N_0
  rw [outsAt0_A m c t h0 (by omega) (by omega), zero_add]
  frame_out
  rw [eq_ix2 i]
  pointwise [k0_pay2, k0_pay1]
  rfl

theorem scBC (c : Dev nD) (t : Fin cfg0.N) (h0 : ¬t.val % 8 = 0) (i : (⟨2, ![2048, 512]⟩ : Shape).Idx) :
    (outsAt0 m c t.val t.isLt).2 i
      = (outsAt0 m c (t.val - 1) (Nat.lt_of_le_of_lt (Nat.sub_le _ _) t.isLt)).2 i + part (iblk m c 0 t) (iblk m c 1 t) i := by
  by_cases h2 : t.val % 8 = 7
  · rw [outsAt0_C m c t h0 (by omega) h2]
    frame_out
    rw [eq_ix2 i]
    pointwise [k0_pay3, k0_pay1]
    exact congrArg (· + _) (congrFun (Memref.IsWhole.read_unread _ _) i)
  · rw [outsAt0_B m c t h0 (by omega) h2]
    frame_out
    rw [eq_ix2 i]
    pointwise [k0_pay3, k0_pay1]
    exact congrArg (· + _) (congrFun (Memref.IsWhole.read_unread _ _) i)

theorem outC (c : Dev nD) (t : Fin cfg0.N) (h2 : t.val % 8 = 7) : (outsAt0 m c t.val t.isLt).1 = (outsAt0 m c t.val t.isLt).2 := by
  rw [outsAt0_C m c t (by omega) (by omega) h2]
  frame_out

theorem sum_parts (c : Dev nD) (t : Fin cfg0.N) (h2 : t.val % 8 = 7) (i : (⟨2, ![2048, 512]⟩ : Shape).Idx) :
    (outsAt0 m c t.val t.isLt).2 i = ∑ s : Fin 8, part (iblk m c 0 ⟨8 * (t.val / 8) + s.val, run_point_lt_of_flush t h2 s⟩)
      (iblk m c 1 ⟨8 * (t.val / 8) + s.val, run_point_lt_of_flush t h2 s⟩) i :=
  (eq_sum_fin_of_reset_step_apply_of_flush (fun n h => (outsAt0 m c n h).2) 8 (fun _ => 0)
    (fun p => part (iblk m c 0 p) (iblk m c 1 p)) (scA m c) (scBC m c) t h2 i).trans (zero_add _)

theorem idx0 : ∀ t : Fin cfg0.N, win0_0.index t = ![t.val, 0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![0, 0] := (by decide +kernel : ∀ t : Fin grid0.N, _)

/-- The head of the point. -/
def hd (t : Fin cfg0.N) : Fin 8 := ⟨t.val, lt_of_lt_of_eq t.isLt N_0⟩

/-- What the padding is filled with. -/
theorem zero_pad : (FloatOps.sitofp (F := Ideal) FTy.f32 (0#32 : BitVec 32) : EReal) = 0 := by
  show (((0#32 : BitVec 32).toInt : ℝ) : EReal) = 0
  simp

theorem V3 (c : Dev nD) (a : Fin 8) (s : Fin 2048) (l : Fin 256) : V m c main_v3 (ix3 a s l) = ofHead (A0 m c) a s l := by
  simp only [V, hostOps0, hostOps0_1, hostOps0_2, hostOps0_3, hostOps0_4, List.flatten_cons, List.flatten_nil, List.append_nil, List.cons_append, List.nil_append]
  entry_read
  show (pad S8x2048x256 ![0, 0, 0] ![0, 0, 64] ![0, 0, 0]
    (transpose S8x2048x192 [1, 0, 2] (shapeCast S2048x8x192 (A0 m c) shapeCasts_S2048x1536_S2048x8x192) transposes_S2048x8x192_S8x2048x192_1_0_2)
    (sitofp (F := Ideal) FTy.f32 (constantI S_ 32 0#32)) pads_S8x2048x192_S8x2048x256_000_000_0640 h_S_) (ix3 a s l) = _
  pointwise
  simp only [zero_pad, ofHead]

theorem V7 (c : Dev nD) (a : Fin 8) (s : Fin 512) (l : Fin 256) : V m c main_v7 (ix3 a s l) = ofHead (A1 m c) a s l := by
  simp only [V, hostOps0, hostOps0_1, hostOps0_2, hostOps0_3, hostOps0_4, List.flatten_cons, List.flatten_nil, List.append_nil, List.cons_append, List.nil_append]
  entry_read
  show (pad S8x512x256 ![0, 0, 0] ![0, 0, 64] ![0, 0, 0]
    (transpose S8x512x192 [1, 0, 2] (shapeCast S512x8x192 (A1 m c) shapeCasts_S512x1536_S512x8x192) transposes_S512x8x192_S8x512x192_1_0_2)
    (sitofp (F := Ideal) FTy.f32 (constantI S_ 32 0#32)) pads_S8x512x192_S8x512x256_000_000_0640 h_S_) (ix3 a s l) = _
  pointwise
  simp only [zero_pad, ofHead]

theorem emb0 (t : Fin cfg0.N) (s : Fin 2048) (l : Fin 256) : (win0_0.blk t).view.emb (ix3 0 s l) = ix3 (hd t) s l := by
  blk_ext [idx0 t, hd]

theorem emb1 (t : Fin cfg0.N) (s : Fin 512) (l : Fin 256) : (win0_1.blk t).view.emb (ix3 0 s l) = ix3 (hd t) s l := by
  blk_ext [idx1 t, hd]

theorem emb2 (t : Fin cfg0.N) (r : Fin 2048) (l : Fin 512) : (win0_2.blk t).view.emb (ix2 r l) = ix2 r l := by
  blk_ext [idx2 t]

theorem blk0 (c : Dev nD) (t : Fin cfg0.N) (s : Fin 2048) (l : Fin 256) : iblk m c 0 t (ix3 0 s l) = ofHead (A0 m c) (hd t) s l := by
  show V m c main_v3 ((win0_0.blk t).view.emb (ix3 0 s l)) = _
  rw [emb0, V3]

theorem blk1 (c : Dev nD) (t : Fin cfg0.N) (s : Fin 512) (l : Fin 256) : iblk m c 1 t (ix3 0 s l) = ofHead (A1 m c) (hd t) s l := by
  show V m c main_v7 ((win0_1.blk t).view.emb (ix3 0 s l)) = _
  rw [emb1, V7]

theorem whole (c : Dev nD) (t : Fin cfg0.N) (h2 : t.val % 8 = 7) (r : Fin 2048) (l : Fin 512) :
    ∑ s : Fin 8, part (iblk m c 0 ⟨8 * (t.val / 8) + s.val, run_point_lt_of_flush t h2 s⟩)
      (iblk m c 1 ⟨8 * (t.val / 8) + s.val, run_point_lt_of_flush t h2 s⟩) (ix2 r l) = G (A0 m c) (A1 m c) (ix2 r l) := by
  have hN : t.val < 8 := lt_of_lt_of_eq t.isLt N_0
  have e : ∀ s : Fin 8, hd ⟨8 * (t.val / 8) + s.val, run_point_lt_of_flush t h2 s⟩ = s := fun s =>
    Fin.ext (by show 8 * (t.val / 8) + s.val = s.val; omega)
  have ep : ∀ s : Fin 8, part (iblk m c 0 ⟨8 * (t.val / 8) + s.val, run_point_lt_of_flush t h2 s⟩)
      (iblk m c 1 ⟨8 * (t.val / 8) + s.val, run_point_lt_of_flush t h2 s⟩) (ix2 r l)
      = ∑ k : Fin 192, A0 m c (ix2 r ⟨s.val * 192 + k.val, by omega⟩) * A1 m c (ix2 l ⟨s.val * 192 + k.val, by omega⟩) := fun s => by
    refine (Finset.sum_congr rfl fun k _ => congrArg₂ (fun a b : EReal => a * b) (blk0 m c _ r k) (blk1 m c _ l k)).trans ?_
    simp only [e]
    exact sum_heads _ _ _ _ _
  simp only [ep]
  exact Fin.sum_mul_add_congr (n := 192) fun s k hl => rfl

theorem final (c : Dev nD) : (dats m 0 c).arrAt 2 cfg0.N = G (A0 m c) (A1 m c) := by
  refine (dats m 0 c).arrAt_eq_of_covers 2 _ (by decide +kernel) fun t hf y => ?_
  have h2 : t.val % 8 = 7 := (flush0_2 t).mp hf
  blk_simp
  rw [after0_2, outC m c t h2]
  obtain ⟨r, l, hy⟩ : ∃ (r : Fin 2048) (l : Fin 512), y = ix2 r l := ⟨y 0, y 1, eq_ix2 y⟩
  rw [hy, emb2, sum_parts m c t h2]
  exact whole m c t h2 r l
end

section
open Cert.QDxRefIdeal Cert.QDxRefIdeal.Gen Cert.QDxRefIdeal.Read
theorem ref (x0 : (⟨S2048x1536, .f32⟩ : BufTy).Contents (Elt Ideal)) (x1 : (⟨S512x1536, .f32⟩ : BufTy).Contents (Elt Ideal)) :
    val_main_v2 (F := Ideal) x0 x1 = G x0 x1 := by
  funext i
  rw [eq_ix2 i]
  pointwise [val_main_v2, val_main_v1, val_main_v0]
  simp only [G]
end

theorem frame_ref : Cert.quiescent_QDxRefIdeal := fun m g _ =>
  (θ_run Cert.QDxRefIdeal.defs _ _).mono (fun r h => ⟨fun c => (h c).2, sem_eq_zero_of_no_sems (by decide) r.2⟩)
    (Cert.QDxRefIdeal.Value.run (F := Ideal) m g)

theorem algebraic : Cert.algebraic_QDxIdeal_QDxRefIdeal := by
  intro m g m' g' _ hagree
  refine ⟨fun c => G (A0 m c) (A1 m c), ?_, ?_⟩
  · exact (θ_run Cert.QDxIdeal.defs _ _).mono (fun r h c => ⟨(h c).1.trans (final m c), (h c).2⟩)
      (Cert.QDxIdeal.Value.run_blocks (F := Ideal) m g)
  · refine (θ_run Cert.QDxRefIdeal.defs _ _).mono (fun r h c => ⟨(h c).1.trans ?_, (h c).2⟩)
      (Cert.QDxRefIdeal.Value.run (F := Ideal) m' g')
    rw [Cert.QDxRefIdeal.Read.val_main_v2_eq, ref, (hagree c).1, (hagree c).2]

end QDx
-- ==== Proof.KvDx.lean ====
module

public import proofs.«01_k».proof.Defs
public import proofs.«01_k».proof.Proof.Gen.KvDxIdeal.Value
public import proofs.«01_k».proof.Proof.Gen.KvDxRefIdeal.Read
public import Idealize.ShloMosaic.Lib.Pipeline.ValueKit.Point
public import Idealize.ShloMosaic.Lib.Pipeline.ValueKit.Acc
public import Idealize.ShloMosaic.Lib.Claim

/-!
The gradient of the key and value projection's input: the gradient of the product times `w`ᵀ, summed a head at a time.
-/

@[expose] public section

set_option maxRecDepth 16384

noncomputable section

namespace KvDx

open Idealize.ShloMosaic Idealize.ShloMosaic.TcCoe Idealize.SL.Sem Idealize.ShloMosaic.Pipeline

/-- The product. -/
def G (X : (⟨2, ![2048, 2048]⟩ : Shape).Idx → EReal) (Y : (⟨2, ![256, 2048]⟩ : Shape).Idx → EReal)
    (i : (⟨2, ![2048, 256]⟩ : Shape).Idx) : EReal :=
  ∑ k : Fin 2048, X (ix2 (i 0) k) * Y (ix2 (i 1) k)

/-- Column `l` of head `h`. -/
def ofHead {n : ℕ} (Y : (⟨2, ![n, 2048]⟩ : Shape).Idx → EReal) (h : Fin 8) (t : Fin n) (l : Fin 256) : EReal :=
  Y (ix2 t ⟨h.val * 256 + l.val, by omega⟩)

section
open Cert.KvDxIdeal Cert.KvDxIdeal.Gen
variable (m : (ℓ : Loc nD τ sig) → Buf (Elt Ideal) ℓ)

/-- The arguments on a device. -/
abbrev A0 (c : Dev nD) : (⟨2, ![2048, 2048]⟩ : Shape).Idx → EReal := m ((c : Thread nD τ).loc main_arg0)
abbrev A1 (c : Dev nD) : (⟨2, ![256, 2048]⟩ : Shape).Idx → EReal := m ((c : Thread nD τ).loc main_arg1)

/-- What one grid point adds. -/
def part (x0 : Vec Ideal S1x2048x256 .f32) (x1 : Vec Ideal S1x256x256 .bf16) (i : (⟨2, ![2048, 256]⟩ : Shape).Idx) : EReal :=
  ∑ k : Fin 256, x0 (ix3 0 (i 0) k) * x1 (ix3 0 (i 1) k)

theorem scA (c : Dev nD) (t : Fin cfg0.N) (h0 : t.val % 8 = 0) (i : (⟨2, ![2048, 256]⟩ : Shape).Idx) :
    (outsAt0 m c t.val t.isLt).2 i = 0 + part (iblk m c 0 t) (iblk m c 1 t) i := by
  have hN : t.val < 8 := lt_of_lt_of_eq t.isLt N_0
  rw [outsAt0_A m c t h0 (by omega) (by omega), zero_add]
  frame_out
  rw [eq_ix2 i]
  pointwise [k0_pay2, k0_pay1]
  rfl

theorem scBC (c : Dev nD) (t : Fin cfg0.N) (h0 : ¬t.val % 8 = 0) (i : (⟨2, ![2048, 256]⟩ : Shape).Idx) :
    (outsAt0 m c t.val t.isLt).2 i
      = (outsAt0 m c (t.val - 1) (Nat.lt_of_le_of_lt (Nat.sub_le _ _) t.isLt)).2 i + part (iblk m c 0 t) (iblk m c 1 t) i := by
  by_cases h2 : t.val % 8 = 7
  · rw [outsAt0_C m c t h0 (by omega) h2]
    frame_out
    rw [eq_ix2 i]
    pointwise [k0_pay3, k0_pay1]
    exact congrArg (· + _) (congrFun (Memref.IsWhole.read_unread _ _) i)
  · rw [outsAt0_B m c t h0 (by omega) h2]
    frame_out
    rw [eq_ix2 i]
    pointwise [k0_pay3, k0_pay1]
    exact congrArg (· + _) (congrFun (Memref.IsWhole.read_unread _ _) i)

theorem outC (c : Dev nD) (t : Fin cfg0.N) (h2 : t.val % 8 = 7) : (outsAt0 m c t.val t.isLt).1 = (outsAt0 m c t.val t.isLt).2 := by
  rw [outsAt0_C m c t (by omega) (by omega) h2]
  frame_out

theorem sum_parts (c : Dev nD) (t : Fin cfg0.N) (h2 : t.val % 8 = 7) (i : (⟨2, ![2048, 256]⟩ : Shape).Idx) :
    (outsAt0 m c t.val t.isLt).2 i = ∑ s : Fin 8, part (iblk m c 0 ⟨8 * (t.val / 8) + s.val, run_point_lt_of_flush t h2 s⟩)
      (iblk m c 1 ⟨8 * (t.val / 8) + s.val, run_point_lt_of_flush t h2 s⟩) i :=
  (eq_sum_fin_of_reset_step_apply_of_flush (fun n h => (outsAt0 m c n h).2) 8 (fun _ => 0)
    (fun p => part (iblk m c 0 p) (iblk m c 1 p)) (scA m c) (scBC m c) t h2 i).trans (zero_add _)

theorem idx0 : ∀ t : Fin cfg0.N, win0_0.index t = ![t.val, 0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![0, 0] := (by decide +kernel : ∀ t : Fin grid0.N, _)

/-- The head of the point. -/
def hd (t : Fin cfg0.N) : Fin 8 := ⟨t.val, lt_of_lt_of_eq t.isLt N_0⟩

theorem V2 (c : Dev nD) (a : Fin 8) (s : Fin 2048) (l : Fin 256) : V m c main_v2 (ix3 a s l) = ofHead (A0 m c) a s l := by
  simp only [V, hostOps0, hostOps0_1, hostOps0_2, hostOps0_3, hostOps0_4, List.flatten_cons, List.flatten_nil, List.append_nil, List.cons_append, List.nil_append]
  entry_read
  show (pad S8x2048x256 ![0, 0, 0] ![0, 0, 0] ![0, 0, 0]
    (transpose S8x2048x256 [1, 0, 2] (shapeCast S2048x8x256 (A0 m c) shapeCasts_S2048x2048_S2048x8x256) transposes_S2048x8x256_S8x2048x256_1_0_2)
    (sitofp (F := Ideal) FTy.f32 (constantI S_ 32 0#32)) pads_S8x2048x256_S8x2048x256_000_000_000 h_S_) (ix3 a s l) = _
  pointwise
  rfl

theorem V6 (c : Dev nD) (a : Fin 8) (s : Fin 256) (l : Fin 256) : V m c main_v6 (ix3 a s l) = ofHead (A1 m c) a s l := by
  simp only [V, hostOps0, hostOps0_1, hostOps0_2, hostOps0_3, hostOps0_4, List.flatten_cons, List.flatten_nil, List.append_nil, List.cons_append, List.nil_append]
  entry_read
  show (pad S8x256x256 ![0, 0, 0] ![0, 0, 0] ![0, 0, 0]
    (transpose S8x256x256 [1, 0, 2] (shapeCast S256x8x256 (A1 m c) shapeCasts_S256x2048_S256x8x256) transposes_S256x8x256_S8x256x256_1_0_2)
    (sitofp (F := Ideal) FTy.f32 (constantI S_ 32 0#32)) pads_S8x256x256_S8x256x256_000_000_000 h_S_) (ix3 a s l) = _
  pointwise
  rfl

theorem emb0 (t : Fin cfg0.N) (s : Fin 2048) (l : Fin 256) : (win0_0.blk t).view.emb (ix3 0 s l) = ix3 (hd t) s l := by
  blk_ext [idx0 t, hd]

theorem emb1 (t : Fin cfg0.N) (s : Fin 256) (l : Fin 256) : (win0_1.blk t).view.emb (ix3 0 s l) = ix3 (hd t) s l := by
  blk_ext [idx1 t, hd]

theorem emb2 (t : Fin cfg0.N) (r : Fin 2048) (l : Fin 256) : (win0_2.blk t).view.emb (ix2 r l) = ix2 r l := by
  blk_ext [idx2 t]

theorem blk0 (c : Dev nD) (t : Fin cfg0.N) (s : Fin 2048) (l : Fin 256) : iblk m c 0 t (ix3 0 s l) = ofHead (A0 m c) (hd t) s l := by
  show V m c main_v2 ((win0_0.blk t).view.emb (ix3 0 s l)) = _
  rw [emb0, V2]

theorem blk1 (c : Dev nD) (t : Fin cfg0.N) (s : Fin 256) (l : Fin 256) : iblk m c 1 t (ix3 0 s l) = ofHead (A1 m c) (hd t) s l := by
  show V m c main_v6 ((win0_1.blk t).view.emb (ix3 0 s l)) = _
  rw [emb1, V6]

theorem whole (c : Dev nD) (t : Fin cfg0.N) (h2 : t.val % 8 = 7) (r : Fin 2048) (l : Fin 256) :
    ∑ s : Fin 8, part (iblk m c 0 ⟨8 * (t.val / 8) + s.val, run_point_lt_of_flush t h2 s⟩)
      (iblk m c 1 ⟨8 * (t.val / 8) + s.val, run_point_lt_of_flush t h2 s⟩) (ix2 r l) = G (A0 m c) (A1 m c) (ix2 r l) := by
  have hN : t.val < 8 := lt_of_lt_of_eq t.isLt N_0
  have e : ∀ s : Fin 8, hd ⟨8 * (t.val / 8) + s.val, run_point_lt_of_flush t h2 s⟩ = s := fun s =>
    Fin.ext (by show 8 * (t.val / 8) + s.val = s.val; omega)
  have ep : ∀ s : Fin 8, part (iblk m c 0 ⟨8 * (t.val / 8) + s.val, run_point_lt_of_flush t h2 s⟩)
      (iblk m c 1 ⟨8 * (t.val / 8) + s.val, run_point_lt_of_flush t h2 s⟩) (ix2 r l)
      = ∑ k : Fin 256, A0 m c (ix2 r ⟨s.val * 256 + k.val, by omega⟩) * A1 m c (ix2 l ⟨s.val * 256 + k.val, by omega⟩) := fun s => by
    refine (Finset.sum_congr rfl fun k _ => congrArg₂ (fun a b : EReal => a * b) (blk0 m c _ r k) (blk1 m c _ l k)).trans ?_
    simp only [e]
    rfl
  simp only [ep]
  exact Fin.sum_mul_add_congr (n := 256) fun s k hl => rfl

theorem final (c : Dev nD) : (dats m 0 c).arrAt 2 cfg0.N = G (A0 m c) (A1 m c) := by
  refine (dats m 0 c).arrAt_eq_of_covers 2 _ (by decide +kernel) fun t hf y => ?_
  have h2 : t.val % 8 = 7 := (flush0_2 t).mp hf
  blk_simp
  rw [after0_2, outC m c t h2]
  obtain ⟨r, l, hy⟩ : ∃ (r : Fin 2048) (l : Fin 256), y = ix2 r l := ⟨y 0, y 1, eq_ix2 y⟩
  rw [hy, emb2, sum_parts m c t h2]
  exact whole m c t h2 r l
end

section
open Cert.KvDxRefIdeal Cert.KvDxRefIdeal.Gen Cert.KvDxRefIdeal.Read
theorem ref (x0 : (⟨S2048x2048, .f32⟩ : BufTy).Contents (Elt Ideal)) (x1 : (⟨S256x2048, .f32⟩ : BufTy).Contents (Elt Ideal)) :
    val_main_v2 (F := Ideal) x0 x1 = G x0 x1 := by
  funext i
  rw [eq_ix2 i]
  pointwise [val_main_v2, val_main_v1, val_main_v0]
  simp only [G]
end

theorem frame_ref : Cert.quiescent_KvDxRefIdeal := fun m g _ =>
  (θ_run Cert.KvDxRefIdeal.defs _ _).mono (fun r h => ⟨fun c => (h c).2, sem_eq_zero_of_no_sems (by decide) r.2⟩)
    (Cert.KvDxRefIdeal.Value.run (F := Ideal) m g)

theorem algebraic : Cert.algebraic_KvDxIdeal_KvDxRefIdeal := by
  intro m g m' g' _ hagree
  refine ⟨fun c => G (A0 m c) (A1 m c), ?_, ?_⟩
  · exact (θ_run Cert.KvDxIdeal.defs _ _).mono (fun r h c => ⟨(h c).1.trans (final m c), (h c).2⟩)
      (Cert.KvDxIdeal.Value.run_blocks (F := Ideal) m g)
  · refine (θ_run Cert.KvDxRefIdeal.defs _ _).mono (fun r h c => ⟨(h c).1.trans ?_, (h c).2⟩)
      (Cert.KvDxRefIdeal.Value.run (F := Ideal) m' g')
    rw [Cert.KvDxRefIdeal.Read.val_main_v2_eq, ref, (hagree c).1, (hagree c).2]

end KvDx
-- ==== Proof.AdMath.lean ====
module

public import proofs.«01_k».proof.Defs

/-!
One step of the optimiser on one entry of a weight: the new first moment, the new second moment and the change,
from the entry's gradient, its value and its two moments.
-/

@[expose] public section

noncomputable section

namespace AdMath

open Idealize.ShloMosaic

/-- A single-precision literal. -/
abbrev lit (b : BitVec 32) : EReal := Ideal.ofBits .f32 b

/-- The new first moment. -/
def mom (g m : EReal) : EReal := lit 0x3F666666#32 * m + lit 0x3DCCCCCD#32 * g

/-- The new second moment. -/
def sec (g v : EReal) : EReal := lit 0x3F7FBE77#32 * v + lit 0x3A83126F#32 * (g * g)

/-- The change of the weight. -/
def chg (g w m v : EReal) : EReal :=
  lit 0xBA83126F#32 * (Ideal.div (Ideal.div (mom g m) (lit 0x3F26BD02#32))
    (Ideal.sqrt (Ideal.div (sec g v) (lit 0x3C231ACC#32)) + lit 0x322BCC77#32) + lit 0x3C23D70A#32 * w)

/-- The parts added in order, eight of them and four of them. -/
theorem sum8 (f : Fin 8 → EReal) : ∑ k, f k = f 0 + f 1 + f 2 + f 3 + f 4 + f 5 + f 6 + f 7 := Fin.sum_univ_eight f
theorem sum4 (f : Fin 4 → EReal) : ∑ k, f k = f 0 + f 1 + f 2 + f 3 := Fin.sum_univ_four f

end AdMath
-- ==== Proof.AdWin.lean ====
module

public import proofs.«01_k».proof.Proof.AdMath
public import proofs.«01_k».proof.Proof.Gen.AdWinIdeal.Value
public import proofs.«01_k».proof.Proof.Gen.AdWinRefIdeal.Read
public import Idealize.ShloMosaic.Lib.Pipeline.ValueKit.Point
public import Idealize.ShloMosaic.Lib.Claim

/-!
The optimiser's step on the input projection, kept with its rows in the lanes.
-/

@[expose] public section

set_option maxRecDepth 16384

noncomputable section

namespace AdWin

open Idealize.ShloMosaic Idealize.ShloMosaic.TcCoe Idealize.SL.Sem AdMath

section
open Cert.AdWinIdeal Cert.AdWinIdeal.Gen

/-! What one step leaves in each block. -/

section
variable (x0 : Vec Ideal S4x64x256 .bf16) (x1 x2 x3 : Vec Ideal S64x256 .f32) (r : Fin 64) (l : Fin 256)

theorem out4 : out0_4 (F := Ideal) x0 x1 x2 x3 (ix2 r l) = ∑ k : Fin 4, x0 (ix3 k r l) := by
  rw [sum4]
  unfold out0_4
  canon_tiles x h
  pointwise [k0_pay3]
  obtain rfl : r = x 0 := Fin.ext h0
  obtain rfl : l = x 1 := Fin.ext h1
  rfl

theorem out5 : out0_5 (F := Ideal) x0 x1 x2 x3 (ix2 r l) = chg (∑ k : Fin 4, x0 (ix3 k r l)) (x1 (ix2 r l)) (x2 (ix2 r l)) (x3 (ix2 r l)) := by
  rw [sum4]
  unfold out0_5
  canon_tiles x h
  pointwise [k0_pay1, k0_pay2, k0_pay6, k0_pay4, k0_pay5, k0_pay3]
  obtain rfl : r = x 0 := Fin.ext h0
  obtain rfl : l = x 1 := Fin.ext h1
  rw [← eq_ix2 x]
  rfl

theorem out6 : out0_6 (F := Ideal) x0 x1 x2 x3 (ix2 r l) = mom (∑ k : Fin 4, x0 (ix3 k r l)) (x2 (ix2 r l)) := by
  rw [sum4]
  unfold out0_6
  canon_tiles x h
  pointwise [k0_pay4, k0_pay3]
  obtain rfl : r = x 0 := Fin.ext h0
  obtain rfl : l = x 1 := Fin.ext h1
  rw [← eq_ix2 x]
  rfl

theorem out7 : out0_7 (F := Ideal) x0 x1 x2 x3 (ix2 r l) = sec (∑ k : Fin 4, x0 (ix3 k r l)) (x3 (ix2 r l)) := by
  rw [sum4]
  unfold out0_7
  canon_tiles x h
  pointwise [k0_pay5, k0_pay3]
  obtain rfl : r = x 0 := Fin.ext h0
  obtain rfl : l = x 1 := Fin.ext h1
  rw [← eq_ix2 x]
  rfl

end

variable (m : (ℓ : Loc nD τ sig) → Buf (Elt Ideal) ℓ) (c : Dev nD) (t : Fin cfg0.N)

/-- The arguments on a device. -/
abbrev A0 : (⟨3, ![4, 256, 1856]⟩ : Shape).Idx → EReal := m ((c : Thread nD τ).loc main_arg0)
abbrev A1 : (⟨2, ![256, 1856]⟩ : Shape).Idx → EReal := m ((c : Thread nD τ).loc main_arg1)
abbrev A2 : (⟨2, ![256, 1856]⟩ : Shape).Idx → EReal := m ((c : Thread nD τ).loc main_arg2)
abbrev A3 : (⟨2, ![256, 1856]⟩ : Shape).Idx → EReal := m ((c : Thread nD τ).loc main_arg3)

theorem idx0 : ∀ t : Fin cfg0.N, win0_0.index t = ![0, (grid0.coords t 0).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![(grid0.coords t 0).val, 0] := (by decide +kernel : ∀ t : Fin grid0.N, _)
theorem idx3 : ∀ t : Fin cfg0.N, win0_3.index t = ![(grid0.coords t 0).val, 0] := (by decide +kernel : ∀ t : Fin grid0.N, _)
theorem idx4 : ∀ t : Fin cfg0.N, win0_4.index t = ![(grid0.coords t 0).val, 0] := (by decide +kernel : ∀ t : Fin grid0.N, _)
theorem idx5 : ∀ t : Fin cfg0.N, win0_5.index t = ![(grid0.coords t 0).val, 0] := (by decide +kernel : ∀ t : Fin grid0.N, _)
theorem idx6 : ∀ t : Fin cfg0.N, win0_6.index t = ![(grid0.coords t 0).val, 0] := (by decide +kernel : ∀ t : Fin grid0.N, _)
theorem idx7 : ∀ t : Fin cfg0.N, win0_7.index t = ![(grid0.coords t 0).val, 0] := (by decide +kernel : ∀ t : Fin grid0.N, _)

/-- The row of a block's row. -/
def row (r : Fin 64) : Fin 1856 := ⟨(grid0.coords t 0).val * 64 + r.val, by
  have h0 : (grid0.coords t 0).val < 29 := (grid0.coords t 0).isLt
  omega⟩

theorem V0 (k : Fin 4) (r : Fin 1856) (l : Fin 256) : V m c main_v0 (ix3 k r l) = A0 m c (ix3 k l r) := by
  simp only [V, hostOps0]
  entry_read
  pointwise
theorem emb0 (k : Fin 4) (r : Fin 64) (l : Fin 256) : (win0_0.blk t).view.emb (ix3 k r l) = ix3 k (row t r) l := by
  blk_ext [idx0 t, row]
theorem blk0 (k : Fin 4) (r : Fin 64) (l : Fin 256) : iblk m c 0 t (ix3 k r l) = A0 m c (ix3 k l (row t r)) := by
  show V m c main_v0 ((win0_0.blk t).view.emb (ix3 k r l)) = _
  rw [emb0, V0]

theorem V1 (r : Fin 1856) (l : Fin 256) : V m c main_v1 (ix2 r l) = A1 m c (ix2 l r) := by
  simp only [V, hostOps0]
  entry_read
  pointwise
theorem emb1 (r : Fin 64) (l : Fin 256) : (win0_1.blk t).view.emb (ix2 r l) = ix2 (row t r) l := by
  blk_ext [idx1 t, row]
theorem blk1 (r : Fin 64) (l : Fin 256) : iblk m c 1 t (ix2 r l) = A1 m c (ix2 l (row t r)) := by
  show V m c main_v1 ((win0_1.blk t).view.emb (ix2 r l)) = _
  rw [emb1, V1]

theorem V2 (r : Fin 1856) (l : Fin 256) : V m c main_v2 (ix2 r l) = A2 m c (ix2 l r) := by
  simp only [V, hostOps0]
  entry_read
  pointwise
theorem emb2 (r : Fin 64) (l : Fin 256) : (win0_2.blk t).view.emb (ix2 r l) = ix2 (row t r) l := by
  blk_ext [idx2 t, row]
theorem blk2 (r : Fin 64) (l : Fin 256) : iblk m c 2 t (ix2 r l) = A2 m c (ix2 l (row t r)) := by
  show V m c main_v2 ((win0_2.blk t).view.emb (ix2 r l)) = _
  rw [emb2, V2]

theorem V3 (r : Fin 1856) (l : Fin 256) : V m c main_v3 (ix2 r l) = A3 m c (ix2 l r) := by
  simp only [V, hostOps0]
  entry_read
  pointwise
theorem emb3 (r : Fin 64) (l : Fin 256) : (win0_3.blk t).view.emb (ix2 r l) = ix2 (row t r) l := by
  blk_ext [idx3 t, row]
theorem blk3 (r : Fin 64) (l : Fin 256) : iblk m c 3 t (ix2 r l) = A3 m c (ix2 l (row t r)) := by
  show V m c main_v3 ((win0_3.blk t).view.emb (ix2 r l)) = _
  rw [emb3, V3]

theorem emb4 (r : Fin 64) (l : Fin 256) : (win0_4.blk t).view.emb (ix2 r l) = ix2 (row t r) l := by
  blk_ext [idx4 t, row]
theorem emb5 (r : Fin 64) (l : Fin 256) : (win0_5.blk t).view.emb (ix2 r l) = ix2 (row t r) l := by
  blk_ext [idx5 t, row]
theorem emb6 (r : Fin 64) (l : Fin 256) : (win0_6.blk t).view.emb (ix2 r l) = ix2 (row t r) l := by
  blk_ext [idx6 t, row]
theorem emb7 (r : Fin 64) (l : Fin 256) : (win0_7.blk t).view.emb (ix2 r l) = ix2 (row t r) l := by
  blk_ext [idx7 t, row]

end

/-! The results as functions of the arguments. -/

section
variable (X : (⟨3, ![4, 256, 1856]⟩ : Shape).Idx → EReal) (W M N : (⟨2, ![256, 1856]⟩ : Shape).Idx → EReal) (i : (⟨2, ![1856, 256]⟩ : Shape).Idx)
def G4 : EReal := ∑ k : Fin 4, X (ix3 k (i 1) (i 0))
def G5 : EReal := chg (G4 X i) (W (ix2 (i 1) (i 0))) (M (ix2 (i 1) (i 0))) (N (ix2 (i 1) (i 0)))
def G6 : EReal := mom (G4 X i) (M (ix2 (i 1) (i 0)))
def G7 : EReal := sec (G4 X i) (N (ix2 (i 1) (i 0)))
end

section
open Cert.AdWinIdeal Cert.AdWinIdeal.Gen
variable (m : (ℓ : Loc nD τ sig) → Buf (Elt Ideal) ℓ) (c : Dev nD)

theorem final4 : (dats m 0 c).arrAt 4 cfg0.N = G4 (A0 m c) := by
  refine (dats m 0 c).arrAt_eq_of_covers 4 _ (by decide +kernel) fun t hf y => ?_
  blk_simp
  rw [after0_4]
  obtain ⟨r, l, hy⟩ : ∃ (r : Fin 64) (l : Fin 256), y = ix2 r l := ⟨y 0, y 1, eq_ix2 y⟩
  rw [hy, out4, emb4]
  simp only [blk0]
  rfl

theorem final5 : (dats m 0 c).arrAt 5 cfg0.N = G5 (A0 m c) (A1 m c) (A2 m c) (A3 m c) := by
  refine (dats m 0 c).arrAt_eq_of_covers 5 _ (by decide +kernel) fun t hf y => ?_
  blk_simp
  rw [after0_5]
  obtain ⟨r, l, hy⟩ : ∃ (r : Fin 64) (l : Fin 256), y = ix2 r l := ⟨y 0, y 1, eq_ix2 y⟩
  rw [hy, out5, emb5]
  simp only [blk0, blk1, blk2, blk3]
  rfl

theorem final6 : (dats m 0 c).arrAt 6 cfg0.N = G6 (A0 m c) (A2 m c) := by
  refine (dats m 0 c).arrAt_eq_of_covers 6 _ (by decide +kernel) fun t hf y => ?_
  blk_simp
  rw [after0_6]
  obtain ⟨r, l, hy⟩ : ∃ (r : Fin 64) (l : Fin 256), y = ix2 r l := ⟨y 0, y 1, eq_ix2 y⟩
  rw [hy, out6, emb6]
  simp only [blk0, blk2]
  rfl

theorem final7 : (dats m 0 c).arrAt 7 cfg0.N = G7 (A0 m c) (A3 m c) := by
  refine (dats m 0 c).arrAt_eq_of_covers 7 _ (by decide +kernel) fun t hf y => ?_
  blk_simp
  rw [after0_7]
  obtain ⟨r, l, hy⟩ : ∃ (r : Fin 64) (l : Fin 256), y = ix2 r l := ⟨y 0, y 1, eq_ix2 y⟩
  rw [hy, out7, emb7]
  simp only [blk0, blk3]
  rfl

end

/-! The reference's results. -/

section
open Cert.AdWinRefIdeal Cert.AdWinRefIdeal.Gen Cert.AdWinRefIdeal.Read
variable (x0 : (⟨S4x256x1856, .bf16⟩ : BufTy).Contents (Elt Ideal)) (x1 x2 x3 : (⟨S256x1856, .f32⟩ : BufTy).Contents (Elt Ideal)) (r : Fin 256) (l : Fin 1856)

theorem ref_g : val_main_v1 (F := Ideal) x0 (ix2 r l) = ∑ k : Fin 4, x0 (ix3 k r l) := by
  pointwise [val_main_v1, val_main_v0, val_main_cst]
theorem ref_m : val_main_v6 (F := Ideal) x0 x2 (ix2 r l) = mom (∑ k : Fin 4, x0 (ix3 k r l)) (x2 (ix2 r l)) := by
  rw [← ref_g]
  rfl
theorem ref_v : val_main_v12 (F := Ideal) x0 x3 (ix2 r l) = sec (∑ k : Fin 4, x0 (ix3 k r l)) (x3 (ix2 r l)) := by
  rw [← ref_g]
  rfl
theorem ref_d : val_main_v25 (F := Ideal) x0 x1 x2 x3 (ix2 r l)
    = chg (∑ k : Fin 4, x0 (ix3 k r l)) (x1 (ix2 r l)) (x2 (ix2 r l)) (x3 (ix2 r l)) := by
  rw [← ref_g]
  rfl

theorem ref4 : val_main_v26 (F := Ideal) x0 = G4 x0 := by
  funext i
  have e : idx_main_v26 i = ix2 (i 1) (i 0) := eq_ix2 _
  rw [val_main_v26_apply, e]
  exact ref_g x0 (i 1) (i 0)

theorem ref5 : val_main_v27 (F := Ideal) x0 x1 x2 x3 = G5 x0 x1 x2 x3 := by
  funext i
  have e : idx_main_v27 i = ix2 (i 1) (i 0) := eq_ix2 _
  rw [val_main_v27_apply, e]
  exact ref_d x0 x1 x2 x3 (i 1) (i 0)

theorem ref6 : val_main_v28 (F := Ideal) x0 x2 = G6 x0 x2 := by
  funext i
  have e : idx_main_v28 i = ix2 (i 1) (i 0) := eq_ix2 _
  rw [val_main_v28_apply, e]
  exact ref_m x0 x2 (i 1) (i 0)

theorem ref7 : val_main_v29 (F := Ideal) x0 x3 = G7 x0 x3 := by
  funext i
  have e : idx_main_v29 i = ix2 (i 1) (i 0) := eq_ix2 _
  rw [val_main_v29_apply, e]
  exact ref_v x0 x3 (i 1) (i 0)

end

theorem frame_ref : Cert.quiescent_AdWinRefIdeal := fun m g _ =>
  (θ_run Cert.AdWinRefIdeal.defs _ _).mono (fun r h => ⟨fun c => (h c).2.2.2.2, sem_eq_zero_of_no_sems (by decide) r.2⟩)
    (Cert.AdWinRefIdeal.Value.run (F := Ideal) m g)

theorem algebraic : Cert.algebraic_AdWinIdeal_AdWinRefIdeal := by
  intro m g m' g' _ hagree
  refine ⟨fun c => G4 (A0 m c), fun c => G5 (A0 m c) (A1 m c) (A2 m c) (A3 m c), fun c => G6 (A0 m c) (A2 m c), fun c => G7 (A0 m c) (A3 m c), ?_, ?_⟩
  · refine (θ_run Cert.AdWinIdeal.defs _ _).mono (fun r h c => ?_) (Cert.AdWinIdeal.Value.run_blocks (F := Ideal) m g)
    obtain ⟨h4, h5, h6, h7, h⟩ := h c
    exact ⟨h4.trans (final4 m c), h5.trans (final5 m c), h6.trans (final6 m c), h7.trans (final7 m c), h⟩
  · refine (θ_run Cert.AdWinRefIdeal.defs _ _).mono (fun r h c => ?_) (Cert.AdWinRefIdeal.Value.run (F := Ideal) m' g')
    obtain ⟨h4, h5, h6, h7, h⟩ := h c
    obtain ⟨e0, e1, e2, e3⟩ := hagree c
    refine ⟨h4.trans ?_, h5.trans ?_, h6.trans ?_, h7.trans ?_, h⟩
    · rw [Cert.AdWinRefIdeal.Read.val_main_v26_eq, ref4, e0]
    · rw [Cert.AdWinRefIdeal.Read.val_main_v27_eq, ref5, e0, e1, e2, e3]
    · rw [Cert.AdWinRefIdeal.Read.val_main_v28_eq, ref6, e0, e2]
    · rw [Cert.AdWinRefIdeal.Read.val_main_v29_eq, ref7, e0, e3]

end AdWin
-- ==== Proof.AdWglu.lean ====
module

public import proofs.«01_k».proof.Proof.AdMath
public import proofs.«01_k».proof.Proof.Gen.AdWgluIdeal.Value
public import proofs.«01_k».proof.Proof.Gen.AdWgluRefIdeal.Read
public import Idealize.ShloMosaic.Lib.Pipeline.ValueKit.Point
public import Idealize.ShloMosaic.Lib.Claim

/-!
The optimiser's step on the gated projection.
-/

@[expose] public section

set_option maxRecDepth 16384

noncomputable section

namespace AdWglu

open Idealize.ShloMosaic Idealize.ShloMosaic.TcCoe Idealize.SL.Sem AdMath

section
open Cert.AdWgluIdeal Cert.AdWgluIdeal.Gen

/-! What one step leaves in each block. -/

section
variable (x0 : Vec Ideal S8x128x1024 .bf16) (x1 x2 x3 : Vec Ideal S128x1024 .f32) (r : Fin 128) (l : Fin 1024)

theorem out4 : out0_4 (F := Ideal) x0 x1 x2 x3 (ix2 r l) = ∑ k : Fin 8, x0 (ix3 k r l) := by
  rw [sum8]
  unfold out0_4
  canon_tiles x h
  pointwise [k0_pay2]
  obtain rfl : r = x 0 := Fin.ext h0
  obtain rfl : l = x 1 := Fin.ext h1
  rfl

theorem out5 : out0_5 (F := Ideal) x0 x1 x2 x3 (ix2 r l) = chg (∑ k : Fin 8, x0 (ix3 k r l)) (x1 (ix2 r l)) (x2 (ix2 r l)) (x3 (ix2 r l)) := by
  rw [sum8]
  unfold out0_5 k0_pay5 k0_pay6
  canon_tiles x h
  pointwise [k0_pay1, k0_pay3, k0_pay4, k0_pay2]
  obtain rfl : r = x 0 := Fin.ext h0
  obtain rfl : l = x 1 := Fin.ext h1
  rw [← eq_ix2 x]
  rfl

theorem out6 : out0_6 (F := Ideal) x0 x1 x2 x3 (ix2 r l) = mom (∑ k : Fin 8, x0 (ix3 k r l)) (x2 (ix2 r l)) := by
  rw [sum8]
  unfold out0_6 k0_pay5
  canon_tiles x h
  pointwise [k0_pay3, k0_pay2]
  obtain rfl : r = x 0 := Fin.ext h0
  obtain rfl : l = x 1 := Fin.ext h1
  rw [← eq_ix2 x]
  rfl

theorem out7 : out0_7 (F := Ideal) x0 x1 x2 x3 (ix2 r l) = sec (∑ k : Fin 8, x0 (ix3 k r l)) (x3 (ix2 r l)) := by
  rw [sum8]
  unfold out0_7 k0_pay6
  canon_tiles x h
  pointwise [k0_pay4, k0_pay2]
  obtain rfl : r = x 0 := Fin.ext h0
  obtain rfl : l = x 1 := Fin.ext h1
  rw [← eq_ix2 x]
  rfl

end

variable (m : (ℓ : Loc nD τ sig) → Buf (Elt Ideal) ℓ) (c : Dev nD) (t : Fin cfg0.N)

/-- The arguments on a device. -/
abbrev A0 : (⟨3, ![8, 128, 1024]⟩ : Shape).Idx → EReal := m ((c : Thread nD τ).loc main_arg0)
abbrev A1 : (⟨2, ![128, 1024]⟩ : Shape).Idx → EReal := m ((c : Thread nD τ).loc main_arg1)
abbrev A2 : (⟨2, ![128, 1024]⟩ : Shape).Idx → EReal := m ((c : Thread nD τ).loc main_arg2)
abbrev A3 : (⟨2, ![128, 1024]⟩ : Shape).Idx → EReal := m ((c : Thread nD τ).loc main_arg3)

theorem idx0 : ∀ t : Fin cfg0.N, win0_0.index t = ![0, (grid0.coords t 0).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![(grid0.coords t 0).val, 0] := (by decide +kernel : ∀ t : Fin grid0.N, _)
theorem idx3 : ∀ t : Fin cfg0.N, win0_3.index t = ![(grid0.coords t 0).val, 0] := (by decide +kernel : ∀ t : Fin grid0.N, _)
theorem idx4 : ∀ t : Fin cfg0.N, win0_4.index t = ![(grid0.coords t 0).val, 0] := (by decide +kernel : ∀ t : Fin grid0.N, _)
theorem idx5 : ∀ t : Fin cfg0.N, win0_5.index t = ![(grid0.coords t 0).val, 0] := (by decide +kernel : ∀ t : Fin grid0.N, _)
theorem idx6 : ∀ t : Fin cfg0.N, win0_6.index t = ![(grid0.coords t 0).val, 0] := (by decide +kernel : ∀ t : Fin grid0.N, _)
theorem idx7 : ∀ t : Fin cfg0.N, win0_7.index t = ![(grid0.coords t 0).val, 0] := (by decide +kernel : ∀ t : Fin grid0.N, _)

/-- The row of a block's row. -/
def row (r : Fin 128) : Fin 128 := ⟨(grid0.coords t 0).val * 128 + r.val, by
  have h0 : (grid0.coords t 0).val < 1 := (grid0.coords t 0).isLt
  omega⟩

theorem blk0 (k : Fin 8) (r : Fin 128) (l : Fin 1024) : iblk m c 0 t (ix3 k r l) = A0 m c (ix3 k (row t r) l) := by
  blk_ext! [iblk, V, idx0 t, row]
theorem blk1 (r : Fin 128) (l : Fin 1024) : iblk m c 1 t (ix2 r l) = A1 m c (ix2 (row t r) l) := by
  blk_ext! [iblk, V, idx1 t, row]
theorem blk2 (r : Fin 128) (l : Fin 1024) : iblk m c 2 t (ix2 r l) = A2 m c (ix2 (row t r) l) := by
  blk_ext! [iblk, V, idx2 t, row]
theorem blk3 (r : Fin 128) (l : Fin 1024) : iblk m c 3 t (ix2 r l) = A3 m c (ix2 (row t r) l) := by
  blk_ext! [iblk, V, idx3 t, row]
theorem emb4 (r : Fin 128) (l : Fin 1024) : (win0_4.blk t).view.emb (ix2 r l) = ix2 (row t r) l := by
  blk_ext [idx4 t, row]
theorem emb5 (r : Fin 128) (l : Fin 1024) : (win0_5.blk t).view.emb (ix2 r l) = ix2 (row t r) l := by
  blk_ext [idx5 t, row]
theorem emb6 (r : Fin 128) (l : Fin 1024) : (win0_6.blk t).view.emb (ix2 r l) = ix2 (row t r) l := by
  blk_ext [idx6 t, row]
theorem emb7 (r : Fin 128) (l : Fin 1024) : (win0_7.blk t).view.emb (ix2 r l) = ix2 (row t r) l := by
  blk_ext [idx7 t, row]

end

/-! The results as functions of the arguments. -/

section
variable (X : (⟨3, ![8, 128, 1024]⟩ : Shape).Idx → EReal) (W M N : (⟨2, ![128, 1024]⟩ : Shape).Idx → EReal) (i : (⟨2, ![128, 1024]⟩ : Shape).Idx)
def G4 : EReal := ∑ k : Fin 8, X (ix3 k (i 0) (i 1))
def G5 : EReal := chg (G4 X i) (W (ix2 (i 0) (i 1))) (M (ix2 (i 0) (i 1))) (N (ix2 (i 0) (i 1)))
def G6 : EReal := mom (G4 X i) (M (ix2 (i 0) (i 1)))
def G7 : EReal := sec (G4 X i) (N (ix2 (i 0) (i 1)))
end

section
open Cert.AdWgluIdeal Cert.AdWgluIdeal.Gen
variable (m : (ℓ : Loc nD τ sig) → Buf (Elt Ideal) ℓ) (c : Dev nD)

theorem final4 : (dats m 0 c).arrAt 4 cfg0.N = G4 (A0 m c) := by
  refine (dats m 0 c).arrAt_eq_of_covers 4 _ (by decide +kernel) fun t hf y => ?_
  blk_simp
  rw [after0_4]
  obtain ⟨r, l, hy⟩ : ∃ (r : Fin 128) (l : Fin 1024), y = ix2 r l := ⟨y 0, y 1, eq_ix2 y⟩
  rw [hy, out4, emb4]
  simp only [blk0]
  rfl

theorem final5 : (dats m 0 c).arrAt 5 cfg0.N = G5 (A0 m c) (A1 m c) (A2 m c) (A3 m c) := by
  refine (dats m 0 c).arrAt_eq_of_covers 5 _ (by decide +kernel) fun t hf y => ?_
  blk_simp
  rw [after0_5]
  obtain ⟨r, l, hy⟩ : ∃ (r : Fin 128) (l : Fin 1024), y = ix2 r l := ⟨y 0, y 1, eq_ix2 y⟩
  rw [hy, out5, emb5]
  simp only [blk0, blk1, blk2, blk3]
  rfl

theorem final6 : (dats m 0 c).arrAt 6 cfg0.N = G6 (A0 m c) (A2 m c) := by
  refine (dats m 0 c).arrAt_eq_of_covers 6 _ (by decide +kernel) fun t hf y => ?_
  blk_simp
  rw [after0_6]
  obtain ⟨r, l, hy⟩ : ∃ (r : Fin 128) (l : Fin 1024), y = ix2 r l := ⟨y 0, y 1, eq_ix2 y⟩
  rw [hy, out6, emb6]
  simp only [blk0, blk2]
  rfl

theorem final7 : (dats m 0 c).arrAt 7 cfg0.N = G7 (A0 m c) (A3 m c) := by
  refine (dats m 0 c).arrAt_eq_of_covers 7 _ (by decide +kernel) fun t hf y => ?_
  blk_simp
  rw [after0_7]
  obtain ⟨r, l, hy⟩ : ∃ (r : Fin 128) (l : Fin 1024), y = ix2 r l := ⟨y 0, y 1, eq_ix2 y⟩
  rw [hy, out7, emb7]
  simp only [blk0, blk3]
  rfl

end

/-! The reference's results. -/

section
open Cert.AdWgluRefIdeal Cert.AdWgluRefIdeal.Gen Cert.AdWgluRefIdeal.Read
variable (x0 : (⟨S8x128x1024, .bf16⟩ : BufTy).Contents (Elt Ideal)) (x1 x2 x3 : (⟨S128x1024, .f32⟩ : BufTy).Contents (Elt Ideal)) (r : Fin 128) (l : Fin 1024)

theorem ref_g : val_main_v1 (F := Ideal) x0 (ix2 r l) = ∑ k : Fin 8, x0 (ix3 k r l) := by
  pointwise [val_main_v1, val_main_v0, val_main_cst]
theorem ref_m : val_main_v6 (F := Ideal) x0 x2 (ix2 r l) = mom (∑ k : Fin 8, x0 (ix3 k r l)) (x2 (ix2 r l)) := by
  rw [← ref_g]
  rfl
theorem ref_v : val_main_v12 (F := Ideal) x0 x3 (ix2 r l) = sec (∑ k : Fin 8, x0 (ix3 k r l)) (x3 (ix2 r l)) := by
  rw [← ref_g]
  rfl
theorem ref_d : val_main_v25 (F := Ideal) x0 x1 x2 x3 (ix2 r l)
    = chg (∑ k : Fin 8, x0 (ix3 k r l)) (x1 (ix2 r l)) (x2 (ix2 r l)) (x3 (ix2 r l)) := by
  rw [← ref_g]
  rfl

theorem ref4 : val_main_v1 (F := Ideal) x0 = G4 x0 := by
  funext i
  rw [eq_ix2 i]
  exact ref_g x0 (i 0) (i 1)

theorem ref5 : val_main_v25 (F := Ideal) x0 x1 x2 x3 = G5 x0 x1 x2 x3 := by
  funext i
  rw [eq_ix2 i]
  exact ref_d x0 x1 x2 x3 (i 0) (i 1)

theorem ref6 : val_main_v6 (F := Ideal) x0 x2 = G6 x0 x2 := by
  funext i
  rw [eq_ix2 i]
  exact ref_m x0 x2 (i 0) (i 1)

theorem ref7 : val_main_v12 (F := Ideal) x0 x3 = G7 x0 x3 := by
  funext i
  rw [eq_ix2 i]
  exact ref_v x0 x3 (i 0) (i 1)

end

theorem frame_ref : Cert.quiescent_AdWgluRefIdeal := fun m g _ =>
  (θ_run Cert.AdWgluRefIdeal.defs _ _).mono (fun r h => ⟨fun c => (h c).2.2.2.2, sem_eq_zero_of_no_sems (by decide) r.2⟩)
    (Cert.AdWgluRefIdeal.Value.run (F := Ideal) m g)

theorem algebraic : Cert.algebraic_AdWgluIdeal_AdWgluRefIdeal := by
  intro m g m' g' _ hagree
  refine ⟨fun c => G4 (A0 m c), fun c => G5 (A0 m c) (A1 m c) (A2 m c) (A3 m c), fun c => G6 (A0 m c) (A2 m c), fun c => G7 (A0 m c) (A3 m c), ?_, ?_⟩
  · refine (θ_run Cert.AdWgluIdeal.defs _ _).mono (fun r h c => ?_) (Cert.AdWgluIdeal.Value.run_blocks (F := Ideal) m g)
    obtain ⟨h4, h5, h6, h7, h⟩ := h c
    exact ⟨h4.trans (final4 m c), h5.trans (final5 m c), h6.trans (final6 m c), h7.trans (final7 m c), h⟩
  · refine (θ_run Cert.AdWgluRefIdeal.defs _ _).mono (fun r h c => ?_) (Cert.AdWgluRefIdeal.Value.run (F := Ideal) m' g')
    obtain ⟨h4, h5, h6, h7, h⟩ := h c
    obtain ⟨e0, e1, e2, e3⟩ := hagree c
    refine ⟨h4.trans ?_, h5.trans ?_, h6.trans ?_, h7.trans ?_, h⟩
    · rw [Cert.AdWgluRefIdeal.Read.val_main_v1_eq, ref4, e0]
    · rw [Cert.AdWgluRefIdeal.Read.val_main_v25_eq, ref5, e0, e1, e2, e3]
    · rw [Cert.AdWgluRefIdeal.Read.val_main_v6_eq, ref6, e0, e2]
    · rw [Cert.AdWgluRefIdeal.Read.val_main_v12_eq, ref7, e0, e3]

end AdWglu
-- ==== Proof.AdWuq.lean ====
module

public import proofs.«01_k».proof.Proof.AdMath
public import proofs.«01_k».proof.Proof.Gen.AdWuqIdeal.Value
public import proofs.«01_k».proof.Proof.Gen.AdWuqRefIdeal.Read
public import Idealize.ShloMosaic.Lib.Pipeline.ValueKit.Point
public import Idealize.ShloMosaic.Lib.Claim

/-!
The optimiser's step on the query up projection, kept with its rows in the lanes.
-/

@[expose] public section

set_option maxRecDepth 16384

noncomputable section

namespace AdWuq

open Idealize.ShloMosaic Idealize.ShloMosaic.TcCoe Idealize.SL.Sem AdMath

section
open Cert.AdWuqIdeal Cert.AdWuqIdeal.Gen

/-! What one step leaves in each block. -/

section
variable (x0 : Vec Ideal S8x192x512 .bf16) (x1 x2 x3 : Vec Ideal S192x512 .f32) (r : Fin 192) (l : Fin 512)

theorem out4 : out0_4 (F := Ideal) x0 x1 x2 x3 (ix2 r l) = ∑ k : Fin 8, x0 (ix3 k r l) := by
  rw [sum8]
  unfold out0_4
  canon_tiles x h
  pointwise [k0_pay4]
  obtain rfl : r = x 0 := Fin.ext h0
  obtain rfl : l = x 1 := Fin.ext h1
  rfl

theorem out5 : out0_5 (F := Ideal) x0 x1 x2 x3 (ix2 r l) = chg (∑ k : Fin 8, x0 (ix3 k r l)) (x1 (ix2 r l)) (x2 (ix2 r l)) (x3 (ix2 r l)) := by
  rw [sum8]
  unfold out0_5 k0_pay8 k0_pay9 k0_pay10
  canon_tiles x h
  pointwise [k0_pay2, k0_pay3, k0_pay1, k0_pay5, k0_pay6, k0_pay7, k0_pay4]
  obtain rfl : r = x 0 := Fin.ext h0
  obtain rfl : l = x 1 := Fin.ext h1
  rw [← eq_ix2 x]
  rfl

theorem out6 : out0_6 (F := Ideal) x0 x1 x2 x3 (ix2 r l) = mom (∑ k : Fin 8, x0 (ix3 k r l)) (x2 (ix2 r l)) := by
  rw [sum8]
  unfold out0_6 k0_pay8
  canon_tiles x h
  pointwise [k0_pay5, k0_pay4]
  obtain rfl : r = x 0 := Fin.ext h0
  obtain rfl : l = x 1 := Fin.ext h1
  rw [← eq_ix2 x]
  rfl

theorem out7 : out0_7 (F := Ideal) x0 x1 x2 x3 (ix2 r l) = sec (∑ k : Fin 8, x0 (ix3 k r l)) (x3 (ix2 r l)) := by
  rw [sum8]
  unfold out0_7 k0_pay9 k0_pay10
  canon_tiles x h
  pointwise [k0_pay1, k0_pay6, k0_pay7, k0_pay4]
  obtain rfl : r = x 0 := Fin.ext h0
  obtain rfl : l = x 1 := Fin.ext h1
  rw [← eq_ix2 x]
  rfl

end

variable (m : (ℓ : Loc nD τ sig) → Buf (Elt Ideal) ℓ) (c : Dev nD) (t : Fin cfg0.N)

/-- The arguments on a device. -/
abbrev A0 : (⟨3, ![8, 512, 192]⟩ : Shape).Idx → EReal := m ((c : Thread nD τ).loc main_arg0)
abbrev A1 : (⟨2, ![512, 192]⟩ : Shape).Idx → EReal := m ((c : Thread nD τ).loc main_arg1)
abbrev A2 : (⟨2, ![512, 192]⟩ : Shape).Idx → EReal := m ((c : Thread nD τ).loc main_arg2)
abbrev A3 : (⟨2, ![512, 192]⟩ : Shape).Idx → EReal := m ((c : Thread nD τ).loc main_arg3)

theorem idx0 : ∀ t : Fin cfg0.N, win0_0.index t = ![0, (grid0.coords t 0).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![(grid0.coords t 0).val, 0] := (by decide +kernel : ∀ t : Fin grid0.N, _)
theorem idx3 : ∀ t : Fin cfg0.N, win0_3.index t = ![(grid0.coords t 0).val, 0] := (by decide +kernel : ∀ t : Fin grid0.N, _)
theorem idx4 : ∀ t : Fin cfg0.N, win0_4.index t = ![(grid0.coords t 0).val, 0] := (by decide +kernel : ∀ t : Fin grid0.N, _)
theorem idx5 : ∀ t : Fin cfg0.N, win0_5.index t = ![(grid0.coords t 0).val, 0] := (by decide +kernel : ∀ t : Fin grid0.N, _)
theorem idx6 : ∀ t : Fin cfg0.N, win0_6.index t = ![(grid0.coords t 0).val, 0] := (by decide +kernel : ∀ t : Fin grid0.N, _)
theorem idx7 : ∀ t : Fin cfg0.N, win0_7.index t = ![(grid0.coords t 0).val, 0] := (by decide +kernel : ∀ t : Fin grid0.N, _)

/-- The row of a block's row. -/
def row (r : Fin 192) : Fin 192 := ⟨(grid0.coords t 0).val * 192 + r.val, by
  have h0 : (grid0.coords t 0).val < 1 := (grid0.coords t 0).isLt
  omega⟩

theorem V0 (k : Fin 8) (r : Fin 192) (l : Fin 512) : V m c main_v0 (ix3 k r l) = A0 m c (ix3 k l r) := by
  simp only [V, hostOps0]
  entry_read
  pointwise
theorem emb0 (k : Fin 8) (r : Fin 192) (l : Fin 512) : (win0_0.blk t).view.emb (ix3 k r l) = ix3 k (row t r) l := by
  blk_ext [idx0 t, row]
theorem blk0 (k : Fin 8) (r : Fin 192) (l : Fin 512) : iblk m c 0 t (ix3 k r l) = A0 m c (ix3 k l (row t r)) := by
  show V m c main_v0 ((win0_0.blk t).view.emb (ix3 k r l)) = _
  rw [emb0, V0]

theorem V1 (r : Fin 192) (l : Fin 512) : V m c main_v1 (ix2 r l) = A1 m c (ix2 l r) := by
  simp only [V, hostOps0]
  entry_read
  pointwise
theorem emb1 (r : Fin 192) (l : Fin 512) : (win0_1.blk t).view.emb (ix2 r l) = ix2 (row t r) l := by
  blk_ext [idx1 t, row]
theorem blk1 (r : Fin 192) (l : Fin 512) : iblk m c 1 t (ix2 r l) = A1 m c (ix2 l (row t r)) := by
  show V m c main_v1 ((win0_1.blk t).view.emb (ix2 r l)) = _
  rw [emb1, V1]

theorem V2 (r : Fin 192) (l : Fin 512) : V m c main_v2 (ix2 r l) = A2 m c (ix2 l r) := by
  simp only [V, hostOps0]
  entry_read
  pointwise
theorem emb2 (r : Fin 192) (l : Fin 512) : (win0_2.blk t).view.emb (ix2 r l) = ix2 (row t r) l := by
  blk_ext [idx2 t, row]
theorem blk2 (r : Fin 192) (l : Fin 512) : iblk m c 2 t (ix2 r l) = A2 m c (ix2 l (row t r)) := by
  show V m c main_v2 ((win0_2.blk t).view.emb (ix2 r l)) = _
  rw [emb2, V2]

theorem V3 (r : Fin 192) (l : Fin 512) : V m c main_v3 (ix2 r l) = A3 m c (ix2 l r) := by
  simp only [V, hostOps0]
  entry_read
  pointwise
theorem emb3 (r : Fin 192) (l : Fin 512) : (win0_3.blk t).view.emb (ix2 r l) = ix2 (row t r) l := by
  blk_ext [idx3 t, row]
theorem blk3 (r : Fin 192) (l : Fin 512) : iblk m c 3 t (ix2 r l) = A3 m c (ix2 l (row t r)) := by
  show V m c main_v3 ((win0_3.blk t).view.emb (ix2 r l)) = _
  rw [emb3, V3]

theorem emb4 (r : Fin 192) (l : Fin 512) : (win0_4.blk t).view.emb (ix2 r l) = ix2 (row t r) l := by
  blk_ext [idx4 t, row]
theorem emb5 (r : Fin 192) (l : Fin 512) : (win0_5.blk t).view.emb (ix2 r l) = ix2 (row t r) l := by
  blk_ext [idx5 t, row]
theorem emb6 (r : Fin 192) (l : Fin 512) : (win0_6.blk t).view.emb (ix2 r l) = ix2 (row t r) l := by
  blk_ext [idx6 t, row]
theorem emb7 (r : Fin 192) (l : Fin 512) : (win0_7.blk t).view.emb (ix2 r l) = ix2 (row t r) l := by
  blk_ext [idx7 t, row]

end

/-! The results as functions of the arguments. -/

section
variable (X : (⟨3, ![8, 512, 192]⟩ : Shape).Idx → EReal) (W M N : (⟨2, ![512, 192]⟩ : Shape).Idx → EReal) (i : (⟨2, ![192, 512]⟩ : Shape).Idx)
def G4 : EReal := ∑ k : Fin 8, X (ix3 k (i 1) (i 0))
def G5 : EReal := chg (G4 X i) (W (ix2 (i 1) (i 0))) (M (ix2 (i 1) (i 0))) (N (ix2 (i 1) (i 0)))
def G6 : EReal := mom (G4 X i) (M (ix2 (i 1) (i 0)))
def G7 : EReal := sec (G4 X i) (N (ix2 (i 1) (i 0)))
end

section
open Cert.AdWuqIdeal Cert.AdWuqIdeal.Gen
variable (m : (ℓ : Loc nD τ sig) → Buf (Elt Ideal) ℓ) (c : Dev nD)

theorem final4 : (dats m 0 c).arrAt 4 cfg0.N = G4 (A0 m c) := by
  refine (dats m 0 c).arrAt_eq_of_covers 4 _ (by decide +kernel) fun t hf y => ?_
  blk_simp
  rw [after0_4]
  obtain ⟨r, l, hy⟩ : ∃ (r : Fin 192) (l : Fin 512), y = ix2 r l := ⟨y 0, y 1, eq_ix2 y⟩
  rw [hy, out4, emb4]
  simp only [blk0]
  rfl

theorem final5 : (dats m 0 c).arrAt 5 cfg0.N = G5 (A0 m c) (A1 m c) (A2 m c) (A3 m c) := by
  refine (dats m 0 c).arrAt_eq_of_covers 5 _ (by decide +kernel) fun t hf y => ?_
  blk_simp
  rw [after0_5]
  obtain ⟨r, l, hy⟩ : ∃ (r : Fin 192) (l : Fin 512), y = ix2 r l := ⟨y 0, y 1, eq_ix2 y⟩
  rw [hy, out5, emb5]
  simp only [blk0, blk1, blk2, blk3]
  rfl

theorem final6 : (dats m 0 c).arrAt 6 cfg0.N = G6 (A0 m c) (A2 m c) := by
  refine (dats m 0 c).arrAt_eq_of_covers 6 _ (by decide +kernel) fun t hf y => ?_
  blk_simp
  rw [after0_6]
  obtain ⟨r, l, hy⟩ : ∃ (r : Fin 192) (l : Fin 512), y = ix2 r l := ⟨y 0, y 1, eq_ix2 y⟩
  rw [hy, out6, emb6]
  simp only [blk0, blk2]
  rfl

theorem final7 : (dats m 0 c).arrAt 7 cfg0.N = G7 (A0 m c) (A3 m c) := by
  refine (dats m 0 c).arrAt_eq_of_covers 7 _ (by decide +kernel) fun t hf y => ?_
  blk_simp
  rw [after0_7]
  obtain ⟨r, l, hy⟩ : ∃ (r : Fin 192) (l : Fin 512), y = ix2 r l := ⟨y 0, y 1, eq_ix2 y⟩
  rw [hy, out7, emb7]
  simp only [blk0, blk3]
  rfl

end

/-! The reference's results. -/

section
open Cert.AdWuqRefIdeal Cert.AdWuqRefIdeal.Gen Cert.AdWuqRefIdeal.Read
variable (x0 : (⟨S8x512x192, .bf16⟩ : BufTy).Contents (Elt Ideal)) (x1 x2 x3 : (⟨S512x192, .f32⟩ : BufTy).Contents (Elt Ideal)) (r : Fin 512) (l : Fin 192)

theorem ref_g : val_main_v1 (F := Ideal) x0 (ix2 r l) = ∑ k : Fin 8, x0 (ix3 k r l) := by
  pointwise [val_main_v1, val_main_v0, val_main_cst]
theorem ref_m : val_main_v6 (F := Ideal) x0 x2 (ix2 r l) = mom (∑ k : Fin 8, x0 (ix3 k r l)) (x2 (ix2 r l)) := by
  rw [← ref_g]
  rfl
theorem ref_v : val_main_v12 (F := Ideal) x0 x3 (ix2 r l) = sec (∑ k : Fin 8, x0 (ix3 k r l)) (x3 (ix2 r l)) := by
  rw [← ref_g]
  rfl
theorem ref_d : val_main_v25 (F := Ideal) x0 x1 x2 x3 (ix2 r l)
    = chg (∑ k : Fin 8, x0 (ix3 k r l)) (x1 (ix2 r l)) (x2 (ix2 r l)) (x3 (ix2 r l)) := by
  rw [← ref_g]
  rfl

theorem ref4 : val_main_v26 (F := Ideal) x0 = G4 x0 := by
  funext i
  have e : idx_main_v26 i = ix2 (i 1) (i 0) := eq_ix2 _
  rw [val_main_v26_apply, e]
  exact ref_g x0 (i 1) (i 0)

theorem ref5 : val_main_v27 (F := Ideal) x0 x1 x2 x3 = G5 x0 x1 x2 x3 := by
  funext i
  have e : idx_main_v27 i = ix2 (i 1) (i 0) := eq_ix2 _
  rw [val_main_v27_apply, e]
  exact ref_d x0 x1 x2 x3 (i 1) (i 0)

theorem ref6 : val_main_v28 (F := Ideal) x0 x2 = G6 x0 x2 := by
  funext i
  have e : idx_main_v28 i = ix2 (i 1) (i 0) := eq_ix2 _
  rw [val_main_v28_apply, e]
  exact ref_m x0 x2 (i 1) (i 0)

theorem ref7 : val_main_v29 (F := Ideal) x0 x3 = G7 x0 x3 := by
  funext i
  have e : idx_main_v29 i = ix2 (i 1) (i 0) := eq_ix2 _
  rw [val_main_v29_apply, e]
  exact ref_v x0 x3 (i 1) (i 0)

end

theorem frame_ref : Cert.quiescent_AdWuqRefIdeal := fun m g _ =>
  (θ_run Cert.AdWuqRefIdeal.defs _ _).mono (fun r h => ⟨fun c => (h c).2.2.2.2, sem_eq_zero_of_no_sems (by decide) r.2⟩)
    (Cert.AdWuqRefIdeal.Value.run (F := Ideal) m g)

theorem algebraic : Cert.algebraic_AdWuqIdeal_AdWuqRefIdeal := by
  intro m g m' g' _ hagree
  refine ⟨fun c => G4 (A0 m c), fun c => G5 (A0 m c) (A1 m c) (A2 m c) (A3 m c), fun c => G6 (A0 m c) (A2 m c), fun c => G7 (A0 m c) (A3 m c), ?_, ?_⟩
  · refine (θ_run Cert.AdWuqIdeal.defs _ _).mono (fun r h c => ?_) (Cert.AdWuqIdeal.Value.run_blocks (F := Ideal) m g)
    obtain ⟨h4, h5, h6, h7, h⟩ := h c
    exact ⟨h4.trans (final4 m c), h5.trans (final5 m c), h6.trans (final6 m c), h7.trans (final7 m c), h⟩
  · refine (θ_run Cert.AdWuqRefIdeal.defs _ _).mono (fun r h c => ?_) (Cert.AdWuqRefIdeal.Value.run (F := Ideal) m' g')
    obtain ⟨h4, h5, h6, h7, h⟩ := h c
    obtain ⟨e0, e1, e2, e3⟩ := hagree c
    refine ⟨h4.trans ?_, h5.trans ?_, h6.trans ?_, h7.trans ?_, h⟩
    · rw [Cert.AdWuqRefIdeal.Read.val_main_v26_eq, ref4, e0]
    · rw [Cert.AdWuqRefIdeal.Read.val_main_v27_eq, ref5, e0, e1, e2, e3]
    · rw [Cert.AdWuqRefIdeal.Read.val_main_v28_eq, ref6, e0, e2]
    · rw [Cert.AdWuqRefIdeal.Read.val_main_v29_eq, ref7, e0, e3]

end AdWuq
-- ==== Proof.AdWukv.lean ====
module

public import proofs.«01_k».proof.Proof.AdMath
public import proofs.«01_k».proof.Proof.Gen.AdWukvIdeal.Value
public import proofs.«01_k».proof.Proof.Gen.AdWukvRefIdeal.Read
public import Idealize.ShloMosaic.Lib.Pipeline.ValueKit.Point
public import Idealize.ShloMosaic.Lib.Claim

/-!
The optimiser's step on the key and value up projection.
-/

@[expose] public section

set_option maxRecDepth 16384

noncomputable section

namespace AdWukv

open Idealize.ShloMosaic Idealize.ShloMosaic.TcCoe Idealize.SL.Sem AdMath

section
open Cert.AdWukvIdeal Cert.AdWukvIdeal.Gen

/-! What one step leaves in each block. -/

section
variable (x0 : Vec Ideal S8x256x256 .bf16) (x1 x2 x3 : Vec Ideal S256x256 .f32) (r : Fin 256) (l : Fin 256)

theorem out4 : out0_4 (F := Ideal) x0 x1 x2 x3 (ix2 r l) = ∑ k : Fin 8, x0 (ix3 k r l) := by
  rw [sum8]
  unfold out0_4
  canon_tiles x h
  pointwise [k0_pay2]
  obtain rfl : r = x 0 := Fin.ext h0
  obtain rfl : l = x 1 := Fin.ext h1
  rfl

theorem out5 : out0_5 (F := Ideal) x0 x1 x2 x3 (ix2 r l) = chg (∑ k : Fin 8, x0 (ix3 k r l)) (x1 (ix2 r l)) (x2 (ix2 r l)) (x3 (ix2 r l)) := by
  rw [sum8]
  unfold out0_5 k0_pay5 k0_pay6
  canon_tiles x h
  pointwise [k0_pay1, k0_pay3, k0_pay4, k0_pay2]
  obtain rfl : r = x 0 := Fin.ext h0
  obtain rfl : l = x 1 := Fin.ext h1
  rw [← eq_ix2 x]
  rfl

theorem out6 : out0_6 (F := Ideal) x0 x1 x2 x3 (ix2 r l) = mom (∑ k : Fin 8, x0 (ix3 k r l)) (x2 (ix2 r l)) := by
  rw [sum8]
  unfold out0_6 k0_pay5
  canon_tiles x h
  pointwise [k0_pay3, k0_pay2]
  obtain rfl : r = x 0 := Fin.ext h0
  obtain rfl : l = x 1 := Fin.ext h1
  rw [← eq_ix2 x]
  rfl

theorem out7 : out0_7 (F := Ideal) x0 x1 x2 x3 (ix2 r l) = sec (∑ k : Fin 8, x0 (ix3 k r l)) (x3 (ix2 r l)) := by
  rw [sum8]
  unfold out0_7 k0_pay6
  canon_tiles x h
  pointwise [k0_pay4, k0_pay2]
  obtain rfl : r = x 0 := Fin.ext h0
  obtain rfl : l = x 1 := Fin.ext h1
  rw [← eq_ix2 x]
  rfl

end

variable (m : (ℓ : Loc nD τ sig) → Buf (Elt Ideal) ℓ) (c : Dev nD) (t : Fin cfg0.N)

/-- The arguments on a device. -/
abbrev A0 : (⟨3, ![8, 256, 256]⟩ : Shape).Idx → EReal := m ((c : Thread nD τ).loc main_arg0)
abbrev A1 : (⟨2, ![256, 256]⟩ : Shape).Idx → EReal := m ((c : Thread nD τ).loc main_arg1)
abbrev A2 : (⟨2, ![256, 256]⟩ : Shape).Idx → EReal := m ((c : Thread nD τ).loc main_arg2)
abbrev A3 : (⟨2, ![256, 256]⟩ : Shape).Idx → EReal := m ((c : Thread nD τ).loc main_arg3)

theorem idx0 : ∀ t : Fin cfg0.N, win0_0.index t = ![0, (grid0.coords t 0).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![(grid0.coords t 0).val, 0] := (by decide +kernel : ∀ t : Fin grid0.N, _)
theorem idx3 : ∀ t : Fin cfg0.N, win0_3.index t = ![(grid0.coords t 0).val, 0] := (by decide +kernel : ∀ t : Fin grid0.N, _)
theorem idx4 : ∀ t : Fin cfg0.N, win0_4.index t = ![(grid0.coords t 0).val, 0] := (by decide +kernel : ∀ t : Fin grid0.N, _)
theorem idx5 : ∀ t : Fin cfg0.N, win0_5.index t = ![(grid0.coords t 0).val, 0] := (by decide +kernel : ∀ t : Fin grid0.N, _)
theorem idx6 : ∀ t : Fin cfg0.N, win0_6.index t = ![(grid0.coords t 0).val, 0] := (by decide +kernel : ∀ t : Fin grid0.N, _)
theorem idx7 : ∀ t : Fin cfg0.N, win0_7.index t = ![(grid0.coords t 0).val, 0] := (by decide +kernel : ∀ t : Fin grid0.N, _)

/-- The row of a block's row. -/
def row (r : Fin 256) : Fin 256 := ⟨(grid0.coords t 0).val * 256 + r.val, by
  have h0 : (grid0.coords t 0).val < 1 := (grid0.coords t 0).isLt
  omega⟩

theorem blk0 (k : Fin 8) (r : Fin 256) (l : Fin 256) : iblk m c 0 t (ix3 k r l) = A0 m c (ix3 k (row t r) l) := by
  blk_ext! [iblk, V, idx0 t, row]
theorem blk1 (r : Fin 256) (l : Fin 256) : iblk m c 1 t (ix2 r l) = A1 m c (ix2 (row t r) l) := by
  blk_ext! [iblk, V, idx1 t, row]
theorem blk2 (r : Fin 256) (l : Fin 256) : iblk m c 2 t (ix2 r l) = A2 m c (ix2 (row t r) l) := by
  blk_ext! [iblk, V, idx2 t, row]
theorem blk3 (r : Fin 256) (l : Fin 256) : iblk m c 3 t (ix2 r l) = A3 m c (ix2 (row t r) l) := by
  blk_ext! [iblk, V, idx3 t, row]
theorem emb4 (r : Fin 256) (l : Fin 256) : (win0_4.blk t).view.emb (ix2 r l) = ix2 (row t r) l := by
  blk_ext [idx4 t, row]
theorem emb5 (r : Fin 256) (l : Fin 256) : (win0_5.blk t).view.emb (ix2 r l) = ix2 (row t r) l := by
  blk_ext [idx5 t, row]
theorem emb6 (r : Fin 256) (l : Fin 256) : (win0_6.blk t).view.emb (ix2 r l) = ix2 (row t r) l := by
  blk_ext [idx6 t, row]
theorem emb7 (r : Fin 256) (l : Fin 256) : (win0_7.blk t).view.emb (ix2 r l) = ix2 (row t r) l := by
  blk_ext [idx7 t, row]

end

/-! The results as functions of the arguments. -/

section
variable (X : (⟨3, ![8, 256, 256]⟩ : Shape).Idx → EReal) (W M N : (⟨2, ![256, 256]⟩ : Shape).Idx → EReal) (i : (⟨2, ![256, 256]⟩ : Shape).Idx)
def G4 : EReal := ∑ k : Fin 8, X (ix3 k (i 0) (i 1))
def G5 : EReal := chg (G4 X i) (W (ix2 (i 0) (i 1))) (M (ix2 (i 0) (i 1))) (N (ix2 (i 0) (i 1)))
def G6 : EReal := mom (G4 X i) (M (ix2 (i 0) (i 1)))
def G7 : EReal := sec (G4 X i) (N (ix2 (i 0) (i 1)))
end

section
open Cert.AdWukvIdeal Cert.AdWukvIdeal.Gen
variable (m : (ℓ : Loc nD τ sig) → Buf (Elt Ideal) ℓ) (c : Dev nD)

theorem final4 : (dats m 0 c).arrAt 4 cfg0.N = G4 (A0 m c) := by
  refine (dats m 0 c).arrAt_eq_of_covers 4 _ (by decide +kernel) fun t hf y => ?_
  blk_simp
  rw [after0_4]
  obtain ⟨r, l, hy⟩ : ∃ (r : Fin 256) (l : Fin 256), y = ix2 r l := ⟨y 0, y 1, eq_ix2 y⟩
  rw [hy, out4, emb4]
  simp only [blk0]
  rfl

theorem final5 : (dats m 0 c).arrAt 5 cfg0.N = G5 (A0 m c) (A1 m c) (A2 m c) (A3 m c) := by
  refine (dats m 0 c).arrAt_eq_of_covers 5 _ (by decide +kernel) fun t hf y => ?_
  blk_simp
  rw [after0_5]
  obtain ⟨r, l, hy⟩ : ∃ (r : Fin 256) (l : Fin 256), y = ix2 r l := ⟨y 0, y 1, eq_ix2 y⟩
  rw [hy, out5, emb5]
  simp only [blk0, blk1, blk2, blk3]
  rfl

theorem final6 : (dats m 0 c).arrAt 6 cfg0.N = G6 (A0 m c) (A2 m c) := by
  refine (dats m 0 c).arrAt_eq_of_covers 6 _ (by decide +kernel) fun t hf y => ?_
  blk_simp
  rw [after0_6]
  obtain ⟨r, l, hy⟩ : ∃ (r : Fin 256) (l : Fin 256), y = ix2 r l := ⟨y 0, y 1, eq_ix2 y⟩
  rw [hy, out6, emb6]
  simp only [blk0, blk2]
  rfl

theorem final7 : (dats m 0 c).arrAt 7 cfg0.N = G7 (A0 m c) (A3 m c) := by
  refine (dats m 0 c).arrAt_eq_of_covers 7 _ (by decide +kernel) fun t hf y => ?_
  blk_simp
  rw [after0_7]
  obtain ⟨r, l, hy⟩ : ∃ (r : Fin 256) (l : Fin 256), y = ix2 r l := ⟨y 0, y 1, eq_ix2 y⟩
  rw [hy, out7, emb7]
  simp only [blk0, blk3]
  rfl

end

/-! The reference's results. -/

section
open Cert.AdWukvRefIdeal Cert.AdWukvRefIdeal.Gen Cert.AdWukvRefIdeal.Read
variable (x0 : (⟨S8x256x256, .bf16⟩ : BufTy).Contents (Elt Ideal)) (x1 x2 x3 : (⟨S256x256, .f32⟩ : BufTy).Contents (Elt Ideal)) (r : Fin 256) (l : Fin 256)

theorem ref_g : val_main_v1 (F := Ideal) x0 (ix2 r l) = ∑ k : Fin 8, x0 (ix3 k r l) := by
  pointwise [val_main_v1, val_main_v0, val_main_cst]
theorem ref_m : val_main_v6 (F := Ideal) x0 x2 (ix2 r l) = mom (∑ k : Fin 8, x0 (ix3 k r l)) (x2 (ix2 r l)) := by
  rw [← ref_g]
  rfl
theorem ref_v : val_main_v12 (F := Ideal) x0 x3 (ix2 r l) = sec (∑ k : Fin 8, x0 (ix3 k r l)) (x3 (ix2 r l)) := by
  rw [← ref_g]
  rfl
theorem ref_d : val_main_v25 (F := Ideal) x0 x1 x2 x3 (ix2 r l)
    = chg (∑ k : Fin 8, x0 (ix3 k r l)) (x1 (ix2 r l)) (x2 (ix2 r l)) (x3 (ix2 r l)) := by
  rw [← ref_g]
  rfl

theorem ref4 : val_main_v1 (F := Ideal) x0 = G4 x0 := by
  funext i
  rw [eq_ix2 i]
  exact ref_g x0 (i 0) (i 1)

theorem ref5 : val_main_v25 (F := Ideal) x0 x1 x2 x3 = G5 x0 x1 x2 x3 := by
  funext i
  rw [eq_ix2 i]
  exact ref_d x0 x1 x2 x3 (i 0) (i 1)

theorem ref6 : val_main_v6 (F := Ideal) x0 x2 = G6 x0 x2 := by
  funext i
  rw [eq_ix2 i]
  exact ref_m x0 x2 (i 0) (i 1)

theorem ref7 : val_main_v12 (F := Ideal) x0 x3 = G7 x0 x3 := by
  funext i
  rw [eq_ix2 i]
  exact ref_v x0 x3 (i 0) (i 1)

end

theorem frame_ref : Cert.quiescent_AdWukvRefIdeal := fun m g _ =>
  (θ_run Cert.AdWukvRefIdeal.defs _ _).mono (fun r h => ⟨fun c => (h c).2.2.2.2, sem_eq_zero_of_no_sems (by decide) r.2⟩)
    (Cert.AdWukvRefIdeal.Value.run (F := Ideal) m g)

theorem algebraic : Cert.algebraic_AdWukvIdeal_AdWukvRefIdeal := by
  intro m g m' g' _ hagree
  refine ⟨fun c => G4 (A0 m c), fun c => G5 (A0 m c) (A1 m c) (A2 m c) (A3 m c), fun c => G6 (A0 m c) (A2 m c), fun c => G7 (A0 m c) (A3 m c), ?_, ?_⟩
  · refine (θ_run Cert.AdWukvIdeal.defs _ _).mono (fun r h c => ?_) (Cert.AdWukvIdeal.Value.run_blocks (F := Ideal) m g)
    obtain ⟨h4, h5, h6, h7, h⟩ := h c
    exact ⟨h4.trans (final4 m c), h5.trans (final5 m c), h6.trans (final6 m c), h7.trans (final7 m c), h⟩
  · refine (θ_run Cert.AdWukvRefIdeal.defs _ _).mono (fun r h c => ?_) (Cert.AdWukvRefIdeal.Value.run (F := Ideal) m' g')
    obtain ⟨h4, h5, h6, h7, h⟩ := h c
    obtain ⟨e0, e1, e2, e3⟩ := hagree c
    refine ⟨h4.trans ?_, h5.trans ?_, h6.trans ?_, h7.trans ?_, h⟩
    · rw [Cert.AdWukvRefIdeal.Read.val_main_v1_eq, ref4, e0]
    · rw [Cert.AdWukvRefIdeal.Read.val_main_v25_eq, ref5, e0, e1, e2, e3]
    · rw [Cert.AdWukvRefIdeal.Read.val_main_v6_eq, ref6, e0, e2]
    · rw [Cert.AdWukvRefIdeal.Read.val_main_v12_eq, ref7, e0, e3]

end AdWukv
-- ==== Proof.AdWout.lean ====
module

public import proofs.«01_k».proof.Proof.AdMath
public import proofs.«01_k».proof.Proof.Gen.AdWoutIdeal.Value
public import proofs.«01_k».proof.Proof.Gen.AdWoutRefIdeal.Read
public import Idealize.ShloMosaic.Lib.Pipeline.ValueKit.Point
public import Idealize.ShloMosaic.Lib.Claim

/-!
The optimiser's step on the output projection.
-/

@[expose] public section

set_option maxRecDepth 16384

noncomputable section

namespace AdWout

open Idealize.ShloMosaic Idealize.ShloMosaic.TcCoe Idealize.SL.Sem AdMath

section
open Cert.AdWoutIdeal Cert.AdWoutIdeal.Gen

/-! What one step leaves in each block. -/

section
variable (x0 : Vec Ideal S8x128x2048 .bf16) (x1 x2 x3 : Vec Ideal S128x2048 .f32) (r : Fin 128) (l : Fin 2048)

theorem out4 : out0_4 (F := Ideal) x0 x1 x2 x3 (ix2 r l) = ∑ k : Fin 8, x0 (ix3 k r l) := by
  rw [sum8]
  unfold out0_4
  canon_tiles x h
  pointwise [k0_pay2]
  obtain rfl : r = x 0 := Fin.ext h0
  obtain rfl : l = x 1 := Fin.ext h1
  rfl

theorem out5 : out0_5 (F := Ideal) x0 x1 x2 x3 (ix2 r l) = chg (∑ k : Fin 8, x0 (ix3 k r l)) (x1 (ix2 r l)) (x2 (ix2 r l)) (x3 (ix2 r l)) := by
  rw [sum8]
  unfold out0_5 k0_pay5 k0_pay6
  canon_tiles x h
  pointwise [k0_pay1, k0_pay3, k0_pay4, k0_pay2]
  obtain rfl : r = x 0 := Fin.ext h0
  obtain rfl : l = x 1 := Fin.ext h1
  rw [← eq_ix2 x]
  rfl

theorem out6 : out0_6 (F := Ideal) x0 x1 x2 x3 (ix2 r l) = mom (∑ k : Fin 8, x0 (ix3 k r l)) (x2 (ix2 r l)) := by
  rw [sum8]
  unfold out0_6 k0_pay5
  canon_tiles x h
  pointwise [k0_pay3, k0_pay2]
  obtain rfl : r = x 0 := Fin.ext h0
  obtain rfl : l = x 1 := Fin.ext h1
  rw [← eq_ix2 x]
  rfl

theorem out7 : out0_7 (F := Ideal) x0 x1 x2 x3 (ix2 r l) = sec (∑ k : Fin 8, x0 (ix3 k r l)) (x3 (ix2 r l)) := by
  rw [sum8]
  unfold out0_7 k0_pay6
  canon_tiles x h
  pointwise [k0_pay4, k0_pay2]
  obtain rfl : r = x 0 := Fin.ext h0
  obtain rfl : l = x 1 := Fin.ext h1
  rw [← eq_ix2 x]
  rfl

end

variable (m : (ℓ : Loc nD τ sig) → Buf (Elt Ideal) ℓ) (c : Dev nD) (t : Fin cfg0.N)

/-- The arguments on a device. -/
abbrev A0 : (⟨3, ![8, 256, 2048]⟩ : Shape).Idx → EReal := m ((c : Thread nD τ).loc main_arg0)
abbrev A1 : (⟨2, ![256, 2048]⟩ : Shape).Idx → EReal := m ((c : Thread nD τ).loc main_arg1)
abbrev A2 : (⟨2, ![256, 2048]⟩ : Shape).Idx → EReal := m ((c : Thread nD τ).loc main_arg2)
abbrev A3 : (⟨2, ![256, 2048]⟩ : Shape).Idx → EReal := m ((c : Thread nD τ).loc main_arg3)

theorem idx0 : ∀ t : Fin cfg0.N, win0_0.index t = ![0, (grid0.coords t 0).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![(grid0.coords t 0).val, 0] := (by decide +kernel : ∀ t : Fin grid0.N, _)
theorem idx3 : ∀ t : Fin cfg0.N, win0_3.index t = ![(grid0.coords t 0).val, 0] := (by decide +kernel : ∀ t : Fin grid0.N, _)
theorem idx4 : ∀ t : Fin cfg0.N, win0_4.index t = ![(grid0.coords t 0).val, 0] := (by decide +kernel : ∀ t : Fin grid0.N, _)
theorem idx5 : ∀ t : Fin cfg0.N, win0_5.index t = ![(grid0.coords t 0).val, 0] := (by decide +kernel : ∀ t : Fin grid0.N, _)
theorem idx6 : ∀ t : Fin cfg0.N, win0_6.index t = ![(grid0.coords t 0).val, 0] := (by decide +kernel : ∀ t : Fin grid0.N, _)
theorem idx7 : ∀ t : Fin cfg0.N, win0_7.index t = ![(grid0.coords t 0).val, 0] := (by decide +kernel : ∀ t : Fin grid0.N, _)

/-- The row of a block's row. -/
def row (r : Fin 128) : Fin 256 := ⟨(grid0.coords t 0).val * 128 + r.val, by
  have h0 : (grid0.coords t 0).val < 2 := (grid0.coords t 0).isLt
  omega⟩

theorem blk0 (k : Fin 8) (r : Fin 128) (l : Fin 2048) : iblk m c 0 t (ix3 k r l) = A0 m c (ix3 k (row t r) l) := by
  blk_ext! [iblk, V, idx0 t, row]
theorem blk1 (r : Fin 128) (l : Fin 2048) : iblk m c 1 t (ix2 r l) = A1 m c (ix2 (row t r) l) := by
  blk_ext! [iblk, V, idx1 t, row]
theorem blk2 (r : Fin 128) (l : Fin 2048) : iblk m c 2 t (ix2 r l) = A2 m c (ix2 (row t r) l) := by
  blk_ext! [iblk, V, idx2 t, row]
theorem blk3 (r : Fin 128) (l : Fin 2048) : iblk m c 3 t (ix2 r l) = A3 m c (ix2 (row t r) l) := by
  blk_ext! [iblk, V, idx3 t, row]
theorem emb4 (r : Fin 128) (l : Fin 2048) : (win0_4.blk t).view.emb (ix2 r l) = ix2 (row t r) l := by
  blk_ext [idx4 t, row]
theorem emb5 (r : Fin 128) (l : Fin 2048) : (win0_5.blk t).view.emb (ix2 r l) = ix2 (row t r) l := by
  blk_ext [idx5 t, row]
theorem emb6 (r : Fin 128) (l : Fin 2048) : (win0_6.blk t).view.emb (ix2 r l) = ix2 (row t r) l := by
  blk_ext [idx6 t, row]
theorem emb7 (r : Fin 128) (l : Fin 2048) : (win0_7.blk t).view.emb (ix2 r l) = ix2 (row t r) l := by
  blk_ext [idx7 t, row]

end

/-! The results as functions of the arguments. -/

section
variable (X : (⟨3, ![8, 256, 2048]⟩ : Shape).Idx → EReal) (W M N : (⟨2, ![256, 2048]⟩ : Shape).Idx → EReal) (i : (⟨2, ![256, 2048]⟩ : Shape).Idx)
def G4 : EReal := ∑ k : Fin 8, X (ix3 k (i 0) (i 1))
def G5 : EReal := chg (G4 X i) (W (ix2 (i 0) (i 1))) (M (ix2 (i 0) (i 1))) (N (ix2 (i 0) (i 1)))
def G6 : EReal := mom (G4 X i) (M (ix2 (i 0) (i 1)))
def G7 : EReal := sec (G4 X i) (N (ix2 (i 0) (i 1)))
end

section
open Cert.AdWoutIdeal Cert.AdWoutIdeal.Gen
variable (m : (ℓ : Loc nD τ sig) → Buf (Elt Ideal) ℓ) (c : Dev nD)

theorem final4 : (dats m 0 c).arrAt 4 cfg0.N = G4 (A0 m c) := by
  refine (dats m 0 c).arrAt_eq_of_covers 4 _ (by decide +kernel) fun t hf y => ?_
  blk_simp
  rw [after0_4]
  obtain ⟨r, l, hy⟩ : ∃ (r : Fin 128) (l : Fin 2048), y = ix2 r l := ⟨y 0, y 1, eq_ix2 y⟩
  rw [hy, out4, emb4]
  simp only [blk0]
  rfl

theorem final5 : (dats m 0 c).arrAt 5 cfg0.N = G5 (A0 m c) (A1 m c) (A2 m c) (A3 m c) := by
  refine (dats m 0 c).arrAt_eq_of_covers 5 _ (by decide +kernel) fun t hf y => ?_
  blk_simp
  rw [after0_5]
  obtain ⟨r, l, hy⟩ : ∃ (r : Fin 128) (l : Fin 2048), y = ix2 r l := ⟨y 0, y 1, eq_ix2 y⟩
  rw [hy, out5, emb5]
  simp only [blk0, blk1, blk2, blk3]
  rfl

theorem final6 : (dats m 0 c).arrAt 6 cfg0.N = G6 (A0 m c) (A2 m c) := by
  refine (dats m 0 c).arrAt_eq_of_covers 6 _ (by decide +kernel) fun t hf y => ?_
  blk_simp
  rw [after0_6]
  obtain ⟨r, l, hy⟩ : ∃ (r : Fin 128) (l : Fin 2048), y = ix2 r l := ⟨y 0, y 1, eq_ix2 y⟩
  rw [hy, out6, emb6]
  simp only [blk0, blk2]
  rfl

theorem final7 : (dats m 0 c).arrAt 7 cfg0.N = G7 (A0 m c) (A3 m c) := by
  refine (dats m 0 c).arrAt_eq_of_covers 7 _ (by decide +kernel) fun t hf y => ?_
  blk_simp
  rw [after0_7]
  obtain ⟨r, l, hy⟩ : ∃ (r : Fin 128) (l : Fin 2048), y = ix2 r l := ⟨y 0, y 1, eq_ix2 y⟩
  rw [hy, out7, emb7]
  simp only [blk0, blk3]
  rfl

end

/-! The reference's results. -/

section
open Cert.AdWoutRefIdeal Cert.AdWoutRefIdeal.Gen Cert.AdWoutRefIdeal.Read
variable (x0 : (⟨S8x256x2048, .bf16⟩ : BufTy).Contents (Elt Ideal)) (x1 x2 x3 : (⟨S256x2048, .f32⟩ : BufTy).Contents (Elt Ideal)) (r : Fin 256) (l : Fin 2048)

theorem ref_g : val_main_v1 (F := Ideal) x0 (ix2 r l) = ∑ k : Fin 8, x0 (ix3 k r l) := by
  pointwise [val_main_v1, val_main_v0, val_main_cst]
theorem ref_m : val_main_v6 (F := Ideal) x0 x2 (ix2 r l) = mom (∑ k : Fin 8, x0 (ix3 k r l)) (x2 (ix2 r l)) := by
  rw [← ref_g]
  rfl
theorem ref_v : val_main_v12 (F := Ideal) x0 x3 (ix2 r l) = sec (∑ k : Fin 8, x0 (ix3 k r l)) (x3 (ix2 r l)) := by
  rw [← ref_g]
  rfl
theorem ref_d : val_main_v25 (F := Ideal) x0 x1 x2 x3 (ix2 r l)
    = chg (∑ k : Fin 8, x0 (ix3 k r l)) (x1 (ix2 r l)) (x2 (ix2 r l)) (x3 (ix2 r l)) := by
  rw [← ref_g]
  rfl

theorem ref4 : val_main_v1 (F := Ideal) x0 = G4 x0 := by
  funext i
  rw [eq_ix2 i]
  exact ref_g x0 (i 0) (i 1)

theorem ref5 : val_main_v25 (F := Ideal) x0 x1 x2 x3 = G5 x0 x1 x2 x3 := by
  funext i
  rw [eq_ix2 i]
  exact ref_d x0 x1 x2 x3 (i 0) (i 1)

theorem ref6 : val_main_v6 (F := Ideal) x0 x2 = G6 x0 x2 := by
  funext i
  rw [eq_ix2 i]
  exact ref_m x0 x2 (i 0) (i 1)

theorem ref7 : val_main_v12 (F := Ideal) x0 x3 = G7 x0 x3 := by
  funext i
  rw [eq_ix2 i]
  exact ref_v x0 x3 (i 0) (i 1)

end

theorem frame_ref : Cert.quiescent_AdWoutRefIdeal := fun m g _ =>
  (θ_run Cert.AdWoutRefIdeal.defs _ _).mono (fun r h => ⟨fun c => (h c).2.2.2.2, sem_eq_zero_of_no_sems (by decide) r.2⟩)
    (Cert.AdWoutRefIdeal.Value.run (F := Ideal) m g)

theorem algebraic : Cert.algebraic_AdWoutIdeal_AdWoutRefIdeal := by
  intro m g m' g' _ hagree
  refine ⟨fun c => G4 (A0 m c), fun c => G5 (A0 m c) (A1 m c) (A2 m c) (A3 m c), fun c => G6 (A0 m c) (A2 m c), fun c => G7 (A0 m c) (A3 m c), ?_, ?_⟩
  · refine (θ_run Cert.AdWoutIdeal.defs _ _).mono (fun r h c => ?_) (Cert.AdWoutIdeal.Value.run_blocks (F := Ideal) m g)
    obtain ⟨h4, h5, h6, h7, h⟩ := h c
    exact ⟨h4.trans (final4 m c), h5.trans (final5 m c), h6.trans (final6 m c), h7.trans (final7 m c), h⟩
  · refine (θ_run Cert.AdWoutRefIdeal.defs _ _).mono (fun r h c => ?_) (Cert.AdWoutRefIdeal.Value.run (F := Ideal) m' g')
    obtain ⟨h4, h5, h6, h7, h⟩ := h c
    obtain ⟨e0, e1, e2, e3⟩ := hagree c
    refine ⟨h4.trans ?_, h5.trans ?_, h6.trans ?_, h7.trans ?_, h⟩
    · rw [Cert.AdWoutRefIdeal.Read.val_main_v1_eq, ref4, e0]
    · rw [Cert.AdWoutRefIdeal.Read.val_main_v25_eq, ref5, e0, e1, e2, e3]
    · rw [Cert.AdWoutRefIdeal.Read.val_main_v6_eq, ref6, e0, e2]
    · rw [Cert.AdWoutRefIdeal.Read.val_main_v12_eq, ref7, e0, e3]

end AdWout
-- ==== Proof.AdWup.lean ====
module

public import proofs.«01_k».proof.Proof.AdMath
public import proofs.«01_k».proof.Proof.Gen.AdWupIdeal.Value
public import proofs.«01_k».proof.Proof.Gen.AdWupRefIdeal.Read
public import Idealize.ShloMosaic.Lib.Pipeline.ValueKit.Point
public import Idealize.ShloMosaic.Lib.Claim

/-!
The optimiser's step on the up projection.
-/

@[expose] public section

set_option maxRecDepth 16384

noncomputable section

namespace AdWup

open Idealize.ShloMosaic Idealize.ShloMosaic.TcCoe Idealize.SL.Sem AdMath

section
open Cert.AdWupIdeal Cert.AdWupIdeal.Gen

/-! What one step leaves in each block. -/

section
variable (x0 : Vec Ideal S4x128x1408 .bf16) (x1 x2 x3 : Vec Ideal S128x1408 .f32) (r : Fin 128) (l : Fin 1408)

theorem out4 : out0_4 (F := Ideal) x0 x1 x2 x3 (ix2 r l) = ∑ k : Fin 4, x0 (ix3 k r l) := by
  rw [sum4]
  unfold out0_4
  canon_tiles x h
  pointwise [k0_pay2]
  obtain rfl : r = x 0 := Fin.ext h0
  obtain rfl : l = x 1 := Fin.ext h1
  rfl

theorem out5 : out0_5 (F := Ideal) x0 x1 x2 x3 (ix2 r l) = chg (∑ k : Fin 4, x0 (ix3 k r l)) (x1 (ix2 r l)) (x2 (ix2 r l)) (x3 (ix2 r l)) := by
  rw [sum4]
  unfold out0_5
  canon_tiles x h
  pointwise [k0_pay1, k0_pay5, k0_pay3, k0_pay4, k0_pay2]
  obtain rfl : r = x 0 := Fin.ext h0
  obtain rfl : l = x 1 := Fin.ext h1
  rw [← eq_ix2 x]
  rfl

theorem out6 : out0_6 (F := Ideal) x0 x1 x2 x3 (ix2 r l) = mom (∑ k : Fin 4, x0 (ix3 k r l)) (x2 (ix2 r l)) := by
  rw [sum4]
  unfold out0_6
  canon_tiles x h
  pointwise [k0_pay3, k0_pay2]
  obtain rfl : r = x 0 := Fin.ext h0
  obtain rfl : l = x 1 := Fin.ext h1
  rw [← eq_ix2 x]
  rfl

theorem out7 : out0_7 (F := Ideal) x0 x1 x2 x3 (ix2 r l) = sec (∑ k : Fin 4, x0 (ix3 k r l)) (x3 (ix2 r l)) := by
  rw [sum4]
  unfold out0_7
  canon_tiles x h
  pointwise [k0_pay4, k0_pay2]
  obtain rfl : r = x 0 := Fin.ext h0
  obtain rfl : l = x 1 := Fin.ext h1
  rw [← eq_ix2 x]
  rfl

end

variable (m : (ℓ : Loc nD τ sig) → Buf (Elt Ideal) ℓ) (c : Dev nD) (t : Fin cfg0.N)

/-- The arguments on a device. -/
abbrev A0 : (⟨3, ![4, 2048, 1408]⟩ : Shape).Idx → EReal := m ((c : Thread nD τ).loc main_arg0)
abbrev A1 : (⟨2, ![2048, 1408]⟩ : Shape).Idx → EReal := m ((c : Thread nD τ).loc main_arg1)
abbrev A2 : (⟨2, ![2048, 1408]⟩ : Shape).Idx → EReal := m ((c : Thread nD τ).loc main_arg2)
abbrev A3 : (⟨2, ![2048, 1408]⟩ : Shape).Idx → EReal := m ((c : Thread nD τ).loc main_arg3)

theorem idx0 : ∀ t : Fin cfg0.N, win0_0.index t = ![0, (grid0.coords t 0).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![(grid0.coords t 0).val, 0] := (by decide +kernel : ∀ t : Fin grid0.N, _)
theorem idx3 : ∀ t : Fin cfg0.N, win0_3.index t = ![(grid0.coords t 0).val, 0] := (by decide +kernel : ∀ t : Fin grid0.N, _)
theorem idx4 : ∀ t : Fin cfg0.N, win0_4.index t = ![(grid0.coords t 0).val, 0] := (by decide +kernel : ∀ t : Fin grid0.N, _)
theorem idx5 : ∀ t : Fin cfg0.N, win0_5.index t = ![(grid0.coords t 0).val, 0] := (by decide +kernel : ∀ t : Fin grid0.N, _)
theorem idx6 : ∀ t : Fin cfg0.N, win0_6.index t = ![(grid0.coords t 0).val, 0] := (by decide +kernel : ∀ t : Fin grid0.N, _)
theorem idx7 : ∀ t : Fin cfg0.N, win0_7.index t = ![(grid0.coords t 0).val, 0] := (by decide +kernel : ∀ t : Fin grid0.N, _)

/-- The row of a block's row. -/
def row (r : Fin 128) : Fin 2048 := ⟨(grid0.coords t 0).val * 128 + r.val, by
  have h0 : (grid0.coords t 0).val < 16 := (grid0.coords t 0).isLt
  omega⟩

theorem blk0 (k : Fin 4) (r : Fin 128) (l : Fin 1408) : iblk m c 0 t (ix3 k r l) = A0 m c (ix3 k (row t r) l) := by
  blk_ext! [iblk, V, idx0 t, row]
theorem blk1 (r : Fin 128) (l : Fin 1408) : iblk m c 1 t (ix2 r l) = A1 m c (ix2 (row t r) l) := by
  blk_ext! [iblk, V, idx1 t, row]
theorem blk2 (r : Fin 128) (l : Fin 1408) : iblk m c 2 t (ix2 r l) = A2 m c (ix2 (row t r) l) := by
  blk_ext! [iblk, V, idx2 t, row]
theorem blk3 (r : Fin 128) (l : Fin 1408) : iblk m c 3 t (ix2 r l) = A3 m c (ix2 (row t r) l) := by
  blk_ext! [iblk, V, idx3 t, row]
theorem emb4 (r : Fin 128) (l : Fin 1408) : (win0_4.blk t).view.emb (ix2 r l) = ix2 (row t r) l := by
  blk_ext [idx4 t, row]
theorem emb5 (r : Fin 128) (l : Fin 1408) : (win0_5.blk t).view.emb (ix2 r l) = ix2 (row t r) l := by
  blk_ext [idx5 t, row]
theorem emb6 (r : Fin 128) (l : Fin 1408) : (win0_6.blk t).view.emb (ix2 r l) = ix2 (row t r) l := by
  blk_ext [idx6 t, row]
theorem emb7 (r : Fin 128) (l : Fin 1408) : (win0_7.blk t).view.emb (ix2 r l) = ix2 (row t r) l := by
  blk_ext [idx7 t, row]

end

/-! The results as functions of the arguments. -/

section
variable (X : (⟨3, ![4, 2048, 1408]⟩ : Shape).Idx → EReal) (W M N : (⟨2, ![2048, 1408]⟩ : Shape).Idx → EReal) (i : (⟨2, ![2048, 1408]⟩ : Shape).Idx)
def G4 : EReal := ∑ k : Fin 4, X (ix3 k (i 0) (i 1))
def G5 : EReal := chg (G4 X i) (W (ix2 (i 0) (i 1))) (M (ix2 (i 0) (i 1))) (N (ix2 (i 0) (i 1)))
def G6 : EReal := mom (G4 X i) (M (ix2 (i 0) (i 1)))
def G7 : EReal := sec (G4 X i) (N (ix2 (i 0) (i 1)))
end

section
open Cert.AdWupIdeal Cert.AdWupIdeal.Gen
variable (m : (ℓ : Loc nD τ sig) → Buf (Elt Ideal) ℓ) (c : Dev nD)

theorem final4 : (dats m 0 c).arrAt 4 cfg0.N = G4 (A0 m c) := by
  refine (dats m 0 c).arrAt_eq_of_covers 4 _ (by decide +kernel) fun t hf y => ?_
  blk_simp
  rw [after0_4]
  obtain ⟨r, l, hy⟩ : ∃ (r : Fin 128) (l : Fin 1408), y = ix2 r l := ⟨y 0, y 1, eq_ix2 y⟩
  rw [hy, out4, emb4]
  simp only [blk0]
  rfl

theorem final5 : (dats m 0 c).arrAt 5 cfg0.N = G5 (A0 m c) (A1 m c) (A2 m c) (A3 m c) := by
  refine (dats m 0 c).arrAt_eq_of_covers 5 _ (by decide +kernel) fun t hf y => ?_
  blk_simp
  rw [after0_5]
  obtain ⟨r, l, hy⟩ : ∃ (r : Fin 128) (l : Fin 1408), y = ix2 r l := ⟨y 0, y 1, eq_ix2 y⟩
  rw [hy, out5, emb5]
  simp only [blk0, blk1, blk2, blk3]
  rfl

theorem final6 : (dats m 0 c).arrAt 6 cfg0.N = G6 (A0 m c) (A2 m c) := by
  refine (dats m 0 c).arrAt_eq_of_covers 6 _ (by decide +kernel) fun t hf y => ?_
  blk_simp
  rw [after0_6]
  obtain ⟨r, l, hy⟩ : ∃ (r : Fin 128) (l : Fin 1408), y = ix2 r l := ⟨y 0, y 1, eq_ix2 y⟩
  rw [hy, out6, emb6]
  simp only [blk0, blk2]
  rfl

theorem final7 : (dats m 0 c).arrAt 7 cfg0.N = G7 (A0 m c) (A3 m c) := by
  refine (dats m 0 c).arrAt_eq_of_covers 7 _ (by decide +kernel) fun t hf y => ?_
  blk_simp
  rw [after0_7]
  obtain ⟨r, l, hy⟩ : ∃ (r : Fin 128) (l : Fin 1408), y = ix2 r l := ⟨y 0, y 1, eq_ix2 y⟩
  rw [hy, out7, emb7]
  simp only [blk0, blk3]
  rfl

end

/-! The reference's results. -/

section
open Cert.AdWupRefIdeal Cert.AdWupRefIdeal.Gen Cert.AdWupRefIdeal.Read
variable (x0 : (⟨S4x2048x1408, .bf16⟩ : BufTy).Contents (Elt Ideal)) (x1 x2 x3 : (⟨S2048x1408, .f32⟩ : BufTy).Contents (Elt Ideal)) (r : Fin 2048) (l : Fin 1408)

theorem ref_g : val_main_v1 (F := Ideal) x0 (ix2 r l) = ∑ k : Fin 4, x0 (ix3 k r l) := by
  pointwise [val_main_v1, val_main_v0, val_main_cst]
theorem ref_m : val_main_v6 (F := Ideal) x0 x2 (ix2 r l) = mom (∑ k : Fin 4, x0 (ix3 k r l)) (x2 (ix2 r l)) := by
  rw [← ref_g]
  rfl
theorem ref_v : val_main_v12 (F := Ideal) x0 x3 (ix2 r l) = sec (∑ k : Fin 4, x0 (ix3 k r l)) (x3 (ix2 r l)) := by
  rw [← ref_g]
  rfl
theorem ref_d : val_main_v25 (F := Ideal) x0 x1 x2 x3 (ix2 r l)
    = chg (∑ k : Fin 4, x0 (ix3 k r l)) (x1 (ix2 r l)) (x2 (ix2 r l)) (x3 (ix2 r l)) := by
  rw [← ref_g]
  rfl

theorem ref4 : val_main_v1 (F := Ideal) x0 = G4 x0 := by
  funext i
  rw [eq_ix2 i]
  exact ref_g x0 (i 0) (i 1)

theorem ref5 : val_main_v25 (F := Ideal) x0 x1 x2 x3 = G5 x0 x1 x2 x3 := by
  funext i
  rw [eq_ix2 i]
  exact ref_d x0 x1 x2 x3 (i 0) (i 1)

theorem ref6 : val_main_v6 (F := Ideal) x0 x2 = G6 x0 x2 := by
  funext i
  rw [eq_ix2 i]
  exact ref_m x0 x2 (i 0) (i 1)

theorem ref7 : val_main_v12 (F := Ideal) x0 x3 = G7 x0 x3 := by
  funext i
  rw [eq_ix2 i]
  exact ref_v x0 x3 (i 0) (i 1)

end

theorem frame_ref : Cert.quiescent_AdWupRefIdeal := fun m g _ =>
  (θ_run Cert.AdWupRefIdeal.defs _ _).mono (fun r h => ⟨fun c => (h c).2.2.2.2, sem_eq_zero_of_no_sems (by decide) r.2⟩)
    (Cert.AdWupRefIdeal.Value.run (F := Ideal) m g)

theorem algebraic : Cert.algebraic_AdWupIdeal_AdWupRefIdeal := by
  intro m g m' g' _ hagree
  refine ⟨fun c => G4 (A0 m c), fun c => G5 (A0 m c) (A1 m c) (A2 m c) (A3 m c), fun c => G6 (A0 m c) (A2 m c), fun c => G7 (A0 m c) (A3 m c), ?_, ?_⟩
  · refine (θ_run Cert.AdWupIdeal.defs _ _).mono (fun r h c => ?_) (Cert.AdWupIdeal.Value.run_blocks (F := Ideal) m g)
    obtain ⟨h4, h5, h6, h7, h⟩ := h c
    exact ⟨h4.trans (final4 m c), h5.trans (final5 m c), h6.trans (final6 m c), h7.trans (final7 m c), h⟩
  · refine (θ_run Cert.AdWupRefIdeal.defs _ _).mono (fun r h c => ?_) (Cert.AdWupRefIdeal.Value.run (F := Ideal) m' g')
    obtain ⟨h4, h5, h6, h7, h⟩ := h c
    obtain ⟨e0, e1, e2, e3⟩ := hagree c
    refine ⟨h4.trans ?_, h5.trans ?_, h6.trans ?_, h7.trans ?_, h⟩
    · rw [Cert.AdWupRefIdeal.Read.val_main_v1_eq, ref4, e0]
    · rw [Cert.AdWupRefIdeal.Read.val_main_v25_eq, ref5, e0, e1, e2, e3]
    · rw [Cert.AdWupRefIdeal.Read.val_main_v6_eq, ref6, e0, e2]
    · rw [Cert.AdWupRefIdeal.Read.val_main_v12_eq, ref7, e0, e3]

end AdWup
-- ==== Proof.AdWdown.lean ====
module

public import proofs.«01_k».proof.Proof.AdMath
public import proofs.«01_k».proof.Proof.Gen.AdWdownIdeal.Value
public import proofs.«01_k».proof.Proof.Gen.AdWdownRefIdeal.Read
public import Idealize.ShloMosaic.Lib.Pipeline.ValueKit.Point
public import Idealize.ShloMosaic.Lib.Claim

/-!
The optimiser's step on the down projection.
-/

@[expose] public section

set_option maxRecDepth 16384

noncomputable section

namespace AdWdown

open Idealize.ShloMosaic Idealize.ShloMosaic.TcCoe Idealize.SL.Sem AdMath

section
open Cert.AdWdownIdeal Cert.AdWdownIdeal.Gen

/-! What one step leaves in each block. -/

section
variable (x0 : Vec Ideal S8x64x2048 .bf16) (x1 x2 x3 : Vec Ideal S64x2048 .f32) (r : Fin 64) (l : Fin 2048)

theorem out4 : out0_4 (F := Ideal) x0 x1 x2 x3 (ix2 r l) = ∑ k : Fin 8, x0 (ix3 k r l) := by
  rw [sum8]
  unfold out0_4
  canon_tiles x h
  pointwise [k0_pay2]
  obtain rfl : r = x 0 := Fin.ext h0
  obtain rfl : l = x 1 := Fin.ext h1
  rfl

theorem out5 : out0_5 (F := Ideal) x0 x1 x2 x3 (ix2 r l) = chg (∑ k : Fin 8, x0 (ix3 k r l)) (x1 (ix2 r l)) (x2 (ix2 r l)) (x3 (ix2 r l)) := by
  rw [sum8]
  unfold out0_5 k0_pay5 k0_pay6
  canon_tiles x h
  pointwise [k0_pay1, k0_pay3, k0_pay4, k0_pay2]
  obtain rfl : r = x 0 := Fin.ext h0
  obtain rfl : l = x 1 := Fin.ext h1
  rw [← eq_ix2 x]
  rfl

theorem out6 : out0_6 (F := Ideal) x0 x1 x2 x3 (ix2 r l) = mom (∑ k : Fin 8, x0 (ix3 k r l)) (x2 (ix2 r l)) := by
  rw [sum8]
  unfold out0_6 k0_pay5
  canon_tiles x h
  pointwise [k0_pay3, k0_pay2]
  obtain rfl : r = x 0 := Fin.ext h0
  obtain rfl : l = x 1 := Fin.ext h1
  rw [← eq_ix2 x]
  rfl

theorem out7 : out0_7 (F := Ideal) x0 x1 x2 x3 (ix2 r l) = sec (∑ k : Fin 8, x0 (ix3 k r l)) (x3 (ix2 r l)) := by
  rw [sum8]
  unfold out0_7 k0_pay6
  canon_tiles x h
  pointwise [k0_pay4, k0_pay2]
  obtain rfl : r = x 0 := Fin.ext h0
  obtain rfl : l = x 1 := Fin.ext h1
  rw [← eq_ix2 x]
  rfl

end

variable (m : (ℓ : Loc nD τ sig) → Buf (Elt Ideal) ℓ) (c : Dev nD) (t : Fin cfg0.N)

/-- The arguments on a device. -/
abbrev A0 : (⟨3, ![8, 704, 2048]⟩ : Shape).Idx → EReal := m ((c : Thread nD τ).loc main_arg0)
abbrev A1 : (⟨2, ![704, 2048]⟩ : Shape).Idx → EReal := m ((c : Thread nD τ).loc main_arg1)
abbrev A2 : (⟨2, ![704, 2048]⟩ : Shape).Idx → EReal := m ((c : Thread nD τ).loc main_arg2)
abbrev A3 : (⟨2, ![704, 2048]⟩ : Shape).Idx → EReal := m ((c : Thread nD τ).loc main_arg3)

theorem idx0 : ∀ t : Fin cfg0.N, win0_0.index t = ![0, (grid0.coords t 0).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![(grid0.coords t 0).val, 0] := (by decide +kernel : ∀ t : Fin grid0.N, _)
theorem idx3 : ∀ t : Fin cfg0.N, win0_3.index t = ![(grid0.coords t 0).val, 0] := (by decide +kernel : ∀ t : Fin grid0.N, _)
theorem idx4 : ∀ t : Fin cfg0.N, win0_4.index t = ![(grid0.coords t 0).val, 0] := (by decide +kernel : ∀ t : Fin grid0.N, _)
theorem idx5 : ∀ t : Fin cfg0.N, win0_5.index t = ![(grid0.coords t 0).val, 0] := (by decide +kernel : ∀ t : Fin grid0.N, _)
theorem idx6 : ∀ t : Fin cfg0.N, win0_6.index t = ![(grid0.coords t 0).val, 0] := (by decide +kernel : ∀ t : Fin grid0.N, _)
theorem idx7 : ∀ t : Fin cfg0.N, win0_7.index t = ![(grid0.coords t 0).val, 0] := (by decide +kernel : ∀ t : Fin grid0.N, _)

/-- The row of a block's row. -/
def row (r : Fin 64) : Fin 704 := ⟨(grid0.coords t 0).val * 64 + r.val, by
  have h0 : (grid0.coords t 0).val < 11 := (grid0.coords t 0).isLt
  omega⟩

theorem blk0 (k : Fin 8) (r : Fin 64) (l : Fin 2048) : iblk m c 0 t (ix3 k r l) = A0 m c (ix3 k (row t r) l) := by
  blk_ext! [iblk, V, idx0 t, row]
theorem blk1 (r : Fin 64) (l : Fin 2048) : iblk m c 1 t (ix2 r l) = A1 m c (ix2 (row t r) l) := by
  blk_ext! [iblk, V, idx1 t, row]
theorem blk2 (r : Fin 64) (l : Fin 2048) : iblk m c 2 t (ix2 r l) = A2 m c (ix2 (row t r) l) := by
  blk_ext! [iblk, V, idx2 t, row]
theorem blk3 (r : Fin 64) (l : Fin 2048) : iblk m c 3 t (ix2 r l) = A3 m c (ix2 (row t r) l) := by
  blk_ext! [iblk, V, idx3 t, row]
theorem emb4 (r : Fin 64) (l : Fin 2048) : (win0_4.blk t).view.emb (ix2 r l) = ix2 (row t r) l := by
  blk_ext [idx4 t, row]
theorem emb5 (r : Fin 64) (l : Fin 2048) : (win0_5.blk t).view.emb (ix2 r l) = ix2 (row t r) l := by
  blk_ext [idx5 t, row]
theorem emb6 (r : Fin 64) (l : Fin 2048) : (win0_6.blk t).view.emb (ix2 r l) = ix2 (row t r) l := by
  blk_ext [idx6 t, row]
theorem emb7 (r : Fin 64) (l : Fin 2048) : (win0_7.blk t).view.emb (ix2 r l) = ix2 (row t r) l := by
  blk_ext [idx7 t, row]

end

/-! The results as functions of the arguments. -/

section
variable (X : (⟨3, ![8, 704, 2048]⟩ : Shape).Idx → EReal) (W M N : (⟨2, ![704, 2048]⟩ : Shape).Idx → EReal) (i : (⟨2, ![704, 2048]⟩ : Shape).Idx)
def G4 : EReal := ∑ k : Fin 8, X (ix3 k (i 0) (i 1))
def G5 : EReal := chg (G4 X i) (W (ix2 (i 0) (i 1))) (M (ix2 (i 0) (i 1))) (N (ix2 (i 0) (i 1)))
def G6 : EReal := mom (G4 X i) (M (ix2 (i 0) (i 1)))
def G7 : EReal := sec (G4 X i) (N (ix2 (i 0) (i 1)))
end

section
open Cert.AdWdownIdeal Cert.AdWdownIdeal.Gen
variable (m : (ℓ : Loc nD τ sig) → Buf (Elt Ideal) ℓ) (c : Dev nD)

theorem final4 : (dats m 0 c).arrAt 4 cfg0.N = G4 (A0 m c) := by
  refine (dats m 0 c).arrAt_eq_of_covers 4 _ (by decide +kernel) fun t hf y => ?_
  blk_simp
  rw [after0_4]
  obtain ⟨r, l, hy⟩ : ∃ (r : Fin 64) (l : Fin 2048), y = ix2 r l := ⟨y 0, y 1, eq_ix2 y⟩
  rw [hy, out4, emb4]
  simp only [blk0]
  rfl

theorem final5 : (dats m 0 c).arrAt 5 cfg0.N = G5 (A0 m c) (A1 m c) (A2 m c) (A3 m c) := by
  refine (dats m 0 c).arrAt_eq_of_covers 5 _ (by decide +kernel) fun t hf y => ?_
  blk_simp
  rw [after0_5]
  obtain ⟨r, l, hy⟩ : ∃ (r : Fin 64) (l : Fin 2048), y = ix2 r l := ⟨y 0, y 1, eq_ix2 y⟩
  rw [hy, out5, emb5]
  simp only [blk0, blk1, blk2, blk3]
  rfl

theorem final6 : (dats m 0 c).arrAt 6 cfg0.N = G6 (A0 m c) (A2 m c) := by
  refine (dats m 0 c).arrAt_eq_of_covers 6 _ (by decide +kernel) fun t hf y => ?_
  blk_simp
  rw [after0_6]
  obtain ⟨r, l, hy⟩ : ∃ (r : Fin 64) (l : Fin 2048), y = ix2 r l := ⟨y 0, y 1, eq_ix2 y⟩
  rw [hy, out6, emb6]
  simp only [blk0, blk2]
  rfl

theorem final7 : (dats m 0 c).arrAt 7 cfg0.N = G7 (A0 m c) (A3 m c) := by
  refine (dats m 0 c).arrAt_eq_of_covers 7 _ (by decide +kernel) fun t hf y => ?_
  blk_simp
  rw [after0_7]
  obtain ⟨r, l, hy⟩ : ∃ (r : Fin 64) (l : Fin 2048), y = ix2 r l := ⟨y 0, y 1, eq_ix2 y⟩
  rw [hy, out7, emb7]
  simp only [blk0, blk3]
  rfl

end

/-! The reference's results. -/

section
open Cert.AdWdownRefIdeal Cert.AdWdownRefIdeal.Gen Cert.AdWdownRefIdeal.Read
variable (x0 : (⟨S8x704x2048, .bf16⟩ : BufTy).Contents (Elt Ideal)) (x1 x2 x3 : (⟨S704x2048, .f32⟩ : BufTy).Contents (Elt Ideal)) (r : Fin 704) (l : Fin 2048)

theorem ref_g : val_main_v1 (F := Ideal) x0 (ix2 r l) = ∑ k : Fin 8, x0 (ix3 k r l) := by
  pointwise [val_main_v1, val_main_v0, val_main_cst]
theorem ref_m : val_main_v6 (F := Ideal) x0 x2 (ix2 r l) = mom (∑ k : Fin 8, x0 (ix3 k r l)) (x2 (ix2 r l)) := by
  rw [← ref_g]
  rfl
theorem ref_v : val_main_v12 (F := Ideal) x0 x3 (ix2 r l) = sec (∑ k : Fin 8, x0 (ix3 k r l)) (x3 (ix2 r l)) := by
  rw [← ref_g]
  rfl
theorem ref_d : val_main_v25 (F := Ideal) x0 x1 x2 x3 (ix2 r l)
    = chg (∑ k : Fin 8, x0 (ix3 k r l)) (x1 (ix2 r l)) (x2 (ix2 r l)) (x3 (ix2 r l)) := by
  rw [← ref_g]
  rfl

theorem ref4 : val_main_v1 (F := Ideal) x0 = G4 x0 := by
  funext i
  rw [eq_ix2 i]
  exact ref_g x0 (i 0) (i 1)

theorem ref5 : val_main_v25 (F := Ideal) x0 x1 x2 x3 = G5 x0 x1 x2 x3 := by
  funext i
  rw [eq_ix2 i]
  exact ref_d x0 x1 x2 x3 (i 0) (i 1)

theorem ref6 : val_main_v6 (F := Ideal) x0 x2 = G6 x0 x2 := by
  funext i
  rw [eq_ix2 i]
  exact ref_m x0 x2 (i 0) (i 1)

theorem ref7 : val_main_v12 (F := Ideal) x0 x3 = G7 x0 x3 := by
  funext i
  rw [eq_ix2 i]
  exact ref_v x0 x3 (i 0) (i 1)

end

theorem frame_ref : Cert.quiescent_AdWdownRefIdeal := fun m g _ =>
  (θ_run Cert.AdWdownRefIdeal.defs _ _).mono (fun r h => ⟨fun c => (h c).2.2.2.2, sem_eq_zero_of_no_sems (by decide) r.2⟩)
    (Cert.AdWdownRefIdeal.Value.run (F := Ideal) m g)

theorem algebraic : Cert.algebraic_AdWdownIdeal_AdWdownRefIdeal := by
  intro m g m' g' _ hagree
  refine ⟨fun c => G4 (A0 m c), fun c => G5 (A0 m c) (A1 m c) (A2 m c) (A3 m c), fun c => G6 (A0 m c) (A2 m c), fun c => G7 (A0 m c) (A3 m c), ?_, ?_⟩
  · refine (θ_run Cert.AdWdownIdeal.defs _ _).mono (fun r h c => ?_) (Cert.AdWdownIdeal.Value.run_blocks (F := Ideal) m g)
    obtain ⟨h4, h5, h6, h7, h⟩ := h c
    exact ⟨h4.trans (final4 m c), h5.trans (final5 m c), h6.trans (final6 m c), h7.trans (final7 m c), h⟩
  · refine (θ_run Cert.AdWdownRefIdeal.defs _ _).mono (fun r h c => ?_) (Cert.AdWdownRefIdeal.Value.run (F := Ideal) m' g')
    obtain ⟨h4, h5, h6, h7, h⟩ := h c
    obtain ⟨e0, e1, e2, e3⟩ := hagree c
    refine ⟨h4.trans ?_, h5.trans ?_, h6.trans ?_, h7.trans ?_, h⟩
    · rw [Cert.AdWdownRefIdeal.Read.val_main_v1_eq, ref4, e0]
    · rw [Cert.AdWdownRefIdeal.Read.val_main_v25_eq, ref5, e0, e1, e2, e3]
    · rw [Cert.AdWdownRefIdeal.Read.val_main_v6_eq, ref6, e0, e2]
    · rw [Cert.AdWdownRefIdeal.Read.val_main_v12_eq, ref7, e0, e3]

end AdWdown
-- ==== Proof.AdConvw.lean ====
module

public import proofs.«01_k».proof.Proof.AdMath
public import proofs.«01_k».proof.Proof.Gen.AdConvwIdeal.Value
public import proofs.«01_k».proof.Proof.Gen.AdConvwRefIdeal.Read
public import Idealize.ShloMosaic.Lib.Pipeline.ValueKit.Point
public import Idealize.ShloMosaic.Lib.Claim

/-!
The optimiser's step on the convolution kernel.
-/

@[expose] public section

set_option maxRecDepth 16384

noncomputable section

namespace AdConvw

open Idealize.ShloMosaic Idealize.ShloMosaic.TcCoe Idealize.SL.Sem AdMath

section
open Cert.AdConvwIdeal Cert.AdConvwIdeal.Gen

/-! What one step leaves in each block. -/

section
variable (x0 : Vec Ideal S8x3x1408 .f32) (x1 x2 x3 : Vec Ideal S3x1408 .f32) (r : Fin 3) (l : Fin 1408)

theorem out4 : out0_4 (F := Ideal) x0 x1 x2 x3 (ix2 r l) = ∑ k : Fin 8, x0 (ix3 k r l) := by
  rw [sum8]
  unfold out0_4
  canon_tiles x h
  pointwise [k0_pay2]
  obtain rfl : r = x 0 := Fin.ext h0
  obtain rfl : l = x 1 := Fin.ext h1
  rfl

theorem out5 : out0_5 (F := Ideal) x0 x1 x2 x3 (ix2 r l) = chg (∑ k : Fin 8, x0 (ix3 k r l)) (x1 (ix2 r l)) (x2 (ix2 r l)) (x3 (ix2 r l)) := by
  rw [sum8]
  unfold out0_5
  canon_tiles x h
  pointwise [k0_pay1, k0_pay5, k0_pay6, k0_pay3, k0_pay4, k0_pay2]
  obtain rfl : r = x 0 := Fin.ext h0
  obtain rfl : l = x 1 := Fin.ext h1
  rw [← eq_ix2 x]
  rfl

theorem out6 : out0_6 (F := Ideal) x0 x1 x2 x3 (ix2 r l) = mom (∑ k : Fin 8, x0 (ix3 k r l)) (x2 (ix2 r l)) := by
  rw [sum8]
  unfold out0_6
  canon_tiles x h
  pointwise [k0_pay3, k0_pay2]
  obtain rfl : r = x 0 := Fin.ext h0
  obtain rfl : l = x 1 := Fin.ext h1
  rw [← eq_ix2 x]
  rfl

theorem out7 : out0_7 (F := Ideal) x0 x1 x2 x3 (ix2 r l) = sec (∑ k : Fin 8, x0 (ix3 k r l)) (x3 (ix2 r l)) := by
  rw [sum8]
  unfold out0_7
  canon_tiles x h
  pointwise [k0_pay4, k0_pay2]
  obtain rfl : r = x 0 := Fin.ext h0
  obtain rfl : l = x 1 := Fin.ext h1
  rw [← eq_ix2 x]
  rfl

end

variable (m : (ℓ : Loc nD τ sig) → Buf (Elt Ideal) ℓ) (c : Dev nD) (t : Fin cfg0.N)

/-- The arguments on a device. -/
abbrev A0 : (⟨3, ![8, 3, 1408]⟩ : Shape).Idx → EReal := m ((c : Thread nD τ).loc main_arg0)
abbrev A1 : (⟨2, ![3, 1408]⟩ : Shape).Idx → EReal := m ((c : Thread nD τ).loc main_arg1)
abbrev A2 : (⟨2, ![3, 1408]⟩ : Shape).Idx → EReal := m ((c : Thread nD τ).loc main_arg2)
abbrev A3 : (⟨2, ![3, 1408]⟩ : Shape).Idx → EReal := m ((c : Thread nD τ).loc main_arg3)

theorem idx0 : ∀ t : Fin cfg0.N, win0_0.index t = ![0, (grid0.coords t 0).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![(grid0.coords t 0).val, 0] := (by decide +kernel : ∀ t : Fin grid0.N, _)
theorem idx3 : ∀ t : Fin cfg0.N, win0_3.index t = ![(grid0.coords t 0).val, 0] := (by decide +kernel : ∀ t : Fin grid0.N, _)
theorem idx4 : ∀ t : Fin cfg0.N, win0_4.index t = ![(grid0.coords t 0).val, 0] := (by decide +kernel : ∀ t : Fin grid0.N, _)
theorem idx5 : ∀ t : Fin cfg0.N, win0_5.index t = ![(grid0.coords t 0).val, 0] := (by decide +kernel : ∀ t : Fin grid0.N, _)
theorem idx6 : ∀ t : Fin cfg0.N, win0_6.index t = ![(grid0.coords t 0).val, 0] := (by decide +kernel : ∀ t : Fin grid0.N, _)
theorem idx7 : ∀ t : Fin cfg0.N, win0_7.index t = ![(grid0.coords t 0).val, 0] := (by decide +kernel : ∀ t : Fin grid0.N, _)

/-- The row of a block's row. -/
def row (r : Fin 3) : Fin 3 := ⟨(grid0.coords t 0).val * 3 + r.val, by
  have h0 : (grid0.coords t 0).val < 1 := (grid0.coords t 0).isLt
  omega⟩

theorem blk0 (k : Fin 8) (r : Fin 3) (l : Fin 1408) : iblk m c 0 t (ix3 k r l) = A0 m c (ix3 k (row t r) l) := by
  blk_ext! [iblk, V, idx0 t, row]
theorem blk1 (r : Fin 3) (l : Fin 1408) : iblk m c 1 t (ix2 r l) = A1 m c (ix2 (row t r) l) := by
  blk_ext! [iblk, V, idx1 t, row]
theorem blk2 (r : Fin 3) (l : Fin 1408) : iblk m c 2 t (ix2 r l) = A2 m c (ix2 (row t r) l) := by
  blk_ext! [iblk, V, idx2 t, row]
theorem blk3 (r : Fin 3) (l : Fin 1408) : iblk m c 3 t (ix2 r l) = A3 m c (ix2 (row t r) l) := by
  blk_ext! [iblk, V, idx3 t, row]
theorem emb4 (r : Fin 3) (l : Fin 1408) : (win0_4.blk t).view.emb (ix2 r l) = ix2 (row t r) l := by
  blk_ext [idx4 t, row]
theorem emb5 (r : Fin 3) (l : Fin 1408) : (win0_5.blk t).view.emb (ix2 r l) = ix2 (row t r) l := by
  blk_ext [idx5 t, row]
theorem emb6 (r : Fin 3) (l : Fin 1408) : (win0_6.blk t).view.emb (ix2 r l) = ix2 (row t r) l := by
  blk_ext [idx6 t, row]
theorem emb7 (r : Fin 3) (l : Fin 1408) : (win0_7.blk t).view.emb (ix2 r l) = ix2 (row t r) l := by
  blk_ext [idx7 t, row]

end

/-! The results as functions of the arguments. -/

section
variable (X : (⟨3, ![8, 3, 1408]⟩ : Shape).Idx → EReal) (W M N : (⟨2, ![3, 1408]⟩ : Shape).Idx → EReal) (i : (⟨2, ![3, 1408]⟩ : Shape).Idx)
def G4 : EReal := ∑ k : Fin 8, X (ix3 k (i 0) (i 1))
def G5 : EReal := chg (G4 X i) (W (ix2 (i 0) (i 1))) (M (ix2 (i 0) (i 1))) (N (ix2 (i 0) (i 1)))
def G6 : EReal := mom (G4 X i) (M (ix2 (i 0) (i 1)))
def G7 : EReal := sec (G4 X i) (N (ix2 (i 0) (i 1)))
end

section
open Cert.AdConvwIdeal Cert.AdConvwIdeal.Gen
variable (m : (ℓ : Loc nD τ sig) → Buf (Elt Ideal) ℓ) (c : Dev nD)

theorem final4 : (dats m 0 c).arrAt 4 cfg0.N = G4 (A0 m c) := by
  refine (dats m 0 c).arrAt_eq_of_covers 4 _ (by decide +kernel) fun t hf y => ?_
  blk_simp
  rw [after0_4]
  obtain ⟨r, l, hy⟩ : ∃ (r : Fin 3) (l : Fin 1408), y = ix2 r l := ⟨y 0, y 1, eq_ix2 y⟩
  rw [hy, out4, emb4]
  simp only [blk0]
  rfl

theorem final5 : (dats m 0 c).arrAt 5 cfg0.N = G5 (A0 m c) (A1 m c) (A2 m c) (A3 m c) := by
  refine (dats m 0 c).arrAt_eq_of_covers 5 _ (by decide +kernel) fun t hf y => ?_
  blk_simp
  rw [after0_5]
  obtain ⟨r, l, hy⟩ : ∃ (r : Fin 3) (l : Fin 1408), y = ix2 r l := ⟨y 0, y 1, eq_ix2 y⟩
  rw [hy, out5, emb5]
  simp only [blk0, blk1, blk2, blk3]
  rfl

theorem final6 : (dats m 0 c).arrAt 6 cfg0.N = G6 (A0 m c) (A2 m c) := by
  refine (dats m 0 c).arrAt_eq_of_covers 6 _ (by decide +kernel) fun t hf y => ?_
  blk_simp
  rw [after0_6]
  obtain ⟨r, l, hy⟩ : ∃ (r : Fin 3) (l : Fin 1408), y = ix2 r l := ⟨y 0, y 1, eq_ix2 y⟩
  rw [hy, out6, emb6]
  simp only [blk0, blk2]
  rfl

theorem final7 : (dats m 0 c).arrAt 7 cfg0.N = G7 (A0 m c) (A3 m c) := by
  refine (dats m 0 c).arrAt_eq_of_covers 7 _ (by decide +kernel) fun t hf y => ?_
  blk_simp
  rw [after0_7]
  obtain ⟨r, l, hy⟩ : ∃ (r : Fin 3) (l : Fin 1408), y = ix2 r l := ⟨y 0, y 1, eq_ix2 y⟩
  rw [hy, out7, emb7]
  simp only [blk0, blk3]
  rfl

end

/-! The reference's results. -/

section
open Cert.AdConvwRefIdeal Cert.AdConvwRefIdeal.Gen Cert.AdConvwRefIdeal.Read
variable (x0 : (⟨S8x3x1408, .f32⟩ : BufTy).Contents (Elt Ideal)) (x1 x2 x3 : (⟨S3x1408, .f32⟩ : BufTy).Contents (Elt Ideal)) (r : Fin 3) (l : Fin 1408)

theorem ref_g : val_main_v0 (F := Ideal) x0 (ix2 r l) = ∑ k : Fin 8, x0 (ix3 k r l) := by
  pointwise [val_main_v0, val_main_cst]
theorem ref_m : val_main_v5 (F := Ideal) x0 x2 (ix2 r l) = mom (∑ k : Fin 8, x0 (ix3 k r l)) (x2 (ix2 r l)) := by
  rw [← ref_g]
  rfl
theorem ref_v : val_main_v11 (F := Ideal) x0 x3 (ix2 r l) = sec (∑ k : Fin 8, x0 (ix3 k r l)) (x3 (ix2 r l)) := by
  rw [← ref_g]
  rfl
theorem ref_d : val_main_v24 (F := Ideal) x0 x1 x2 x3 (ix2 r l)
    = chg (∑ k : Fin 8, x0 (ix3 k r l)) (x1 (ix2 r l)) (x2 (ix2 r l)) (x3 (ix2 r l)) := by
  rw [← ref_g]
  rfl

theorem ref4 : val_main_v0 (F := Ideal) x0 = G4 x0 := by
  funext i
  rw [eq_ix2 i]
  exact ref_g x0 (i 0) (i 1)

theorem ref5 : val_main_v24 (F := Ideal) x0 x1 x2 x3 = G5 x0 x1 x2 x3 := by
  funext i
  rw [eq_ix2 i]
  exact ref_d x0 x1 x2 x3 (i 0) (i 1)

theorem ref6 : val_main_v5 (F := Ideal) x0 x2 = G6 x0 x2 := by
  funext i
  rw [eq_ix2 i]
  exact ref_m x0 x2 (i 0) (i 1)

theorem ref7 : val_main_v11 (F := Ideal) x0 x3 = G7 x0 x3 := by
  funext i
  rw [eq_ix2 i]
  exact ref_v x0 x3 (i 0) (i 1)

end

theorem frame_ref : Cert.quiescent_AdConvwRefIdeal := fun m g _ =>
  (θ_run Cert.AdConvwRefIdeal.defs _ _).mono (fun r h => ⟨fun c => (h c).2.2.2.2, sem_eq_zero_of_no_sems (by decide) r.2⟩)
    (Cert.AdConvwRefIdeal.Value.run (F := Ideal) m g)

theorem algebraic : Cert.algebraic_AdConvwIdeal_AdConvwRefIdeal := by
  intro m g m' g' _ hagree
  refine ⟨fun c => G4 (A0 m c), fun c => G5 (A0 m c) (A1 m c) (A2 m c) (A3 m c), fun c => G6 (A0 m c) (A2 m c), fun c => G7 (A0 m c) (A3 m c), ?_, ?_⟩
  · refine (θ_run Cert.AdConvwIdeal.defs _ _).mono (fun r h c => ?_) (Cert.AdConvwIdeal.Value.run_blocks (F := Ideal) m g)
    obtain ⟨h4, h5, h6, h7, h⟩ := h c
    exact ⟨h4.trans (final4 m c), h5.trans (final5 m c), h6.trans (final6 m c), h7.trans (final7 m c), h⟩
  · refine (θ_run Cert.AdConvwRefIdeal.defs _ _).mono (fun r h c => ?_) (Cert.AdConvwRefIdeal.Value.run (F := Ideal) m' g')
    obtain ⟨h4, h5, h6, h7, h⟩ := h c
    obtain ⟨e0, e1, e2, e3⟩ := hagree c
    refine ⟨h4.trans ?_, h5.trans ?_, h6.trans ?_, h7.trans ?_, h⟩
    · rw [Cert.AdConvwRefIdeal.Read.val_main_v0_eq, ref4, e0]
    · rw [Cert.AdConvwRefIdeal.Read.val_main_v24_eq, ref5, e0, e1, e2, e3]
    · rw [Cert.AdConvwRefIdeal.Read.val_main_v5_eq, ref6, e0, e2]
    · rw [Cert.AdConvwRefIdeal.Read.val_main_v11_eq, ref7, e0, e3]

end AdConvw
-- ==== Proof.lean ====
/-
The claims: for each call of the training step, the frames of its program, of its program over the reals and of its
reference, and that the two compute the same arrays.
-/
module

public import proofs.«01_k».proof.Defs
public import proofs.«01_k».proof.Proof.Gen.Conv
public import proofs.«01_k».proof.Proof.Gen.ConvIdeal
public import proofs.«01_k».proof.Proof.Gen.ConvRefIdeal
public import proofs.«01_k».proof.Proof.Gen.Attn
public import proofs.«01_k».proof.Proof.Gen.AttnIdeal
public import proofs.«01_k».proof.Proof.Gen.AttnRefIdeal
public import proofs.«01_k».proof.Proof.Gen.UpDw
public import proofs.«01_k».proof.Proof.Gen.UpDwIdeal
public import proofs.«01_k».proof.Proof.Gen.UpDwRefIdeal
public import proofs.«01_k».proof.Proof.Gen.UpDx
public import proofs.«01_k».proof.Proof.Gen.UpDxIdeal
public import proofs.«01_k».proof.Proof.Gen.UpDxRefIdeal
public import proofs.«01_k».proof.Proof.Gen.DownDx
public import proofs.«01_k».proof.Proof.Gen.DownDxIdeal
public import proofs.«01_k».proof.Proof.Gen.DownDxRefIdeal
public import proofs.«01_k».proof.Proof.Gen.DownDw
public import proofs.«01_k».proof.Proof.Gen.DownDwIdeal
public import proofs.«01_k».proof.Proof.Gen.DownDwRefIdeal
public import proofs.«01_k».proof.Proof.Gen.Up
public import proofs.«01_k».proof.Proof.Gen.UpIdeal
public import proofs.«01_k».proof.Proof.Gen.UpRefIdeal
public import proofs.«01_k».proof.Proof.Gen.Down
public import proofs.«01_k».proof.Proof.Gen.DownIdeal
public import proofs.«01_k».proof.Proof.Gen.DownRefIdeal
public import proofs.«01_k».proof.Proof.Gen.OutDw
public import proofs.«01_k».proof.Proof.Gen.OutDwIdeal
public import proofs.«01_k».proof.Proof.Gen.OutDwRefIdeal
public import proofs.«01_k».proof.Proof.Gen.ProjDw
public import proofs.«01_k».proof.Proof.Gen.ProjDwIdeal
public import proofs.«01_k».proof.Proof.Gen.ProjDwRefIdeal
public import proofs.«01_k».proof.Proof.Gen.GluDw
public import proofs.«01_k».proof.Proof.Gen.GluDwIdeal
public import proofs.«01_k».proof.Proof.Gen.GluDwRefIdeal
public import proofs.«01_k».proof.Proof.Gen.Q
public import proofs.«01_k».proof.Proof.Gen.QIdeal
public import proofs.«01_k».proof.Proof.Gen.QRefIdeal
public import proofs.«01_k».proof.Proof.Gen.Kv
public import proofs.«01_k».proof.Proof.Gen.KvIdeal
public import proofs.«01_k».proof.Proof.Gen.KvRefIdeal
public import proofs.«01_k».proof.Proof.Gen.QDw
public import proofs.«01_k».proof.Proof.Gen.QDwIdeal
public import proofs.«01_k».proof.Proof.Gen.QDwRefIdeal
public import proofs.«01_k».proof.Proof.Gen.KvDw
public import proofs.«01_k».proof.Proof.Gen.KvDwIdeal
public import proofs.«01_k».proof.Proof.Gen.KvDwRefIdeal
public import proofs.«01_k».proof.Proof.Gen.QDx
public import proofs.«01_k».proof.Proof.Gen.QDxIdeal
public import proofs.«01_k».proof.Proof.Gen.QDxRefIdeal
public import proofs.«01_k».proof.Proof.Gen.KvDx
public import proofs.«01_k».proof.Proof.Gen.KvDxIdeal
public import proofs.«01_k».proof.Proof.Gen.KvDxRefIdeal
public import proofs.«01_k».proof.Proof.Gen.AdWin
public import proofs.«01_k».proof.Proof.Gen.AdWinIdeal
public import proofs.«01_k».proof.Proof.Gen.AdWinRefIdeal
public import proofs.«01_k».proof.Proof.Gen.AdWglu
public import proofs.«01_k».proof.Proof.Gen.AdWgluIdeal
public import proofs.«01_k».proof.Proof.Gen.AdWgluRefIdeal
public import proofs.«01_k».proof.Proof.Gen.AdWuq
public import proofs.«01_k».proof.Proof.Gen.AdWuqIdeal
public import proofs.«01_k».proof.Proof.Gen.AdWuqRefIdeal
public import proofs.«01_k».proof.Proof.Gen.AdWukv
public import proofs.«01_k».proof.Proof.Gen.AdWukvIdeal
public import proofs.«01_k».proof.Proof.Gen.AdWukvRefIdeal
public import proofs.«01_k».proof.Proof.Gen.AdWout
public import proofs.«01_k».proof.Proof.Gen.AdWoutIdeal
public import proofs.«01_k».proof.Proof.Gen.AdWoutRefIdeal
public import proofs.«01_k».proof.Proof.Gen.AdWup
public import proofs.«01_k».proof.Proof.Gen.AdWupIdeal
public import proofs.«01_k».proof.Proof.Gen.AdWupRefIdeal
public import proofs.«01_k».proof.Proof.Gen.AdWdown
public import proofs.«01_k».proof.Proof.Gen.AdWdownIdeal
public import proofs.«01_k».proof.Proof.Gen.AdWdownRefIdeal
public import proofs.«01_k».proof.Proof.Gen.AdConvw
public import proofs.«01_k».proof.Proof.Gen.AdConvwIdeal
public import proofs.«01_k».proof.Proof.Gen.AdConvwRefIdeal
public import proofs.«01_k».proof.Proof.Gen.Pre_conv_finite
public import proofs.«01_k».proof.Proof.Gen.Pre_attn_finite
public import proofs.«01_k».proof.Proof.Gen.Conv.Frame
public import proofs.«01_k».proof.Proof.Gen.ConvIdeal.Frame
public import proofs.«01_k».proof.Proof.Gen.ConvIdeal.Value
public import proofs.«01_k».proof.Proof.Gen.ConvRefIdeal.Run
public import proofs.«01_k».proof.Proof.Gen.ConvRefIdeal.Read
public import proofs.«01_k».proof.Proof.ConvClaim
public import proofs.«01_k».proof.Proof.Gen.Attn.Frame
public import proofs.«01_k».proof.Proof.Gen.AttnIdeal.Frame
public import proofs.«01_k».proof.Proof.Gen.AttnIdeal.Value
public import proofs.«01_k».proof.Proof.Gen.AttnRefIdeal.Run
public import proofs.«01_k».proof.Proof.Gen.AttnRefIdeal.Read
public import proofs.«01_k».proof.Proof.AttnClaim
public import proofs.«01_k».proof.Proof.Gen.UpDw.Frame
public import proofs.«01_k».proof.Proof.Gen.UpDwIdeal.Frame
public import proofs.«01_k».proof.Proof.Gen.UpDwIdeal.Value
public import proofs.«01_k».proof.Proof.Gen.UpDwRefIdeal.Run
public import proofs.«01_k».proof.Proof.Gen.UpDwRefIdeal.Read
public import proofs.«01_k».proof.Proof.UpDw
public import proofs.«01_k».proof.Proof.Gen.UpDx.Frame
public import proofs.«01_k».proof.Proof.Gen.UpDxIdeal.Frame
public import proofs.«01_k».proof.Proof.Gen.UpDxIdeal.Value
public import proofs.«01_k».proof.Proof.Gen.UpDxRefIdeal.Run
public import proofs.«01_k».proof.Proof.Gen.UpDxRefIdeal.Read
public import proofs.«01_k».proof.Proof.UpDx
public import proofs.«01_k».proof.Proof.Gen.DownDx.Frame
public import proofs.«01_k».proof.Proof.Gen.DownDxIdeal.Frame
public import proofs.«01_k».proof.Proof.Gen.DownDxIdeal.Value
public import proofs.«01_k».proof.Proof.Gen.DownDxRefIdeal.Run
public import proofs.«01_k».proof.Proof.Gen.DownDxRefIdeal.Read
public import proofs.«01_k».proof.Proof.DownDx
public import proofs.«01_k».proof.Proof.Gen.DownDw.Frame
public import proofs.«01_k».proof.Proof.Gen.DownDwIdeal.Frame
public import proofs.«01_k».proof.Proof.Gen.DownDwIdeal.Value
public import proofs.«01_k».proof.Proof.Gen.DownDwRefIdeal.Run
public import proofs.«01_k».proof.Proof.Gen.DownDwRefIdeal.Read
public import proofs.«01_k».proof.Proof.DownDw
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal.Run
public import proofs.«01_k».proof.Proof.Gen.UpRefIdeal.Read
public import proofs.«01_k».proof.Proof.Up
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Run
public import proofs.«01_k».proof.Proof.Gen.DownRefIdeal.Read
public import proofs.«01_k».proof.Proof.Down
public import proofs.«01_k».proof.Proof.Gen.OutDw.Frame
public import proofs.«01_k».proof.Proof.Gen.OutDwIdeal.Frame
public import proofs.«01_k».proof.Proof.Gen.OutDwIdeal.Value
public import proofs.«01_k».proof.Proof.Gen.OutDwRefIdeal.Run
public import proofs.«01_k».proof.Proof.Gen.OutDwRefIdeal.Read
public import proofs.«01_k».proof.Proof.OutDw
public import proofs.«01_k».proof.Proof.Gen.ProjDw.Frame
public import proofs.«01_k».proof.Proof.Gen.ProjDwIdeal.Frame
public import proofs.«01_k».proof.Proof.Gen.ProjDwIdeal.Value
public import proofs.«01_k».proof.Proof.Gen.ProjDwRefIdeal.Run
public import proofs.«01_k».proof.Proof.Gen.ProjDwRefIdeal.Read
public import proofs.«01_k».proof.Proof.ProjDw
public import proofs.«01_k».proof.Proof.Gen.GluDw.Frame
public import proofs.«01_k».proof.Proof.Gen.GluDwIdeal.Frame
public import proofs.«01_k».proof.Proof.Gen.GluDwIdeal.Value
public import proofs.«01_k».proof.Proof.Gen.GluDwRefIdeal.Run
public import proofs.«01_k».proof.Proof.Gen.GluDwRefIdeal.Read
public import proofs.«01_k».proof.Proof.GluDw
public import proofs.«01_k».proof.Proof.Gen.Q.Frame
public import proofs.«01_k».proof.Proof.Gen.QIdeal.Frame
public import proofs.«01_k».proof.Proof.Gen.QIdeal.Value
public import proofs.«01_k».proof.Proof.Gen.QRefIdeal.Run
public import proofs.«01_k».proof.Proof.Gen.QRefIdeal.Read
public import proofs.«01_k».proof.Proof.Q
public import proofs.«01_k».proof.Proof.Gen.Kv.Frame
public import proofs.«01_k».proof.Proof.Gen.KvIdeal.Frame
public import proofs.«01_k».proof.Proof.Gen.KvIdeal.Value
public import proofs.«01_k».proof.Proof.Gen.KvRefIdeal.Run
public import proofs.«01_k».proof.Proof.Gen.KvRefIdeal.Read
public import proofs.«01_k».proof.Proof.Kv
public import proofs.«01_k».proof.Proof.Gen.QDw.Frame
public import proofs.«01_k».proof.Proof.Gen.QDwIdeal.Frame
public import proofs.«01_k».proof.Proof.Gen.QDwIdeal.Value
public import proofs.«01_k».proof.Proof.Gen.QDwRefIdeal.Run
public import proofs.«01_k».proof.Proof.Gen.QDwRefIdeal.Read
public import proofs.«01_k».proof.Proof.QDw
public import proofs.«01_k».proof.Proof.Gen.KvDw.Frame
public import proofs.«01_k».proof.Proof.Gen.KvDwIdeal.Frame
public import proofs.«01_k».proof.Proof.Gen.KvDwIdeal.Value
public import proofs.«01_k».proof.Proof.Gen.KvDwRefIdeal.Run
public import proofs.«01_k».proof.Proof.Gen.KvDwRefIdeal.Read
public import proofs.«01_k».proof.Proof.KvDw
public import proofs.«01_k».proof.Proof.Gen.QDx.Frame
public import proofs.«01_k».proof.Proof.Gen.QDxIdeal.Frame
public import proofs.«01_k».proof.Proof.Gen.QDxIdeal.Value
public import proofs.«01_k».proof.Proof.Gen.QDxRefIdeal.Run
public import proofs.«01_k».proof.Proof.Gen.QDxRefIdeal.Read
public import proofs.«01_k».proof.Proof.QDx
public import proofs.«01_k».proof.Proof.Gen.KvDx.Frame
public import proofs.«01_k».proof.Proof.Gen.KvDxIdeal.Frame
public import proofs.«01_k».proof.Proof.Gen.KvDxIdeal.Value
public import proofs.«01_k».proof.Proof.Gen.KvDxRefIdeal.Run
public import proofs.«01_k».proof.Proof.Gen.KvDxRefIdeal.Read
public import proofs.«01_k».proof.Proof.KvDx
public import proofs.«01_k».proof.Proof.Gen.AdWin.Frame
public import proofs.«01_k».proof.Proof.Gen.AdWinIdeal.Frame
public import proofs.«01_k».proof.Proof.Gen.AdWinIdeal.Value
public import proofs.«01_k».proof.Proof.Gen.AdWinRefIdeal.Run
public import proofs.«01_k».proof.Proof.Gen.AdWinRefIdeal.Read
public import proofs.«01_k».proof.Proof.AdWin
public import proofs.«01_k».proof.Proof.Gen.AdWglu.Frame
public import proofs.«01_k».proof.Proof.Gen.AdWgluIdeal.Frame
public import proofs.«01_k».proof.Proof.Gen.AdWgluIdeal.Value
public import proofs.«01_k».proof.Proof.Gen.AdWgluRefIdeal.Run
public import proofs.«01_k».proof.Proof.Gen.AdWgluRefIdeal.Read
public import proofs.«01_k».proof.Proof.AdWglu
public import proofs.«01_k».proof.Proof.Gen.AdWuq.Frame
public import proofs.«01_k».proof.Proof.Gen.AdWuqIdeal.Frame
public import proofs.«01_k».proof.Proof.Gen.AdWuqIdeal.Value
public import proofs.«01_k».proof.Proof.Gen.AdWuqRefIdeal.Run
public import proofs.«01_k».proof.Proof.Gen.AdWuqRefIdeal.Read
public import proofs.«01_k».proof.Proof.AdWuq
public import proofs.«01_k».proof.Proof.Gen.AdWukv.Frame
public import proofs.«01_k».proof.Proof.Gen.AdWukvIdeal.Frame
public import proofs.«01_k».proof.Proof.Gen.AdWukvIdeal.Value
public import proofs.«01_k».proof.Proof.Gen.AdWukvRefIdeal.Run
public import proofs.«01_k».proof.Proof.Gen.AdWukvRefIdeal.Read
public import proofs.«01_k».proof.Proof.AdWukv
public import proofs.«01_k».proof.Proof.Gen.AdWout.Frame
public import proofs.«01_k».proof.Proof.Gen.AdWoutIdeal.Frame
public import proofs.«01_k».proof.Proof.Gen.AdWoutIdeal.Value
public import proofs.«01_k».proof.Proof.Gen.AdWoutRefIdeal.Run
public import proofs.«01_k».proof.Proof.Gen.AdWoutRefIdeal.Read
public import proofs.«01_k».proof.Proof.AdWout
public import proofs.«01_k».proof.Proof.Gen.AdWup.Frame
public import proofs.«01_k».proof.Proof.Gen.AdWupIdeal.Frame
public import proofs.«01_k».proof.Proof.Gen.AdWupIdeal.Value
public import proofs.«01_k».proof.Proof.Gen.AdWupRefIdeal.Run
public import proofs.«01_k».proof.Proof.Gen.AdWupRefIdeal.Read
public import proofs.«01_k».proof.Proof.AdWup
public import proofs.«01_k».proof.Proof.Gen.AdWdown.Frame
public import proofs.«01_k».proof.Proof.Gen.AdWdownIdeal.Frame
public import proofs.«01_k».proof.Proof.Gen.AdWdownIdeal.Value
public import proofs.«01_k».proof.Proof.Gen.AdWdownRefIdeal.Run
public import proofs.«01_k».proof.Proof.Gen.AdWdownRefIdeal.Read
public import proofs.«01_k».proof.Proof.AdWdown
public import proofs.«01_k».proof.Proof.Gen.AdConvw.Frame
public import proofs.«01_k».proof.Proof.Gen.AdConvwIdeal.Frame
public import proofs.«01_k».proof.Proof.Gen.AdConvwIdeal.Value
public import proofs.«01_k».proof.Proof.Gen.AdConvwRefIdeal.Run
public import proofs.«01_k».proof.Proof.Gen.AdConvwRefIdeal.Read
public import proofs.«01_k».proof.Proof.AdConvw

@[expose] public section

noncomputable section

namespace Cert.Proof

open Idealize.ShloMosaic Idealize.SL.Sem

theorem claim : Cert.Claim :=
  ⟨Cert.Conv.Gen.facts,
    Cert.ConvIdeal.Gen.facts,
    Cert.ConvRefIdeal.Gen.facts,
    Cert.Attn.Gen.facts,
    Cert.AttnIdeal.Gen.facts,
    Cert.AttnRefIdeal.Gen.facts,
    Cert.UpDw.Gen.facts,
    Cert.UpDwIdeal.Gen.facts,
    Cert.UpDwRefIdeal.Gen.facts,
    Cert.UpDx.Gen.facts,
    Cert.UpDxIdeal.Gen.facts,
    Cert.UpDxRefIdeal.Gen.facts,
    Cert.DownDx.Gen.facts,
    Cert.DownDxIdeal.Gen.facts,
    Cert.DownDxRefIdeal.Gen.facts,
    Cert.DownDw.Gen.facts,
    Cert.DownDwIdeal.Gen.facts,
    Cert.DownDwRefIdeal.Gen.facts,
    Cert.Up.Gen.facts,
    Cert.UpIdeal.Gen.facts,
    Cert.UpRefIdeal.Gen.facts,
    Cert.Down.Gen.facts,
    Cert.DownIdeal.Gen.facts,
    Cert.DownRefIdeal.Gen.facts,
    Cert.OutDw.Gen.facts,
    Cert.OutDwIdeal.Gen.facts,
    Cert.OutDwRefIdeal.Gen.facts,
    Cert.ProjDw.Gen.facts,
    Cert.ProjDwIdeal.Gen.facts,
    Cert.ProjDwRefIdeal.Gen.facts,
    Cert.GluDw.Gen.facts,
    Cert.GluDwIdeal.Gen.facts,
    Cert.GluDwRefIdeal.Gen.facts,
    Cert.Q.Gen.facts,
    Cert.QIdeal.Gen.facts,
    Cert.QRefIdeal.Gen.facts,
    Cert.Kv.Gen.facts,
    Cert.KvIdeal.Gen.facts,
    Cert.KvRefIdeal.Gen.facts,
    Cert.QDw.Gen.facts,
    Cert.QDwIdeal.Gen.facts,
    Cert.QDwRefIdeal.Gen.facts,
    Cert.KvDw.Gen.facts,
    Cert.KvDwIdeal.Gen.facts,
    Cert.KvDwRefIdeal.Gen.facts,
    Cert.QDx.Gen.facts,
    Cert.QDxIdeal.Gen.facts,
    Cert.QDxRefIdeal.Gen.facts,
    Cert.KvDx.Gen.facts,
    Cert.KvDxIdeal.Gen.facts,
    Cert.KvDxRefIdeal.Gen.facts,
    Cert.AdWin.Gen.facts,
    Cert.AdWinIdeal.Gen.facts,
    Cert.AdWinRefIdeal.Gen.facts,
    Cert.AdWglu.Gen.facts,
    Cert.AdWgluIdeal.Gen.facts,
    Cert.AdWgluRefIdeal.Gen.facts,
    Cert.AdWuq.Gen.facts,
    Cert.AdWuqIdeal.Gen.facts,
    Cert.AdWuqRefIdeal.Gen.facts,
    Cert.AdWukv.Gen.facts,
    Cert.AdWukvIdeal.Gen.facts,
    Cert.AdWukvRefIdeal.Gen.facts,
    Cert.AdWout.Gen.facts,
    Cert.AdWoutIdeal.Gen.facts,
    Cert.AdWoutRefIdeal.Gen.facts,
    Cert.AdWup.Gen.facts,
    Cert.AdWupIdeal.Gen.facts,
    Cert.AdWupRefIdeal.Gen.facts,
    Cert.AdWdown.Gen.facts,
    Cert.AdWdownIdeal.Gen.facts,
    Cert.AdWdownRefIdeal.Gen.facts,
    Cert.AdConvw.Gen.facts,
    Cert.AdConvwIdeal.Gen.facts,
    Cert.AdConvwRefIdeal.Gen.facts,
    Cert.Pre_conv_finite.Gen.facts,
    Cert.Pre_attn_finite.Gen.facts,
    fun m ρ _ => Cert.Conv.Gen.frame m ρ,
    fun m ρ _ => Cert.ConvIdeal.Gen.frame m ρ,
    fun m ρ _ => Cert.ConvIdeal.Gen.frame m ρ,
    ConvClaim.frame_ref,
    fun m ρ _ => ConvClaim.frame_ref m ρ trivial,
    fun m ρ _ => Cert.Attn.Gen.frame m ρ,
    fun m ρ _ => Cert.AttnIdeal.Gen.frame m ρ,
    fun m ρ _ => Cert.AttnIdeal.Gen.frame m ρ,
    AttnClaim.frame_ref,
    fun m ρ _ => AttnClaim.frame_ref m ρ trivial,
    fun m ρ _ => Cert.UpDw.Gen.frame m ρ,
    fun m ρ _ => Cert.UpDwIdeal.Gen.frame m ρ,
    UpDw.frame_ref,
    fun m ρ _ => Cert.UpDx.Gen.frame m ρ,
    fun m ρ _ => Cert.UpDxIdeal.Gen.frame m ρ,
    UpDx.frame_ref,
    fun m ρ _ => Cert.DownDx.Gen.frame m ρ,
    fun m ρ _ => Cert.DownDxIdeal.Gen.frame m ρ,
    DownDx.frame_ref,
    fun m ρ _ => Cert.DownDw.Gen.frame m ρ,
    fun m ρ _ => Cert.DownDwIdeal.Gen.frame m ρ,
    DownDw.frame_ref,
    fun m ρ _ => Cert.Up.Gen.frame m ρ,
    fun m ρ _ => Cert.UpIdeal.Gen.frame m ρ,
    Up.frame_ref,
    fun m ρ _ => Cert.Down.Gen.frame m ρ,
    fun m ρ _ => Cert.DownIdeal.Gen.frame m ρ,
    Down.frame_ref,
    fun m ρ _ => Cert.OutDw.Gen.frame m ρ,
    fun m ρ _ => Cert.OutDwIdeal.Gen.frame m ρ,
    OutDw.frame_ref,
    fun m ρ _ => Cert.ProjDw.Gen.frame m ρ,
    fun m ρ _ => Cert.ProjDwIdeal.Gen.frame m ρ,
    ProjDw.frame_ref,
    fun m ρ _ => Cert.GluDw.Gen.frame m ρ,
    fun m ρ _ => Cert.GluDwIdeal.Gen.frame m ρ,
    GluDw.frame_ref,
    fun m ρ _ => Cert.Q.Gen.frame m ρ,
    fun m ρ _ => Cert.QIdeal.Gen.frame m ρ,
    Q.frame_ref,
    fun m ρ _ => Cert.Kv.Gen.frame m ρ,
    fun m ρ _ => Cert.KvIdeal.Gen.frame m ρ,
    Kv.frame_ref,
    fun m ρ _ => Cert.QDw.Gen.frame m ρ,
    fun m ρ _ => Cert.QDwIdeal.Gen.frame m ρ,
    QDw.frame_ref,
    fun m ρ _ => Cert.KvDw.Gen.frame m ρ,
    fun m ρ _ => Cert.KvDwIdeal.Gen.frame m ρ,
    KvDw.frame_ref,
    fun m ρ _ => Cert.QDx.Gen.frame m ρ,
    fun m ρ _ => Cert.QDxIdeal.Gen.frame m ρ,
    QDx.frame_ref,
    fun m ρ _ => Cert.KvDx.Gen.frame m ρ,
    fun m ρ _ => Cert.KvDxIdeal.Gen.frame m ρ,
    KvDx.frame_ref,
    fun m ρ _ => Cert.AdWin.Gen.frame m ρ,
    fun m ρ _ => Cert.AdWinIdeal.Gen.frame m ρ,
    AdWin.frame_ref,
    fun m ρ _ => Cert.AdWglu.Gen.frame m ρ,
    fun m ρ _ => Cert.AdWgluIdeal.Gen.frame m ρ,
    AdWglu.frame_ref,
    fun m ρ _ => Cert.AdWuq.Gen.frame m ρ,
    fun m ρ _ => Cert.AdWuqIdeal.Gen.frame m ρ,
    AdWuq.frame_ref,
    fun m ρ _ => Cert.AdWukv.Gen.frame m ρ,
    fun m ρ _ => Cert.AdWukvIdeal.Gen.frame m ρ,
    AdWukv.frame_ref,
    fun m ρ _ => Cert.AdWout.Gen.frame m ρ,
    fun m ρ _ => Cert.AdWoutIdeal.Gen.frame m ρ,
    AdWout.frame_ref,
    fun m ρ _ => Cert.AdWup.Gen.frame m ρ,
    fun m ρ _ => Cert.AdWupIdeal.Gen.frame m ρ,
    AdWup.frame_ref,
    fun m ρ _ => Cert.AdWdown.Gen.frame m ρ,
    fun m ρ _ => Cert.AdWdownIdeal.Gen.frame m ρ,
    AdWdown.frame_ref,
    fun m ρ _ => Cert.AdConvw.Gen.frame m ρ,
    fun m ρ _ => Cert.AdConvwIdeal.Gen.frame m ρ,
    AdConvw.frame_ref,
    trivial,
    ConvClaim.algebraic,
    trivial,
    AttnClaim.algebraic,
    trivial,
    UpDw.algebraic,
    trivial,
    UpDx.algebraic,
    trivial,
    DownDx.algebraic,
    trivial,
    DownDw.algebraic,
    trivial,
    Up.algebraic,
    trivial,
    Down.algebraic,
    trivial,
    OutDw.algebraic,
    trivial,
    ProjDw.algebraic,
    trivial,
    GluDw.algebraic,
    trivial,
    Q.algebraic,
    trivial,
    Kv.algebraic,
    trivial,
    QDw.algebraic,
    trivial,
    KvDw.algebraic,
    trivial,
    QDx.algebraic,
    trivial,
    KvDx.algebraic,
    trivial,
    AdWin.algebraic,
    trivial,
    AdWglu.algebraic,
    trivial,
    AdWuq.algebraic,
    trivial,
    AdWukv.algebraic,
    trivial,
    AdWout.algebraic,
    trivial,
    AdWup.algebraic,
    trivial,
    AdWdown.algebraic,
    trivial,
    AdConvw.algebraic⟩

end Cert.Proof

end
